-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_steps_proper [hPre_steps_proper : Cert.Pre_steps_proper.Facts] (m : (ℓ : Loc Cert.KernelIdeal.nD Cert.KernelIdeal.τ Cert.KernelIdeal.sig) → Buf (Elt Ideal) ℓ) : Prop :=
  ∀ c : Dev Cert.KernelIdeal.nD,
    (Cert.Pre_steps_proper.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_steps_proper [hPre_steps_proper : Cert.Pre_steps_proper.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_steps_proper.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_rows_finite [hPre_rows_finite : Cert.Pre_rows_finite.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_rows_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_rows_finite [hPre_rows_finite : Cert.Pre_rows_finite.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_rows_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_conv_finite [hPre_conv_finite : Cert.Pre_conv_finite.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_conv_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_conv_finite [hPre_conv_finite : Cert.Pre_conv_finite.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_conv_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_sample_finite [hPre_sample_finite : Cert.Pre_sample_finite.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_sample_finite.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_sample_finite [hPre_sample_finite : Cert.Pre_sample_finite.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_sample_finite.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3))) = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_steps_finite [hPre_steps_finite : Cert.Pre_steps_finite.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_steps_finite.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6))) = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_steps_finite [hPre_steps_finite : Cert.Pre_steps_finite.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_steps_finite.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_steps_proper [hKernelIdeal : Cert.KernelIdeal.Facts] [hPre_steps_proper : Cert.Pre_steps_proper.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_steps_proper m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_steps_proper [hReferenceIdeal : Cert.ReferenceIdeal.Facts] [hPre_steps_proper : Cert.Pre_steps_proper.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_steps_proper m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Kernel2Ideal_pre_rows_finite [hKernel2Ideal : Cert.Kernel2Ideal.Facts] [hPre_rows_finite : Cert.Pre_rows_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_rows_finite m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Reference2Ideal_pre_rows_finite [hReference2Ideal : Cert.Reference2Ideal.Facts] [hPre_rows_finite : Cert.Pre_rows_finite.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_rows_finite m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Kernel4Ideal_pre_conv_finite [hKernel4Ideal : Cert.Kernel4Ideal.Facts] [hPre_conv_finite : Cert.Pre_conv_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_conv_finite m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Reference4Ideal_pre_conv_finite [hReference4Ideal : Cert.Reference4Ideal.Facts] [hPre_conv_finite : Cert.Pre_conv_finite.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_conv_finite m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Kernel6Ideal_pre_sample_finite [hKernel6Ideal : Cert.Kernel6Ideal.Facts] [hPre_sample_finite : Cert.Pre_sample_finite.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_sample_finite m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Reference6Ideal_pre_sample_finite [hReference6Ideal : Cert.Reference6Ideal.Facts] [hPre_sample_finite : Cert.Pre_sample_finite.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_sample_finite m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ r.2.sem = fun _ => 0)

def quiescent_Kernel7Ideal_pre_steps_finite [hKernel7Ideal : Cert.Kernel7Ideal.Facts] [hPre_steps_finite : Cert.Pre_steps_finite.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_steps_finite m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6))
      ∧ r.2.sem = fun _ => 0)

def quiescent_Reference7Ideal_pre_steps_finite [hReference7Ideal : Cert.Reference7Ideal.Facts] [hPre_steps_finite : Cert.Pre_steps_finite.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_steps_finite m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6))
      ∧ r.2.sem = fun _ => 0)

def preserves_Kernel_KernelIdeal : Prop :=
  IdealRules.named_const.Statement Cert.KernelIdeal.κ "log2e" .f32 0x3FB8AA3B#32 (((Real.log 2)⁻¹ : ℝ) : EReal)

def algebraic_KernelIdeal_ReferenceIdeal_pre_steps_proper [hKernelIdeal : Cert.KernelIdeal.Facts] [hReferenceIdeal : Cert.ReferenceIdeal.Facts] [hPre_steps_proper : Cert.Pre_steps_proper.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_steps_proper m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v19_0)) (v1 : (c : Dev Cert.KernelIdeal.nD) → Buf (Elt Ideal) ((c.tc : Thread Cert.KernelIdeal.nD Cert.KernelIdeal.τ).loc Cert.KernelIdeal.main_v19_1)) (v2 : (c : Dev Cert.KernelIdeal.nD) → Buf (Elt Ideal) ((c.tc : Thread Cert.KernelIdeal.nD Cert.KernelIdeal.τ).loc Cert.KernelIdeal.main_v19_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19_0) = v0 c
          ∧ r.2.mem ((c.tc : Thread Cert.KernelIdeal.nD Cert.KernelIdeal.τ).loc Cert.KernelIdeal.main_v19_1) = v1 c
          ∧ r.2.mem ((c.tc : Thread Cert.KernelIdeal.nD Cert.KernelIdeal.τ).loc Cert.KernelIdeal.main_v19_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_v95) = v1 c
          ∧ r.2.mem ((c.tc : Thread Cert.ReferenceIdeal.nD Cert.ReferenceIdeal.τ).loc Cert.ReferenceIdeal.main_v97) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal_pre_rows_finite [hKernel2Ideal : Cert.Kernel2Ideal.Facts] [hReference2Ideal : Cert.Reference2Ideal.Facts] [hPre_rows_finite : Cert.Pre_rows_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_rows_finite m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v4_0)) (v1 : (c : Dev Cert.Kernel2Ideal.nD) → Buf (Elt Ideal) ((c.tc : Thread Cert.Kernel2Ideal.nD Cert.Kernel2Ideal.τ).loc Cert.Kernel2Ideal.main_v4_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4_0) = v0 c
          ∧ r.2.mem ((c.tc : Thread Cert.Kernel2Ideal.nD Cert.Kernel2Ideal.τ).loc Cert.Kernel2Ideal.main_v4_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v38) = v0 c
          ∧ r.2.mem ((c.tc : Thread Cert.Reference2Ideal.nD Cert.Reference2Ideal.τ).loc Cert.Reference2Ideal.main_v33) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v22) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal_pre_conv_finite [hKernel4Ideal : Cert.Kernel4Ideal.Facts] [hReference4Ideal : Cert.Reference4Ideal.Facts] [hPre_conv_finite : Cert.Pre_conv_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_conv_finite m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v7_0)) (v1 : (c : Dev Cert.Kernel4Ideal.nD) → Buf (Elt Ideal) ((c.tc : Thread Cert.Kernel4Ideal.nD Cert.Kernel4Ideal.τ).loc Cert.Kernel4Ideal.main_v7_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v7_0) = v0 c
          ∧ r.2.mem ((c.tc : Thread Cert.Kernel4Ideal.nD Cert.Kernel4Ideal.τ).loc Cert.Kernel4Ideal.main_v7_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v41) = v0 c
          ∧ r.2.mem ((c.tc : Thread Cert.Reference4Ideal.nD Cert.Reference4Ideal.τ).loc Cert.Reference4Ideal.main_v42) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v22) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal_pre_sample_finite [hKernel6Ideal : Cert.Kernel6Ideal.Facts] [hReference6Ideal : Cert.Reference6Ideal.Facts] [hPre_sample_finite : Cert.Pre_sample_finite.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_sample_finite m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v4_0)) (v1 : (c : Dev Cert.Kernel6Ideal.nD) → Buf (Elt Ideal) ((c.tc : Thread Cert.Kernel6Ideal.nD Cert.Kernel6Ideal.τ).loc Cert.Kernel6Ideal.main_v4_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v4_0) = v0 c
          ∧ r.2.mem ((c.tc : Thread Cert.Kernel6Ideal.nD Cert.Kernel6Ideal.τ).loc Cert.Kernel6Ideal.main_v4_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v38) = v0 c
          ∧ r.2.mem ((c.tc : Thread Cert.Reference6Ideal.nD Cert.Reference6Ideal.τ).loc Cert.Reference6Ideal.main_v33) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal_pre_steps_finite [hKernel7Ideal : Cert.Kernel7Ideal.Facts] [hReference7Ideal : Cert.Reference7Ideal.Facts] [hPre_steps_finite : Cert.Pre_steps_finite.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_steps_finite m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)) →
    ∃ (v0 : (c : Dev Cert.Kernel7Ideal.nD) → Buf (Elt Ideal) ((c.tc : Thread Cert.Kernel7Ideal.nD Cert.Kernel7Ideal.τ).loc Cert.Kernel7Ideal.main_v29_0)) (v1 : (c : Dev Cert.Kernel7Ideal.nD) → Buf (Elt Ideal) ((c.tc : Thread Cert.Kernel7Ideal.nD Cert.Kernel7Ideal.τ).loc Cert.Kernel7Ideal.main_v29_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v29_0) = v0 c
          ∧ r.2.mem ((c.tc : Thread Cert.Kernel7Ideal.nD Cert.Kernel7Ideal.τ).loc Cert.Kernel7Ideal.main_v29_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v96) = v0 c
          ∧ r.2.mem ((c.tc : Thread Cert.Reference7Ideal.nD Cert.Reference7Ideal.τ).loc Cert.Reference7Ideal.main_v97) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_steps_proper : Cert.Pre_steps_proper.Facts) (hPre_rows_finite : Cert.Pre_rows_finite.Facts) (hPre_conv_finite : Cert.Pre_conv_finite.Facts) (hPre_sample_finite : Cert.Pre_sample_finite.Facts) (hPre_steps_finite : Cert.Pre_steps_finite.Facts),
    quiescent_Kernel (hKernel := hKernel)
    ∧ quiescent_KernelIdeal (hKernelIdeal := hKernelIdeal)
    ∧ quiescent_KernelIdeal_pre_steps_proper (hKernelIdeal := hKernelIdeal) (hPre_steps_proper := hPre_steps_proper)
    ∧ quiescent_ReferenceIdeal (hReferenceIdeal := hReferenceIdeal)
    ∧ quiescent_ReferenceIdeal_pre_steps_proper (hReferenceIdeal := hReferenceIdeal) (hPre_steps_proper := hPre_steps_proper)
    ∧ quiescent_Kernel2 (hKernel2 := hKernel2)
    ∧ quiescent_Kernel2Ideal (hKernel2Ideal := hKernel2Ideal)
    ∧ quiescent_Kernel2Ideal_pre_rows_finite (hKernel2Ideal := hKernel2Ideal) (hPre_rows_finite := hPre_rows_finite)
    ∧ quiescent_Reference2Ideal (hReference2Ideal := hReference2Ideal)
    ∧ quiescent_Reference2Ideal_pre_rows_finite (hReference2Ideal := hReference2Ideal) (hPre_rows_finite := hPre_rows_finite)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_conv_finite (hKernel4Ideal := hKernel4Ideal) (hPre_conv_finite := hPre_conv_finite)
    ∧ quiescent_Reference4Ideal (hReference4Ideal := hReference4Ideal)
    ∧ quiescent_Reference4Ideal_pre_conv_finite (hReference4Ideal := hReference4Ideal) (hPre_conv_finite := hPre_conv_finite)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_sample_finite (hKernel6Ideal := hKernel6Ideal) (hPre_sample_finite := hPre_sample_finite)
    ∧ quiescent_Reference6Ideal (hReference6Ideal := hReference6Ideal)
    ∧ quiescent_Reference6Ideal_pre_sample_finite (hReference6Ideal := hReference6Ideal) (hPre_sample_finite := hPre_sample_finite)
    ∧ quiescent_Kernel7 (hKernel7 := hKernel7)
    ∧ quiescent_Kernel7Ideal (hKernel7Ideal := hKernel7Ideal)
    ∧ quiescent_Kernel7Ideal_pre_steps_finite (hKernel7Ideal := hKernel7Ideal) (hPre_steps_finite := hPre_steps_finite)
    ∧ quiescent_Reference7Ideal (hReference7Ideal := hReference7Ideal)
    ∧ quiescent_Reference7Ideal_pre_steps_finite (hReference7Ideal := hReference7Ideal) (hPre_steps_finite := hPre_steps_finite)
    ∧ preserves_Kernel_KernelIdeal
    ∧ algebraic_KernelIdeal_ReferenceIdeal_pre_steps_proper (hKernelIdeal := hKernelIdeal) (hReferenceIdeal := hReferenceIdeal) (hPre_steps_proper := hPre_steps_proper)
    ∧ preserves_Kernel2_Kernel2Ideal
    ∧ algebraic_Kernel2Ideal_Reference2Ideal_pre_rows_finite (hKernel2Ideal := hKernel2Ideal) (hReference2Ideal := hReference2Ideal) (hPre_rows_finite := hPre_rows_finite)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_conv_finite (hKernel4Ideal := hKernel4Ideal) (hReference4Ideal := hReference4Ideal) (hPre_conv_finite := hPre_conv_finite)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_sample_finite (hKernel6Ideal := hKernel6Ideal) (hReference6Ideal := hReference6Ideal) (hPre_sample_finite := hPre_sample_finite)
    ∧ preserves_Kernel7_Kernel7Ideal
    ∧ algebraic_Kernel7Ideal_Reference7Ideal_pre_steps_finite (hKernel7Ideal := hKernel7Ideal) (hReference7Ideal := hReference7Ideal) (hPre_steps_finite := hPre_steps_finite)
-- ==== Pre_conv_finite.lean ====
abbrev S1024x2048 : Shape := ⟨2, ![1024, 2048]⟩
abbrev S1x2048x13344 : Shape := ⟨3, ![1, 2048, 13344]⟩
abbrev S1x4x3072 : Shape := ⟨3, ![1, 4, 3072]⟩
abbrev S1x3072 : Shape := ⟨2, ![1, 3072]⟩
abbrev S1x128x3x3072 : Shape := ⟨4, ![1, 128, 3, 3072]⟩
abbrev S_ : Shape := ⟨0, ![]⟩
abbrev S1 : Shape := ⟨1, ![1]⟩
abbrev S5 : Shape := ⟨1, ![5]⟩

class Facts : Prop where
  bcast_S_S1024x2048 : S_.BroadcastsInDim S1024x2048 (![] : Fin 0 → Fin S1024x2048.rank)
  reducesTo_S1024x2048_S_d0_1 : S1024x2048.ReducesTo [0, 1] S_
  h_S_ : 0 < S_.numel
  bcast_S_S1x2048x13344 : S_.BroadcastsInDim S1x2048x13344 (![] : Fin 0 → Fin S1x2048x13344.rank)
  reducesTo_S1x2048x13344_S_d0_1_2 : S1x2048x13344.ReducesTo [0, 1, 2] S_
  bcast_S_S1x4x3072 : S_.BroadcastsInDim S1x4x3072 (![] : Fin 0 → Fin S1x4x3072.rank)
  reducesTo_S1x4x3072_S_d0_1_2 : S1x4x3072.ReducesTo [0, 1, 2] S_
  bcast_S_S1x3072 : S_.BroadcastsInDim S1x3072 (![] : Fin 0 → Fin S1x3072.rank)
  reducesTo_S1x3072_S_d0_1 : S1x3072.ReducesTo [0, 1] S_
  bcast_S_S1x128x3x3072 : S_.BroadcastsInDim S1x128x3x3072 (![] : Fin 0 → Fin S1x128x3x3072.rank)
  reducesTo_S1x128x3x3072_S_d0_1_2_3 : S1x128x3x3072.ReducesTo [0, 1, 2, 3] S_
  bcast_S_S1 : S_.BroadcastsInDim S1 (![] : Fin 0 → Fin S1.rank)
  concatenates_S1_S1_S1_S1_S1_S5_d0 : Shape.Concatenates [S1, S1, S1, S1, S1] S5 0

variable [Facts]

def fn_part1 {F : FTy → Type} [FloatOps F] (main_arg4 : FVec F S1x128x3x3072 .f32) (main_v3 : IVec S_ 1) (main_v7 : IVec S_ 1) (main_v11 : IVec S_ 1) (main_v15 : IVec S_ 1) : IVec S5 1 :=
  let main_v16 : FVec F S1x128x3x3072 .f32 := Host.absf main_arg4
  let main_cst_6 : FVec F S_ .f32 := constant S_ .f32 0x7F800000#32
  let main_v17 : FVec F S1x128x3x3072 .f32 := broadcastInDim S1x128x3x3072 ![] bcast_S_S1x128x3x3072 main_cst_6
  let main_v18 : IVec S1x128x3x3072 1 := cmpf .olt main_v16 main_v17
  let main_c_7 : IVec S_ 1 := constantI S_ 1 1#1
  let main_v19 : IVec S_ 1 := (fun x v => Host.reduce IntOp.andi x v reducesTo_S1x128x3x3072_S_d0_1_2_3 h_S_) main_v18 main_c_7
  let main_v20 : IVec S1 1 := broadcastInDim S1 ![] bcast_S_S1 main_v3
  let main_v21 : IVec S1 1 := broadcastInDim S1 ![] bcast_S_S1 main_v7
  let main_v22 : IVec S1 1 := broadcastInDim S1 ![] bcast_S_S1 main_v11
  let main_v23 : IVec S1 1 := broadcastInDim S1 ![] bcast_S_S1 main_v15
  let main_v24 : IVec S1 1 := broadcastInDim S1 ![] bcast_S_S1 main_v19
  let main_v25 : IVec S5 1 := concatenate S5 0 [⟨S1, main_v20⟩, ⟨S1, main_v21⟩, ⟨S1, main_v22⟩, ⟨S1, main_v23⟩, ⟨S1, main_v24⟩] concatenates_S1_S1_S1_S1_S1_S5_d0
  main_v25

def fn {F : FTy → Type} [FloatOps F] (main_arg0 : FVec F S1024x2048 .bf16) (main_arg1 : FVec F S1x2048x13344 .f32) (main_arg2 : FVec F S1x4x3072 .f32) (main_arg3 : FVec F S1x3072 .f32) (main_arg4 : FVec F S1x128x3x3072 .f32) : IVec S5 1 :=
  let main_v0 : FVec F S1024x2048 .bf16 := Host.absf main_arg0
  let main_cst : FVec F S_ .bf16 := constant S_ .bf16 0x7F80#16
  let main_v1 : FVec F S1024x2048 .bf16 := broadcastInDim S1024x2048 ![] bcast_S_S1024x2048 main_cst
  let main_v2 : IVec S1024x2048 1 := cmpf .olt main_v0 main_v1
  let main_c : IVec S_ 1 := constantI S_ 1 1#1
  let main_v3 : IVec S_ 1 := (fun x v => Host.reduce IntOp.andi x v reducesTo_S1024x2048_S_d0_1 h_S_) main_v2 main_c
  let main_v4 : FVec F S1x2048x13344 .f32 := Host.absf main_arg1
  let main_cst_0 : FVec F S_ .f32 := constant S_ .f32 0x7F800000#32
  let main_v5 : FVec F S1x2048x13344 .f32 := broadcastInDim S1x2048x13344 ![] bcast_S_S1x2048x13344 main_cst_0
  let main_v6 : IVec S1x2048x13344 1 := cmpf .olt main_v4 main_v5
  let main_c_1 : IVec S_ 1 := constantI S_ 1 1#1
  let main_v7 : IVec S_ 1 := (fun x v => Host.reduce IntOp.andi x v reducesTo_S1x2048x13344_S_d0_1_2 h_S_) main_v6 main_c_1
  let main_v8 : FVec F S1x4x3072 .f32 := Host.absf main_arg2
  let main_cst_2 : FVec F S_ .f32 := constant S_ .f32 0x7F800000#32
  let main_v9 : FVec F S1x4x3072 .f32 := broadcastInDim S1x4x3072 ![] bcast_S_S1x4x3072 main_cst_2
  let main_v10 : IVec S1x4x3072 1 := cmpf .olt main_v8 main_v9
  let main_c_3 : IVec S_ 1 := constantI S_ 1 1#1
  let main_v11 : IVec S_ 1 := (fun x v => Host.reduce IntOp.andi x v reducesTo_S1x4x3072_S_d0_1_2 h_S_) main_v10 main_c_3
  let main_v12 : FVec F S1x3072 .f32 := Host.absf main_arg3
  let main_cst_4 : FVec F S_ .f32 := constant S_ .f32 0x7F800000#32
  let main_v13 : FVec F S1x3072 .f32 := broadcastInDim S1x3072 ![] bcast_S_S1x3072 main_cst_4
  let main_v14 : IVec S1x3072 1 := cmpf .olt main_v12 main_v13
  let main_c_5 : IVec S_ 1 := constantI S_ 1 1#1
  let main_v15 : IVec S_ 1 := (fun x v => Host.reduce IntOp.andi x v reducesTo_S1x3072_S_d0_1 h_S_) main_v14 main_c_5
  fn_part1 (F := F) main_arg4 main_v3 main_v7 main_v11 main_v15
-- ==== Pre_rows_finite.lean ====
abbrev S8192x2048 : Shape := ⟨2, ![8192, 2048]⟩
abbrev S1x2048x13344 : Shape := ⟨3, ![1, 2048, 13344]⟩
abbrev S1x3x2048 : Shape := ⟨3, ![1, 3, 2048]⟩
abbrev S_ : Shape := ⟨0, ![]⟩
abbrev S1 : Shape := ⟨1, ![1]⟩
abbrev S2 : Shape := ⟨1, ![2]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S1x2048x13344 : S_.BroadcastsInDim S1x2048x13344 (![] : Fin 0 → Fin S1x2048x13344.rank)
  reducesTo_S1x2048x13344_S_d0_1_2 : S1x2048x13344.ReducesTo [0, 1, 2] S_
  bcast_S_S1 : S_.BroadcastsInDim S1 (![] : Fin 0 → Fin S1.rank)
  concatenates_S1_S1_S2_d0 : Shape.Concatenates [S1, S1] S2 0

variable [Facts]

def fn {F : FTy → Type} [FloatOps F] (main_arg0 : FVec F S8192x2048 .bf16) (main_arg1 : FVec F S1x2048x13344 .f32) (main_arg2 : FVec F S1x3x2048 .f32) : IVec S2 1 :=
  let main_v0 : FVec F S8192x2048 .bf16 := Host.absf main_arg0
  let main_cst : FVec F S_ .bf16 := constant S_ .bf16 0x7F80#16
  let main_v1 : FVec F S8192x2048 .bf16 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S1x2048x13344 .f32 := Host.absf main_arg1
  let main_cst_0 : FVec F S_ .f32 := constant S_ .f32 0x7F800000#32
  let main_v5 : FVec F S1x2048x13344 .f32 := broadcastInDim S1x2048x13344 ![] bcast_S_S1x2048x13344 main_cst_0
  let main_v6 : IVec S1x2048x13344 1 := cmpf .olt main_v4 main_v5
  let main_c_1 : IVec S_ 1 := constantI S_ 1 1#1
  let main_v7 : IVec S_ 1 := (fun x v => Host.reduce IntOp.andi x v reducesTo_S1x2048x13344_S_d0_1_2 h_S_) main_v6 main_c_1
  let main_v8 : IVec S1 1 := broadcastInDim S1 ![] bcast_S_S1 main_v3
  let main_v9 : IVec S1 1 := broadcastInDim S1 ![] bcast_S_S1 main_v7
  let main_v10 : IVec S2 1 := (fun a b => concatenate S2 0 [⟨S1, a⟩, ⟨S1, b⟩] concatenates_S1_S1_S2_d0) main_v8 main_v9
  main_v10
-- ==== Pre_sample_finite.lean ====
abbrev S1024x2048 : Shape := ⟨2, ![1024, 2048]⟩
abbrev S1x2048x13344 : Shape := ⟨3, ![1, 2048, 13344]⟩
abbrev S1x3x2048 : Shape := ⟨3, ![1, 3, 2048]⟩
abbrev S1x128x2x2048 : Shape := ⟨4, ![1, 128, 2, 2048]⟩
abbrev S_ : Shape := ⟨0, ![]⟩
abbrev S1 : Shape := ⟨1, ![1]⟩
abbrev S2 : Shape := ⟨1, ![2]⟩

class Facts : Prop where
  bcast_S_S1024x2048 : S_.BroadcastsInDim S1024x2048 (![] : Fin 0 → Fin S1024x2048.rank)
  reducesTo_S1024x2048_S_d0_1 : S1024x2048.ReducesTo [0, 1] S_
  h_S_ : 0 < S_.numel
  bcast_S_S1x2048x13344 : S_.BroadcastsInDim S1x2048x13344 (![] : Fin 0 → Fin S1x2048x13344.rank)
  reducesTo_S1x2048x13344_S_d0_1_2 : S1x2048x13344.ReducesTo [0, 1, 2] S_
  bcast_S_S1 : S_.BroadcastsInDim S1 (![] : Fin 0 → Fin S1.rank)
  concatenates_S1_S1_S2_d0 : Shape.Concatenates [S1, S1] S2 0

variable [Facts]

def fn {F : FTy → Type} [FloatOps F] (main_arg0 : FVec F S1024x2048 .bf16) (main_arg1 : FVec F S1x2048x13344 .f32) (main_arg2 : FVec F S1x3x2048 .f32) (main_arg3 : FVec F S1x128x2x2048 .f32) : IVec S2 1 :=
  let main_v0 : FVec F S1024x2048 .bf16 := Host.absf main_arg0
  let main_cst : FVec F S_ .bf16 := constant S_ .bf16 0x7F80#16
  let main_v1 : FVec F S1024x2048 .bf16 := broadcastInDim S1024x2048 ![] bcast_S_S1024x2048 main_cst
  let main_v2 : IVec S1024x2048 1 := cmpf .olt main_v0 main_v1
  let main_c : IVec S_ 1 := constantI S_ 1 1#1
  let main_v3 : IVec S_ 1 := (fun x v => Host.reduce IntOp.andi x v reducesTo_S1024x2048_S_d0_1 h_S_) main_v2 main_c
  let main_v4 : FVec F S1x2048x13344 .f32 := Host.absf main_arg1
  let main_cst_0 : FVec F S_ .f32 := constant S_ .f32 0x7F800000#32
  let main_v5 : FVec F S1x2048x13344 .f32 := broadcastInDim S1x2048x13344 ![] bcast_S_S1x2048x13344 main_cst_0
  let main_v6 : IVec S1x2048x13344 1 := cmpf .olt main_v4 main_v5
  let main_c_1 : IVec S_ 1 := constantI S_ 1 1#1
  let main_v7 : IVec S_ 1 := (fun x v => Host.reduce IntOp.andi x v reducesTo_S1x2048x13344_S_d0_1_2 h_S_) main_v6 main_c_1
  let main_v8 : IVec S1 1 := broadcastInDim S1 ![] bcast_S_S1 main_v3
  let main_v9 : IVec S1 1 := broadcastInDim S1 ![] bcast_S_S1 main_v7
  let main_v10 : IVec S2 1 := (fun a b => concatenate S2 0 [⟨S1, a⟩, ⟨S1, b⟩] concatenates_S1_S1_S2_d0) main_v8 main_v9
  main_v10
-- ==== Pre_steps_finite.lean ====
abbrev S1024x2048 : Shape := ⟨2, ![1024, 2048]⟩
abbrev S1024x3072 : Shape := ⟨2, ![1024, 3072]⟩
abbrev S1024x128 : Shape := ⟨2, ![1024, 128]⟩
abbrev S1x128x32x64x128 : Shape := ⟨5, ![1, 128, 32, 64, 128]⟩
abbrev S1x32 : Shape := ⟨2, ![1, 32]⟩
abbrev S1x2048 : Shape := ⟨2, ![1, 2048]⟩
abbrev S1024x32 : Shape := ⟨2, ![1024, 32]⟩
abbrev S_ : Shape := ⟨0, ![]⟩
abbrev S1 : Shape := ⟨1, ![1]⟩
abbrev S2 : Shape := ⟨1, ![2]⟩

class Facts : Prop where
  slices_S1024x128_S1024x32_0_0 : S1024x128.Slices ![0, 0] S1024x32
  bcast_S_S1024x32 : S_.BroadcastsInDim S1024x32 (![] : Fin 0 → Fin S1024x32.rank)
  reducesTo_S1024x32_S_d0_1 : S1024x32.ReducesTo [0, 1] S_
  h_S_ : 0 < S_.numel
  bcast_S_S1x32 : S_.BroadcastsInDim S1x32 (![] : Fin 0 → Fin S1x32.rank)
  reducesTo_S1x32_S_d0_1 : S1x32.ReducesTo [0, 1] S_
  bcast_S_S1 : S_.BroadcastsInDim S1 (![] : Fin 0 → Fin S1.rank)
  concatenates_S1_S1_S2_d0 : Shape.Concatenates [S1, S1] S2 0

variable [Facts]

def fn {F : FTy → Type} [FloatOps F] (main_arg0 : FVec F S1024x2048 .bf16) (main_arg1 : FVec F S1024x3072 .f32) (main_arg2 : FVec F S1024x128 .f32) (main_arg3 : FVec F S1x128x32x64x128 .f32) (main_arg4 : FVec F S1x32 .f32) (main_arg5 : FVec F S1x32 .f32) (main_arg6 : FVec F S1x2048 .f32) : IVec S2 1 :=
  let main_v0 : FVec F S1024x32 .f32 := (extractStridedSlice S1024x32 ![0, 0] · slices_S1024x128_S1024x32_0_0) main_arg2
  let main_v1 : FVec F S1024x32 .f32 := Host.absf main_v0
  let main_cst : FVec F S_ .f32 := constant S_ .f32 0x7F800000#32
  let main_v2 : FVec F S1024x32 .f32 := broadcastInDim S1024x32 ![] bcast_S_S1024x32 main_cst
  let main_v3 : IVec S1024x32 1 := cmpf .olt main_v1 main_v2
  let main_c : IVec S_ 1 := constantI S_ 1 1#1
  let main_v4 : IVec S_ 1 := (fun x v => Host.reduce IntOp.andi x v reducesTo_S1024x32_S_d0_1 h_S_) main_v3 main_c
  let main_v5 : FVec F S1x32 .f32 := Host.absf main_arg4
  let main_cst_0 : FVec F S_ .f32 := constant S_ .f32 0x7F800000#32
  let main_v6 : FVec F S1x32 .f32 := broadcastInDim S1x32 ![] bcast_S_S1x32 main_cst_0
  let main_v7 : IVec S1x32 1 := cmpf .olt main_v5 main_v6
  let main_c_1 : IVec S_ 1 := constantI S_ 1 1#1
  let main_v8 : IVec S_ 1 := (fun x v => Host.reduce IntOp.andi x v reducesTo_S1x32_S_d0_1 h_S_) main_v7 main_c_1
  let main_v9 : IVec S1 1 := broadcastInDim S1 ![] bcast_S_S1 main_v4
  let main_v10 : IVec S1 1 := broadcastInDim S1 ![] bcast_S_S1 main_v8
  let main_v11 : IVec S2 1 := (fun a b => concatenate S2 0 [⟨S1, a⟩, ⟨S1, b⟩] concatenates_S1_S1_S2_d0) main_v9 main_v10
  main_v11
-- ==== Pre_steps_proper.lean ====
abbrev S8192x2048 : Shape := ⟨2, ![8192, 2048]⟩
abbrev S8192x3072 : Shape := ⟨2, ![8192, 3072]⟩
abbrev S8192x128 : Shape := ⟨2, ![8192, 128]⟩
abbrev S1x32 : Shape := ⟨2, ![1, 32]⟩
abbrev S1x2048 : Shape := ⟨2, ![1, 2048]⟩
abbrev S1x4096x2048 : Shape := ⟨3, ![1, 4096, 2048]⟩
abbrev S8192x32 : Shape := ⟨2, ![8192, 32]⟩
abbrev S_ : Shape := ⟨0, ![]⟩
abbrev S1 : Shape := ⟨1, ![1]⟩
abbrev S2 : Shape := ⟨1, ![2]⟩

class Facts : Prop where
  slices_S8192x128_S8192x32_0_0 : S8192x128.Slices ![0, 0] S8192x32
  bcast_S_S8192x32 : S_.BroadcastsInDim S8192x32 (![] : Fin 0 → Fin S8192x32.rank)
  reducesTo_S8192x32_S_d0_1 : S8192x32.ReducesTo [0, 1] S_
  h_S_ : 0 < S_.numel
  bcast_S_S1x32 : S_.BroadcastsInDim S1x32 (![] : Fin 0 → Fin S1x32.rank)
  reducesTo_S1x32_S_d0_1 : S1x32.ReducesTo [0, 1] S_
  bcast_S_S1 : S_.BroadcastsInDim S1 (![] : Fin 0 → Fin S1.rank)
  concatenates_S1_S1_S2_d0 : Shape.Concatenates [S1, S1] S2 0

variable [Facts]

def fn {F : FTy → Type} [FloatOps F] (main_arg0 : FVec F S8192x2048 .bf16) (main_arg1 : FVec F S8192x3072 .f32) (main_arg2 : FVec F S8192x128 .f32) (main_arg3 : FVec F S1x32 .f32) (main_arg4 : FVec F S1x32 .f32) (main_arg5 : FVec F S1x2048 .f32) (main_arg6 : FVec F S1x4096x2048 .f32) : IVec S2 1 :=
  let main_v0 : FVec F S8192x32 .f32 := (extractStridedSlice S8192x32 ![0, 0] · slices_S8192x128_S8192x32_0_0) main_arg2
  let main_cst : FVec F S_ .f32 := constant S_ .f32 0x00000000#32
  let main_v1 : FVec F S8192x32 .f32 := broadcastInDim S8192x32 ![] bcast_S_S8192x32 main_cst
  let main_v2 : IVec S8192x32 1 := cmpf .oge main_v0 main_v1
  let main_cst_0 : FVec F S_ .f32 := constant S_ .f32 0x7F800000#32
  let main_v3 : FVec F S8192x32 .f32 := broadcastInDim S8192x32 ![] bcast_S_S8192x32 main_cst_0
  let main_v4 : IVec S8192x32 1 := cmpf .olt main_v0 main_v3
  let main_v5 : IVec S8192x32 1 := andi main_v2 main_v4
  let main_c : IVec S_ 1 := constantI S_ 1 1#1
  let main_v6 : IVec S_ 1 := (fun x v => Host.reduce IntOp.andi x v reducesTo_S8192x32_S_d0_1 h_S_) main_v5 main_c
  let main_v7 : FVec F S1x32 .f32 := Host.absf main_arg3
  let main_cst_1 : FVec F S_ .f32 := constant S_ .f32 0x7F800000#32
  let main_v8 : FVec F S1x32 .f32 := broadcastInDim S1x32 ![] bcast_S_S1x32 main_cst_1
  let main_v9 : IVec S1x32 1 := cmpf .olt main_v7 main_v8
  let main_c_2 : IVec S_ 1 := constantI S_ 1 1#1
  let main_v10 : IVec S_ 1 := (fun x v => Host.reduce IntOp.andi x v reducesTo_S1x32_S_d0_1 h_S_) main_v9 main_c_2
  let main_v11 : IVec S1 1 := broadcastInDim S1 ![] bcast_S_S1 main_v6
  let main_v12 : IVec S1 1 := broadcastInDim S1 ![] bcast_S_S1 main_v10
  let main_v13 : IVec S2 1 := (fun a b => concatenate S2 0 [⟨S1, a⟩, ⟨S1, b⟩] concatenates_S1_S1_S2_d0) main_v11 main_v12
  main_v13
-- ==== Kernel.lean ====
abbrev S8192x2048 : Shape := ⟨2, ![8192, 2048]⟩
abbrev S8192x3072 : Shape := ⟨2, ![8192, 3072]⟩
abbrev S8192x128 : Shape := ⟨2, ![8192, 128]⟩
abbrev S1x32 : Shape := ⟨2, ![1, 32]⟩
abbrev S1x2048 : Shape := ⟨2, ![1, 2048]⟩
abbrev S1x4096x2048 : Shape := ⟨3, ![1, 4096, 2048]⟩
abbrev S128 : Shape := ⟨1, ![128]⟩
abbrev S128x1 : Shape := ⟨2, ![128, 1]⟩
abbrev S2048 : Shape := ⟨1, ![2048]⟩
abbrev S_ : Shape := ⟨0, ![]⟩
abbrev S128x2048 : Shape := ⟨2, ![128, 2048]⟩
abbrev S32 : Shape := ⟨1, ![32]⟩
abbrev S1x128 : Shape := ⟨2, ![1, 128]⟩
abbrev S32x64 : Shape := ⟨2, ![32, 64]⟩
abbrev S4096x2048 : Shape := ⟨2, ![4096, 2048]⟩
abbrev S4x2048x128 : Shape := ⟨3, ![4, 2048, 128]⟩
abbrev S256x2048 : Shape := ⟨2, ![256, 2048]⟩
abbrev S256x3072 : Shape := ⟨2, ![256, 3072]⟩
abbrev S256x128 : Shape := ⟨2, ![256, 128]⟩
abbrev S1x2048x128 : Shape := ⟨3, ![1, 2048, 128]⟩
abbrev S128x128 : Shape := ⟨2, ![128, 128]⟩
abbrev S128x512 : Shape := ⟨2, ![128, 512]⟩
abbrev S256x512 : Shape := ⟨2, ![256, 512]⟩
abbrev S128x256 : Shape := ⟨2, ![128, 256]⟩
abbrev S1x512 : Shape := ⟨2, ![1, 512]⟩
abbrev S256 : Shape := ⟨1, ![256]⟩
abbrev S256x1 : Shape := ⟨2, ![256, 1]⟩
abbrev S2048x128 : Shape := ⟨2, ![2048, 128]⟩

abbrev nBuf : Space → Nat
  | .hbm => 48
  | .vmem => 20
  | .smem => 0
  | _ => 0

abbrev bufTy : (tb : Table) → Fin (tcTables nBuf tb) → BufTy
  | .hbm, ⟨0, _⟩ => ⟨S8192x2048, .bf16⟩
  | .hbm, ⟨1, _⟩ => ⟨S8192x3072, .f32⟩
  | .hbm, ⟨2, _⟩ => ⟨S8192x128, .f32⟩
  | .hbm, ⟨3, _⟩ => ⟨S1x32, .f32⟩
  | .hbm, ⟨4, _⟩ => ⟨S1x32, .f32⟩
  | .hbm, ⟨5, _⟩ => ⟨S1x2048, .f32⟩
  | .hbm, ⟨6, _⟩ => ⟨S1x4096x2048, .f32⟩
  | .hbm, ⟨7, _⟩ => ⟨S128, .i32⟩
  | .hbm, ⟨8, _⟩ => ⟨S128x1, .i32⟩
  | .hbm, ⟨9, _⟩ => ⟨S2048, .i32⟩
  | .hbm, ⟨10, _⟩ => ⟨S1x2048, .i32⟩
  | .hbm, ⟨11, _⟩ => ⟨S_, .i32⟩
  | .hbm, ⟨12, _⟩ => ⟨S_, .i32⟩
  | .hbm, ⟨13, _⟩ => ⟨S1x2048, .i32⟩
  | .hbm, ⟨14, _⟩ => ⟨S1x2048, .i32⟩
  | .hbm, ⟨15, _⟩ => ⟨S1x2048, .i32⟩
  | .hbm, ⟨16, _⟩ => ⟨S_, .i32⟩
  | .hbm, ⟨17, _⟩ => ⟨S1x2048, .i32⟩
  | .hbm, ⟨18, _⟩ => ⟨S1x2048, .i1⟩
  | .hbm, ⟨19, _⟩ => ⟨S1x2048, .i32⟩
  | .hbm, ⟨20, _⟩ => ⟨S1x2048, .i32⟩
  | .hbm, ⟨21, _⟩ => ⟨S_, .i32⟩
  | .hbm, ⟨22, _⟩ => ⟨S1x2048, .i32⟩
  | .hbm, ⟨23, _⟩ => ⟨S1x2048, .i1⟩
  | .hbm, ⟨24, _⟩ => ⟨S1x2048, .i1⟩
  | .hbm, ⟨25, _⟩ => ⟨S_, .i32⟩
  | .hbm, ⟨26, _⟩ => ⟨S1x2048, .i32⟩
  | .hbm, ⟨27, _⟩ => ⟨S1x2048, .i32⟩
  | .hbm, ⟨28, _⟩ => ⟨S1x2048, .i32⟩
  | .hbm, ⟨29, _⟩ => ⟨S128x2048, .i32⟩
  | .hbm, ⟨30, _⟩ => ⟨S128x2048, .i32⟩
  | .hbm, ⟨31, _⟩ => ⟨S128x2048, .i1⟩
  | .hbm, ⟨32, _⟩ => ⟨S128x2048, .bf16⟩
  | .hbm, ⟨33, _⟩ => ⟨S32, .f32⟩
  | .hbm, ⟨34, _⟩ => ⟨S_, .i32⟩
  | .hbm, ⟨35, _⟩ => ⟨S_, .f32⟩
  | .hbm, ⟨36, _⟩ => ⟨S128, .f32⟩
  | .hbm, ⟨37, _⟩ => ⟨S1x128, .f32⟩
  | .hbm, ⟨38, _⟩ => ⟨S32, .f32⟩
  | .hbm, ⟨39, _⟩ => ⟨S32x64, .f32⟩
  | .hbm, ⟨40, _⟩ => ⟨S2048, .f32⟩
  | .hbm, ⟨41, _⟩ => ⟨S1x2048, .f32⟩
  | .hbm, ⟨42, _⟩ => ⟨S2048, .f32⟩
  | .hbm, ⟨43, _⟩ => ⟨S1x2048, .f32⟩
  | .hbm, ⟨44, _⟩ => ⟨S4096x2048, .f32⟩
  | .hbm, ⟨45, _⟩ => ⟨S8192x2048, .bf16⟩
  | .hbm, ⟨46, _⟩ => ⟨S4x2048x128, .f32⟩
  | .hbm, ⟨47, _⟩ => ⟨S4096x2048, .bf16⟩
  | .local _ .vmem, ⟨0, _⟩ => ⟨S256x2048, .bf16⟩
  | .local _ .vmem, ⟨1, _⟩ => ⟨S256x2048, .bf16⟩
  | .local _ .vmem, ⟨2, _⟩ => ⟨S256x3072, .f32⟩
  | .local _ .vmem, ⟨3, _⟩ => ⟨S256x3072, .f32⟩
  | .local _ .vmem, ⟨4, _⟩ => ⟨S256x128, .f32⟩
  | .local _ .vmem, ⟨5, _⟩ => ⟨S256x128, .f32⟩
  | .local _ .vmem, ⟨6, _⟩ => ⟨S1x128, .f32⟩
  | .local _ .vmem, ⟨7, _⟩ => ⟨S128x2048, .bf16⟩
  | .local _ .vmem, ⟨8, _⟩ => ⟨S1x2048, .f32⟩
  | .local _ .vmem, ⟨9, _⟩ => ⟨S1x2048, .f32⟩
  | .local _ .vmem, ⟨10, _⟩ => ⟨S128x2048, .f32⟩
  | .local _ .vmem, ⟨11, _⟩ => ⟨S128x2048, .f32⟩
  | .local _ .vmem, ⟨12, _⟩ => ⟨S256x2048, .bf16⟩
  | .local _ .vmem, ⟨13, _⟩ => ⟨S256x2048, .bf16⟩
  | .local _ .vmem, ⟨14, _⟩ => ⟨S1x2048x128, .f32⟩
  | .local _ .vmem, ⟨15, _⟩ => ⟨S1x2048x128, .f32⟩
  | .local _ .vmem, ⟨16, _⟩ => ⟨S128x2048, .bf16⟩
  | .local _ .vmem, ⟨17, _⟩ => ⟨S128x2048, .bf16⟩
  | .local _ .vmem, ⟨18, _⟩ => ⟨S128x2048, .f32⟩
  | .local _ .vmem, ⟨19, _⟩ => ⟨S256x2048, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_c : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_0 : Ref sig .tc := ⟨.hbm, 25, rfl⟩
abbrev main_call0_v12 : Ref sig .tc := ⟨.hbm, 26, rfl⟩
abbrev main_call0_v13 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_c_0 : Ref sig .tc := ⟨.hbm, 34, rfl⟩
abbrev main_call1_v0 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19_0 : Ref sig .tc := ⟨.hbm, 45, rfl⟩
abbrev main_v19_1 : Ref sig .tc := ⟨.hbm, 46, rfl⟩
abbrev main_v19_2 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg1 : BitVec 32 := BitVec.ofNat 32 (i 1).val
  let c7_i32 : BitVec 32 := 7#32
  let v1642 : BitVec 1 := Scalar.cmpi .eq arg1 c7_i32
  let v1643 : BitVec 32 := Scalar.extui v1642
  let c0_i32_426 : BitVec 32 := 0#32
  let v1644 : BitVec 1 := Scalar.cmpi .ne v1643 c0_i32_426
  v1644

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x2048x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S128x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== KernelIdeal.lean ====
variable {F : FTy → Type} [FloatOps F] [Named F]
def κ : String → Option EReal := fun
  | "log2e" => some (((Real.log 2)⁻¹ : ℝ) : EReal)
  | _ => none
-- ==== ReferenceIdeal.lean ====
abbrev S8192x2048 : Shape := ⟨2, ![8192, 2048]⟩
abbrev S8192x3072 : Shape := ⟨2, ![8192, 3072]⟩
abbrev S8192x128 : Shape := ⟨2, ![8192, 128]⟩
abbrev S1x32 : Shape := ⟨2, ![1, 32]⟩
abbrev S1x2048 : Shape := ⟨2, ![1, 2048]⟩
abbrev S1x4096x2048 : Shape := ⟨3, ![1, 4096, 2048]⟩
abbrev S4x2048x3072 : Shape := ⟨3, ![4, 2048, 3072]⟩
abbrev S4x2048x2048 : Shape := ⟨3, ![4, 2048, 2048]⟩
abbrev S4x2048x512 : Shape := ⟨3, ![4, 2048, 512]⟩
abbrev S4x2048x32x64 : Shape := ⟨4, ![4, 2048, 32, 64]⟩
abbrev S4x2048x4x128 : Shape := ⟨4, ![4, 2048, 4, 128]⟩
abbrev S32 : Shape := ⟨1, ![32]⟩
abbrev S_ : Shape := ⟨0, ![]⟩
abbrev S4x32x64x128 : Shape := ⟨4, ![4, 32, 64, 128]⟩
abbrev S8192x32 : Shape := ⟨2, ![8192, 32]⟩
abbrev S4x2048x32 : Shape := ⟨3, ![4, 2048, 32]⟩
abbrev S4x2048x32x1 : Shape := ⟨4, ![4, 2048, 32, 1]⟩
abbrev S4x16x128x4x8x64 : Shape := ⟨6, ![4, 16, 128, 4, 8, 64]⟩
abbrev S1x1x32 : Shape := ⟨3, ![1, 1, 32]⟩
abbrev S4x16x128x4x8 : Shape := ⟨5, ![4, 16, 128, 4, 8]⟩
abbrev S4x16x128x4x128 : Shape := ⟨5, ![4, 16, 128, 4, 128]⟩
abbrev S4x16x128x1x4x8 : Shape := ⟨6, ![4, 16, 128, 1, 4, 8]⟩
abbrev S4x16x1x128x4x8 : Shape := ⟨6, ![4, 16, 1, 128, 4, 8]⟩
abbrev S4x16x128x128x4x8 : Shape := ⟨6, ![4, 16, 128, 128, 4, 8]⟩
abbrev S128x128 : Shape := ⟨2, ![128, 128]⟩
abbrev S128x128x1x1 : Shape := ⟨4, ![128, 128, 1, 1]⟩
abbrev S4x16x4x128x128 : Shape := ⟨5, ![4, 16, 4, 128, 128]⟩
abbrev S4x16x128x128x4 : Shape := ⟨5, ![4, 16, 128, 128, 4]⟩
abbrev S4x16x128x128x4x1 : Shape := ⟨6, ![4, 16, 128, 128, 4, 1]⟩
abbrev S4x16x4x8x64x128 : Shape := ⟨6, ![4, 16, 4, 8, 64, 128]⟩
abbrev S4x16x1x4x8 : Shape := ⟨5, ![4, 16, 1, 4, 8]⟩
abbrev S4x16x128x4x8x1 : Shape := ⟨6, ![4, 16, 128, 4, 8, 1]⟩
abbrev S4x16x4x8 : Shape := ⟨4, ![4, 16, 4, 8]⟩
abbrev S4x4x8x64x128 : Shape := ⟨5, ![4, 4, 8, 64, 128]⟩
abbrev S16x4x4x8x64x128 : Shape := ⟨6, ![16, 4, 4, 8, 64, 128]⟩
abbrev S16x4x4x8 : Shape := ⟨4, ![16, 4, 4, 8]⟩
abbrev S1x4x4x8x64x128 : Shape := ⟨6, ![1, 4, 4, 8, 64, 128]⟩
abbrev S1x4x4x8 : Shape := ⟨4, ![1, 4, 4, 8]⟩
abbrev S4x4x8 : Shape := ⟨3, ![4, 4, 8]⟩
abbrev S4x4x8x1x1 : Shape := ⟨5, ![4, 4, 8, 1, 1]⟩
abbrev S32x1 : Shape := ⟨2, ![32, 1]⟩
abbrev S1x1x32x1 : Shape := ⟨4, ![1, 1, 32, 1]⟩
abbrev S2048 : Shape := ⟨1, ![2048]⟩
abbrev S4x2048x4x512 : Shape := ⟨4, ![4, 2048, 4, 512]⟩
abbrev S4x2048x4 : Shape := ⟨3, ![4, 2048, 4]⟩
abbrev S4x2048x4x1 : Shape := ⟨4, ![4, 2048, 4, 1]⟩
abbrev S1x1x2048 : Shape := ⟨3, ![1, 1, 2048]⟩
abbrev S4x2048x128 : Shape := ⟨3, ![4, 2048, 128]⟩
abbrev S4096x2048 : Shape := ⟨2, ![4096, 2048]⟩

abbrev nBuf : Space → Nat
  | .hbm => 157
  | .vmem => 0
  | .smem => 0
  | _ => 0

abbrev hbmTy0_0 (i : Nat) : BufTy := match i % 128 with
  | 0 => ⟨S8192x2048, .bf16⟩
  | 1 => ⟨S8192x3072, .f32⟩
  | 2 => ⟨S8192x128, .f32⟩
  | 3 => ⟨S1x32, .f32⟩
  | 4 => ⟨S1x32, .f32⟩
  | 5 => ⟨S1x2048, .f32⟩
  | 6 => ⟨S1x4096x2048, .f32⟩
  | 7 => ⟨S4x2048x3072, .f32⟩
  | 8 => ⟨S4x2048x2048, .f32⟩
  | 9 => ⟨S4x2048x512, .f32⟩
  | 10 => ⟨S4x2048x512, .f32⟩
  | 11 => ⟨S4x2048x32x64, .f32⟩
  | 12 => ⟨S4x2048x4x128, .f32⟩
  | 13 => ⟨S4x2048x4x128, .f32⟩
  | 14 => ⟨S32, .f32⟩
  | 15 => ⟨S32, .f32⟩
  | 16 => ⟨S32, .f32⟩
  | 17 => ⟨S_, .f32⟩
  | 18 => ⟨S4x32x64x128, .f32⟩
  | 19 => ⟨S8192x32, .f32⟩
  | 20 => ⟨S4x2048x32, .f32⟩
  | 21 => ⟨S32, .f32⟩
  | 22 => ⟨S4x2048x32x1, .f32⟩
  | 23 => ⟨S4x2048x32x64, .f32⟩
  | 24 => ⟨S4x2048x32x64, .f32⟩
  | 25 => ⟨S4x16x128x4x8x64, .f32⟩
  | 26 => ⟨S1x1x32, .f32⟩
  | 27 => ⟨S4x2048x32, .f32⟩
  | 28 => ⟨S4x2048x32, .f32⟩
  | 29 => ⟨S4x16x128x4x8, .f32⟩
  | 30 => ⟨S4x16x128x4x128, .f32⟩
  | 31 => ⟨S4x16x128x4x128, .f32⟩
  | 32 => ⟨S_, .f32⟩
  | 33 => ⟨S_, .f32⟩
  | 34 => ⟨S4x16x128x4x8, .f32⟩
  | 35 => ⟨S4x16x128x1x4x8, .f32⟩
  | 36 => ⟨S4x16x1x128x4x8, .f32⟩
  | 37 => ⟨S4x16x128x128x4x8, .f32⟩
  | 38 => ⟨S4x16x128x128x4x8, .f32⟩
  | 39 => ⟨S4x16x128x128x4x8, .f32⟩
  | 40 => ⟨S_, .i1⟩
  | 41 => ⟨S128x128, .i1⟩
  | 42 => ⟨S128x128, .i32⟩
  | 43 => ⟨S_, .i32⟩
  | 44 => ⟨S128x128, .i32⟩
  | 45 => ⟨S128x128, .i32⟩
  | 46 => ⟨S128x128, .i32⟩
  | 47 => ⟨S128x128, .i1⟩
  | 48 => ⟨S_, .i1⟩
  | 49 => ⟨S128x128, .i1⟩
  | 50 => ⟨S128x128, .i1⟩
  | 51 => ⟨S128x128x1x1, .i1⟩
  | 52 => ⟨S_, .f32⟩
  | 53 => ⟨S_, .f32⟩
  | 54 => ⟨S4x16x128x128x4x8, .i1⟩
  | 55 => ⟨S4x16x128x128x4x8, .f32⟩
  | 56 => ⟨S4x16x128x128x4x8, .f32⟩
  | 57 => ⟨S4x16x128x128x4x8, .f32⟩
  | 58 => ⟨S4x16x4x128x128, .f32⟩
  | 59 => ⟨S4x16x128x128x4, .f32⟩
  | 60 => ⟨S4x16x128x128x4x1, .f32⟩
  | 61 => ⟨S4x16x128x128x4x8, .f32⟩
  | 62 => ⟨S4x16x128x128x4x8, .f32⟩
  | 63 => ⟨S4x16x4x8x64x128, .f32⟩
  | 64 => ⟨S4x16x128x4x8x64, .f32⟩
  | 65 => ⟨S4x16x1x4x8, .f32⟩
  | 66 => ⟨S4x16x128x4x8, .f32⟩
  | 67 => ⟨S4x16x128x4x8, .f32⟩
  | 68 => ⟨S4x16x128x4x8, .f32⟩
  | 69 => ⟨S4x16x128x4x8x1, .f32⟩
  | 70 => ⟨S4x16x128x4x8x64, .f32⟩
  | 71 => ⟨S4x16x128x4x8x64, .f32⟩
  | 72 => ⟨S4x16x4x8x64x128, .f32⟩
  | 73 => ⟨S4x16x1x4x8, .f32⟩
  | 74 => ⟨S4x16x4x8, .f32⟩
  | 75 => ⟨S4x16x4x8, .f32⟩
  | 76 => ⟨S4x4x8x64x128, .f32⟩
  | 77 => ⟨S16x4x4x8x64x128, .f32⟩
  | 78 => ⟨S16x4x4x8, .f32⟩
  | 79 => ⟨S_, .f32⟩
  | 80 => ⟨S16x4x4x8x64x128, .f32⟩
  | 81 => ⟨S_, .i32⟩
  | 82 => ⟨S16x4x4x8x64x128, .f32⟩
  | 83 => ⟨S16x4x4x8, .f32⟩
  | 84 => ⟨S_, .i32⟩
  | 85 => ⟨S4x4x8x64x128, .f32⟩
  | 86 => ⟨S16x4x4x8x64x128, .f32⟩
  | 87 => ⟨S_, .i32⟩
  | 88 => ⟨S_, .i1⟩
  | 89 => ⟨S_, .i32⟩
  | 90 => ⟨S_, .i32⟩
  | 91 => ⟨S_, .i32⟩
  | 92 => ⟨S_, .i32⟩
  | 93 => ⟨S_, .i32⟩
  | 94 => ⟨S1x4x4x8x64x128, .f32⟩
  | 95 => ⟨S4x4x8x64x128, .f32⟩
  | 96 => ⟨S_, .i32⟩
  | 97 => ⟨S_, .i32⟩
  | 98 => ⟨S_, .i32⟩
  | 99 => ⟨S1x4x4x8, .f32⟩
  | 100 => ⟨S4x4x8, .f32⟩
  | 101 => ⟨S4x4x8x1x1, .f32⟩
  | 102 => ⟨S4x4x8x64x128, .f32⟩
  | 103 => ⟨S4x4x8x64x128, .f32⟩
  | 104 => ⟨S4x4x8x64x128, .f32⟩
  | 105 => ⟨S1x4x4x8x64x128, .f32⟩
  | 106 => ⟨S_, .i32⟩
  | 107 => ⟨S_, .i32⟩
  | 108 => ⟨S_, .i32⟩
  | 109 => ⟨S_, .i32⟩
  | 110 => ⟨S_, .i32⟩
  | 111 => ⟨S16x4x4x8x64x128, .f32⟩
  | 112 => ⟨S_, .i32⟩
  | 113 => ⟨S_, .i32⟩
  | 114 => ⟨S4x16x4x8x64x128, .f32⟩
  | 115 => ⟨S4x16x4x8x64x128, .f32⟩
  | 116 => ⟨S4x16x128x4x8x64, .f32⟩
  | 117 => ⟨S4x16x128x4x8, .f32⟩
  | 118 => ⟨S4x16x128x4x8x1, .f32⟩
  | 119 => ⟨S4x16x128x4x8x64, .f32⟩
  | 120 => ⟨S4x16x128x4x8x64, .f32⟩
  | 121 => ⟨S4x16x128x4x8x64, .f32⟩
  | 122 => ⟨S4x2048x32x64, .f32⟩
  | 123 => ⟨S32x1, .f32⟩
  | 124 => ⟨S1x1x32x1, .f32⟩
  | 125 => ⟨S4x2048x32x64, .f32⟩
  | 126 => ⟨S4x2048x32x64, .f32⟩
  | 127 => ⟨S4x2048x32x64, .f32⟩
  | _ => ⟨S8192x2048, .bf16⟩

abbrev hbmTy0_1 (i : Nat) : BufTy := match i % 128 with
  | 0 => ⟨S4x32x64x128, .f32⟩
  | 1 => ⟨S8192x2048, .f32⟩
  | 2 => ⟨S4x2048x2048, .f32⟩
  | 3 => ⟨S4x2048x2048, .f32⟩
  | 4 => ⟨S4x2048x2048, .f32⟩
  | 5 => ⟨S2048, .f32⟩
  | 6 => ⟨S4x2048x4x512, .f32⟩
  | 7 => ⟨S4x2048x4x512, .f32⟩
  | 8 => ⟨S_, .f32⟩
  | 9 => ⟨S4x2048x4, .f32⟩
  | 10 => ⟨S4x2048x4x1, .f32⟩
  | 11 => ⟨S_, .f32⟩
  | 12 => ⟨S4x2048x4x1, .f32⟩
  | 13 => ⟨S4x2048x4x1, .f32⟩
  | 14 => ⟨S_, .f32⟩
  | 15 => ⟨S4x2048x4x1, .f32⟩
  | 16 => ⟨S4x2048x4x1, .f32⟩
  | 17 => ⟨S4x2048x4x1, .f32⟩
  | 18 => ⟨S4x2048x4x512, .f32⟩
  | 19 => ⟨S4x2048x4x512, .f32⟩
  | 20 => ⟨S4x2048x2048, .f32⟩
  | 21 => ⟨S1x1x2048, .f32⟩
  | 22 => ⟨S4x2048x2048, .f32⟩
  | 23 => ⟨S4x2048x2048, .f32⟩
  | 24 => ⟨S8192x2048, .f32⟩
  | 25 => ⟨S8192x2048, .bf16⟩
  | 26 => ⟨S4x2048x128, .f32⟩
  | 27 => ⟨S4096x2048, .f32⟩
  | 28 => ⟨S4096x2048, .bf16⟩
  | _ => ⟨S8192x2048, .bf16⟩

abbrev hbmTy (i : Nat) : BufTy := match i / 128 with
  | 0 => hbmTy0_0 i
  | 1 => hbmTy0_1 i
  | _ => ⟨S8192x2048, .bf16⟩

abbrev bufTy : (tb : Table) → Fin (tcTables nBuf tb) → BufTy
  | .hbm, ⟨i, _⟩ => hbmTy i
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_call0_call0_cst : Ref sig .tc := ⟨.hbm, 32, rfl⟩
abbrev main_call0_call0_v0 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_c : Ref sig .tc := ⟨.hbm, 40, rfl⟩
abbrev main_v30 : Ref sig .tc := ⟨.hbm, 41, rfl⟩
abbrev main_call1_v0 : Ref sig .tc := ⟨.hbm, 42, rfl⟩
abbrev main_call1_c : Ref sig .tc := ⟨.hbm, 43, rfl⟩
abbrev main_call1_v1 : Ref sig .tc := ⟨.hbm, 44, rfl⟩
abbrev main_call1_v2 : Ref sig .tc := ⟨.hbm, 45, rfl⟩
abbrev main_call1_v3 : Ref sig .tc := ⟨.hbm, 46, rfl⟩
abbrev main_call1_v4 : Ref sig .tc := ⟨.hbm, 47, rfl⟩
abbrev main_call1_c_0 : Ref sig .tc := ⟨.hbm, 48, rfl⟩
abbrev main_call1_v5 : Ref sig .tc := ⟨.hbm, 49, rfl⟩
abbrev main_v31 : Ref sig .tc := ⟨.hbm, 50, rfl⟩
abbrev main_v32 : Ref sig .tc := ⟨.hbm, 51, rfl⟩
abbrev main_cst_0 : Ref sig .tc := ⟨.hbm, 52, rfl⟩
abbrev main_call2_v0 : Ref sig .tc := ⟨.hbm, 53, rfl⟩
abbrev main_call2_v1 : Ref sig .tc := ⟨.hbm, 54, rfl⟩
abbrev main_call2_v2 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_1 : Ref sig .tc := ⟨.hbm, 79, rfl⟩
abbrev main_v56 : Ref sig .tc := ⟨.hbm, 80, rfl⟩
abbrev main_c_2 : Ref sig .tc := ⟨.hbm, 81, rfl⟩
abbrev main_v57_0 : Ref sig .tc := ⟨.hbm, 82, rfl⟩
abbrev main_v57_1 : Ref sig .tc := ⟨.hbm, 83, rfl⟩
abbrev main_v57_2 : Ref sig .tc := ⟨.hbm, 84, rfl⟩
abbrev main_v57_3 : Ref sig .tc := ⟨.hbm, 85, rfl⟩
abbrev main_v57_4 : Ref sig .tc := ⟨.hbm, 86, rfl⟩
abbrev main_while0c_c_10 : Ref sig .tc := ⟨.hbm, 87, rfl⟩
abbrev main_while0c_v98 : Ref sig .tc := ⟨.hbm, 88, rfl⟩
abbrev main_while0b_call3_c : Ref sig .tc := ⟨.hbm, 89, rfl⟩
abbrev main_while0b_call3_c_0 : Ref sig .tc := ⟨.hbm, 90, rfl⟩
abbrev main_while0b_call3_c_1 : Ref sig .tc := ⟨.hbm, 91, rfl⟩
abbrev main_while0b_call3_c_2 : Ref sig .tc := ⟨.hbm, 92, rfl⟩
abbrev main_while0b_call3_c_3 : Ref sig .tc := ⟨.hbm, 93, rfl⟩
abbrev main_while0b_call3_v0 : Ref sig .tc := ⟨.hbm, 94, rfl⟩
abbrev main_while0b_v98 : Ref sig .tc := ⟨.hbm, 95, rfl⟩
abbrev main_while0b_call4_c : Ref sig .tc := ⟨.hbm, 96, rfl⟩
abbrev main_while0b_call4_c_0 : Ref sig .tc := ⟨.hbm, 97, rfl⟩
abbrev main_while0b_call4_c_1 : Ref sig .tc := ⟨.hbm, 98, rfl⟩
abbrev main_while0b_call4_v0 : Ref sig .tc := ⟨.hbm, 99, rfl⟩
abbrev main_while0b_v99 : Ref sig .tc := ⟨.hbm, 100, rfl⟩
abbrev main_while0b_v100 : Ref sig .tc := ⟨.hbm, 101, rfl⟩
abbrev main_while0b_v101 : Ref sig .tc := ⟨.hbm, 102, rfl⟩
abbrev main_while0b_v102 : Ref sig .tc := ⟨.hbm, 103, rfl⟩
abbrev main_while0b_v103 : Ref sig .tc := ⟨.hbm, 104, rfl⟩
abbrev main_while0b_call5_v0 : Ref sig .tc := ⟨.hbm, 105, rfl⟩
abbrev main_while0b_call5_c : Ref sig .tc := ⟨.hbm, 106, rfl⟩
abbrev main_while0b_call5_c_0 : Ref sig .tc := ⟨.hbm, 107, rfl⟩
abbrev main_while0b_call5_c_1 : Ref sig .tc := ⟨.hbm, 108, rfl⟩
abbrev main_while0b_call5_c_2 : Ref sig .tc := ⟨.hbm, 109, rfl⟩
abbrev main_while0b_call5_c_3 : Ref sig .tc := ⟨.hbm, 110, rfl⟩
abbrev main_while0b_v104 : Ref sig .tc := ⟨.hbm, 111, rfl⟩
abbrev main_while0b_c_10 : Ref sig .tc := ⟨.hbm, 112, rfl⟩
abbrev main_while0b_v105 : Ref sig .tc := ⟨.hbm, 113, rfl⟩
abbrev main_v58 : Ref sig .tc := ⟨.hbm, 114, rfl⟩
abbrev main_v59 : Ref sig .tc := ⟨.hbm, 115, rfl⟩
abbrev main_v60 : Ref sig .tc := ⟨.hbm, 116, rfl⟩
abbrev main_v61 : Ref sig .tc := ⟨.hbm, 117, rfl⟩
abbrev main_v62 : Ref sig .tc := ⟨.hbm, 118, rfl⟩
abbrev main_v63 : Ref sig .tc := ⟨.hbm, 119, rfl⟩
abbrev main_v64 : Ref sig .tc := ⟨.hbm, 120, rfl⟩
abbrev main_v65 : Ref sig .tc := ⟨.hbm, 121, rfl⟩
abbrev main_v66 : Ref sig .tc := ⟨.hbm, 122, rfl⟩
abbrev main_v67 : Ref sig .tc := ⟨.hbm, 123, rfl⟩
abbrev main_v68 : Ref sig .tc := ⟨.hbm, 124, rfl⟩
abbrev main_v69 : Ref sig .tc := ⟨.hbm, 125, rfl⟩
abbrev main_v70 : Ref sig .tc := ⟨.hbm, 126, rfl⟩
abbrev main_v71 : Ref sig .tc := ⟨.hbm, 127, rfl⟩
abbrev main_v72 : Ref sig .tc := ⟨.hbm, 128, rfl⟩
abbrev main_v73 : Ref sig .tc := ⟨.hbm, 129, rfl⟩
abbrev main_v74 : Ref sig .tc := ⟨.hbm, 130, rfl⟩
abbrev main_v75 : Ref sig .tc := ⟨.hbm, 131, rfl⟩
abbrev main_v76 : Ref sig .tc := ⟨.hbm, 132, rfl⟩
abbrev main_v77 : Ref sig .tc := ⟨.hbm, 133, rfl⟩
abbrev main_v78 : Ref sig .tc := ⟨.hbm, 134, rfl⟩
abbrev main_v79 : Ref sig .tc := ⟨.hbm, 135, rfl⟩
abbrev main_cst_3 : Ref sig .tc := ⟨.hbm, 136, rfl⟩
abbrev main_v80 : Ref sig .tc := ⟨.hbm, 137, rfl⟩
abbrev main_v81 : Ref sig .tc := ⟨.hbm, 138, rfl⟩
abbrev main_cst_4 : Ref sig .tc := ⟨.hbm, 139, rfl⟩
abbrev main_v82 : Ref sig .tc := ⟨.hbm, 140, rfl⟩
abbrev main_v83 : Ref sig .tc := ⟨.hbm, 141, rfl⟩
abbrev main_cst_5 : Ref sig .tc := ⟨.hbm, 142, rfl⟩
abbrev main_v84 : Ref sig .tc := ⟨.hbm, 143, rfl⟩
abbrev main_v85 : Ref sig .tc := ⟨.hbm, 144, rfl⟩
abbrev main_v86 : Ref sig .tc := ⟨.hbm, 145, rfl⟩
abbrev main_v87 : Ref sig .tc := ⟨.hbm, 146, rfl⟩
abbrev main_v88 : Ref sig .tc := ⟨.hbm, 147, rfl⟩
abbrev main_v89 : Ref sig .tc := ⟨.hbm, 148, rfl⟩
abbrev main_v90 : Ref sig .tc := ⟨.hbm, 149, rfl⟩
abbrev main_v91 : Ref sig .tc := ⟨.hbm, 150, rfl⟩
abbrev main_v92 : Ref sig .tc := ⟨.hbm, 151, rfl⟩
abbrev main_v93 : Ref sig .tc := ⟨.hbm, 152, rfl⟩
abbrev main_v94 : Ref sig .tc := ⟨.hbm, 153, rfl⟩
abbrev main_v95 : Ref sig .tc := ⟨.hbm, 154, rfl⟩
abbrev main_v96 : Ref sig .tc := ⟨.hbm, 155, rfl⟩
abbrev main_v97 : Ref sig .tc := ⟨.hbm, 156, rfl⟩

abbrev nD : Nat := 1
abbrev τ : Topo := Topo.v7x

variable {F : FTy → Type} [FloatOps F]

abbrev main_while0_count : Scf.Loop 32 := ⟨0#32, 16#32, 1#32⟩
-- ==== Kernel2.lean ====
abbrev S8192x2048 : Shape := ⟨2, ![8192, 2048]⟩
abbrev S1x2048x13344 : Shape := ⟨3, ![1, 2048, 13344]⟩
abbrev S1x3x2048 : Shape := ⟨3, ![1, 3, 2048]⟩
abbrev S2048x13344 : Shape := ⟨2, ![2048, 13344]⟩
abbrev S13344x2048 : Shape := ⟨2, ![13344, 2048]⟩
abbrev S3x2048 : Shape := ⟨2, ![3, 2048]⟩
abbrev S_ : Shape := ⟨0, ![]⟩
abbrev S4x2x2048 : Shape := ⟨3, ![4, 2, 2048]⟩
abbrev S2048x2048 : Shape := ⟨2, ![2048, 2048]⟩
abbrev S256x2048 : Shape := ⟨2, ![256, 2048]⟩
abbrev S32x2048 : Shape := ⟨2, ![32, 2048]⟩
abbrev S3x256 : Shape := ⟨2, ![3, 256]⟩
abbrev S1x2x256 : Shape := ⟨3, ![1, 2, 256]⟩
abbrev S2048x256 : Shape := ⟨2, ![2048, 256]⟩
abbrev S4x256x2048 : Shape := ⟨3, ![4, 256, 2048]⟩
abbrev S1x2056x256 : Shape := ⟨3, ![1, 2056, 256]⟩
abbrev S224x2048 : Shape := ⟨2, ![224, 2048]⟩
abbrev S1x256x2048 : Shape := ⟨3, ![1, 256, 2048]⟩
abbrev S1x8x256 : Shape := ⟨3, ![1, 8, 256]⟩
abbrev S1x2048x256 : Shape := ⟨3, ![1, 2048, 256]⟩
abbrev S1x256 : Shape := ⟨2, ![1, 256]⟩
abbrev S1x1x256 : Shape := ⟨3, ![1, 1, 256]⟩

abbrev nBuf : Space → Nat
  | .hbm => 10
  | .vmem => 28
  | .smem => 0
  | _ => 0

abbrev bufTy : (tb : Table) → Fin (tcTables nBuf tb) → BufTy
  | .hbm, ⟨0, _⟩ => ⟨S8192x2048, .bf16⟩
  | .hbm, ⟨1, _⟩ => ⟨S1x2048x13344, .f32⟩
  | .hbm, ⟨2, _⟩ => ⟨S1x3x2048, .f32⟩
  | .hbm, ⟨3, _⟩ => ⟨S2048x13344, .f32⟩
  | .hbm, ⟨4, _⟩ => ⟨S13344x2048, .f32⟩
  | .hbm, ⟨5, _⟩ => ⟨S3x2048, .f32⟩
  | .hbm, ⟨6, _⟩ => ⟨S_, .f32⟩
  | .hbm, ⟨7, _⟩ => ⟨S4x2x2048, .f32⟩
  | .hbm, ⟨8, _⟩ => ⟨S8192x2048, .bf16⟩
  | .hbm, ⟨9, _⟩ => ⟨S4x2x2048, .f32⟩
  | .local _ .vmem, ⟨0, _⟩ => ⟨S2048x2048, .bf16⟩
  | .local _ .vmem, ⟨1, _⟩ => ⟨S2048x2048, .bf16⟩
  | .local _ .vmem, ⟨2, _⟩ => ⟨S256x2048, .f32⟩
  | .local _ .vmem, ⟨3, _⟩ => ⟨S256x2048, .f32⟩
  | .local _ .vmem, ⟨4, _⟩ => ⟨S32x2048, .f32⟩
  | .local _ .vmem, ⟨5, _⟩ => ⟨S32x2048, .f32⟩
  | .local _ .vmem, ⟨6, _⟩ => ⟨S256x2048, .f32⟩
  | .local _ .vmem, ⟨7, _⟩ => ⟨S256x2048, .f32⟩
  | .local _ .vmem, ⟨8, _⟩ => ⟨S32x2048, .f32⟩
  | .local _ .vmem, ⟨9, _⟩ => ⟨S32x2048, .f32⟩
  | .local _ .vmem, ⟨10, _⟩ => ⟨S256x2048, .f32⟩
  | .local _ .vmem, ⟨11, _⟩ => ⟨S256x2048, .f32⟩
  | .local _ .vmem, ⟨12, _⟩ => ⟨S32x2048, .f32⟩
  | .local _ .vmem, ⟨13, _⟩ => ⟨S32x2048, .f32⟩
  | .local _ .vmem, ⟨14, _⟩ => ⟨S256x2048, .f32⟩
  | .local _ .vmem, ⟨15, _⟩ => ⟨S256x2048, .f32⟩
  | .local _ .vmem, ⟨16, _⟩ => ⟨S32x2048, .f32⟩
  | .local _ .vmem, ⟨17, _⟩ => ⟨S32x2048, .f32⟩
  | .local _ .vmem, ⟨18, _⟩ => ⟨S3x256, .f32⟩
  | .local _ .vmem, ⟨19, _⟩ => ⟨S3x256, .f32⟩
  | .local _ .vmem, ⟨20, _⟩ => ⟨S1x2x256, .f32⟩
  | .local _ .vmem, ⟨21, _⟩ => ⟨S1x2x256, .f32⟩
  | .local _ .vmem, ⟨22, _⟩ => ⟨S2048x256, .bf16⟩
  | .local _ .vmem, ⟨23, _⟩ => ⟨S2048x256, .bf16⟩
  | .local _ .vmem, ⟨24, _⟩ => ⟨S1x2x256, .f32⟩
  | .local _ .vmem, ⟨25, _⟩ => ⟨S1x2x256, .f32⟩
  | .local _ .vmem, ⟨26, _⟩ => ⟨S4x256x2048, .bf16⟩
  | .local _ .vmem, ⟨27, _⟩ => ⟨S1x2056x256, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_scratch0 : Ref sig .tc := ⟨.vmem, 26, rfl⟩
abbrev cc0_scratch1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.addi c20_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c256_i32 : BitVec 32 := 256#32
  let v1 : BitVec 32 := Scalar.muli c256_i32 v0
  let c5120_i32 : BitVec 32 := 5120#32
  let v2 : BitVec 32 := Scalar.addi c5120_i32 v1
  let c32_i32 : BitVec 32 := 32#32
  let v3 : BitVec 32 := Scalar.divsi v2 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let c1_i32_4 : BitVec 32 := 1#32
  let v18 : BitVec 32 := Scalar.subi v3 c1_i32_4
  let v19 : BitVec 32 := Scalar.select v17 v18 v3
  let c0_i32_5 : BitVec 32 := 0#32
  let c0_i32_6 : BitVec 32 := 0#32
  ![v19.toNat, c0_i32_5.toNat]

def cc0_transform_3 (i : grid0.Coords) : Fin 2 → Nat :=
  let arg0 : BitVec 32 := BitVec.ofNat 32 (i 0).val
  let arg1 : BitVec 32 := BitVec.ofNat 32 (i 1).val
  let c28_i32 : BitVec 32 := 28#32
  let v0 : BitVec 32 := Scalar.addi c28_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c256_i32 : BitVec 32 := 256#32
  let v1 : BitVec 32 := Scalar.muli c256_i32 v0
  let c7168_i32 : BitVec 32 := 7168#32
  let v2 : BitVec 32 := Scalar.addi c7168_i32 v1
  let c32_i32 : BitVec 32 := 32#32
  let v3 : BitVec 32 := Scalar.divsi v2 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let c1_i32_4 : BitVec 32 := 1#32
  let v18 : BitVec 32 := Scalar.subi v3 c1_i32_4
  let v19 : BitVec 32 := Scalar.select v17 v18 v3
  let c0_i32_5 : BitVec 32 := 0#32
  let c0_i32_6 : BitVec 32 := 0#32
  ![v19.toNat, c0_i32_5.toNat]

def cc0_transform_5 (i : grid0.Coords) : Fin 2 → Nat :=
  let arg0 : BitVec 32 := BitVec.ofNat 32 (i 0).val
  let arg1 : BitVec 32 := BitVec.ofNat 32 (i 1).val
  let c36_i32 : BitVec 32 := 36#32
  let v0 : BitVec 32 := Scalar.addi c36_i32 arg0
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c256_i32 : BitVec 32 := 256#32
  let v1 : BitVec 32 := Scalar.muli c256_i32 v0
  let c9216_i32 : BitVec 32 := 9216#32
  let v2 : BitVec 32 := Scalar.addi c9216_i32 v1
  let c32_i32 : BitVec 32 := 32#32
  let v3 : BitVec 32 := Scalar.divsi v2 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let c1_i32_4 : BitVec 32 := 1#32
  let v18 : BitVec 32 := Scalar.subi v3 c1_i32_4
  let v19 : BitVec 32 := Scalar.select v17 v18 v3
  let c0_i32_5 : BitVec 32 := 0#32
  let c0_i32_6 : BitVec 32 := 0#32
  ![v19.toNat, c0_i32_5.toNat]

def cc0_transform_7 (i : grid0.Coords) : Fin 2 → Nat :=
  let arg0 : BitVec 32 := BitVec.ofNat 32 (i 0).val
  let arg1 : BitVec 32 := BitVec.ofNat 32 (i 1).val
  let c44_i32 : BitVec 32 := 44#32
  let v0 : BitVec 32 := Scalar.addi c44_i32 arg0
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c256_i32 : BitVec 32 := 256#32
  let v1 : BitVec 32 := Scalar.muli c256_i32 v0
  let c11264_i32 : BitVec 32 := 11264#32
  let v2 : BitVec 32 := Scalar.addi c11264_i32 v1
  let c32_i32 : BitVec 32 := 32#32
  let v3 : BitVec 32 := Scalar.divsi v2 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let c1_i32_4 : BitVec 32 := 1#32
  let v18 : BitVec 32 := Scalar.subi v3 c1_i32_4
  let v19 : BitVec 32 := Scalar.select v17 v18 v3
  let c0_i32_5 : BitVec 32 := 0#32
  let c0_i32_6 : BitVec 32 := 0#32
  ![v19.toNat, c0_i32_5.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_10 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  ![v16.toNat, c0_i32_5.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S32x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S32x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S32x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S32x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S3x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x2x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S2048x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x2x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== Reference2Ideal.lean ====
abbrev S8192x2048 : Shape := ⟨2, ![8192, 2048]⟩
abbrev S1x2048x13344 : Shape := ⟨3, ![1, 2048, 13344]⟩
abbrev S1x3x2048 : Shape := ⟨3, ![1, 3, 2048]⟩
abbrev S4x2048x2048 : Shape := ⟨3, ![4, 2048, 2048]⟩
abbrev S2048x13344 : Shape := ⟨2, ![2048, 13344]⟩
abbrev S4x2048x13344 : Shape := ⟨3, ![4, 2048, 13344]⟩
abbrev S4x2048x8192 : Shape := ⟨3, ![4, 2048, 8192]⟩
abbrev S_ : Shape := ⟨0, ![]⟩
abbrev S4x2x2048 : Shape := ⟨3, ![4, 2, 2048]⟩
abbrev S3x2048 : Shape := ⟨2, ![3, 2048]⟩
abbrev S4x2050x2048 : Shape := ⟨3, ![4, 2050, 2048]⟩
abbrev S1x2048 : Shape := ⟨2, ![1, 2048]⟩
abbrev S2048 : Shape := ⟨1, ![2048]⟩
abbrev S1x1x2048 : Shape := ⟨3, ![1, 1, 2048]⟩

abbrev nBuf : Space → Nat
  | .hbm => 51
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S1x2048x13344, .f32⟩
  | .hbm, ⟨2, _⟩ => ⟨S1x3x2048, .f32⟩
  | .hbm, ⟨3, _⟩ => ⟨S8192x2048, .f32⟩
  | .hbm, ⟨4, _⟩ => ⟨S4x2048x2048, .f32⟩
  | .hbm, ⟨5, _⟩ => ⟨S2048x13344, .f32⟩
  | .hbm, ⟨6, _⟩ => ⟨S4x2048x13344, .f32⟩
  | .hbm, ⟨7, _⟩ => ⟨S4x2048x8192, .f32⟩
  | .hbm, ⟨8, _⟩ => ⟨S4x2048x2048, .f32⟩
  | .hbm, ⟨9, _⟩ => ⟨S4x2048x2048, .f32⟩
  | .hbm, ⟨10, _⟩ => ⟨S4x2048x2048, .f32⟩
  | .hbm, ⟨11, _⟩ => ⟨S4x2048x2048, .f32⟩
  | .hbm, ⟨12, _⟩ => ⟨S4x2048x2048, .f32⟩
  | .hbm, ⟨13, _⟩ => ⟨S_, .f32⟩
  | .hbm, ⟨14, _⟩ => ⟨S4x2x2048, .f32⟩
  | .hbm, ⟨15, _⟩ => ⟨S3x2048, .f32⟩
  | .hbm, ⟨16, _⟩ => ⟨S4x2050x2048, .f32⟩
  | .hbm, ⟨17, _⟩ => ⟨S4x2048x2048, .f32⟩
  | .hbm, ⟨18, _⟩ => ⟨S1x2048, .f32⟩
  | .hbm, ⟨19, _⟩ => ⟨S2048, .f32⟩
  | .hbm, ⟨20, _⟩ => ⟨S1x1x2048, .f32⟩
  | .hbm, ⟨21, _⟩ => ⟨S4x2048x2048, .f32⟩
  | .hbm, ⟨22, _⟩ => ⟨S4x2048x2048, .f32⟩
  | .hbm, ⟨23, _⟩ => ⟨S4x2048x2048, .f32⟩
  | .hbm, ⟨24, _⟩ => ⟨S1x2048, .f32⟩
  | .hbm, ⟨25, _⟩ => ⟨S2048, .f32⟩
  | .hbm, ⟨26, _⟩ => ⟨S1x1x2048, .f32⟩
  | .hbm, ⟨27, _⟩ => ⟨S4x2048x2048, .f32⟩
  | .hbm, ⟨28, _⟩ => ⟨S4x2048x2048, .f32⟩
  | .hbm, ⟨29, _⟩ => ⟨S4x2048x2048, .f32⟩
  | .hbm, ⟨30, _⟩ => ⟨S4x2048x2048, .f32⟩
  | .hbm, ⟨31, _⟩ => ⟨S1x2048, .f32⟩
  | .hbm, ⟨32, _⟩ => ⟨S2048, .f32⟩
  | .hbm, ⟨33, _⟩ => ⟨S1x1x2048, .f32⟩
  | .hbm, ⟨34, _⟩ => ⟨S4x2048x2048, .f32⟩
  | .hbm, ⟨35, _⟩ => ⟨S4x2048x2048, .f32⟩
  | .hbm, ⟨36, _⟩ => ⟨S4x2048x2048, .f32⟩
  | .hbm, ⟨37, _⟩ => ⟨S4x2x2048, .f32⟩
  | .hbm, ⟨38, _⟩ => ⟨S4x2048x2048, .f32⟩
  | .hbm, ⟨39, _⟩ => ⟨S4x2048x2048, .f32⟩
  | .hbm, ⟨40, _⟩ => ⟨S4x2048x2048, .f32⟩
  | .hbm, ⟨41, _⟩ => ⟨S_, .f32⟩
  | .hbm, ⟨42, _⟩ => ⟨S4x2048x2048, .f32⟩
  | .hbm, ⟨43, _⟩ => ⟨S4x2048x2048, .f32⟩
  | .hbm, ⟨44, _⟩ => ⟨S_, .f32⟩
  | .hbm, ⟨45, _⟩ => ⟨S4x2048x2048, .f32⟩
  | .hbm, ⟨46, _⟩ => ⟨S4x2048x2048, .f32⟩
  | .hbm, ⟨47, _⟩ => ⟨S4x2048x2048, .f32⟩
  | .hbm, ⟨48, _⟩ => ⟨S4x2048x2048, .f32⟩
  | .hbm, ⟨49, _⟩ => ⟨S8192x2048, .f32⟩
  | .hbm, ⟨50, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_call0_v0 : Ref sig .tc := ⟨.hbm, 39, rfl⟩
abbrev main_call0_v1 : Ref sig .tc := ⟨.hbm, 40, rfl⟩
abbrev main_call0_cst : Ref sig .tc := ⟨.hbm, 41, rfl⟩
abbrev main_call0_v2 : Ref sig .tc := ⟨.hbm, 42, rfl⟩
abbrev main_call0_v3 : Ref sig .tc := ⟨.hbm, 43, rfl⟩
abbrev main_call0_cst_0 : Ref sig .tc := ⟨.hbm, 44, rfl⟩
abbrev main_call0_v4 : Ref sig .tc := ⟨.hbm, 45, rfl⟩
abbrev main_call0_v5 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩

abbrev nD : Nat := 1
abbrev τ : Topo := Topo.v7x

variable {F : FTy → Type} [FloatOps F]
-- ==== Kernel3.lean ====
abbrev S8192x2048 : Shape := ⟨2, ![8192, 2048]⟩
abbrev S4096x2048 : Shape := ⟨2, ![4096, 2048]⟩
abbrev S2048 : Shape := ⟨1, ![2048]⟩
abbrev S1x2048 : Shape := ⟨2, ![1, 2048]⟩
abbrev S512x2048 : Shape := ⟨2, ![512, 2048]⟩
abbrev S2048x2048 : Shape := ⟨2, ![2048, 2048]⟩
abbrev S512 : Shape := ⟨1, ![512]⟩
abbrev S512x1 : Shape := ⟨2, ![512, 1]⟩

abbrev nBuf : Space → Nat
  | .hbm => 7
  | .vmem => 11
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S8192x2048, .f32⟩
  | .hbm, ⟨3, _⟩ => ⟨S4096x2048, .bf16⟩
  | .hbm, ⟨4, _⟩ => ⟨S2048, .f32⟩
  | .hbm, ⟨5, _⟩ => ⟨S1x2048, .f32⟩
  | .hbm, ⟨6, _⟩ => ⟨S8192x2048, .f32⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S512x2048, .f32⟩
  | .local _ .vmem, ⟨5, _⟩ => ⟨S512x2048, .f32⟩
  | .local _ .vmem, ⟨6, _⟩ => ⟨S2048x2048, .bf16⟩
  | .local _ .vmem, ⟨7, _⟩ => ⟨S2048x2048, .bf16⟩
  | .local _ .vmem, ⟨8, _⟩ => ⟨S1x2048, .f32⟩
  | .local _ .vmem, ⟨9, _⟩ => ⟨S512x2048, .f32⟩
  | .local _ .vmem, ⟨10, _⟩ => ⟨S512x2048, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference3Ideal.lean ====
abbrev S8192x2048 : Shape := ⟨2, ![8192, 2048]⟩
abbrev S4096x2048 : Shape := ⟨2, ![4096, 2048]⟩
abbrev S2048 : Shape := ⟨1, ![2048]⟩
abbrev S4x2048x2048 : Shape := ⟨3, ![4, 2048, 2048]⟩
abbrev S4x2048x4096 : Shape := ⟨3, ![4, 2048, 4096]⟩
abbrev S_ : Shape := ⟨0, ![]⟩
abbrev S4x2048 : Shape := ⟨2, ![4, 2048]⟩
abbrev S4x2048x1 : Shape := ⟨3, ![4, 2048, 1]⟩
abbrev S1x1x2048 : Shape := ⟨3, ![1, 1, 2048]⟩

abbrev nBuf : Space → Nat
  | .hbm => 31
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S8192x2048, .f32⟩
  | .hbm, ⟨3, _⟩ => ⟨S4096x2048, .bf16⟩
  | .hbm, ⟨4, _⟩ => ⟨S2048, .f32⟩
  | .hbm, ⟨5, _⟩ => ⟨S8192x2048, .f32⟩
  | .hbm, ⟨6, _⟩ => ⟨S4x2048x2048, .f32⟩
  | .hbm, ⟨7, _⟩ => ⟨S8192x2048, .f32⟩
  | .hbm, ⟨8, _⟩ => ⟨S4x2048x2048, .f32⟩
  | .hbm, ⟨9, _⟩ => ⟨S4x2048x4096, .f32⟩
  | .hbm, ⟨10, _⟩ => ⟨S4096x2048, .f32⟩
  | .hbm, ⟨11, _⟩ => ⟨S4x2048x2048, .f32⟩
  | .hbm, ⟨12, _⟩ => ⟨S4x2048x2048, .f32⟩
  | .hbm, ⟨13, _⟩ => ⟨S4x2048x2048, .f32⟩
  | .hbm, ⟨14, _⟩ => ⟨S4x2048x2048, .f32⟩
  | .hbm, ⟨15, _⟩ => ⟨S_, .f32⟩
  | .hbm, ⟨16, _⟩ => ⟨S4x2048, .f32⟩
  | .hbm, ⟨17, _⟩ => ⟨S4x2048x1, .f32⟩
  | .hbm, ⟨18, _⟩ => ⟨S_, .f32⟩
  | .hbm, ⟨19, _⟩ => ⟨S4x2048x1, .f32⟩
  | .hbm, ⟨20, _⟩ => ⟨S4x2048x1, .f32⟩
  | .hbm, ⟨21, _⟩ => ⟨S_, .f32⟩
  | .hbm, ⟨22, _⟩ => ⟨S4x2048x1, .f32⟩
  | .hbm, ⟨23, _⟩ => ⟨S4x2048x1, .f32⟩
  | .hbm, ⟨24, _⟩ => ⟨S4x2048x1, .f32⟩
  | .hbm, ⟨25, _⟩ => ⟨S4x2048x2048, .f32⟩
  | .hbm, ⟨26, _⟩ => ⟨S4x2048x2048, .f32⟩
  | .hbm, ⟨27, _⟩ => ⟨S1x1x2048, .f32⟩
  | .hbm, ⟨28, _⟩ => ⟨S4x2048x2048, .f32⟩
  | .hbm, ⟨29, _⟩ => ⟨S4x2048x2048, .f32⟩
  | .hbm, ⟨30, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩

abbrev nD : Nat := 1
abbrev τ : Topo := Topo.v7x

variable {F : FTy → Type} [FloatOps F]
-- ==== Kernel4.lean ====
abbrev S1024x2048 : Shape := ⟨2, ![1024, 2048]⟩
abbrev S1x2048x13344 : Shape := ⟨3, ![1, 2048, 13344]⟩
abbrev S1x4x3072 : Shape := ⟨3, ![1, 4, 3072]⟩
abbrev S1x3072 : Shape := ⟨2, ![1, 3072]⟩
abbrev S1x128x3x3072 : Shape := ⟨4, ![1, 128, 3, 3072]⟩
abbrev S2048x13344 : Shape := ⟨2, ![2048, 13344]⟩
abbrev S13344x2048 : Shape := ⟨2, ![13344, 2048]⟩
abbrev S4x3072 : Shape := ⟨2, ![4, 3072]⟩
abbrev S3072 : Shape := ⟨1, ![3072]⟩
abbrev S128x3x3072 : Shape := ⟨3, ![128, 3, 3072]⟩
abbrev S3x128x3072 : Shape := ⟨3, ![3, 128, 3072]⟩
abbrev S1024x3072 : Shape := ⟨2, ![1024, 3072]⟩
abbrev S4x1024 : Shape := ⟨2, ![4, 1024]⟩
abbrev S1x1024 : Shape := ⟨2, ![1, 1024]⟩
abbrev S3x128x1024 : Shape := ⟨3, ![3, 128, 1024]⟩
abbrev S1024x1024 : Shape := ⟨2, ![1024, 1024]⟩
abbrev S128x16x1024 : Shape := ⟨3, ![128, 16, 1024]⟩
abbrev S128x8x1024 : Shape := ⟨3, ![128, 8, 1024]⟩
abbrev S1x128x1024 : Shape := ⟨3, ![1, 128, 1024]⟩
abbrev S128x1024 : Shape := ⟨2, ![128, 1024]⟩
abbrev S128x1x1024 : Shape := ⟨3, ![128, 1, 1024]⟩
abbrev S1x1x1024 : Shape := ⟨3, ![1, 1, 1024]⟩

abbrev nBuf : Space → Nat
  | .hbm => 14
  | .vmem => 14
  | .smem => 0
  | _ => 0

abbrev bufTy : (tb : Table) → Fin (tcTables nBuf tb) → BufTy
  | .hbm, ⟨0, _⟩ => ⟨S1024x2048, .bf16⟩
  | .hbm, ⟨1, _⟩ => ⟨S1x2048x13344, .f32⟩
  | .hbm, ⟨2, _⟩ => ⟨S1x4x3072, .f32⟩
  | .hbm, ⟨3, _⟩ => ⟨S1x3072, .f32⟩
  | .hbm, ⟨4, _⟩ => ⟨S1x128x3x3072, .f32⟩
  | .hbm, ⟨5, _⟩ => ⟨S2048x13344, .f32⟩
  | .hbm, ⟨6, _⟩ => ⟨S13344x2048, .f32⟩
  | .hbm, ⟨7, _⟩ => ⟨S4x3072, .f32⟩
  | .hbm, ⟨8, _⟩ => ⟨S3072, .f32⟩
  | .hbm, ⟨9, _⟩ => ⟨S1x3072, .f32⟩
  | .hbm, ⟨10, _⟩ => ⟨S128x3x3072, .f32⟩
  | .hbm, ⟨11, _⟩ => ⟨S3x128x3072, .f32⟩
  | .hbm, ⟨12, _⟩ => ⟨S1024x3072, .f32⟩
  | .hbm, ⟨13, _⟩ => ⟨S3x128x3072, .f32⟩
  | .local _ .vmem, ⟨0, _⟩ => ⟨S1024x2048, .bf16⟩
  | .local _ .vmem, ⟨1, _⟩ => ⟨S1024x2048, .f32⟩
  | .local _ .vmem, ⟨2, _⟩ => ⟨S1024x2048, .f32⟩
  | .local _ .vmem, ⟨3, _⟩ => ⟨S4x1024, .f32⟩
  | .local _ .vmem, ⟨4, _⟩ => ⟨S4x1024, .f32⟩
  | .local _ .vmem, ⟨5, _⟩ => ⟨S1x1024, .f32⟩
  | .local _ .vmem, ⟨6, _⟩ => ⟨S1x1024, .f32⟩
  | .local _ .vmem, ⟨7, _⟩ => ⟨S3x128x1024, .f32⟩
  | .local _ .vmem, ⟨8, _⟩ => ⟨S3x128x1024, .f32⟩
  | .local _ .vmem, ⟨9, _⟩ => ⟨S1024x1024, .f32⟩
  | .local _ .vmem, ⟨10, _⟩ => ⟨S1024x1024, .f32⟩
  | .local _ .vmem, ⟨11, _⟩ => ⟨S3x128x1024, .f32⟩
  | .local _ .vmem, ⟨12, _⟩ => ⟨S3x128x1024, .f32⟩
  | .local _ .vmem, ⟨13, _⟩ => ⟨S128x16x1024, .f32⟩
  | _, _ => ⟨S1024x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![1, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  ![c0_i32_5.toNat, v16.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage0_0 : Fin 1 → Memref sig .tc .vmem S1024x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S3x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S3x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference4Ideal.lean ====
abbrev S1024x2048 : Shape := ⟨2, ![1024, 2048]⟩
abbrev S1x2048x13344 : Shape := ⟨3, ![1, 2048, 13344]⟩
abbrev S1x4x3072 : Shape := ⟨3, ![1, 4, 3072]⟩
abbrev S1x3072 : Shape := ⟨2, ![1, 3072]⟩
abbrev S1x128x3x3072 : Shape := ⟨4, ![1, 128, 3, 3072]⟩
abbrev S128x8x2048 : Shape := ⟨3, ![128, 8, 2048]⟩
abbrev S2048x13344 : Shape := ⟨2, ![2048, 13344]⟩
abbrev S128x8x13344 : Shape := ⟨3, ![128, 8, 13344]⟩
abbrev S128x8x3072 : Shape := ⟨3, ![128, 8, 3072]⟩
abbrev S128x3x3072 : Shape := ⟨3, ![128, 3, 3072]⟩
abbrev S4x3072 : Shape := ⟨2, ![4, 3072]⟩
abbrev S128x11x3072 : Shape := ⟨3, ![128, 11, 3072]⟩
abbrev S3072 : Shape := ⟨1, ![3072]⟩
abbrev S1x1x3072 : Shape := ⟨3, ![1, 1, 3072]⟩
abbrev S_ : Shape := ⟨0, ![]⟩
abbrev S1024x3072 : Shape := ⟨2, ![1024, 3072]⟩
abbrev S3x128x3072 : Shape := ⟨3, ![3, 128, 3072]⟩

abbrev nBuf : Space → Nat
  | .hbm => 56
  | .vmem => 0
  | .smem => 0
  | _ => 0

abbrev bufTy : (tb : Table) → Fin (tcTables nBuf tb) → BufTy
  | .hbm, ⟨0, _⟩ => ⟨S1024x2048, .bf16⟩
  | .hbm, ⟨1, _⟩ => ⟨S1x2048x13344, .f32⟩
  | .hbm, ⟨2, _⟩ => ⟨S1x4x3072, .f32⟩
  | .hbm, ⟨3, _⟩ => ⟨S1x3072, .f32⟩
  | .hbm, ⟨4, _⟩ => ⟨S1x128x3x3072, .f32⟩
  | .hbm, ⟨5, _⟩ => ⟨S1024x2048, .f32⟩
  | .hbm, ⟨6, _⟩ => ⟨S128x8x2048, .f32⟩
  | .hbm, ⟨7, _⟩ => ⟨S2048x13344, .f32⟩
  | .hbm, ⟨8, _⟩ => ⟨S128x8x13344, .f32⟩
  | .hbm, ⟨9, _⟩ => ⟨S128x8x3072, .f32⟩
  | .hbm, ⟨10, _⟩ => ⟨S128x3x3072, .f32⟩
  | .hbm, ⟨11, _⟩ => ⟨S4x3072, .f32⟩
  | .hbm, ⟨12, _⟩ => ⟨S128x11x3072, .f32⟩
  | .hbm, ⟨13, _⟩ => ⟨S128x8x3072, .f32⟩
  | .hbm, ⟨14, _⟩ => ⟨S1x3072, .f32⟩
  | .hbm, ⟨15, _⟩ => ⟨S3072, .f32⟩
  | .hbm, ⟨16, _⟩ => ⟨S1x1x3072, .f32⟩
  | .hbm, ⟨17, _⟩ => ⟨S128x8x3072, .f32⟩
  | .hbm, ⟨18, _⟩ => ⟨S128x8x3072, .f32⟩
  | .hbm, ⟨19, _⟩ => ⟨S128x8x3072, .f32⟩
  | .hbm, ⟨20, _⟩ => ⟨S1x3072, .f32⟩
  | .hbm, ⟨21, _⟩ => ⟨S3072, .f32⟩
  | .hbm, ⟨22, _⟩ => ⟨S1x1x3072, .f32⟩
  | .hbm, ⟨23, _⟩ => ⟨S128x8x3072, .f32⟩
  | .hbm, ⟨24, _⟩ => ⟨S128x8x3072, .f32⟩
  | .hbm, ⟨25, _⟩ => ⟨S128x8x3072, .f32⟩
  | .hbm, ⟨26, _⟩ => ⟨S128x8x3072, .f32⟩
  | .hbm, ⟨27, _⟩ => ⟨S1x3072, .f32⟩
  | .hbm, ⟨28, _⟩ => ⟨S3072, .f32⟩
  | .hbm, ⟨29, _⟩ => ⟨S1x1x3072, .f32⟩
  | .hbm, ⟨30, _⟩ => ⟨S128x8x3072, .f32⟩
  | .hbm, ⟨31, _⟩ => ⟨S128x8x3072, .f32⟩
  | .hbm, ⟨32, _⟩ => ⟨S128x8x3072, .f32⟩
  | .hbm, ⟨33, _⟩ => ⟨S128x8x3072, .f32⟩
  | .hbm, ⟨34, _⟩ => ⟨S1x3072, .f32⟩
  | .hbm, ⟨35, _⟩ => ⟨S3072, .f32⟩
  | .hbm, ⟨36, _⟩ => ⟨S1x1x3072, .f32⟩
  | .hbm, ⟨37, _⟩ => ⟨S128x8x3072, .f32⟩
  | .hbm, ⟨38, _⟩ => ⟨S128x8x3072, .f32⟩
  | .hbm, ⟨39, _⟩ => ⟨S128x8x3072, .f32⟩
  | .hbm, ⟨40, _⟩ => ⟨S128x3x3072, .f32⟩
  | .hbm, ⟨41, _⟩ => ⟨S3072, .f32⟩
  | .hbm, ⟨42, _⟩ => ⟨S1x1x3072, .f32⟩
  | .hbm, ⟨43, _⟩ => ⟨S128x8x3072, .f32⟩
  | .hbm, ⟨44, _⟩ => ⟨S128x8x3072, .f32⟩
  | .hbm, ⟨45, _⟩ => ⟨S128x8x3072, .f32⟩
  | .hbm, ⟨46, _⟩ => ⟨S128x8x3072, .f32⟩
  | .hbm, ⟨47, _⟩ => ⟨S_, .f32⟩
  | .hbm, ⟨48, _⟩ => ⟨S128x8x3072, .f32⟩
  | .hbm, ⟨49, _⟩ => ⟨S128x8x3072, .f32⟩
  | .hbm, ⟨50, _⟩ => ⟨S_, .f32⟩
  | .hbm, ⟨51, _⟩ => ⟨S128x8x3072, .f32⟩
  | .hbm, ⟨52, _⟩ => ⟨S128x8x3072, .f32⟩
  | .hbm, ⟨53, _⟩ => ⟨S128x8x3072, .f32⟩
  | .hbm, ⟨54, _⟩ => ⟨S1024x3072, .f32⟩
  | .hbm, ⟨55, _⟩ => ⟨S3x128x3072, .f32⟩
  | _, _ => ⟨S1024x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_call0_v0 : Ref sig .tc := ⟨.hbm, 45, rfl⟩
abbrev main_call0_v1 : Ref sig .tc := ⟨.hbm, 46, rfl⟩
abbrev main_call0_cst : Ref sig .tc := ⟨.hbm, 47, rfl⟩
abbrev main_call0_v2 : Ref sig .tc := ⟨.hbm, 48, rfl⟩
abbrev main_call0_v3 : Ref sig .tc := ⟨.hbm, 49, rfl⟩
abbrev main_call0_cst_0 : Ref sig .tc := ⟨.hbm, 50, rfl⟩
abbrev main_call0_v4 : Ref sig .tc := ⟨.hbm, 51, rfl⟩
abbrev main_call0_v5 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩

abbrev nD : Nat := 1
abbrev τ : Topo := Topo.v7x

variable {F : FTy → Type} [FloatOps F]
-- ==== Kernel5.lean ====
abbrev S1024x2048 : Shape := ⟨2, ![1024, 2048]⟩
abbrev S4096x2048 : Shape := ⟨2, ![4096, 2048]⟩
abbrev S2048 : Shape := ⟨1, ![2048]⟩
abbrev S1x2048 : Shape := ⟨2, ![1, 2048]⟩
abbrev S512x2048 : Shape := ⟨2, ![512, 2048]⟩
abbrev S2048x2048 : Shape := ⟨2, ![2048, 2048]⟩
abbrev S512 : Shape := ⟨1, ![512]⟩
abbrev S512x1 : Shape := ⟨2, ![512, 1]⟩

abbrev nBuf : Space → Nat
  | .hbm => 7
  | .vmem => 11
  | .smem => 0
  | _ => 0

abbrev bufTy : (tb : Table) → Fin (tcTables nBuf tb) → BufTy
  | .hbm, ⟨0, _⟩ => ⟨S1024x2048, .bf16⟩
  | .hbm, ⟨1, _⟩ => ⟨S1024x2048, .bf16⟩
  | .hbm, ⟨2, _⟩ => ⟨S1024x2048, .f32⟩
  | .hbm, ⟨3, _⟩ => ⟨S4096x2048, .bf16⟩
  | .hbm, ⟨4, _⟩ => ⟨S2048, .f32⟩
  | .hbm, ⟨5, _⟩ => ⟨S1x2048, .f32⟩
  | .hbm, ⟨6, _⟩ => ⟨S1024x2048, .f32⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S512x2048, .f32⟩
  | .local _ .vmem, ⟨5, _⟩ => ⟨S512x2048, .f32⟩
  | .local _ .vmem, ⟨6, _⟩ => ⟨S2048x2048, .bf16⟩
  | .local _ .vmem, ⟨7, _⟩ => ⟨S2048x2048, .bf16⟩
  | .local _ .vmem, ⟨8, _⟩ => ⟨S1x2048, .f32⟩
  | .local _ .vmem, ⟨9, _⟩ => ⟨S512x2048, .f32⟩
  | .local _ .vmem, ⟨10, _⟩ => ⟨S512x2048, .f32⟩
  | _, _ => ⟨S1024x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference5Ideal.lean ====
abbrev S1024x2048 : Shape := ⟨2, ![1024, 2048]⟩
abbrev S4096x2048 : Shape := ⟨2, ![4096, 2048]⟩
abbrev S2048 : Shape := ⟨1, ![2048]⟩
abbrev S128x8x2048 : Shape := ⟨3, ![128, 8, 2048]⟩
abbrev S128x8x4096 : Shape := ⟨3, ![128, 8, 4096]⟩
abbrev S_ : Shape := ⟨0, ![]⟩
abbrev S128x8 : Shape := ⟨2, ![128, 8]⟩
abbrev S128x8x1 : Shape := ⟨3, ![128, 8, 1]⟩
abbrev S1x1x2048 : Shape := ⟨3, ![1, 1, 2048]⟩

abbrev nBuf : Space → Nat
  | .hbm => 31
  | .vmem => 0
  | .smem => 0
  | _ => 0

abbrev bufTy : (tb : Table) → Fin (tcTables nBuf tb) → BufTy
  | .hbm, ⟨0, _⟩ => ⟨S1024x2048, .bf16⟩
  | .hbm, ⟨1, _⟩ => ⟨S1024x2048, .bf16⟩
  | .hbm, ⟨2, _⟩ => ⟨S1024x2048, .f32⟩
  | .hbm, ⟨3, _⟩ => ⟨S4096x2048, .bf16⟩
  | .hbm, ⟨4, _⟩ => ⟨S2048, .f32⟩
  | .hbm, ⟨5, _⟩ => ⟨S1024x2048, .f32⟩
  | .hbm, ⟨6, _⟩ => ⟨S128x8x2048, .f32⟩
  | .hbm, ⟨7, _⟩ => ⟨S1024x2048, .f32⟩
  | .hbm, ⟨8, _⟩ => ⟨S128x8x2048, .f32⟩
  | .hbm, ⟨9, _⟩ => ⟨S128x8x4096, .f32⟩
  | .hbm, ⟨10, _⟩ => ⟨S4096x2048, .f32⟩
  | .hbm, ⟨11, _⟩ => ⟨S128x8x2048, .f32⟩
  | .hbm, ⟨12, _⟩ => ⟨S128x8x2048, .f32⟩
  | .hbm, ⟨13, _⟩ => ⟨S128x8x2048, .f32⟩
  | .hbm, ⟨14, _⟩ => ⟨S128x8x2048, .f32⟩
  | .hbm, ⟨15, _⟩ => ⟨S_, .f32⟩
  | .hbm, ⟨16, _⟩ => ⟨S128x8, .f32⟩
  | .hbm, ⟨17, _⟩ => ⟨S128x8x1, .f32⟩
  | .hbm, ⟨18, _⟩ => ⟨S_, .f32⟩
  | .hbm, ⟨19, _⟩ => ⟨S128x8x1, .f32⟩
  | .hbm, ⟨20, _⟩ => ⟨S128x8x1, .f32⟩
  | .hbm, ⟨21, _⟩ => ⟨S_, .f32⟩
  | .hbm, ⟨22, _⟩ => ⟨S128x8x1, .f32⟩
  | .hbm, ⟨23, _⟩ => ⟨S128x8x1, .f32⟩
  | .hbm, ⟨24, _⟩ => ⟨S128x8x1, .f32⟩
  | .hbm, ⟨25, _⟩ => ⟨S128x8x2048, .f32⟩
  | .hbm, ⟨26, _⟩ => ⟨S128x8x2048, .f32⟩
  | .hbm, ⟨27, _⟩ => ⟨S1x1x2048, .f32⟩
  | .hbm, ⟨28, _⟩ => ⟨S128x8x2048, .f32⟩
  | .hbm, ⟨29, _⟩ => ⟨S128x8x2048, .f32⟩
  | .hbm, ⟨30, _⟩ => ⟨S1024x2048, .f32⟩
  | _, _ => ⟨S1024x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩

abbrev nD : Nat := 1
abbrev τ : Topo := Topo.v7x

variable {F : FTy → Type} [FloatOps F]
-- ==== Kernel6.lean ====
abbrev S1024x2048 : Shape := ⟨2, ![1024, 2048]⟩
abbrev S1x2048x13344 : Shape := ⟨3, ![1, 2048, 13344]⟩
abbrev S1x3x2048 : Shape := ⟨3, ![1, 3, 2048]⟩
abbrev S1x128x2x2048 : Shape := ⟨4, ![1, 128, 2, 2048]⟩
abbrev S2048x13344 : Shape := ⟨2, ![2048, 13344]⟩
abbrev S13344x2048 : Shape := ⟨2, ![13344, 2048]⟩
abbrev S3x2048 : Shape := ⟨2, ![3, 2048]⟩
abbrev S128x2x2048 : Shape := ⟨3, ![128, 2, 2048]⟩
abbrev S256x2048 : Shape := ⟨2, ![256, 2048]⟩
abbrev S32x2048 : Shape := ⟨2, ![32, 2048]⟩
abbrev S3x256 : Shape := ⟨2, ![3, 256]⟩
abbrev S128x2x256 : Shape := ⟨3, ![128, 2, 256]⟩
abbrev S1024x256 : Shape := ⟨2, ![1024, 256]⟩
abbrev S4x256x2048 : Shape := ⟨3, ![4, 256, 2048]⟩
abbrev S128x16x256 : Shape := ⟨3, ![128, 16, 256]⟩
abbrev S224x2048 : Shape := ⟨2, ![224, 2048]⟩
abbrev S1x256x2048 : Shape := ⟨3, ![1, 256, 2048]⟩
abbrev S128x8x256 : Shape := ⟨3, ![128, 8, 256]⟩
abbrev S1x256 : Shape := ⟨2, ![1, 256]⟩
abbrev S1x1x256 : Shape := ⟨3, ![1, 1, 256]⟩

abbrev nBuf : Space → Nat
  | .hbm => 10
  | .vmem => 27
  | .smem => 0
  | _ => 0

abbrev bufTy : (tb : Table) → Fin (tcTables nBuf tb) → BufTy
  | .hbm, ⟨0, _⟩ => ⟨S1024x2048, .bf16⟩
  | .hbm, ⟨1, _⟩ => ⟨S1x2048x13344, .f32⟩
  | .hbm, ⟨2, _⟩ => ⟨S1x3x2048, .f32⟩
  | .hbm, ⟨3, _⟩ => ⟨S1x128x2x2048, .f32⟩
  | .hbm, ⟨4, _⟩ => ⟨S2048x13344, .f32⟩
  | .hbm, ⟨5, _⟩ => ⟨S13344x2048, .f32⟩
  | .hbm, ⟨6, _⟩ => ⟨S3x2048, .f32⟩
  | .hbm, ⟨7, _⟩ => ⟨S128x2x2048, .f32⟩
  | .hbm, ⟨8, _⟩ => ⟨S1024x2048, .bf16⟩
  | .hbm, ⟨9, _⟩ => ⟨S128x2x2048, .f32⟩
  | .local _ .vmem, ⟨0, _⟩ => ⟨S1024x2048, .bf16⟩
  | .local _ .vmem, ⟨1, _⟩ => ⟨S256x2048, .f32⟩
  | .local _ .vmem, ⟨2, _⟩ => ⟨S256x2048, .f32⟩
  | .local _ .vmem, ⟨3, _⟩ => ⟨S32x2048, .f32⟩
  | .local _ .vmem, ⟨4, _⟩ => ⟨S32x2048, .f32⟩
  | .local _ .vmem, ⟨5, _⟩ => ⟨S256x2048, .f32⟩
  | .local _ .vmem, ⟨6, _⟩ => ⟨S256x2048, .f32⟩
  | .local _ .vmem, ⟨7, _⟩ => ⟨S32x2048, .f32⟩
  | .local _ .vmem, ⟨8, _⟩ => ⟨S32x2048, .f32⟩
  | .local _ .vmem, ⟨9, _⟩ => ⟨S256x2048, .f32⟩
  | .local _ .vmem, ⟨10, _⟩ => ⟨S256x2048, .f32⟩
  | .local _ .vmem, ⟨11, _⟩ => ⟨S32x2048, .f32⟩
  | .local _ .vmem, ⟨12, _⟩ => ⟨S32x2048, .f32⟩
  | .local _ .vmem, ⟨13, _⟩ => ⟨S256x2048, .f32⟩
  | .local _ .vmem, ⟨14, _⟩ => ⟨S256x2048, .f32⟩
  | .local _ .vmem, ⟨15, _⟩ => ⟨S32x2048, .f32⟩
  | .local _ .vmem, ⟨16, _⟩ => ⟨S32x2048, .f32⟩
  | .local _ .vmem, ⟨17, _⟩ => ⟨S3x256, .f32⟩
  | .local _ .vmem, ⟨18, _⟩ => ⟨S3x256, .f32⟩
  | .local _ .vmem, ⟨19, _⟩ => ⟨S128x2x256, .f32⟩
  | .local _ .vmem, ⟨20, _⟩ => ⟨S128x2x256, .f32⟩
  | .local _ .vmem, ⟨21, _⟩ => ⟨S1024x256, .bf16⟩
  | .local _ .vmem, ⟨22, _⟩ => ⟨S1024x256, .bf16⟩
  | .local _ .vmem, ⟨23, _⟩ => ⟨S128x2x256, .f32⟩
  | .local _ .vmem, ⟨24, _⟩ => ⟨S128x2x256, .f32⟩
  | .local _ .vmem, ⟨25, _⟩ => ⟨S4x256x2048, .bf16⟩
  | .local _ .vmem, ⟨26, _⟩ => ⟨S128x16x256, .f32⟩
  | _, _ => ⟨S1024x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_scratch0 : Ref sig .tc := ⟨.vmem, 25, rfl⟩
abbrev cc0_scratch1 : Ref sig .tc := ⟨.vmem, 26, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.addi c20_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c256_i32 : BitVec 32 := 256#32
  let v1 : BitVec 32 := Scalar.muli c256_i32 v0
  let c5120_i32 : BitVec 32 := 5120#32
  let v2 : BitVec 32 := Scalar.addi c5120_i32 v1
  let c32_i32 : BitVec 32 := 32#32
  let v3 : BitVec 32 := Scalar.divsi v2 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let c1_i32_4 : BitVec 32 := 1#32
  let v18 : BitVec 32 := Scalar.subi v3 c1_i32_4
  let v19 : BitVec 32 := Scalar.select v17 v18 v3
  let c0_i32_5 : BitVec 32 := 0#32
  let c0_i32_6 : BitVec 32 := 0#32
  ![v19.toNat, c0_i32_5.toNat]

def cc0_transform_3 (i : grid0.Coords) : Fin 2 → Nat :=
  let arg0 : BitVec 32 := BitVec.ofNat 32 (i 0).val
  let arg1 : BitVec 32 := BitVec.ofNat 32 (i 1).val
  let c28_i32 : BitVec 32 := 28#32
  let v0 : BitVec 32 := Scalar.addi c28_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c256_i32 : BitVec 32 := 256#32
  let v1 : BitVec 32 := Scalar.muli c256_i32 v0
  let c7168_i32 : BitVec 32 := 7168#32
  let v2 : BitVec 32 := Scalar.addi c7168_i32 v1
  let c32_i32 : BitVec 32 := 32#32
  let v3 : BitVec 32 := Scalar.divsi v2 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let c1_i32_4 : BitVec 32 := 1#32
  let v18 : BitVec 32 := Scalar.subi v3 c1_i32_4
  let v19 : BitVec 32 := Scalar.select v17 v18 v3
  let c0_i32_5 : BitVec 32 := 0#32
  let c0_i32_6 : BitVec 32 := 0#32
  ![v19.toNat, c0_i32_5.toNat]

def cc0_transform_5 (i : grid0.Coords) : Fin 2 → Nat :=
  let arg0 : BitVec 32 := BitVec.ofNat 32 (i 0).val
  let arg1 : BitVec 32 := BitVec.ofNat 32 (i 1).val
  let c36_i32 : BitVec 32 := 36#32
  let v0 : BitVec 32 := Scalar.addi c36_i32 arg0
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c256_i32 : BitVec 32 := 256#32
  let v1 : BitVec 32 := Scalar.muli c256_i32 v0
  let c9216_i32 : BitVec 32 := 9216#32
  let v2 : BitVec 32 := Scalar.addi c9216_i32 v1
  let c32_i32 : BitVec 32 := 32#32
  let v3 : BitVec 32 := Scalar.divsi v2 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let c1_i32_4 : BitVec 32 := 1#32
  let v18 : BitVec 32 := Scalar.subi v3 c1_i32_4
  let v19 : BitVec 32 := Scalar.select v17 v18 v3
  let c0_i32_5 : BitVec 32 := 0#32
  let c0_i32_6 : BitVec 32 := 0#32
  ![v19.toNat, c0_i32_5.toNat]

def cc0_transform_7 (i : grid0.Coords) : Fin 2 → Nat :=
  let arg0 : BitVec 32 := BitVec.ofNat 32 (i 0).val
  let arg1 : BitVec 32 := BitVec.ofNat 32 (i 1).val
  let c44_i32 : BitVec 32 := 44#32
  let v0 : BitVec 32 := Scalar.addi c44_i32 arg0
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c256_i32 : BitVec 32 := 256#32
  let v1 : BitVec 32 := Scalar.muli c256_i32 v0
  let c11264_i32 : BitVec 32 := 11264#32
  let v2 : BitVec 32 := Scalar.addi c11264_i32 v1
  let c32_i32 : BitVec 32 := 32#32
  let v3 : BitVec 32 := Scalar.divsi v2 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let c1_i32_4 : BitVec 32 := 1#32
  let v18 : BitVec 32 := Scalar.subi v3 c1_i32_4
  let v19 : BitVec 32 := Scalar.select v17 v18 v3
  let c0_i32_5 : BitVec 32 := 0#32
  let c0_i32_6 : BitVec 32 := 0#32
  ![v19.toNat, c0_i32_5.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_10 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  ![v16.toNat, c0_i32_5.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

abbrev stage0_0 : Fin 1 → Memref sig .tc .vmem S1024x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S32x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S32x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S32x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S32x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S3x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S128x2x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1024x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S128x2x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== Reference6Ideal.lean ====
abbrev S1024x2048 : Shape := ⟨2, ![1024, 2048]⟩
abbrev S1x2048x13344 : Shape := ⟨3, ![1, 2048, 13344]⟩
abbrev S1x3x2048 : Shape := ⟨3, ![1, 3, 2048]⟩
abbrev S1x128x2x2048 : Shape := ⟨4, ![1, 128, 2, 2048]⟩
abbrev S128x8x2048 : Shape := ⟨3, ![128, 8, 2048]⟩
abbrev S2048x13344 : Shape := ⟨2, ![2048, 13344]⟩
abbrev S128x8x13344 : Shape := ⟨3, ![128, 8, 13344]⟩
abbrev S128x8x8192 : Shape := ⟨3, ![128, 8, 8192]⟩
abbrev S128x2x2048 : Shape := ⟨3, ![128, 2, 2048]⟩
abbrev S3x2048 : Shape := ⟨2, ![3, 2048]⟩
abbrev S128x10x2048 : Shape := ⟨3, ![128, 10, 2048]⟩
abbrev S1x2048 : Shape := ⟨2, ![1, 2048]⟩
abbrev S2048 : Shape := ⟨1, ![2048]⟩
abbrev S1x1x2048 : Shape := ⟨3, ![1, 1, 2048]⟩
abbrev S_ : Shape := ⟨0, ![]⟩

abbrev nBuf : Space → Nat
  | .hbm => 51
  | .vmem => 0
  | .smem => 0
  | _ => 0

abbrev bufTy : (tb : Table) → Fin (tcTables nBuf tb) → BufTy
  | .hbm, ⟨0, _⟩ => ⟨S1024x2048, .bf16⟩
  | .hbm, ⟨1, _⟩ => ⟨S1x2048x13344, .f32⟩
  | .hbm, ⟨2, _⟩ => ⟨S1x3x2048, .f32⟩
  | .hbm, ⟨3, _⟩ => ⟨S1x128x2x2048, .f32⟩
  | .hbm, ⟨4, _⟩ => ⟨S1024x2048, .f32⟩
  | .hbm, ⟨5, _⟩ => ⟨S128x8x2048, .f32⟩
  | .hbm, ⟨6, _⟩ => ⟨S2048x13344, .f32⟩
  | .hbm, ⟨7, _⟩ => ⟨S128x8x13344, .f32⟩
  | .hbm, ⟨8, _⟩ => ⟨S128x8x8192, .f32⟩
  | .hbm, ⟨9, _⟩ => ⟨S128x8x2048, .f32⟩
  | .hbm, ⟨10, _⟩ => ⟨S128x8x2048, .f32⟩
  | .hbm, ⟨11, _⟩ => ⟨S128x8x2048, .f32⟩
  | .hbm, ⟨12, _⟩ => ⟨S128x8x2048, .f32⟩
  | .hbm, ⟨13, _⟩ => ⟨S128x8x2048, .f32⟩
  | .hbm, ⟨14, _⟩ => ⟨S128x2x2048, .f32⟩
  | .hbm, ⟨15, _⟩ => ⟨S3x2048, .f32⟩
  | .hbm, ⟨16, _⟩ => ⟨S128x10x2048, .f32⟩
  | .hbm, ⟨17, _⟩ => ⟨S128x8x2048, .f32⟩
  | .hbm, ⟨18, _⟩ => ⟨S1x2048, .f32⟩
  | .hbm, ⟨19, _⟩ => ⟨S2048, .f32⟩
  | .hbm, ⟨20, _⟩ => ⟨S1x1x2048, .f32⟩
  | .hbm, ⟨21, _⟩ => ⟨S128x8x2048, .f32⟩
  | .hbm, ⟨22, _⟩ => ⟨S128x8x2048, .f32⟩
  | .hbm, ⟨23, _⟩ => ⟨S128x8x2048, .f32⟩
  | .hbm, ⟨24, _⟩ => ⟨S1x2048, .f32⟩
  | .hbm, ⟨25, _⟩ => ⟨S2048, .f32⟩
  | .hbm, ⟨26, _⟩ => ⟨S1x1x2048, .f32⟩
  | .hbm, ⟨27, _⟩ => ⟨S128x8x2048, .f32⟩
  | .hbm, ⟨28, _⟩ => ⟨S128x8x2048, .f32⟩
  | .hbm, ⟨29, _⟩ => ⟨S128x8x2048, .f32⟩
  | .hbm, ⟨30, _⟩ => ⟨S128x8x2048, .f32⟩
  | .hbm, ⟨31, _⟩ => ⟨S1x2048, .f32⟩
  | .hbm, ⟨32, _⟩ => ⟨S2048, .f32⟩
  | .hbm, ⟨33, _⟩ => ⟨S1x1x2048, .f32⟩
  | .hbm, ⟨34, _⟩ => ⟨S128x8x2048, .f32⟩
  | .hbm, ⟨35, _⟩ => ⟨S128x8x2048, .f32⟩
  | .hbm, ⟨36, _⟩ => ⟨S128x8x2048, .f32⟩
  | .hbm, ⟨37, _⟩ => ⟨S128x2x2048, .f32⟩
  | .hbm, ⟨38, _⟩ => ⟨S128x8x2048, .f32⟩
  | .hbm, ⟨39, _⟩ => ⟨S128x8x2048, .f32⟩
  | .hbm, ⟨40, _⟩ => ⟨S128x8x2048, .f32⟩
  | .hbm, ⟨41, _⟩ => ⟨S_, .f32⟩
  | .hbm, ⟨42, _⟩ => ⟨S128x8x2048, .f32⟩
  | .hbm, ⟨43, _⟩ => ⟨S128x8x2048, .f32⟩
  | .hbm, ⟨44, _⟩ => ⟨S_, .f32⟩
  | .hbm, ⟨45, _⟩ => ⟨S128x8x2048, .f32⟩
  | .hbm, ⟨46, _⟩ => ⟨S128x8x2048, .f32⟩
  | .hbm, ⟨47, _⟩ => ⟨S128x8x2048, .f32⟩
  | .hbm, ⟨48, _⟩ => ⟨S128x8x2048, .f32⟩
  | .hbm, ⟨49, _⟩ => ⟨S1024x2048, .f32⟩
  | .hbm, ⟨50, _⟩ => ⟨S1024x2048, .bf16⟩
  | _, _ => ⟨S1024x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_call0_v0 : Ref sig .tc := ⟨.hbm, 39, rfl⟩
abbrev main_call0_v1 : Ref sig .tc := ⟨.hbm, 40, rfl⟩
abbrev main_call0_cst : Ref sig .tc := ⟨.hbm, 41, rfl⟩
abbrev main_call0_v2 : Ref sig .tc := ⟨.hbm, 42, rfl⟩
abbrev main_call0_v3 : Ref sig .tc := ⟨.hbm, 43, rfl⟩
abbrev main_call0_cst_0 : Ref sig .tc := ⟨.hbm, 44, rfl⟩
abbrev main_call0_v4 : Ref sig .tc := ⟨.hbm, 45, rfl⟩
abbrev main_call0_v5 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩

abbrev nD : Nat := 1
abbrev τ : Topo := Topo.v7x

variable {F : FTy → Type} [FloatOps F]
-- ==== Kernel7.lean ====
abbrev S1024x2048 : Shape := ⟨2, ![1024, 2048]⟩
abbrev S1024x3072 : Shape := ⟨2, ![1024, 3072]⟩
abbrev S1024x128 : Shape := ⟨2, ![1024, 128]⟩
abbrev S1x128x32x64x128 : Shape := ⟨5, ![1, 128, 32, 64, 128]⟩
abbrev S1x32 : Shape := ⟨2, ![1, 32]⟩
abbrev S1x2048 : Shape := ⟨2, ![1, 2048]⟩
abbrev S128 : Shape := ⟨1, ![128]⟩
abbrev S128x1 : Shape := ⟨2, ![128, 1]⟩
abbrev S2048 : Shape := ⟨1, ![2048]⟩
abbrev S_ : Shape := ⟨0, ![]⟩
abbrev S128x2048 : Shape := ⟨2, ![128, 2048]⟩
abbrev S256 : Shape := ⟨1, ![256]⟩
abbrev S1x256 : Shape := ⟨2, ![1, 256]⟩
abbrev S128x256 : Shape := ⟨2, ![128, 256]⟩
abbrev S32 : Shape := ⟨1, ![32]⟩
abbrev S1x128 : Shape := ⟨2, ![1, 128]⟩
abbrev S32x64 : Shape := ⟨2, ![32, 64]⟩
abbrev S128x32x64x128 : Shape := ⟨4, ![128, 32, 64, 128]⟩
abbrev S128x2048x128 : Shape := ⟨3, ![128, 2048, 128]⟩
abbrev S64x2048 : Shape := ⟨2, ![64, 2048]⟩
abbrev S64x3072 : Shape := ⟨2, ![64, 3072]⟩
abbrev S64x128 : Shape := ⟨2, ![64, 128]⟩
abbrev S8x2048x128 : Shape := ⟨3, ![8, 2048, 128]⟩
abbrev S8x8x128 : Shape := ⟨3, ![8, 8, 128]⟩
abbrev S8x1x128 : Shape := ⟨3, ![8, 1, 128]⟩
abbrev S8x128 : Shape := ⟨2, ![8, 128]⟩
abbrev S128x8 : Shape := ⟨2, ![128, 8]⟩
abbrev S128x128 : Shape := ⟨2, ![128, 128]⟩
abbrev S64x256 : Shape := ⟨2, ![64, 256]⟩
abbrev S8x8x256 : Shape := ⟨3, ![8, 8, 256]⟩
abbrev S8x256 : Shape := ⟨2, ![8, 256]⟩
abbrev S8x1x256 : Shape := ⟨3, ![8, 1, 256]⟩
abbrev S64x512 : Shape := ⟨2, ![64, 512]⟩
abbrev S1x512x128 : Shape := ⟨3, ![1, 512, 128]⟩
abbrev S512x128 : Shape := ⟨2, ![512, 128]⟩
abbrev S8x512 : Shape := ⟨2, ![8, 512]⟩
abbrev S8x64 : Shape := ⟨2, ![8, 64]⟩
abbrev S512x8 : Shape := ⟨2, ![512, 8]⟩
abbrev S1x1 : Shape := ⟨2, ![1, 1]⟩
abbrev S64 : Shape := ⟨1, ![64]⟩
abbrev S64x1 : Shape := ⟨2, ![64, 1]⟩
abbrev S1x512 : Shape := ⟨2, ![1, 512]⟩

abbrev nBuf : Space → Nat
  | .hbm => 74
  | .vmem => 18
  | .smem => 0
  | _ => 0

abbrev bufTy : (tb : Table) → Fin (tcTables nBuf tb) → BufTy
  | .hbm, ⟨0, _⟩ => ⟨S1024x2048, .bf16⟩
  | .hbm, ⟨1, _⟩ => ⟨S1024x3072, .f32⟩
  | .hbm, ⟨2, _⟩ => ⟨S1024x128, .f32⟩
  | .hbm, ⟨3, _⟩ => ⟨S1x128x32x64x128, .f32⟩
  | .hbm, ⟨4, _⟩ => ⟨S1x32, .f32⟩
  | .hbm, ⟨5, _⟩ => ⟨S1x32, .f32⟩
  | .hbm, ⟨6, _⟩ => ⟨S1x2048, .f32⟩
  | .hbm, ⟨7, _⟩ => ⟨S128, .i32⟩
  | .hbm, ⟨8, _⟩ => ⟨S128x1, .i32⟩
  | .hbm, ⟨9, _⟩ => ⟨S2048, .i32⟩
  | .hbm, ⟨10, _⟩ => ⟨S1x2048, .i32⟩
  | .hbm, ⟨11, _⟩ => ⟨S_, .i32⟩
  | .hbm, ⟨12, _⟩ => ⟨S_, .i32⟩
  | .hbm, ⟨13, _⟩ => ⟨S1x2048, .i32⟩
  | .hbm, ⟨14, _⟩ => ⟨S1x2048, .i32⟩
  | .hbm, ⟨15, _⟩ => ⟨S1x2048, .i32⟩
  | .hbm, ⟨16, _⟩ => ⟨S_, .i32⟩
  | .hbm, ⟨17, _⟩ => ⟨S1x2048, .i32⟩
  | .hbm, ⟨18, _⟩ => ⟨S1x2048, .i1⟩
  | .hbm, ⟨19, _⟩ => ⟨S1x2048, .i32⟩
  | .hbm, ⟨20, _⟩ => ⟨S1x2048, .i32⟩
  | .hbm, ⟨21, _⟩ => ⟨S_, .i32⟩
  | .hbm, ⟨22, _⟩ => ⟨S1x2048, .i32⟩
  | .hbm, ⟨23, _⟩ => ⟨S1x2048, .i1⟩
  | .hbm, ⟨24, _⟩ => ⟨S1x2048, .i1⟩
  | .hbm, ⟨25, _⟩ => ⟨S_, .i32⟩
  | .hbm, ⟨26, _⟩ => ⟨S1x2048, .i32⟩
  | .hbm, ⟨27, _⟩ => ⟨S1x2048, .i32⟩
  | .hbm, ⟨28, _⟩ => ⟨S1x2048, .i32⟩
  | .hbm, ⟨29, _⟩ => ⟨S128x2048, .i32⟩
  | .hbm, ⟨30, _⟩ => ⟨S128x2048, .i32⟩
  | .hbm, ⟨31, _⟩ => ⟨S128x2048, .i1⟩
  | .hbm, ⟨32, _⟩ => ⟨S128x2048, .bf16⟩
  | .hbm, ⟨33, _⟩ => ⟨S128, .i32⟩
  | .hbm, ⟨34, _⟩ => ⟨S128x1, .i32⟩
  | .hbm, ⟨35, _⟩ => ⟨S256, .i32⟩
  | .hbm, ⟨36, _⟩ => ⟨S1x256, .i32⟩
  | .hbm, ⟨37, _⟩ => ⟨S_, .i32⟩
  | .hbm, ⟨38, _⟩ => ⟨S_, .i32⟩
  | .hbm, ⟨39, _⟩ => ⟨S1x256, .i32⟩
  | .hbm, ⟨40, _⟩ => ⟨S1x256, .i32⟩
  | .hbm, ⟨41, _⟩ => ⟨S1x256, .i32⟩
  | .hbm, ⟨42, _⟩ => ⟨S_, .i32⟩
  | .hbm, ⟨43, _⟩ => ⟨S1x256, .i32⟩
  | .hbm, ⟨44, _⟩ => ⟨S1x256, .i1⟩
  | .hbm, ⟨45, _⟩ => ⟨S1x256, .i32⟩
  | .hbm, ⟨46, _⟩ => ⟨S1x256, .i32⟩
  | .hbm, ⟨47, _⟩ => ⟨S_, .i32⟩
  | .hbm, ⟨48, _⟩ => ⟨S1x256, .i32⟩
  | .hbm, ⟨49, _⟩ => ⟨S1x256, .i1⟩
  | .hbm, ⟨50, _⟩ => ⟨S1x256, .i1⟩
  | .hbm, ⟨51, _⟩ => ⟨S_, .i32⟩
  | .hbm, ⟨52, _⟩ => ⟨S1x256, .i32⟩
  | .hbm, ⟨53, _⟩ => ⟨S1x256, .i32⟩
  | .hbm, ⟨54, _⟩ => ⟨S1x256, .i32⟩
  | .hbm, ⟨55, _⟩ => ⟨S128x256, .i32⟩
  | .hbm, ⟨56, _⟩ => ⟨S128x256, .i32⟩
  | .hbm, ⟨57, _⟩ => ⟨S128x256, .i1⟩
  | .hbm, ⟨58, _⟩ => ⟨S128x256, .bf16⟩
  | .hbm, ⟨59, _⟩ => ⟨S32, .f32⟩
  | .hbm, ⟨60, _⟩ => ⟨S_, .i32⟩
  | .hbm, ⟨61, _⟩ => ⟨S_, .f32⟩
  | .hbm, ⟨62, _⟩ => ⟨S128, .f32⟩
  | .hbm, ⟨63, _⟩ => ⟨S1x128, .f32⟩
  | .hbm, ⟨64, _⟩ => ⟨S32, .f32⟩
  | .hbm, ⟨65, _⟩ => ⟨S32x64, .f32⟩
  | .hbm, ⟨66, _⟩ => ⟨S2048, .f32⟩
  | .hbm, ⟨67, _⟩ => ⟨S1x2048, .f32⟩
  | .hbm, ⟨68, _⟩ => ⟨S2048, .f32⟩
  | .hbm, ⟨69, _⟩ => ⟨S1x2048, .f32⟩
  | .hbm, ⟨70, _⟩ => ⟨S128x32x64x128, .f32⟩
  | .hbm, ⟨71, _⟩ => ⟨S128x2048x128, .f32⟩
  | .hbm, ⟨72, _⟩ => ⟨S1024x2048, .bf16⟩
  | .hbm, ⟨73, _⟩ => ⟨S128x2048x128, .f32⟩
  | .local _ .vmem, ⟨0, _⟩ => ⟨S64x2048, .bf16⟩
  | .local _ .vmem, ⟨1, _⟩ => ⟨S64x2048, .bf16⟩
  | .local _ .vmem, ⟨2, _⟩ => ⟨S64x3072, .f32⟩
  | .local _ .vmem, ⟨3, _⟩ => ⟨S64x3072, .f32⟩
  | .local _ .vmem, ⟨4, _⟩ => ⟨S64x128, .f32⟩
  | .local _ .vmem, ⟨5, _⟩ => ⟨S64x128, .f32⟩
  | .local _ .vmem, ⟨6, _⟩ => ⟨S8x2048x128, .f32⟩
  | .local _ .vmem, ⟨7, _⟩ => ⟨S8x2048x128, .f32⟩
  | .local _ .vmem, ⟨8, _⟩ => ⟨S1x128, .f32⟩
  | .local _ .vmem, ⟨9, _⟩ => ⟨S128x2048, .bf16⟩
  | .local _ .vmem, ⟨10, _⟩ => ⟨S128x256, .bf16⟩
  | .local _ .vmem, ⟨11, _⟩ => ⟨S1x2048, .f32⟩
  | .local _ .vmem, ⟨12, _⟩ => ⟨S1x2048, .f32⟩
  | .local _ .vmem, ⟨13, _⟩ => ⟨S64x2048, .bf16⟩
  | .local _ .vmem, ⟨14, _⟩ => ⟨S64x2048, .bf16⟩
  | .local _ .vmem, ⟨15, _⟩ => ⟨S8x2048x128, .f32⟩
  | .local _ .vmem, ⟨16, _⟩ => ⟨S8x2048x128, .f32⟩
  | .local _ .vmem, ⟨17, _⟩ => ⟨S64x2048, .f32⟩
  | _, _ => ⟨S1024x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_c : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_0 : Ref sig .tc := ⟨.hbm, 25, rfl⟩
abbrev main_call0_v12 : Ref sig .tc := ⟨.hbm, 26, rfl⟩
abbrev main_call0_v13 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_c_0 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_call1_v5 : Ref sig .tc := ⟨.hbm, 43, rfl⟩
abbrev main_call1_v6 : Ref sig .tc := ⟨.hbm, 44, rfl⟩
abbrev main_call1_v7 : Ref sig .tc := ⟨.hbm, 45, rfl⟩
abbrev main_call1_v8 : Ref sig .tc := ⟨.hbm, 46, rfl⟩
abbrev main_call1_c : Ref sig .tc := ⟨.hbm, 47, rfl⟩
abbrev main_call1_v9 : Ref sig .tc := ⟨.hbm, 48, rfl⟩
abbrev main_call1_v10 : Ref sig .tc := ⟨.hbm, 49, rfl⟩
abbrev main_call1_v11 : Ref sig .tc := ⟨.hbm, 50, rfl⟩
abbrev main_call1_c_0 : Ref sig .tc := ⟨.hbm, 51, rfl⟩
abbrev main_call1_v12 : Ref sig .tc := ⟨.hbm, 52, rfl⟩
abbrev main_call1_v13 : Ref sig .tc := ⟨.hbm, 53, rfl⟩
abbrev main_v13 : Ref sig .tc := ⟨.hbm, 54, rfl⟩
abbrev main_v14 : Ref sig .tc := ⟨.hbm, 55, rfl⟩
abbrev main_v15 : Ref sig .tc := ⟨.hbm, 56, rfl⟩
abbrev main_v16 : Ref sig .tc := ⟨.hbm, 57, rfl⟩
abbrev main_v17 : Ref sig .tc := ⟨.hbm, 58, rfl⟩
abbrev main_v18 : Ref sig .tc := ⟨.hbm, 59, rfl⟩
abbrev main_c_1 : Ref sig .tc := ⟨.hbm, 60, rfl⟩
abbrev main_call2_v0 : Ref sig .tc := ⟨.hbm, 61, rfl⟩
abbrev main_v19 : Ref sig .tc := ⟨.hbm, 62, rfl⟩
abbrev main_v20 : Ref sig .tc := ⟨.hbm, 63, rfl⟩
abbrev main_v21 : Ref sig .tc := ⟨.hbm, 64, rfl⟩
abbrev main_v22 : Ref sig .tc := ⟨.hbm, 65, rfl⟩
abbrev main_v23 : Ref sig .tc := ⟨.hbm, 66, rfl⟩
abbrev main_v24 : Ref sig .tc := ⟨.hbm, 67, rfl⟩
abbrev main_v25 : Ref sig .tc := ⟨.hbm, 68, rfl⟩
abbrev main_v26 : Ref sig .tc := ⟨.hbm, 69, rfl⟩
abbrev main_v27 : Ref sig .tc := ⟨.hbm, 70, rfl⟩
abbrev main_v28 : Ref sig .tc := ⟨.hbm, 71, rfl⟩
abbrev main_v29_0 : Ref sig .tc := ⟨.hbm, 72, rfl⟩
abbrev main_v29_1 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S64x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S64x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S8x2048x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference7Ideal.lean ====
abbrev S1024x2048 : Shape := ⟨2, ![1024, 2048]⟩
abbrev S1024x3072 : Shape := ⟨2, ![1024, 3072]⟩
abbrev S1024x128 : Shape := ⟨2, ![1024, 128]⟩
abbrev S1x128x32x64x128 : Shape := ⟨5, ![1, 128, 32, 64, 128]⟩
abbrev S1x32 : Shape := ⟨2, ![1, 32]⟩
abbrev S1x2048 : Shape := ⟨2, ![1, 2048]⟩
abbrev S128x8x3072 : Shape := ⟨3, ![128, 8, 3072]⟩
abbrev S128x8x2048 : Shape := ⟨3, ![128, 8, 2048]⟩
abbrev S128x8x512 : Shape := ⟨3, ![128, 8, 512]⟩
abbrev S128x8x4x128 : Shape := ⟨4, ![128, 8, 4, 128]⟩
abbrev S128x1x8x4x128 : Shape := ⟨5, ![128, 1, 8, 4, 128]⟩
abbrev S1024x32 : Shape := ⟨2, ![1024, 32]⟩
abbrev S128x8x32 : Shape := ⟨3, ![128, 8, 32]⟩
abbrev S32 : Shape := ⟨1, ![32]⟩
abbrev S128x8x32x64 : Shape := ⟨4, ![128, 8, 32, 64]⟩
abbrev S128x8x32x1 : Shape := ⟨4, ![128, 8, 32, 1]⟩
abbrev S128x1x8x4x8x64 : Shape := ⟨6, ![128, 1, 8, 4, 8, 64]⟩
abbrev S1x1x32 : Shape := ⟨3, ![1, 1, 32]⟩
abbrev S128x1x8x4x8 : Shape := ⟨5, ![128, 1, 8, 4, 8]⟩
abbrev S_ : Shape := ⟨0, ![]⟩
abbrev S8x8 : Shape := ⟨2, ![8, 8]⟩
abbrev S1x1x8x8x1x1 : Shape := ⟨6, ![1, 1, 8, 8, 1, 1]⟩
abbrev S128x1x8x1x4x8 : Shape := ⟨6, ![128, 1, 8, 1, 4, 8]⟩
abbrev S128x1x1x8x4x8 : Shape := ⟨6, ![128, 1, 1, 8, 4, 8]⟩
abbrev S128x1x8x8x4x8 : Shape := ⟨6, ![128, 1, 8, 8, 4, 8]⟩
abbrev S128x1x4x8x8 : Shape := ⟨5, ![128, 1, 4, 8, 8]⟩
abbrev S128x1x8x8x4 : Shape := ⟨5, ![128, 1, 8, 8, 4]⟩
abbrev S128x1x8x8x4x1 : Shape := ⟨6, ![128, 1, 8, 8, 4, 1]⟩
abbrev S128x1x4x8x64x8 : Shape := ⟨6, ![128, 1, 4, 8, 64, 8]⟩
abbrev S128x1x1x4x8 : Shape := ⟨5, ![128, 1, 1, 4, 8]⟩
abbrev S128x1x8x4x8x1 : Shape := ⟨6, ![128, 1, 8, 4, 8, 1]⟩
abbrev S128x1x4x8x64x128 : Shape := ⟨6, ![128, 1, 4, 8, 64, 128]⟩
abbrev S128x1x4x8 : Shape := ⟨4, ![128, 1, 4, 8]⟩
abbrev S128x32x64x128 : Shape := ⟨4, ![128, 32, 64, 128]⟩
abbrev S128x4x8x64x128 : Shape := ⟨5, ![128, 4, 8, 64, 128]⟩
abbrev S128x4x8 : Shape := ⟨3, ![128, 4, 8]⟩
abbrev S128x4x8x1x1 : Shape := ⟨5, ![128, 4, 8, 1, 1]⟩
abbrev S32x1 : Shape := ⟨2, ![32, 1]⟩
abbrev S1x1x32x1 : Shape := ⟨4, ![1, 1, 32, 1]⟩
abbrev S2048 : Shape := ⟨1, ![2048]⟩
abbrev S128x8x4x512 : Shape := ⟨4, ![128, 8, 4, 512]⟩
abbrev S128x8x4 : Shape := ⟨3, ![128, 8, 4]⟩
abbrev S128x8x4x1 : Shape := ⟨4, ![128, 8, 4, 1]⟩
abbrev S1x1x2048 : Shape := ⟨3, ![1, 1, 2048]⟩
abbrev S128x2048x128 : Shape := ⟨3, ![128, 2048, 128]⟩

abbrev nBuf : Space → Nat
  | .hbm => 123
  | .vmem => 0
  | .smem => 0
  | _ => 0

abbrev bufTy : (tb : Table) → Fin (tcTables nBuf tb) → BufTy
  | .hbm, ⟨0, _⟩ => ⟨S1024x2048, .bf16⟩
  | .hbm, ⟨1, _⟩ => ⟨S1024x3072, .f32⟩
  | .hbm, ⟨2, _⟩ => ⟨S1024x128, .f32⟩
  | .hbm, ⟨3, _⟩ => ⟨S1x128x32x64x128, .f32⟩
  | .hbm, ⟨4, _⟩ => ⟨S1x32, .f32⟩
  | .hbm, ⟨5, _⟩ => ⟨S1x32, .f32⟩
  | .hbm, ⟨6, _⟩ => ⟨S1x2048, .f32⟩
  | .hbm, ⟨7, _⟩ => ⟨S128x8x3072, .f32⟩
  | .hbm, ⟨8, _⟩ => ⟨S128x8x2048, .f32⟩
  | .hbm, ⟨9, _⟩ => ⟨S128x8x512, .f32⟩
  | .hbm, ⟨10, _⟩ => ⟨S128x8x512, .f32⟩
  | .hbm, ⟨11, _⟩ => ⟨S128x8x4x128, .f32⟩
  | .hbm, ⟨12, _⟩ => ⟨S128x1x8x4x128, .f32⟩
  | .hbm, ⟨13, _⟩ => ⟨S128x8x4x128, .f32⟩
  | .hbm, ⟨14, _⟩ => ⟨S128x1x8x4x128, .f32⟩
  | .hbm, ⟨15, _⟩ => ⟨S1024x32, .f32⟩
  | .hbm, ⟨16, _⟩ => ⟨S128x8x32, .f32⟩
  | .hbm, ⟨17, _⟩ => ⟨S32, .f32⟩
  | .hbm, ⟨18, _⟩ => ⟨S32, .f32⟩
  | .hbm, ⟨19, _⟩ => ⟨S32, .f32⟩
  | .hbm, ⟨20, _⟩ => ⟨S128x8x32x64, .f32⟩
  | .hbm, ⟨21, _⟩ => ⟨S128x8x32x1, .f32⟩
  | .hbm, ⟨22, _⟩ => ⟨S128x8x32x64, .f32⟩
  | .hbm, ⟨23, _⟩ => ⟨S128x8x32x64, .f32⟩
  | .hbm, ⟨24, _⟩ => ⟨S128x1x8x4x8x64, .f32⟩
  | .hbm, ⟨25, _⟩ => ⟨S1x1x32, .f32⟩
  | .hbm, ⟨26, _⟩ => ⟨S128x8x32, .f32⟩
  | .hbm, ⟨27, _⟩ => ⟨S128x8x32, .f32⟩
  | .hbm, ⟨28, _⟩ => ⟨S128x1x8x4x8, .f32⟩
  | .hbm, ⟨29, _⟩ => ⟨S_, .f32⟩
  | .hbm, ⟨30, _⟩ => ⟨S_, .f32⟩
  | .hbm, ⟨31, _⟩ => ⟨S128x1x8x4x8, .f32⟩
  | .hbm, ⟨32, _⟩ => ⟨S_, .i1⟩
  | .hbm, ⟨33, _⟩ => ⟨S8x8, .i1⟩
  | .hbm, ⟨34, _⟩ => ⟨S8x8, .i32⟩
  | .hbm, ⟨35, _⟩ => ⟨S_, .i32⟩
  | .hbm, ⟨36, _⟩ => ⟨S8x8, .i32⟩
  | .hbm, ⟨37, _⟩ => ⟨S8x8, .i32⟩
  | .hbm, ⟨38, _⟩ => ⟨S8x8, .i32⟩
  | .hbm, ⟨39, _⟩ => ⟨S8x8, .i1⟩
  | .hbm, ⟨40, _⟩ => ⟨S_, .i1⟩
  | .hbm, ⟨41, _⟩ => ⟨S8x8, .i1⟩
  | .hbm, ⟨42, _⟩ => ⟨S8x8, .i1⟩
  | .hbm, ⟨43, _⟩ => ⟨S1x1x8x8x1x1, .i1⟩
  | .hbm, ⟨44, _⟩ => ⟨S128x1x8x1x4x8, .f32⟩
  | .hbm, ⟨45, _⟩ => ⟨S128x1x1x8x4x8, .f32⟩
  | .hbm, ⟨46, _⟩ => ⟨S128x1x8x8x4x8, .f32⟩
  | .hbm, ⟨47, _⟩ => ⟨S128x1x8x8x4x8, .f32⟩
  | .hbm, ⟨48, _⟩ => ⟨S128x1x8x8x4x8, .f32⟩
  | .hbm, ⟨49, _⟩ => ⟨S_, .f32⟩
  | .hbm, ⟨50, _⟩ => ⟨S_, .f32⟩
  | .hbm, ⟨51, _⟩ => ⟨S128x1x8x8x4x8, .i1⟩
  | .hbm, ⟨52, _⟩ => ⟨S128x1x8x8x4x8, .f32⟩
  | .hbm, ⟨53, _⟩ => ⟨S128x1x8x8x4x8, .f32⟩
  | .hbm, ⟨54, _⟩ => ⟨S128x1x8x8x4x8, .f32⟩
  | .hbm, ⟨55, _⟩ => ⟨S128x1x4x8x8, .f32⟩
  | .hbm, ⟨56, _⟩ => ⟨S128x1x8x8x4, .f32⟩
  | .hbm, ⟨57, _⟩ => ⟨S128x1x8x8x4x1, .f32⟩
  | .hbm, ⟨58, _⟩ => ⟨S128x1x8x8x4x8, .f32⟩
  | .hbm, ⟨59, _⟩ => ⟨S128x1x8x8x4x8, .f32⟩
  | .hbm, ⟨60, _⟩ => ⟨S128x1x4x8x64x8, .f32⟩
  | .hbm, ⟨61, _⟩ => ⟨S128x1x8x4x8x64, .f32⟩
  | .hbm, ⟨62, _⟩ => ⟨S128x1x1x4x8, .f32⟩
  | .hbm, ⟨63, _⟩ => ⟨S128x1x8x4x8, .f32⟩
  | .hbm, ⟨64, _⟩ => ⟨S128x1x8x4x8, .f32⟩
  | .hbm, ⟨65, _⟩ => ⟨S128x1x8x4x8, .f32⟩
  | .hbm, ⟨66, _⟩ => ⟨S128x1x8x4x8x1, .f32⟩
  | .hbm, ⟨67, _⟩ => ⟨S128x1x8x4x8x64, .f32⟩
  | .hbm, ⟨68, _⟩ => ⟨S128x1x8x4x8x64, .f32⟩
  | .hbm, ⟨69, _⟩ => ⟨S128x1x4x8x64x128, .f32⟩
  | .hbm, ⟨70, _⟩ => ⟨S128x1x1x4x8, .f32⟩
  | .hbm, ⟨71, _⟩ => ⟨S128x1x4x8, .f32⟩
  | .hbm, ⟨72, _⟩ => ⟨S128x1x4x8, .f32⟩
  | .hbm, ⟨73, _⟩ => ⟨S128x32x64x128, .f32⟩
  | .hbm, ⟨74, _⟩ => ⟨S128x4x8x64x128, .f32⟩
  | .hbm, ⟨75, _⟩ => ⟨S128x4x8, .f32⟩
  | .hbm, ⟨76, _⟩ => ⟨S128x4x8x1x1, .f32⟩
  | .hbm, ⟨77, _⟩ => ⟨S128x4x8x64x128, .f32⟩
  | .hbm, ⟨78, _⟩ => ⟨S128x4x8x64x128, .f32⟩
  | .hbm, ⟨79, _⟩ => ⟨S128x4x8x64x128, .f32⟩
  | .hbm, ⟨80, _⟩ => ⟨S128x4x8x64x128, .f32⟩
  | .hbm, ⟨81, _⟩ => ⟨S128x1x4x8x64x128, .f32⟩
  | .hbm, ⟨82, _⟩ => ⟨S128x1x4x8x64x8, .f32⟩
  | .hbm, ⟨83, _⟩ => ⟨S128x1x8x4x8x64, .f32⟩
  | .hbm, ⟨84, _⟩ => ⟨S128x1x8x4x8, .f32⟩
  | .hbm, ⟨85, _⟩ => ⟨S128x1x8x4x8x1, .f32⟩
  | .hbm, ⟨86, _⟩ => ⟨S128x1x8x4x8x64, .f32⟩
  | .hbm, ⟨87, _⟩ => ⟨S128x1x8x4x8x64, .f32⟩
  | .hbm, ⟨88, _⟩ => ⟨S128x1x8x4x8x64, .f32⟩
  | .hbm, ⟨89, _⟩ => ⟨S128x8x32x64, .f32⟩
  | .hbm, ⟨90, _⟩ => ⟨S128x8x32x64, .f32⟩
  | .hbm, ⟨91, _⟩ => ⟨S32, .f32⟩
  | .hbm, ⟨92, _⟩ => ⟨S32x1, .f32⟩
  | .hbm, ⟨93, _⟩ => ⟨S1x1x32x1, .f32⟩
  | .hbm, ⟨94, _⟩ => ⟨S128x8x32x64, .f32⟩
  | .hbm, ⟨95, _⟩ => ⟨S128x8x32x64, .f32⟩
  | .hbm, ⟨96, _⟩ => ⟨S128x8x32x64, .f32⟩
  | .hbm, ⟨97, _⟩ => ⟨S128x8x2048, .f32⟩
  | .hbm, ⟨98, _⟩ => ⟨S1024x2048, .f32⟩
  | .hbm, ⟨99, _⟩ => ⟨S128x8x2048, .f32⟩
  | .hbm, ⟨100, _⟩ => ⟨S128x8x2048, .f32⟩
  | .hbm, ⟨101, _⟩ => ⟨S2048, .f32⟩
  | .hbm, ⟨102, _⟩ => ⟨S128x8x4x512, .f32⟩
  | .hbm, ⟨103, _⟩ => ⟨S128x8x4x512, .f32⟩
  | .hbm, ⟨104, _⟩ => ⟨S_, .f32⟩
  | .hbm, ⟨105, _⟩ => ⟨S128x8x4, .f32⟩
  | .hbm, ⟨106, _⟩ => ⟨S128x8x4x1, .f32⟩
  | .hbm, ⟨107, _⟩ => ⟨S_, .f32⟩
  | .hbm, ⟨108, _⟩ => ⟨S128x8x4x1, .f32⟩
  | .hbm, ⟨109, _⟩ => ⟨S128x8x4x1, .f32⟩
  | .hbm, ⟨110, _⟩ => ⟨S_, .f32⟩
  | .hbm, ⟨111, _⟩ => ⟨S128x8x4x1, .f32⟩
  | .hbm, ⟨112, _⟩ => ⟨S128x8x4x1, .f32⟩
  | .hbm, ⟨113, _⟩ => ⟨S128x8x4x1, .f32⟩
  | .hbm, ⟨114, _⟩ => ⟨S128x8x4x512, .f32⟩
  | .hbm, ⟨115, _⟩ => ⟨S128x8x4x512, .f32⟩
  | .hbm, ⟨116, _⟩ => ⟨S128x8x2048, .f32⟩
  | .hbm, ⟨117, _⟩ => ⟨S1x1x2048, .f32⟩
  | .hbm, ⟨118, _⟩ => ⟨S128x8x2048, .f32⟩
  | .hbm, ⟨119, _⟩ => ⟨S128x8x2048, .f32⟩
  | .hbm, ⟨120, _⟩ => ⟨S1024x2048, .f32⟩
  | .hbm, ⟨121, _⟩ => ⟨S1024x2048, .bf16⟩
  | .hbm, ⟨122, _⟩ => ⟨S128x2048x128, .f32⟩
  | _, _ => ⟨S1024x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_call0_call0_cst : Ref sig .tc := ⟨.hbm, 29, rfl⟩
abbrev main_call0_call0_v0 : Ref sig .tc := ⟨.hbm, 30, rfl⟩
abbrev main_v22 : Ref sig .tc := ⟨.hbm, 31, rfl⟩
abbrev main_c : Ref sig .tc := ⟨.hbm, 32, rfl⟩
abbrev main_v23 : Ref sig .tc := ⟨.hbm, 33, rfl⟩
abbrev main_call1_v0 : Ref sig .tc := ⟨.hbm, 34, rfl⟩
abbrev main_call1_c : Ref sig .tc := ⟨.hbm, 35, rfl⟩
abbrev main_call1_v1 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_call1_c_0 : Ref sig .tc := ⟨.hbm, 40, rfl⟩
abbrev main_call1_v5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst : Ref sig .tc := ⟨.hbm, 49, rfl⟩
abbrev main_call2_v0 : Ref sig .tc := ⟨.hbm, 50, rfl⟩
abbrev main_call2_v1 : Ref sig .tc := ⟨.hbm, 51, rfl⟩
abbrev main_call2_v2 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_cst_0 : Ref sig .tc := ⟨.hbm, 104, rfl⟩
abbrev main_v82 : Ref sig .tc := ⟨.hbm, 105, rfl⟩
abbrev main_v83 : Ref sig .tc := ⟨.hbm, 106, rfl⟩
abbrev main_cst_1 : Ref sig .tc := ⟨.hbm, 107, rfl⟩
abbrev main_v84 : Ref sig .tc := ⟨.hbm, 108, rfl⟩
abbrev main_v85 : Ref sig .tc := ⟨.hbm, 109, rfl⟩
abbrev main_cst_2 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩

abbrev nD : Nat := 1
abbrev τ : Topo := Topo.v7x

variable {F : FTy → Type} [FloatOps F]
-- ==== Proof.RefRun.lean ====
/- The reference's run read at a buffer: what is written before the loop keeps its value through the loop and after
   it, and the arguments keep theirs from the launch. -/
module

public import proofs.«01_k».proof.Proof.Gen.ReferenceIdeal.Run
public import Idealize.ShloMosaic.Lib.Quiescent

@[expose] public section

set_option maxRecDepth 16384

noncomputable section

namespace Cert.RefRun

open Idealize.ShloMosaic Idealize.ShloMosaic.StableHlo Idealize.SL.Sem
open Cert.ReferenceIdeal Cert.ReferenceIdeal.Gen Cert.ReferenceIdeal.Value

variable {F : FTy → Type} [FloatOps F]

/-- A buffer no stretch before the loop writes. -/
abbrev pre_W : List (Ref sig .tc) :=
  hostOps0_W ++ hostOps0_1_W ++ hostOps0_2_W ++ hostOps0_3_W ++ hostOps0_4_W ++ hostOps0_5_W ++ hostOps0_6_W

/-- The buffers the loop writes. -/
abbrev loop_W : List (Ref sig .tc) :=
  condOps_W ++ while0Ops0_W ++ while0Ops0_1_W ++ while0Ops0_2_W ++ while0Ops0_3_W ++ while0Ops0_4_W

/-- A buffer the loop's body does not write keeps its contents through one trip. -/
theorem trip_keep (V : Valuation τ sig (Elt F)) (r : Ref sig .tc) (h : r ∉ loop_W) :
    afterL bodyI (after condOps V) (Proc.devRef .tc r) = V (Proc.devRef .tc r) := by
  simp only [loop_W, List.mem_append, not_or] at h
  obtain ⟨⟨⟨⟨⟨h0, h1⟩, h2⟩, h3⟩, h4⟩, h5⟩ := h
  simp only [afterL_cons, afterL_nil]
  rw [after_of_writes_sub while0Ops0_4 _ while0Ops0_4_writes h5, after_of_writes_sub while0Ops0_3 _ while0Ops0_3_writes h4,
    after_of_writes_sub while0Ops0_2 _ while0Ops0_2_writes h3, after_of_writes_sub while0Ops0_1 _ while0Ops0_1_writes h2,
    after_of_writes_sub while0Ops0 _ while0Ops0_writes h1, after_of_writes_sub condOps _ condOps_writes h0]

variable (m : (ℓ : Loc nD τ sig) → Buf (Elt F) ℓ)

/-- Such a buffer is, before every trip, as it was at the loop's entry. -/
theorem atK_keep (c : Dev nD) (r : Ref sig .tc) (h : r ∉ loop_W) :
    ∀ k, atK m k c (Proc.devRef .tc r) = entryContents preI m c (Proc.devRef .tc r)
  | 0 => rfl
  | k + 1 => (trip_keep (atK m k c) r h).trans (atK_keep c r h k)

/-- The contents the operations after the loop start from. -/
def atEnd (c : Dev nD) : Valuation τ sig (Elt F) := after condOps (atK m 16 c)

theorem atEnd_keep (c : Dev nD) (r : Ref sig .tc) (h : r ∉ loop_W) :
    atEnd m c (Proc.devRef .tc r) = entryContents preI m c (Proc.devRef .tc r) := by
  have h0 : r ∉ condOps_W := fun hh => h (by simp only [loop_W, List.mem_append]; tauto)
  exact (after_of_writes_sub condOps _ condOps_writes h0).trans (atK_keep m c r h 16)

/-- The carried buffers after the loop are the sixteenth step's. -/
theorem atEnd_carried (c : Dev nD) (r : Ref sig .tc) (h : r ∈ carriedRefs) :
    atEnd m c (Proc.devRef .tc r) = STEP^[16] (entryContents preI m c) (Proc.devRef .tc r) :=
  (cond_keeps (atK m 16 c) r h).trans (atK_agree m c 16 r h)

/-- A buffer no stretch before the loop writes is, at the loop's entry, as at the launch. -/
theorem entry_keep (c : Dev nD) (r : Ref sig .tc) (h : r ∉ pre_W) :
    entryContents preI m c (Proc.devRef .tc r) = launchContents m c (Proc.devRef .tc r) := by
  simp only [pre_W, List.mem_append, not_or] at h
  obtain ⟨⟨⟨⟨⟨⟨h0, h1⟩, h2⟩, h3⟩, h4⟩, h5⟩, h6⟩ := h
  simp only [entryContents, afterL_cons, afterL_nil]
  rw [after_of_writes_sub hostOps0_6 _ hostOps0_6_writes h6, after_of_writes_sub hostOps0_5 _ hostOps0_5_writes h5,
    after_of_writes_sub hostOps0_4 _ hostOps0_4_writes h4, after_of_writes_sub hostOps0_3 _ hostOps0_3_writes h3,
    after_of_writes_sub hostOps0_2 _ hostOps0_2_writes h2, after_of_writes_sub hostOps0_1 _ hostOps0_1_writes h1,
    after_of_writes_sub hostOps0 _ hostOps0_writes h0]

/-- The buffers the operations after the loop write, in order. -/
abbrev hostOps0_7_W : List (Ref sig .tc) := [main_v58, main_v59, main_v60, main_v61, main_v62, main_v63, main_v64, main_v65, main_v66, main_v67, main_v68, main_v69, main_v70, main_v71, main_v72, main_v73, main_v74, main_v75, main_v76, main_v77, main_v78, main_v79, main_cst_3, main_v80, main_v81, main_cst_4, main_v82, main_v83, main_cst_5, main_v84, main_v85, main_v86, main_v87, main_v88, main_v89, main_v90, main_v91, main_v92, main_v93, main_v94, main_v95, main_v96, main_v97]
theorem hostOps0_7_writes : (hostOps0_7 : List (HloOp τ sig (Elt F))).Forall fun op => op.writes ⊆ (hostOps0_7_W.map (Proc.devRef (τ := τ) .tc)).toFinset :=
  StableHlo.forall_writes_sub_of_map rfl

/-- What the run ends with at a buffer. -/
theorem final_eq (c : Dev nD) (r : Ref sig .tc) :
    finalContents condOps preI bodyI postI 16 m c (Proc.devRef .tc r) = after hostOps0_7 (atEnd m c) (Proc.devRef .tc r) := rfl

/-- A buffer nothing writes ends as at the launch. -/
theorem final_keep (c : Dev nD) (r : Ref sig .tc) (h : r ∉ pre_W) (h' : r ∉ loop_W) (h'' : r ∉ hostOps0_7_W) :
    finalContents condOps preI bodyI postI 16 m c (Proc.devRef .tc r) = m ((c.tc : Thread nD τ).loc r) :=
  (after_of_writes_sub hostOps0_7 _ hostOps0_7_writes h'').trans ((atEnd_keep m c r h').trans (entry_keep m c r h))

/-- The reference runs, leaves its arguments and ends with its counters at zero. -/
theorem frame (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run _ _ _).mono (fun r h => ⟨fun c =>
    ⟨(h c main_arg0 rfl).trans (final_keep m c _ (by decide +kernel) (by decide +kernel) (by decide +kernel)),
     (h c main_arg1 rfl).trans (final_keep m c _ (by decide +kernel) (by decide +kernel) (by decide +kernel)),
     (h c main_arg2 rfl).trans (final_keep m c _ (by decide +kernel) (by decide +kernel) (by decide +kernel)),
     (h c main_arg3 rfl).trans (final_keep m c _ (by decide +kernel) (by decide +kernel) (by decide +kernel)),
     (h c main_arg4 rfl).trans (final_keep m c _ (by decide +kernel) (by decide +kernel) (by decide +kernel)),
     (h c main_arg5 rfl).trans (final_keep m c _ (by decide +kernel) (by decide +kernel) (by decide +kernel)),
     (h c main_arg6 rfl).trans (final_keep m c _ (by decide +kernel) (by decide +kernel) (by decide +kernel))⟩,
    sem_eq_zero_of_no_sems (by decide) r.2⟩) (run_fold m ρ)

end Cert.RefRun

end
-- ==== Proof.Chunk.lean ====
module

public import proofs.«01_k».proof.Proof.Gen.KernelIdeal.Value
public import Idealize.ShloMosaic.Lib.Pipeline.ValueKit

@[expose] public section

set_option maxRecDepth 16384

noncomputable section

/-! The vector expressions that the body of the scan evaluates for each chunk of 128 tokens, each stated once and over any
    floats: the chunk's running sums of `dt · A` and what follows from them, a group's products, a pair of heads, the next state. -/

namespace Cert.Scan

open Idealize.ShloMosaic Idealize.ShloMosaic.TcCoe
open Cert.KernelIdeal Cert.KernelIdeal.Facts₀

variable {F : FTy → Type} [FloatOps F] [Named F]

/-- The causal mask: row index at least column index. -/
def causal : IVec S128x128 1 :=
  cmpi .sge (iota .tc S128x128 32 [0] iota_S128x128_d0_w32) (iota .tc S128x128 32 [1] iota_S128x128_d1_w32)

/-- The lanes of the first head of a pair. -/
def laneLo : IVec S128x128 1 :=
  cmpi .slt (iota .tc S128x128 32 [1] iota_S128x128_d1_w32) (broadcast S128x128 64#32)

/-- The row index modulo 128, as the kernel spells it. -/
def rowMod : IVec S128x128 32 :=
  have v21 : IVec S128x128 32 := iota .tc S128x128 32 [0] iota_S128x128_d0_w32
  have v23 : BitVec 32 := Scalar.select (Scalar.cmpi .eq 128#32 0#32) 1#32 128#32
  have v25 : IVec S128x128 32 := remsi v21 (broadcast S128x128 v23)
  have v27 : IVec S128x128 1 := cmpi .ne v25 (broadcast S128x128 0#32)
  have v29 : IVec S128x128 1 := cmpi .slt v25 (broadcast S128x128 0#32)
  have v31 : IVec S128x128 1 := broadcast S128x128 (Scalar.cmpi .slt v23 0#32)
  have v32 : IVec S128x128 1 := broadcastTo S128x128 v31 broadcasts_S128x128_S128x128
  have v34 : IVec S128x128 1 := andi (xori v29 v32) v27
  select v34 (addi v25 (broadcast S128x128 v23)) v25

/-- `-exp(a_log)` as a row. -/
def negExp (al : FVec F S1x128 .f32) : FVec F S1x128 .f32 :=
  subf (broadcast S1x128 (Scalar.ofBits .f32 0x00000000#32)) (exp (shapeCast S1x128 al shapeCasts_S1x128_S1x128))

/-- A chunk's `dt · A`. -/
def prod (dt : FVec F S128x128 .f32) (al : FVec F S1x128 .f32) : FVec F S128x128 .f32 :=
  mulf dt (broadcastTo S128x128 (negExp al) broadcasts_S1x128_S128x128)

/-- One step of the running sum: add the row `s` above. -/
def scanStep (s : BitVec 32) (x : FVec F S128x128 .f32) : FVec F S128x128 .f32 :=
  addf x (select (cmpi .sge rowMod (broadcast S128x128 s)) (dynamicRotate 0 s none x rotates_S128x128_d0)
    (broadcast S128x128 (Scalar.ofBits .f32 0x00000000#32)))

/-- The running sum down the rows. -/
def runSum (x : FVec F S128x128 .f32) : FVec F S128x128 .f32 :=
  scanStep 64#32 (scanStep 32#32 (scanStep 16#32 (scanStep 8#32 (scanStep 4#32 (scanStep 2#32 (scanStep 1#32 x))))))

/-- The two factors per token and head, the first over the second: `exp a` and `exp (a_last - a) · dt`. -/
def facs (ac dt : FVec F S128x128 .f32) : FVec F S256x128 .bf16 :=
  truncf .bf16 (concatenate S256x128 0 [⟨S128x128, exp ac⟩, ⟨S128x128,
    mulf (exp (subf (broadcastTo S128x128 (extractStridedSlice S1x128 ![127, 0] ac slices_S128x128_o127_0_S1x128)
      broadcasts_S1x128_S128x128) ac)) dt⟩] concatenates_S128x128_S128x128_S256x128_d0) bitsLt_bf16_f32

/-- The constant log2 e in every entry. -/
def lg : FVec F S128x128 .f32 := broadcast S128x128 (Named.named κ "log2e" 0x3FB8AA3B#32)

/-- The running sums to base two. -/
def at2 (ac : FVec F S128x128 .f32) : FVec F S128x128 .f32 := mulf ac lg

/-- Per head and token: the running sum less the logarithm of `dt`, to base two. -/
def rt (ac dt : FVec F S128x128 .f32) : FVec F S128x128 .f32 :=
  transpose S128x128 [1, 0] (subf (at2 ac) (mulf (log dt) lg)) transposes_S128x128_p1_0_S128x128

/-- The products of a group's C rows with its B rows. -/
def cbm (b cc : FVec F S128x128 .f32) : FVec F S128x128 .f32 :=
  matmul dot_S128x128_S128x128_S128x128_1_1_0_0_n_n none (truncf .bf16 cc bitsLt_bf16_f32) (truncf .bf16 b bitsLt_bf16_f32)
    (constant S128x128 .f32 0x00000000#32)

/-- C times the group's state. -/
def yoff (cc : FVec F S128x128 .f32) (h : FVec F S128x512 .f32) : FVec F S128x512 .f32 :=
  matmul dot_S128x128_S128x512_S128x512_1_0_0_1_n_n none (truncf .bf16 cc bitsLt_bf16_f32) (truncf .bf16 h bitsLt_bf16_f32)
    (constant S128x512 .f32 0x00000000#32)

/-- The factors spread over the columns of a group. -/
def spread (f : FVec F S256x128 .bf16) (ex : FVec F S128x512 .bf16) : FVec F S256x512 .f32 :=
  matmul dot_S256x128_S128x512_S256x512_1_0_0_1_n_n none f (shapeCast S128x512 ex shapeCasts_S128x512_S128x512)
    (constant S256x512 .f32 0x00000000#32)

def spreadE (f : FVec F S256x128 .bf16) (ex : FVec F S128x512 .bf16) : FVec F S128x512 .f32 :=
  extractStridedSlice S128x512 ![0, 0] (spread f ex) slices_S256x512_o0_0_S128x512

def spreadW (f : FVec F S256x128 .bf16) (ex : FVec F S128x512 .bf16) : FVec F S128x512 .f32 :=
  extractStridedSlice S128x512 ![128, 0] (spread f ex) slices_S256x512_o128_0_S128x512

/-- The matrix of one head. -/
def headMat (h : ℕ) (hs : S128x128.Slices ![0, h] S128x1) (hs' : S128x128.Slices ![h, 0] S1x128)
    (cb a2 r : FVec F S128x128 .f32) : FVec F S128x128 .bf16 :=
  truncf .bf16 (mulf cb (exp2 (select causal (subf
    (broadcastTo S128x128 (extractStridedSlice S128x1 ![0, h] a2 hs) broadcasts_S128x1_S128x128)
    (broadcastTo S128x128 (extractStridedSlice S1x128 ![h, 0] r hs') broadcasts_S1x128_S128x128))
    (broadcast S128x128 (Scalar.ofBits .f32 0xFF800000#32))))) bitsLt_bf16_f32

/-- The columns of one pair of heads: within the chunk, and from the state before it. -/
def pair (o : ℕ) (ho : S128x512.Slices ![0, o] S128x128) (m0 m1 : FVec F S128x128 .bf16) (x yo e : FVec F S128x512 .f32) :
    FVec F S128x128 .f32 :=
  have v130 : FVec F S128x128 .bf16 := truncf .bf16 (extractStridedSlice S128x128 ![0, o] x ho) bitsLt_bf16_f32
  have v132 : FVec F S128x128 .bf16 := broadcast S128x128 (Scalar.sitofp .bf16 0#32)
  have v137 : FVec F S256x128 .bf16 := concatenate S256x128 0 [⟨S128x128, select laneLo v130 v132⟩,
    ⟨S128x128, select laneLo v132 v130⟩] concatenates_S128x128_S128x128_S256x128_d0
  have v138 : FVec F S128x256 .bf16 := concatenate S128x256 1 [⟨S128x128, m0⟩, ⟨S128x128, m1⟩] concatenates_S128x128_S128x128_S128x256_d1
  have v139 : FVec F S128x128 .f32 := matmul dot_S128x256_S256x128_S128x128_1_0_0_1_n_n none v138 v137
    (constant S128x128 .f32 0x00000000#32)
  shapeCast S128x128 (addf v139 (extractStridedSlice S128x128 ![0, o] (mulf yo e) ho)) shapeCasts_S128x128_S128x128

/-- The group's next state. -/
def nextState (b : FVec F S128x128 .f32) (x h e w : FVec F S128x512 .f32) : FVec F S128x512 .f32 :=
  shapeCast S128x512 (addf (mulf h (broadcastTo S128x512 (extractStridedSlice S1x512 ![127, 0] e slices_S128x512_o127_0_S1x512)
      broadcasts_S1x512_S128x512))
    (matmul dot_S128x128_S128x512_S128x512_1_0_0_1_n_n none
      (truncf .bf16 (transpose S128x128 [1, 0] b transposes_S128x128_p1_0_S128x128) bitsLt_bf16_f32)
      (truncf .bf16 (mulf x w) bitsLt_bf16_f32) (constant S128x512 .f32 0x00000000#32))) shapeCasts_S128x512_S128x512

theorem sliceCol (g : Fin 4) (p : Fin 4) (q : Fin 2) : S128x128.Slices ![0, 8 * g.val + 2 * p.val + q.val] S128x1 := by
  revert g p q; decide
theorem sliceRow (g : Fin 4) (p : Fin 4) (q : Fin 2) : S128x128.Slices ![8 * g.val + 2 * p.val + q.val, 0] S1x128 := by
  revert g p q; decide
theorem slicePair (p : Fin 4) : S128x512.Slices ![0, 128 * p.val] S128x128 := by revert p; decide

theorem inbY (k : Fin 2) (g p : Fin 4) (a : Fin 2) :
    (![128 * k.val, 512 * g.val + 128 * p.val] : Fin 2 → ℕ) a + S128x128.size a ≤ S256x2048.size a := by
  revert k g p a; decide
theorem inbH (g : Fin 4) (a : Fin 2) : (![0, 512 * g.val] : Fin 2 → ℕ) a + S128x512.size a ≤ S128x2048.size a := by
  revert g a; decide
theorem inbX (k : Fin 2) (g : Fin 4) (a : Fin 2) :
    (![128 * k.val, 512 * g.val] : Fin 2 → ℕ) a + S128x512.size a ≤ S256x3072.size a := by revert k g a; decide
theorem inbB (k : Fin 2) (g : Fin 4) (a : Fin 2) :
    (![128 * k.val, 2048 + 128 * g.val] : Fin 2 → ℕ) a + S128x128.size a ≤ S256x3072.size a := by revert k g a; decide
theorem inbC (k : Fin 2) (g : Fin 4) (a : Fin 2) :
    (![128 * k.val, 2560 + 128 * g.val] : Fin 2 → ℕ) a + S128x128.size a ≤ S256x3072.size a := by revert k g a; decide
theorem inbD (k : Fin 2) (a : Fin 2) :
    (![128 * k.val, 0] : Fin 2 → ℕ) a + S128x128.size a ≤ S256x128.size a := by revert k a; decide

/-- A chunk's running sums. -/
def acum (dt : FVec F S128x128 .f32) (al : FVec F S1x128 .f32) : FVec F S128x128 .f32 := runSum (prod dt al)

/-- The columns of pair `p` of group `g`. -/
def pairAll (g p : Fin 4) (dt : FVec F S128x128 .f32) (al : FVec F S1x128 .f32) (b cc : FVec F S128x128 .f32)
    (x h : FVec F S128x512 .f32) (ex : FVec F S128x512 .bf16) : FVec F S128x128 .f32 :=
  pair (128 * p.val) (slicePair p)
    (headMat (8 * g.val + 2 * p.val + (0 : Fin 2).val) (sliceCol g p 0) (sliceRow g p 0) (cbm b cc) (at2 (acum dt al)) (rt (acum dt al) dt))
    (headMat (8 * g.val + 2 * p.val + (1 : Fin 2).val) (sliceCol g p 1) (sliceRow g p 1) (cbm b cc) (at2 (acum dt al)) (rt (acum dt al) dt))
    x (yoff cc h) (spreadE (facs (acum dt al) dt) ex)

/-- Group `g`'s next state. -/
def stateAll (dt : FVec F S128x128 .f32) (al : FVec F S1x128 .f32) (b : FVec F S128x128 .f32)
    (x h : FVec F S128x512 .f32) (ex : FVec F S128x512 .bf16) : FVec F S128x512 .f32 :=
  nextState b x h (spreadE (facs (acum dt al) dt) ex) (spreadW (facs (acum dt al) dt) ex)

/-- The chunks, groups and pairs in the order of the stores, the last first. -/
def order : List (Fin 2 × Fin 4 × Fin 4) :=
  [(1,3,3),(1,3,2),(1,3,1),(1,3,0),(1,2,3),(1,2,2),(1,2,1),(1,2,0),(1,1,3),(1,1,2),(1,1,1),(1,1,0),(1,0,3),(1,0,2),(1,0,1),(1,0,0),
   (0,3,3),(0,3,2),(0,3,1),(0,3,0),(0,2,3),(0,2,2),(0,2,1),(0,2,0),(0,1,3),(0,1,2),(0,1,1),(0,1,0),(0,0,3),(0,0,2),(0,0,1),(0,0,0)]

/-- The stores of the chunks' outputs. -/
def pieces (dt : Fin 2 → FVec F S128x128 .f32) (al : FVec F S1x128 .f32) (b cc : Fin 2 → Fin 4 → FVec F S128x128 .f32)
    (x h : Fin 2 → Fin 4 → FVec F S128x512 .f32) (ex : Fin 4 → FVec F S128x512 .bf16) : List (View.Piece (Elt F) S256x2048 .f32) :=
  order.map fun t => ⟨Rect.unit (s := S256x2048) ![128 * t.1.val, 512 * t.2.1.val + 128 * t.2.2.val] S128x128.size (inbY t.1 t.2.1 t.2.2),
    pairAll t.2.1 t.2.2 (dt t.1) al (b t.1 t.2.1) (cc t.1 t.2.1) (x t.1 t.2.1) (h t.1 t.2.1) (ex t.2.1)⟩

/-- The columns of a group. -/
def rectH (g : Fin 4) : Rect S128x2048 := Rect.unit (s := S128x2048) ![0, 512 * g.val] S128x512.size (inbH g)

theorem disjH {g g' : Fin 4} (h : g' ≠ g) : Disjoint (rectH g').set (rectH g).toLoadRect.set := by
  refine Rect.unit_disjoint (1 : Fin 2) ?_
  have : g'.val ≠ g.val := fun e => h (Fin.ext e)
  show 512 * g'.val + 512 ≤ 512 * g.val ∨ 512 * g.val + 512 ≤ 512 * g'.val
  omega

/-- A group's store. -/
def pieceH (g : Fin 4) (w : FVec F S128x512 .f32) : View.Piece (Elt F) S128x2048 .f32 := ⟨rectH g, w⟩

/-- A group's load of what the stores left. -/
def loadH (v : View sig .tc .vmem S128x2048 .f32) (L : List (View.Piece (Elt F) S128x2048 .f32)) (g : Fin 4) :
    FVec F S128x512 .f32 := v.readCov L (rectH g).toLoadRect

theorem loadH_hit (v : View sig .tc .vmem S128x2048 .f32) (L : List (View.Piece (Elt F) S128x2048 .f32)) (g : Fin 4)
    (w : FVec F S128x512 .f32) : loadH v (pieceH g w :: L) g = w :=
  View.readCov_cons_toLoadRect (Val := Elt F) v (rectH g) w L

theorem loadH_skip (v : View sig .tc .vmem S128x2048 .f32) (L : List (View.Piece (Elt F) S128x2048 .f32)) {g g' : Fin 4}
    (w : FVec F S128x512 .f32) (h : g' ≠ g) : loadH v (pieceH g' w :: L) g = loadH v L g :=
  View.readCov_cons_of_disjoint (Val := Elt F) v (pieceH g' w) L _ (disjH h)

/-- The stores of the groups' states, the last first, over earlier stores. -/
def statePieces (st : Fin 2 → Fin 4 → FVec F S128x512 .f32) (tail : List (View.Piece (Elt F) S128x2048 .f32)) :
    List (Fin 2 × Fin 4) → List (View.Piece (Elt F) S128x2048 .f32)
  | [] => tail
  | t :: l => pieceH t.2 (st t.1 t.2) :: statePieces st tail l

/-- The chunk of the last store of a group. -/
def lastOf (g : Fin 4) : List (Fin 2 × Fin 4) → Option (Fin 2)
  | [] => none
  | t :: l => if t.2 = g then some t.1 else lastOf g l

theorem loadH_some (v : View sig .tc .vmem S128x2048 .f32) (st : Fin 2 → Fin 4 → FVec F S128x512 .f32)
    (tail : List (View.Piece (Elt F) S128x2048 .f32)) (g : Fin 4) (k : Fin 2) : ∀ l : List (Fin 2 × Fin 4),
    lastOf g l = some k → loadH v (statePieces st tail l) g = st k g
  | [], h => nomatch h
  | t :: l, h => by
    rw [lastOf] at h
    rw [statePieces]
    split at h
    · next e =>
      cases e
      cases h
      exact loadH_hit v _ _ _
    · next e =>
      rw [loadH_skip v _ _ e]
      exact loadH_some v st tail g k l h

theorem loadH_none (v : View sig .tc .vmem S128x2048 .f32) (st : Fin 2 → Fin 4 → FVec F S128x512 .f32)
    (tail : List (View.Piece (Elt F) S128x2048 .f32)) (g : Fin 4) : ∀ l : List (Fin 2 × Fin 4),
    lastOf g l = none → loadH v (statePieces st tail l) g = loadH v tail g
  | [], _ => rfl
  | t :: l, h => by
    rw [lastOf] at h
    rw [statePieces]
    split at h
    · cases h
    · next e =>
      rw [loadH_skip v _ _ e]
      exact loadH_none v st tail g l h

/-- The output before its norm: the chunk outputs, the skip and the gate. -/
def gated (y x : FVec F S256x2048 .f32) (d : FVec F S1x2048 .f32) (z : FVec F S256x2048 .bf16) : FVec F S256x2048 .f32 :=
  mulf (addf y (mulf x (broadcastTo S256x2048 (shapeCast S1x2048 d shapeCasts_S1x2048_S1x2048) broadcasts_S1x2048_S256x2048)))
    (extf .f32 z bitsLt_bf16_f32)

theorem sliceG (g : Fin 4) : S256x2048.Slices ![0, 512 * g.val] S256x512 := by
  have := g.isLt
  refine ⟨rfl, fun a => ?_⟩
  fin_cases a <;> simp <;> omega
theorem inbO (g : Fin 4) (a : Fin 2) : (![0, 512 * g.val] : Fin 2 → ℕ) a + S256x512.size a ≤ S256x2048.size a := by
  revert g a; decide
theorem inbN (g : Fin 4) (a : Fin 2) : (![0, 512 * g.val] : Fin 2 → ℕ) a + S1x512.size a ≤ S1x2048.size a := by
  revert g a; decide

/-- A group's norm. -/
def normed (g : Fin 4) (y : FVec F S256x2048 .f32) (w : FVec F S1x512 .f32) : FVec F S256x512 .bf16 :=
  have t : FVec F S256x512 .f32 := extractStridedSlice S256x512 ![0, 512 * g.val] y (sliceG g)
  have s : FVec F S256x1 .f32 := shapeCast S256x1 (multiReduction .add [1] S256 (mulf t t) 0x00000000#32 reduces_S256x512_S256 (.inl rfl) rfl)
    shapeCasts_S256_S256x1
  have r : FVec F S256x1 .f32 := rsqrt (addf (divf s (broadcast S256x1 (Scalar.ofBits .f32 0x44000000#32)))
    (broadcast S256x1 (Scalar.ofBits .f32 0x358637BD#32)))
  truncf .bf16 (mulf (mulf t (broadcastTo S256x512 r broadcasts_S256x1_S256x512))
    (broadcastTo S256x512 (shapeCast S1x512 w shapeCasts_S1x512_S1x512) broadcasts_S1x512_S256x512)) bitsLt_bf16_f32

/-- The stores of the output. -/
def outPieces (y : FVec F S256x2048 .f32) (w : Fin 4 → FVec F S1x512 .f32) : List (View.Piece (Elt F) S256x2048 .bf16) :=
  ([3, 2, 1, 0] : List (Fin 4)).map fun g =>
    ⟨Rect.unit (s := S256x2048) ![0, 512 * g.val] S256x512.size (inbO g), normed g y (w g)⟩

/-- The store of zeros at a sequence's start. -/
def zeroPiece : View.Piece (Elt F) S128x2048 .f32 :=
  ⟨Rect.unit (s := S128x2048) ![0, 0] S128x2048.size (by decide),
    shapeCast S128x2048 (broadcast S128x2048 (Scalar.ofBits .f32 0x00000000#32)) shapeCasts_S128x2048_S128x2048⟩

/-- A group of zeros. -/
def zeroH : FVec F S128x512 .f32 := fun _ => Scalar.ofBits .f32 0x00000000#32

theorem loadH_zero (v : View sig .tc .vmem S128x2048 .f32) (g : Fin 4) : loadH (F := F) v [zeroPiece] g = zeroH := by
  unfold loadH
  rw [View.readCov_eq_canon']
  unfold zeroPiece
  rw [View.canon_cons_unit_lit _ _ _ (by decide)]
  rfl

/-- All the stores of the states, the last first. -/
def allStates : List (Fin 2 × Fin 4) := [(1,3),(1,2),(1,1),(1,0),(0,3),(0,2),(0,1),(0,0)]

end Cert.Scan
-- ==== Proof.Loads.lean ====
module

public import proofs.«01_k».proof.Proof.Chunk

@[expose] public section

set_option maxRecDepth 16384

noncomputable section

/-! The body's loads of its inputs. -/

namespace Cert.Scan

open Idealize.ShloMosaic Idealize.ShloMosaic.TcCoe Idealize.ShloMosaic.Tactic
open Cert.KernelIdeal Cert.KernelIdeal.Gen

variable {F : FTy → Type} [FloatOps F] [Named F]

section Loads

variable (arg3 : Memref sig .tc .vmem S256x3072 .f32) (harg3 : arg3.IsWhole) (arg4 : Memref sig .tc .vmem S256x128 .f32)
  (harg4 : arg4.IsWhole) (arg5 : Memref sig .tc .vmem S1x128 .f32) (harg5 : arg5.IsWhole)
  (arg6 : Memref sig .tc .vmem S128x2048 .bf16) (harg6 : arg6.IsWhole)
  (x1 : Vec F S256x3072 .f32) (x2 : Vec F S256x128 .f32) (x3 : Vec F S1x128 .f32) (x4 : Vec F S128x2048 .bf16)

/-- The body's loads of its inputs, by chunk and group. -/
def ldX (k : Fin 2) (g : Fin 4) : FVec F S128x512 .f32 :=
  View.readAt (Elt F) arg3.view (Rect.unit (s := S256x3072) ![128 * k.val, 512 * g.val] S128x512.size (inbX k g)).toLoadRect (harg3.unread x1)
def ldB (k : Fin 2) (g : Fin 4) : FVec F S128x128 .f32 :=
  View.readAt (Elt F) arg3.view (Rect.unit (s := S256x3072) ![128 * k.val, 2048 + 128 * g.val] S128x128.size (inbB k g)).toLoadRect (harg3.unread x1)
def ldC (k : Fin 2) (g : Fin 4) : FVec F S128x128 .f32 :=
  View.readAt (Elt F) arg3.view (Rect.unit (s := S256x3072) ![128 * k.val, 2560 + 128 * g.val] S128x128.size (inbC k g)).toLoadRect (harg3.unread x1)
def ldD (k : Fin 2) : FVec F S128x128 .f32 :=
  View.readAt (Elt F) arg4.view (Rect.unit (s := S256x128) ![128 * k.val, 0] S128x128.size (inbD k)).toLoadRect (harg4.unread x2)
def ldA : FVec F S1x128 .f32 :=
  View.readAt (Elt F) arg5.view (Rect.unit (s := S1x128) ![0, 0] S1x128.size (by decide)).toLoadRect (harg5.unread x3)
def ldE (g : Fin 4) : FVec F S128x512 .bf16 :=
  View.readAt (Elt F) arg6.view (Rect.unit (s := S128x2048) ![0, 512 * g.val] S128x512.size (inbH g)).toLoadRect (harg6.unread x4)

/-- The carried state's load, by group. -/
def ldS (arg13 : Memref sig .tc .vmem S128x2048 .f32) (harg13 : arg13.IsWhole) (xs0 : Vec F S128x2048 .f32) (g : Fin 4) : FVec F S128x512 .f32 :=
  View.readAt (Elt F) arg13.view (Rect.unit (s := S128x2048) ![0, 512 * g.val] S128x512.size (inbH g)).toLoadRect (harg13.unread xs0)
def ldX0 : FVec F S256x2048 .f32 :=
  View.readAt (Elt F) arg3.view (Rect.unit (s := S256x3072) ![0, 0] S256x2048.size (by decide)).toLoadRect (harg3.unread x1)
def ldSkip (arg7 : Memref sig .tc .vmem S1x2048 .f32) (harg7 : arg7.IsWhole) (x5 : Vec F S1x2048 .f32) : FVec F S1x2048 .f32 :=
  View.readAt (Elt F) arg7.view (Rect.unit (s := S1x2048) ![0, 0] S1x2048.size (by decide)).toLoadRect (harg7.unread x5)
def ldGate (arg2 : Memref sig .tc .vmem S256x2048 .bf16) (harg2 : arg2.IsWhole) (x0 : Vec F S256x2048 .bf16) : FVec F S256x2048 .bf16 :=
  View.readAt (Elt F) arg2.view (Rect.unit (s := S256x2048) ![0, 0] S256x2048.size (by decide)).toLoadRect (harg2.unread x0)
def ldNorm (arg8 : Memref sig .tc .vmem S1x2048 .f32) (harg8 : arg8.IsWhole) (x6 : Vec F S1x2048 .f32) (g : Fin 4) : FVec F S1x512 .f32 :=
  View.readAt (Elt F) arg8.view (Rect.unit (s := S1x2048) ![0, 512 * g.val] S1x512.size (inbN g)).toLoadRect (harg8.unread x6)
def ldW (arg9 : Memref sig .tc .vmem S128x2048 .f32) (harg9 : arg9.IsWhole) (x7 : Vec F S128x2048 .f32) : FVec F S128x2048 .f32 :=
  View.readAt (Elt F) arg9.view (Rect.unit (s := S128x2048) ![0, 0] S128x2048.size (by decide)).toLoadRect (harg9.unread x7)

/-- The weights' cast. -/
def castW (w : FVec F S128x2048 .f32) : FVec F S128x2048 .bf16 :=
  truncf .bf16 (shapeCast S128x2048 w Facts₀.shapeCasts_S128x2048_S128x2048) Facts₀.bitsLt_bf16_f32

/-- The whole of the chunk outputs, read back. -/
def wholeY (v : View sig .tc .vmem S256x2048 .f32) (L : List (View.Piece (Elt F) S256x2048 .f32)) : FVec F S256x2048 .f32 :=
  v.readCov L (Rect.unit (s := S256x2048) ![0, 0] S256x2048.size (by decide)).toLoadRect

/-- The whole of the states, read back. -/
def wholeH (v : View sig .tc .vmem S128x2048 .f32) (L : List (View.Piece (Elt F) S128x2048 .f32)) : FVec F S128x2048 .f32 :=
  v.readCov L (Rect.unit (s := S128x2048) ![0, 0] S128x2048.size (by decide)).toLoadRect

end Loads

end Cert.Scan
-- ==== Proof.Spec.lean ====
module

public import Idealize.ShloMosaic.Lib.Pointwise

@[expose] public section

noncomputable section

/-! The scan over the extended reals: the recurrence chunk by chunk, in the tokens' numbers. -/

namespace Cert.Scan

open Idealize.ShloMosaic

section
variable (X D : ℕ → ℕ → EReal) (A : ℕ → EReal)

/-- The running sum of `dt · A` in chunk `C`, of head `h`, up to row `l`. -/
def aS (C h l : ℕ) : EReal := ∑ s : Fin 128, if s.val ≤ l then D (128 * C + s.val) h * A h else 0

/-- What row `s` weighs in row `l`. -/
def dec (C h l s : ℕ) : EReal := if s ≤ l then Ideal.exp (aS D A C h l - aS D A C h s) * D (128 * C + s) h else 0

/-- The products of C with B. -/
def cbS (C g l s : ℕ) : EReal := ∑ n : Fin 128, X (128 * C + l) (2560 + 128 * g + n.val) * X (128 * C + s) (2048 + 128 * g + n.val)

/-- A chunk's output over the state `H` before it, of column `j`. -/
def yS (C : ℕ) (H : ℕ → ℕ → EReal) (l j : ℕ) : EReal :=
  (∑ s : Fin 128, cbS X C (j / 512) l s.val * dec D A C (j / 64) l s.val * X (128 * C + s.val) j)
    + (∑ n : Fin 128, X (128 * C + l) (2560 + 128 * (j / 512) + n.val) * H n.val j) * Ideal.exp (aS D A C (j / 64) l)

/-- The state after a chunk. -/
def nxt (C : ℕ) (H : ℕ → ℕ → EReal) (n j : ℕ) : EReal :=
  H n j * Ideal.exp (aS D A C (j / 64) 127)
    + ∑ s : Fin 128, X (128 * C + s.val) (2048 + 128 * (j / 512) + n) *
        (X (128 * C + s.val) j * (Ideal.exp (aS D A C (j / 64) 127 - aS D A C (j / 64) s.val) * D (128 * C + s.val) (j / 64)))

/-- The state before chunk `C`: nothing at a sequence's start. -/
def stS : ℕ → ℕ → ℕ → EReal
  | 0 => fun _ _ => 0
  | C + 1 => if (C + 1) % 16 = 0 then fun _ _ => 0 else nxt X D A C (stS C)

end

/-- Real and nonnegative. -/
def Nn (D : ℕ → ℕ → EReal) : Prop := ∀ t h, h < 32 → ∃ r : ℝ, 0 ≤ r ∧ D t h = r
/-- Real. -/
def Re (A : ℕ → EReal) : Prop := ∀ h, h < 32 → ∃ r : ℝ, A h = r

theorem aS_real {D A} (hD : Nn D) (hA : Re A) (C h l : ℕ) (hh : h < 32) : ∃ r : ℝ, aS D A C h l = r := by
  unfold aS
  obtain ⟨a, ha⟩ := hA h hh
  refine Finset.sum_induction _ (fun x : EReal => ∃ r : ℝ, x = r) ?_ ⟨0, rfl⟩ fun s _ => ?_
  · rintro _ _ ⟨r, rfl⟩ ⟨r', rfl⟩
    exact ⟨r + r', (EReal.coe_add r r').symm⟩
  · split
    · obtain ⟨d, _, hd⟩ := hD (128 * C + s.val) h hh
      exact ⟨d * a, by rw [hd, ha, EReal.coe_mul]⟩
    · exact ⟨0, rfl⟩

/-- The kernel's exponent to base two is the decay times `dt`. -/
theorem exp2_dec (a b d : ℝ) (hd : 0 ≤ d) :
    Ideal.exp2 ((a : EReal) * ((Real.log 2)⁻¹ : ℝ) - ((b : EReal) * ((Real.log 2)⁻¹ : ℝ) - Ideal.log d * ((Real.log 2)⁻¹ : ℝ)))
      = Ideal.exp ((a : EReal) - b) * d := by
  have hl : 0 < (Real.log 2)⁻¹ := inv_pos.mpr (Real.log_pos (by norm_num))
  rcases hd.eq_or_lt with rfl | hd
  · rw [Ideal.log_coe, if_pos le_rfl, EReal.bot_mul_coe_of_pos hl, ← EReal.coe_mul, ← EReal.coe_mul, EReal.coe_sub_bot,
      sub_eq_add_neg, EReal.neg_top, EReal.add_bot, Ideal.exp2_bot, EReal.coe_zero, mul_zero]
  · rw [Ideal.log_coe, if_neg (not_le.mpr hd), ← EReal.coe_mul, ← EReal.coe_mul, ← EReal.coe_mul, ← EReal.coe_sub, ← EReal.coe_sub,
      ← EReal.coe_sub, Ideal.exp2_coe, Ideal.exp_coe, ← EReal.coe_mul]
    congr 1
    have h2 : Real.log 2 ≠ 0 := (Real.log_pos (by norm_num)).ne'
    rw [show ∀ z : ℝ, Real.rpow 2 z = Real.exp (Real.log 2 * z) from fun z => Real.rpow_def_of_pos (by norm_num) z]
    conv_rhs => rw [← Real.exp_log hd, ← Real.exp_add]
    congr 1
    field_simp
    ring

/-- Windows of a running sum double. -/
theorem window_double (x : ℕ → EReal) (w l : ℕ) :
    (∑ i ∈ Finset.range (w + w), if i ≤ l then x (l - i) else 0)
      = (∑ i ∈ Finset.range w, if i ≤ l then x (l - i) else 0)
        + if w ≤ l then (∑ i ∈ Finset.range w, if i ≤ l - w then x (l - w - i) else 0) else 0 := by
  rw [Finset.sum_range_add]
  congr 1
  split
  · next h =>
    refine Finset.sum_congr rfl fun i _ => ?_
    by_cases h' : i ≤ l - w
    · rw [if_pos h', if_pos (by omega), show l - (w + i) = l - w - i by omega]
    · rw [if_neg h', if_neg (by omega)]
  · next h =>
    exact Finset.sum_eq_zero fun i _ => if_neg (by omega)

/-- The whole window is the running sum. -/
theorem window_all (x : ℕ → EReal) (l : ℕ) (hl : l < 128) :
    (∑ i ∈ Finset.range 128, if i ≤ l then x (l - i) else 0) = ∑ s : Fin 128, if s.val ≤ l then x s.val else 0 := by
  rw [Fin.sum_univ_eq_sum_range (fun s => if s ≤ l then x s else 0) 128, ← Finset.sum_filter, ← Finset.sum_filter]
  refine Finset.sum_nbij' (fun i => l - i) (fun i => l - i) ?_ ?_ ?_ ?_ ?_
  all_goals simp only [Finset.mem_filter, Finset.mem_range]
  all_goals intros
  all_goals first | omega | trivial

/-- The scan's result at token `t` and lane `j` with the skip term, times the gate; `H C` is the state before chunk `C`. -/
def gt (X D : ℕ → ℕ → EReal) (A : ℕ → EReal) (K : ℕ → EReal) (Z : ℕ → ℕ → EReal) (H : ℕ → ℕ → ℕ → EReal) (t j : ℕ) : EReal :=
  (yS X D A (t / 128) (H (t / 128)) (t % 128) j + X t j * K j) * Z t j

/-- The gated result normed over its group of 512 lanes, times the norm's weight. -/
def ot (X D : ℕ → ℕ → EReal) (A : ℕ → EReal) (K : ℕ → EReal) (Z : ℕ → ℕ → EReal) (W : ℕ → EReal) (H : ℕ → ℕ → ℕ → EReal) (t j : ℕ) : EReal :=
  gt X D A K Z H t j * Ideal.rsqrt (Ideal.div (∑ x : Fin 512, gt X D A K Z H t (512 * (j / 512) + x.val) * gt X D A K Z H t (512 * (j / 512) + x.val))
    (Ideal.ofBits .f32 1140850688#32) + Ideal.ofBits .f32 897988541#32) * W j

end Cert.Scan
-- ==== Proof.Vals.lean ====
module

public import proofs.«01_k».proof.Proof.Loads
public import proofs.«01_k».proof.Proof.Spec

@[expose] public section

set_option maxRecDepth 16384

noncomputable section

/-! The chunk expressions at an index, over the extended reals. -/

namespace Cert.Scan

open Idealize.ShloMosaic Idealize.ShloMosaic.TcCoe Idealize.ShloMosaic.Tactic
open Cert.KernelIdeal

theorem rowMod_at (l h : Fin 128) : rowMod (ix2 l h) = BitVec.ofNat 32 l.val := by
  have key : ∀ l : Fin 128, (rowMod (ix2 l (0 : Fin 128)) : BitVec 32) = BitVec.ofNat 32 l.val := by
    decide +kernel
  exact key l

theorem sge_word (a b : ℕ) (ha : a < 2 ^ 31) (hb : b < 2 ^ 31) :
    IntOp.cmpi .sge (BitVec.ofNat 32 a) (BitVec.ofNat 32 b) = if b ≤ a then 1#1 else 0#1 := by
  rw [WordCmp.cmpi_sge_ofNat ha hb]
  by_cases h : b ≤ a <;> simp [h]

theorem slt_word (a b : ℕ) (ha : a < 2 ^ 31) (hb : b < 2 ^ 31) :
    IntOp.cmpi .slt (BitVec.ofNat 32 a) (BitVec.ofNat 32 b) = if a < b then 1#1 else 0#1 := by
  rw [WordCmp.cmpi_slt_ofNat ha hb]
  by_cases h : a < b <;> simp [h]

theorem select_ite {α : Type} (p : Prop) [Decidable p] (a b : α) : Scalar.select (if p then 1#1 else 0#1) a b = if p then a else b := by
  by_cases h : p <;> simp [h, Scalar.select]

theorem scanStep_at (s : ℕ) (hs : s < 128) (x : FVec Ideal S128x128 .f32) (f : ℕ → ℕ → EReal) (hx : ∀ l h : Fin 128, x (ix2 l h) = f l h)
    (l h : Fin 128) :
    scanStep (BitVec.ofNat 32 s) x (ix2 l h) = f l h + if s ≤ l.val then f (l.val - s) h else 0 := by
  have e : scanStep (BitVec.ofNat 32 s) x (ix2 l h) = x (ix2 l h) + Scalar.select (IntOp.cmpi .sge (rowMod (ix2 l h)) (BitVec.ofNat 32 s))
      (dynamicRotate 0 (BitVec.ofNat 32 s) none x Facts₀.rotates_S128x128_d0 (ix2 l h)) (Ideal.ofBits .f32 0#32) := rfl
  rw [e, rowMod_at, sge_word _ _ (by omega) (by omega), select_ite, hx]
  pointwise
  congr 1
  split
  · next hl =>
    rw [hx]
    congr 2
    have : (BitVec.ofNat 32 s).toNat = s := by rw [BitVec.toNat_ofNat]; omega
    show (l.val + 128 - (BitVec.ofNat 32 s).toNat % 128) % 128 = _
    rw [this]
    omega
  · rfl

theorem runSum_at (x : FVec Ideal S128x128 .f32) (f : ℕ → ℕ → EReal) (hx : ∀ l h : Fin 128, x (ix2 l h) = f l h) (l h : Fin 128) :
    runSum x (ix2 l h) = ∑ s : Fin 128, if s.val ≤ l.val then f s h else 0 := by
  rw [← window_all (fun s => f s h) l l.isLt]
  have W : ∀ (w : ℕ) (_ : w < 128) (y : FVec Ideal S128x128 .f32)
      (_ : ∀ l h : Fin 128, y (ix2 l h) = ∑ i ∈ Finset.range w, if i ≤ l.val then f (l.val - i) h else 0),
      ∀ l h : Fin 128, scanStep (BitVec.ofNat 32 w) y (ix2 l h) = ∑ i ∈ Finset.range (w + w), if i ≤ l.val then f (l.val - i) h else 0 := by
    intro w hw y hy l h
    rw [scanStep_at w hw y (fun l h => ∑ i ∈ Finset.range w, if i ≤ l then f (l - i) h else 0) hy l h]
    exact (window_double (fun s => f s h) w l).symm
  exact W 64 (by omega) _ (W 32 (by omega) _ (W 16 (by omega) _ (W 8 (by omega) _ (W 4 (by omega) _ (W 2 (by omega) _ (W 1 (by omega) x
    (fun l h => by simp [hx]))))))) l h

theorem prod_at (dt : FVec Ideal S128x128 .f32) (al : FVec Ideal S1x128 .f32) (l h : Fin 128) :
    prod dt al (ix2 l h) = dt (ix2 l h) * (0 - Ideal.exp (al (ix2 0 h))) := by
  unfold prod negExp
  pointwise

theorem facs_lo (ac dt : FVec Ideal S128x128 .f32) (l h : Fin 128) (hl : l.val < 256) :
    facs ac dt (ix2 ⟨l.val, hl⟩ h) = Ideal.exp (ac (ix2 l h)) := by
  unfold facs
  pointwise

theorem facs_hi (ac dt : FVec Ideal S128x128 .f32) (l h : Fin 128) (hl : 128 + l.val < 256) :
    facs ac dt (ix2 ⟨128 + l.val, hl⟩ h) = Ideal.exp (ac (ix2 127 h) - ac (ix2 l h)) * dt (ix2 l h) := by
  unfold facs
  pointwise

/-- log2 e, as the extended real that the named constant is. -/
def l2e : EReal := (((Real.log 2)⁻¹ : ℝ) : EReal)

theorem named_l2e : (Named.named κ "log2e" 0x3FB8AA3B#32 : Ideal .f32) = l2e :=
  IdealRules.named_const.ideal_named_scalar _ _ _ _ rfl

theorem at2_at (ac : FVec Ideal S128x128 .f32) (l h : Fin 128) : at2 ac (ix2 l h) = ac (ix2 l h) * l2e := by
  unfold at2 lg
  pointwise
  rw [named_l2e]

theorem rt_at (ac dt : FVec Ideal S128x128 .f32) (h l : Fin 128) :
    rt ac dt (ix2 h l) = ac (ix2 l h) * l2e - Ideal.log (dt (ix2 l h)) * l2e := by
  unfold rt at2 lg
  pointwise
  rw [named_l2e]

theorem cbm_at (b cc : FVec Ideal S128x128 .f32) (l s : Fin 128) :
    cbm b cc (ix2 l s) = ∑ n : Fin 128, cc (ix2 l n) * b (ix2 s n) := by
  unfold cbm
  pointwise

theorem yoff_at (cc : FVec Ideal S128x128 .f32) (h : FVec Ideal S128x512 .f32) (l : Fin 128) (q : Fin 512) :
    yoff cc h (ix2 l q) = ∑ n : Fin 128, cc (ix2 l n) * h (ix2 n q) := by
  unfold yoff
  pointwise

theorem sum_onehot (f : Fin 128 → EReal) (k : ℕ) (hk : k < 128) : (∑ x : Fin 128, f x * (if x.val = k then 1 else 0)) = f ⟨k, hk⟩ := by
  rw [Finset.sum_eq_single ⟨k, hk⟩]
  · simp
  · intro b _ hb
    rw [if_neg (fun e => hb (Fin.ext e)), mul_zero]
  · intro h; exact absurd (Finset.mem_univ _) h

theorem spreadE_at (ac dt : FVec Ideal S128x128 .f32) (ex : FVec Ideal S128x512 .bf16) (l : Fin 128) (q : Fin 512) (k : ℕ) (hk : k < 128)
    (hex : ∀ x : Fin 128, ex (ix2 x q) = if x.val = k then 1 else 0) :
    spreadE (facs ac dt) ex (ix2 l q) = Ideal.exp (ac (ix2 l ⟨k, hk⟩)) := by
  unfold spreadE spread
  pointwise
  simp only [hex, facs_lo]
  exact sum_onehot (fun x => Ideal.exp (ac (ix2 l x))) k hk

theorem spreadW_at (ac dt : FVec Ideal S128x128 .f32) (ex : FVec Ideal S128x512 .bf16) (l : Fin 128) (q : Fin 512) (k : ℕ) (hk : k < 128)
    (hex : ∀ x : Fin 128, ex (ix2 x q) = if x.val = k then 1 else 0) :
    spreadW (facs ac dt) ex (ix2 l q) = Ideal.exp (ac (ix2 127 ⟨k, hk⟩) - ac (ix2 l ⟨k, hk⟩)) * dt (ix2 l ⟨k, hk⟩) := by
  unfold spreadW spread
  pointwise
  simp only [hex, facs_hi]
  exact sum_onehot (fun x => Ideal.exp (ac (ix2 127 x) - ac (ix2 l x)) * dt (ix2 l x)) k hk

theorem negInf : Ideal.ofBits .f32 0xFF800000#32 = ⊥ := by
  simp [Ideal.ofBits, Ideal.ieee]

theorem headMat_at (h : ℕ) (hs : S128x128.Slices ![0, h] S128x1) (hs' : S128x128.Slices ![h, 0] S1x128)
    (cb a2 r : FVec Ideal S128x128 .f32) (l s : Fin 128) (hh : h < 128) : headMat h hs hs' cb a2 r (ix2 l s)
      = cb (ix2 l s) * if s.val ≤ l.val then Ideal.exp2 (a2 (ix2 l ⟨h, hh⟩) - r (ix2 ⟨h, hh⟩ s)) else 0 := by
  unfold headMat causal
  pointwise
  rw [sge_word _ _ (by omega) (by omega), select_ite]
  congr 1
  split
  · rfl
  · rw [negInf]; rfl

theorem pair_at (o : ℕ) (ho : S128x512.Slices ![0, o] S128x128) (m0 m1 : FVec Ideal S128x128 .bf16) (x yo e : FVec Ideal S128x512 .f32)
    (l j : Fin 128) (hoj : o + j.val < 512) :
    pair o ho m0 m1 x yo e (ix2 l j) = (∑ s : Fin 128, (if j.val < 64 then m0 else m1) (ix2 l s) * x (ix2 s ⟨o + j.val, hoj⟩))
      + yo (ix2 l ⟨o + j.val, hoj⟩) * e (ix2 l ⟨o + j.val, hoj⟩) := by
  unfold pair laneLo
  pointwise
  rw [slt_word _ 64 (by omega) (by omega)]
  simp only [select_ite]
  congr 1
  by_cases h : j.val < 64 <;> simp [h]

theorem nextState_at (b : FVec Ideal S128x128 .f32) (x h e w : FVec Ideal S128x512 .f32) (n : Fin 128) (q : Fin 512) :
    nextState b x h e w (ix2 n q) = h (ix2 n q) * e (ix2 127 q) + ∑ s : Fin 128, b (ix2 s n) * (x (ix2 s q) * w (ix2 s q)) := by
  unfold nextState
  pointwise

section Chunk

variable {X D : ℕ → ℕ → EReal} {A : ℕ → EReal} (hD : Nn D) (hA : Re A) (C : ℕ) (g : Fin 4) (H : ℕ → ℕ → EReal)
  (dt : FVec Ideal S128x128 .f32) (al : FVec Ideal S1x128 .f32) (b cc : FVec Ideal S128x128 .f32)
  (x h : FVec Ideal S128x512 .f32) (ex : FVec Ideal S128x512 .bf16)
  (hdt : ∀ s k : Fin 128, dt (ix2 s k) = D (128 * C + s.val) k.val)
  (hal : ∀ k : Fin 128, 0 - Ideal.exp (al (ix2 0 k)) = A k.val)
  (hb : ∀ s n : Fin 128, b (ix2 s n) = X (128 * C + s.val) (2048 + 128 * g.val + n.val))
  (hc : ∀ s n : Fin 128, cc (ix2 s n) = X (128 * C + s.val) (2560 + 128 * g.val + n.val))
  (hx : ∀ (s : Fin 128) (q : Fin 512), x (ix2 s q) = X (128 * C + s.val) (512 * g.val + q.val))
  (hh : ∀ (n : Fin 128) (q : Fin 512), h (ix2 n q) = H n.val (512 * g.val + q.val))
  (hex : ∀ (k : Fin 128) (q : Fin 512), ex (ix2 k q) = if k.val = (512 * g.val + q.val) / 64 then 1 else 0)

include hdt hal in
theorem acum_at (l k : Fin 128) : acum dt al (ix2 l k) = aS D A C k.val l.val := by
  unfold acum aS
  exact runSum_at (prod dt al) (fun s k => D (128 * C + s) k * A k) (fun l k => by rw [prod_at, hdt, hal]) l k

include hD hA hdt hal hb hc hx hh hex in
theorem pairAll_at (p : Fin 4) (l j : Fin 128) :
    pairAll g p dt al b cc x h ex (ix2 l j) = yS X D A C H l.val (512 * g.val + 128 * p.val + j.val) := by
  have hp := p.isLt; have hj := j.isLt; have hg := g.isLt
  unfold pairAll
  rw [pair_at _ _ _ _ _ _ _ _ _ (by omega)]
  unfold yS
  rw [show (512 * g.val + 128 * p.val + j.val) / 512 = g.val by omega]
  congr 1
  · refine Finset.sum_congr rfl fun s _ => ?_
    rw [hx, show 512 * g.val + (128 * p.val + j.val) = 512 * g.val + 128 * p.val + j.val by omega]
    congr 1
    have M : ∀ (h' : ℕ) (_ : h' < 32) (hs : S128x128.Slices ![0, h'] S128x1) (hs' : S128x128.Slices ![h', 0] S1x128),
        headMat h' hs hs' (cbm b cc) (at2 (acum dt al)) (rt (acum dt al) dt) (ix2 l s) = cbS X C g.val l.val s.val * dec D A C h' l.val s.val := by
      intro h' hh' hs hs'
      rw [headMat_at _ _ _ _ _ _ _ _ (by omega), cbm_at]
      unfold cbS dec
      congr 1
      · exact Finset.sum_congr rfl fun n _ => by rw [hc, hb]
      · split
        · rw [at2_at, rt_at, acum_at C dt al hdt hal, acum_at C dt al hdt hal, hdt]
          obtain ⟨u, hu⟩ := aS_real hD hA C h' l.val hh'
          obtain ⟨v, hv⟩ := aS_real hD hA C h' s.val hh'
          obtain ⟨d, d0, hd⟩ := hD (128 * C + s.val) h' hh'
          show Ideal.exp2 (aS D A C h' l.val * l2e - (aS D A C h' s.val * l2e - Ideal.log (D (128 * C + s.val) h') * l2e)) = _
          rw [hu, hv, hd]
          exact exp2_dec u v d d0
        · rfl
    split
    · next h64 =>
      rw [M _ (by simp; omega)]
      congr 2
      simp; omega
    · next h64 =>
      rw [M _ (by simp; omega)]
      congr 2
      simp; omega
  · rw [yoff_at, spreadE_at _ _ _ _ _ ((512 * g.val + (128 * p.val + j.val)) / 64) (by omega) (fun k => hex k _), acum_at C dt al hdt hal]
    have e : 512 * g.val + (128 * p.val + j.val) = 512 * g.val + 128 * p.val + j.val := by omega
    show _ * Ideal.exp (aS D A C ((512 * g.val + (128 * p.val + j.val)) / 64) l.val) = _
    rw [e]
    congr 1
    refine Finset.sum_congr rfl fun n _ => ?_
    rw [hc, hh]
    show _ = X _ _ * H _ _
    rw [show 512 * g.val + (128 * p.val + j.val) = 512 * g.val + 128 * p.val + j.val by omega]

include hdt hal hb hx hh hex in
theorem stateAll_at (n : Fin 128) (q : Fin 512) :
    stateAll dt al b x h ex (ix2 n q) = nxt X D A C H n.val (512 * g.val + q.val) := by
  have hq := q.isLt; have hg := g.isLt
  unfold stateAll nxt
  rw [nextState_at, hh, spreadE_at _ _ _ _ _ ((512 * g.val + q.val) / 64) (by omega) (fun k => hex k _), acum_at C dt al hdt hal,
    show (512 * g.val + q.val) / 512 = g.val by omega]
  congr 1
  refine Finset.sum_congr rfl fun s _ => ?_
  rw [hb, hx, spreadW_at _ _ _ _ _ ((512 * g.val + q.val) / 64) (by omega) (fun k => hex k _), acum_at C dt al hdt hal,
    acum_at C dt al hdt hal, hdt]
  rfl

end Chunk

end Cert.Scan
-- ==== Proof.Block.lean ====
module

public import proofs.«01_k».proof.Proof.Vals

@[expose] public section

set_option maxRecDepth 16384

noncomputable section

/-! A point's loads and stores at an index, over the extended reals. -/

namespace Cert.Scan

open Idealize.ShloMosaic Idealize.ShloMosaic.TcCoe Idealize.ShloMosaic.Tactic
open Cert.KernelIdeal

section Loads

variable (arg3 : Memref sig .tc .vmem S256x3072 .f32) (harg3 : arg3.IsWhole) (arg4 : Memref sig .tc .vmem S256x128 .f32)
  (harg4 : arg4.IsWhole) (arg5 : Memref sig .tc .vmem S1x128 .f32) (harg5 : arg5.IsWhole)
  (arg6 : Memref sig .tc .vmem S128x2048 .bf16) (harg6 : arg6.IsWhole)
  (x1 : Vec Ideal S256x3072 .f32) (x2 : Vec Ideal S256x128 .f32) (x3 : Vec Ideal S1x128 .f32) (x4 : Vec Ideal S128x2048 .bf16)

theorem ldX_at (k : Fin 2) (g : Fin 4) (s : Fin 128) (q : Fin 512) :
    ldX arg3 harg3 x1 k g (ix2 s q) = x1 (ix2 ⟨128 * k.val + s.val, by omega⟩ ⟨512 * g.val + q.val, by omega⟩) := by
  unfold ldX
  rw [View.readAt_eq_ld, harg3.read_unread]
  pointwise

theorem ldB_at (k : Fin 2) (g : Fin 4) (s n : Fin 128) :
    ldB arg3 harg3 x1 k g (ix2 s n) = x1 (ix2 ⟨128 * k.val + s.val, by omega⟩ ⟨2048 + 128 * g.val + n.val, by omega⟩) := by
  unfold ldB
  rw [View.readAt_eq_ld, harg3.read_unread]
  pointwise

theorem ldC_at (k : Fin 2) (g : Fin 4) (s n : Fin 128) :
    ldC arg3 harg3 x1 k g (ix2 s n) = x1 (ix2 ⟨128 * k.val + s.val, by omega⟩ ⟨2560 + 128 * g.val + n.val, by omega⟩) := by
  unfold ldC
  rw [View.readAt_eq_ld, harg3.read_unread]
  pointwise

theorem ldD_at (k : Fin 2) (s n : Fin 128) :
    ldD arg4 harg4 x2 k (ix2 s n) = x2 (ix2 ⟨128 * k.val + s.val, by omega⟩ n) := by
  unfold ldD
  rw [View.readAt_eq_ld, harg4.read_unread]
  pointwise

theorem ldA_at (n : Fin 128) : ldA arg5 harg5 x3 (ix2 0 n) = x3 (ix2 0 n) := by
  unfold ldA
  rw [View.readAt_eq_ld, harg5.read_unread]
  pointwise

theorem ldE_at (g : Fin 4) (n : Fin 128) (q : Fin 512) :
    ldE arg6 harg6 x4 g (ix2 n q) = x4 (ix2 n ⟨512 * g.val + q.val, by omega⟩) := by
  unfold ldE
  rw [View.readAt_eq_ld, harg6.read_unread]
  pointwise

theorem ldS_at (arg13 : Memref sig .tc .vmem S128x2048 .f32) (harg13 : arg13.IsWhole) (xs0 : Vec Ideal S128x2048 .f32)
    (g : Fin 4) (n : Fin 128) (q : Fin 512) :
    ldS arg13 harg13 xs0 g (ix2 n q) = xs0 (ix2 n ⟨512 * g.val + q.val, by omega⟩) := by
  unfold ldS
  rw [View.readAt_eq_ld, harg13.read_unread]
  pointwise

theorem ldX0_at (r : Fin 256) (j : Fin 2048) : ldX0 arg3 harg3 x1 (ix2 r j) = x1 (ix2 r ⟨j.val, by omega⟩) := by
  unfold ldX0
  rw [View.readAt_eq_ld, harg3.read_unread]
  pointwise

theorem ldSkip_at (arg7 : Memref sig .tc .vmem S1x2048 .f32) (harg7 : arg7.IsWhole) (x5 : Vec Ideal S1x2048 .f32) (j : Fin 2048) :
    ldSkip arg7 harg7 x5 (ix2 0 j) = x5 (ix2 0 j) := by
  unfold ldSkip
  rw [View.readAt_eq_ld, harg7.read_unread]
  pointwise

theorem ldGate_at (arg2 : Memref sig .tc .vmem S256x2048 .bf16) (harg2 : arg2.IsWhole) (x0 : Vec Ideal S256x2048 .bf16)
    (r : Fin 256) (j : Fin 2048) : ldGate arg2 harg2 x0 (ix2 r j) = x0 (ix2 r j) := by
  unfold ldGate
  rw [View.readAt_eq_ld, harg2.read_unread]
  pointwise

theorem ldNorm_at (arg8 : Memref sig .tc .vmem S1x2048 .f32) (harg8 : arg8.IsWhole) (x6 : Vec Ideal S1x2048 .f32) (g : Fin 4) (q : Fin 512) :
    ldNorm arg8 harg8 x6 g (ix2 0 q) = x6 (ix2 0 ⟨512 * g.val + q.val, by omega⟩) := by
  unfold ldNorm
  rw [View.readAt_eq_ld, harg8.read_unread]
  pointwise

theorem castW_at (arg9 : Memref sig .tc .vmem S128x2048 .f32) (harg9 : arg9.IsWhole) (x7 : Vec Ideal S128x2048 .f32)
    (r : Fin 128) (j : Fin 2048) : castW (ldW arg9 harg9 x7) (ix2 r j) = x7 (ix2 r j) := by
  unfold castW ldW
  rw [View.readAt_eq_ld, harg9.read_unread]
  pointwise

end Loads

theorem mem_order (t : Fin 2 × Fin 4 × Fin 4) : t ∈ order := by revert t; decide

section Whole

variable {X D : ℕ → ℕ → EReal} {A : ℕ → EReal} (hD : Nn D) (hA : Re A) (C : Fin 2 → ℕ) (H : Fin 2 → ℕ → ℕ → EReal)
  (dt : Fin 2 → FVec Ideal S128x128 .f32) (al : FVec Ideal S1x128 .f32) (b cc : Fin 2 → Fin 4 → FVec Ideal S128x128 .f32)
  (x h : Fin 2 → Fin 4 → FVec Ideal S128x512 .f32) (ex : Fin 4 → FVec Ideal S128x512 .bf16)
  (hdt : ∀ k (s n : Fin 128), dt k (ix2 s n) = D (128 * C k + s.val) n.val)
  (hal : ∀ k : Fin 128, 0 - Ideal.exp (al (ix2 0 k)) = A k.val)
  (hb : ∀ k g (s n : Fin 128), b k g (ix2 s n) = X (128 * C k + s.val) (2048 + 128 * g.val + n.val))
  (hc : ∀ k g (s n : Fin 128), cc k g (ix2 s n) = X (128 * C k + s.val) (2560 + 128 * g.val + n.val))
  (hx : ∀ k g (s : Fin 128) (q : Fin 512), x k g (ix2 s q) = X (128 * C k + s.val) (512 * g.val + q.val))
  (hh : ∀ k g (n : Fin 128) (q : Fin 512), h k g (ix2 n q) = H k n.val (512 * g.val + q.val))
  (hex : ∀ g (k : Fin 128) (q : Fin 512), ex g (ix2 k q) = if k.val = (512 * g.val + q.val) / 64 then 1 else 0)

include hD hA hdt hal hb hc hx hh hex in
theorem wholeY_at (v : View sig .tc .vmem S256x2048 .f32) (r : Fin 256) (j : Fin 2048) :
    wholeY v (pieces dt al b cc x h ex) (ix2 r j)
      = yS X D A (C ⟨r.val / 128, by omega⟩) (H ⟨r.val / 128, by omega⟩) (r.val % 128) j.val := by
  unfold wholeY
  rw [View.readCov_eq_canon']
  have e : ∀ h, (Rect.unit (s := S256x2048) ![0, 0] S256x2048.size h).toLoadRect.idx (ix2 r j) = ix2 r j := fun h =>
    funext fun a => by fin_cases a <;> exact Fin.ext (by simp [LoadRect.idx, ix2])
  show View.canon _ (LoadRect.idx _ _) = _
  rw [e]
  refine View.canon_eq_of_allAt _ _ _ ?_ ?_
  · refine ⟨_, List.mem_map_of_mem (mem_order (⟨r.val / 128, by omega⟩, ⟨j.val / 512, by omega⟩, ⟨j.val % 512 / 128, by omega⟩)), ?_⟩
    rw [Rect.mem_set_unit]
    intro a
    fin_cases a
    · show 128 * (r.val / 128) ≤ r.val ∧ r.val < 128 * (r.val / 128) + 128
      omega
    · show 512 * (j.val / 512) + 128 * (j.val % 512 / 128) ≤ j.val ∧ j.val < 512 * (j.val / 512) + 128 * (j.val % 512 / 128) + 128
      omega
  · have hr : r.val / 128 < 2 := by omega
    intro p hp
    obtain ⟨⟨k, g, q⟩, _, rfl⟩ := List.mem_map.mp hp
    intro y hy
    have h0 : 128 * k.val + 1 * (y 0).val = r.val := congrArg (fun i => (i 0).val) hy
    have h1 : 512 * g.val + 128 * q.val + 1 * (y 1).val = j.val := congrArg (fun i => (i 1).val) hy
    have y0 : (y 0).val < 128 := (y 0).isLt
    obtain rfl : (⟨r.val / 128, hr⟩ : Fin 2) = k := Fin.ext (by show r.val / 128 = k.val; omega)
    have y1 : (y 1).val < 128 := (y 1).isLt
    have ey : y = ix2 (⟨r.val % 128, by omega⟩ : Fin 128) (⟨(y 1).val, y1⟩ : Fin 128) := by
      funext a
      fin_cases a
      · exact Fin.ext (show (y 0).val = r.val % 128 by simp only at h0; omega)
      · rfl
    refine (congrArg (pairAll g q (dt ⟨r.val / 128, hr⟩) al (b ⟨r.val / 128, hr⟩ g) (cc ⟨r.val / 128, hr⟩ g)
      (x ⟨r.val / 128, hr⟩ g) (h ⟨r.val / 128, hr⟩ g) (ex g)) ey).trans ?_
    refine (pairAll_at hD hA _ _ _ _ _ _ _ _ _ _ (hdt _) hal (hb _ g) (hc _ g) (hx _ g) (hh _ g) (hex g) _ _ _).trans ?_
    rw [← h1, Nat.one_mul]

end Whole

theorem normed_at (g : Fin 4) (y : FVec Ideal S256x2048 .f32) (w : FVec Ideal S1x512 .f32) (r : Fin 256) (q : Fin 512) :
    normed g y w (ix2 r q) = y (ix2 r ⟨512 * g.val + q.val, by omega⟩)
      * Ideal.rsqrt (Ideal.div (∑ x : Fin 512, y (ix2 r ⟨512 * g.val + x.val, by omega⟩) * y (ix2 r ⟨512 * g.val + x.val, by omega⟩))
        (Ideal.ofBits .f32 1140850688#32) + Ideal.ofBits .f32 897988541#32) * w (ix2 0 q) := by
  unfold normed
  pointwise

theorem gated_at (y x : FVec Ideal S256x2048 .f32) (d : FVec Ideal S1x2048 .f32) (z : FVec Ideal S256x2048 .bf16) (r : Fin 256) (j : Fin 2048) :
    gated y x d z (ix2 r j) = (y (ix2 r j) + x (ix2 r j) * d (ix2 0 j)) * z (ix2 r j) := by
  unfold gated
  pointwise

theorem outPieces_at (y : FVec Ideal S256x2048 .f32) (w : Fin 4 → FVec Ideal S1x512 .f32) (r : Fin 256) (j : Fin 2048) :
    View.canon (outPieces y w) (ix2 r j) = normed ⟨j.val / 512, by omega⟩ y (w ⟨j.val / 512, by omega⟩) (ix2 r ⟨j.val % 512, by omega⟩) := by
  refine View.canon_eq_of_allAt _ _ _ ?_ ?_
  · refine ⟨_, List.mem_map_of_mem (show (⟨j.val / 512, by omega⟩ : Fin 4) ∈ ([3, 2, 1, 0] : List (Fin 4)) by
      generalize (⟨j.val / 512, by omega⟩ : Fin 4) = t; revert t; decide), ?_⟩
    rw [Rect.mem_set_unit]
    intro a
    fin_cases a
    · show 0 ≤ r.val ∧ r.val < 0 + 256
      omega
    · show 512 * (j.val / 512) ≤ j.val ∧ j.val < 512 * (j.val / 512) + 512
      omega
  · have hr : j.val / 512 < 4 := by omega
    intro p hp
    obtain ⟨g, _, rfl⟩ := List.mem_map.mp hp
    intro y hy
    have h0 : 0 + 1 * (y 0).val = r.val := congrArg (fun i => (i 0).val) hy
    have h1 : 512 * g.val + 1 * (y 1).val = j.val := congrArg (fun i => (i 1).val) hy
    have y1 : (y 1).val < 512 := (y 1).isLt
    obtain rfl : (⟨j.val / 512, hr⟩ : Fin 4) = g := Fin.ext (by show j.val / 512 = g.val; omega)
    have ey : y = ix2 r (⟨j.val % 512, by omega⟩ : Fin 512) := by
      funext a
      fin_cases a
      · exact Fin.ext (show (y 0).val = r.val by omega)
      · exact Fin.ext (show (y 1).val = j.val % 512 by simp only at h1; omega)
    rw [ey]

/-- The state that a point leaves is the second chunk's. -/
theorem statePieces_at (v : View sig .tc .vmem S128x2048 .f32) (st : Fin 2 → Fin 4 → FVec Ideal S128x512 .f32)
    (tail : List (View.Piece (Elt Ideal) S128x2048 .f32)) (n : Fin 128) (q : Fin 2048) :
    View.canon (statePieces st tail allStates) (ix2 n q) = st 1 ⟨q.val / 512, by omega⟩ (ix2 n ⟨q.val % 512, by omega⟩) := by
  have hl : ∀ g : Fin 4, lastOf g allStates = some 1 := by decide
  have h := congrFun (loadH_some v st tail ⟨q.val / 512, by omega⟩ 1 allStates (hl _)) (ix2 n ⟨q.val % 512, by omega⟩)
  rw [← h, loadH, View.readCov_eq_canon']
  refine congrArg _ (funext fun a => ?_)
  fin_cases a
  · exact Fin.ext (show n.val = 0 + 1 * n.val by omega)
  · exact Fin.ext (show q.val = 512 * (q.val / 512) + 1 * (q.val % 512) by omega)

section Point

variable {X D Z : ℕ → ℕ → EReal} {A K W : ℕ → EReal} {H : ℕ → ℕ → ℕ → EReal} (hD : Nn D) (hA : Re A) (C : ℕ)
  (hH : ∀ n j, H (C + 1) n j = nxt X D A C (H C) n j)
  (dt : Fin 2 → FVec Ideal S128x128 .f32) (al : FVec Ideal S1x128 .f32) (b cc : Fin 2 → Fin 4 → FVec Ideal S128x128 .f32)
  (x h : Fin 2 → Fin 4 → FVec Ideal S128x512 .f32) (ex : Fin 4 → FVec Ideal S128x512 .bf16)
  (xw : FVec Ideal S256x2048 .f32) (d : FVec Ideal S1x2048 .f32) (z : FVec Ideal S256x2048 .bf16) (w : Fin 4 → FVec Ideal S1x512 .f32)
  (hdt : ∀ (k : Fin 2) (s n : Fin 128), dt k (ix2 s n) = D (128 * (C + k.val) + s.val) n.val)
  (hal : ∀ k : Fin 128, 0 - Ideal.exp (al (ix2 0 k)) = A k.val)
  (hb : ∀ (k : Fin 2) g (s n : Fin 128), b k g (ix2 s n) = X (128 * (C + k.val) + s.val) (2048 + 128 * g.val + n.val))
  (hc : ∀ (k : Fin 2) g (s n : Fin 128), cc k g (ix2 s n) = X (128 * (C + k.val) + s.val) (2560 + 128 * g.val + n.val))
  (hx : ∀ (k : Fin 2) g (s : Fin 128) (q : Fin 512), x k g (ix2 s q) = X (128 * (C + k.val) + s.val) (512 * g.val + q.val))
  (hex : ∀ g (k : Fin 128) (q : Fin 512), ex g (ix2 k q) = if k.val = (512 * g.val + q.val) / 64 then 1 else 0)
  (h0 : ∀ g (n : Fin 128) (q : Fin 512), h 0 g (ix2 n q) = H C n.val (512 * g.val + q.val))
  (h1 : ∀ g, h 1 g = stateAll (dt 0) al (b 0 g) (x 0 g) (h 0 g) (ex g))
  (hxw : ∀ (r : Fin 256) (j : Fin 2048), xw (ix2 r j) = X (128 * C + r.val) j.val)
  (hd : ∀ j : Fin 2048, d (ix2 0 j) = K j.val)
  (hz : ∀ (r : Fin 256) (j : Fin 2048), z (ix2 r j) = Z (128 * C + r.val) j.val)
  (hw : ∀ (g : Fin 4) (q : Fin 512), w g (ix2 0 q) = W (512 * g.val + q.val))

include hD hA hH hdt hal hb hc hx hex h0 h1 in
theorem loaded_at (k : Fin 2) (g : Fin 4) (n : Fin 128) (q : Fin 512) :
    h k g (ix2 n q) = H (C + k.val) n.val (512 * g.val + q.val) := by
  match k with
  | 0 => exact h0 g n q
  | 1 =>
    rw [h1]
    show _ = H (C + 1) _ _
    rw [hH]
    exact stateAll_at C g (H C) (dt 0) al (b 0 g) (x 0 g) (h 0 g) (ex g) (hdt 0) hal (hb 0 g) (hx 0 g) (h0 g) (hex g) n q

include hD hA hH hdt hal hb hc hx hex h0 h1 in
/-- The state after a point. -/
theorem pointState_at (v : View sig .tc .vmem S128x2048 .f32) (tail : List (View.Piece (Elt Ideal) S128x2048 .f32)) (n : Fin 128) (q : Fin 2048) :
    View.canon (statePieces (fun k g => stateAll (dt k) al (b k g) (x k g) (h k g) (ex g)) tail allStates) (ix2 n q)
      = nxt X D A (C + 1) (H (C + 1)) n.val q.val := by
  rw [statePieces_at v]
  refine (stateAll_at (C + 1) _ (H (C + 1)) (dt 1) al (b 1 _) (x 1 _) (h 1 _) (ex _) (hdt 1) hal (hb 1 _) (hx 1 _)
    (loaded_at hD hA C hH dt al b cc x h ex hdt hal hb hc hx hex h0 h1 1 _) (hex _) n _).trans ?_
  show nxt X D A (C + 1) (H (C + 1)) n.val (512 * (q.val / 512) + q.val % 512) = _
  rw [Nat.div_add_mod]

include hD hA hH hdt hal hb hc hx hex h0 h1 hxw hd hz in
theorem pointGated_at (v : View sig .tc .vmem S256x2048 .f32) (r : Fin 256) (j : Fin 2048) :
    gated (wholeY v (pieces dt al b cc x h ex)) xw d z (ix2 r j) = gt X D A K Z H (128 * C + r.val) j.val := by
  rw [gated_at, wholeY_at hD hA (fun k => C + k.val) (fun k => H (C + k.val)) dt al b cc x h ex hdt hal hb hc hx
    (loaded_at hD hA C hH dt al b cc x h ex hdt hal hb hc hx hex h0 h1) hex, hxw, hd, hz, gt]
  rw [show (128 * C + r.val) / 128 = C + r.val / 128 by omega, show (128 * C + r.val) % 128 = r.val % 128 by omega]

include hD hA hH hdt hal hb hc hx hex h0 h1 hxw hd hz hw in
/-- A point's output. -/
theorem pointOut_at (v : View sig .tc .vmem S256x2048 .f32) (r : Fin 256) (j : Fin 2048) :
    View.canon (outPieces (gated (wholeY v (pieces dt al b cc x h ex)) xw d z) w) (ix2 r j) = ot X D A K Z W H (128 * C + r.val) j.val := by
  have hg := pointGated_at hD hA C hH dt al b cc x h ex xw d z hdt hal hb hc hx hex h0 h1 hxw hd hz v r
  rw [outPieces_at, normed_at, ot, hw]
  simp only [hg, Nat.div_add_mod]

end Point

/-- The blocks that point `n` reads: rows `256 n …` of the arrays `X`, `D`, `Z` and the rows `A`, `K`, `W`. -/
structure Blk (X D Z : ℕ → ℕ → EReal) (A K W : ℕ → EReal) (n : ℕ) (x0 : Vec Ideal S256x2048 .bf16) (x1 : Vec Ideal S256x3072 .f32)
    (x2 : Vec Ideal S256x128 .f32) (x3 : Vec Ideal S1x128 .f32) (x4 : Vec Ideal S128x2048 .bf16) (x5 x6 : Vec Ideal S1x2048 .f32) : Prop where
  z : ∀ (r : Fin 256) (j : Fin 2048), x0 (ix2 r j) = Z (256 * n + r.val) j.val
  x : ∀ (r : Fin 256) (j : Fin 3072), x1 (ix2 r j) = X (256 * n + r.val) j.val
  d : ∀ (r : Fin 256) (j : Fin 128), x2 (ix2 r j) = D (256 * n + r.val) j.val
  a : ∀ j : Fin 128, 0 - Ideal.exp (x3 (ix2 0 j)) = A j.val
  e : ∀ (k : Fin 128) (j : Fin 2048), x4 (ix2 k j) = if k.val = j.val / 64 then 1 else 0
  s : ∀ j : Fin 2048, x5 (ix2 0 j) = K j.val
  w : ∀ j : Fin 2048, x6 (ix2 0 j) = W j.val

end Cert.Scan
-- ==== Proof.StepA.lean ====
module

public import proofs.«01_k».proof.Proof.Loads

@[expose] public section

set_option maxRecDepth 16384

noncomputable section

/-! A point at a sequence's start: what its body stores, through the chunk expressions. -/

namespace Cert.Scan

open Idealize.ShloMosaic Idealize.ShloMosaic.TcCoe Idealize.ShloMosaic.Tactic
open Cert.KernelIdeal Cert.KernelIdeal.Gen

variable {F : FTy → Type} [FloatOps F] [Named F]

section Step

variable (arg2 : Memref sig .tc .vmem S256x2048 .bf16) (harg2 : arg2.IsWhole) (arg3 : Memref sig .tc .vmem S256x3072 .f32) (harg3 : arg3.IsWhole)
  (arg4 : Memref sig .tc .vmem S256x128 .f32) (harg4 : arg4.IsWhole) (arg5 : Memref sig .tc .vmem S1x128 .f32) (harg5 : arg5.IsWhole)
  (arg6 : Memref sig .tc .vmem S128x2048 .bf16) (harg6 : arg6.IsWhole) (arg7 : Memref sig .tc .vmem S1x2048 .f32) (harg7 : arg7.IsWhole)
  (arg8 : Memref sig .tc .vmem S1x2048 .f32) (harg8 : arg8.IsWhole) (arg9 : Memref sig .tc .vmem S128x2048 .f32) (harg9 : arg9.IsWhole)
  (arg10 : Memref sig .tc .vmem S256x2048 .bf16) (harg10 : arg10.IsWhole) (arg11 : Memref sig .tc .vmem S1x2048x128 .f32) (harg11 : arg11.IsWhole)
  (arg12 : Memref sig .tc .vmem S128x2048 .bf16) (harg12 : arg12.IsWhole)
  (x0 : Vec F S256x2048 .bf16) (x1 : Vec F S256x3072 .f32) (x2 : Vec F S256x128 .f32) (x3 : Vec F S1x128 .f32) (x4 : Vec F S128x2048 .bf16)
  (x5 : Vec F S1x2048 .f32) (x6 : Vec F S1x2048 .f32) (x7 : Vec F S128x2048 .f32)
  (c : Dev nD) (i : grid0.Coords) (arg13 : Memref sig .tc .vmem S128x2048 .f32) (harg13 : arg13.IsWhole)
  (arg14 : Memref sig .tc .vmem S256x2048 .f32) (harg14 : arg14.IsWhole)

/-- The states that the groups load. -/
def hA : Fin 2 → Fin 4 → FVec F S128x512 .f32
  | 0, 0 => kernelRun0_A.sl.v98 c arg13
  | 0, 1 => kernelRun0_A.sl.v272 c arg3 harg3 arg4 harg4 arg5 harg5 arg6 harg6 arg13 x1 x2 x3 x4
  | 0, 2 => kernelRun0_A.sl.v446 c arg3 harg3 arg4 harg4 arg5 harg5 arg6 harg6 arg13 x1 x2 x3 x4
  | 0, 3 => kernelRun0_A.sl.v620 c arg3 harg3 arg4 harg4 arg5 harg5 arg6 harg6 arg13 x1 x2 x3 x4
  | 1, 0 => kernelRun0_A.sl.v871 c arg3 harg3 arg4 harg4 arg5 harg5 arg6 harg6 arg13 x1 x2 x3 x4
  | 1, 1 => kernelRun0_A.sl.v1045 c arg3 harg3 arg4 harg4 arg5 harg5 arg6 harg6 arg13 x1 x2 x3 x4
  | 1, 2 => kernelRun0_A.sl.v1219 c arg3 harg3 arg4 harg4 arg5 harg5 arg6 harg6 arg13 x1 x2 x3 x4
  | 1, 3 => kernelRun0_A.sl.v1393 c arg3 harg3 arg4 harg4 arg5 harg5 arg6 harg6 arg13 x1 x2 x3 x4

/-- The states that the groups store. -/
def stA (k : Fin 2) (g : Fin 4) : FVec F S128x512 .f32 :=
  stateAll (ldD arg4 harg4 x2 k) (ldA arg5 harg5 x3) (ldB arg3 harg3 x1 k g) (ldX arg3 harg3 x1 k g) ((hA arg3 harg3 arg4 harg4 arg5 harg5 arg6 harg6 x1 x2 x3 x4 c arg13) k g) (ldE arg6 harg6 x4 g)

theorem pieces_A : kernelRun0_A.sl.HS1_32 c arg3 harg3 arg4 harg4 arg5 harg5 arg6 harg6 arg13 x1 x2 x3 x4
    = pieces (ldD arg4 harg4 x2) (ldA arg5 harg5 x3) (ldB arg3 harg3 x1) (ldC arg3 harg3 x1) (ldX arg3 harg3 x1)
      (hA arg3 harg3 arg4 harg4 arg5 harg5 arg6 harg6 x1 x2 x3 x4 c arg13) (ldE arg6 harg6 x4) := by
  sl_kernel_rfl

theorem hA_0_0 : (hA arg3 harg3 arg4 harg4 arg5 harg5 arg6 harg6 x1 x2 x3 x4 c arg13) 0 0 = zeroH :=
  (show (hA arg3 harg3 arg4 harg4 arg5 harg5 arg6 harg6 x1 x2 x3 x4 c arg13) 0 0 = loadH arg13.view (statePieces (stA arg3 harg3 arg4 harg4 arg5 harg5 arg6 harg6 x1 x2 x3 x4 c arg13) [zeroPiece] []) 0 by sl_kernel_rfl).trans
    ((loadH_none _ _ _ _ _ rfl).trans (loadH_zero _ _))

theorem hA_1_0 : (hA arg3 harg3 arg4 harg4 arg5 harg5 arg6 harg6 x1 x2 x3 x4 c arg13) 1 0 = (stA arg3 harg3 arg4 harg4 arg5 harg5 arg6 harg6 x1 x2 x3 x4 c arg13) 0 0 :=
  (show (hA arg3 harg3 arg4 harg4 arg5 harg5 arg6 harg6 x1 x2 x3 x4 c arg13) 1 0 = loadH arg13.view (statePieces (stA arg3 harg3 arg4 harg4 arg5 harg5 arg6 harg6 x1 x2 x3 x4 c arg13) [zeroPiece] [(0,3),(0,2),(0,1),(0,0)]) 0 by sl_kernel_rfl).trans
    (loadH_some _ _ _ _ _ _ rfl)

theorem hA_0_1 : (hA arg3 harg3 arg4 harg4 arg5 harg5 arg6 harg6 x1 x2 x3 x4 c arg13) 0 1 = zeroH :=
  (show (hA arg3 harg3 arg4 harg4 arg5 harg5 arg6 harg6 x1 x2 x3 x4 c arg13) 0 1 = loadH arg13.view (statePieces (stA arg3 harg3 arg4 harg4 arg5 harg5 arg6 harg6 x1 x2 x3 x4 c arg13) [zeroPiece] [(0,0)]) 1 by sl_kernel_rfl).trans
    ((loadH_none _ _ _ _ _ rfl).trans (loadH_zero _ _))

theorem hA_1_1 : (hA arg3 harg3 arg4 harg4 arg5 harg5 arg6 harg6 x1 x2 x3 x4 c arg13) 1 1 = (stA arg3 harg3 arg4 harg4 arg5 harg5 arg6 harg6 x1 x2 x3 x4 c arg13) 0 1 :=
  (show (hA arg3 harg3 arg4 harg4 arg5 harg5 arg6 harg6 x1 x2 x3 x4 c arg13) 1 1 = loadH arg13.view (statePieces (stA arg3 harg3 arg4 harg4 arg5 harg5 arg6 harg6 x1 x2 x3 x4 c arg13) [zeroPiece] [(1,0),(0,3),(0,2),(0,1),(0,0)]) 1 by sl_kernel_rfl).trans
    (loadH_some _ _ _ _ _ _ rfl)

theorem hA_0_2 : (hA arg3 harg3 arg4 harg4 arg5 harg5 arg6 harg6 x1 x2 x3 x4 c arg13) 0 2 = zeroH :=
  (show (hA arg3 harg3 arg4 harg4 arg5 harg5 arg6 harg6 x1 x2 x3 x4 c arg13) 0 2 = loadH arg13.view (statePieces (stA arg3 harg3 arg4 harg4 arg5 harg5 arg6 harg6 x1 x2 x3 x4 c arg13) [zeroPiece] [(0,1),(0,0)]) 2 by sl_kernel_rfl).trans
    ((loadH_none _ _ _ _ _ rfl).trans (loadH_zero _ _))

theorem hA_1_2 : (hA arg3 harg3 arg4 harg4 arg5 harg5 arg6 harg6 x1 x2 x3 x4 c arg13) 1 2 = (stA arg3 harg3 arg4 harg4 arg5 harg5 arg6 harg6 x1 x2 x3 x4 c arg13) 0 2 :=
  (show (hA arg3 harg3 arg4 harg4 arg5 harg5 arg6 harg6 x1 x2 x3 x4 c arg13) 1 2 = loadH arg13.view (statePieces (stA arg3 harg3 arg4 harg4 arg5 harg5 arg6 harg6 x1 x2 x3 x4 c arg13) [zeroPiece] [(1,1),(1,0),(0,3),(0,2),(0,1),(0,0)]) 2 by sl_kernel_rfl).trans
    (loadH_some _ _ _ _ _ _ rfl)

theorem hA_0_3 : (hA arg3 harg3 arg4 harg4 arg5 harg5 arg6 harg6 x1 x2 x3 x4 c arg13) 0 3 = zeroH :=
  (show (hA arg3 harg3 arg4 harg4 arg5 harg5 arg6 harg6 x1 x2 x3 x4 c arg13) 0 3 = loadH arg13.view (statePieces (stA arg3 harg3 arg4 harg4 arg5 harg5 arg6 harg6 x1 x2 x3 x4 c arg13) [zeroPiece] [(0,2),(0,1),(0,0)]) 3 by sl_kernel_rfl).trans
    ((loadH_none _ _ _ _ _ rfl).trans (loadH_zero _ _))

theorem hA_1_3 : (hA arg3 harg3 arg4 harg4 arg5 harg5 arg6 harg6 x1 x2 x3 x4 c arg13) 1 3 = (stA arg3 harg3 arg4 harg4 arg5 harg5 arg6 harg6 x1 x2 x3 x4 c arg13) 0 3 :=
  (show (hA arg3 harg3 arg4 harg4 arg5 harg5 arg6 harg6 x1 x2 x3 x4 c arg13) 1 3 = loadH arg13.view (statePieces (stA arg3 harg3 arg4 harg4 arg5 harg5 arg6 harg6 x1 x2 x3 x4 c arg13) [zeroPiece] [(1,2),(1,1),(1,0),(0,3),(0,2),(0,1),(0,0)]) 3 by sl_kernel_rfl).trans
    (loadH_some _ _ _ _ _ _ rfl)

/-- A group's first state in this point, and its second. -/
theorem hA_0 (g : Fin 4) : (hA arg3 harg3 arg4 harg4 arg5 harg5 arg6 harg6 x1 x2 x3 x4 c arg13) 0 g = zeroH := by
  match g with
  | 0 => exact hA_0_0 arg3 harg3 arg4 harg4 arg5 harg5 arg6 harg6 x1 x2 x3 x4 c arg13
  | 1 => exact hA_0_1 arg3 harg3 arg4 harg4 arg5 harg5 arg6 harg6 x1 x2 x3 x4 c arg13
  | 2 => exact hA_0_2 arg3 harg3 arg4 harg4 arg5 harg5 arg6 harg6 x1 x2 x3 x4 c arg13
  | 3 => exact hA_0_3 arg3 harg3 arg4 harg4 arg5 harg5 arg6 harg6 x1 x2 x3 x4 c arg13

theorem hA_1 (g : Fin 4) : (hA arg3 harg3 arg4 harg4 arg5 harg5 arg6 harg6 x1 x2 x3 x4 c arg13) 1 g = (stA arg3 harg3 arg4 harg4 arg5 harg5 arg6 harg6 x1 x2 x3 x4 c arg13) 0 g := by
  match g with
  | 0 => exact hA_1_0 arg3 harg3 arg4 harg4 arg5 harg5 arg6 harg6 x1 x2 x3 x4 c arg13
  | 1 => exact hA_1_1 arg3 harg3 arg4 harg4 arg5 harg5 arg6 harg6 x1 x2 x3 x4 c arg13
  | 2 => exact hA_1_2 arg3 harg3 arg4 harg4 arg5 harg5 arg6 harg6 x1 x2 x3 x4 c arg13
  | 3 => exact hA_1_3 arg3 harg3 arg4 harg4 arg5 harg5 arg6 harg6 x1 x2 x3 x4 c arg13

variable (hc0 : cond0_0 i) (hc1 : ¬cond0_1 i)

/-- The stores of the output. -/
theorem outs_A : (kernelRun0_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7).1
    = outPieces (gated (wholeY arg14.view (pieces (ldD arg4 harg4 x2) (ldA arg5 harg5 x3) (ldB arg3 harg3 x1) (ldC arg3 harg3 x1) (ldX arg3 harg3 x1)
      (hA arg3 harg3 arg4 harg4 arg5 harg5 arg6 harg6 x1 x2 x3 x4 c arg13) (ldE arg6 harg6 x4))) (ldX0 arg3 harg3 x1) (ldSkip arg7 harg7 x5) (ldGate arg2 harg2 x0)) (ldNorm arg8 harg8 x6) := by
  sl_kernel_rfl

/-- The store of the weights' cast. -/
theorem w_A : (kernelRun0_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7).2.2.1
    = [⟨Rect.unit (s := S128x2048) ![0, 0] S128x2048.size (by decide), castW (ldW arg9 harg9 x7)⟩] := by
  sl_kernel_rfl

/-- The stores of the states. -/
theorem states_A : (kernelRun0_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7).2.2.2.1 = statePieces (stA arg3 harg3 arg4 harg4 arg5 harg5 arg6 harg6 x1 x2 x3 x4 c arg13) [zeroPiece] allStates := by
  sl_kernel_rfl

end Step

end Cert.Scan
-- ==== Proof.PtA.lean ====
module

public import proofs.«01_k».proof.Proof.Block
public import proofs.«01_k».proof.Proof.Gen.KernelIdeal.Frame
public import proofs.«01_k».proof.Proof.StepA

@[expose] public section

set_option maxRecDepth 16384

noncomputable section

/-! The first point of a sequence: its output, its state and its cast weights at an index. -/

namespace Cert.Scan

open Idealize.ShloMosaic Idealize.ShloMosaic.TcCoe Idealize.ShloMosaic.Tactic
open Cert.KernelIdeal Cert.KernelIdeal.Gen

section PointA

variable (arg2 : Memref sig .tc .vmem S256x2048 .bf16) (harg2 : arg2.IsWhole) (arg3 : Memref sig .tc .vmem S256x3072 .f32) (harg3 : arg3.IsWhole)
  (arg4 : Memref sig .tc .vmem S256x128 .f32) (harg4 : arg4.IsWhole) (arg5 : Memref sig .tc .vmem S1x128 .f32) (harg5 : arg5.IsWhole)
  (arg6 : Memref sig .tc .vmem S128x2048 .bf16) (harg6 : arg6.IsWhole) (arg7 : Memref sig .tc .vmem S1x2048 .f32) (harg7 : arg7.IsWhole)
  (arg8 : Memref sig .tc .vmem S1x2048 .f32) (harg8 : arg8.IsWhole) (arg9 : Memref sig .tc .vmem S128x2048 .f32) (harg9 : arg9.IsWhole)
  (arg10 : Memref sig .tc .vmem S256x2048 .bf16) (harg10 : arg10.IsWhole) (arg11 : Memref sig .tc .vmem S1x2048x128 .f32) (harg11 : arg11.IsWhole)
  (arg12 : Memref sig .tc .vmem S128x2048 .bf16) (harg12 : arg12.IsWhole)
  (x0 : Vec Ideal S256x2048 .bf16) (x1 : Vec Ideal S256x3072 .f32) (x2 : Vec Ideal S256x128 .f32) (x3 : Vec Ideal S1x128 .f32) (x4 : Vec Ideal S128x2048 .bf16)
  (x5 : Vec Ideal S1x2048 .f32) (x6 : Vec Ideal S1x2048 .f32) (x7 : Vec Ideal S128x2048 .f32)
  (c : Dev nD) (i : grid0.Coords) (arg13 : Memref sig .tc .vmem S128x2048 .f32) (harg13 : arg13.IsWhole)
  (arg14 : Memref sig .tc .vmem S256x2048 .f32) (harg14 : arg14.IsWhole)
  (hc0 : cond0_0 i) (hc1 : ¬cond0_1 i)
  {X D Z : ℕ → ℕ → EReal} {A K W : ℕ → EReal} {H : ℕ → ℕ → ℕ → EReal} (hD : Nn D) (hA : Re A) (n : ℕ)
  (B : Blk X D Z A K W n x0 x1 x2 x3 x4 x5 x6) (hH : ∀ p j, H (2 * n + 1) p j = nxt X D A (2 * n) (H (2 * n)) p j)
  (hS : ∀ p j, H (2 * n) p j = 0)

include hD hA B hH hS in
theorem out8_A (r : Fin 256) (j : Fin 2048) :
    out0_A_8 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 (ix2 r j) = ot X D A K Z W H (256 * n + r.val) j.val := by
  unfold out0_A_8
  rw [View.read_writes_eq_canon _ _ _ (cover0_A_8 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7), outs_A]
  rw [show 256 * n + r.val = 128 * (2 * n) + r.val by omega]
  refine pointOut_at hD hA (2 * n) hH _ _ _ _ _ _ _ _ _ _ _ ?_ ?_ ?_ ?_ ?_ ?_ ?_ ?_ ?_ ?_ ?_ ?_ arg14.view r j
  · intro k s q
    rw [ldD_at, B.d]
    exact congrArg (D · _) (by show 256 * n + (128 * k.val + s.val) = _; omega)
  · intro k
    rw [ldA_at, B.a]
  · intro k g s q
    rw [ldB_at, B.x]
    exact congrArg (X · _) (by show 256 * n + (128 * k.val + s.val) = _; omega)
  · intro k g s q
    rw [ldC_at, B.x]
    exact congrArg (X · _) (by show 256 * n + (128 * k.val + s.val) = _; omega)
  · intro k g s q
    rw [ldX_at, B.x]
    exact congrArg (X · _) (by show 256 * n + (128 * k.val + s.val) = _; omega)
  · intro g k q
    rw [ldE_at, B.e]
  · intro g p q
    rw [hA_0, hS]
    exact Ideal.ofBits_zero .f32
  · intro g
    exact hA_1 arg3 harg3 arg4 harg4 arg5 harg5 arg6 harg6 x1 x2 x3 x4 c arg13 g
  · intro r j
    rw [ldX0_at, B.x, show 256 * n + r.val = 128 * (2 * n) + r.val by omega]
  · intro j
    rw [ldSkip_at, B.s]
  · intro r j
    rw [ldGate_at, B.z, show 256 * n + r.val = 128 * (2 * n) + r.val by omega]
  · intro g q
    rw [ldNorm_at, B.w]

include hD hA B hH hS in
theorem canon_A (p : Fin 128) (q : Fin 2048) :
    View.canon (statePieces (stA arg3 harg3 arg4 harg4 arg5 harg5 arg6 harg6 x1 x2 x3 x4 c arg13) [zeroPiece] allStates) (ix2 p q) = nxt X D A (2 * n + 1) (H (2 * n + 1)) p.val q.val := by
  refine pointState_at hD hA (2 * n) hH _ _ _ (ldC arg3 harg3 x1) _ _ _ ?_ ?_ ?_ ?_ ?_ ?_ ?_ ?_ arg13.view [zeroPiece] p q
  · intro k s q
    rw [ldD_at, B.d]
    exact congrArg (D · _) (by show 256 * n + (128 * k.val + s.val) = _; omega)
  · intro k
    rw [ldA_at, B.a]
  · intro k g s q
    rw [ldB_at, B.x]
    exact congrArg (X · _) (by show 256 * n + (128 * k.val + s.val) = _; omega)
  · intro k g s q
    rw [ldC_at, B.x]
    exact congrArg (X · _) (by show 256 * n + (128 * k.val + s.val) = _; omega)
  · intro k g s q
    rw [ldX_at, B.x]
    exact congrArg (X · _) (by show 256 * n + (128 * k.val + s.val) = _; omega)
  · intro g k q
    rw [ldE_at, B.e]
  · intro g p q
    rw [hA_0, hS]
    exact Ideal.ofBits_zero .f32
  · intro g
    exact hA_1 arg3 harg3 arg4 harg4 arg5 harg5 arg6 harg6 x1 x2 x3 x4 c arg13 g

include hD hA B hH hS in
theorem sout_A (p : Fin 128) (q : Fin 2048) :
    sout0_A_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 (ix2 p q) = nxt X D A (2 * n + 1) (H (2 * n + 1)) p.val q.val := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7), states_A]
  exact canon_A arg3 harg3 arg4 harg4 arg5 harg5 arg6 harg6 x0 x1 x2 x3 x4 x5 x6 c arg13 hD hA n B hH hS p q

theorem out10_A (r : Fin 128) (j : Fin 2048) : out0_A_10 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 (ix2 r j) = x7 (ix2 r j) := by
  unfold out0_A_10
  rw [View.read_writes_eq_canon _ _ _ (cover0_A_10 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7), w_A, View.canon_cons_unit_lit (h := by intro a; fin_cases a <;> rfl)]
  exact castW_at arg9 harg9 x7 r j

end PointA

end Cert.Scan
-- ==== Proof.StepB.lean ====
module

public import proofs.«01_k».proof.Proof.Loads

@[expose] public section

set_option maxRecDepth 16384

noncomputable section

/-! A point within a sequence: what its body stores, through the chunk expressions. -/

namespace Cert.Scan

open Idealize.ShloMosaic Idealize.ShloMosaic.TcCoe Idealize.ShloMosaic.Tactic
open Cert.KernelIdeal Cert.KernelIdeal.Gen

variable {F : FTy → Type} [FloatOps F] [Named F]

section Step

variable (arg2 : Memref sig .tc .vmem S256x2048 .bf16) (harg2 : arg2.IsWhole) (arg3 : Memref sig .tc .vmem S256x3072 .f32) (harg3 : arg3.IsWhole)
  (arg4 : Memref sig .tc .vmem S256x128 .f32) (harg4 : arg4.IsWhole) (arg5 : Memref sig .tc .vmem S1x128 .f32) (harg5 : arg5.IsWhole)
  (arg6 : Memref sig .tc .vmem S128x2048 .bf16) (harg6 : arg6.IsWhole) (arg7 : Memref sig .tc .vmem S1x2048 .f32) (harg7 : arg7.IsWhole)
  (arg8 : Memref sig .tc .vmem S1x2048 .f32) (harg8 : arg8.IsWhole) (arg9 : Memref sig .tc .vmem S128x2048 .f32) (harg9 : arg9.IsWhole)
  (arg10 : Memref sig .tc .vmem S256x2048 .bf16) (harg10 : arg10.IsWhole) (arg11 : Memref sig .tc .vmem S1x2048x128 .f32) (harg11 : arg11.IsWhole)
  (arg12 : Memref sig .tc .vmem S128x2048 .bf16) (harg12 : arg12.IsWhole)
  (x0 : Vec F S256x2048 .bf16) (x1 : Vec F S256x3072 .f32) (x2 : Vec F S256x128 .f32) (x3 : Vec F S1x128 .f32) (x4 : Vec F S128x2048 .bf16)
  (x5 : Vec F S1x2048 .f32) (x6 : Vec F S1x2048 .f32) (x7 : Vec F S128x2048 .f32)
  (c : Dev nD) (i : grid0.Coords) (arg13 : Memref sig .tc .vmem S128x2048 .f32) (harg13 : arg13.IsWhole)
  (arg14 : Memref sig .tc .vmem S256x2048 .f32) (harg14 : arg14.IsWhole) (xs0 : Vec F S128x2048 .f32)

/-- The states that the groups load. -/
def hB : Fin 2 → Fin 4 → FVec F S128x512 .f32
  | 0, 0 => ldS arg13 harg13 xs0 0
  | 0, 1 => ldS arg13 harg13 xs0 1
  | 0, 2 => ldS arg13 harg13 xs0 2
  | 0, 3 => ldS arg13 harg13 xs0 3
  | 1, 0 => kernelRun0_B.sl.v871 c arg3 harg3 arg4 harg4 arg5 harg5 arg6 harg6 arg13 harg13 x1 x2 x3 x4 xs0
  | 1, 1 => kernelRun0_B.sl.v1045 c arg3 harg3 arg4 harg4 arg5 harg5 arg6 harg6 arg13 harg13 x1 x2 x3 x4 xs0
  | 1, 2 => kernelRun0_B.sl.v1219 c arg3 harg3 arg4 harg4 arg5 harg5 arg6 harg6 arg13 harg13 x1 x2 x3 x4 xs0
  | 1, 3 => kernelRun0_B.sl.v1393 c arg3 harg3 arg4 harg4 arg5 harg5 arg6 harg6 arg13 harg13 x1 x2 x3 x4 xs0

/-- The states that the groups store. -/
def stB (k : Fin 2) (g : Fin 4) : FVec F S128x512 .f32 :=
  stateAll (ldD arg4 harg4 x2 k) (ldA arg5 harg5 x3) (ldB arg3 harg3 x1 k g) (ldX arg3 harg3 x1 k g) ((hB arg3 harg3 arg4 harg4 arg5 harg5 arg6 harg6 x1 x2 x3 x4 c arg13 harg13 xs0) k g) (ldE arg6 harg6 x4 g)

theorem pieces_B : kernelRun0_B.sl.HS1_32 c arg3 harg3 arg4 harg4 arg5 harg5 arg6 harg6 arg13 harg13 x1 x2 x3 x4 xs0
    = pieces (ldD arg4 harg4 x2) (ldA arg5 harg5 x3) (ldB arg3 harg3 x1) (ldC arg3 harg3 x1) (ldX arg3 harg3 x1)
      (hB arg3 harg3 arg4 harg4 arg5 harg5 arg6 harg6 x1 x2 x3 x4 c arg13 harg13 xs0) (ldE arg6 harg6 x4) := by
  sl_kernel_rfl

theorem hB_1_0 : (hB arg3 harg3 arg4 harg4 arg5 harg5 arg6 harg6 x1 x2 x3 x4 c arg13 harg13 xs0) 1 0 = (stB arg3 harg3 arg4 harg4 arg5 harg5 arg6 harg6 x1 x2 x3 x4 c arg13 harg13 xs0) 0 0 :=
  (show (hB arg3 harg3 arg4 harg4 arg5 harg5 arg6 harg6 x1 x2 x3 x4 c arg13 harg13 xs0) 1 0 = loadH arg13.view (statePieces (stB arg3 harg3 arg4 harg4 arg5 harg5 arg6 harg6 x1 x2 x3 x4 c arg13 harg13 xs0) [] [(0,3),(0,2),(0,1),(0,0)]) 0 by sl_kernel_rfl).trans
    (loadH_some _ _ _ _ _ _ rfl)

theorem hB_1_1 : (hB arg3 harg3 arg4 harg4 arg5 harg5 arg6 harg6 x1 x2 x3 x4 c arg13 harg13 xs0) 1 1 = (stB arg3 harg3 arg4 harg4 arg5 harg5 arg6 harg6 x1 x2 x3 x4 c arg13 harg13 xs0) 0 1 :=
  (show (hB arg3 harg3 arg4 harg4 arg5 harg5 arg6 harg6 x1 x2 x3 x4 c arg13 harg13 xs0) 1 1 = loadH arg13.view (statePieces (stB arg3 harg3 arg4 harg4 arg5 harg5 arg6 harg6 x1 x2 x3 x4 c arg13 harg13 xs0) [] [(1,0),(0,3),(0,2),(0,1),(0,0)]) 1 by sl_kernel_rfl).trans
    (loadH_some _ _ _ _ _ _ rfl)

theorem hB_1_2 : (hB arg3 harg3 arg4 harg4 arg5 harg5 arg6 harg6 x1 x2 x3 x4 c arg13 harg13 xs0) 1 2 = (stB arg3 harg3 arg4 harg4 arg5 harg5 arg6 harg6 x1 x2 x3 x4 c arg13 harg13 xs0) 0 2 :=
  (show (hB arg3 harg3 arg4 harg4 arg5 harg5 arg6 harg6 x1 x2 x3 x4 c arg13 harg13 xs0) 1 2 = loadH arg13.view (statePieces (stB arg3 harg3 arg4 harg4 arg5 harg5 arg6 harg6 x1 x2 x3 x4 c arg13 harg13 xs0) [] [(1,1),(1,0),(0,3),(0,2),(0,1),(0,0)]) 2 by sl_kernel_rfl).trans
    (loadH_some _ _ _ _ _ _ rfl)

theorem hB_1_3 : (hB arg3 harg3 arg4 harg4 arg5 harg5 arg6 harg6 x1 x2 x3 x4 c arg13 harg13 xs0) 1 3 = (stB arg3 harg3 arg4 harg4 arg5 harg5 arg6 harg6 x1 x2 x3 x4 c arg13 harg13 xs0) 0 3 :=
  (show (hB arg3 harg3 arg4 harg4 arg5 harg5 arg6 harg6 x1 x2 x3 x4 c arg13 harg13 xs0) 1 3 = loadH arg13.view (statePieces (stB arg3 harg3 arg4 harg4 arg5 harg5 arg6 harg6 x1 x2 x3 x4 c arg13 harg13 xs0) [] [(1,2),(1,1),(1,0),(0,3),(0,2),(0,1),(0,0)]) 3 by sl_kernel_rfl).trans
    (loadH_some _ _ _ _ _ _ rfl)

/-- A group's first state in this point, and its second. -/
theorem hB_0 (g : Fin 4) : (hB arg3 harg3 arg4 harg4 arg5 harg5 arg6 harg6 x1 x2 x3 x4 c arg13 harg13 xs0) 0 g = ldS arg13 harg13 xs0 g := by
  match g with
  | 0 => rfl
  | 1 => rfl
  | 2 => rfl
  | 3 => rfl

theorem hB_1 (g : Fin 4) : (hB arg3 harg3 arg4 harg4 arg5 harg5 arg6 harg6 x1 x2 x3 x4 c arg13 harg13 xs0) 1 g = (stB arg3 harg3 arg4 harg4 arg5 harg5 arg6 harg6 x1 x2 x3 x4 c arg13 harg13 xs0) 0 g := by
  match g with
  | 0 => exact hB_1_0 arg3 harg3 arg4 harg4 arg5 harg5 arg6 harg6 x1 x2 x3 x4 c arg13 harg13 xs0
  | 1 => exact hB_1_1 arg3 harg3 arg4 harg4 arg5 harg5 arg6 harg6 x1 x2 x3 x4 c arg13 harg13 xs0
  | 2 => exact hB_1_2 arg3 harg3 arg4 harg4 arg5 harg5 arg6 harg6 x1 x2 x3 x4 c arg13 harg13 xs0
  | 3 => exact hB_1_3 arg3 harg3 arg4 harg4 arg5 harg5 arg6 harg6 x1 x2 x3 x4 c arg13 harg13 xs0

variable (hc0 : ¬cond0_0 i) (hc1 : ¬cond0_1 i)

/-- The stores of the output. -/
theorem outs_B : (kernelRun0_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0).1
    = outPieces (gated (wholeY arg14.view (pieces (ldD arg4 harg4 x2) (ldA arg5 harg5 x3) (ldB arg3 harg3 x1) (ldC arg3 harg3 x1) (ldX arg3 harg3 x1)
      (hB arg3 harg3 arg4 harg4 arg5 harg5 arg6 harg6 x1 x2 x3 x4 c arg13 harg13 xs0) (ldE arg6 harg6 x4))) (ldX0 arg3 harg3 x1) (ldSkip arg7 harg7 x5) (ldGate arg2 harg2 x0)) (ldNorm arg8 harg8 x6) := by
  sl_kernel_rfl

/-- The store of the weights' cast. -/
theorem w_B : (kernelRun0_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0).2.2.1
    = [⟨Rect.unit (s := S128x2048) ![0, 0] S128x2048.size (by decide), castW (ldW arg9 harg9 x7)⟩] := by
  sl_kernel_rfl

/-- The stores of the states. -/
theorem states_B : (kernelRun0_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0).2.2.2.1 = statePieces (stB arg3 harg3 arg4 harg4 arg5 harg5 arg6 harg6 x1 x2 x3 x4 c arg13 harg13 xs0) [] allStates := by
  sl_kernel_rfl

end Step

end Cert.Scan
-- ==== Proof.PtB.lean ====
module

public import proofs.«01_k».proof.Proof.Block
public import proofs.«01_k».proof.Proof.Gen.KernelIdeal.Frame
public import proofs.«01_k».proof.Proof.StepB

@[expose] public section

set_option maxRecDepth 16384

noncomputable section

/-! A point inside a sequence: its output, its state and its cast weights at an index. -/

namespace Cert.Scan

open Idealize.ShloMosaic Idealize.ShloMosaic.TcCoe Idealize.ShloMosaic.Tactic
open Cert.KernelIdeal Cert.KernelIdeal.Gen

section PointB

variable (arg2 : Memref sig .tc .vmem S256x2048 .bf16) (harg2 : arg2.IsWhole) (arg3 : Memref sig .tc .vmem S256x3072 .f32) (harg3 : arg3.IsWhole)
  (arg4 : Memref sig .tc .vmem S256x128 .f32) (harg4 : arg4.IsWhole) (arg5 : Memref sig .tc .vmem S1x128 .f32) (harg5 : arg5.IsWhole)
  (arg6 : Memref sig .tc .vmem S128x2048 .bf16) (harg6 : arg6.IsWhole) (arg7 : Memref sig .tc .vmem S1x2048 .f32) (harg7 : arg7.IsWhole)
  (arg8 : Memref sig .tc .vmem S1x2048 .f32) (harg8 : arg8.IsWhole) (arg9 : Memref sig .tc .vmem S128x2048 .f32) (harg9 : arg9.IsWhole)
  (arg10 : Memref sig .tc .vmem S256x2048 .bf16) (harg10 : arg10.IsWhole) (arg11 : Memref sig .tc .vmem S1x2048x128 .f32) (harg11 : arg11.IsWhole)
  (arg12 : Memref sig .tc .vmem S128x2048 .bf16) (harg12 : arg12.IsWhole)
  (x0 : Vec Ideal S256x2048 .bf16) (x1 : Vec Ideal S256x3072 .f32) (x2 : Vec Ideal S256x128 .f32) (x3 : Vec Ideal S1x128 .f32) (x4 : Vec Ideal S128x2048 .bf16)
  (x5 : Vec Ideal S1x2048 .f32) (x6 : Vec Ideal S1x2048 .f32) (x7 : Vec Ideal S128x2048 .f32)
  (c : Dev nD) (i : grid0.Coords) (arg13 : Memref sig .tc .vmem S128x2048 .f32) (harg13 : arg13.IsWhole)
  (arg14 : Memref sig .tc .vmem S256x2048 .f32) (harg14 : arg14.IsWhole) (xs0 : Vec Ideal S128x2048 .f32)
  (hc0 : ¬cond0_0 i) (hc1 : ¬cond0_1 i)
  {X D Z : ℕ → ℕ → EReal} {A K W : ℕ → EReal} {H : ℕ → ℕ → ℕ → EReal} (hD : Nn D) (hA : Re A) (n : ℕ)
  (B : Blk X D Z A K W n x0 x1 x2 x3 x4 x5 x6) (hH : ∀ p j, H (2 * n + 1) p j = nxt X D A (2 * n) (H (2 * n)) p j)
  (hS : ∀ (p : Fin 128) (q : Fin 2048), xs0 (ix2 p q) = H (2 * n) p.val q.val)

include hD hA B hH hS in
theorem out8_B (r : Fin 256) (j : Fin 2048) :
    out0_B_8 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 (ix2 r j) = ot X D A K Z W H (256 * n + r.val) j.val := by
  unfold out0_B_8
  rw [View.read_writes_eq_canon _ _ _ (cover0_B_8 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0), outs_B]
  rw [show 256 * n + r.val = 128 * (2 * n) + r.val by omega]
  refine pointOut_at hD hA (2 * n) hH _ _ _ _ _ _ _ _ _ _ _ ?_ ?_ ?_ ?_ ?_ ?_ ?_ ?_ ?_ ?_ ?_ ?_ arg14.view r j
  · intro k s q
    rw [ldD_at, B.d]
    exact congrArg (D · _) (by show 256 * n + (128 * k.val + s.val) = _; omega)
  · intro k
    rw [ldA_at, B.a]
  · intro k g s q
    rw [ldB_at, B.x]
    exact congrArg (X · _) (by show 256 * n + (128 * k.val + s.val) = _; omega)
  · intro k g s q
    rw [ldC_at, B.x]
    exact congrArg (X · _) (by show 256 * n + (128 * k.val + s.val) = _; omega)
  · intro k g s q
    rw [ldX_at, B.x]
    exact congrArg (X · _) (by show 256 * n + (128 * k.val + s.val) = _; omega)
  · intro g k q
    rw [ldE_at, B.e]
  · intro g p q
    rw [hB_0, ldS_at, hS]
  · intro g
    exact hB_1 arg3 harg3 arg4 harg4 arg5 harg5 arg6 harg6 x1 x2 x3 x4 c arg13 harg13 xs0 g
  · intro r j
    rw [ldX0_at, B.x, show 256 * n + r.val = 128 * (2 * n) + r.val by omega]
  · intro j
    rw [ldSkip_at, B.s]
  · intro r j
    rw [ldGate_at, B.z, show 256 * n + r.val = 128 * (2 * n) + r.val by omega]
  · intro g q
    rw [ldNorm_at, B.w]

include hD hA B hH hS in
theorem canon_B (p : Fin 128) (q : Fin 2048) :
    View.canon (statePieces (stB arg3 harg3 arg4 harg4 arg5 harg5 arg6 harg6 x1 x2 x3 x4 c arg13 harg13 xs0) [] allStates) (ix2 p q) = nxt X D A (2 * n + 1) (H (2 * n + 1)) p.val q.val := by
  refine pointState_at hD hA (2 * n) hH _ _ _ (ldC arg3 harg3 x1) _ _ _ ?_ ?_ ?_ ?_ ?_ ?_ ?_ ?_ arg13.view [] p q
  · intro k s q
    rw [ldD_at, B.d]
    exact congrArg (D · _) (by show 256 * n + (128 * k.val + s.val) = _; omega)
  · intro k
    rw [ldA_at, B.a]
  · intro k g s q
    rw [ldB_at, B.x]
    exact congrArg (X · _) (by show 256 * n + (128 * k.val + s.val) = _; omega)
  · intro k g s q
    rw [ldC_at, B.x]
    exact congrArg (X · _) (by show 256 * n + (128 * k.val + s.val) = _; omega)
  · intro k g s q
    rw [ldX_at, B.x]
    exact congrArg (X · _) (by show 256 * n + (128 * k.val + s.val) = _; omega)
  · intro g k q
    rw [ldE_at, B.e]
  · intro g p q
    rw [hB_0, ldS_at, hS]
  · intro g
    exact hB_1 arg3 harg3 arg4 harg4 arg5 harg5 arg6 harg6 x1 x2 x3 x4 c arg13 harg13 xs0 g

include hD hA B hH hS in
theorem sout_B (p : Fin 128) (q : Fin 2048) :
    sout0_B_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 (ix2 p q) = nxt X D A (2 * n + 1) (H (2 * n + 1)) p.val q.val := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0), states_B]
  exact canon_B arg3 harg3 arg4 harg4 arg5 harg5 arg6 harg6 x0 x1 x2 x3 x4 x5 x6 c arg13 harg13 xs0 hD hA n B hH hS p q

theorem out10_B (r : Fin 128) (j : Fin 2048) : out0_B_10 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 (ix2 r j) = x7 (ix2 r j) := by
  unfold out0_B_10
  rw [View.read_writes_eq_canon _ _ _ (cover0_B_10 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0), w_B, View.canon_cons_unit_lit (h := by intro a; fin_cases a <;> rfl)]
  exact castW_at arg9 harg9 x7 r j

end PointB

end Cert.Scan
-- ==== Proof.StepC.lean ====
module

public import proofs.«01_k».proof.Proof.Loads

@[expose] public section

set_option maxRecDepth 16384

noncomputable section

/-! A point at a sequence's end: what its body stores, through the chunk expressions. -/

namespace Cert.Scan

open Idealize.ShloMosaic Idealize.ShloMosaic.TcCoe Idealize.ShloMosaic.Tactic
open Cert.KernelIdeal Cert.KernelIdeal.Gen

variable {F : FTy → Type} [FloatOps F] [Named F]

section Step

variable (arg2 : Memref sig .tc .vmem S256x2048 .bf16) (harg2 : arg2.IsWhole) (arg3 : Memref sig .tc .vmem S256x3072 .f32) (harg3 : arg3.IsWhole)
  (arg4 : Memref sig .tc .vmem S256x128 .f32) (harg4 : arg4.IsWhole) (arg5 : Memref sig .tc .vmem S1x128 .f32) (harg5 : arg5.IsWhole)
  (arg6 : Memref sig .tc .vmem S128x2048 .bf16) (harg6 : arg6.IsWhole) (arg7 : Memref sig .tc .vmem S1x2048 .f32) (harg7 : arg7.IsWhole)
  (arg8 : Memref sig .tc .vmem S1x2048 .f32) (harg8 : arg8.IsWhole) (arg9 : Memref sig .tc .vmem S128x2048 .f32) (harg9 : arg9.IsWhole)
  (arg10 : Memref sig .tc .vmem S256x2048 .bf16) (harg10 : arg10.IsWhole) (arg11 : Memref sig .tc .vmem S1x2048x128 .f32) (harg11 : arg11.IsWhole)
  (arg12 : Memref sig .tc .vmem S128x2048 .bf16) (harg12 : arg12.IsWhole)
  (x0 : Vec F S256x2048 .bf16) (x1 : Vec F S256x3072 .f32) (x2 : Vec F S256x128 .f32) (x3 : Vec F S1x128 .f32) (x4 : Vec F S128x2048 .bf16)
  (x5 : Vec F S1x2048 .f32) (x6 : Vec F S1x2048 .f32) (x7 : Vec F S128x2048 .f32)
  (c : Dev nD) (i : grid0.Coords) (arg13 : Memref sig .tc .vmem S128x2048 .f32) (harg13 : arg13.IsWhole)
  (arg14 : Memref sig .tc .vmem S256x2048 .f32) (harg14 : arg14.IsWhole) (xs0 : Vec F S128x2048 .f32)

/-- The states that the groups load. -/
def hC : Fin 2 → Fin 4 → FVec F S128x512 .f32
  | 0, 0 => ldS arg13 harg13 xs0 0
  | 0, 1 => ldS arg13 harg13 xs0 1
  | 0, 2 => ldS arg13 harg13 xs0 2
  | 0, 3 => ldS arg13 harg13 xs0 3
  | 1, 0 => kernelRun0_C.sl.v871 c arg3 harg3 arg4 harg4 arg5 harg5 arg6 harg6 arg13 harg13 x1 x2 x3 x4 xs0
  | 1, 1 => kernelRun0_C.sl.v1045 c arg3 harg3 arg4 harg4 arg5 harg5 arg6 harg6 arg13 harg13 x1 x2 x3 x4 xs0
  | 1, 2 => kernelRun0_C.sl.v1219 c arg3 harg3 arg4 harg4 arg5 harg5 arg6 harg6 arg13 harg13 x1 x2 x3 x4 xs0
  | 1, 3 => kernelRun0_C.sl.v1393 c arg3 harg3 arg4 harg4 arg5 harg5 arg6 harg6 arg13 harg13 x1 x2 x3 x4 xs0

/-- The states that the groups store. -/
def stC (k : Fin 2) (g : Fin 4) : FVec F S128x512 .f32 :=
  stateAll (ldD arg4 harg4 x2 k) (ldA arg5 harg5 x3) (ldB arg3 harg3 x1 k g) (ldX arg3 harg3 x1 k g) ((hC arg3 harg3 arg4 harg4 arg5 harg5 arg6 harg6 x1 x2 x3 x4 c arg13 harg13 xs0) k g) (ldE arg6 harg6 x4 g)

theorem pieces_C : kernelRun0_C.sl.HS1_32 c arg3 harg3 arg4 harg4 arg5 harg5 arg6 harg6 arg13 harg13 x1 x2 x3 x4 xs0
    = pieces (ldD arg4 harg4 x2) (ldA arg5 harg5 x3) (ldB arg3 harg3 x1) (ldC arg3 harg3 x1) (ldX arg3 harg3 x1)
      (hC arg3 harg3 arg4 harg4 arg5 harg5 arg6 harg6 x1 x2 x3 x4 c arg13 harg13 xs0) (ldE arg6 harg6 x4) := by
  sl_kernel_rfl

theorem hC_1_0 : (hC arg3 harg3 arg4 harg4 arg5 harg5 arg6 harg6 x1 x2 x3 x4 c arg13 harg13 xs0) 1 0 = (stC arg3 harg3 arg4 harg4 arg5 harg5 arg6 harg6 x1 x2 x3 x4 c arg13 harg13 xs0) 0 0 :=
  (show (hC arg3 harg3 arg4 harg4 arg5 harg5 arg6 harg6 x1 x2 x3 x4 c arg13 harg13 xs0) 1 0 = loadH arg13.view (statePieces (stC arg3 harg3 arg4 harg4 arg5 harg5 arg6 harg6 x1 x2 x3 x4 c arg13 harg13 xs0) [] [(0,3),(0,2),(0,1),(0,0)]) 0 by sl_kernel_rfl).trans
    (loadH_some _ _ _ _ _ _ rfl)

theorem hC_1_1 : (hC arg3 harg3 arg4 harg4 arg5 harg5 arg6 harg6 x1 x2 x3 x4 c arg13 harg13 xs0) 1 1 = (stC arg3 harg3 arg4 harg4 arg5 harg5 arg6 harg6 x1 x2 x3 x4 c arg13 harg13 xs0) 0 1 :=
  (show (hC arg3 harg3 arg4 harg4 arg5 harg5 arg6 harg6 x1 x2 x3 x4 c arg13 harg13 xs0) 1 1 = loadH arg13.view (statePieces (stC arg3 harg3 arg4 harg4 arg5 harg5 arg6 harg6 x1 x2 x3 x4 c arg13 harg13 xs0) [] [(1,0),(0,3),(0,2),(0,1),(0,0)]) 1 by sl_kernel_rfl).trans
    (loadH_some _ _ _ _ _ _ rfl)

theorem hC_1_2 : (hC arg3 harg3 arg4 harg4 arg5 harg5 arg6 harg6 x1 x2 x3 x4 c arg13 harg13 xs0) 1 2 = (stC arg3 harg3 arg4 harg4 arg5 harg5 arg6 harg6 x1 x2 x3 x4 c arg13 harg13 xs0) 0 2 :=
  (show (hC arg3 harg3 arg4 harg4 arg5 harg5 arg6 harg6 x1 x2 x3 x4 c arg13 harg13 xs0) 1 2 = loadH arg13.view (statePieces (stC arg3 harg3 arg4 harg4 arg5 harg5 arg6 harg6 x1 x2 x3 x4 c arg13 harg13 xs0) [] [(1,1),(1,0),(0,3),(0,2),(0,1),(0,0)]) 2 by sl_kernel_rfl).trans
    (loadH_some _ _ _ _ _ _ rfl)

theorem hC_1_3 : (hC arg3 harg3 arg4 harg4 arg5 harg5 arg6 harg6 x1 x2 x3 x4 c arg13 harg13 xs0) 1 3 = (stC arg3 harg3 arg4 harg4 arg5 harg5 arg6 harg6 x1 x2 x3 x4 c arg13 harg13 xs0) 0 3 :=
  (show (hC arg3 harg3 arg4 harg4 arg5 harg5 arg6 harg6 x1 x2 x3 x4 c arg13 harg13 xs0) 1 3 = loadH arg13.view (statePieces (stC arg3 harg3 arg4 harg4 arg5 harg5 arg6 harg6 x1 x2 x3 x4 c arg13 harg13 xs0) [] [(1,2),(1,1),(1,0),(0,3),(0,2),(0,1),(0,0)]) 3 by sl_kernel_rfl).trans
    (loadH_some _ _ _ _ _ _ rfl)

/-- A group's first state in this point, and its second. -/
theorem hC_0 (g : Fin 4) : (hC arg3 harg3 arg4 harg4 arg5 harg5 arg6 harg6 x1 x2 x3 x4 c arg13 harg13 xs0) 0 g = ldS arg13 harg13 xs0 g := by
  match g with
  | 0 => rfl
  | 1 => rfl
  | 2 => rfl
  | 3 => rfl

theorem hC_1 (g : Fin 4) : (hC arg3 harg3 arg4 harg4 arg5 harg5 arg6 harg6 x1 x2 x3 x4 c arg13 harg13 xs0) 1 g = (stC arg3 harg3 arg4 harg4 arg5 harg5 arg6 harg6 x1 x2 x3 x4 c arg13 harg13 xs0) 0 g := by
  match g with
  | 0 => exact hC_1_0 arg3 harg3 arg4 harg4 arg5 harg5 arg6 harg6 x1 x2 x3 x4 c arg13 harg13 xs0
  | 1 => exact hC_1_1 arg3 harg3 arg4 harg4 arg5 harg5 arg6 harg6 x1 x2 x3 x4 c arg13 harg13 xs0
  | 2 => exact hC_1_2 arg3 harg3 arg4 harg4 arg5 harg5 arg6 harg6 x1 x2 x3 x4 c arg13 harg13 xs0
  | 3 => exact hC_1_3 arg3 harg3 arg4 harg4 arg5 harg5 arg6 harg6 x1 x2 x3 x4 c arg13 harg13 xs0

variable (hc0 : ¬cond0_0 i) (hc1 : cond0_1 i)

/-- The stores of the output. -/
theorem outs_C : (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0).1
    = outPieces (gated (wholeY arg14.view (pieces (ldD arg4 harg4 x2) (ldA arg5 harg5 x3) (ldB arg3 harg3 x1) (ldC arg3 harg3 x1) (ldX arg3 harg3 x1)
      (hC arg3 harg3 arg4 harg4 arg5 harg5 arg6 harg6 x1 x2 x3 x4 c arg13 harg13 xs0) (ldE arg6 harg6 x4))) (ldX0 arg3 harg3 x1) (ldSkip arg7 harg7 x5) (ldGate arg2 harg2 x0)) (ldNorm arg8 harg8 x6) := by
  sl_kernel_rfl

/-- The store of the weights' cast. -/
theorem w_C : (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0).2.2.1
    = [⟨Rect.unit (s := S128x2048) ![0, 0] S128x2048.size (by decide), castW (ldW arg9 harg9 x7)⟩] := by
  sl_kernel_rfl

/-- The stores of the states. -/
theorem states_C : (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0).2.2.2.1 = statePieces (stC arg3 harg3 arg4 harg4 arg5 harg5 arg6 harg6 x1 x2 x3 x4 c arg13 harg13 xs0) [] allStates := by
  sl_kernel_rfl

/-- The store of the state at a sequence's end. -/
theorem hout_C : (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0).2.1
    = [⟨Rect.unit (s := S1x2048x128) ![0, 0, 0] S1x2048x128.size (by decide), k0_pay2 (wholeH arg13.view (statePieces (stC arg3 harg3 arg4 harg4 arg5 harg5 arg6 harg6 x1 x2 x3 x4 c arg13 harg13 xs0) [] allStates))⟩] := by
  sl_kernel_rfl

end Step

end Cert.Scan
-- ==== Proof.PtC.lean ====
module

public import proofs.«01_k».proof.Proof.Block
public import proofs.«01_k».proof.Proof.Gen.KernelIdeal.Frame
public import proofs.«01_k».proof.Proof.StepC

@[expose] public section

set_option maxRecDepth 16384

noncomputable section

/-! The last point of a sequence: its output, its states and its cast weights at an index. -/

namespace Cert.Scan

open Idealize.ShloMosaic Idealize.ShloMosaic.TcCoe Idealize.ShloMosaic.Tactic
open Cert.KernelIdeal Cert.KernelIdeal.Gen

section PointC

variable (arg2 : Memref sig .tc .vmem S256x2048 .bf16) (harg2 : arg2.IsWhole) (arg3 : Memref sig .tc .vmem S256x3072 .f32) (harg3 : arg3.IsWhole)
  (arg4 : Memref sig .tc .vmem S256x128 .f32) (harg4 : arg4.IsWhole) (arg5 : Memref sig .tc .vmem S1x128 .f32) (harg5 : arg5.IsWhole)
  (arg6 : Memref sig .tc .vmem S128x2048 .bf16) (harg6 : arg6.IsWhole) (arg7 : Memref sig .tc .vmem S1x2048 .f32) (harg7 : arg7.IsWhole)
  (arg8 : Memref sig .tc .vmem S1x2048 .f32) (harg8 : arg8.IsWhole) (arg9 : Memref sig .tc .vmem S128x2048 .f32) (harg9 : arg9.IsWhole)
  (arg10 : Memref sig .tc .vmem S256x2048 .bf16) (harg10 : arg10.IsWhole) (arg11 : Memref sig .tc .vmem S1x2048x128 .f32) (harg11 : arg11.IsWhole)
  (arg12 : Memref sig .tc .vmem S128x2048 .bf16) (harg12 : arg12.IsWhole)
  (x0 : Vec Ideal S256x2048 .bf16) (x1 : Vec Ideal S256x3072 .f32) (x2 : Vec Ideal S256x128 .f32) (x3 : Vec Ideal S1x128 .f32) (x4 : Vec Ideal S128x2048 .bf16)
  (x5 : Vec Ideal S1x2048 .f32) (x6 : Vec Ideal S1x2048 .f32) (x7 : Vec Ideal S128x2048 .f32)
  (c : Dev nD) (i : grid0.Coords) (arg13 : Memref sig .tc .vmem S128x2048 .f32) (harg13 : arg13.IsWhole)
  (arg14 : Memref sig .tc .vmem S256x2048 .f32) (harg14 : arg14.IsWhole) (xs0 : Vec Ideal S128x2048 .f32)
  (hc0 : ¬cond0_0 i) (hc1 : cond0_1 i)
  {X D Z : ℕ → ℕ → EReal} {A K W : ℕ → EReal} {H : ℕ → ℕ → ℕ → EReal} (hD : Nn D) (hA : Re A) (n : ℕ)
  (B : Blk X D Z A K W n x0 x1 x2 x3 x4 x5 x6) (hH : ∀ p j, H (2 * n + 1) p j = nxt X D A (2 * n) (H (2 * n)) p j)
  (hS : ∀ (p : Fin 128) (q : Fin 2048), xs0 (ix2 p q) = H (2 * n) p.val q.val)

include hD hA B hH hS in
theorem out8_C (r : Fin 256) (j : Fin 2048) :
    out0_C_8 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 (ix2 r j) = ot X D A K Z W H (256 * n + r.val) j.val := by
  unfold out0_C_8
  rw [View.read_writes_eq_canon _ _ _ (cover0_C_8 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0), outs_C]
  rw [show 256 * n + r.val = 128 * (2 * n) + r.val by omega]
  refine pointOut_at hD hA (2 * n) hH _ _ _ _ _ _ _ _ _ _ _ ?_ ?_ ?_ ?_ ?_ ?_ ?_ ?_ ?_ ?_ ?_ ?_ arg14.view r j
  · intro k s q
    rw [ldD_at, B.d]
    exact congrArg (D · _) (by show 256 * n + (128 * k.val + s.val) = _; omega)
  · intro k
    rw [ldA_at, B.a]
  · intro k g s q
    rw [ldB_at, B.x]
    exact congrArg (X · _) (by show 256 * n + (128 * k.val + s.val) = _; omega)
  · intro k g s q
    rw [ldC_at, B.x]
    exact congrArg (X · _) (by show 256 * n + (128 * k.val + s.val) = _; omega)
  · intro k g s q
    rw [ldX_at, B.x]
    exact congrArg (X · _) (by show 256 * n + (128 * k.val + s.val) = _; omega)
  · intro g k q
    rw [ldE_at, B.e]
  · intro g p q
    rw [hC_0, ldS_at, hS]
  · intro g
    exact hC_1 arg3 harg3 arg4 harg4 arg5 harg5 arg6 harg6 x1 x2 x3 x4 c arg13 harg13 xs0 g
  · intro r j
    rw [ldX0_at, B.x, show 256 * n + r.val = 128 * (2 * n) + r.val by omega]
  · intro j
    rw [ldSkip_at, B.s]
  · intro r j
    rw [ldGate_at, B.z, show 256 * n + r.val = 128 * (2 * n) + r.val by omega]
  · intro g q
    rw [ldNorm_at, B.w]

include hD hA B hH hS in
theorem canon_C (p : Fin 128) (q : Fin 2048) :
    View.canon (statePieces (stC arg3 harg3 arg4 harg4 arg5 harg5 arg6 harg6 x1 x2 x3 x4 c arg13 harg13 xs0) [] allStates) (ix2 p q) = nxt X D A (2 * n + 1) (H (2 * n + 1)) p.val q.val := by
  refine pointState_at hD hA (2 * n) hH _ _ _ (ldC arg3 harg3 x1) _ _ _ ?_ ?_ ?_ ?_ ?_ ?_ ?_ ?_ arg13.view [] p q
  · intro k s q
    rw [ldD_at, B.d]
    exact congrArg (D · _) (by show 256 * n + (128 * k.val + s.val) = _; omega)
  · intro k
    rw [ldA_at, B.a]
  · intro k g s q
    rw [ldB_at, B.x]
    exact congrArg (X · _) (by show 256 * n + (128 * k.val + s.val) = _; omega)
  · intro k g s q
    rw [ldC_at, B.x]
    exact congrArg (X · _) (by show 256 * n + (128 * k.val + s.val) = _; omega)
  · intro k g s q
    rw [ldX_at, B.x]
    exact congrArg (X · _) (by show 256 * n + (128 * k.val + s.val) = _; omega)
  · intro g k q
    rw [ldE_at, B.e]
  · intro g p q
    rw [hC_0, ldS_at, hS]
  · intro g
    exact hC_1 arg3 harg3 arg4 harg4 arg5 harg5 arg6 harg6 x1 x2 x3 x4 c arg13 harg13 xs0 g

include hD hA B hH hS in
theorem sout_C (p : Fin 128) (q : Fin 2048) :
    sout0_C_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 (ix2 p q) = nxt X D A (2 * n + 1) (H (2 * n + 1)) p.val q.val := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0), states_C]
  exact canon_C arg3 harg3 arg4 harg4 arg5 harg5 arg6 harg6 x0 x1 x2 x3 x4 x5 x6 c arg13 harg13 xs0 hD hA n B hH hS p q

theorem out10_C (r : Fin 128) (j : Fin 2048) : out0_C_10 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 (ix2 r j) = x7 (ix2 r j) := by
  unfold out0_C_10
  rw [View.read_writes_eq_canon _ _ _ (cover0_C_10 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0), w_C, View.canon_cons_unit_lit (h := by intro a; fin_cases a <;> rfl)]
  exact castW_at arg9 harg9 x7 r j

include hD hA B hH hS in
theorem out9_C (j : Fin 2048) (p : Fin 128) :
    out0_C_9 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 (ix3 0 j p) = nxt X D A (2 * n + 1) (H (2 * n + 1)) p.val j.val := by
  unfold out0_C_9
  rw [View.read_writes_eq_canon _ _ _ (cover0_C_9 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0), hout_C, View.canon_cons_unit_lit (h := by intro a; fin_cases a <;> rfl)]
  rw [← canon_C arg3 harg3 arg4 harg4 arg5 harg5 arg6 harg6 x0 x1 x2 x3 x4 x5 x6 c arg13 harg13 xs0 hD hA n B hH hS p j]
  unfold k0_pay2 wholeH
  rw [View.readCov_eq_canon']
  have e : ∀ h, (Rect.unit (s := S128x2048) ![0, 0] S128x2048.size h).toLoadRect.idx (ix2 p j) = ix2 p j := fun h =>
    funext fun a => by fin_cases a <;> exact Fin.ext (by simp [LoadRect.idx, ix2])
  pointwise

end PointC

end Cert.Scan
-- ==== Proof.Points.lean ====
module

public import proofs.«01_k».proof.Proof.PtA
public import proofs.«01_k».proof.Proof.PtB
public import proofs.«01_k».proof.Proof.PtC

@[expose] public section

set_option maxRecDepth 16384

noncomputable section

/-! What the points leave, over the blocks that they read: the states by induction over the points. -/

namespace Cert.Scan

open Idealize.ShloMosaic Idealize.ShloMosaic.TcCoe Idealize.ShloMosaic.Tactic
open Cert.KernelIdeal Cert.KernelIdeal.Gen

section Points

variable (m : (ℓ : Loc nD τ sig) → Buf (Elt Ideal) ℓ) (c : Dev nD)
  {X D Z : ℕ → ℕ → EReal} {A K W : ℕ → EReal} (hD : Nn D) (hA : Re A)
  (B : ∀ t : Fin cfg0.N, Blk X D Z A K W t.val (iblk m c 0 t) (iblk m c 1 t) (iblk m c 2 t) (iblk m c 3 t) (iblk m c 4 t) (iblk m c 5 t) (iblk m c 6 t))

theorem stS_odd (X D : ℕ → ℕ → EReal) (A : ℕ → EReal) (n p j : ℕ) :
    stS X D A (2 * n + 1) p j = nxt X D A (2 * n) (stS X D A (2 * n)) p j := by
  rw [stS, if_neg (by omega)]

theorem stS_first (X D : ℕ → ℕ → EReal) (A : ℕ → EReal) (n p j : ℕ) (h : n % 8 = 0) : stS X D A (2 * n) p j = 0 := by
  match n with
  | 0 => rfl
  | k + 1 =>
    rw [show 2 * (k + 1) = (2 * k + 1) + 1 by omega, stS, if_pos (by omega)]

theorem stS_even (X D : ℕ → ℕ → EReal) (A : ℕ → EReal) (n p j : ℕ) (h : ¬n % 8 = 0) :
    stS X D A (2 * n) p j = nxt X D A (2 * (n - 1) + 1) (stS X D A (2 * (n - 1) + 1)) p j := by
  match n with
  | 0 => exact absurd rfl h
  | k + 1 =>
    rw [show 2 * (k + 1) = (2 * k + 1) + 1 by omega, stS, if_neg (by omega)]
    rfl

include hD hA B in
/-- The state that point `n` leaves. -/
theorem state_at : ∀ (n : ℕ) (hn : n < cfg0.N) (p : Fin 128) (q : Fin 2048),
    (outsAt0 m c n hn).2.2.2 (ix2 p q) = nxt X D A (2 * n + 1) (stS X D A (2 * n + 1)) p.val q.val := by
  intro n
  induction n using Nat.strong_induction_on with
  | _ n ih =>
    intro hn p q
    by_cases h0 : n % 8 = 0
    · rw [outsAt0_A m c ⟨n, hn⟩ h0 (by show ¬n % 8 = 7; omega)]
      dsimp only
      exact sout_A (H := stS X D A) _ _ _ _ _ _ _ _ _ _ _ _ _ _ _ _ _ _ _ _ _ _ _ _ _ _ _ _ _ _ _ _ _ _ _ _ _ _ hD hA n (B ⟨n, hn⟩) (stS_odd X D A n)
        (fun p j => stS_first X D A n p j h0) p q
    · have hs : ∀ (p : Fin 128) (q : Fin 2048), (outsAt0 m c (n - 1) (Nat.lt_of_le_of_lt (Nat.sub_le _ _) hn)).2.2.2 (ix2 p q)
          = stS X D A (2 * n) p.val q.val := fun p q =>
        (ih (n - 1) (by omega) _ p q).trans (stS_even X D A n p.val q.val h0).symm
      by_cases h1 : n % 8 = 7
      · rw [outsAt0_C m c ⟨n, hn⟩ h0 h1]
        dsimp only
        exact sout_C (H := stS X D A) _ _ _ _ _ _ _ _ _ _ _ _ _ _ _ _ _ _ _ _ _ _ _ _ _ _ _ _ _ _ _ _ _ _ _ _ _ _ _ hD hA n (B ⟨n, hn⟩) (stS_odd X D A n) hs p q
      · rw [outsAt0_B m c ⟨n, hn⟩ h0 h1]
        dsimp only
        exact sout_B (H := stS X D A) _ _ _ _ _ _ _ _ _ _ _ _ _ _ _ _ _ _ _ _ _ _ _ _ _ _ _ _ _ _ _ _ _ _ _ _ _ _ _ hD hA n (B ⟨n, hn⟩) (stS_odd X D A n) hs p q

include hD hA B in
/-- The state that a point after the first of its sequence finds. -/
theorem found_at (n : ℕ) (hn : n < cfg0.N) (h0 : ¬n % 8 = 0) (p : Fin 128) (q : Fin 2048) :
    (outsAt0 m c (n - 1) (Nat.lt_of_le_of_lt (Nat.sub_le _ _) hn)).2.2.2 (ix2 p q) = stS X D A (2 * n) p.val q.val :=
  (state_at m c hD hA B (n - 1) _ p q).trans (stS_even X D A n p.val q.val h0).symm

include hD hA B in
theorem y_at (n : ℕ) (hn : n < cfg0.N) (r : Fin 256) (j : Fin 2048) :
    (outsAt0 m c n hn).1 (ix2 r j) = ot X D A K Z W (stS X D A) (256 * n + r.val) j.val := by
  by_cases h0 : n % 8 = 0
  · rw [outsAt0_A m c ⟨n, hn⟩ h0 (by show ¬n % 8 = 7; omega)]
    dsimp only
    exact out8_A (H := stS X D A) _ _ _ _ _ _ _ _ _ _ _ _ _ _ _ _ _ _ _ _ _ _ _ _ _ _ _ _ _ _ _ _ _ _ _ _ _ _ hD hA n (B ⟨n, hn⟩) (stS_odd X D A n)
      (fun p j => stS_first X D A n p j h0) r j
  · have hs := found_at m c hD hA B n hn h0
    by_cases h1 : n % 8 = 7
    · rw [outsAt0_C m c ⟨n, hn⟩ h0 h1]
      dsimp only
      exact out8_C (H := stS X D A) _ _ _ _ _ _ _ _ _ _ _ _ _ _ _ _ _ _ _ _ _ _ _ _ _ _ _ _ _ _ _ _ _ _ _ _ _ _ _ hD hA n (B ⟨n, hn⟩) (stS_odd X D A n) hs r j
    · rw [outsAt0_B m c ⟨n, hn⟩ h0 h1]
      dsimp only
      exact out8_B (H := stS X D A) _ _ _ _ _ _ _ _ _ _ _ _ _ _ _ _ _ _ _ _ _ _ _ _ _ _ _ _ _ _ _ _ _ _ _ _ _ _ _ hD hA n (B ⟨n, hn⟩) (stS_odd X D A n) hs r j

include hD hA B in
theorem hout_at (n : ℕ) (hn : n < cfg0.N) (h1 : n % 8 = 7) (j : Fin 2048) (p : Fin 128) :
    (outsAt0 m c n hn).2.1 (ix3 0 j p) = nxt X D A (2 * n + 1) (stS X D A (2 * n + 1)) p.val j.val := by
  have h0 : ¬n % 8 = 0 := by omega
  have hs := found_at m c hD hA B n hn h0
  rw [outsAt0_C m c ⟨n, hn⟩ h0 h1]
  dsimp only
  exact out9_C (H := stS X D A) _ _ _ _ _ _ _ _ _ _ _ _ _ _ _ _ _ _ _ _ _ _ _ _ _ _ _ _ _ _ _ _ _ _ _ _ _ _ _ hD hA n (B ⟨n, hn⟩) (stS_odd X D A n) hs j p

theorem w_at (t : Fin cfg0.N) (r : Fin 128) (j : Fin 2048) :
    (outsAt0 m c t.val t.isLt).2.2.1 (ix2 r j) = (iblk m c 7 t : Vec Ideal S128x2048 .f32) (ix2 r j) := by
  by_cases h0 : t.val % 8 = 0
  · rw [outsAt0_A m c t h0 (by omega)]
    dsimp only
    exact out10_A _ _ _ _ _ _ _ _ _ _ _ _ _ _ _ _ _ _ _ _ _ _ _ _ _ _ _ _ _ _ _ _ _ _ _ _ _ _ r j
  · by_cases h1 : t.val % 8 = 7
    · rw [outsAt0_C m c t h0 h1]
      dsimp only
      exact out10_C _ _ _ _ _ _ _ _ _ _ _ _ _ _ _ _ _ _ _ _ _ _ _ _ _ _ _ _ _ _ _ _ _ _ _ _ _ _ _ r j
    · rw [outsAt0_B m c t h0 h1]
      dsimp only
      exact out10_B _ _ _ _ _ _ _ _ _ _ _ _ _ _ _ _ _ _ _ _ _ _ _ _ _ _ _ _ _ _ _ _ _ _ _ _ _ _ _ r j

end Points

end Cert.Scan
-- ==== Proof.Args.lean ====
module

public import proofs.«01_k».proof.Proof.Gen.KernelIdeal.Frame
public import proofs.«01_k».proof.Proof.Block
public import Idealize.ShloMosaic.Lib.Pointwise
public import Idealize.ShloMosaic.Lib.StableHlo.RunRead

@[expose] public section

set_option maxRecDepth 16384

noncomputable section

/-! The arrays that the call is given, at an index. -/

namespace Cert.Args

open Idealize.ShloMosaic Idealize.ShloMosaic.TcCoe Idealize.ShloMosaic.Tactic
open Cert.KernelIdeal Cert.KernelIdeal.Gen

section Args

variable (m : (ℓ : Loc nD τ sig) → Buf (Elt Ideal) ℓ) (c : Dev nD)

theorem index_0 : ∀ t : Fin cfg0.N, win0_0.index t 0 = t.val ∧ win0_0.index t 1 = 0 := by decide +kernel
theorem index_1 : ∀ t : Fin cfg0.N, win0_1.index t 0 = t.val ∧ win0_1.index t 1 = 0 := by decide +kernel
theorem index_2 : ∀ t : Fin cfg0.N, win0_2.index t 0 = t.val ∧ win0_2.index t 1 = 0 := by decide +kernel
theorem index_3 : ∀ t : Fin cfg0.N, win0_3.index t 0 = 0 ∧ win0_3.index t 1 = 0 := by decide +kernel
theorem index_4 : ∀ t : Fin cfg0.N, win0_4.index t 0 = 0 ∧ win0_4.index t 1 = 0 := by decide +kernel
theorem index_5 : ∀ t : Fin cfg0.N, win0_5.index t 0 = 0 ∧ win0_5.index t 1 = 0 := by decide +kernel
theorem index_6 : ∀ t : Fin cfg0.N, win0_6.index t 0 = 0 ∧ win0_6.index t 1 = 0 := by decide +kernel
theorem index_7 : ∀ t : Fin cfg0.N, win0_7.index t 0 = t.val ∧ win0_7.index t 1 = 0 := by decide +kernel

theorem lt_N (t : Fin cfg0.N) : t.val < 32 := lt_of_lt_of_eq t.isLt (show cfg0.N = 32 from N_0)

theorem blk_0 (t : Fin cfg0.N) (r : Fin 256) (j : Fin 2048) :
    (iblk m c 0 t : Vec Ideal S256x2048 .bf16) (ix2 r j) = (V m c main_arg0 : Vec Ideal S8192x2048 .bf16) (ix2 ⟨256 * t.val + r.val, by have := lt_N t; omega⟩ j) := by
  unfold iblk
  rw [View.read_apply]
  show V m c main_arg0 _ = V m c main_arg0 _
  congr 1
  funext a
  apply Fin.ext
  match a with
  | ⟨0, _⟩ => show win0_0.index t 0 * 256 + 1 * r.val = 256 * t.val + r.val; rw [(index_0 t).1]; omega
  | ⟨1, _⟩ => show win0_0.index t 1 * 2048 + 1 * j.val = j.val; rw [(index_0 t).2]; omega

theorem blk_1 (t : Fin cfg0.N) (r : Fin 256) (j : Fin 3072) :
    (iblk m c 1 t : Vec Ideal S256x3072 .f32) (ix2 r j) = (V m c main_arg1 : Vec Ideal S8192x3072 .f32) (ix2 ⟨256 * t.val + r.val, by have := lt_N t; omega⟩ j) := by
  unfold iblk
  rw [View.read_apply]
  show V m c main_arg1 _ = V m c main_arg1 _
  congr 1
  funext a
  apply Fin.ext
  match a with
  | ⟨0, _⟩ => show win0_1.index t 0 * 256 + 1 * r.val = 256 * t.val + r.val; rw [(index_1 t).1]; omega
  | ⟨1, _⟩ => show win0_1.index t 1 * 3072 + 1 * j.val = j.val; rw [(index_1 t).2]; omega

theorem blk_2 (t : Fin cfg0.N) (r : Fin 256) (j : Fin 128) :
    (iblk m c 2 t : Vec Ideal S256x128 .f32) (ix2 r j) = (V m c main_arg2 : Vec Ideal S8192x128 .f32) (ix2 ⟨256 * t.val + r.val, by have := lt_N t; omega⟩ j) := by
  unfold iblk
  rw [View.read_apply]
  show V m c main_arg2 _ = V m c main_arg2 _
  congr 1
  funext a
  apply Fin.ext
  match a with
  | ⟨0, _⟩ => show win0_2.index t 0 * 256 + 1 * r.val = 256 * t.val + r.val; rw [(index_2 t).1]; omega
  | ⟨1, _⟩ => show win0_2.index t 1 * 128 + 1 * j.val = j.val; rw [(index_2 t).2]; omega

theorem blk_3 (t : Fin cfg0.N) (j : Fin 128) :
    (iblk m c 3 t : Vec Ideal S1x128 .f32) (ix2 0 j) = (V m c main_v11 : Vec Ideal S1x128 .f32) (ix2 0 j) := by
  unfold iblk
  rw [View.read_apply]
  show V m c main_v11 _ = V m c main_v11 _
  congr 1
  funext a
  apply Fin.ext
  match a with
  | ⟨0, _⟩ => show win0_3.index t 0 * 1 + 1 * 0 = 0; rw [(index_3 t).1]
  | ⟨1, _⟩ => show win0_3.index t 1 * 128 + 1 * j.val = j.val; rw [(index_3 t).2]; omega

theorem blk_4 (t : Fin cfg0.N) (r : Fin 128) (j : Fin 2048) :
    (iblk m c 4 t : Vec Ideal S128x2048 .bf16) (ix2 r j) = (V m c main_v8 : Vec Ideal S128x2048 .bf16) (ix2 r j) := by
  unfold iblk
  rw [View.read_apply]
  show V m c main_v8 _ = V m c main_v8 _
  congr 1
  funext a
  apply Fin.ext
  match a with
  | ⟨0, _⟩ => show win0_4.index t 0 * 128 + 1 * r.val = r.val; rw [(index_4 t).1]; omega
  | ⟨1, _⟩ => show win0_4.index t 1 * 2048 + 1 * j.val = j.val; rw [(index_4 t).2]; omega

theorem blk_5 (t : Fin cfg0.N) (j : Fin 2048) :
    (iblk m c 5 t : Vec Ideal S1x2048 .f32) (ix2 0 j) = (V m c main_v15 : Vec Ideal S1x2048 .f32) (ix2 0 j) := by
  unfold iblk
  rw [View.read_apply]
  show V m c main_v15 _ = V m c main_v15 _
  congr 1
  funext a
  apply Fin.ext
  match a with
  | ⟨0, _⟩ => show win0_5.index t 0 * 1 + 1 * 0 = 0; rw [(index_5 t).1]
  | ⟨1, _⟩ => show win0_5.index t 1 * 2048 + 1 * j.val = j.val; rw [(index_5 t).2]; omega

theorem blk_6 (t : Fin cfg0.N) (j : Fin 2048) :
    (iblk m c 6 t : Vec Ideal S1x2048 .f32) (ix2 0 j) = (V m c main_v17 : Vec Ideal S1x2048 .f32) (ix2 0 j) := by
  unfold iblk
  rw [View.read_apply]
  show V m c main_v17 _ = V m c main_v17 _
  congr 1
  funext a
  apply Fin.ext
  match a with
  | ⟨0, _⟩ => show win0_6.index t 0 * 1 + 1 * 0 = 0; rw [(index_6 t).1]
  | ⟨1, _⟩ => show win0_6.index t 1 * 2048 + 1 * j.val = j.val; rw [(index_6 t).2]; omega

theorem blk_7 (t : Fin cfg0.N) (r : Fin 128) (j : Fin 2048) :
    (iblk m c 7 t : Vec Ideal S128x2048 .f32) (ix2 r j) = (V m c main_v18 : Vec Ideal S4096x2048 .f32) (ix2 ⟨128 * t.val + r.val, by have := lt_N t; omega⟩ j) := by
  unfold iblk
  rw [View.read_apply]
  show V m c main_v18 _ = V m c main_v18 _
  congr 1
  funext a
  apply Fin.ext
  match a with
  | ⟨0, _⟩ => show win0_7.index t 0 * 128 + 1 * r.val = 128 * t.val + r.val; rw [(index_7 t).1]; omega
  | ⟨1, _⟩ => show win0_7.index t 1 * 2048 + 1 * j.val = j.val; rw [(index_7 t).2]; omega

set_option maxHeartbeats 1000000 in
theorem skip_eq : (V m c main_v15 : Vec Ideal S1x2048 .f32) = broadcastInDim S1x2048 ![1] bcast_S2048_S1x2048_1 (shapeCast S2048
      (broadcastInDim S32x64 ![0] bcast_S32_S32x64_0 (shapeCast S32 (m ((c : Thread nD τ).loc main_arg4)) shapeCasts_S1x32_S32)) shapeCasts_S32x64_S2048) := by
  unfold_abbrev_sides
  simp only [hostOps0, hostOps0_1, hostOps0_2, hostOps0_3, hostOps0_4, List.flatten_cons, List.flatten_nil, List.append_nil, List.cons_append, List.nil_append]
  after_reads_simp
  rfl

set_option maxHeartbeats 1000000 in
theorem norm_eq : (V m c main_v17 : Vec Ideal S1x2048 .f32) = broadcastInDim S1x2048 ![1] bcast_S2048_S1x2048_1 (shapeCast S2048 (m ((c : Thread nD τ).loc main_arg5)) shapeCasts_S1x2048_S2048) := by
  unfold_abbrev_sides
  simp only [hostOps0, hostOps0_1, hostOps0_2, hostOps0_3, hostOps0_4, List.flatten_cons, List.flatten_nil, List.append_nil, List.cons_append, List.nil_append]
  after_reads_simp
  rfl

set_option maxHeartbeats 1000000 in
theorem w_eq : (V m c main_v18 : Vec Ideal S4096x2048 .f32) = shapeCast S4096x2048 (m ((c : Thread nD τ).loc main_arg6)) shapeCasts_S1x4096x2048_S4096x2048 := by
  unfold_abbrev_sides
  simp only [hostOps0, hostOps0_1, hostOps0_2, hostOps0_3, hostOps0_4, List.flatten_cons, List.flatten_nil, List.append_nil, List.cons_append, List.nil_append]
  after_reads_simp
  rfl

set_option maxHeartbeats 1000000 in
theorem alog_eq : (V m c main_v11 : Vec Ideal S1x128 .f32) = broadcastInDim S1x128 ![1] bcast_S128_S1x128_1 (pad S128 ![0] ![96] ![0]
      (shapeCast S32 (m ((c : Thread nD τ).loc main_arg3)) shapeCasts_S1x32_S32 : FVec Ideal S32 .f32) (sitofp (F := Ideal) .f32 (constantI S_ 32 0#32)) pads_S32_S128_0960 h_S_) := by
  unfold_abbrev_sides
  simp only [hostOps0, hostOps0_1, hostOps0_2, hostOps0_3, hostOps0_4, List.flatten_cons, List.flatten_nil, List.append_nil, List.cons_append, List.nil_append]
  after_reads_simp
  rfl

/-- The lanes' numbers, and those divided by 64 as the host does it. -/
def lanes : IVec S1x2048 32 := broadcastInDim S1x2048 ![1] bcast_S2048_S1x2048_1 (iotaInDim S2048 32 0)
def whole (w : BitVec 32) : IVec S1x2048 32 := broadcastInDim S1x2048 ![] bcast_S_S1x2048 (constantI S_ 32 w)
def quots : IVec S1x2048 32 :=
  select (andi (cmpi .ne (signi lanes) (broadcastInDim S1x2048 ![] bcast_S_S1x2048 (signi (constantI S_ 32 64#32)))) (cmpi .ne (Host.remsi lanes (whole 64#32)) (whole 0#32)))
    (subi (Host.divsi lanes (whole 64#32)) (whole 1#32)) (Host.divsi lanes (whole 64#32))

theorem quots_at : ∀ j : Fin 2048, quots (ix2 0 j) = BitVec.ofNat 32 (j.val / 64) := by
  decide +kernel

set_option maxHeartbeats 1000000 in
theorem ex_eq : (V m c main_v8 : Vec Ideal S128x2048 .bf16) = uitofp (F := Ideal) .bf16 (cmpi .eq (broadcastInDim S128x2048 ![0, 1] bcast_S128x1_S128x2048_0_1
      (broadcastInDim S128x1 ![0] bcast_S128_S128x1_0 (iotaInDim S128 32 0))) (broadcastInDim S128x2048 ![0, 1] bcast_S1x2048_S128x2048_0_1 quots)) := by
  unfold_abbrev_sides
  simp only [hostOps0, hostOps0_1, hostOps0_2, hostOps0_3, hostOps0_4, List.flatten_cons, List.flatten_nil, List.append_nil, List.cons_append, List.nil_append]
  after_reads_simp
  rfl

theorem skip_at (j : Fin 2048) : @Eq EReal ((V m c main_v15 : Vec Ideal S1x2048 .f32) (ix2 0 j)) ((m ((c : Thread nD τ).loc main_arg4) : Vec Ideal S1x32 .f32) (ix2 0 ⟨j.val / 64, by omega⟩)) := by
  refine (congrFun (skip_eq m c) (ix2 0 j)).trans ?_
  pointwise
theorem norm_at (j : Fin 2048) : @Eq EReal ((V m c main_v17 : Vec Ideal S1x2048 .f32) (ix2 0 j)) ((m ((c : Thread nD τ).loc main_arg5) : Vec Ideal S1x2048 .f32) (ix2 0 j)) := by
  refine (congrFun (norm_eq m c) (ix2 0 j)).trans ?_
  pointwise
theorem alog_at (k : Fin 128) : @Eq EReal ((V m c main_v11 : Vec Ideal S1x128 .f32) (ix2 0 k)) (if h : k.val < 32 then (m ((c : Thread nD τ).loc main_arg3) : Vec Ideal S1x32 .f32) (ix2 0 ⟨k.val, h⟩) else 0) := by
  refine (congrFun (alog_eq m c) (ix2 0 k)).trans ?_
  have z : @Eq EReal (FloatOps.sitofp (F := Ideal) .f32 (0#32 : BitVec 32)) 0 := by
    show ((((0#32 : BitVec 32).toInt : ℝ)) : EReal) = 0
    simp
  pointwise
  rw [z]
theorem ex_at (k : Fin 128) (j : Fin 2048) : @Eq EReal ((V m c main_v8 : Vec Ideal S128x2048 .bf16) (ix2 k j)) (if k.val = j.val / 64 then 1 else 0) := by
  refine (congrFun (ex_eq m c) (ix2 k j)).trans ?_
  have o : @Eq EReal (FloatOps.uitofp (F := Ideal) .bf16 (1#1 : BitVec 1)) 1 := by
    show ((((1#1 : BitVec 1).toNat : ℝ)) : EReal) = 1
    simp
  have z : @Eq EReal (FloatOps.uitofp (F := Ideal) .bf16 (0#1 : BitVec 1)) 0 := by
    show ((((0#1 : BitVec 1).toNat : ℝ)) : EReal) = 0
    simp
  pointwise
  rw [quots_at]
  have hk : k.val < 2 ^ 32 := by omega
  have hj : j.val / 64 < 2 ^ 32 := by omega
  by_cases h : k.val = j.val / 64
  · rw [if_pos h, h]
    simpa [IntOp.cmpi] using o
  · have h' : BitVec.ofNat 32 k.val ≠ BitVec.ofNat 32 (j.val / 64) := fun e => h (by
      have := congrArg BitVec.toNat e
      rwa [BitVec.toNat_ofNat, BitVec.toNat_ofNat, Nat.mod_eq_of_lt hk, Nat.mod_eq_of_lt hj] at this)
    rw [if_neg h]
    have hb : (BitVec.ofNat 32 k.val == BitVec.ofNat 32 (j.val / 64)) = false := beq_eq_false_iff_ne.mpr h'
    simp only [IntOp.cmpi, hb]
    exact z

end Args

/-- A table as a function of numbers, zero outside it. -/
def grid {R C : ℕ} (f : Fin R → Fin C → EReal) (t j : ℕ) : EReal := if h : t < R ∧ j < C then f ⟨t, h.1⟩ ⟨j, h.2⟩ else 0

theorem grid_at {R C : ℕ} (f : Fin R → Fin C → EReal) (t j : ℕ) (ht : t < R) (hj : j < C) : grid f t j = f ⟨t, ht⟩ ⟨j, hj⟩ :=
  dif_pos ⟨ht, hj⟩

/-- The arrays of the scan as functions of numbers: the gate, the convolved values, the step sizes, the decay rates, the skip
    weights and the norm's weights. -/
def gateF (a : Vec Ideal S8192x2048 .bf16) : ℕ → ℕ → EReal := grid fun (t : Fin 8192) (j : Fin 2048) => a (ix2 t j)
def convF (a : Vec Ideal S8192x3072 .f32) : ℕ → ℕ → EReal := grid fun (t : Fin 8192) (j : Fin 3072) => a (ix2 t j)
def stepF (a : Vec Ideal S8192x128 .f32) : ℕ → ℕ → EReal := grid fun (t : Fin 8192) (j : Fin 128) => a (ix2 t j)
def rateF (a : Vec Ideal S1x32 .f32) (h : ℕ) : EReal := 0 - Ideal.exp (grid (fun (t : Fin 1) (j : Fin 32) => a (ix2 t j)) 0 h)
def skipF (a : Vec Ideal S1x32 .f32) (j : ℕ) : EReal := grid (fun (t : Fin 1) (j : Fin 32) => a (ix2 t j)) 0 (j / 64)
def normF (a : Vec Ideal S1x2048 .f32) : ℕ → EReal := grid (fun (t : Fin 1) (j : Fin 2048) => a (ix2 t j)) 0

theorem blk_of (m : (ℓ : Loc nD τ sig) → Buf (Elt Ideal) ℓ) (c : Dev nD) (t : Fin cfg0.N) :
    Cert.Scan.Blk (convF (m ((c : Thread nD τ).loc main_arg1))) (stepF (m ((c : Thread nD τ).loc main_arg2))) (gateF (m ((c : Thread nD τ).loc main_arg0)))
      (rateF (m ((c : Thread nD τ).loc main_arg3))) (skipF (m ((c : Thread nD τ).loc main_arg4))) (normF (m ((c : Thread nD τ).loc main_arg5))) t.val
      (iblk m c 0 t) (iblk m c 1 t) (iblk m c 2 t) (iblk m c 3 t) (iblk m c 4 t) (iblk m c 5 t) (iblk m c 6 t) where
  z r j := by
    have := lt_N t
    rw [gateF, grid_at _ _ _ (by omega) (by omega), ← V_main_arg0 m c]
    exact blk_0 m c t r j
  x r j := by
    have := lt_N t
    rw [convF, grid_at _ _ _ (by omega) (by omega), ← V_main_arg1 m c]
    exact blk_1 m c t r j
  d r j := by
    have := lt_N t
    rw [stepF, grid_at _ _ _ (by omega) (by omega), ← V_main_arg2 m c]
    exact blk_2 m c t r j
  a j := by
    unfold rateF grid
    refine congrArg (fun v => 0 - Ideal.exp v) ((blk_3 m c t j).trans ((alog_at m c j).trans ?_))
    split
    · next h => rw [dif_pos ⟨by decide, h⟩]; rfl
    · next h => rw [dif_neg (fun h' => h h'.2)]
  e k j := (blk_4 m c t k j).trans (ex_at m c k j)
  s j := by
    have := j.isLt
    rw [skipF, grid_at _ _ _ (by decide) (by omega)]
    exact (blk_5 m c t j).trans (skip_at m c j)
  w j := by
    have := j.isLt
    rw [normF, grid_at _ _ _ (by decide) (by omega)]
    exact (blk_6 m c t j).trans (norm_at m c j)

end Cert.Args
-- ==== Proof.Kernel.lean ====
module

public import proofs.«01_k».proof.Proof.Points
public import proofs.«01_k».proof.Proof.Args
public import proofs.«01_k».proof.Proof.Gen.KernelIdeal.Value

@[expose] public section

set_option maxRecDepth 16384

noncomputable section

/-! The kernel's three results at an index. -/

namespace Cert.Args

open Idealize.ShloMosaic Idealize.ShloMosaic.TcCoe Idealize.ShloMosaic.Tactic
open Cert.KernelIdeal Cert.KernelIdeal.Gen Cert.Scan

section Results

variable (m : (ℓ : Loc nD τ sig) → Buf (Elt Ideal) ℓ) (c : Dev nD)

/-- The arguments as functions of numbers. -/
abbrev X := convF (m ((c : Thread nD τ).loc main_arg1))
abbrev D := stepF (m ((c : Thread nD τ).loc main_arg2))
abbrev Z := gateF (m ((c : Thread nD τ).loc main_arg0))
abbrev A := rateF (m ((c : Thread nD τ).loc main_arg3))
abbrev K := skipF (m ((c : Thread nD τ).loc main_arg4))
abbrev W := normF (m ((c : Thread nD τ).loc main_arg5))

variable (hD : Nn (D m c)) (hA : Re (A m c))

include hD hA in
theorem kernel_y (t : Fin 8192) (j : Fin 2048) :
    @Eq EReal (Cert.KernelIdeal.Value.G8 m c (ix2 t j)) (ot (X m c) (D m c) (A m c) (K m c) (Z m c) (W m c) (stS (X m c) (D m c) (A m c)) t.val j.val) := by
  have hp : Cert.KernelIdeal.Value.pt8Of (ix2 t j) = t.val / 256 := by
    show 1 * (t.val / 256 - 0) + 1 * (j.val / 2048 - 0) = _
    omega
  have hl : Cert.KernelIdeal.Value.loc8Of (ix2 t j) = ix2 (⟨t.val % 256, by omega⟩ : Fin 256) j := by
    funext a
    fin_cases a
    · rfl
    · exact Fin.ext (show j.val % 2048 = j.val by omega)
  have hn : t.val / 256 < cfg0.N := by rw [show cfg0.N = 32 from N_0]; omega
  unfold Cert.KernelIdeal.Value.G8
  rw [dif_pos (by rw [hp]; exact hn), hl, ← Cert.KernelIdeal.Value.outsAt0_sweep m c _ (by rw [hp]; exact hn)]
  simp only [hp]
  refine (y_at m c hD hA (blk_of m c) (t.val / 256) hn _ j).trans ?_
  exact congrArg (fun s => ot _ _ _ _ _ _ _ s j.val) (Nat.div_add_mod _ _)

include hD hA in
theorem kernel_h (b : Fin 4) (j : Fin 2048) (p : Fin 128) :
    @Eq EReal (Cert.KernelIdeal.Value.G9 m c (ix3 b j p))
      (nxt (X m c) (D m c) (A m c) (16 * b.val + 15) (stS (X m c) (D m c) (A m c) (16 * b.val + 15)) p.val j.val) := by
  have hp : Cert.KernelIdeal.Value.pt9Of (ix3 b j p) = 8 * b.val + 7 := by
    show 8 * (1 * (b.val / 1 - 0) + 1 * (j.val / 2048 - 0) + 1 * (p.val / 128 - 0)) + 7 = _
    omega
  have hl : Cert.KernelIdeal.Value.loc9Of (ix3 b j p) = ix3 (0 : Fin 1) j p := by
    funext a
    fin_cases a
    · exact Fin.ext (show b.val % 1 = 0 by omega)
    · exact Fin.ext (show j.val % 2048 = j.val by omega)
    · exact Fin.ext (show p.val % 128 = p.val by omega)
  have hn : 8 * b.val + 7 < cfg0.N := by rw [show cfg0.N = 32 from N_0]; omega
  unfold Cert.KernelIdeal.Value.G9
  rw [dif_pos (by rw [hp]; exact hn), hl, ← Cert.KernelIdeal.Value.outsAt0_sweep m c _ (by rw [hp]; exact hn)]
  simp only [hp]
  refine (hout_at m c hD hA (blk_of m c) (8 * b.val + 7) hn (by omega) j p).trans ?_
  rw [show 2 * (8 * b.val + 7) + 1 = 16 * b.val + 15 by omega]

theorem kernel_w (r : Fin 4096) (j : Fin 2048) :
    @Eq EReal (Cert.KernelIdeal.Value.G10 m c (ix2 r j))
      ((shapeCast S4096x2048 (m ((c : Thread nD τ).loc main_arg6)) Cert.KernelIdeal.Facts₀.shapeCasts_S1x4096x2048_S4096x2048 : Vec Ideal S4096x2048 .f32) (ix2 r j)) := by
  have hp : Cert.KernelIdeal.Value.pt10Of (ix2 r j) = r.val / 128 := by
    show 1 * (r.val / 128 - 0) + 1 * (j.val / 2048 - 0) = _
    omega
  have hl : Cert.KernelIdeal.Value.loc10Of (ix2 r j) = ix2 (⟨r.val % 128, by omega⟩ : Fin 128) j := by
    funext a
    fin_cases a
    · rfl
    · exact Fin.ext (show j.val % 2048 = j.val by omega)
  have hn : r.val / 128 < cfg0.N := by rw [show cfg0.N = 32 from N_0]; omega
  unfold Cert.KernelIdeal.Value.G10
  rw [dif_pos (by rw [hp]; exact hn), hl, ← Cert.KernelIdeal.Value.outsAt0_sweep m c _ (by rw [hp]; exact hn)]
  simp only [hp]
  refine (w_at m c ⟨r.val / 128, hn⟩ _ j).trans ((blk_7 m c ⟨r.val / 128, hn⟩ _ j).trans ?_)
  rw [w_eq]
  exact congrArg (fun s => (shapeCast S4096x2048 (m ((c : Thread nD τ).loc main_arg6)) _ : Vec Ideal S4096x2048 .f32) (ix2 s j)) (Fin.ext (Nat.div_add_mod _ _))

end Results

end Cert.Args
-- ==== Proof.WindowSum.lean ====
module

public import Idealize.ShloMosaic.Lib.Pointwise
public import Idealize.ShloMosaic.PureOps.Ideal

@[expose] public section

noncomputable section

/-! A window sum along the third of five axes is the running sum along it. -/

namespace Cert.RefVals

open Idealize.ShloMosaic

/-- A window's place along its one long axis. -/
def place (N : ℕ) : (⟨5, ![1, 1, N, 1, 1]⟩ : Shape).Idx ≃ Fin N where
  toFun w := w 2
  invFun i := ix5 (0 : Fin 1) (0 : Fin 1) i (0 : Fin 1) (0 : Fin 1)
  left_inv w := by
    funext a
    match a with
    | ⟨0, _⟩ => exact Fin.ext (show 0 = (w 0).val from (Nat.lt_one_iff.1 (w 0).isLt).symm)
    | ⟨1, _⟩ => exact Fin.ext (show 0 = (w 1).val from (Nat.lt_one_iff.1 (w 1).isLt).symm)
    | ⟨2, _⟩ => rfl
    | ⟨3, _⟩ => exact Fin.ext (show 0 = (w 3).val from (Nat.lt_one_iff.1 (w 3).isLt).symm)
    | ⟨4, _⟩ => exact Fin.ext (show 0 = (w 4).val from (Nat.lt_one_iff.1 (w 4).isLt).symm)
  right_inv i := rfl

theorem foldl_add {ι : Type} (l : List ι) (f : ι → EReal) (v : EReal) : l.foldl (fun r n => r + f n) v = v + (l.map f).sum := by
  induction l generalizing v with
  | nil => simp
  | cons a l ih => rw [List.foldl_cons, ih, List.map_cons, List.sum_cons, add_assoc]

/-- The places of a window that ends at `l`, counted from the array's start. -/
theorem shift_sum {N : ℕ} (f : ℕ → EReal) (l : ℕ) (hl : l < N) :
    (∑ w : Fin N, if N - 1 ≤ l + w.val then f (l + w.val - (N - 1)) else 0) = ∑ s : Fin N, if s.val ≤ l then f s.val else 0 := by
  rw [← Finset.sum_filter, ← Finset.sum_filter]
  refine Finset.sum_nbij' (fun w => ⟨l + w.val - (N - 1), by have := w.isLt; omega⟩)
    (fun s => if h : s.val ≤ l then ⟨s.val + (N - 1) - l, by have := s.isLt; omega⟩ else s) ?_ ?_ ?_ ?_ ?_
  · intro w hw
    have := w.isLt
    simp only [Finset.mem_filter, Finset.mem_univ, true_and] at hw ⊢
    omega
  · intro s hs
    have := s.isLt
    simp only [Finset.mem_filter, Finset.mem_univ, true_and] at hs ⊢
    rw [dif_pos hs]
    dsimp only
    omega
  · intro w hw
    have := w.isLt
    simp only [Finset.mem_filter, Finset.mem_univ, true_and] at hw
    dsimp only
    rw [dif_pos (by omega)]
    apply Fin.ext
    dsimp only
    omega
  · intro s hs
    have := s.isLt
    simp only [Finset.mem_filter, Finset.mem_univ, true_and] at hs
    apply Fin.ext
    dsimp only
    rw [dif_pos hs]
    dsimp only
    omega
  · intro w hw
    rfl

theorem windowAdd_at {a0 a1 N a3 a4 : ℕ} (x : (⟨5, ![a0, a1, N, a3, a4]⟩ : Shape).Idx → EReal) (init : (⟨0, ![]⟩ : Shape).Idx → EReal) (hi : ∀ i, init i = 0)
    (h : (⟨5, ![a0, a1, N, a3, a4]⟩ : Shape).ReduceWindows (![1, 1, N, 1, 1] : Fin 5 → ℕ) ![1, 1, 1, 1, 1] ![0, 0, N - 1, 0, 0] ![0, 0, 0, 0, 0] ⟨5, ![a0, a1, N, a3, a4]⟩)
    (hu : 0 < (⟨0, ![]⟩ : Shape).numel) (b : Fin a0) (C : Fin a1) (l : Fin N) (g : Fin a3) (e : Fin a4) :
    @Host.reduceWindowAdd Ideal _ _ .f32 _ _ (![1, 1, N, 1, 1] : Fin 5 → ℕ) ![1, 1, 1, 1, 1] ![0, 0, N - 1, 0, 0] ![0, 0, 0, 0, 0] x init h hu (ix5 b C l g e)
      = ∑ s : Fin N, if s.val ≤ l.val then x (ix5 b C s g e) else 0 := by
  have hl := l.isLt
  have hv : init (Shape.Idx.first hu) = 0 := hi _
  set f : ℕ → EReal := fun s => if hs : s < N then x (ix5 b C ⟨s, hs⟩ g e) else 0 with hf
  have key : @Host.reduceWindowAdd Ideal _ _ .f32 _ _ (![1, 1, N, 1, 1] : Fin 5 → ℕ) ![1, 1, 1, 1, 1] ![0, 0, N - 1, 0, 0] ![0, 0, 0, 0, 0] x init h hu (ix5 b C l g e)
      = (List.finRange (⟨5, ![1, 1, N, 1, 1]⟩ : Shape).numel).foldl (fun r n => r + (fun w : Fin N => if N - 1 ≤ l.val + w.val then f (l.val + w.val - (N - 1)) else 0)
          (place N ((⟨5, ![1, 1, N, 1, 1]⟩ : Shape).rowMajor.symm n))) 0 := by
    show (List.finRange _).foldl _ (init (Shape.Idx.first hu)) = _
    rw [hv]
    congr 1
    funext r n
    have w0 : ((⟨5, ![1, 1, N, 1, 1]⟩ : Shape).rowMajor.symm n 0).val = 0 := Nat.lt_one_iff.1 ((⟨5, ![1, 1, N, 1, 1]⟩ : Shape).rowMajor.symm n 0).isLt
    have w1 : ((⟨5, ![1, 1, N, 1, 1]⟩ : Shape).rowMajor.symm n 1).val = 0 := Nat.lt_one_iff.1 ((⟨5, ![1, 1, N, 1, 1]⟩ : Shape).rowMajor.symm n 1).isLt
    have w2 : ((⟨5, ![1, 1, N, 1, 1]⟩ : Shape).rowMajor.symm n 2).val < N := ((⟨5, ![1, 1, N, 1, 1]⟩ : Shape).rowMajor.symm n 2).isLt
    have w3 : ((⟨5, ![1, 1, N, 1, 1]⟩ : Shape).rowMajor.symm n 3).val = 0 := Nat.lt_one_iff.1 ((⟨5, ![1, 1, N, 1, 1]⟩ : Shape).rowMajor.symm n 3).isLt
    have w4 : ((⟨5, ![1, 1, N, 1, 1]⟩ : Shape).rowMajor.symm n 4).val = 0 := Nat.lt_one_iff.1 ((⟨5, ![1, 1, N, 1, 1]⟩ : Shape).rowMajor.symm n 4).isLt
    show r + _ = r + _
    congr 1
    show _ = if N - 1 ≤ l.val + ((⟨5, ![1, 1, N, 1, 1]⟩ : Shape).rowMajor.symm n 2).val then f (l.val + ((⟨5, ![1, 1, N, 1, 1]⟩ : Shape).rowMajor.symm n 2).val - (N - 1)) else 0
    split
    · next hin =>
      have h2 := hin 2
      change N - 1 ≤ l.val * 1 + ((⟨5, ![1, 1, N, 1, 1]⟩ : Shape).rowMajor.symm n 2).val ∧ l.val * 1 + ((⟨5, ![1, 1, N, 1, 1]⟩ : Shape).rowMajor.symm n 2).val - (N - 1) < N at h2
      rw [if_pos (by omega), hf]
      dsimp only
      rw [dif_pos (by omega)]
      refine congrArg x (funext fun a => Fin.ext ?_)
      match a with
      | ⟨0, _⟩ => show b.val * 1 + ((⟨5, ![1, 1, N, 1, 1]⟩ : Shape).rowMajor.symm n 0).val - 0 = b.val; omega
      | ⟨1, _⟩ => show C.val * 1 + ((⟨5, ![1, 1, N, 1, 1]⟩ : Shape).rowMajor.symm n 1).val - 0 = C.val; omega
      | ⟨2, _⟩ => show l.val * 1 + ((⟨5, ![1, 1, N, 1, 1]⟩ : Shape).rowMajor.symm n 2).val - (N - 1) = l.val + ((⟨5, ![1, 1, N, 1, 1]⟩ : Shape).rowMajor.symm n 2).val - (N - 1); omega
      | ⟨3, _⟩ => show g.val * 1 + ((⟨5, ![1, 1, N, 1, 1]⟩ : Shape).rowMajor.symm n 3).val - 0 = g.val; omega
      | ⟨4, _⟩ => show e.val * 1 + ((⟨5, ![1, 1, N, 1, 1]⟩ : Shape).rowMajor.symm n 4).val - 0 = e.val; omega
    · next hin =>
      rw [if_neg fun hle => hin fun a => by
        have := b.isLt
        have := C.isLt
        have := g.isLt
        have := e.isLt
        match a with
        | ⟨0, _⟩ => show 0 ≤ b.val * 1 + ((⟨5, ![1, 1, N, 1, 1]⟩ : Shape).rowMajor.symm n 0).val ∧ b.val * 1 + ((⟨5, ![1, 1, N, 1, 1]⟩ : Shape).rowMajor.symm n 0).val - 0 < a0; omega
        | ⟨1, _⟩ => show 0 ≤ C.val * 1 + ((⟨5, ![1, 1, N, 1, 1]⟩ : Shape).rowMajor.symm n 1).val ∧ C.val * 1 + ((⟨5, ![1, 1, N, 1, 1]⟩ : Shape).rowMajor.symm n 1).val - 0 < a1; omega
        | ⟨2, _⟩ => show N - 1 ≤ l.val * 1 + ((⟨5, ![1, 1, N, 1, 1]⟩ : Shape).rowMajor.symm n 2).val ∧ l.val * 1 + ((⟨5, ![1, 1, N, 1, 1]⟩ : Shape).rowMajor.symm n 2).val - (N - 1) < N; omega
        | ⟨3, _⟩ => show 0 ≤ g.val * 1 + ((⟨5, ![1, 1, N, 1, 1]⟩ : Shape).rowMajor.symm n 3).val ∧ g.val * 1 + ((⟨5, ![1, 1, N, 1, 1]⟩ : Shape).rowMajor.symm n 3).val - 0 < a3; omega
        | ⟨4, _⟩ => show 0 ≤ e.val * 1 + ((⟨5, ![1, 1, N, 1, 1]⟩ : Shape).rowMajor.symm n 4).val ∧ e.val * 1 + ((⟨5, ![1, 1, N, 1, 1]⟩ : Shape).rowMajor.symm n 4).val - 0 < a4; omega]
  rw [key, foldl_add, zero_add, ← List.ofFn_eq_map, List.sum_ofFn]
  refine ((Equiv.sum_comp ((⟨5, ![1, 1, N, 1, 1]⟩ : Shape).rowMajor.symm.trans (place N)) _).trans (shift_sum f l.val hl)).trans ?_
  refine Finset.sum_congr rfl fun s _ => ?_
  rw [hf]
  dsimp only
  rw [dif_pos s.isLt]

end Cert.RefVals
-- ==== Proof.RefVals.lean ====
module

public import proofs.«01_k».proof.Proof.RefRun
public import proofs.«01_k».proof.Proof.Args
public import proofs.«01_k».proof.Proof.WindowSum
public import Idealize.ShloMosaic.Lib.Pointwise
public import Idealize.ShloMosaic.Lib.StableHlo.RunRead

@[expose] public section

set_option maxRecDepth 16384

noncomputable section

/-! The reference's arrays before its loop, at an index. -/

namespace Cert.RefVals

open Idealize.ShloMosaic Idealize.ShloMosaic.TcCoe Idealize.ShloMosaic.Tactic
open Cert.ReferenceIdeal Cert.ReferenceIdeal.Gen
open Cert.Args (convF stepF rateF gateF skipF normF grid_at)
open Cert.Scan (aS dec cbS yS nxt stS)

section

variable (x0 : FVec Ideal S8192x2048 .bf16) (x1 : FVec Ideal S8192x3072 .f32) (x2 : FVec Ideal S8192x128 .f32) (x3 x4 : FVec Ideal S1x32 .f32)

/-- The convolved values by sequence. -/
def seqs : FVec Ideal S4x2048x3072 .f32 := shapeCast S4x2048x3072 x1 Facts₀.shapeCasts_S8192x3072_S4x2048x3072
/-- The scan's inputs by head. -/
def xh : FVec Ideal S4x2048x32x64 .f32 :=
  shapeCast S4x2048x32x64 (extractStridedSlice S4x2048x2048 ![0, 0, 0] (seqs x1) Facts₀.slices_S4x2048x3072_S4x2048x2048_0_0_0) Facts₀.shapeCasts_S4x2048x2048_S4x2048x32x64
/-- The input and output maps by chunk and group. -/
def bh : FVec Ideal S4x16x128x4x128 .f32 :=
  shapeCast S4x16x128x4x128 (shapeCast S4x2048x4x128 (extractStridedSlice S4x2048x512 ![0, 0, 2048] (seqs x1) Facts₀.slices_S4x2048x3072_S4x2048x512_0_0_2048)
    Facts₀.shapeCasts_S4x2048x512_S4x2048x4x128) Facts₀.shapeCasts_S4x2048x4x128_S4x16x128x4x128
def ch : FVec Ideal S4x16x128x4x128 .f32 :=
  shapeCast S4x16x128x4x128 (shapeCast S4x2048x4x128 (extractStridedSlice S4x2048x512 ![0, 0, 2560] (seqs x1) Facts₀.slices_S4x2048x3072_S4x2048x512_0_0_2560)
    Facts₀.shapeCasts_S4x2048x512_S4x2048x4x128) Facts₀.shapeCasts_S4x2048x4x128_S4x16x128x4x128
/-- The step sizes by sequence. -/
def dth : FVec Ideal S4x2048x32 .f32 :=
  shapeCast S4x2048x32 (extractStridedSlice S8192x32 ![0, 0] x2 Facts₀.slices_S8192x128_S8192x32_0_0) Facts₀.shapeCasts_S8192x32_S4x2048x32
/-- The heads' decay rates. -/
def rates : FVec Ideal S32 .f32 := Host.negf (Host.exp (shapeCast S32 x3 Facts₀.shapeCasts_S1x32_S32))
/-- The inputs times the step sizes, by chunk. -/
def xdt : FVec Ideal S4x16x128x4x8x64 .f32 :=
  shapeCast S4x16x128x4x8x64 (mulf (xh x1) (broadcastInDim S4x2048x32x64 ![0, 1, 2, 3] Facts₀.bcast_S4x2048x32x1_S4x2048x32x64_0_1_2_3
    (broadcastInDim S4x2048x32x1 ![0, 1, 2] Facts₀.bcast_S4x2048x32_S4x2048x32x1_0_1_2 (dth x2)))) Facts₀.shapeCasts_S4x2048x32x64_S4x16x128x4x8x64
/-- The step sizes times the rates, by chunk. -/
def da : FVec Ideal S4x16x128x4x8 .f32 :=
  shapeCast S4x16x128x4x8 (mulf (dth x2) (broadcastInDim S4x2048x32 ![0, 1, 2] Facts₀.bcast_S1x1x32_S4x2048x32_0_1_2
    (broadcastInDim S1x1x32 ![2] Facts₀.bcast_S32_S1x1x32_2 (rates x3)))) Facts₀.shapeCasts_S4x2048x32_S4x16x128x4x8

/-- The running sums of the decays' exponents in a chunk. -/
def cum : FVec Ideal S4x16x128x4x8 .f32 :=
  Host.reduceWindowAdd ![1, 1, 128, 1, 1] ![1, 1, 1, 1, 1] ![0, 0, 127, 0, 0] ![0, 0, 0, 0, 0] (da x2 x3)
    (broadcastInDim S_ ![] Facts₀.bcast_S_S_ (constant S_ .f32 0x00000000#32)) Facts₀.reduceWindows_S4x16x128x4x8_S4x16x128x4x8_w1s1p0_0_w1s1p0_0_w128s1p127_0_w1s1p0_0_w1s1p0_0 Facts₀.h_S_
/-- The lower triangle. -/
def tri : IVec S128x128 1 :=
  select (cmpi .sge (addi (iotaInDim S128x128 32 0) (broadcastInDim S128x128 ![] Facts₀.bcast_S_S128x128 (constantI S_ 32 0#32))) (iotaInDim S128x128 32 1))
    (broadcastInDim S128x128 ![] Facts₀.bcast_S_S128x128 (constantI S_ 1 1#1)) (broadcastInDim S128x128 ![] Facts₀.bcast_S_S128x128 (constantI S_ 1 0#1))
/-- The decays between the rows of a chunk. -/
def decay : FVec Ideal S4x16x128x128x4x8 .f32 :=
  Host.exp (select (broadcastInDim S4x16x128x128x4x8 ![2, 3, 4, 5] Facts₀.bcast_S128x128x1x1_S4x16x128x128x4x8_2_3_4_5
      (broadcastInDim S128x128x1x1 ![0, 1] Facts₀.bcast_S128x128_S128x128x1x1_0_1 tri))
    (subf (broadcastInDim S4x16x128x128x4x8 ![0, 1, 2, 3, 4, 5] Facts₀.bcast_S4x16x128x1x4x8_S4x16x128x128x4x8_0_1_2_3_4_5
        (broadcastInDim S4x16x128x1x4x8 ![0, 1, 2, 4, 5] Facts₀.bcast_S4x16x128x4x8_S4x16x128x1x4x8_0_1_2_4_5 (cum x2 x3)))
      (broadcastInDim S4x16x128x128x4x8 ![0, 1, 2, 3, 4, 5] Facts₀.bcast_S4x16x1x128x4x8_S4x16x128x128x4x8_0_1_2_3_4_5
        (broadcastInDim S4x16x1x128x4x8 ![0, 1, 3, 4, 5] Facts₀.bcast_S4x16x128x4x8_S4x16x1x128x4x8_0_1_3_4_5 (cum x2 x3))))
    (broadcastInDim S4x16x128x128x4x8 ![] Facts₀.bcast_S_S4x16x128x128x4x8 (id (constant S_ .f32 0xFF800000#32))))
/-- The output maps' products with the input maps. -/
def cbm : FVec Ideal S4x16x128x128x4 .f32 :=
  transpose S4x16x128x128x4 [0, 1, 4, 3, 2] (Host.dotGeneral dot_S4x16x128x4x128_S4x16x128x4x128_S4x16x4x128x128_4_4_2_2_013_013 none (bh x1) (ch x1))
    Facts₀.transposes_S4x16x4x128x128_S4x16x128x128x4_0_1_4_3_2
/-- What a chunk's rows give to its outputs. -/
def intra : FVec Ideal S4x16x128x4x8x64 .f32 :=
  transpose S4x16x128x4x8x64 [0, 1, 5, 2, 3, 4] (Host.dotGeneral dot_S4x16x128x4x8x64_S4x16x128x128x4x8_S4x16x4x8x64x128_2_3_5_2_0134_0145 none (xdt x1 x2)
    (mulf (broadcastInDim S4x16x128x128x4x8 ![0, 1, 2, 3, 4, 5] Facts₀.bcast_S4x16x128x128x4x1_S4x16x128x128x4x8_0_1_2_3_4_5
      (broadcastInDim S4x16x128x128x4x1 ![0, 1, 2, 3, 4] Facts₀.bcast_S4x16x128x128x4_S4x16x128x128x4x1_0_1_2_3_4 (cbm x1))) (decay x2 x3)))
    Facts₀.transposes_S4x16x4x8x64x128_S4x16x128x4x8x64_0_1_5_2_3_4
/-- What a chunk adds to the state. -/
def adds : FVec Ideal S4x16x4x8x64x128 .f32 :=
  Host.dotGeneral dot_S4x16x128x4x8x64_S4x16x128x4x128_S4x16x4x8x64x128_2_2_45_4_013_013 none
    (mulf (broadcastInDim S4x16x128x4x8x64 ![0, 1, 2, 3, 4, 5] Facts₀.bcast_S4x16x128x4x8x1_S4x16x128x4x8x64_0_1_2_3_4_5
      (broadcastInDim S4x16x128x4x8x1 ![0, 1, 2, 3, 4] Facts₀.bcast_S4x16x128x4x8_S4x16x128x4x8x1_0_1_2_3_4
        (Host.exp (subf (broadcastInDim S4x16x128x4x8 ![0, 1, 2, 3, 4] Facts₀.bcast_S4x16x1x4x8_S4x16x128x4x8_0_1_2_3_4
          (extractStridedSlice S4x16x1x4x8 ![0, 0, 127, 0, 0] (cum x2 x3) Facts₀.slices_S4x16x128x4x8_S4x16x1x4x8_0_0_127_0_0)) (cum x2 x3))))) (xdt x1 x2)) (bh x1)
/-- What a chunk keeps of the state. -/
def keep : FVec Ideal S4x16x4x8 .f32 :=
  Host.exp (shapeCast S4x16x4x8 (extractStridedSlice S4x16x1x4x8 ![0, 0, 127, 0, 0] (cum x2 x3) Facts₀.slices_S4x16x128x4x8_S4x16x1x4x8_0_0_127_0_0)
    Facts₀.shapeCasts_S4x16x1x4x8_S4x16x4x8)

theorem negInf : Ideal.ofBits .f32 0xFF800000#32 = ⊥ := by
  simp [Ideal.ofBits, Ideal.ieee]

theorem conv_eq (r : Fin 8192) (j : Fin 3072) (t i : ℕ) (ht : r.val = t) (hi : j.val = i) : x1 (ix2 r j) = convF x1 t i := by
  subst ht hi
  rw [convF, grid_at _ _ _ r.isLt j.isLt]

theorem step_eq (r : Fin 8192) (j : Fin 128) (t i : ℕ) (ht : r.val = t) (hi : j.val = i) : x2 (ix2 r j) = stepF x2 t i := by
  subst ht hi
  rw [stepF, grid_at _ _ _ r.isLt j.isLt]

theorem xh_at (b : Fin 4) (t : Fin 2048) (h : Fin 32) (p : Fin 64) : xh x1 (ix4 b t h p) = convF x1 (2048 * b.val + t.val) (64 * h.val + p.val) := by
  unfold xh seqs
  pointwise
  exact conv_eq x1 _ _ _ _ (by dsimp only; omega) (by dsimp only; omega)

theorem bh_at (b : Fin 4) (C : Fin 16) (l : Fin 128) (g : Fin 4) (n : Fin 128) :
    bh x1 (ix5 b C l g n) = convF x1 (128 * (16 * b.val + C.val) + l.val) (2048 + 128 * g.val + n.val) := by
  unfold bh seqs
  pointwise
  exact conv_eq x1 _ _ _ _ (by dsimp only; omega) (by dsimp only; omega)

theorem ch_at (b : Fin 4) (C : Fin 16) (l : Fin 128) (g : Fin 4) (n : Fin 128) :
    ch x1 (ix5 b C l g n) = convF x1 (128 * (16 * b.val + C.val) + l.val) (2560 + 128 * g.val + n.val) := by
  unfold ch seqs
  pointwise
  exact conv_eq x1 _ _ _ _ (by dsimp only; omega) (by dsimp only; omega)

theorem dth_at (b : Fin 4) (t : Fin 2048) (h : Fin 32) : dth x2 (ix3 b t h) = stepF x2 (2048 * b.val + t.val) h.val := by
  unfold dth
  pointwise
  exact step_eq x2 _ _ _ _ (by dsimp only; omega) (by dsimp only)

theorem rates_at (h : Fin 32) : rates x3 (ix1 h) = rateF x3 h.val := by
  unfold rates
  pointwise
  rw [rateF, grid_at _ _ _ (by decide) h.isLt, zero_sub]
  rfl

theorem xdt_at (b : Fin 4) (C : Fin 16) (l : Fin 128) (g : Fin 4) (e : Fin 8) (p : Fin 64) :
    xdt x1 x2 (ix6 b C l g e p) = convF x1 (128 * (16 * b.val + C.val) + l.val) (512 * g.val + 64 * e.val + p.val)
      * stepF x2 (128 * (16 * b.val + C.val) + l.val) (8 * g.val + e.val) := by
  unfold xdt
  pointwise
  rw [xh_at, dth_at]
  congr 2 <;> (dsimp only; omega)

theorem da_at (b : Fin 4) (C : Fin 16) (l : Fin 128) (g : Fin 4) (e : Fin 8) :
    da x2 x3 (ix5 b C l g e) = stepF x2 (128 * (16 * b.val + C.val) + l.val) (8 * g.val + e.val) * rateF x3 (8 * g.val + e.val) := by
  unfold da
  pointwise
  rw [dth_at, rates_at]
  congr 2 <;> (dsimp only; omega)

theorem cum_at (b : Fin 4) (C : Fin 16) (l : Fin 128) (g : Fin 4) (e : Fin 8) :
    cum x2 x3 (ix5 b C l g e) = aS (stepF x2) (rateF x3) (16 * b.val + C.val) (8 * g.val + e.val) l.val := by
  unfold cum aS
  refine (windowAdd_at (N := 128) (da x2 x3) _ (fun i => ?_) _ _ b C l g e).trans (Finset.sum_congr rfl fun s _ => ?_)
  · exact Ideal.ofBits_zero .f32
  · rw [da_at]

theorem tri_at (l s : Fin 128) : tri (ix2 l s) = if s.val ≤ l.val then 1#1 else 0#1 := by
  unfold tri
  pointwise
  rw [show IntOp.addi (BitVec.ofNat 32 l.val) 0#32 = BitVec.ofNat 32 l.val from BitVec.add_zero _]
  have h : (IntOp.cmpi CmpIPredicate.sge (BitVec.ofNat 32 l.val) (BitVec.ofNat 32 s.val)) = if s.val ≤ l.val then 1#1 else 0#1 := by
    rw [WordCmp.cmpi_sge_ofNat (by omega) (by omega)]
    by_cases h : s.val ≤ l.val <;> simp [h]
  rw [h]
  split <;> rfl

theorem decay_at (b : Fin 4) (C : Fin 16) (l s : Fin 128) (g : Fin 4) (e : Fin 8) :
    decay x2 x3 (ix6 b C l s g e) = if s.val ≤ l.val then Ideal.exp (aS (stepF x2) (rateF x3) (16 * b.val + C.val) (8 * g.val + e.val) l.val
      - aS (stepF x2) (rateF x3) (16 * b.val + C.val) (8 * g.val + e.val) s.val) else 0 := by
  unfold decay
  pointwise
  rw [tri_at, cum_at, cum_at, show @Eq EReal (id (constant (F := Ideal) S_ FTy.f32 4286578688#32) ix0) ⊥ from negInf]
  split
  · rfl
  · exact Ideal.exp_bot

theorem cbm_at (b : Fin 4) (C : Fin 16) (l s : Fin 128) (g : Fin 4) :
    cbm x1 (ix5 b C l s g) = cbS (convF x1) (16 * b.val + C.val) g.val l.val s.val := by
  unfold cbm cbS
  pointwise
  refine Finset.sum_congr rfl fun n _ => ?_
  rw [bh_at, ch_at, mul_comm]

theorem intra_at (b : Fin 4) (C : Fin 16) (l : Fin 128) (g : Fin 4) (e : Fin 8) (p : Fin 64) :
    intra x1 x2 x3 (ix6 b C l g e p) = ∑ s : Fin 128, cbS (convF x1) (16 * b.val + C.val) g.val l.val s.val
      * dec (stepF x2) (rateF x3) (16 * b.val + C.val) (8 * g.val + e.val) l.val s.val
      * convF x1 (128 * (16 * b.val + C.val) + s.val) (512 * g.val + 64 * e.val + p.val) := by
  unfold intra
  pointwise
  refine Finset.sum_congr rfl fun s _ => ?_
  rw [xdt_at, cbm_at, decay_at]
  unfold dec
  split
  · ac_rfl
  · simp only [mul_zero, zero_mul]

theorem adds_at (b : Fin 4) (C : Fin 16) (g : Fin 4) (e : Fin 8) (p : Fin 64) (n : Fin 128) :
    adds x1 x2 x3 (ix6 b C g e p n) = ∑ s : Fin 128, convF x1 (128 * (16 * b.val + C.val) + s.val) (2048 + 128 * g.val + n.val)
      * (convF x1 (128 * (16 * b.val + C.val) + s.val) (512 * g.val + 64 * e.val + p.val)
        * (Ideal.exp (aS (stepF x2) (rateF x3) (16 * b.val + C.val) (8 * g.val + e.val) 127
            - aS (stepF x2) (rateF x3) (16 * b.val + C.val) (8 * g.val + e.val) s.val)
          * stepF x2 (128 * (16 * b.val + C.val) + s.val) (8 * g.val + e.val))) := by
  unfold adds
  pointwise
  refine Finset.sum_congr rfl fun s _ => ?_
  rw [xdt_at, bh_at, cum_at, cum_at]
  ac_rfl

theorem keep_at (b : Fin 4) (C : Fin 16) (g : Fin 4) (e : Fin 8) :
    keep x2 x3 (ix4 b C g e) = Ideal.exp (aS (stepF x2) (rateF x3) (16 * b.val + C.val) (8 * g.val + e.val) 127) := by
  unfold keep
  pointwise
  rw [cum_at]
  rfl

end
end Cert.RefVals
-- ==== Proof.RefEntry.lean ====
module

public import proofs.«01_k».proof.Proof.RefVals

@[expose] public section

set_option maxRecDepth 16384

noncomputable section

/-! What the reference holds when its loop starts. -/

namespace Cert.RefVals

open Idealize.ShloMosaic Idealize.ShloMosaic.TcCoe Idealize.ShloMosaic.StableHlo Idealize.SL.Sem Idealize.ShloMosaic.Tactic
open Cert.ReferenceIdeal Cert.ReferenceIdeal.Gen Cert.ReferenceIdeal.Value

/-- Of the arrays it reads: cum, as the program writes it. -/
def cum1 (v21 : FVec Ideal S4x16x128x4x8 .f32) : FVec Ideal S4x16x128x4x8 .f32 :=
  Host.reduceWindowAdd ![1, 1, 128, 1, 1] ![1, 1, 1, 1, 1] ![0, 0, 127, 0, 0] ![0, 0, 0, 0, 0] v21
    (broadcastInDim S_ ![] Facts₀.bcast_S_S_ (constant S_ .f32 0x00000000#32)) Facts₀.reduceWindows_S4x16x128x4x8_S4x16x128x4x8_w1s1p0_0_w1s1p0_0_w128s1p127_0_w1s1p0_0_w1s1p0_0 Facts₀.h_S_

/-- Of the arrays it reads: diff, as the program writes it. -/
def diff2 (v24 : FVec Ideal S4x16x128x4x8 .f32) : FVec Ideal S4x16x128x128x4x8 .f32 :=
  subf (broadcastInDim S4x16x128x128x4x8 ![0, 1, 2, 3, 4, 5] Facts₀.bcast_S4x16x128x1x4x8_S4x16x128x128x4x8_0_1_2_3_4_5
        (broadcastInDim S4x16x128x1x4x8 ![0, 1, 2, 4, 5] Facts₀.bcast_S4x16x128x4x8_S4x16x128x1x4x8_0_1_2_4_5 v24))
      (broadcastInDim S4x16x128x128x4x8 ![0, 1, 2, 3, 4, 5] Facts₀.bcast_S4x16x1x128x4x8_S4x16x128x128x4x8_0_1_2_3_4_5
        (broadcastInDim S4x16x1x128x4x8 ![0, 1, 3, 4, 5] Facts₀.bcast_S4x16x128x4x8_S4x16x1x128x4x8_0_1_3_4_5 v24))

/-- Of the arrays it reads: ones, as the program writes it. -/
def ones2 : IVec S128x128 1 :=
  broadcastInDim S128x128 ![] Facts₀.bcast_S_S128x128 (constantI S_ 1 1#1)

/-- Of the arrays it reads: tri, as the program writes it. -/
def tri3 (v30 : IVec S128x128 1) : IVec S128x128 1 :=
  select (cmpi .sge (addi (iotaInDim S128x128 32 0) (broadcastInDim S128x128 ![] Facts₀.bcast_S_S128x128 (constantI S_ 32 0#32))) (iotaInDim S128x128 32 1))
    v30 (broadcastInDim S128x128 ![] Facts₀.bcast_S_S128x128 (constantI S_ 1 0#1))

/-- Of the arrays it reads: tri, as the program writes it. -/
def tri4 (v31 : IVec S128x128 1) : IVec S128x128x1x1 1 :=
  broadcastInDim S128x128x1x1 ![0, 1] Facts₀.bcast_S128x128_S128x128x1x1_0_1 v31

/-- Of the arrays it reads: low, as the program writes it. -/
def low4 : FVec Ideal S_ .f32 :=
  constant S_ .f32 0xFF800000#32

/-- Of the arrays it reads: mask, as the program writes it. -/
def mask5 (v29 : FVec Ideal S4x16x128x128x4x8 .f32) (v32 : IVec S128x128x1x1 1) (cst_0 : FVec Ideal S_ .f32) : FVec Ideal S4x16x128x128x4x8 .f32 :=
  select (broadcastInDim S4x16x128x128x4x8 ![2, 3, 4, 5] Facts₀.bcast_S128x128x1x1_S4x16x128x128x4x8_2_3_4_5 v32) v29
    (broadcastInDim S4x16x128x128x4x8 ![] Facts₀.bcast_S_S4x16x128x128x4x8 (id cst_0))

/-- Of the arrays it reads: intra, as the program writes it. -/
def intra6 (v17 : FVec Ideal S4x16x128x4x8x64 .f32) (v22 : FVec Ideal S4x16x128x4x128 .f32) (v23 : FVec Ideal S4x16x128x4x128 .f32) (v33 : FVec Ideal S4x16x128x128x4x8 .f32) : FVec Ideal S4x16x128x4x8x64 .f32 :=
  transpose S4x16x128x4x8x64 [0, 1, 5, 2, 3, 4] (Host.dotGeneral dot_S4x16x128x4x8x64_S4x16x128x128x4x8_S4x16x4x8x64x128_2_3_5_2_0134_0145 none v17
    (mulf (broadcastInDim S4x16x128x128x4x8 ![0, 1, 2, 3, 4, 5] Facts₀.bcast_S4x16x128x128x4x1_S4x16x128x128x4x8_0_1_2_3_4_5
      (broadcastInDim S4x16x128x128x4x1 ![0, 1, 2, 3, 4] Facts₀.bcast_S4x16x128x128x4_S4x16x128x128x4x1_0_1_2_3_4
        (transpose S4x16x128x128x4 [0, 1, 4, 3, 2] (Host.dotGeneral dot_S4x16x128x4x128_S4x16x128x4x128_S4x16x4x128x128_4_4_2_2_013_013 none v22 v23)
          Facts₀.transposes_S4x16x4x128x128_S4x16x128x128x4_0_1_4_3_2))) (Host.exp v33)))
    Facts₀.transposes_S4x16x4x8x64x128_S4x16x128x4x8x64_0_1_5_2_3_4

/-- Of the arrays it reads: adds, as the program writes it. -/
def adds6 (v17 : FVec Ideal S4x16x128x4x8x64 .f32) (v22 : FVec Ideal S4x16x128x4x128 .f32) (v24 : FVec Ideal S4x16x128x4x8 .f32) : FVec Ideal S16x4x4x8x64x128 .f32 :=
  transpose S16x4x4x8x64x128 [1, 0, 2, 3, 4, 5] (Host.dotGeneral dot_S4x16x128x4x8x64_S4x16x128x4x128_S4x16x4x8x64x128_2_2_45_4_013_013 none
    (mulf (broadcastInDim S4x16x128x4x8x64 ![0, 1, 2, 3, 4, 5] Facts₀.bcast_S4x16x128x4x8x1_S4x16x128x4x8x64_0_1_2_3_4_5
      (broadcastInDim S4x16x128x4x8x1 ![0, 1, 2, 3, 4] Facts₀.bcast_S4x16x128x4x8_S4x16x128x4x8x1_0_1_2_3_4
        (Host.exp (subf (broadcastInDim S4x16x128x4x8 ![0, 1, 2, 3, 4] Facts₀.bcast_S4x16x1x4x8_S4x16x128x4x8_0_1_2_3_4
          (extractStridedSlice S4x16x1x4x8 ![0, 0, 127, 0, 0] v24 Facts₀.slices_S4x16x128x4x8_S4x16x1x4x8_0_0_127_0_0)) v24)))) v17) v22)
    Facts₀.transposes_S4x16x4x8x64x128_S16x4x4x8x64x128_1_0_2_3_4_5

/-- Of the arrays it reads: keep, as the program writes it. -/
def keep6 (v24 : FVec Ideal S4x16x128x4x8 .f32) : FVec Ideal S16x4x4x8 .f32 :=
  transpose S16x4x4x8 [1, 0, 2, 3] (Host.exp (shapeCast S4x16x4x8
    (extractStridedSlice S4x16x1x4x8 ![0, 0, 127, 0, 0] v24 Facts₀.slices_S4x16x128x4x8_S4x16x1x4x8_0_0_127_0_0)
    Facts₀.shapeCasts_S4x16x1x4x8_S4x16x4x8)) Facts₀.transposes_S4x16x4x8_S16x4x4x8_1_0_2_3

/-- Of the arrays it reads: state, as the program writes it. -/
def state6 (v10 : FVec Ideal S4x32x64x128 .f32) : FVec Ideal S4x4x8x64x128 .f32 :=
  shapeCast S4x4x8x64x128 v10 Facts₀.shapeCasts_S4x32x64x128_S4x4x8x64x128

variable (V : Valuation τ sig (Elt Ideal))

set_option maxHeartbeats 1000000 in
theorem ops0_xh : (after hostOps0 V (Proc.devRef .tc main_v4) : FVec Ideal S4x2048x32x64 .f32) = (xh (V (Proc.devRef .tc main_arg1)) : FVec Ideal S4x2048x32x64 .f32) := by
  simp only [hostOps0]
  after_results
  all_goals rfl

set_option maxHeartbeats 1000000 in
theorem ops0_zero : (after hostOps0 V (Proc.devRef .tc main_v10) : FVec Ideal S4x32x64x128 .f32) = (broadcastInDim S4x32x64x128 ![] Facts₀.bcast_S_S4x32x64x128 (constant S_ .f32 0x00000000#32) : FVec Ideal S4x32x64x128 .f32) := by
  simp only [hostOps0]
  after_results
  all_goals rfl

set_option maxHeartbeats 1000000 in
theorem ops0_skip : (after hostOps0 V (Proc.devRef .tc main_v13) : FVec Ideal S32 .f32) = (shapeCast S32 (V (Proc.devRef .tc main_arg4)) Facts₀.shapeCasts_S1x32_S32 : FVec Ideal S32 .f32) := by
  simp only [hostOps0]
  after_results
  all_goals rfl

set_option maxHeartbeats 1000000 in
theorem ops0_xdt : (after hostOps0 V (Proc.devRef .tc main_v17) : FVec Ideal S4x16x128x4x8x64 .f32) = (xdt (V (Proc.devRef .tc main_arg1)) (V (Proc.devRef .tc main_arg2)) : FVec Ideal S4x16x128x4x8x64 .f32) := by
  simp only [hostOps0]
  after_results
  all_goals rfl

set_option maxHeartbeats 1000000 in
theorem ops0_da : (after hostOps0 V (Proc.devRef .tc main_v21) : FVec Ideal S4x16x128x4x8 .f32) = (da (V (Proc.devRef .tc main_arg2)) (V (Proc.devRef .tc main_arg3)) : FVec Ideal S4x16x128x4x8 .f32) := by
  simp only [hostOps0]
  after_results
  all_goals rfl

set_option maxHeartbeats 1000000 in
theorem ops0_bh : (after hostOps0 V (Proc.devRef .tc main_v22) : FVec Ideal S4x16x128x4x128 .f32) = (bh (V (Proc.devRef .tc main_arg1)) : FVec Ideal S4x16x128x4x128 .f32) := by
  simp only [hostOps0]
  after_results
  all_goals rfl

set_option maxHeartbeats 1000000 in
theorem ops0_ch : (after hostOps0 V (Proc.devRef .tc main_v23) : FVec Ideal S4x16x128x4x128 .f32) = (ch (V (Proc.devRef .tc main_arg1)) : FVec Ideal S4x16x128x4x128 .f32) := by
  simp only [hostOps0]
  after_results
  all_goals rfl

set_option maxHeartbeats 1000000 in
theorem ops1_cum : (after hostOps0_1 V (Proc.devRef .tc main_v24) : FVec Ideal S4x16x128x4x8 .f32) = (cum1 (V (Proc.devRef .tc main_v21)) : FVec Ideal S4x16x128x4x8 .f32) := by
  simp only [hostOps0_1]
  after_results
  all_goals rfl

set_option maxHeartbeats 1000000 in
theorem ops2_diff : (after hostOps0_2 V (Proc.devRef .tc main_v29) : FVec Ideal S4x16x128x128x4x8 .f32) = (diff2 (V (Proc.devRef .tc main_v24)) : FVec Ideal S4x16x128x128x4x8 .f32) := by
  simp only [hostOps0_2]
  after_results
  all_goals rfl

set_option maxHeartbeats 1000000 in
theorem ops2_ones : (after hostOps0_2 V (Proc.devRef .tc main_v30) : IVec S128x128 1) = (ones2  : IVec S128x128 1) := by
  simp only [hostOps0_2]
  after_results
  all_goals rfl

set_option maxHeartbeats 1000000 in
theorem ops3_tri : (after hostOps0_3 V (Proc.devRef .tc main_v31) : IVec S128x128 1) = (tri3 (V (Proc.devRef .tc main_v30)) : IVec S128x128 1) := by
  simp only [hostOps0_3]
  after_results
  all_goals rfl

set_option maxHeartbeats 1000000 in
theorem ops4_tri : (after hostOps0_4 V (Proc.devRef .tc main_v32) : IVec S128x128x1x1 1) = (tri4 (V (Proc.devRef .tc main_v31)) : IVec S128x128x1x1 1) := by
  simp only [hostOps0_4]
  after_results
  all_goals rfl

set_option maxHeartbeats 1000000 in
theorem ops4_low : (after hostOps0_4 V (Proc.devRef .tc main_cst_0) : FVec Ideal S_ .f32) = (low4  : FVec Ideal S_ .f32) := by
  simp only [hostOps0_4]
  after_results
  all_goals rfl

set_option maxHeartbeats 1000000 in
theorem ops5_mask : (after hostOps0_5 V (Proc.devRef .tc main_v33) : FVec Ideal S4x16x128x128x4x8 .f32) = (mask5 (V (Proc.devRef .tc main_v29)) (V (Proc.devRef .tc main_v32)) (V (Proc.devRef .tc main_cst_0)) : FVec Ideal S4x16x128x128x4x8 .f32) := by
  simp only [hostOps0_5]
  after_results
  all_goals rfl

set_option maxHeartbeats 1000000 in
theorem ops6_intra : (after hostOps0_6 V (Proc.devRef .tc main_v41) : FVec Ideal S4x16x128x4x8x64 .f32) = (intra6 (V (Proc.devRef .tc main_v17)) (V (Proc.devRef .tc main_v22)) (V (Proc.devRef .tc main_v23)) (V (Proc.devRef .tc main_v33)) : FVec Ideal S4x16x128x4x8x64 .f32) := by
  simp only [hostOps0_6]
  after_results
  all_goals rfl

set_option maxHeartbeats 1000000 in
theorem ops6_adds : (after hostOps0_6 V (Proc.devRef .tc main_v57_0) : FVec Ideal S16x4x4x8x64x128 .f32) = (adds6 (V (Proc.devRef .tc main_v17)) (V (Proc.devRef .tc main_v22)) (V (Proc.devRef .tc main_v24)) : FVec Ideal S16x4x4x8x64x128 .f32) := by
  simp only [hostOps0_6]
  after_results
  all_goals rfl

set_option maxHeartbeats 1000000 in
theorem ops6_keep : (after hostOps0_6 V (Proc.devRef .tc main_v57_1) : FVec Ideal S16x4x4x8 .f32) = (keep6 (V (Proc.devRef .tc main_v24)) : FVec Ideal S16x4x4x8 .f32) := by
  simp only [hostOps0_6]
  after_results
  all_goals rfl

set_option maxHeartbeats 1000000 in
theorem ops6_state : (after hostOps0_6 V (Proc.devRef .tc main_v57_3) : FVec Ideal S4x4x8x64x128 .f32) = (state6 (V (Proc.devRef .tc main_v10)) : FVec Ideal S4x4x8x64x128 .f32) := by
  simp only [hostOps0_6]
  after_results
  all_goals rfl

theorem keep_1 (r : Ref sig .tc) (h : r ∉ hostOps0_1_W) : after hostOps0_1 V (Proc.devRef .tc r) = V (Proc.devRef .tc r) :=
  after_of_writes_sub hostOps0_1 V hostOps0_1_writes h

theorem keep_2 (r : Ref sig .tc) (h : r ∉ hostOps0_2_W) : after hostOps0_2 V (Proc.devRef .tc r) = V (Proc.devRef .tc r) :=
  after_of_writes_sub hostOps0_2 V hostOps0_2_writes h

theorem keep_3 (r : Ref sig .tc) (h : r ∉ hostOps0_3_W) : after hostOps0_3 V (Proc.devRef .tc r) = V (Proc.devRef .tc r) :=
  after_of_writes_sub hostOps0_3 V hostOps0_3_writes h

theorem keep_4 (r : Ref sig .tc) (h : r ∉ hostOps0_4_W) : after hostOps0_4 V (Proc.devRef .tc r) = V (Proc.devRef .tc r) :=
  after_of_writes_sub hostOps0_4 V hostOps0_4_writes h

theorem keep_5 (r : Ref sig .tc) (h : r ∉ hostOps0_5_W) : after hostOps0_5 V (Proc.devRef .tc r) = V (Proc.devRef .tc r) :=
  after_of_writes_sub hostOps0_5 V hostOps0_5_writes h

theorem keep_6 (r : Ref sig .tc) (h : r ∉ hostOps0_6_W) : after hostOps0_6 V (Proc.devRef .tc r) = V (Proc.devRef .tc r) :=
  after_of_writes_sub hostOps0_6 V hostOps0_6_writes h

theorem keep_15 (r : Ref sig .tc) (h1 : r ∉ hostOps0_1_W) (h2 : r ∉ hostOps0_2_W) (h3 : r ∉ hostOps0_3_W) (h4 : r ∉ hostOps0_4_W) (h5 : r ∉ hostOps0_5_W) :
    after hostOps0_5 (after hostOps0_4 (after hostOps0_3 (after hostOps0_2 (after hostOps0_1 V)))) (Proc.devRef .tc r) = V (Proc.devRef .tc r) := by
  rw [keep_5 _ _ h5, keep_4 _ _ h4, keep_3 _ _ h3, keep_2 _ _ h2, keep_1 _ _ h1]

theorem at1_cum : (after hostOps0_1 (after hostOps0 V) (Proc.devRef .tc main_v24) : FVec Ideal S4x16x128x4x8 .f32)
    = cum (V (Proc.devRef .tc main_arg2)) (V (Proc.devRef .tc main_arg3)) := by
  rw [ops1_cum, ops0_da]
  rfl

theorem at5_cum : (after hostOps0_5 (after hostOps0_4 (after hostOps0_3 (after hostOps0_2 (after hostOps0_1 (after hostOps0 V))))) (Proc.devRef .tc main_v24) : FVec Ideal S4x16x128x4x8 .f32)
    = cum (V (Proc.devRef .tc main_arg2)) (V (Proc.devRef .tc main_arg3)) := by
  rw [keep_5 _ _ (by decide +kernel), keep_4 _ _ (by decide +kernel), keep_3 _ _ (by decide +kernel), keep_2 _ _ (by decide +kernel), at1_cum]

theorem at5_decay : (Host.exp (φ := .f32) (after hostOps0_5 (after hostOps0_4 (after hostOps0_3 (after hostOps0_2 (after hostOps0_1 (after hostOps0 V))))) (Proc.devRef .tc main_v33) : FVec Ideal S4x16x128x128x4x8 .f32) : FVec Ideal S4x16x128x128x4x8 .f32)
    = decay (V (Proc.devRef .tc main_arg2)) (V (Proc.devRef .tc main_arg3)) := by
  rw [ops5_mask, ops4_tri, ops4_low, ops3_tri, ops2_ones, keep_4 _ _ (by decide +kernel), keep_3 _ _ (by decide +kernel), ops2_diff, at1_cum]
  rfl

variable (m : (ℓ : Loc nD τ sig) → Buf (Elt Ideal) ℓ) (c : Dev nD)

/-- The arguments' contents. -/
abbrev a0 : FVec Ideal S8192x2048 .bf16 := m ((c : Thread nD τ).loc main_arg0)
abbrev a1 : FVec Ideal S8192x3072 .f32 := m ((c : Thread nD τ).loc main_arg1)
abbrev a2 : FVec Ideal S8192x128 .f32 := m ((c : Thread nD τ).loc main_arg2)
abbrev a3 : FVec Ideal S1x32 .f32 := m ((c : Thread nD τ).loc main_arg3)
abbrev a4 : FVec Ideal S1x32 .f32 := m ((c : Thread nD τ).loc main_arg4)
abbrev a5 : FVec Ideal S1x2048 .f32 := m ((c : Thread nD τ).loc main_arg5)
abbrev a6 : FVec Ideal S1x4096x2048 .f32 := m ((c : Thread nD τ).loc main_arg6)

theorem entry_xh : (entryContents preI m c (Proc.devRef .tc main_v4) : FVec Ideal S4x2048x32x64 .f32) = xh (a1 m c) := by
  simp only [entryContents, afterL_cons, afterL_nil]
  rw [keep_6 _ _ (by decide +kernel), keep_15 _ _ (by decide +kernel) (by decide +kernel) (by decide +kernel) (by decide +kernel) (by decide +kernel), ops0_xh]
  all_goals rfl

theorem entry_skip : (entryContents preI m c (Proc.devRef .tc main_v13) : FVec Ideal S32 .f32) = shapeCast S32 (a4 m c) Facts₀.shapeCasts_S1x32_S32 := by
  simp only [entryContents, afterL_cons, afterL_nil]
  rw [keep_6 _ _ (by decide +kernel), keep_15 _ _ (by decide +kernel) (by decide +kernel) (by decide +kernel) (by decide +kernel) (by decide +kernel), ops0_skip]
  all_goals rfl

theorem entry_ch : (entryContents preI m c (Proc.devRef .tc main_v23) : FVec Ideal S4x16x128x4x128 .f32) = ch (a1 m c) := by
  simp only [entryContents, afterL_cons, afterL_nil]
  rw [keep_6 _ _ (by decide +kernel), keep_15 _ _ (by decide +kernel) (by decide +kernel) (by decide +kernel) (by decide +kernel) (by decide +kernel), ops0_ch]
  all_goals rfl

theorem entry_cum : (entryContents preI m c (Proc.devRef .tc main_v24) : FVec Ideal S4x16x128x4x8 .f32) = cum (a2 m c) (a3 m c) := by
  simp only [entryContents, afterL_cons, afterL_nil]
  rw [keep_6 _ _ (by decide +kernel), at5_cum]
  all_goals rfl

theorem entry_intra : (entryContents preI m c (Proc.devRef .tc main_v41) : FVec Ideal S4x16x128x4x8x64 .f32) = intra (a1 m c) (a2 m c) (a3 m c) := by
  simp only [entryContents, afterL_cons, afterL_nil]
  rw [ops6_intra, intra6, at5_decay, keep_15 _ main_v17 (by decide +kernel) (by decide +kernel) (by decide +kernel) (by decide +kernel) (by decide +kernel), keep_15 _ main_v22 (by decide +kernel) (by decide +kernel) (by decide +kernel) (by decide +kernel) (by decide +kernel), keep_15 _ main_v23 (by decide +kernel) (by decide +kernel) (by decide +kernel) (by decide +kernel) (by decide +kernel), ops0_xdt, ops0_bh, ops0_ch]
  all_goals rfl

theorem entry_adds : (entryContents preI m c (Proc.devRef .tc main_v57_0) : FVec Ideal S16x4x4x8x64x128 .f32) = transpose S16x4x4x8x64x128 [1, 0, 2, 3, 4, 5] (adds (a1 m c) (a2 m c) (a3 m c)) Facts₀.transposes_S4x16x4x8x64x128_S16x4x4x8x64x128_1_0_2_3_4_5 := by
  simp only [entryContents, afterL_cons, afterL_nil]
  rw [ops6_adds, at5_cum, keep_15 _ main_v17 (by decide +kernel) (by decide +kernel) (by decide +kernel) (by decide +kernel) (by decide +kernel), keep_15 _ main_v22 (by decide +kernel) (by decide +kernel) (by decide +kernel) (by decide +kernel) (by decide +kernel), ops0_xdt, ops0_bh]
  all_goals rfl

theorem entry_keep : (entryContents preI m c (Proc.devRef .tc main_v57_1) : FVec Ideal S16x4x4x8 .f32) = transpose S16x4x4x8 [1, 0, 2, 3] (keep (a2 m c) (a3 m c)) Facts₀.transposes_S4x16x4x8_S16x4x4x8_1_0_2_3 := by
  simp only [entryContents, afterL_cons, afterL_nil]
  rw [ops6_keep, at5_cum]
  all_goals rfl

theorem entry_state : (entryContents preI m c (Proc.devRef .tc main_v57_3) : FVec Ideal S4x4x8x64x128 .f32) = state6 (broadcastInDim S4x32x64x128 ![] Facts₀.bcast_S_S4x32x64x128 (constant S_ .f32 0x00000000#32)) := by
  simp only [entryContents, afterL_cons, afterL_nil]
  rw [ops6_state, keep_15 _ main_v10 (by decide +kernel) (by decide +kernel) (by decide +kernel) (by decide +kernel) (by decide +kernel), ops0_zero]
  all_goals rfl

end Cert.RefVals
-- ==== Proof.RefLoop.lean ====
module

public import proofs.«01_k».proof.Proof.RefEntry

@[expose] public section

set_option maxRecDepth 16384

noncomputable section

/-! The reference's loop: the state before each chunk of each sequence. -/

namespace Cert.RefVals

open Idealize.ShloMosaic Idealize.ShloMosaic.TcCoe Idealize.ShloMosaic.StableHlo Idealize.SL.Sem Idealize.ShloMosaic.Tactic
open Cert.ReferenceIdeal Cert.ReferenceIdeal.Gen Cert.ReferenceIdeal.Value
open Cert.Args (convF stepF rateF gateF skipF normF grid_at)
open Cert.Scan (aS dec cbS yS nxt stS)

/-- One trip's state, of the state before it. -/
def trip (v3 : FVec Ideal S4x4x8x64x128 .f32) (v1 : FVec Ideal S16x4x4x8 .f32) (v0 : FVec Ideal S16x4x4x8x64x128 .f32) (k : IVec S_ 32) :
    FVec Ideal S4x4x8x64x128 .f32 :=
  addf (mulf v3 (broadcastInDim S4x4x8x64x128 ![0, 1, 2, 3, 4] Facts₀.bcast_S4x4x8x1x1_S4x4x8x64x128_0_1_2_3_4
      (broadcastInDim S4x4x8x1x1 ![0, 1, 2] Facts₀.bcast_S4x4x8_S4x4x8x1x1_0_1_2
        (shapeCast S4x4x8 (Host.dynamicSlice S1x4x4x8 v1 (fun i => ((![k, constantI S_ 32 0#32, constantI S_ 32 0#32, constantI S_ 32 0#32] : Fin 4 → IVec S_ 32) i (Shape.Idx.first Facts₀.h_S_)).toInt)
          Facts₀.sliceFits_S16x4x4x8_S1x4x4x8) Facts₀.shapeCasts_S1x4x4x8_S4x4x8))))
    (shapeCast S4x4x8x64x128 (Host.dynamicSlice S1x4x4x8x64x128 v0
      (fun i => ((![k, constantI S_ 32 0#32, constantI S_ 32 0#32, constantI S_ 32 0#32, constantI S_ 32 0#32, constantI S_ 32 0#32] : Fin 6 → IVec S_ 32) i (Shape.Idx.first Facts₀.h_S_)).toInt)
      Facts₀.sliceFits_S16x4x4x8x64x128_S1x4x4x8x64x128) Facts₀.shapeCasts_S1x4x4x8x64x128_S4x4x8x64x128)

/-- The states kept, with the one before this trip written at its place. -/
def kept (v4 : FVec Ideal S16x4x4x8x64x128 .f32) (v3 : FVec Ideal S4x4x8x64x128 .f32) (k : IVec S_ 32) : FVec Ideal S16x4x4x8x64x128 .f32 :=
  Host.dynamicUpdateSlice v4 (broadcastInDim S1x4x4x8x64x128 ![1, 2, 3, 4, 5] Facts₀.bcast_S4x4x8x64x128_S1x4x4x8x64x128_1_2_3_4_5 v3)
    (fun i => ((![k, constantI S_ 32 0#32, constantI S_ 32 0#32, constantI S_ 32 0#32, constantI S_ 32 0#32, constantI S_ 32 0#32] : Fin 6 → IVec S_ 32) i (Shape.Idx.first Facts₀.h_S_)).toInt)
    Facts₀.updateFits_S16x4x4x8x64x128_S1x4x4x8x64x128

theorem start4 : ∀ k : Fin 16, (∀ h, Host.clampedStart S16x4x4x8 S1x4x4x8 h (fun i => ((![(fun _ => BitVec.ofNat 32 k.val), constantI S_ 32 0#32, constantI S_ 32 0#32, constantI S_ 32 0#32] : Fin 4 → IVec S_ 32) i (Shape.Idx.first Facts₀.h_S_)).toInt) 0 = k.val)
    ∧ (∀ h, Host.clampedStart S16x4x4x8 S1x4x4x8 h (fun i => ((![(fun _ => BitVec.ofNat 32 k.val), constantI S_ 32 0#32, constantI S_ 32 0#32, constantI S_ 32 0#32] : Fin 4 → IVec S_ 32) i (Shape.Idx.first Facts₀.h_S_)).toInt) 1 = 0) ∧ (∀ h, Host.clampedStart S16x4x4x8 S1x4x4x8 h (fun i => ((![(fun _ => BitVec.ofNat 32 k.val), constantI S_ 32 0#32, constantI S_ 32 0#32, constantI S_ 32 0#32] : Fin 4 → IVec S_ 32) i (Shape.Idx.first Facts₀.h_S_)).toInt) 2 = 0)
    ∧ (∀ h, Host.clampedStart S16x4x4x8 S1x4x4x8 h (fun i => ((![(fun _ => BitVec.ofNat 32 k.val), constantI S_ 32 0#32, constantI S_ 32 0#32, constantI S_ 32 0#32] : Fin 4 → IVec S_ 32) i (Shape.Idx.first Facts₀.h_S_)).toInt) 3 = 0) := by
  intro k
  fin_cases k <;> exact ⟨fun _ => rfl, fun _ => rfl, fun _ => rfl, fun _ => rfl⟩

theorem start6 : ∀ k : Fin 16, (∀ h, Host.clampedStart S16x4x4x8x64x128 S1x4x4x8x64x128 h (fun i => ((![(fun _ => BitVec.ofNat 32 k.val), constantI S_ 32 0#32, constantI S_ 32 0#32, constantI S_ 32 0#32, constantI S_ 32 0#32, constantI S_ 32 0#32] : Fin 6 → IVec S_ 32) i (Shape.Idx.first Facts₀.h_S_)).toInt) 0 = k.val)
    ∧ ∀ a : Fin 6, a ≠ 0 → ∀ h, Host.clampedStart S16x4x4x8x64x128 S1x4x4x8x64x128 h (fun i => ((![(fun _ => BitVec.ofNat 32 k.val), constantI S_ 32 0#32, constantI S_ 32 0#32, constantI S_ 32 0#32, constantI S_ 32 0#32, constantI S_ 32 0#32] : Fin 6 → IVec S_ 32) i (Shape.Idx.first Facts₀.h_S_)).toInt) a = 0 := by
  intro k
  refine ⟨fun h => ?_, fun a ha h => ?_⟩
  · fin_cases k <;> rfl
  · fin_cases a
    · exact absurd rfl ha
    all_goals rfl

theorem trip_at (v3 : FVec Ideal S4x4x8x64x128 .f32) (v1 : FVec Ideal S16x4x4x8 .f32) (v0 : FVec Ideal S16x4x4x8x64x128 .f32) (k : Fin 16)
    (b g : Fin 4) (e : Fin 8) (p : Fin 64) (n : Fin 128) :
    trip v3 v1 v0 (fun _ => BitVec.ofNat 32 k.val) (ix5 b g e p n) = v3 (ix5 b g e p n) * v1 (ix4 k b g e) + v0 (ix6 k b g e p n) := by
  unfold trip
  pointwise
  simp only [(start6 k).1, (start6 k).2 1 (by decide), (start6 k).2 2 (by decide), (start6 k).2 3 (by decide), (start6 k).2 4 (by decide), (start6 k).2 5 (by decide),
    (start4 k).1, (start4 k).2.1, (start4 k).2.2.1, (start4 k).2.2.2, Nat.zero_add, Nat.add_zero, Fin.eta]

theorem kept_at (v4 : FVec Ideal S16x4x4x8x64x128 .f32) (v3 : FVec Ideal S4x4x8x64x128 .f32) (k : Fin 16) (r : Fin 16)
    (b g : Fin 4) (e : Fin 8) (p : Fin 64) (n : Fin 128) :
    kept v4 v3 (fun _ => BitVec.ofNat 32 k.val) (ix6 r b g e p n) = if r = k then v3 (ix5 b g e p n) else v4 (ix6 r b g e p n) := by
  unfold kept
  pointwise
  simp only [(start6 k).1, (start6 k).2 1 (by decide), (start6 k).2 2 (by decide), (start6 k).2 3 (by decide), (start6 k).2 4 (by decide), (start6 k).2 5 (by decide),
    Nat.zero_add, Nat.add_zero, Nat.sub_zero, Nat.zero_le, and_true, Fin.eta]
  by_cases h : r = k
  · rw [dif_pos (by subst h; omega), if_pos h]
  · have h' : r.val ≠ k.val := fun hh => h (Fin.ext hh)
    rw [dif_neg (by omega), if_neg h]

theorem step3_eq (V : Valuation τ sig (Elt Ideal)) : (step_main_v57_3 V : FVec Ideal S4x4x8x64x128 .f32) =
    trip (V (Proc.devRef .tc main_v57_3)) (V (Proc.devRef .tc main_v57_1)) (V (Proc.devRef .tc main_v57_0)) (V (Proc.devRef .tc main_v57_2)) := by
  sl_kernel_rfl

theorem step4_eq (V : Valuation τ sig (Elt Ideal)) : (step_main_v57_4 V : FVec Ideal S16x4x4x8x64x128 .f32) =
    kept (V (Proc.devRef .tc main_v57_4)) (V (Proc.devRef .tc main_v57_3)) (V (Proc.devRef .tc main_v57_2)) := by
  sl_kernel_rfl

section
variable (X D : ℕ → ℕ → EReal) (A : ℕ → EReal)

/-- The state of sequence `b` after `k` chunks. -/
def hS (b : ℕ) : ℕ → ℕ → ℕ → EReal
  | 0 => fun _ _ => 0
  | k + 1 => nxt X D A (16 * b + k) (hS b k)

theorem hS_eq (b : ℕ) : ∀ k, k < 16 → hS X D A b k = stS X D A (16 * b + k)
  | 0, _ => by
    cases b with
    | zero => rfl
    | succ b =>
      rw [show 16 * (b + 1) + 0 = (16 * b + 15) + 1 by omega, stS, if_pos (by omega)]
      rfl
  | k + 1, h => by
    rw [show 16 * b + (k + 1) = (16 * b + k) + 1 by omega, stS, if_neg (by omega), ← hS_eq b k (by omega)]
    rfl

theorem hS_last (b : ℕ) : hS X D A b 16 = nxt X D A (16 * b + 15) (stS X D A (16 * b + 15)) := by
  rw [← hS_eq X D A b 15 (by decide)]
  rfl

theorem at_chunk (C : ℕ) (H : ℕ → ℕ → EReal) (g : Fin 4) (e : Fin 8) (p : Fin 64) (n : Fin 128) :
    nxt X D A C H n.val (512 * g.val + 64 * e.val + p.val) = H n.val (512 * g.val + 64 * e.val + p.val) * Ideal.exp (aS D A C (8 * g.val + e.val) 127)
      + ∑ s : Fin 128, X (128 * C + s.val) (2048 + 128 * g.val + n.val) * (X (128 * C + s.val) (512 * g.val + 64 * e.val + p.val)
        * (Ideal.exp (aS D A C (8 * g.val + e.val) 127 - aS D A C (8 * g.val + e.val) s.val) * D (128 * C + s.val) (8 * g.val + e.val))) := by
  have h1 : (512 * g.val + 64 * e.val + p.val) / 64 = 8 * g.val + e.val := by omega
  have h2 : (512 * g.val + 64 * e.val + p.val) / 512 = g.val := by omega
  unfold nxt
  rw [h1, h2]

end

variable (m : (ℓ : Loc nD τ sig) → Buf (Elt Ideal) ℓ) (c : Dev nD)

/-- The convolved values, the step sizes and the decay rates. -/
abbrev X : ℕ → ℕ → EReal := convF (a1 m c)
abbrev D : ℕ → ℕ → EReal := stepF (a2 m c)
abbrev A : ℕ → EReal := rateF (a3 m c)

/-- The contents after `k` trips. -/
abbrev S (k : ℕ) : Valuation τ sig (Elt Ideal) := STEP^[k] (entryContents preI m c)

theorem S_succ (k : ℕ) : S m c (k + 1) = STEP (S m c k) := Function.iterate_succ_apply' _ _ _

theorem S_adds : ∀ k, (S m c k (Proc.devRef .tc main_v57_0) : FVec Ideal S16x4x4x8x64x128 .f32)
    = transpose S16x4x4x8x64x128 [1, 0, 2, 3, 4, 5] (adds (a1 m c) (a2 m c) (a3 m c)) Facts₀.transposes_S4x16x4x8x64x128_S16x4x4x8x64x128_1_0_2_3_4_5
  | 0 => entry_adds m c
  | k + 1 => by rw [S_succ, STEP_main_v57_0, S_adds k]

theorem S_keep : ∀ k, (S m c k (Proc.devRef .tc main_v57_1) : FVec Ideal S16x4x4x8 .f32)
    = transpose S16x4x4x8 [1, 0, 2, 3] (keep (a2 m c) (a3 m c)) Facts₀.transposes_S4x16x4x8_S16x4x4x8_1_0_2_3
  | 0 => entry_keep m c
  | k + 1 => by rw [S_succ, STEP_main_v57_1, S_keep k]

theorem S_ctr : ∀ k, (S m c k (Proc.devRef .tc main_v57_2) : IVec S_ 32) = fun _ => BitVec.ofNat 32 k
  | 0 => (atK_ctr m c 0).trans (by rw [Scf.iv_zero])
  | k + 1 => by
    rw [S_succ, STEP_main_v57_2, step_main_v57_2, S_ctr k]
    funext i
    exact (BitVec.ofNat_add k 1).symm

theorem S_state (b g : Fin 4) (e : Fin 8) (p : Fin 64) (n : Fin 128) : ∀ k, k ≤ 16 →
    @Eq EReal ((S m c k (Proc.devRef .tc main_v57_3) : FVec Ideal S4x4x8x64x128 .f32) (ix5 b g e p n))
      (hS (X m c) (D m c) (A m c) b.val k n.val (512 * g.val + 64 * e.val + p.val))
  | 0, _ => by
    rw [show S m c 0 = entryContents preI m c from rfl, entry_state]
    unfold state6
    pointwise
    rfl
  | k + 1, h => by
    rw [S_succ, STEP_main_v57_3, step3_eq, S_adds, S_keep, S_ctr]
    refine (trip_at _ _ _ (⟨k, by omega⟩ : Fin 16) b g e p n).trans ?_
    rw [S_state b g e p n k (by omega), hS, at_chunk]
    pointwise
    rw [keep_at, adds_at]

theorem S_kept (b g : Fin 4) (e : Fin 8) (p : Fin 64) (n : Fin 128) (r : Fin 16) : ∀ k, k ≤ 16 → r.val < k →
    @Eq EReal ((S m c k (Proc.devRef .tc main_v57_4) : FVec Ideal S16x4x4x8x64x128 .f32) (ix6 r b g e p n))
      (hS (X m c) (D m c) (A m c) b.val r.val n.val (512 * g.val + 64 * e.val + p.val))
  | 0, _, h => absurd h (Nat.not_lt_zero _)
  | k + 1, h, hr => by
    rw [S_succ, STEP_main_v57_4, step4_eq, S_ctr]
    refine (kept_at _ _ (⟨k, by omega⟩ : Fin 16) r b g e p n).trans ?_
    by_cases hk : r = ⟨k, by omega⟩
    · rw [if_pos hk, S_state m c b g e p n k (by omega), hk]
    · have : r.val ≠ k := fun hh => hk (Fin.ext hh)
      rw [if_neg hk]
      exact S_kept b g e p n r k (by omega) (by omega)

end Cert.RefVals
-- ==== Proof.RefOut.lean ====
module

public import proofs.«01_k».proof.Proof.RefLoop

@[expose] public section

set_option maxRecDepth 16384

noncomputable section

/-! The reference's results. -/

namespace Cert.RefVals

open Idealize.ShloMosaic Idealize.ShloMosaic.TcCoe Idealize.ShloMosaic.StableHlo Idealize.SL.Sem Idealize.ShloMosaic.Tactic
open Cert.ReferenceIdeal Cert.ReferenceIdeal.Gen Cert.ReferenceIdeal.Value
open Cert.Args (convF stepF rateF gateF skipF normF grid_at)
open Cert.Scan (aS dec cbS yS nxt stS gt ot)

/-- The rows' own part and the state's part of the scan's outputs. -/
def scanned (v41 : FVec Ideal S4x16x128x4x8x64 .f32) (v4' : FVec Ideal S16x4x4x8x64x128 .f32) (v23 : FVec Ideal S4x16x128x4x128 .f32)
    (v24 : FVec Ideal S4x16x128x4x8 .f32) : FVec Ideal S4x16x128x4x8x64 .f32 :=
  addf v41 (mulf (transpose S4x16x128x4x8x64 [0, 1, 5, 2, 3, 4]
      (Host.dotGeneral dot_S4x16x4x8x64x128_S4x16x128x4x128_S4x16x4x8x64x128_5_4_34_2_012_013 none
        (transpose S4x16x4x8x64x128 [1, 0, 2, 3, 4, 5] v4' Facts₀.transposes_S16x4x4x8x64x128_S4x16x4x8x64x128_1_0_2_3_4_5) v23)
      Facts₀.transposes_S4x16x4x8x64x128_S4x16x128x4x8x64_0_1_5_2_3_4)
    (broadcastInDim S4x16x128x4x8x64 ![0, 1, 2, 3, 4, 5] Facts₀.bcast_S4x16x128x4x8x1_S4x16x128x4x8x64_0_1_2_3_4_5
      (broadcastInDim S4x16x128x4x8x1 ![0, 1, 2, 3, 4] Facts₀.bcast_S4x16x128x4x8_S4x16x128x4x8x1_0_1_2_3_4 (Host.exp v24))))
/-- The scan's outputs with the skip, gated. -/
def gated (v65 : FVec Ideal S4x16x128x4x8x64 .f32) (v4 : FVec Ideal S4x2048x32x64 .f32) (v13 : FVec Ideal S32 .f32) (x0 : FVec Ideal S8192x2048 .bf16) :
    FVec Ideal S4x2048x2048 .f32 :=
  mulf (shapeCast S4x2048x2048 (addf (shapeCast S4x2048x32x64 v65 Facts₀.shapeCasts_S4x16x128x4x8x64_S4x2048x32x64)
      (mulf v4 (broadcastInDim S4x2048x32x64 ![0, 1, 2, 3] Facts₀.bcast_S1x1x32x1_S4x2048x32x64_0_1_2_3
        (broadcastInDim S1x1x32x1 ![2, 3] Facts₀.bcast_S32x1_S1x1x32x1_2_3 (broadcastInDim S32x1 ![0] Facts₀.bcast_S32_S32x1_0 v13)))))
      Facts₀.shapeCasts_S4x2048x32x64_S4x2048x2048)
    (shapeCast S4x2048x2048 (extf .f32 x0 Facts₀.bitsLt_bf16_f32) Facts₀.shapeCasts_S8192x2048_S4x2048x2048)
/-- The gated outputs by group. -/
def grouped (v76 : FVec Ideal S4x2048x2048 .f32) : FVec Ideal S4x2048x4x512 .f32 := shapeCast S4x2048x4x512 v76 Facts₀.shapeCasts_S4x2048x2048_S4x2048x4x512
/-- The gated outputs, normed by group and weighed. -/
def normed (v76 : FVec Ideal S4x2048x2048 .f32) (x5 : FVec Ideal S1x2048 .f32) : FVec Ideal S8192x2048 .bf16 :=
  truncf .bf16 (shapeCast S8192x2048 (mulf (shapeCast S4x2048x2048 (mulf (grouped v76)
      (broadcastInDim S4x2048x4x512 ![0, 1, 2, 3] Facts₀.bcast_S4x2048x4x1_S4x2048x4x512_0_1_2_3 (Host.rsqrt (addf (Host.divf
        (broadcastInDim S4x2048x4x1 ![0, 1, 2] Facts₀.bcast_S4x2048x4_S4x2048x4x1_0_1_2
          (Host.reduceAdd (mulf (grouped v76) (grouped v76)) (constant S_ .f32 0x00000000#32) Facts₀.reducesTo_S4x2048x4x512_S4x2048x4_d3 Facts₀.h_S_))
        (broadcastInDim S4x2048x4x1 ![] Facts₀.bcast_S_S4x2048x4x1 (constant S_ .f32 0x44000000#32)))
        (broadcastInDim S4x2048x4x1 ![] Facts₀.bcast_S_S4x2048x4x1 (constant S_ .f32 0x358637BD#32))))))
      Facts₀.shapeCasts_S4x2048x4x512_S4x2048x2048)
    (broadcastInDim S4x2048x2048 ![0, 1, 2] Facts₀.bcast_S1x1x2048_S4x2048x2048_0_1_2
      (broadcastInDim S1x1x2048 ![2] Facts₀.bcast_S2048_S1x1x2048_2 (shapeCast S2048 x5 Facts₀.shapeCasts_S1x2048_S2048))))
    Facts₀.shapeCasts_S4x2048x2048_S8192x2048) Facts₀.bitsLt_bf16_f32
/-- The last states. -/
def lastState (v3 : FVec Ideal S4x4x8x64x128 .f32) : FVec Ideal S4x2048x128 .f32 :=
  shapeCast S4x2048x128 (shapeCast S4x32x64x128 v3 Facts₀.shapeCasts_S4x4x8x64x128_S4x32x64x128) Facts₀.shapeCasts_S4x32x64x128_S4x2048x128

/-- The output map. -/
def mapOut (x6 : FVec Ideal S1x4096x2048 .f32) : FVec Ideal S4096x2048 .bf16 :=
  truncf .bf16 (shapeCast S4096x2048 x6 Facts₀.shapeCasts_S1x4096x2048_S4096x2048) Facts₀.bitsLt_bf16_f32

theorem scanned_at (v41 : FVec Ideal S4x16x128x4x8x64 .f32) (v4' : FVec Ideal S16x4x4x8x64x128 .f32) (v23 : FVec Ideal S4x16x128x4x128 .f32)
    (v24 : FVec Ideal S4x16x128x4x8 .f32) (b : Fin 4) (C : Fin 16) (l : Fin 128) (g : Fin 4) (e : Fin 8) (p : Fin 64) :
    scanned v41 v4' v23 v24 (ix6 b C l g e p) = v41 (ix6 b C l g e p)
      + (∑ n : Fin 128, v4' (ix6 C b g e p n) * v23 (ix5 b C l g n)) * Ideal.exp (v24 (ix5 b C l g e)) := by
  unfold scanned
  pointwise

theorem gated_at (v65 : FVec Ideal S4x16x128x4x8x64 .f32) (v4 : FVec Ideal S4x2048x32x64 .f32) (v13 : FVec Ideal S32 .f32) (x0 : FVec Ideal S8192x2048 .bf16)
    (b : Fin 4) (t : Fin 2048) (j : Fin 2048) :
    gated v65 v4 v13 x0 (ix3 b t j)
      = (v65 (ix6 b ⟨t.val / 128, by omega⟩ ⟨t.val % 128, by omega⟩ ⟨j.val / 64 / 8, by omega⟩ ⟨j.val / 64 % 8, by omega⟩ ⟨j.val % 64, by omega⟩)
          + v4 (ix4 b t ⟨j.val / 64, by omega⟩ ⟨j.val % 64, by omega⟩) * v13 (ix1 ⟨j.val / 64, by omega⟩)) * x0 (ix2 ⟨b.val * 2048 + t.val, by omega⟩ j) := by
  unfold gated
  pointwise

theorem normed_at (v76 : FVec Ideal S4x2048x2048 .f32) (x5 : FVec Ideal S1x2048 .f32) (r : Fin 8192) (j : Fin 2048) :
    normed v76 x5 (ix2 r j) = v76 (ix3 ⟨r.val / 2048, by omega⟩ ⟨r.val % 2048, by omega⟩ j)
      * Ideal.rsqrt (Ideal.div (∑ x : Fin 512, v76 (ix3 ⟨r.val / 2048, by omega⟩ ⟨r.val % 2048, by omega⟩ ⟨j.val / 512 * 512 + x.val, by omega⟩)
          * v76 (ix3 ⟨r.val / 2048, by omega⟩ ⟨r.val % 2048, by omega⟩ ⟨j.val / 512 * 512 + x.val, by omega⟩)) (Ideal.ofBits .f32 1140850688#32)
          + Ideal.ofBits .f32 897988541#32) * x5 (ix2 0 j) := by
  unfold normed grouped
  pointwise

theorem lastState_at (v3 : FVec Ideal S4x4x8x64x128 .f32) (b : Fin 4) (j : Fin 2048) (n : Fin 128) : lastState v3 (ix3 b j n)
    = v3 (ix5 b ⟨j.val / 512, by omega⟩ ⟨j.val / 64 % 8, by omega⟩ ⟨j.val % 64, by omega⟩ n) := by
  unfold lastState
  pointwise

variable (V : Valuation τ sig (Elt Ideal))

set_option maxHeartbeats 2000000 in
theorem ops7_y : (after hostOps0_7 V (Proc.devRef .tc main_v94) : FVec Ideal S8192x2048 .bf16)
    = normed (gated (scanned (V (Proc.devRef .tc main_v41)) (V (Proc.devRef .tc main_v57_4)) (V (Proc.devRef .tc main_v23)) (V (Proc.devRef .tc main_v24)))
        (V (Proc.devRef .tc main_v4)) (V (Proc.devRef .tc main_v13)) (V (Proc.devRef .tc main_arg0))) (V (Proc.devRef .tc main_arg5)) := by
  simp only [hostOps0_7]
  after_results
  all_goals rfl

set_option maxHeartbeats 2000000 in
theorem ops7_h : (after hostOps0_7 V (Proc.devRef .tc main_v95) : FVec Ideal S4x2048x128 .f32) = lastState (V (Proc.devRef .tc main_v57_3)) := by
  simp only [hostOps0_7]
  after_results
  all_goals rfl

set_option maxHeartbeats 2000000 in
theorem ops7_w : (after hostOps0_7 V (Proc.devRef .tc main_v97) : FVec Ideal S4096x2048 .bf16)
    = mapOut (V (Proc.devRef .tc main_arg6)) := by
  simp only [hostOps0_7]
  after_results
  all_goals rfl

variable (m : (ℓ : Loc nD τ sig) → Buf (Elt Ideal) ℓ) (c : Dev nD)

abbrev Z : ℕ → ℕ → EReal := gateF (a0 m c)
abbrev K : ℕ → EReal := skipF (a4 m c)
abbrev W : ℕ → EReal := normF (a5 m c)

/-- The gated outputs that the reference norms. -/
def gatedR : FVec Ideal S4x2048x2048 .f32 :=
  gated (scanned (intra (a1 m c) (a2 m c) (a3 m c)) (S m c 16 (Proc.devRef .tc main_v57_4)) (ch (a1 m c)) (cum (a2 m c) (a3 m c)))
    (xh (a1 m c)) (shapeCast S32 (a4 m c) Facts₀.shapeCasts_S1x32_S32) (a0 m c)

theorem skip_at (h : Fin 32) (j : ℕ) (hj : j / 64 = h.val) : (shapeCast S32 (a4 m c) Facts₀.shapeCasts_S1x32_S32 : FVec Ideal S32 .f32) (ix1 h) = K m c j := by
  pointwise
  unfold K skipF
  rw [hj, grid_at _ _ _ (by decide) h.isLt]
  rfl

theorem gatedR_at (b : Fin 4) (t : Fin 2048) (j : Fin 2048) (T J : ℕ) (hT : 2048 * b.val + t.val = T) (hJ : j.val = J) :
    gatedR m c (ix3 b t j) = gt (X m c) (D m c) (A m c) (K m c) (Z m c) (stS (X m c) (D m c) (A m c)) T J := by
  subst hT hJ
  have e1 : 8 * (j.val / 64 / 8) + j.val / 64 % 8 = j.val / 64 := by omega
  have e2 : 512 * (j.val / 64 / 8) + 64 * (j.val / 64 % 8) + j.val % 64 = j.val := by omega
  have e3 : j.val / 64 / 8 = j.val / 512 := by omega
  have e4 : 64 * (j.val / 64) + j.val % 64 = j.val := by omega
  have e5 : (2048 * b.val + t.val) / 128 = 16 * b.val + t.val / 128 := by omega
  have e6 : (2048 * b.val + t.val) % 128 = t.val % 128 := by omega
  unfold gatedR gt yS
  rw [gated_at, scanned_at, intra_at, cum_at, xh_at, skip_at m c _ j.val rfl, e5, e6]
  simp only [S_kept m c _ _ _ _ _ _ 16 le_rfl (Fin.isLt _), ch_at, e1, e2, e4]
  simp only [e3]
  congr 1
  · congr 3
    refine Finset.sum_congr rfl fun n _ => ?_
    rw [hS_eq _ _ _ _ _ (by omega), mul_comm]
  · unfold Z gateF
    rw [grid_at _ _ _ (by omega) j.isLt]
    congr 2
    apply Fin.ext
    dsimp only
    omega

theorem norm_at (j : Fin 2048) : a5 m c (ix2 0 j) = W m c j.val := by
  unfold W normF
  rw [grid_at _ _ _ (by decide) j.isLt]
  rfl

theorem y_at (r : Fin 8192) (j : Fin 2048) : normed (gatedR m c) (a5 m c) (ix2 r j)
    = ot (X m c) (D m c) (A m c) (K m c) (Z m c) (W m c) (stS (X m c) (D m c) (A m c)) r.val j.val := by
  unfold ot
  rw [normed_at, norm_at, gatedR_at m c _ _ _ r.val j.val (by dsimp only; omega) rfl]
  congr 5
  refine Finset.sum_congr rfl fun x _ => ?_
  rw [gatedR_at m c _ _ _ r.val (512 * (j.val / 512) + x.val) (by dsimp only; omega) (by dsimp only; omega)]

theorem h_at (b : Fin 4) (j : Fin 2048) (n : Fin 128) : lastState (S m c 16 (Proc.devRef .tc main_v57_3)) (ix3 b j n)
    = nxt (X m c) (D m c) (A m c) (16 * b.val + 15) (stS (X m c) (D m c) (A m c) (16 * b.val + 15)) n.val j.val := by
  rw [lastState_at]
  refine (S_state m c b _ _ _ n 16 le_rfl).trans ?_
  rw [hS_last]
  congr 1
  dsimp only
  omega

theorem w_at (r : Fin 4096) (j : Fin 2048) : mapOut (a6 m c) (ix2 r j) = shapeCast S4096x2048 (a6 m c) Facts₀.shapeCasts_S1x4096x2048_S4096x2048 (ix2 r j) := rfl

open Cert.RefRun

theorem final_y : (finalContents condOps preI bodyI postI 16 m c (Proc.devRef .tc main_v94) : FVec Ideal S8192x2048 .bf16) = normed (gatedR m c) (a5 m c) := by
  rw [final_eq, ops7_y, atEnd_keep m c main_v41 (by decide +kernel), atEnd_carried m c main_v57_4 (by decide), atEnd_keep m c main_v23 (by decide +kernel),
    atEnd_keep m c main_v24 (by decide +kernel), atEnd_keep m c main_v4 (by decide +kernel), atEnd_keep m c main_v13 (by decide +kernel),
    atEnd_keep m c main_arg0 (by decide +kernel), atEnd_keep m c main_arg5 (by decide +kernel), Cert.RefRun.entry_keep m c main_arg0 (by decide +kernel),
    Cert.RefRun.entry_keep m c main_arg5 (by decide +kernel), entry_intra, entry_ch, entry_cum, entry_xh, entry_skip]
  rfl

theorem final_h : (finalContents condOps preI bodyI postI 16 m c (Proc.devRef .tc main_v95) : FVec Ideal S4x2048x128 .f32)
    = lastState (S m c 16 (Proc.devRef .tc main_v57_3)) := by
  rw [final_eq, ops7_h, atEnd_carried m c main_v57_3 (by decide)]

theorem final_w : (finalContents condOps preI bodyI postI 16 m c (Proc.devRef .tc main_v97) : FVec Ideal S4096x2048 .bf16) = mapOut (a6 m c) := by
  rw [final_eq, ops7_w, atEnd_keep m c main_arg6 (by decide +kernel), Cert.RefRun.entry_keep m c main_arg6 (by decide +kernel)]

end Cert.RefVals
-- ==== Proof.Finish.lean ====
module

public import proofs.«01_k».proof.Defs
public import proofs.«01_k».proof.Proof.Kernel
public import proofs.«01_k».proof.Proof.RefOut
public import proofs.«01_k».proof.Proof.Gen.Pre_steps_proper
public import Idealize.ShloMosaic.Lib.ReduceAll
public import Idealize.ShloMosaic.Lib.Pointwise

@[expose] public section

set_option maxRecDepth 16384

noncomputable section

/-! The kernel's results are the reference's: the precondition read, and the two programs' results met. -/

namespace Cert.Finish

open Idealize.ShloMosaic Idealize.ShloMosaic.TcCoe Idealize.ShloMosaic.StableHlo Idealize.SL.Sem Idealize.ShloMosaic.Tactic
open Cert.Pre_steps_proper

section Pre

open Cert.Pre_steps_proper.Facts

attribute [local instance] Cert.Pre_steps_proper.Gen.facts

theorem inf_word : (Ideal.ofBits .f32 0x7F800000#32 : EReal) = ⊤ := by simp [Ideal.ofBits, Ideal.ieee]

/-- The test on the step sizes and the test on the logarithms of the rates, as the precondition writes them. -/
def stepsOk (d : FVec Ideal S8192x128 .f32) : IVec S8192x32 1 :=
  andi (cmpf .oge (extractStridedSlice S8192x32 ![0, 0] d slices_S8192x128_S8192x32_0_0) (broadcastInDim S8192x32 ![] bcast_S_S8192x32 (constant S_ .f32 0x00000000#32)))
    (cmpf .olt (extractStridedSlice S8192x32 ![0, 0] d slices_S8192x128_S8192x32_0_0) (broadcastInDim S8192x32 ![] bcast_S_S8192x32 (constant S_ .f32 0x7F800000#32)))
def ratesOk (a : FVec Ideal S1x32 .f32) : IVec S1x32 1 :=
  cmpf .olt (Host.absf a) (broadcastInDim S1x32 ![] bcast_S_S1x32 (constant S_ .f32 0x7F800000#32))

theorem stepsOk_at (d : FVec Ideal S8192x128 .f32) (t : Fin 8192) (h : Fin 32) :
    stepsOk d (ix2 t h) = IntOp.andi (Ideal.cmp .oge (d (ix2 t ⟨h.val, by omega⟩)) 0) (Ideal.cmp .olt (d (ix2 t ⟨h.val, by omega⟩)) ⊤) := by
  rw [← inf_word, ← Ideal.ofBits_zero .f32]
  unfold stepsOk
  pointwise

theorem ratesOk_at (a : FVec Ideal S1x32 .f32) (h : Fin 32) :
    ratesOk a (ix2 0 h) = Ideal.cmp .olt (max (a (ix2 0 h)) (-(a (ix2 0 h)))) ⊤ := by
  rw [← inf_word]
  unfold ratesOk
  pointwise
  rfl

instance : Subsingleton (S_.Idx) := ⟨fun x y => funext fun a => a.elim0⟩

theorem both (a0 a1 : IVec S_ 1) (e : concatenate S2 0 [⟨S1, broadcastInDim S1 ![] bcast_S_S1 a0⟩, ⟨S1, broadcastInDim S1 ![] bcast_S_S1 a1⟩] concatenates_S1_S1_S2_d0
    = (fun _ => 1#1)) : a0 ix0 = 1#1 ∧ a1 ix0 = 1#1 := by
  have e0 := congrFun e (ix1 (0 : Fin 2))
  have e1 := congrFun e (ix1 (1 : Fin 2))
  refine ⟨Eq.trans ?_ e0, Eq.trans ?_ e1⟩
  · exact congrArg a0 (Subsingleton.elim _ _)
  · exact congrArg a1 (Subsingleton.elim _ _)

theorem decode (b0 : FVec Ideal S8192x2048 .bf16) (b1 : FVec Ideal S8192x3072 .f32) (d : FVec Ideal S8192x128 .f32) (a : FVec Ideal S1x32 .f32)
    (b4 : FVec Ideal S1x32 .f32) (b5 : FVec Ideal S1x2048 .f32) (b6 : FVec Ideal S1x4096x2048 .f32)
    (e : Cert.Pre_steps_proper.fn (F := Ideal) b0 b1 d a b4 b5 b6 = fun _ => 1#1) :
    (∀ i, stepsOk d i = 1#1) ∧ ∀ i, ratesOk a i = 1#1 := by
  obtain ⟨h0, h1⟩ := both _ _ e
  exact ⟨fun i => Host.reduce_andi_all _ _ _ _ _ h0 i, fun i => Host.reduce_andi_all _ _ _ _ _ h1 i⟩

theorem real_of_pos (x : EReal) (e : IntOp.andi (Ideal.cmp .oge x 0) (Ideal.cmp .olt x ⊤) = 1#1) : ∃ r : ℝ, 0 ≤ r ∧ x = (r : EReal) := by
  obtain ⟨e0, e1⟩ := IntOp.andi_eq_one.mp e
  have h0 : 0 ≤ x := by
    by_contra h
    simp [Ideal.cmp, h] at e0
  have h1 : x < ⊤ := by
    by_contra h
    simp only [Ideal.cmp, h] at e1
    exact absurd e1 (by decide)
  induction x with
  | bot => exact absurd h0 (by simp)
  | top => exact absurd h1 (by simp)
  | coe r => exact ⟨r, by exact_mod_cast h0, rfl⟩

theorem real_of_abs (x : EReal) (e : Ideal.cmp .olt (max x (-x)) ⊤ = 1#1) : ∃ r : ℝ, x = (r : EReal) := by
  have h1 : max x (-x) < ⊤ := by
    by_contra h
    simp only [Ideal.cmp, h] at e
    exact absurd e (by decide)
  induction x with
  | bot => exact absurd h1 (by simp)
  | top => exact absurd h1 (by simp)
  | coe r => exact ⟨r, rfl⟩

/-- Under the precondition the step sizes are nonnegative reals. -/
theorem steps_nn (d : FVec Ideal S8192x128 .f32) (h : ∀ i, stepsOk d i = 1#1) : Cert.Scan.Nn (Cert.Args.stepF d) := by
  intro t k hk
  by_cases ht : t < 8192
  · obtain ⟨r, hr, e⟩ := real_of_pos _ ((stepsOk_at d ⟨t, ht⟩ ⟨k, hk⟩).symm.trans (h _))
    exact ⟨r, hr, (Cert.Args.grid_at _ t k ht (by omega)).trans e⟩
  · exact ⟨0, le_refl _, dif_neg (fun hh => ht hh.1)⟩

/-- Under the precondition the decay rates are reals. -/
theorem rates_re (a : FVec Ideal S1x32 .f32) (h : ∀ i, ratesOk a i = 1#1) : Cert.Scan.Re (Cert.Args.rateF a) := by
  intro k hk
  obtain ⟨r, e⟩ := real_of_abs _ ((ratesOk_at a ⟨k, hk⟩).symm.trans (h _))
  refine ⟨0 - Real.exp r, ?_⟩
  unfold Cert.Args.rateF
  rw [Cert.Args.grid_at _ 0 k (by decide) hk]
  show 0 - Ideal.exp (a (ix2 0 ⟨k, hk⟩)) = _
  rw [e]
  rfl

end Pre

section Meet

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)
variable (c : Dev Cert.KernelIdeal.nD)

variable (hD : Cert.Scan.Nn (Cert.Args.D m c)) (hA : Cert.Scan.Re (Cert.Args.A m c))

/-- The two programs start from the same arguments. -/
def Same : Prop :=
  Cert.RefVals.a0 m' c = m ((c.tc : Thread Cert.KernelIdeal.nD Cert.KernelIdeal.τ).loc Cert.KernelIdeal.main_arg0)
  ∧ Cert.RefVals.a1 m' c = m ((c.tc : Thread Cert.KernelIdeal.nD Cert.KernelIdeal.τ).loc Cert.KernelIdeal.main_arg1)
  ∧ Cert.RefVals.a2 m' c = m ((c.tc : Thread Cert.KernelIdeal.nD Cert.KernelIdeal.τ).loc Cert.KernelIdeal.main_arg2)
  ∧ Cert.RefVals.a3 m' c = m ((c.tc : Thread Cert.KernelIdeal.nD Cert.KernelIdeal.τ).loc Cert.KernelIdeal.main_arg3)
  ∧ Cert.RefVals.a4 m' c = m ((c.tc : Thread Cert.KernelIdeal.nD Cert.KernelIdeal.τ).loc Cert.KernelIdeal.main_arg4)
  ∧ Cert.RefVals.a5 m' c = m ((c.tc : Thread Cert.KernelIdeal.nD Cert.KernelIdeal.τ).loc Cert.KernelIdeal.main_arg5)
  ∧ Cert.RefVals.a6 m' c = m ((c.tc : Thread Cert.KernelIdeal.nD Cert.KernelIdeal.τ).loc Cert.KernelIdeal.main_arg6)

variable (hs : Same m m' c)

include hD hA hs in
theorem meet_y : Cert.RefVals.normed (Cert.RefVals.gatedR m' c) (Cert.RefVals.a5 m' c) = Cert.KernelIdeal.Value.G8 m c := by
  obtain ⟨h0, h1, h2, h3, h4, h5, h6⟩ := hs
  funext i
  rw [show i = ix2 (i 0) (i 1) from eq_ix2 i]
  refine (Cert.RefVals.y_at m' c (i 0) (i 1)).trans (Eq.trans ?_ (Cert.Args.kernel_y m c hD hA (i 0) (i 1)).symm)
  rw [show Cert.RefVals.X m' c = Cert.Args.X m c from congrArg Cert.Args.convF h1, show Cert.RefVals.D m' c = Cert.Args.D m c from congrArg Cert.Args.stepF h2,
    show Cert.RefVals.A m' c = Cert.Args.A m c from congrArg Cert.Args.rateF h3, show Cert.RefVals.K m' c = Cert.Args.K m c from congrArg Cert.Args.skipF h4,
    show Cert.RefVals.Z m' c = Cert.Args.Z m c from congrArg Cert.Args.gateF h0, show Cert.RefVals.W m' c = Cert.Args.W m c from congrArg Cert.Args.normF h5]

include hD hA hs in
theorem meet_h : Cert.RefVals.lastState (Cert.RefVals.S m' c 16 (Proc.devRef .tc Cert.ReferenceIdeal.main_v57_3)) = Cert.KernelIdeal.Value.G9 m c := by
  obtain ⟨h0, h1, h2, h3, h4, h5, h6⟩ := hs
  funext i
  rw [show i = ix3 (i 0) (i 1) (i 2) from eq_ix3 i]
  refine (Cert.RefVals.h_at m' c (i 0) (i 1) (i 2)).trans (Eq.trans ?_ (Cert.Args.kernel_h m c hD hA (i 0) (i 1) (i 2)).symm)
  rw [show Cert.RefVals.X m' c = Cert.Args.X m c from congrArg Cert.Args.convF h1, show Cert.RefVals.D m' c = Cert.Args.D m c from congrArg Cert.Args.stepF h2,
    show Cert.RefVals.A m' c = Cert.Args.A m c from congrArg Cert.Args.rateF h3]

include hs in
theorem meet_w : Cert.RefVals.mapOut (Cert.RefVals.a6 m' c) = Cert.KernelIdeal.Value.G10 m c := by
  obtain ⟨h0, h1, h2, h3, h4, h5, h6⟩ := hs
  funext i
  rw [show i = ix2 (i 0) (i 1) from eq_ix2 i]
  refine (Cert.RefVals.w_at m' c (i 0) (i 1)).trans (Eq.trans ?_ (Cert.Args.kernel_w m c (i 0) (i 1)).symm)
  rw [h6]

end Meet

open Cert.ReferenceIdeal Cert.ReferenceIdeal.Value Cert.RefRun in
/-- The kernel and the reference end with the same three results. -/
theorem algebraic : Cert.algebraic_KernelIdeal_ReferenceIdeal_pre_steps_proper (hKernelIdeal := Cert.KernelIdeal.Gen.facts)
    (hReferenceIdeal := Cert.ReferenceIdeal.Gen.facts) (hPre_steps_proper := Cert.Pre_steps_proper.Gen.facts) := by
  intro m g m' g' hp hs
  have hD : ∀ c, Cert.Scan.Nn (Cert.Args.D m c) := fun c => steps_nn _ (decode _ _ _ _ _ _ _ (hp c)).1
  have hA : ∀ c, Cert.Scan.Re (Cert.Args.A m c) := fun c => rates_re _ (decode _ _ _ _ _ _ _ (hp c)).2
  refine ⟨Cert.KernelIdeal.Value.G8 m, Cert.KernelIdeal.Value.G9 m, Cert.KernelIdeal.Value.G10 m, Cert.KernelIdeal.Value.run m g, ?_⟩
  refine (θ_run _ _ _).mono (fun r h c => ?_) (run_fold m' g')
  exact ⟨(h c main_v94 rfl).trans ((Cert.RefVals.final_y m' c).trans (meet_y m m' c (hD c) (hA c) (hs c))),
     (h c main_v95 rfl).trans ((Cert.RefVals.final_h m' c).trans (meet_h m m' c (hD c) (hA c) (hs c))),
     (h c main_v97 rfl).trans ((Cert.RefVals.final_w m' c).trans (meet_w m m' c (hs c))),
     (h c main_arg0 rfl).trans (final_keep m' c _ (by decide +kernel) (by decide +kernel) (by decide +kernel)),
     (h c main_arg1 rfl).trans (final_keep m' c _ (by decide +kernel) (by decide +kernel) (by decide +kernel)),
     (h c main_arg2 rfl).trans (final_keep m' c _ (by decide +kernel) (by decide +kernel) (by decide +kernel)),
     (h c main_arg3 rfl).trans (final_keep m' c _ (by decide +kernel) (by decide +kernel) (by decide +kernel)),
     (h c main_arg4 rfl).trans (final_keep m' c _ (by decide +kernel) (by decide +kernel) (by decide +kernel)),
     (h c main_arg5 rfl).trans (final_keep m' c _ (by decide +kernel) (by decide +kernel) (by decide +kernel)),
     (h c main_arg6 rfl).trans (final_keep m' c _ (by decide +kernel) (by decide +kernel) (by decide +kernel))⟩

end Cert.Finish

end
-- ==== Proof.Merge.lean ====
module

public import proofs.«01_k».proof.Defs
public import proofs.«01_k».proof.Proof.Gen.Kernel3Ideal.Value
public import proofs.«01_k».proof.Proof.Gen.Reference3Ideal.Run
public import Idealize.ShloMosaic.Lib.Pointwise
public import Idealize.ShloMosaic.Lib.StableHlo.RunRead
public import Idealize.ShloMosaic.Lib.Quiescent

@[expose] public section

set_option maxRecDepth 16384

noncomputable section

/-! The merge of the two groups: the output projection, the residual and the final norm, at an index. -/

namespace Cert.Merge

open Idealize.ShloMosaic Idealize.ShloMosaic.TcCoe Idealize.ShloMosaic.Tactic Idealize.SL.Sem

/-- The residual sum of a row, of the two groups' outputs there. -/
def rs (ys yc : FVec Ideal Cert.Kernel3Ideal.S8192x2048 .bf16) (x : FVec Ideal Cert.Kernel3Ideal.S8192x2048 .f32) (w : FVec Ideal Cert.Kernel3Ideal.S4096x2048 .bf16) (t : Fin 8192) (j : Fin 2048) : EReal :=
  x (ix2 t j) + ((∑ k : Fin 2048, ys (ix2 t k) * w (ix2 ⟨k.val, by omega⟩ j)) + ∑ k : Fin 2048, yc (ix2 t k) * w (ix2 ⟨2048 + k.val, by omega⟩ j))

/-- The row's norm of those sums. -/
def nm (r : Fin 2048 → EReal) (f : FVec Ideal Cert.Kernel3Ideal.S2048 .f32) (j : Fin 2048) : EReal :=
  r j * Ideal.rsqrt (Ideal.div (∑ k : Fin 2048, r k * r k) (Ideal.ofBits .f32 0x45000000#32) + Ideal.ofBits .f32 0x358637BD#32) * f (ix1 j)

section Kernel

open Cert.Kernel3Ideal Cert.Kernel3Ideal.Gen

/-- What a point writes, at an index, of its blocks. -/
theorem pay_at (x0 x1 : FVec Ideal S512x2048 .bf16) (x2 : FVec Ideal S512x2048 .f32) (x3 x4 : FVec Ideal S2048x2048 .bf16) (x5 : FVec Ideal S1x2048 .f32)
    (ys yc : FVec Ideal S8192x2048 .bf16) (x : FVec Ideal S8192x2048 .f32) (w : FVec Ideal S4096x2048 .bf16) (f : FVec Ideal S2048 .f32)
    (r : Fin 512) (t : Fin 8192) (j : Fin 2048)
    (h0 : ∀ k, x0 (ix2 r k) = ys (ix2 t k)) (h1 : ∀ k, x1 (ix2 r k) = yc (ix2 t k)) (h2 : ∀ k, x2 (ix2 r k) = x (ix2 t k))
    (h3 : ∀ k l : Fin 2048, x3 (ix2 k l) = w (ix2 ⟨k.val, by omega⟩ l)) (h4 : ∀ k l : Fin 2048, x4 (ix2 k l) = w (ix2 ⟨2048 + k.val, by omega⟩ l))
    (h5 : ∀ l, x5 (ix2 0 l) = f (ix1 l)) :
    (out0_6 (F := Ideal) x0 x1 x2 x3 x4 x5) (ix2 r j) = nm (rs ys yc x w t) f j := by
  unfold out0_6
  rw [View.canon_unit_zero (by funext a; fin_cases a <;> rfl)]
  simp only [View.ld_unit_zero (S := S512x2048) (off := ![0, 0]) (by funext a; fin_cases a <;> rfl),
    View.ld_unit_zero (S := S2048x2048) (off := ![0, 0]) (by funext a; fin_cases a <;> rfl),
    View.ld_unit_zero (S := S1x2048) (off := ![0, 0]) (by funext a; fin_cases a <;> rfl)]
  unfold k0_pay1
  pointwise
  simp only [h0, h1, h2, h3, h4, h5]
  rfl

variable (m : (ℓ : Loc nD τ sig) → Buf (Elt Ideal) ℓ) (c : Dev nD)

theorem index_0 : ∀ t : Fin cfg0.N, win0_0.index t 0 = t.val ∧ win0_0.index t 1 = 0 := by decide +kernel
theorem index_1 : ∀ t : Fin cfg0.N, win0_1.index t 0 = t.val ∧ win0_1.index t 1 = 0 := by decide +kernel
theorem index_2 : ∀ t : Fin cfg0.N, win0_2.index t 0 = t.val ∧ win0_2.index t 1 = 0 := by decide +kernel
theorem index_3 : ∀ t : Fin cfg0.N, win0_3.index t 0 = 0 ∧ win0_3.index t 1 = 0 := by decide +kernel
theorem index_4 : ∀ t : Fin cfg0.N, win0_4.index t 0 = 1 ∧ win0_4.index t 1 = 0 := by decide +kernel
theorem index_5 : ∀ t : Fin cfg0.N, win0_5.index t 0 = 0 ∧ win0_5.index t 1 = 0 := by decide +kernel
theorem index_6 : ∀ t : Fin cfg0.N, win0_6.index t 0 = t.val ∧ win0_6.index t 1 = 0 := by decide +kernel

theorem lt_N (t : Fin cfg0.N) : t.val < 16 := lt_of_lt_of_eq t.isLt (show cfg0.N = 16 from N_0)

theorem blk_0 (t : Fin cfg0.N) (r : Fin 512) (j : Fin 2048) :
    (iblk m c 0 t : Vec Ideal S512x2048 .bf16) (ix2 r j) = (V m c main_arg0 : Vec Ideal S8192x2048 .bf16) (ix2 ⟨512 * t.val + r.val, by have := lt_N t; omega⟩ j) := by
  unfold iblk
  rw [View.read_apply]
  show V m c main_arg0 _ = V m c main_arg0 _
  congr 1
  funext a
  apply Fin.ext
  match a with
  | ⟨0, _⟩ => show win0_0.index t 0 * 512 + 1 * r.val = 512 * t.val + r.val; rw [(index_0 t).1]; omega
  | ⟨1, _⟩ => show win0_0.index t 1 * 2048 + 1 * j.val = j.val; rw [(index_0 t).2]; omega

theorem blk_1 (t : Fin cfg0.N) (r : Fin 512) (j : Fin 2048) :
    (iblk m c 1 t : Vec Ideal S512x2048 .bf16) (ix2 r j) = (V m c main_arg1 : Vec Ideal S8192x2048 .bf16) (ix2 ⟨512 * t.val + r.val, by have := lt_N t; omega⟩ j) := by
  unfold iblk
  rw [View.read_apply]
  show V m c main_arg1 _ = V m c main_arg1 _
  congr 1
  funext a
  apply Fin.ext
  match a with
  | ⟨0, _⟩ => show win0_1.index t 0 * 512 + 1 * r.val = 512 * t.val + r.val; rw [(index_1 t).1]; omega
  | ⟨1, _⟩ => show win0_1.index t 1 * 2048 + 1 * j.val = j.val; rw [(index_1 t).2]; omega

theorem blk_2 (t : Fin cfg0.N) (r : Fin 512) (j : Fin 2048) :
    (iblk m c 2 t : Vec Ideal S512x2048 .f32) (ix2 r j) = (V m c main_arg2 : Vec Ideal S8192x2048 .f32) (ix2 ⟨512 * t.val + r.val, by have := lt_N t; omega⟩ j) := by
  unfold iblk
  rw [View.read_apply]
  show V m c main_arg2 _ = V m c main_arg2 _
  congr 1
  funext a
  apply Fin.ext
  match a with
  | ⟨0, _⟩ => show win0_2.index t 0 * 512 + 1 * r.val = 512 * t.val + r.val; rw [(index_2 t).1]; omega
  | ⟨1, _⟩ => show win0_2.index t 1 * 2048 + 1 * j.val = j.val; rw [(index_2 t).2]; omega

theorem blk_3 (t : Fin cfg0.N) (r : Fin 2048) (j : Fin 2048) :
    (iblk m c 3 t : Vec Ideal S2048x2048 .bf16) (ix2 r j) = (V m c main_arg3 : Vec Ideal S4096x2048 .bf16) (ix2 ⟨r.val, by have := lt_N t; omega⟩ j) := by
  unfold iblk
  rw [View.read_apply]
  show V m c main_arg3 _ = V m c main_arg3 _
  congr 1
  funext a
  apply Fin.ext
  match a with
  | ⟨0, _⟩ => show win0_3.index t 0 * 2048 + 1 * r.val = r.val; rw [(index_3 t).1]; omega
  | ⟨1, _⟩ => show win0_3.index t 1 * 2048 + 1 * j.val = j.val; rw [(index_3 t).2]; omega

theorem blk_4 (t : Fin cfg0.N) (r : Fin 2048) (j : Fin 2048) :
    (iblk m c 4 t : Vec Ideal S2048x2048 .bf16) (ix2 r j) = (V m c main_arg3 : Vec Ideal S4096x2048 .bf16) (ix2 ⟨2048 + r.val, by have := lt_N t; omega⟩ j) := by
  unfold iblk
  rw [View.read_apply]
  show V m c main_arg3 _ = V m c main_arg3 _
  congr 1
  funext a
  apply Fin.ext
  match a with
  | ⟨0, _⟩ => show win0_4.index t 0 * 2048 + 1 * r.val = 2048 + r.val; rw [(index_4 t).1]; omega
  | ⟨1, _⟩ => show win0_4.index t 1 * 2048 + 1 * j.val = j.val; rw [(index_4 t).2]; omega

theorem blk_5 (t : Fin cfg0.N) (r : Fin 1) (j : Fin 2048) :
    (iblk m c 5 t : Vec Ideal S1x2048 .f32) (ix2 r j) = (V m c main_v0 : Vec Ideal S1x2048 .f32) (ix2 ⟨r.val, by have := lt_N t; omega⟩ j) := by
  unfold iblk
  rw [View.read_apply]
  show V m c main_v0 _ = V m c main_v0 _
  congr 1
  funext a
  apply Fin.ext
  match a with
  | ⟨0, _⟩ => show win0_5.index t 0 * 1 + 1 * r.val = r.val; rw [(index_5 t).1]; omega
  | ⟨1, _⟩ => show win0_5.index t 1 * 2048 + 1 * j.val = j.val; rw [(index_5 t).2]; omega

theorem f_eq : (V m c main_v0 : Vec Ideal S1x2048 .f32) = broadcastInDim S1x2048 ![1] Cert.Kernel3Ideal.Facts₀.bcast_S2048_S1x2048_1 (m ((c : Thread nD τ).loc main_arg4)) := by
  show StableHlo.after hostOps0 (fun b => m (c, b)) _ = _
  simp only [hostOps0]
  after_results
  all_goals rfl

theorem f_at (f : FVec Ideal S2048 .f32) (l : Fin 2048) :
    (broadcastInDim S1x2048 ![1] Cert.Kernel3Ideal.Facts₀.bcast_S2048_S1x2048_1 f : Vec Ideal S1x2048 .f32) (ix2 0 l) = f (ix1 l) := by
  pointwise

/-- The kernel's result at an index. -/
theorem kernel_at (t : Fin 8192) (j : Fin 2048) :
    @Eq EReal ((dats m 0 c).arrAt 6 cfg0.N (ix2 t j))
      (nm (rs (m ((c : Thread nD τ).loc main_arg0)) (m ((c : Thread nD τ).loc main_arg1)) (m ((c : Thread nD τ).loc main_arg2)) (m ((c : Thread nD τ).loc main_arg3)) t)
        (m ((c : Thread nD τ).loc main_arg4)) j) := by
  have hn : t.val / 512 < cfg0.N := by rw [show cfg0.N = 16 from N_0]; omega
  have e := congrFun (Cert.Kernel3Ideal.Value.blocks6 m c ⟨t.val / 512, hn⟩ (flush0_6 _)) (ix2 (⟨t.val % 512, by omega⟩ : Fin 512) j)
  rw [Cert.Kernel3Ideal.Value.flushed6, View.read_apply] at e
  have hi : ((cfg0.win 6).blk ⟨t.val / 512, hn⟩).view.emb (ix2 (⟨t.val % 512, by omega⟩ : Fin 512) j) = ix2 t j := by
    funext a
    apply Fin.ext
    match a with
    | ⟨0, _⟩ => show win0_6.index ⟨t.val / 512, hn⟩ 0 * 512 + 1 * (t.val % 512) = t.val; rw [(index_6 _).1]; show t.val / 512 * 512 + 1 * (t.val % 512) = t.val; omega
    | ⟨1, _⟩ => show win0_6.index ⟨t.val / 512, hn⟩ 1 * 2048 + 1 * j.val = j.val; rw [(index_6 _).2]; omega
  rw [hi] at e
  refine e.trans ?_
  have ht : ∀ h, (⟨512 * (t.val / 512) + t.val % 512, h⟩ : Fin 8192) = t := fun h => Fin.ext (Nat.div_add_mod _ _)
  refine pay_at _ _ _ _ _ _ _ _ _ _ _ _ t j (fun k => ?_) (fun k => ?_) (fun k => ?_) (fun k l => ?_) (fun k l => ?_) (fun l => ?_)
  · refine (blk_0 m c _ _ k).trans ?_; rw [V_main_arg0, ht]
  · refine (blk_1 m c _ _ k).trans ?_; rw [V_main_arg1, ht]
  · refine (blk_2 m c _ _ k).trans ?_; rw [V_main_arg2, ht]
  · refine (blk_3 m c _ k l).trans ?_; rw [V_main_arg3]
  · refine (blk_4 m c _ k l).trans ?_; rw [V_main_arg3]
  · refine (blk_5 m c _ 0 l).trans ?_; rw [f_eq]; exact f_at _ l

end Kernel

section Ref

open Cert.Reference3Ideal Cert.Reference3Ideal.Gen

/-- The reference's residual sums and its norm of them, as it writes them. -/
def resR (ys yc : FVec Ideal S8192x2048 .bf16) (x : FVec Ideal S8192x2048 .f32) (w : FVec Ideal S4096x2048 .bf16) : FVec Ideal S4x2048x2048 .f32 :=
  addf (shapeCast _ x shapeCasts_S8192x2048_S4x2048x2048) (Host.dotGeneral dot_S4x2048x4096_S4096x2048_S4x2048x2048_2_0_01_1_n_n none (concatenate S4x2048x4096 2 [⟨S4x2048x2048, (shapeCast _ (extf .f32 ys bitsLt_bf16_f32) shapeCasts_S8192x2048_S4x2048x2048)⟩, ⟨S4x2048x2048, (shapeCast _ (extf .f32 yc bitsLt_bf16_f32) shapeCasts_S8192x2048_S4x2048x2048)⟩] concatenates_S4x2048x2048_S4x2048x2048_S4x2048x4096_d2) (extf .f32 w bitsLt_bf16_f32))
def outR (s : FVec Ideal S4x2048x2048 .f32) (f : FVec Ideal S2048 .f32) : FVec Ideal S8192x2048 .f32 :=
  shapeCast _ (mulf (mulf s (broadcastInDim S4x2048x2048 ![0, 1, 2] bcast_S4x2048x1_S4x2048x2048_0_1_2 (Host.rsqrt (addf (Host.divf (broadcastInDim S4x2048x1 ![0, 1] bcast_S4x2048_S4x2048x1_0_1 (Host.reduceAdd (mulf s s) (constant S_ .f32 0x00000000#32) reducesTo_S4x2048x2048_S4x2048_d2 h_S_)) (broadcastInDim S4x2048x1 ![] bcast_S_S4x2048x1 (constant S_ .f32 0x45000000#32))) (broadcastInDim S4x2048x1 ![] bcast_S_S4x2048x1 (constant S_ .f32 0x358637BD#32)))))) (broadcastInDim S4x2048x2048 ![0, 1, 2] bcast_S1x1x2048_S4x2048x2048_0_1_2 (broadcastInDim S1x1x2048 ![2] bcast_S2048_S1x1x2048_2 f))) shapeCasts_S4x2048x2048_S8192x2048

theorem resR_at (ys yc : FVec Ideal S8192x2048 .bf16) (x : FVec Ideal S8192x2048 .f32) (w : FVec Ideal S4096x2048 .bf16) (b : Fin 4) (l j : Fin 2048) :
    resR ys yc x w (ix3 b l j) = rs ys yc x w ⟨b.val * 2048 + l.val, by omega⟩ j := by
  unfold resR
  pointwise
  rfl

theorem outR_at (s : FVec Ideal S4x2048x2048 .f32) (f : FVec Ideal S2048 .f32) (t : Fin 8192) (j : Fin 2048) :
    outR s f (ix2 t j) = nm (fun k => s (ix3 ⟨t.val / 2048, by omega⟩ ⟨t.val % 2048, by omega⟩ k)) f j := by
  unfold outR
  pointwise
  rfl

/-- The reference's result at an index. -/
theorem ref_at (ys yc : FVec Ideal S8192x2048 .bf16) (x : FVec Ideal S8192x2048 .f32) (w : FVec Ideal S4096x2048 .bf16) (f : FVec Ideal S2048 .f32)
    (t : Fin 8192) (j : Fin 2048) : outR (resR ys yc x w) f (ix2 t j) = nm (rs ys yc x w t) f j := by
  rw [outR_at]
  refine congrArg (fun r => nm r f j) (funext fun k => ?_)
  rw [resR_at]
  exact congrArg (fun s => rs ys yc x w s k) (Fin.ext (Nat.div_add_mod' _ _))

variable (m : (ℓ : Loc nD τ sig) → Buf (Elt Ideal) ℓ)

/-- The reference runs, leaves its arguments and ends with its counters at zero. -/
theorem frame (ρ : Dev nD → PrngReg) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run _ _ _).mono (fun r h => ⟨fun c => (h c).2, sem_eq_zero_of_no_sems (by decide) r.2⟩) (Cert.Reference3Ideal.Value.run m ρ)

end Ref

/-- The kernel and the reference end with the same result. -/
theorem algebraic : Cert.algebraic_Kernel3Ideal_Reference3Ideal (hKernel3Ideal := Cert.Kernel3Ideal.Gen.facts)
    (hReference3Ideal := Cert.Reference3Ideal.Gen.facts) := by
  intro m g m' g' hp hs
  refine ⟨fun c => (Cert.Kernel3Ideal.Gen.dats m 0 c).arrAt 6 Cert.Kernel3Ideal.cfg0.N, Cert.Kernel3Ideal.Value.run_blocks m g, ?_⟩
  refine (θ_run _ _ _).mono (fun r h c => ⟨(h c).1.trans ?_, (h c).2⟩) (Cert.Reference3Ideal.Value.run m' g')
  obtain ⟨h0, h1, h2, h3, h4⟩ := hs c
  show outR (resR (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3))) (m' ((c.tc : Thread Cert.Reference3Ideal.nD Cert.Reference3Ideal.τ).loc Cert.Reference3Ideal.main_arg4)) = _
  rw [h0, h1, h2, h3, h4]
  funext i
  rw [show i = ix2 (i 0) (i 1) from eq_ix2 i]
  exact (ref_at _ _ _ _ _ (i 0) (i 1)).trans (kernel_at m c (i 0) (i 1)).symm

end Cert.Merge

end
-- ==== Proof.ShortStep.lean ====
module

public import proofs.«01_k».proof.Proof.Gen.Kernel2Ideal.Frame
public import Idealize.ShloMosaic.Lib.Pointwise

@[expose] public section

set_option maxRecDepth 16384

noncomputable section

/-! What a point of the short convolution's kernel stores, at a tile's first point and after it. -/

namespace Cert.Short

open Idealize.ShloMosaic Idealize.ShloMosaic.TcCoe Idealize.ShloMosaic.Tactic
open Cert.Kernel2Ideal Cert.Kernel2Ideal.Gen

variable {F : FTy → Type} [FloatOps F]

/-- The body's loads of its inputs: the rows of the short convolution's input, a slab's rows from 32 and its last 32 rows,
    the convolution's rows and the state. -/
def ldH (a : Memref sig .tc .vmem S2048x2048 .bf16) (ha : a.IsWhole) (x : Vec F S2048x2048 .bf16) : FVec F S2048x2048 .bf16 :=
  View.readAt (Elt F) a.view (Rect.unit (s := S2048x2048) ![0, 0] S2048x2048.size (by decide)).toLoadRect (ha.unread x)
def ldTop (a : Memref sig .tc .vmem S256x2048 .f32) (ha : a.IsWhole) (x : Vec F S256x2048 .f32) : FVec F S224x2048 .f32 :=
  View.readAt (Elt F) a.view (Rect.unit (s := S256x2048) ![32, 0] S224x2048.size (by decide)).toLoadRect (ha.unread x)
def ldEnd (a : Memref sig .tc .vmem S32x2048 .f32) (ha : a.IsWhole) (x : Vec F S32x2048 .f32) : FVec F S32x2048 .f32 :=
  View.readAt (Elt F) a.view (Rect.unit (s := S32x2048) ![0, 0] S32x2048.size (by decide)).toLoadRect (ha.unread x)
theorem inbC (k : Fin 3) : ∀ a, (![k.val, 0] : Fin 2 → ℕ) a + S1x256.size a ≤ S3x256.size a := by
  revert k; decide
def ldC (a : Memref sig .tc .vmem S3x256 .f32) (ha : a.IsWhole) (x : Vec F S3x256 .f32) (k : Fin 3) : FVec F S1x256 .f32 :=
  View.readAt (Elt F) a.view (Rect.unit (s := S3x256) ![k.val, 0] S1x256.size (inbC k)).toLoadRect (ha.unread x)
def ldSt (a : Memref sig .tc .vmem S1x2x256 .f32) (ha : a.IsWhole) (x : Vec F S1x2x256 .f32) : FVec F S1x2x256 .f32 :=
  View.readAt (Elt F) a.view (Rect.unit (s := S1x2x256) ![0, 0, 0] S1x2x256.size (by decide)).toLoadRect (ha.unread x)

theorem inbS (k : Fin 4) : ∀ a, (![k.val, 0, 0] : Fin 3 → ℕ) a + S1x256x2048.size a ≤ S4x256x2048.size a := by
  revert k; decide

/-- A slab's place among the four. -/
abbrev rectS (k : Fin 4) : Rect S4x256x2048 := Rect.unit (s := S4x256x2048) ![k.val, 0, 0] S1x256x2048.size (inbS k)

/-- A slab, as carried, and read back of the stores of a point. -/
def ldS (a : Memref sig .tc .vmem S4x256x2048 .bf16) (ha : a.IsWhole) (x : Vec F S4x256x2048 .bf16) (k : Fin 4) : FVec F S1x256x2048 .bf16 :=
  View.readAt (Elt F) a.view (rectS k).toLoadRect (ha.unread x)
def rdS (v : View sig .tc .vmem S4x256x2048 .bf16) (L : List (View.Piece (Elt F) S4x256x2048 .bf16)) (k : Fin 4) : FVec F S1x256x2048 .bf16 :=
  v.readCov L (rectS k).toLoadRect

/-- The stores of the slabs, over what they store. -/
def slabs (w : Fin 4 → FVec F S1x256x2048 .bf16) : List (View.Piece (Elt F) S4x256x2048 .bf16) :=
  [⟨rectS 3, w 3⟩, ⟨rectS 2, w 2⟩, ⟨rectS 1, w 1⟩, ⟨rectS 0, w 0⟩]

/-- The stores of the padded product, over the input, the last two slabs and the state. -/
def padded (h : FVec F S2048x2048 .bf16) (s : Fin 4 → FVec F S1x256x2048 .bf16) (st : FVec F S1x2x256 .f32) : List (View.Piece (Elt F) S1x2056x256 .f32) :=
  [⟨Rect.unit (s := S1x2056x256) ![0, 8, 0] S1x2048x256.size (by decide), k0_pay8 h (s 2) (s 3)⟩,
   ⟨Rect.unit (s := S1x2056x256) ![0, 6, 0] S1x2x256.size (by decide), k0_pay7 st⟩,
   ⟨Rect.unit (s := S1x2056x256) ![0, 0, 0] S1x8x256.size (by decide), k0_pay6⟩]

/-- The padded product and its last two rows, read back. -/
def rdPad (v : View sig .tc .vmem S1x2056x256 .f32) (L : List (View.Piece (Elt F) S1x2056x256 .f32)) : FVec F S1x2056x256 .f32 :=
  v.readCov L (Rect.unit (s := S1x2056x256) ![0, 0, 0] S1x2056x256.size (by decide)).toLoadRect
def rdLast (v : View sig .tc .vmem S1x2056x256 .f32) (L : List (View.Piece (Elt F) S1x2056x256 .f32)) : FVec F S1x2x256 .f32 :=
  v.readCov L (Rect.unit (s := S1x2056x256) ![0, 2054, 0] S1x2x256.size (by decide)).toLoadRect

/-- What a point stores as its output and as its state. -/
def yAll (v : View sig .tc .vmem S1x2056x256 .f32) (h : FVec F S2048x2048 .bf16) (s : Fin 4 → FVec F S1x256x2048 .bf16) (st : FVec F S1x2x256 .f32)
    (w : Fin 3 → FVec F S1x256 .f32) : FVec F S2048x256 .bf16 :=
  k0_pay10 h (rdPad v (padded h s st)) (k0_pay9 (rdPad v (padded h s st))) (w 2) (w 1) (w 0) (s 1) (s 0)
def outY (y : FVec F S2048x256 .bf16) : List (View.Piece (Elt F) S2048x256 .bf16) :=
  [⟨Rect.unit (s := S2048x256) ![0, 0] S2048x256.size (by decide), y⟩]
def outN (y : FVec F S1x2x256 .f32) : List (View.Piece (Elt F) S1x2x256 .f32) :=
  [⟨Rect.unit (s := S1x2x256) ![0, 0, 0] S1x2x256.size (by decide), y⟩]

section Step

variable (arg2 : Memref sig .tc .vmem S2048x2048 .bf16) (harg2 : arg2.IsWhole) (arg3 : Memref sig .tc .vmem S256x2048 .f32) (harg3 : arg3.IsWhole) (arg4 : Memref sig .tc .vmem S32x2048 .f32) (harg4 : arg4.IsWhole)
  (arg5 : Memref sig .tc .vmem S256x2048 .f32) (harg5 : arg5.IsWhole) (arg6 : Memref sig .tc .vmem S32x2048 .f32) (harg6 : arg6.IsWhole) (arg7 : Memref sig .tc .vmem S256x2048 .f32) (harg7 : arg7.IsWhole)
  (arg8 : Memref sig .tc .vmem S32x2048 .f32) (harg8 : arg8.IsWhole) (arg9 : Memref sig .tc .vmem S256x2048 .f32) (harg9 : arg9.IsWhole) (arg10 : Memref sig .tc .vmem S32x2048 .f32) (harg10 : arg10.IsWhole)
  (arg11 : Memref sig .tc .vmem S3x256 .f32) (harg11 : arg11.IsWhole) (arg12 : Memref sig .tc .vmem S1x2x256 .f32) (harg12 : arg12.IsWhole) (arg13 : Memref sig .tc .vmem S2048x256 .bf16) (harg13 : arg13.IsWhole)
  (arg14 : Memref sig .tc .vmem S1x2x256 .f32) (harg14 : arg14.IsWhole) (arg15 : Memref sig .tc .vmem S4x256x2048 .bf16) (harg15 : arg15.IsWhole) (arg16 : Memref sig .tc .vmem S1x2056x256 .f32) (harg16 : arg16.IsWhole)
  (x0 : Vec F S2048x2048 .bf16) (x1 : Vec F S256x2048 .f32) (x2 : Vec F S32x2048 .f32) (x3 : Vec F S256x2048 .f32) (x4 : Vec F S32x2048 .f32) (x5 : Vec F S256x2048 .f32) (x6 : Vec F S32x2048 .f32) (x7 : Vec F S256x2048 .f32) (x8 : Vec F S32x2048 .f32)
  (x9 : Vec F S3x256 .f32) (x10 : Vec F S1x2x256 .f32)
  (c : Dev nD) (i : grid0.Coords) (hc0 : cond0_0 i) (hn0 : ¬cond0_0 i) (xs0 : Vec F S4x256x2048 .bf16)

/-- The slabs that a tile's first point stores. -/
def newS : Fin 4 → FVec F S1x256x2048 .bf16
  | 0 => k0_pay1 (ldTop arg3 harg3 x1) (ldEnd arg4 harg4 x2)
  | 1 => k0_pay2 (ldTop arg5 harg5 x3) (ldEnd arg6 harg6 x4)
  | 2 => k0_pay3 (ldTop arg7 harg7 x5) (ldEnd arg8 harg8 x6)
  | 3 => k0_pay5 (k0_pay4 (ldTop arg9 harg9 x7)) (ldEnd arg10 harg10 x8)

theorem slabs_A : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10).2.2.1
    = slabs (newS arg3 harg3 arg4 harg4 arg5 harg5 arg6 harg6 arg7 harg7 arg8 harg8 arg9 harg9 arg10 harg10 x1 x2 x3 x4 x5 x6 x7 x8) := by
  sl_kernel_rfl

theorem y_A : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10).1
    = outY (yAll arg16.view (ldH arg2 harg2 x0) (rdS arg15.view (slabs (newS arg3 harg3 arg4 harg4 arg5 harg5 arg6 harg6 arg7 harg7 arg8 harg8 arg9 harg9 arg10 harg10 x1 x2 x3 x4 x5 x6 x7 x8))) (ldSt arg12 harg12 x10) (ldC arg11 harg11 x9)) := by
  sl_kernel_rfl

theorem n_A : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10).2.1
    = outN (rdLast arg16.view (padded (ldH arg2 harg2 x0) (rdS arg15.view (slabs (newS arg3 harg3 arg4 harg4 arg5 harg5 arg6 harg6 arg7 harg7 arg8 harg8 arg9 harg9 arg10 harg10 x1 x2 x3 x4 x5 x6 x7 x8))) (ldSt arg12 harg12 x10))) := by
  sl_kernel_rfl

theorem y_B : (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hn0 x0 x1 x2 x3 x4 x5 x6 x7 x8 x9 x10 xs0).1
    = outY (yAll arg16.view (ldH arg2 harg2 x0) (ldS arg15 harg15 xs0) (ldSt arg12 harg12 x10) (ldC arg11 harg11 x9)) := by
  sl_kernel_rfl

theorem n_B : (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hn0 x0 x1 x2 x3 x4 x5 x6 x7 x8 x9 x10 xs0).2.1
    = outN (rdLast arg16.view (padded (ldH arg2 harg2 x0) (ldS arg15 harg15 xs0) (ldSt arg12 harg12 x10))) := by
  sl_kernel_rfl

end Step

end Cert.Short
-- ==== Proof.ShortVal.lean ====
module

public import proofs.«01_k».proof.Proof.ShortStep
public import Idealize.ShloMosaic.Lib.Pipeline.ValueKit.Tiles

@[expose] public section

set_option maxRecDepth 16384

noncomputable section

/-! The short convolution's stores at an index. -/

namespace Cert.Short

open Idealize.ShloMosaic Idealize.ShloMosaic.TcCoe Idealize.ShloMosaic.Tactic
open Cert.Kernel2Ideal Cert.Kernel2Ideal.Gen

theorem ldH_at (a : Memref sig .tc .vmem S2048x2048 .bf16) (ha : a.IsWhole) (x : Vec Ideal S2048x2048 .bf16) (r e : Fin 2048) :
    ldH a ha x (ix2 r e) = x (ix2 r e) := by
  unfold ldH
  rw [View.readAt_eq_ld, ha.read_unread]
  pointwise

theorem ldTop_at (a : Memref sig .tc .vmem S256x2048 .f32) (ha : a.IsWhole) (x : Vec Ideal S256x2048 .f32) (r : Fin 224) (e : Fin 2048) :
    ldTop a ha x (ix2 r e) = x (ix2 ⟨32 + r.val, by omega⟩ e) := by
  unfold ldTop
  rw [View.readAt_eq_ld, ha.read_unread]
  pointwise

theorem ldEnd_at (a : Memref sig .tc .vmem S32x2048 .f32) (ha : a.IsWhole) (x : Vec Ideal S32x2048 .f32) (r : Fin 32) (e : Fin 2048) :
    ldEnd a ha x (ix2 r e) = x (ix2 r e) := by
  unfold ldEnd
  rw [View.readAt_eq_ld, ha.read_unread]
  pointwise

theorem ldC_at (a : Memref sig .tc .vmem S3x256 .f32) (ha : a.IsWhole) (x : Vec Ideal S3x256 .f32) (k : Fin 3) (q : Fin 256) :
    ldC a ha x k (ix2 0 q) = x (ix2 k q) := by
  unfold ldC
  rw [View.readAt_eq_ld, ha.read_unread]
  fin_cases k <;> pointwise

theorem ldSt_at (a : Memref sig .tc .vmem S1x2x256 .f32) (ha : a.IsWhole) (x : Vec Ideal S1x2x256 .f32) (r : Fin 2) (q : Fin 256) :
    ldSt a ha x (ix3 0 r q) = x (ix3 0 r q) := by
  unfold ldSt
  rw [View.readAt_eq_ld, ha.read_unread]
  pointwise

theorem ldS_at (a : Memref sig .tc .vmem S4x256x2048 .bf16) (ha : a.IsWhole) (x : Vec Ideal S4x256x2048 .bf16) (k : Fin 4) (q : Fin 256) (e : Fin 2048) :
    ldS a ha x k (ix3 0 q e) = x (ix3 k q e) := by
  unfold ldS
  rw [View.readAt_eq_ld, ha.read_unread]
  fin_cases k <;> pointwise

/-- The stores of the four slabs hold each slab in its place. -/
theorem slabs_at (w : Fin 4 → FVec Ideal S1x256x2048 .bf16) (k : Fin 4) (q : Fin 256) (e : Fin 2048) :
    View.canon (slabs w) (ix3 k q e) = w k (ix3 0 q e) := by
  have hm : ∀ k', (⟨rectS k', w k'⟩ : View.Piece (Elt Ideal) S4x256x2048 .bf16) ∈ slabs w := by
    intro k'
    fin_cases k' <;> simp [slabs]
  refine View.canon_eq_of_allAt _ _ _ ⟨_, hm k, ?_⟩ ?_
  · rw [Rect.mem_set_unit]
    intro a
    fin_cases a
    · show k.val ≤ k.val ∧ k.val < k.val + 1
      omega
    · show 0 ≤ q.val ∧ q.val < 0 + 256
      omega
    · show 0 ≤ e.val ∧ e.val < 0 + 2048
      omega
  · have hp : ∀ p ∈ slabs w, ∃ k', p = ⟨rectS k', w k'⟩ := by
      intro p hp
      simp only [slabs, List.mem_cons, List.not_mem_nil, or_false] at hp
      rcases hp with h | h | h | h
      · exact ⟨3, h⟩
      · exact ⟨2, h⟩
      · exact ⟨1, h⟩
      · exact ⟨0, h⟩
    intro p h
    obtain ⟨k', rfl⟩ := hp p h
    intro y hy
    have h0 : k'.val + 1 * (y 0).val = k.val := congrArg (fun i => (i 0).val) hy
    have h1 : 0 + 1 * (y 1).val = q.val := congrArg (fun i => (i 1).val) hy
    have h2 : 0 + 1 * (y 2).val = e.val := congrArg (fun i => (i 2).val) hy
    have y0 : (y 0).val < 1 := (y 0).isLt
    obtain rfl : k' = k := Fin.ext (by omega)
    refine congrArg (w k') ?_
    funext a
    fin_cases a
    · exact Fin.ext (show (y 0).val = 0 by omega)
    · exact Fin.ext (show (y 1).val = q.val by omega)
    · exact Fin.ext (show (y 2).val = e.val by omega)

theorem rdS_at (v : View sig .tc .vmem S4x256x2048 .bf16) (w : Fin 4 → FVec Ideal S1x256x2048 .bf16) (k : Fin 4) (q : Fin 256) (e : Fin 2048) :
    rdS v (slabs w) k (ix3 0 q e) = w k (ix3 0 q e) := by
  unfold rdS
  rw [View.readCov_eq_canon', ← slabs_at w k q e]
  refine congrArg (View.canon (slabs w)) ?_
  funext a
  fin_cases a
  · exact Fin.ext (show k.val + 1 * 0 = k.val by omega)
  · exact Fin.ext (show 0 + 1 * q.val = q.val by omega)
  · exact Fin.ext (show 0 + 1 * e.val = e.val by omega)

/-- A row's projection onto a slab's row. -/
def pr (h : FVec Ideal S2048x2048 .bf16) (s : FVec Ideal S1x256x2048 .bf16) (r : Fin 2048) (q : Fin 256) : EReal :=
  ∑ e : Fin 2048, (h (ix2 r e) * s (ix3 0 q e) : EReal)

theorem pay8_at (h : FVec Ideal S2048x2048 .bf16) (s t : FVec Ideal S1x256x2048 .bf16) (r : Fin 2048) (q : Fin 256) :
    (k0_pay8 h s t : FVec Ideal S1x2048x256 .f32) (ix3 0 r q) = pr h s r q * pr h t r q := by
  unfold k0_pay8 pr
  pointwise

/-- The padded product from the state's first row on. -/
def seq (h : FVec Ideal S2048x2048 .bf16) (s : Fin 4 → FVec Ideal S1x256x2048 .bf16) (st : FVec Ideal S1x2x256 .f32) (n : ℕ) (q : Fin 256) : EReal :=
  if h2 : n < 2 then st (ix3 0 ⟨n, h2⟩ q)
  else if hn : n - 2 < 2048 then pr h (s 2) ⟨n - 2, hn⟩ q * pr h (s 3) ⟨n - 2, hn⟩ q else 0

theorem padded_at (h : FVec Ideal S2048x2048 .bf16) (s : Fin 4 → FVec Ideal S1x256x2048 .bf16) (st : FVec Ideal S1x2x256 .f32)
    (n : ℕ) (hn : n < 2050) (q : Fin 256) :
    View.canon (padded h s st) (ix3 0 (⟨6 + n, by omega⟩ : Fin 2056) q) = seq h s st n q := by
  unfold padded seq
  by_cases h2 : n < 2
  · rw [dif_pos h2, View.canon_cons_of_not_mem]
    · rw [show (ix3 (0 : Fin 1) (⟨6 + n, by omega⟩ : Fin 2056) q : S1x2056x256.Idx)
        = (Rect.unit (s := S1x2056x256) ![0, 6, 0] S1x2x256.size (by decide)).emb (ix3 0 (⟨n, h2⟩ : Fin 2) q) from ?_, View.canon_cons_emb]
      · unfold k0_pay7
        pointwise
      · funext a
        fin_cases a
        · rfl
        · exact Fin.ext (show 6 + n = 6 + 1 * n by omega)
        · exact Fin.ext (show q.val = 0 + 1 * q.val by omega)
    · rw [Rect.mem_set_unit]
      intro hh
      have : 8 ≤ 6 + n := (hh 1).1
      omega
  · rw [dif_neg h2, dif_pos (by omega)]
    rw [show (ix3 (0 : Fin 1) (⟨6 + n, by omega⟩ : Fin 2056) q : S1x2056x256.Idx)
        = (Rect.unit (s := S1x2056x256) ![0, 8, 0] S1x2048x256.size (by decide)).emb (ix3 0 (⟨n - 2, by omega⟩ : Fin 2048) q) from ?_, View.canon_cons_emb]
    · exact pay8_at _ _ _ _ _
    · funext a
      fin_cases a
      · rfl
      · exact Fin.ext (show 6 + n = 8 + 1 * (n - 2) by omega)
      · exact Fin.ext (show q.val = 0 + 1 * q.val by omega)

theorem rdPad_at (v : View sig .tc .vmem S1x2056x256 .f32) (h : FVec Ideal S2048x2048 .bf16) (s : Fin 4 → FVec Ideal S1x256x2048 .bf16)
    (st : FVec Ideal S1x2x256 .f32) (n : ℕ) (hn : n < 2050) (q : Fin 256) :
    rdPad v (padded h s st) (ix3 0 (⟨6 + n, by omega⟩ : Fin 2056) q) = seq h s st n q := by
  unfold rdPad
  rw [View.readCov_eq_canon', ← padded_at h s st n hn q]
  refine congrArg (View.canon (padded h s st)) ?_
  funext a
  fin_cases a
  · rfl
  · exact Fin.ext (show 0 + 1 * (6 + n) = 6 + n by omega)
  · exact Fin.ext (show 0 + 1 * q.val = q.val by omega)

theorem rdLast_at (v : View sig .tc .vmem S1x2056x256 .f32) (h : FVec Ideal S2048x2048 .bf16) (s : Fin 4 → FVec Ideal S1x256x2048 .bf16)
    (st : FVec Ideal S1x2x256 .f32) (n : Fin 2) (q : Fin 256) :
    rdLast v (padded h s st) (ix3 0 n q) = seq h s st (2048 + n.val) q := by
  unfold rdLast
  rw [View.readCov_eq_canon', ← padded_at h s st (2048 + n.val) (by omega) q]
  refine congrArg (View.canon (padded h s st)) ?_
  funext a
  fin_cases a
  · rfl
  · exact Fin.ext (show 2054 + 1 * n.val = 6 + (2048 + n.val) by omega)
  · exact Fin.ext (show 0 + 1 * q.val = q.val by omega)

theorem pay10_at (h : FVec Ideal S2048x2048 .bf16) (p : FVec Ideal S1x2056x256 .f32) (w2 w1 w0 : FVec Ideal S1x256 .f32)
    (s1 s0 : FVec Ideal S1x256x2048 .bf16) (r : Fin 2048) (q : Fin 256) :
    (k0_pay10 h p (k0_pay9 p) w2 w1 w0 s1 s0 : FVec Ideal S2048x256 .bf16) (ix2 r q)
      = pr h s1 r q * (p (ix3 0 (⟨6 + (r.val + 2), by omega⟩ : Fin 2056) q) * w2 (ix2 0 q) + p (ix3 0 (⟨6 + (r.val + 1), by omega⟩ : Fin 2056) q) * w1 (ix2 0 q)
          + p (ix3 0 (⟨6 + r.val, by omega⟩ : Fin 2056) q) * w0 (ix2 0 q))
        * (pr h s0 r q + pr h s0 r q * Ideal.tanh (pr h s0 r q)) := by
  unfold k0_pay10 k0_pay9 pr
  pointwise
  have a0 : 8 + r.val = 6 + (r.val + 2) := by omega
  have a1 : (8 + r.val + 2056 - 1) % 2056 = 6 + (r.val + 1) := by omega
  have a2 : (8 + r.val + 2056 - 2) % 2056 = 6 + r.val := by omega
  simp only [a1, a2]
  simp only [a0]

/-- A point's output at an index, over its input, slabs, state and convolution rows. -/
def yv (h : FVec Ideal S2048x2048 .bf16) (s : Fin 4 → FVec Ideal S1x256x2048 .bf16) (st : FVec Ideal S1x2x256 .f32) (w : Vec Ideal S3x256 .f32)
    (r : Fin 2048) (q : Fin 256) : EReal :=
  pr h (s 1) r q * (seq h s st (r.val + 2) q * w (ix2 2 q) + seq h s st (r.val + 1) q * w (ix2 1 q) + seq h s st r.val q * w (ix2 0 q))
    * (pr h (s 0) r q + pr h (s 0) r q * Ideal.tanh (pr h (s 0) r q))

theorem ldH_eq (a : Memref sig .tc .vmem S2048x2048 .bf16) (ha : a.IsWhole) (x : Vec Ideal S2048x2048 .bf16) : ldH a ha x = x := by
  funext i
  obtain ⟨r, e, rfl⟩ : ∃ r e, i = ix2 r e := ⟨_, _, eq_ix2 i⟩
  exact ldH_at a ha x r e

theorem ldSt_eq (a : Memref sig .tc .vmem S1x2x256 .f32) (ha : a.IsWhole) (x : Vec Ideal S1x2x256 .f32) : ldSt a ha x = x := by
  funext i
  obtain ⟨z, r, e, rfl⟩ : ∃ z r e, i = ix3 z r e := ⟨_, _, _, eq_ix3 i⟩
  obtain rfl : z = 0 := Fin.eq_zero z
  exact ldSt_at a ha x r e

/-- A slab of four. -/
def slabOf (x : Vec Ideal S4x256x2048 .bf16) (k : Fin 4) : FVec Ideal S1x256x2048 .bf16 := fun i => x (ix3 k (i 1) (i 2))

theorem ldS_eq (a : Memref sig .tc .vmem S4x256x2048 .bf16) (ha : a.IsWhole) (x : Vec Ideal S4x256x2048 .bf16) : ldS a ha x = slabOf x := by
  funext k i
  obtain ⟨z, r, e, rfl⟩ : ∃ z r e, i = ix3 z r e := ⟨_, _, _, eq_ix3 i⟩
  obtain rfl : z = 0 := Fin.eq_zero z
  exact ldS_at a ha x k r e

theorem rdS_eq (v : View sig .tc .vmem S4x256x2048 .bf16) (w : Fin 4 → FVec Ideal S1x256x2048 .bf16) : rdS v (slabs w) = w := by
  funext k i
  obtain ⟨z, r, e, rfl⟩ : ∃ z r e, i = ix3 z r e := ⟨_, _, _, eq_ix3 i⟩
  obtain rfl : z = 0 := Fin.eq_zero z
  exact rdS_at v w k r e

theorem yAll_at (v : View sig .tc .vmem S1x2056x256 .f32) (h : FVec Ideal S2048x2048 .bf16) (s : Fin 4 → FVec Ideal S1x256x2048 .bf16)
    (st : FVec Ideal S1x2x256 .f32) (a : Memref sig .tc .vmem S3x256 .f32) (ha : a.IsWhole) (x : Vec Ideal S3x256 .f32) (r : Fin 2048) (q : Fin 256) :
    yAll v h s st (ldC a ha x) (ix2 r q) = yv h s st x r q := by
  unfold yAll yv
  rw [pay10_at, rdPad_at v h s st (r.val + 2) (by omega), rdPad_at v h s st (r.val + 1) (by omega), rdPad_at v h s st r.val (by omega),
    ldC_at, ldC_at, ldC_at]

/-- A slab of the weights from its two blocks, whose rows start 32 rows below the slab. -/
def slabV (t : Vec Ideal S256x2048 .f32) (u : Vec Ideal S32x2048 .f32) (q : Fin 256) (e : Fin 2048) : EReal :=
  if h : q.val < 224 then t (ix2 ⟨32 + q.val, by omega⟩ e) else u (ix2 ⟨q.val - 224, by omega⟩ e)

section Slabs

variable (a : Memref sig .tc .vmem S256x2048 .f32) (ha : a.IsWhole) (b : Memref sig .tc .vmem S32x2048 .f32) (hb : b.IsWhole)
  (t : Vec Ideal S256x2048 .f32) (u : Vec Ideal S32x2048 .f32) (q : Fin 256) (e : Fin 2048)

theorem pay1_at : (k0_pay1 (ldTop a ha t) (ldEnd b hb u) : FVec Ideal S1x256x2048 .bf16) (ix3 0 q e) = Ideal.ofBits .f32 0x3F000000#32 * slabV t u q e := by
  unfold k0_pay1 slabV
  pointwise
  simp only [ldTop_at, ldEnd_at]

theorem pay2_at : (k0_pay2 (ldTop a ha t) (ldEnd b hb u) : FVec Ideal S1x256x2048 .bf16) (ix3 0 q e) = slabV t u q e := by
  unfold k0_pay2 slabV
  pointwise
  simp only [ldTop_at, ldEnd_at]

theorem pay3_at : (k0_pay3 (ldTop a ha t) (ldEnd b hb u) : FVec Ideal S1x256x2048 .bf16) (ix3 0 q e) = slabV t u q e := by
  unfold k0_pay3 slabV
  pointwise
  simp only [ldTop_at, ldEnd_at]

theorem pay5_at : (k0_pay5 (k0_pay4 (ldTop a ha t)) (ldEnd b hb u) : FVec Ideal S1x256x2048 .bf16) (ix3 0 q e) = slabV t u q e := by
  unfold k0_pay5 k0_pay4 slabV
  pointwise
  simp only [ldTop_at, ldEnd_at]

end Slabs

end Cert.Short
-- ==== Proof.ShortPt.lean ====
module

public import proofs.«01_k».proof.Proof.ShortVal

@[expose] public section

set_option maxRecDepth 16384

noncomputable section

/-! What a point of the short convolution's kernel leaves: its output, its state and its slabs at an index. -/

namespace Cert.Short

open Idealize.ShloMosaic Idealize.ShloMosaic.TcCoe Idealize.ShloMosaic.Tactic
open Cert.Kernel2Ideal Cert.Kernel2Ideal.Gen

section Point

variable (arg2 : Memref sig .tc .vmem S2048x2048 .bf16) (harg2 : arg2.IsWhole) (arg3 : Memref sig .tc .vmem S256x2048 .f32) (harg3 : arg3.IsWhole) (arg4 : Memref sig .tc .vmem S32x2048 .f32) (harg4 : arg4.IsWhole)
  (arg5 : Memref sig .tc .vmem S256x2048 .f32) (harg5 : arg5.IsWhole) (arg6 : Memref sig .tc .vmem S32x2048 .f32) (harg6 : arg6.IsWhole) (arg7 : Memref sig .tc .vmem S256x2048 .f32) (harg7 : arg7.IsWhole)
  (arg8 : Memref sig .tc .vmem S32x2048 .f32) (harg8 : arg8.IsWhole) (arg9 : Memref sig .tc .vmem S256x2048 .f32) (harg9 : arg9.IsWhole) (arg10 : Memref sig .tc .vmem S32x2048 .f32) (harg10 : arg10.IsWhole)
  (arg11 : Memref sig .tc .vmem S3x256 .f32) (harg11 : arg11.IsWhole) (arg12 : Memref sig .tc .vmem S1x2x256 .f32) (harg12 : arg12.IsWhole) (arg13 : Memref sig .tc .vmem S2048x256 .bf16) (harg13 : arg13.IsWhole)
  (arg14 : Memref sig .tc .vmem S1x2x256 .f32) (harg14 : arg14.IsWhole) (arg15 : Memref sig .tc .vmem S4x256x2048 .bf16) (harg15 : arg15.IsWhole) (arg16 : Memref sig .tc .vmem S1x2056x256 .f32) (harg16 : arg16.IsWhole)
  (x0 : Vec Ideal S2048x2048 .bf16) (x1 : Vec Ideal S256x2048 .f32) (x2 : Vec Ideal S32x2048 .f32) (x3 : Vec Ideal S256x2048 .f32) (x4 : Vec Ideal S32x2048 .f32) (x5 : Vec Ideal S256x2048 .f32) (x6 : Vec Ideal S32x2048 .f32) (x7 : Vec Ideal S256x2048 .f32) (x8 : Vec Ideal S32x2048 .f32)
  (x9 : Vec Ideal S3x256 .f32) (x10 : Vec Ideal S1x2x256 .f32)
  (c : Dev nD) (i : grid0.Coords) (hc0 : cond0_0 i) (hn0 : ¬cond0_0 i) (xs0 : Vec Ideal S4x256x2048 .bf16)

/-- The slabs of a tile, from the weights' blocks. -/
def tileS : Fin 4 → FVec Ideal S1x256x2048 .bf16
  | 0 => fun i => Ideal.ofBits .f32 0x3F000000#32 * slabV x1 x2 (i 1) (i 2)
  | 1 => fun i => slabV x3 x4 (i 1) (i 2)
  | 2 => fun i => slabV x5 x6 (i 1) (i 2)
  | 3 => fun i => slabV x7 x8 (i 1) (i 2)

theorem newS_eq : newS arg3 harg3 arg4 harg4 arg5 harg5 arg6 harg6 arg7 harg7 arg8 harg8 arg9 harg9 arg10 harg10 x1 x2 x3 x4 x5 x6 x7 x8 = tileS x1 x2 x3 x4 x5 x6 x7 x8 := by
  funext k i
  obtain ⟨z, q, e, rfl⟩ : ∃ z q e, i = ix3 z q e := ⟨_, _, _, eq_ix3 i⟩
  obtain rfl : z = 0 := Fin.eq_zero z
  match k with
  | 0 => exact pay1_at arg3 harg3 arg4 harg4 x1 x2 q e
  | 1 => exact pay2_at arg5 harg5 arg6 harg6 x3 x4 q e
  | 2 => exact pay3_at arg7 harg7 arg8 harg8 x5 x6 q e
  | 3 => exact pay5_at arg9 harg9 arg10 harg10 x7 x8 q e

theorem sout_A (k : Fin 4) (q : Fin 256) (e : Fin 2048) :
    sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 (ix3 k q e) = tileS x1 x2 x3 x4 x5 x6 x7 x8 k (ix3 0 q e) := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10), slabs_A, slabs_at, newS_eq]

theorem out11_A (r : Fin 2048) (q : Fin 256) :
    out0_A_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 (ix2 r q) = yv x0 (tileS x1 x2 x3 x4 x5 x6 x7 x8) x10 x9 r q := by
  unfold out0_A_11
  rw [View.read_writes_eq_canon _ _ _ (cover0_A_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10), y_A, outY,
    View.canon_cons_unit_lit (h := by intro a; fin_cases a <;> rfl), yAll_at, ldH_eq, ldSt_eq, rdS_eq, newS_eq]

theorem out12_A (n : Fin 2) (q : Fin 256) :
    out0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 (ix3 0 n q) = seq x0 (tileS x1 x2 x3 x4 x5 x6 x7 x8) x10 (2048 + n.val) q := by
  unfold out0_A_12
  rw [View.read_writes_eq_canon _ _ _ (cover0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10), n_A, outN,
    View.canon_cons_unit_lit (h := by intro a; fin_cases a <;> rfl), rdLast_at, ldH_eq, ldSt_eq, rdS_eq, newS_eq]

theorem out11_B (r : Fin 2048) (q : Fin 256) :
    out0_B_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 hn0 x0 x1 x2 x3 x4 x5 x6 x7 x8 x9 x10 xs0 (ix2 r q) = yv x0 (slabOf xs0) x10 x9 r q := by
  unfold out0_B_11
  rw [View.read_writes_eq_canon _ _ _ (cover0_B_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 hn0 x0 x1 x2 x3 x4 x5 x6 x7 x8 x9 x10 xs0), y_B, outY,
    View.canon_cons_unit_lit (h := by intro a; fin_cases a <;> rfl), yAll_at, ldH_eq, ldSt_eq, ldS_eq]

theorem out12_B (n : Fin 2) (q : Fin 256) :
    out0_B_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 hn0 x0 x1 x2 x3 x4 x5 x6 x7 x8 x9 x10 xs0 (ix3 0 n q) = seq x0 (slabOf xs0) x10 (2048 + n.val) q := by
  unfold out0_B_12
  rw [View.read_writes_eq_canon _ _ _ (cover0_B_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 hn0 x0 x1 x2 x3 x4 x5 x6 x7 x8 x9 x10 xs0), n_B, outN,
    View.canon_cons_unit_lit (h := by intro a; fin_cases a <;> rfl), rdLast_at, ldH_eq, ldSt_eq, ldS_eq]

end Point

end Cert.Short
-- ==== Proof.ShortKernel.lean ====
module

public import proofs.«01_k».proof.Proof.ShortPt
public import proofs.«01_k».proof.Proof.Gen.Kernel2Ideal.Value

@[expose] public section

set_option maxRecDepth 16384

noncomputable section

/-! The arrays of the short convolution's kernel, at an index, and its results. -/

namespace Cert.Short

open Idealize.ShloMosaic Idealize.ShloMosaic.TcCoe Idealize.ShloMosaic.Tactic
open Cert.Kernel2Ideal Cert.Kernel2Ideal.Gen

section Kernel

variable (m : (ℓ : Loc nD τ sig) → Buf (Elt Ideal) ℓ) (c : Dev nD)

theorem lt_N (t : Fin cfg0.N) : t.val < 32 := lt_of_lt_of_eq t.isLt (show cfg0.N = 32 from N_0)

theorem index_0 : ∀ t : Fin cfg0.N, win0_0.index t 0 = t.val % 4 ∧ win0_0.index t 1 = 0 := by decide +kernel
theorem index_1 : ∀ t : Fin cfg0.N, win0_1.index t 0 = 20 + t.val / 4 ∧ win0_1.index t 1 = 0 := by decide +kernel
theorem index_2 : ∀ t : Fin cfg0.N, win0_2.index t 0 = 168 + 8 * (t.val / 4) ∧ win0_2.index t 1 = 0 := by decide +kernel
theorem index_3 : ∀ t : Fin cfg0.N, win0_3.index t 0 = 28 + t.val / 4 ∧ win0_3.index t 1 = 0 := by decide +kernel
theorem index_4 : ∀ t : Fin cfg0.N, win0_4.index t 0 = 232 + 8 * (t.val / 4) ∧ win0_4.index t 1 = 0 := by decide +kernel
theorem index_5 : ∀ t : Fin cfg0.N, win0_5.index t 0 = 36 + t.val / 4 ∧ win0_5.index t 1 = 0 := by decide +kernel
theorem index_6 : ∀ t : Fin cfg0.N, win0_6.index t 0 = 296 + 8 * (t.val / 4) ∧ win0_6.index t 1 = 0 := by decide +kernel
theorem index_7 : ∀ t : Fin cfg0.N, win0_7.index t 0 = 44 + t.val / 4 ∧ win0_7.index t 1 = 0 := by decide +kernel
theorem index_8 : ∀ t : Fin cfg0.N, win0_8.index t 0 = 360 + 8 * (t.val / 4) ∧ win0_8.index t 1 = 0 := by decide +kernel
theorem index_9 : ∀ t : Fin cfg0.N, win0_9.index t 0 = 0 ∧ win0_9.index t 1 = t.val / 4 := by decide +kernel
theorem index_10 : ∀ t : Fin cfg0.N, win0_10.index t 0 = t.val % 4 ∧ win0_10.index t 1 = 0 ∧ win0_10.index t 2 = t.val / 4 := by decide +kernel

/-- The transposed weights, the convolution's rows and the state that the host makes. -/
theorem weights_eq : (V m c main_v1 : Vec Ideal S13344x2048 .f32) = transpose S13344x2048 [1, 0]
    (shapeCast S2048x13344 (m ((c : Thread nD τ).loc main_arg1) : Vec Ideal S1x2048x13344 .f32) Facts₀.shapeCasts_S1x2048x13344_S2048x13344)
      Facts₀.transposes_S2048x13344_S13344x2048_1_0 := by
  show StableHlo.after hostOps0 (fun b => m (c, b)) _ = _
  simp only [hostOps0]
  after_results
  all_goals rfl

theorem rows_eq : (V m c main_v2 : Vec Ideal S3x2048 .f32) = shapeCast S3x2048 (m ((c : Thread nD τ).loc main_arg2) : Vec Ideal S1x3x2048 .f32) Facts₀.shapeCasts_S1x3x2048_S3x2048 := by
  show StableHlo.after hostOps0 (fun b => m (c, b)) _ = _
  simp only [hostOps0]
  after_results
  all_goals rfl

theorem zeros_eq : (V m c main_v3 : Vec Ideal S4x2x2048 .f32) = broadcastInDim S4x2x2048 ![] Facts₀.bcast_S_S4x2x2048 (constant (F := Ideal) S_ .f32 0x00000000#32) := by
  show StableHlo.after hostOps0 (fun b => m (c, b)) _ = _
  simp only [hostOps0]
  after_results
  all_goals rfl

theorem turned_at (a : Vec Ideal S1x2048x13344 .f32) (r : Fin 13344) (e : Fin 2048) :
    @Eq EReal ((transpose S13344x2048 [1, 0] (shapeCast S2048x13344 a Facts₀.shapeCasts_S1x2048x13344_S2048x13344)
      Facts₀.transposes_S2048x13344_S13344x2048_1_0 : Vec Ideal S13344x2048 .f32) (ix2 r e)) (a (ix3 0 e r)) := by
  pointwise

theorem dropped_at (a : Vec Ideal S1x3x2048 .f32) (k : Fin 3) (j : Fin 2048) :
    @Eq EReal ((shapeCast S3x2048 a Facts₀.shapeCasts_S1x3x2048_S3x2048 : Vec Ideal S3x2048 .f32) (ix2 k j)) (a (ix3 0 k j)) := by
  pointwise

theorem weights_at (r : Fin 13344) (e : Fin 2048) :
    @Eq EReal ((V m c main_v1 : Vec Ideal S13344x2048 .f32) (ix2 r e)) ((m ((c : Thread nD τ).loc main_arg1) : Vec Ideal S1x2048x13344 .f32) (ix3 0 e r)) := by
  exact (congrFun (weights_eq m c) (ix2 r e)).trans (turned_at _ r e)

theorem rows_at (k : Fin 3) (j : Fin 2048) :
    @Eq EReal ((V m c main_v2 : Vec Ideal S3x2048 .f32) (ix2 k j)) ((m ((c : Thread nD τ).loc main_arg2) : Vec Ideal S1x3x2048 .f32) (ix3 0 k j)) := by
  exact (congrFun (rows_eq m c) (ix2 k j)).trans (dropped_at _ k j)

theorem zeros_at (b : Fin 4) (k : Fin 2) (j : Fin 2048) :
    @Eq EReal ((V m c main_v3 : Vec Ideal S4x2x2048 .f32) (ix3 b k j)) 0 := by
  exact (congrFun (zeros_eq m c) (ix3 b k j)).trans (Ideal.ofBits_zero .f32)

theorem blk_0 (t : Fin cfg0.N) (r e : Fin 2048) :
    (iblk m c 0 t : Vec Ideal S2048x2048 .bf16) (ix2 r e) = (m ((c : Thread nD τ).loc main_arg0) : Vec Ideal S8192x2048 .bf16) (ix2 ⟨(t.val % 4) * 2048 + r.val, by omega⟩ e) := by
  rw [← V_main_arg0 m c]
  unfold iblk
  rw [View.read_apply]
  show V m c main_arg0 _ = V m c main_arg0 _
  congr 1
  funext a
  apply Fin.ext
  match a with
  | ⟨0, _⟩ => show win0_0.index t 0 * 2048 + 1 * r.val = t.val % 4 * 2048 + r.val; rw [(index_0 t).1]; omega
  | ⟨1, _⟩ => show win0_0.index t 1 * 2048 + 1 * e.val = e.val; rw [(index_0 t).2]; omega

theorem blk_9 (t : Fin cfg0.N) (k : Fin 3) (q : Fin 256) :
    @Eq EReal ((iblk m c 9 t : Vec Ideal S3x256 .f32) (ix2 k q))
      ((m ((c : Thread nD τ).loc main_arg2) : Vec Ideal S1x3x2048 .f32) (ix3 0 k ⟨256 * (t.val / 4) + q.val, by have := lt_N t; omega⟩)) := by
  refine Eq.trans ?_ (rows_at m c k ⟨256 * (t.val / 4) + q.val, by have := lt_N t; omega⟩)
  unfold iblk
  rw [View.read_apply]
  show V m c main_v2 _ = V m c main_v2 _
  congr 1
  funext a
  apply Fin.ext
  match a with
  | ⟨0, _⟩ => show win0_9.index t 0 * 3 + 1 * k.val = k.val; rw [(index_9 t).1]; omega
  | ⟨1, _⟩ => show win0_9.index t 1 * 256 + 1 * q.val = 256 * (t.val / 4) + q.val; rw [(index_9 t).2]; omega

theorem blk_10 (t : Fin cfg0.N) (k : Fin 2) (q : Fin 256) :
    @Eq EReal ((iblk m c 10 t : Vec Ideal S1x2x256 .f32) (ix3 0 k q)) 0 := by
  refine Eq.trans ?_ (zeros_at m c ⟨t.val % 4, by omega⟩ k ⟨256 * (t.val / 4) + q.val, by have := lt_N t; omega⟩)
  unfold iblk
  rw [View.read_apply]
  show V m c main_v3 _ = V m c main_v3 _
  congr 1
  funext a
  apply Fin.ext
  match a with
  | ⟨0, _⟩ => show win0_10.index t 0 * 1 + 1 * 0 = t.val % 4; rw [(index_10 t).1]; omega
  | ⟨1, _⟩ => show win0_10.index t 1 * 2 + 1 * k.val = k.val; rw [(index_10 t).2.1]; omega
  | ⟨2, _⟩ => show win0_10.index t 2 * 256 + 1 * q.val = 256 * (t.val / 4) + q.val; rw [(index_10 t).2.2]; omega

/-- A row of the weights' part that the short convolution uses. -/
def wt (r : ℕ) (e : Fin 2048) : EReal :=
  if h : r < 13344 then (m ((c : Thread nD τ).loc main_arg1) : Vec Ideal S1x2048x13344 .f32) (ix3 0 e ⟨r, h⟩) else 0

theorem wt_at (r : Fin 13344) (e : Fin 2048) : @Eq EReal ((V m c main_v1 : Vec Ideal S13344x2048 .f32) (ix2 r e)) (wt m c r.val e) := by
  refine (weights_at m c r e).trans ?_
  unfold wt
  rw [dif_pos r.isLt]

theorem blk_1 (t : Fin cfg0.N) (r : Fin 256) (e : Fin 2048) :
    @Eq EReal ((X0_1 m c t : Vec Ideal S256x2048 .f32) (ix2 r e)) (wt m c (5120 + 256 * (t.val / 4) + r.val) e) := by
  have ht := lt_N t
  refine Eq.trans ?_ (wt_at m c ⟨5120 + 256 * (t.val / 4) + r.val, by omega⟩ e)
  unfold X0_1 Pipeline.Window.fill
  rw [dif_pos (moved0_1 t (ix2 r e))]
  unfold iblk
  rw [View.read_apply]
  show V m c main_v1 _ = V m c main_v1 _
  congr 1
  funext a
  apply Fin.ext
  match a with
  | ⟨0, _⟩ => show win0_1.index t 0 * 256 + 1 * r.val = 5120 + 256 * (t.val / 4) + r.val; rw [(index_1 t).1]; omega
  | ⟨1, _⟩ => show win0_1.index t 1 * 2048 + 1 * e.val = e.val; rw [(index_1 t).2]; omega

theorem blk_2 (t : Fin cfg0.N) (r : Fin 32) (e : Fin 2048) :
    @Eq EReal ((iblk m c 2 t : Vec Ideal S32x2048 .f32) (ix2 r e)) (wt m c (5376 + 256 * (t.val / 4) + r.val) e) := by
  have ht := lt_N t
  refine Eq.trans ?_ (wt_at m c ⟨5376 + 256 * (t.val / 4) + r.val, by omega⟩ e)
  unfold iblk
  rw [View.read_apply]
  show V m c main_v1 _ = V m c main_v1 _
  congr 1
  funext a
  apply Fin.ext
  match a with
  | ⟨0, _⟩ => show win0_2.index t 0 * 32 + 1 * r.val = 5376 + 256 * (t.val / 4) + r.val; rw [(index_2 t).1]; omega
  | ⟨1, _⟩ => show win0_2.index t 1 * 2048 + 1 * e.val = e.val; rw [(index_2 t).2]; omega

theorem blk_3 (t : Fin cfg0.N) (r : Fin 256) (e : Fin 2048) :
    @Eq EReal ((X0_3 m c t : Vec Ideal S256x2048 .f32) (ix2 r e)) (wt m c (7168 + 256 * (t.val / 4) + r.val) e) := by
  have ht := lt_N t
  refine Eq.trans ?_ (wt_at m c ⟨7168 + 256 * (t.val / 4) + r.val, by omega⟩ e)
  unfold X0_3 Pipeline.Window.fill
  rw [dif_pos (moved0_3 t (ix2 r e))]
  unfold iblk
  rw [View.read_apply]
  show V m c main_v1 _ = V m c main_v1 _
  congr 1
  funext a
  apply Fin.ext
  match a with
  | ⟨0, _⟩ => show win0_3.index t 0 * 256 + 1 * r.val = 7168 + 256 * (t.val / 4) + r.val; rw [(index_3 t).1]; omega
  | ⟨1, _⟩ => show win0_3.index t 1 * 2048 + 1 * e.val = e.val; rw [(index_3 t).2]; omega

theorem blk_4 (t : Fin cfg0.N) (r : Fin 32) (e : Fin 2048) :
    @Eq EReal ((iblk m c 4 t : Vec Ideal S32x2048 .f32) (ix2 r e)) (wt m c (7424 + 256 * (t.val / 4) + r.val) e) := by
  have ht := lt_N t
  refine Eq.trans ?_ (wt_at m c ⟨7424 + 256 * (t.val / 4) + r.val, by omega⟩ e)
  unfold iblk
  rw [View.read_apply]
  show V m c main_v1 _ = V m c main_v1 _
  congr 1
  funext a
  apply Fin.ext
  match a with
  | ⟨0, _⟩ => show win0_4.index t 0 * 32 + 1 * r.val = 7424 + 256 * (t.val / 4) + r.val; rw [(index_4 t).1]; omega
  | ⟨1, _⟩ => show win0_4.index t 1 * 2048 + 1 * e.val = e.val; rw [(index_4 t).2]; omega

theorem blk_5 (t : Fin cfg0.N) (r : Fin 256) (e : Fin 2048) :
    @Eq EReal ((X0_5 m c t : Vec Ideal S256x2048 .f32) (ix2 r e)) (wt m c (9216 + 256 * (t.val / 4) + r.val) e) := by
  have ht := lt_N t
  refine Eq.trans ?_ (wt_at m c ⟨9216 + 256 * (t.val / 4) + r.val, by omega⟩ e)
  unfold X0_5 Pipeline.Window.fill
  rw [dif_pos (moved0_5 t (ix2 r e))]
  unfold iblk
  rw [View.read_apply]
  show V m c main_v1 _ = V m c main_v1 _
  congr 1
  funext a
  apply Fin.ext
  match a with
  | ⟨0, _⟩ => show win0_5.index t 0 * 256 + 1 * r.val = 9216 + 256 * (t.val / 4) + r.val; rw [(index_5 t).1]; omega
  | ⟨1, _⟩ => show win0_5.index t 1 * 2048 + 1 * e.val = e.val; rw [(index_5 t).2]; omega

theorem blk_6 (t : Fin cfg0.N) (r : Fin 32) (e : Fin 2048) :
    @Eq EReal ((iblk m c 6 t : Vec Ideal S32x2048 .f32) (ix2 r e)) (wt m c (9472 + 256 * (t.val / 4) + r.val) e) := by
  have ht := lt_N t
  refine Eq.trans ?_ (wt_at m c ⟨9472 + 256 * (t.val / 4) + r.val, by omega⟩ e)
  unfold iblk
  rw [View.read_apply]
  show V m c main_v1 _ = V m c main_v1 _
  congr 1
  funext a
  apply Fin.ext
  match a with
  | ⟨0, _⟩ => show win0_6.index t 0 * 32 + 1 * r.val = 9472 + 256 * (t.val / 4) + r.val; rw [(index_6 t).1]; omega
  | ⟨1, _⟩ => show win0_6.index t 1 * 2048 + 1 * e.val = e.val; rw [(index_6 t).2]; omega

theorem blk_7 (t : Fin cfg0.N) (r : Fin 256) (e : Fin 2048) :
    @Eq EReal ((X0_7 m c t : Vec Ideal S256x2048 .f32) (ix2 r e)) (wt m c (11264 + 256 * (t.val / 4) + r.val) e) := by
  have ht := lt_N t
  refine Eq.trans ?_ (wt_at m c ⟨11264 + 256 * (t.val / 4) + r.val, by omega⟩ e)
  unfold X0_7 Pipeline.Window.fill
  rw [dif_pos (moved0_7 t (ix2 r e))]
  unfold iblk
  rw [View.read_apply]
  show V m c main_v1 _ = V m c main_v1 _
  congr 1
  funext a
  apply Fin.ext
  match a with
  | ⟨0, _⟩ => show win0_7.index t 0 * 256 + 1 * r.val = 11264 + 256 * (t.val / 4) + r.val; rw [(index_7 t).1]; omega
  | ⟨1, _⟩ => show win0_7.index t 1 * 2048 + 1 * e.val = e.val; rw [(index_7 t).2]; omega

theorem blk_8 (t : Fin cfg0.N) (r : Fin 32) (e : Fin 2048) :
    @Eq EReal ((iblk m c 8 t : Vec Ideal S32x2048 .f32) (ix2 r e)) (wt m c (11520 + 256 * (t.val / 4) + r.val) e) := by
  have ht := lt_N t
  refine Eq.trans ?_ (wt_at m c ⟨11520 + 256 * (t.val / 4) + r.val, by omega⟩ e)
  unfold iblk
  rw [View.read_apply]
  show V m c main_v1 _ = V m c main_v1 _
  congr 1
  funext a
  apply Fin.ext
  match a with
  | ⟨0, _⟩ => show win0_8.index t 0 * 32 + 1 * r.val = 11520 + 256 * (t.val / 4) + r.val; rw [(index_8 t).1]; omega
  | ⟨1, _⟩ => show win0_8.index t 1 * 2048 + 1 * e.val = e.val; rw [(index_8 t).2]; omega

/-- A slab's row from its two blocks' rows. -/
theorem slabV_of (x : Vec Ideal S256x2048 .f32) (y : Vec Ideal S32x2048 .f32) (n : ℕ) (q : Fin 256) (e : Fin 2048)
    (hx : ∀ r : Fin 256, @Eq EReal (x (ix2 r e)) (wt m c (n + r.val) e)) (hy : ∀ r : Fin 32, @Eq EReal (y (ix2 r e)) (wt m c (n + 256 + r.val) e)) :
    slabV x y q e = wt m c (n + 32 + q.val) e := by
  unfold slabV
  split
  · exact (hx _).trans (congrArg (wt m c · e) (by show n + (32 + q.val) = _; omega))
  · exact (hy _).trans (congrArg (wt m c · e) (by show n + 256 + (q.val - 224) = _; omega))

/-- The slabs of a tile, over the weights. -/
def slabW (j : ℕ) : Fin 4 → FVec Ideal S1x256x2048 .bf16
  | 0 => fun i => Ideal.ofBits .f32 0x3F000000#32 * wt m c (5152 + (256 * j + (i 1).val)) (i 2)
  | 1 => fun i => wt m c (7200 + (256 * j + (i 1).val)) (i 2)
  | 2 => fun i => wt m c (9248 + (256 * j + (i 1).val)) (i 2)
  | 3 => fun i => wt m c (11296 + (256 * j + (i 1).val)) (i 2)

theorem tile_eq (t : Fin cfg0.N) :
    tileS (X0_1 m c t) (iblk m c 2 t) (X0_3 m c t) (iblk m c 4 t) (X0_5 m c t) (iblk m c 6 t) (X0_7 m c t) (iblk m c 8 t) = slabW m c (t.val / 4) := by
  funext k i
  obtain ⟨z, q, e, rfl⟩ : ∃ z q e, i = ix3 z q e := ⟨_, _, _, eq_ix3 i⟩
  match k with
  | 0 => exact congrArg (Ideal.ofBits .f32 0x3F000000#32 * ·) ((slabV_of m c _ _ _ q e (fun r => blk_1 m c t r e) (fun r => (blk_2 m c t r e).trans (congrArg (wt m c · e) (by omega)))).trans
            (congrArg (wt m c · e) (by show _ = 5152 + (256 * (t.val / 4) + q.val); omega)))
  | 1 => exact (slabV_of m c _ _ _ q e (fun r => blk_3 m c t r e) (fun r => (blk_4 m c t r e).trans (congrArg (wt m c · e) (by omega)))).trans
            (congrArg (wt m c · e) (by show _ = 7200 + (256 * (t.val / 4) + q.val); omega))
  | 2 => exact (slabV_of m c _ _ _ q e (fun r => blk_5 m c t r e) (fun r => (blk_6 m c t r e).trans (congrArg (wt m c · e) (by omega)))).trans
            (congrArg (wt m c · e) (by show _ = 9248 + (256 * (t.val / 4) + q.val); omega))
  | 3 => exact (slabV_of m c _ _ _ q e (fun r => blk_7 m c t r e) (fun r => (blk_8 m c t r e).trans (congrArg (wt m c · e) (by omega)))).trans
            (congrArg (wt m c · e) (by show _ = 11296 + (256 * (t.val / 4) + q.val); omega))

/-- The slabs that a point leaves: its tile's. -/
theorem slabs_left : ∀ (n : ℕ) (hn : n < cfg0.N), slabOf (outsAt0 m c n hn).2.2 = slabW m c (n / 4) := by
  intro n
  induction n using Nat.strong_induction_on with
  | _ n ih =>
    intro hn
    by_cases h0 : n % 4 = 0
    · rw [outsAt0_A m c ⟨n, hn⟩ h0]
      dsimp only
      rw [← tile_eq m c ⟨n, hn⟩]
      funext k i
      obtain ⟨z, q, e, rfl⟩ : ∃ z q e, i = ix3 z q e := ⟨_, _, _, eq_ix3 i⟩
      obtain rfl : z = 0 := Fin.eq_zero z
      exact sout_A _ _ _ _ _ _ _ _ _ _ _ _ _ _ _ _ _ _ _ _ _ _ _ _ _ _ _ _ _ _ _ _ _ _ _ _ _ _ _ _ _ _ _ _ k q e
    · rw [outsAt0_B m c ⟨n, hn⟩ h0]
      dsimp only
      unfold sout0_B_0
      refine (ih (n - 1) (by omega) _).trans ?_
      rw [show (n - 1) / 4 = n / 4 by omega]

theorem y_at (n : ℕ) (hn : n < cfg0.N) (r : Fin 2048) (q : Fin 256) :
    (outsAt0 m c n hn).1 (ix2 r q) = yv (iblk m c 0 ⟨n, hn⟩) (slabW m c (n / 4)) (iblk m c 10 ⟨n, hn⟩) (iblk m c 9 ⟨n, hn⟩) r q := by
  by_cases h0 : n % 4 = 0
  · rw [outsAt0_A m c ⟨n, hn⟩ h0, ← tile_eq m c ⟨n, hn⟩]
    dsimp only
    exact out11_A _ _ _ _ _ _ _ _ _ _ _ _ _ _ _ _ _ _ _ _ _ _ _ _ _ _ _ _ _ _ _ _ _ _ _ _ _ _ _ _ _ _ _ _ r q
  · have hs := slabs_left m c (n - 1) (Nat.lt_of_le_of_lt (Nat.sub_le _ _) hn)
    rw [show (n - 1) / 4 = n / 4 by omega] at hs
    rw [outsAt0_B m c ⟨n, hn⟩ h0, ← hs]
    dsimp only
    exact out11_B _ _ _ _ _ _ _ _ _ _ _ _ _ _ _ _ _ _ _ _ _ _ _ _ _ _ _ _ _ _ _ _ _ _ _ _ _ _ _ _ _ _ _ _ _ r q

theorem n_at (n : ℕ) (hn : n < cfg0.N) (k : Fin 2) (q : Fin 256) :
    (outsAt0 m c n hn).2.1 (ix3 0 k q) = seq (iblk m c 0 ⟨n, hn⟩) (slabW m c (n / 4)) (iblk m c 10 ⟨n, hn⟩) (2048 + k.val) q := by
  by_cases h0 : n % 4 = 0
  · rw [outsAt0_A m c ⟨n, hn⟩ h0, ← tile_eq m c ⟨n, hn⟩]
    dsimp only
    exact out12_A _ _ _ _ _ _ _ _ _ _ _ _ _ _ _ _ _ _ _ _ _ _ _ _ _ _ _ _ _ _ _ _ _ _ _ _ _ _ _ _ _ _ _ _ k q
  · have hs := slabs_left m c (n - 1) (Nat.lt_of_le_of_lt (Nat.sub_le _ _) hn)
    rw [show (n - 1) / 4 = n / 4 by omega] at hs
    rw [outsAt0_B m c ⟨n, hn⟩ h0, ← hs]
    dsimp only
    exact out12_B _ _ _ _ _ _ _ _ _ _ _ _ _ _ _ _ _ _ _ _ _ _ _ _ _ _ _ _ _ _ _ _ _ _ _ _ _ _ _ _ _ _ _ _ _ k q

end Kernel

end Cert.Short
-- ==== Proof.ShortRef.lean ====
module

public import proofs.«01_k».proof.Proof.Gen.Reference2Ideal.Run
public import proofs.«01_k».proof.Defs
public import Idealize.ShloMosaic.Lib.Pointwise
public import Idealize.ShloMosaic.Lib.Pipeline.ValueKit

/-!
# The reference's short-convolution call, at one index

A column of the prompt's projection is a sum over the 2048 features. The gated product of two columns, with the
two zero rows before each prompt, is what the convolution reads, and its last two rows are what is handed on.
-/

@[expose] public section

set_option maxRecDepth 16384

open Idealize.ShloMosaic Idealize.ShloMosaic.TcCoe Idealize.ShloMosaic.Tactic Idealize.SL.Sem

namespace Cert.Short

noncomputable section

open Cert.Reference2Ideal Cert.Reference2Ideal.Gen

/-- Column `r` of the projection of token `t`. -/
def pj (a0 : FVec Ideal S8192x2048 .bf16) (a1 : FVec Ideal S1x2048x13344 .f32) (t : Fin 8192) (r : Fin 13344) : EReal :=
  ∑ e : Fin 2048, (a0 (ix2 t e) * a1 (ix3 0 e r) : EReal)

/-- Row `n` of the sequence the convolution reads in prompt `b`: two rows of zeros, then the products of the columns. -/
def sq (a0 : FVec Ideal S8192x2048 .bf16) (a1 : FVec Ideal S1x2048x13344 .f32) (b : Fin 4) (n : ℕ) (j : Fin 2048) : EReal :=
  if n < 2 then 0 else if h : n - 2 < 2048 then
    pj a0 a1 ⟨b.val * 2048 + (n - 2), by omega⟩ ⟨9248 + j.val, by omega⟩ * pj a0 a1 ⟨b.val * 2048 + (n - 2), by omega⟩ ⟨11296 + j.val, by omega⟩ else 0

/-- The projection, as the reference writes it. -/
def projR (a0 : FVec Ideal S8192x2048 .bf16) (a1 : FVec Ideal S1x2048x13344 .f32) : FVec Ideal S4x2048x13344 .f32 :=
  Host.dotGeneral dot_S4x2048x2048_S2048x13344_S4x2048x13344_2_0_01_1_n_n none (shapeCast _ (extf .f32 a0 bitsLt_bf16_f32) shapeCasts_S8192x2048_S4x2048x2048) (shapeCast _ a1 shapeCasts_S1x2048x13344_S2048x13344)

/-- The sequence the convolution reads. -/
def catR (p : FVec Ideal S4x2048x13344 .f32) : FVec Ideal S4x2050x2048 .f32 :=
  concatenate S4x2050x2048 1 [⟨S4x2x2048, (broadcastInDim S4x2x2048 ![] bcast_S_S4x2x2048 (constant S_ .f32 0x00000000#32))⟩, ⟨S4x2048x2048, (mulf (extractStridedSlice S4x2048x2048 ![0, 0, 4096] (extractStridedSlice S4x2048x8192 ![0, 0, 5152] p slices_S4x2048x13344_S4x2048x8192_0_0_5152) slices_S4x2048x8192_S4x2048x2048_0_0_4096) (extractStridedSlice S4x2048x2048 ![0, 0, 6144] (extractStridedSlice S4x2048x8192 ![0, 0, 5152] p slices_S4x2048x13344_S4x2048x8192_0_0_5152) slices_S4x2048x8192_S4x2048x2048_0_0_6144))⟩] concatenates_S4x2x2048_S4x2048x2048_S4x2050x2048_d1

/-- The reference's first result of the projection, the sequence and the weights. -/
def yR (p : FVec Ideal S4x2048x13344 .f32) (u : FVec Ideal S4x2050x2048 .f32) (a2 : FVec Ideal S1x3x2048 .f32) : FVec Ideal S8192x2048 .bf16 :=
  truncf .bf16 (shapeCast _ (mulf (mulf (extractStridedSlice S4x2048x2048 ![0, 0, 2048] (extractStridedSlice S4x2048x8192 ![0, 0, 5152] p slices_S4x2048x13344_S4x2048x8192_0_0_5152) slices_S4x2048x8192_S4x2048x2048_0_0_2048) (addf (addf (mulf (extractStridedSlice S4x2048x2048 ![0, 0, 0] u slices_S4x2050x2048_S4x2048x2048_0_0_0) (broadcastInDim S4x2048x2048 ![0, 1, 2] bcast_S1x1x2048_S4x2048x2048_0_1_2 (broadcastInDim S1x1x2048 ![2] bcast_S2048_S1x1x2048_2 (shapeCast _ (extractStridedSlice S1x2048 ![0, 0] (shapeCast _ a2 shapeCasts_S1x3x2048_S3x2048) slices_S3x2048_S1x2048_0_0) shapeCasts_S1x2048_S2048)))) (mulf (extractStridedSlice S4x2048x2048 ![0, 1, 0] u slices_S4x2050x2048_S4x2048x2048_0_1_0) (broadcastInDim S4x2048x2048 ![0, 1, 2] bcast_S1x1x2048_S4x2048x2048_0_1_2 (broadcastInDim S1x1x2048 ![2] bcast_S2048_S1x1x2048_2 (shapeCast _ (extractStridedSlice S1x2048 ![1, 0] (shapeCast _ a2 shapeCasts_S1x3x2048_S3x2048) slices_S3x2048_S1x2048_1_0) shapeCasts_S1x2048_S2048))))) (mulf (extractStridedSlice S4x2048x2048 ![0, 2, 0] u slices_S4x2050x2048_S4x2048x2048_0_2_0) (broadcastInDim S4x2048x2048 ![0, 1, 2] bcast_S1x1x2048_S4x2048x2048_0_1_2 (broadcastInDim S1x1x2048 ![2] bcast_S2048_S1x1x2048_2 (shapeCast _ (extractStridedSlice S1x2048 ![2, 0] (shapeCast _ a2 shapeCasts_S1x3x2048_S3x2048) slices_S3x2048_S1x2048_2_0) shapeCasts_S1x2048_S2048)))))) (mulf (extractStridedSlice S4x2048x2048 ![0, 0, 0] (extractStridedSlice S4x2048x8192 ![0, 0, 5152] p slices_S4x2048x13344_S4x2048x8192_0_0_5152) slices_S4x2048x8192_S4x2048x2048_0_0_0) (Host.divf (broadcastInDim S4x2048x2048 ![] bcast_S_S4x2048x2048 (constant S_ .f32 0x3F800000#32)) (addf (broadcastInDim S4x2048x2048 ![] bcast_S_S4x2048x2048 (constant S_ .f32 0x3F800000#32)) (Host.exp (Host.negf (extractStridedSlice S4x2048x2048 ![0, 0, 0] (extractStridedSlice S4x2048x8192 ![0, 0, 5152] p slices_S4x2048x13344_S4x2048x8192_0_0_5152) slices_S4x2048x8192_S4x2048x2048_0_0_0))))))) shapeCasts_S4x2048x2048_S8192x2048) bitsLt_bf16_f32

/-- The reference's second result. -/
def nR (u : FVec Ideal S4x2050x2048 .f32) : FVec Ideal S4x2x2048 .f32 :=
  extractStridedSlice S4x2x2048 ![0, 2048, 0] u slices_S4x2050x2048_S4x2x2048_0_2048_0

theorem projR_at (a0 : FVec Ideal S8192x2048 .bf16) (a1 : FVec Ideal S1x2048x13344 .f32) (b : Fin 4) (l : Fin 2048) (r : Fin 13344) :
    projR a0 a1 (ix3 b l r) = pj a0 a1 ⟨b.val * 2048 + l.val, by omega⟩ r := by
  unfold projR
  pointwise
  rfl

theorem catR_at (p : FVec Ideal S4x2048x13344 .f32) (b : Fin 4) (n : Fin 2050) (j : Fin 2048) :
    catR p (ix3 b n j) = if n.val < 2 then 0 else if h : n.val - 2 < 2048 then
      (p (ix3 b ⟨n.val - 2, h⟩ ⟨9248 + j.val, by omega⟩) * p (ix3 b ⟨n.val - 2, h⟩ ⟨11296 + j.val, by omega⟩) : EReal) else 0 := by
  have e1 : ∀ h, (⟨5152 + (4096 + j.val), h⟩ : Fin 13344) = ⟨9248 + j.val, by omega⟩ := fun h => Fin.ext (show 5152 + (4096 + j.val) = 9248 + j.val by omega)
  have e2 : ∀ h, (⟨5152 + (6144 + j.val), h⟩ : Fin 13344) = ⟨11296 + j.val, by omega⟩ := fun h => Fin.ext (show 5152 + (6144 + j.val) = 11296 + j.val by omega)
  unfold catR
  pointwise
  split
  · rfl
  · rw [dif_pos (show n.val - 2 < 2048 by omega)]
    simp only [e1, e2]

theorem yR_at (p : FVec Ideal S4x2048x13344 .f32) (u : FVec Ideal S4x2050x2048 .f32) (a2 : FVec Ideal S1x3x2048 .f32) (t : Fin 8192) (j : Fin 2048)
    (b : Fin 4) (l : Fin 2048) (hb : b.val = t.val / 2048) (hl : l.val = t.val % 2048) :
    @Eq EReal (yR p u a2 (ix2 t j))
      (p (ix3 b l ⟨7200 + j.val, by omega⟩) * (u (ix3 b ⟨l.val, by omega⟩ j) * a2 (ix3 0 0 j) + u (ix3 b ⟨1 + l.val, by omega⟩ j) * a2 (ix3 0 1 j)
        + u (ix3 b ⟨2 + l.val, by omega⟩ j) * a2 (ix3 0 2 j))
      * (p (ix3 b l ⟨5152 + j.val, by omega⟩) * Ideal.div 1 (1 + Ideal.exp (-(p (ix3 b l ⟨5152 + j.val, by omega⟩) : EReal))))) := by
  have e1 : ∀ h, (⟨5152 + (2048 + j.val), h⟩ : Fin 13344) = ⟨7200 + j.val, by omega⟩ := fun h => Fin.ext (show 5152 + (2048 + j.val) = 7200 + j.val by omega)
  obtain rfl : b = ⟨t.val / 2048, Nat.div_lt_of_lt_mul (show t.val < 2048 * 4 from t.isLt)⟩ := Fin.ext hb
  obtain rfl : l = ⟨t.val % 2048, Nat.mod_lt _ (by decide)⟩ := Fin.ext hl
  unfold yR
  pointwise
  simp only [e1]

theorem nR_at (u : FVec Ideal S4x2050x2048 .f32) (b : Fin 4) (k : Fin 2) (j : Fin 2048) :
    nR u (ix3 b k j) = u (ix3 b ⟨2048 + k.val, by omega⟩ j) := by
  unfold nR
  pointwise

theorem sq_at (a0 : FVec Ideal S8192x2048 .bf16) (a1 : FVec Ideal S1x2048x13344 .f32) (b : Fin 4) (n : Fin 2050) (j : Fin 2048) :
    catR (projR a0 a1) (ix3 b n j) = sq a0 a1 b n.val j := by
  rw [catR_at]
  unfold sq
  split
  · rfl
  · split
    · rw [projR_at, projR_at]
    · rfl

/-- The convolution's three terms in the reference's order, the gate before them and the gate after them. -/
def ys (a0 : FVec Ideal S8192x2048 .bf16) (a1 : FVec Ideal S1x2048x13344 .f32) (a2 : FVec Ideal S1x3x2048 .f32) (t : Fin 8192) (j : Fin 2048) : EReal :=
  pj a0 a1 t ⟨7200 + j.val, by omega⟩ * (sq a0 a1 ⟨t.val / 2048, by omega⟩ (t.val % 2048) j * a2 (ix3 0 0 j)
    + sq a0 a1 ⟨t.val / 2048, by omega⟩ (1 + t.val % 2048) j * a2 (ix3 0 1 j) + sq a0 a1 ⟨t.val / 2048, by omega⟩ (2 + t.val % 2048) j * a2 (ix3 0 2 j))
  * (pj a0 a1 t ⟨5152 + j.val, by omega⟩ * Ideal.div 1 (1 + Ideal.exp (-(pj a0 a1 t ⟨5152 + j.val, by omega⟩))))

/-- The reference's first result at an index. -/
theorem refY (a0 : FVec Ideal S8192x2048 .bf16) (a1 : FVec Ideal S1x2048x13344 .f32) (a2 : FVec Ideal S1x3x2048 .f32) (t : Fin 8192) (j : Fin 2048) :
    @Eq EReal (yR (projR a0 a1) (catR (projR a0 a1)) a2 (ix2 t j)) (ys a0 a1 a2 t j) := by
  rw [yR_at _ _ a2 t j ⟨t.val / 2048, by omega⟩ ⟨t.val % 2048, by omega⟩ rfl rfl, sq_at, sq_at, sq_at, projR_at, projR_at]
  have ht : ∀ h, (⟨t.val / 2048 * 2048 + t.val % 2048, h⟩ : Fin 8192) = t := fun h => Fin.ext (Nat.div_add_mod' _ _)
  simp only [ht]
  rfl

/-- The reference's second result at an index. -/
theorem refN (a0 : FVec Ideal S8192x2048 .bf16) (a1 : FVec Ideal S1x2048x13344 .f32) (b : Fin 4) (k : Fin 2) (j : Fin 2048) :
    @Eq EReal (nR (catR (projR a0 a1)) (ix3 b k j)) (sq a0 a1 b (2048 + k.val) j) := by
  rw [nR_at, sq_at]

end

end Cert.Short
-- ==== Proof.ShortOut.lean ====
module

public import proofs.«01_k».proof.Proof.ShortKernel
public import proofs.«01_k».proof.Proof.ShortRef

/-!
# The short convolution's kernel, at one index of its results

The kernel halves the gate's weights before its sum and finishes the gate by a hyperbolic tangent. On real numbers
that is the logistic gate of the whole sum.
-/

@[expose] public section

set_option maxRecDepth 16384

noncomputable section

namespace Cert.Short

open Idealize.ShloMosaic Idealize.ShloMosaic.TcCoe Idealize.ShloMosaic.Tactic

/-! ## The gate -/

theorem half_word : (Ideal.ofBits .f32 0x3F000000#32 : EReal) = ((1 / 2 : ℝ) : EReal) := by
  simp [Ideal.ofBits, Ideal.ieee]
  rw [← EReal.coe_mul]
  norm_num

/-- The tangent form of the gate at half the argument is the logistic form at the argument. -/
theorem gate_real (z : ℝ) : z / 2 + z / 2 * Real.tanh (z / 2) = z * (1 + Real.exp (-z))⁻¹ := by
  have h1 : Real.exp (-z) = Real.exp (-(z / 2)) * Real.exp (-(z / 2)) := by rw [← Real.exp_add]; congr 1; ring
  have h2 : Real.exp (z / 2) * Real.exp (-(z / 2)) = 1 := by rw [← Real.exp_add]; simp
  have p := Real.exp_pos (z / 2)
  have q := Real.exp_pos (-(z / 2))
  rw [Real.tanh_eq_sinh_div_cosh, Real.sinh_eq, Real.cosh_eq, h1]
  have hx : Real.exp (-(z / 2)) = (Real.exp (z / 2))⁻¹ := Real.exp_neg _
  rw [hx]
  have p2 : 0 < Real.exp (z / 2) * Real.exp (z / 2) + 1 := by positivity
  field_simp
  ring

theorem coe_sum (f : Fin 2048 → ℝ) : ((∑ e, f e : ℝ) : EReal) = ∑ e, (f e : EReal) :=
  map_sum (⟨⟨Real.toEReal, EReal.coe_zero⟩, EReal.coe_add⟩ : ℝ →+ EReal) f Finset.univ

theorem gate_eq (a w : Fin 2048 → EReal) (ha : ∀ e, ∃ r : ℝ, a e = r) (hw : ∀ e, ∃ r : ℝ, w e = r) :
    (∑ e, a e * (Ideal.ofBits .f32 0x3F000000#32 * w e)) + (∑ e, a e * (Ideal.ofBits .f32 0x3F000000#32 * w e)) * Ideal.tanh (∑ e, a e * (Ideal.ofBits .f32 0x3F000000#32 * w e))
      = (∑ e, a e * w e) * Ideal.div 1 (1 + Ideal.exp (-(∑ e, a e * w e))) := by
  choose x hx using ha
  choose y hy using hw
  have e1 : (∑ e, a e * w e) = ((∑ e, x e * y e : ℝ) : EReal) := by
    rw [coe_sum]
    exact Finset.sum_congr rfl fun e _ => by rw [hx, hy, EReal.coe_mul]
  have e2 : (∑ e, a e * (Ideal.ofBits .f32 0x3F000000#32 * w e)) = (((∑ e, x e * y e) / 2 : ℝ) : EReal) := by
    rw [Finset.sum_div, coe_sum]
    refine Finset.sum_congr rfl fun e _ => ?_
    rw [hx, hy, half_word, ← EReal.coe_mul, ← EReal.coe_mul]
    congr 1
    ring
  rw [e1, e2]
  generalize (∑ e, x e * y e) = z
  have e3 : Ideal.div 1 (1 + Ideal.exp (-(z : EReal))) = (((1 + Real.exp (-z))⁻¹ : ℝ) : EReal) := Ideal.logistic_coe z
  rw [e3, Ideal.tanh_coe, ← EReal.coe_mul, ← EReal.coe_mul, ← EReal.coe_add, gate_real]

section Kernel

open Cert.Kernel2Ideal Cert.Kernel2Ideal.Gen

variable (m : (ℓ : Loc nD τ sig) → Buf (Elt Ideal) ℓ) (c : Dev nD)

/-- The three arrays the kernel is called with. -/
abbrev A0 : FVec Ideal S8192x2048 .bf16 := m ((c.tc : Thread nD τ).loc main_arg0)
abbrev A1 : FVec Ideal S1x2048x13344 .f32 := m ((c.tc : Thread nD τ).loc main_arg1)
abbrev A2 : FVec Ideal S1x3x2048 .f32 := m ((c.tc : Thread nD τ).loc main_arg2)

theorem wt_fin (R : Fin 13344) (e : Fin 2048) (n : ℕ) (hn : n = R.val) : wt m c n e = A1 m c (ix3 0 e R) := by
  subst hn
  exact dif_pos R.isLt

section At

variable (n : ℕ) (hn : n < cfg0.N) (r : Fin 2048) (q : Fin 256) (T : Fin 8192) (J : Fin 2048)
variable (hT : T.val = n % 4 * 2048 + r.val) (hJ : J.val = 256 * (n / 4) + q.val)

include hT in
theorem row_at (e : Fin 2048) : @Eq EReal ((iblk m c 0 ⟨n, hn⟩ : Vec Ideal S2048x2048 .bf16) (ix2 r e)) (A0 m c (ix2 T e)) := by
  refine (blk_0 m c ⟨n, hn⟩ r e).trans ?_
  exact congrArg (fun t => A0 m c (ix2 t e)) (Fin.ext hT.symm)

include hT in
/-- A whole slab of the transposed weights gives a column of the projection. -/
theorem pr_at (s : FVec Ideal S1x256x2048 .bf16) (R : Fin 13344) (hs : ∀ e, @Eq EReal (s (ix3 0 q e)) (A1 m c (ix3 0 e R))) :
    pr (iblk m c 0 ⟨n, hn⟩) s r q = pj (A0 m c) (A1 m c) T R := by
  refine Finset.sum_congr rfl fun e _ => ?_
  rw [show @Eq EReal (s (ix3 0 q e)) _ from hs e]
  exact congrArg (· * _) (row_at m c n hn r T hT e)

include hT hJ in
theorem pr_b : pr (iblk m c 0 ⟨n, hn⟩) (slabW m c (n / 4) 1) r q = pj (A0 m c) (A1 m c) T ⟨7200 + J.val, by omega⟩ :=
  pr_at m c n hn r q T hT _ _ fun e => wt_fin m c _ e _ (show 7200 + (256 * (n / 4) + q.val) = 7200 + J.val by omega)
include hT hJ in
theorem pr_c : pr (iblk m c 0 ⟨n, hn⟩) (slabW m c (n / 4) 2) r q = pj (A0 m c) (A1 m c) T ⟨9248 + J.val, by omega⟩ :=
  pr_at m c n hn r q T hT _ _ fun e => wt_fin m c _ e _ (show 9248 + (256 * (n / 4) + q.val) = 9248 + J.val by omega)
include hT hJ in
theorem pr_v : pr (iblk m c 0 ⟨n, hn⟩) (slabW m c (n / 4) 3) r q = pj (A0 m c) (A1 m c) T ⟨11296 + J.val, by omega⟩ :=
  pr_at m c n hn r q T hT _ _ fun e => wt_fin m c _ e _ (show 11296 + (256 * (n / 4) + q.val) = 11296 + J.val by omega)

include hT hJ in
theorem pr_z : pr (iblk m c 0 ⟨n, hn⟩) (slabW m c (n / 4) 0) r q
    = ∑ e : Fin 2048, (A0 m c (ix2 T e) * (Ideal.ofBits .f32 0x3F000000#32 * A1 m c (ix3 0 e ⟨5152 + J.val, by omega⟩)) : EReal) := by
  refine Finset.sum_congr rfl fun e _ => ?_
  have hs : @Eq EReal (slabW m c (n / 4) 0 (ix3 0 q e)) (Ideal.ofBits .f32 0x3F000000#32 * A1 m c (ix3 0 e ⟨5152 + J.val, by omega⟩)) :=
    congrArg (Ideal.ofBits .f32 0x3F000000#32 * ·) (wt_fin m c _ e _ (show 5152 + (256 * (n / 4) + q.val) = 5152 + J.val by omega))
  rw [show @Eq EReal (slabW m c (n / 4) 0 (ix3 0 q e)) _ from hs]
  exact congrArg (· * _) (row_at m c n hn r T hT e)

include hJ in
/-- The rows the kernel's convolution reads are the rows the reference's does. -/
theorem seq_at (b : Fin 4) (hb : b.val = n % 4) (k : ℕ) :
    seq (iblk m c 0 ⟨n, hn⟩) (slabW m c (n / 4)) (iblk m c 10 ⟨n, hn⟩) k q = sq (A0 m c) (A1 m c) b k J := by
  unfold seq sq
  by_cases h2 : k < 2
  · rw [dif_pos h2, if_pos h2]
    exact blk_10 m c ⟨n, hn⟩ ⟨k, h2⟩ q
  · rw [dif_neg h2, if_neg h2]
    by_cases h : k - 2 < 2048
    · rw [dif_pos h, dif_pos h, pr_c m c n hn ⟨k - 2, h⟩ q ⟨b.val * 2048 + (k - 2), by omega⟩ J (show b.val * 2048 + (k - 2) = n % 4 * 2048 + (k - 2) by rw [hb]) hJ,
        pr_v m c n hn ⟨k - 2, h⟩ q ⟨b.val * 2048 + (k - 2), by omega⟩ J (show b.val * 2048 + (k - 2) = n % 4 * 2048 + (k - 2) by rw [hb]) hJ]
    · rw [dif_neg h, dif_neg h]

end At

variable (h0 : ∀ i, ∃ r : ℝ, A0 m c i = (r : EReal)) (h1 : ∀ i, ∃ r : ℝ, A1 m c i = (r : EReal))

include h0 h1 in
/-- The kernel's first result. -/
theorem kernelY (t : Fin 8192) (j : Fin 2048) : @Eq EReal (Cert.Kernel2Ideal.Value.G11 m c (ix2 t j)) (ys (A0 m c) (A1 m c) (A2 m c) t j) := by
  have hp : Cert.Kernel2Ideal.Value.pt11Of (ix2 t j) = t.val / 2048 + 4 * (j.val / 256) := by
    show 1 * (t.val / 2048 - 0) + 4 * (j.val / 256 - 0) = _
    omega
  have hl : Cert.Kernel2Ideal.Value.loc11Of (ix2 t j) = ix2 (⟨t.val % 2048, by omega⟩ : Fin 2048) (⟨j.val % 256, by omega⟩ : Fin 256) := by
    funext a
    fin_cases a
    · rfl
    · rfl
  have hn : t.val / 2048 + 4 * (j.val / 256) < cfg0.N := by rw [show cfg0.N = 32 from N_0]; omega
  unfold Cert.Kernel2Ideal.Value.G11
  rw [dif_pos (by rw [hp]; exact hn), hl, ← Cert.Kernel2Ideal.Value.outsAt0_sweep m c _ (by rw [hp]; exact hn)]
  simp only [hp]
  refine (y_at m c (t.val / 2048 + 4 * (j.val / 256)) hn _ _).trans ?_
  have hT : t.val = (t.val / 2048 + 4 * (j.val / 256)) % 4 * 2048 + (⟨t.val % 2048, by omega⟩ : Fin 2048).val := by
    show t.val = (t.val / 2048 + 4 * (j.val / 256)) % 4 * 2048 + t.val % 2048
    omega
  have hJ : j.val = 256 * ((t.val / 2048 + 4 * (j.val / 256)) / 4) + (⟨j.val % 256, by omega⟩ : Fin 256).val := by
    show j.val = 256 * ((t.val / 2048 + 4 * (j.val / 256)) / 4) + j.val % 256
    omega
  have hb : (⟨t.val / 2048, by omega⟩ : Fin 4).val = (t.val / 2048 + 4 * (j.val / 256)) % 4 := by
    show t.val / 2048 = _
    omega
  have hw : ∀ k : Fin 3, @Eq EReal ((iblk m c 9 ⟨_, hn⟩ : Vec Ideal S3x256 .f32) (ix2 k (⟨j.val % 256, by omega⟩ : Fin 256))) (A2 m c (ix3 0 k j)) := fun k =>
    (blk_9 m c ⟨_, hn⟩ k _).trans (congrArg (fun i => A2 m c (ix3 0 k i)) (Fin.ext hJ.symm))
  unfold yv ys
  rw [pr_b m c _ hn _ _ t j hT hJ, pr_z m c _ hn _ _ t j hT hJ, seq_at m c _ hn _ j hJ ⟨t.val / 2048, by omega⟩ hb, seq_at m c _ hn _ j hJ ⟨t.val / 2048, by omega⟩ hb,
    seq_at m c _ hn _ j hJ ⟨t.val / 2048, by omega⟩ hb]
  rw [show @Eq EReal _ _ from hw 0, show @Eq EReal _ _ from hw 1, show @Eq EReal _ _ from hw 2]
  rw [gate_eq (fun e => A0 m c (ix2 t e)) (fun e => A1 m c (ix3 0 e ⟨5152 + j.val, by omega⟩)) (fun e => h0 _) (fun e => h1 _)]
  refine congrArg₂ (· * ·) (congrArg (_ * ·) ?_) rfl
  show _ = _
  rw [Nat.add_comm 1 (t.val % 2048), Nat.add_comm 2 (t.val % 2048)]
  generalize sq _ _ _ _ _ * A2 m c (ix3 0 2 j) = x
  generalize sq _ _ _ _ _ * A2 m c (ix3 0 1 j) = y
  generalize sq _ _ _ _ _ * A2 m c (ix3 0 0 j) = z
  rw [add_comm (x + y) z, add_comm x y, add_assoc]

/-- The kernel's second result. -/
theorem kernelN (b : Fin 4) (k : Fin 2) (j : Fin 2048) : @Eq EReal (Cert.Kernel2Ideal.Value.G12 m c (ix3 b k j)) (sq (A0 m c) (A1 m c) b (2048 + k.val) j) := by
  have hp : Cert.Kernel2Ideal.Value.pt12Of (ix3 b k j) = b.val + 4 * (j.val / 256) := by
    show 1 * (b.val / 1 - 0) + 4 * (k.val / 2 - 0) + 4 * (j.val / 256 - 0) = _
    omega
  have hl : Cert.Kernel2Ideal.Value.loc12Of (ix3 b k j) = ix3 (0 : Fin 1) k (⟨j.val % 256, by omega⟩ : Fin 256) := by
    funext a
    fin_cases a
    · exact Fin.ext (show b.val % 1 = 0 by omega)
    · exact Fin.ext (show k.val % 2 = k.val by omega)
    · rfl
  have hn : b.val + 4 * (j.val / 256) < cfg0.N := by rw [show cfg0.N = 32 from N_0]; omega
  unfold Cert.Kernel2Ideal.Value.G12
  rw [dif_pos (by rw [hp]; exact hn), hl, ← Cert.Kernel2Ideal.Value.outsAt0_sweep m c _ (by rw [hp]; exact hn)]
  simp only [hp]
  refine (n_at m c (b.val + 4 * (j.val / 256)) hn k _).trans ?_
  exact seq_at m c _ hn _ j (show j.val = 256 * ((b.val + 4 * (j.val / 256)) / 4) + j.val % 256 by omega) b (by omega) _

end Kernel

end Cert.Short

end
-- ==== Proof.ShortFinish.lean ====
module

public import proofs.«01_k».proof.Defs
public import proofs.«01_k».proof.Proof.ShortOut
public import proofs.«01_k».proof.Proof.Finish
public import proofs.«01_k».proof.Proof.Gen.Pre_rows_finite

/-! The short convolution's call: the precondition read, and the two programs' results met. -/

@[expose] public section

set_option maxRecDepth 16384

noncomputable section

namespace Cert.Short

open Idealize.ShloMosaic Idealize.ShloMosaic.TcCoe Idealize.ShloMosaic.StableHlo Idealize.SL.Sem Idealize.ShloMosaic.Tactic

section Pre

open Cert.Pre_rows_finite Cert.Pre_rows_finite.Facts

attribute [local instance] Cert.Pre_rows_finite.Gen.facts

theorem inf_word16 : (Ideal.ofBits .bf16 0x7F80#16 : EReal) = ⊤ := by simp [Ideal.ofBits, Ideal.ieee]

/-- The tests on the tokens and on the weights, as the precondition writes them. -/
def rowsOk (a : FVec Ideal S8192x2048 .bf16) : IVec S8192x2048 1 :=
  cmpf .olt (Host.absf a) (broadcastInDim S8192x2048 ![] bcast_S_S8192x2048 (constant S_ .bf16 0x7F80#16))
def weightsOk (a : FVec Ideal S1x2048x13344 .f32) : IVec S1x2048x13344 1 :=
  cmpf .olt (Host.absf a) (broadcastInDim S1x2048x13344 ![] bcast_S_S1x2048x13344 (constant S_ .f32 0x7F800000#32))

theorem rowsOk_at (a : FVec Ideal S8192x2048 .bf16) (t : Fin 8192) (e : Fin 2048) :
    rowsOk a (ix2 t e) = Ideal.cmp .olt (max (a (ix2 t e)) (-(a (ix2 t e)))) ⊤ := by
  rw [← inf_word16]
  unfold rowsOk
  pointwise
  rfl

theorem weightsOk_at (a : FVec Ideal S1x2048x13344 .f32) (b : Fin 1) (e : Fin 2048) (r : Fin 13344) :
    weightsOk a (ix3 b e r) = Ideal.cmp .olt (max (a (ix3 b e r)) (-(a (ix3 b e r)))) ⊤ := by
  rw [← Cert.Finish.inf_word]
  unfold weightsOk
  pointwise
  rfl

theorem both (a0 a1 : IVec S_ 1) (e : concatenate S2 0 [⟨S1, broadcastInDim S1 ![] bcast_S_S1 a0⟩, ⟨S1, broadcastInDim S1 ![] bcast_S_S1 a1⟩] concatenates_S1_S1_S2_d0
    = (fun _ => 1#1)) : a0 ix0 = 1#1 ∧ a1 ix0 = 1#1 := Cert.Finish.both a0 a1 e

/-- Under the precondition the tokens and the weights are reals. -/
theorem reals (a0 : FVec Ideal S8192x2048 .bf16) (a1 : FVec Ideal S1x2048x13344 .f32) (a2 : FVec Ideal S1x3x2048 .f32)
    (e : Cert.Pre_rows_finite.fn (F := Ideal) a0 a1 a2 = fun _ => 1#1) :
    (∀ i, ∃ r : ℝ, a0 i = (r : EReal)) ∧ ∀ i, ∃ r : ℝ, a1 i = (r : EReal) := by
  obtain ⟨h0, h1⟩ := both _ _ e
  have e0 : ∀ i, rowsOk a0 i = 1#1 := fun i => Host.reduce_andi_all _ _ _ _ _ h0 i
  have e1 : ∀ i, weightsOk a1 i = 1#1 := fun i => Host.reduce_andi_all _ _ _ _ _ h1 i
  refine ⟨fun i => ?_, fun i => ?_⟩
  · rw [eq_ix2 i]
    exact Cert.Finish.real_of_abs _ ((rowsOk_at a0 _ _).symm.trans (e0 _))
  · rw [eq_ix3 i]
    exact Cert.Finish.real_of_abs _ ((weightsOk_at a1 _ _ _).symm.trans (e1 _))

end Pre

section Ref

open Cert.Reference2Ideal Cert.Reference2Ideal.Gen

variable (m : (ℓ : Loc nD τ sig) → Buf (Elt Ideal) ℓ)

/-- The reference runs, leaves its arguments and ends with its counters at zero. -/
theorem frame (ρ : Dev nD → PrngReg) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run _ _ _).mono (fun r h => ⟨fun c => (h c).2.2, sem_eq_zero_of_no_sems (by decide) r.2⟩) (Cert.Reference2Ideal.Value.run m ρ)

end Ref

/-- The kernel and the reference end with the same two results. -/
theorem algebraic : Cert.algebraic_Kernel2Ideal_Reference2Ideal_pre_rows_finite (hKernel2Ideal := Cert.Kernel2Ideal.Gen.facts)
    (hReference2Ideal := Cert.Reference2Ideal.Gen.facts) (hPre_rows_finite := Cert.Pre_rows_finite.Gen.facts) := by
  intro m g m' g' hp hs
  refine ⟨Cert.Kernel2Ideal.Value.G11 m, Cert.Kernel2Ideal.Value.G12 m, Cert.Kernel2Ideal.Value.run m g, ?_⟩
  refine (θ_run _ _ _).mono (fun r h c => ⟨(h c).1.trans ?_, (h c).2.1.trans ?_, (h c).2.2⟩) (Cert.Reference2Ideal.Value.run m' g')
  all_goals obtain ⟨h0, h1, h2⟩ := hs c
  · show yR (projR (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)))
      (catR (projR (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1))))
      (m' ((c.tc : Thread Cert.Reference2Ideal.nD Cert.Reference2Ideal.τ).loc Cert.Reference2Ideal.main_arg2)) = _
    rw [h0, h1, h2]
    funext i
    rw [show i = ix2 (i 0) (i 1) from eq_ix2 i]
    obtain ⟨e0, e1⟩ := reals _ _ _ (hp c)
    exact (refY _ _ _ (i 0) (i 1)).trans (kernelY m c e0 e1 (i 0) (i 1)).symm
  · show nR (catR (projR (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)))) = _
    rw [h0, h1]
    funext i
    rw [show i = ix3 (i 0) (i 1) (i 2) from eq_ix3 i]
    exact (refN _ _ (i 0) (i 1) (i 2)).trans (kernelN m c (i 0) (i 1) (i 2)).symm

end Cert.Short

end
-- ==== Proof.ConvStep.lean ====
module

public import proofs.«01_k».proof.Proof.Gen.Kernel4Ideal.Frame
public import Idealize.ShloMosaic.Lib.Pointwise
public import Idealize.ShloMosaic.Lib.Pipeline.ValueKit.Tiles

@[expose] public section

set_option maxRecDepth 16384

noncomputable section

/-! What a point of the causal convolution's kernel stores. -/

namespace Cert.Conv

open Idealize.ShloMosaic Idealize.ShloMosaic.TcCoe Idealize.ShloMosaic.Tactic
open Cert.Kernel4Ideal Cert.Kernel4Ideal.Gen

variable {F : FTy → Type} [FloatOps F]

/-- The body's loads of its inputs: the rows, the weights, the convolution's rows, the bias and a row of the state. -/
def ldH (a : Memref sig .tc .vmem S1024x2048 .bf16) (ha : a.IsWhole) (x : Vec F S1024x2048 .bf16) : FVec F S1024x2048 .bf16 :=
  View.readAt (Elt F) a.view (Rect.unit (s := S1024x2048) ![0, 0] S1024x2048.size (by decide)).toLoadRect (ha.unread x)
def ldW (a : Memref sig .tc .vmem S1024x2048 .f32) (ha : a.IsWhole) (x : Vec F S1024x2048 .f32) : FVec F S1024x2048 .f32 :=
  View.readAt (Elt F) a.view (Rect.unit (s := S1024x2048) ![0, 0] S1024x2048.size (by decide)).toLoadRect (ha.unread x)
def ldC (a : Memref sig .tc .vmem S4x1024 .f32) (ha : a.IsWhole) (x : Vec F S4x1024 .f32) : FVec F S4x1024 .f32 :=
  View.readAt (Elt F) a.view (Rect.unit (s := S4x1024) ![0, 0] S4x1024.size (by decide)).toLoadRect (ha.unread x)
def ldB (a : Memref sig .tc .vmem S1x1024 .f32) (ha : a.IsWhole) (x : Vec F S1x1024 .f32) : FVec F S1x1024 .f32 :=
  View.readAt (Elt F) a.view (Rect.unit (s := S1x1024) ![0, 0] S1x1024.size (by decide)).toLoadRect (ha.unread x)
theorem inbT (k : Fin 3) : ∀ a, (![k.val, 0, 0] : Fin 3 → ℕ) a + S1x128x1024.size a ≤ S3x128x1024.size a := by
  revert k; decide

/-- A row's place among the three. -/
abbrev rectT (k : Fin 3) : Rect S3x128x1024 := Rect.unit (s := S3x128x1024) ![k.val, 0, 0] S1x128x1024.size (inbT k)

def ldSt (a : Memref sig .tc .vmem S3x128x1024 .f32) (ha : a.IsWhole) (x : Vec F S3x128x1024 .f32) (k : Fin 3) : FVec F S1x128x1024 .f32 :=
  View.readAt (Elt F) a.view (rectT k).toLoadRect (ha.unread x)

/-- The stores of the padded sequences, over the rows, the weights and the state. -/
def padded (h : FVec F S1024x2048 .bf16) (w : FVec F S1024x2048 .f32) (st : Fin 3 → FVec F S1x128x1024 .f32) : List (View.Piece (Elt F) S128x16x1024 .f32) :=
  [⟨Rect.unit (s := S128x16x1024) ![0, 8, 0] S128x8x1024.size (by decide), k0_pay9 (k0_pay8 h w)⟩,
   ⟨Rect.unit (s := S128x16x1024) ![0, 7, 0] S128x1x1024.size (by decide), k0_pay7 (st 2)⟩,
   ⟨Rect.unit (s := S128x16x1024) ![0, 6, 0] S128x1x1024.size (by decide), k0_pay6 (st 1)⟩,
   ⟨Rect.unit (s := S128x16x1024) ![0, 5, 0] S128x1x1024.size (by decide), k0_pay5 (st 0)⟩,
   ⟨Rect.unit (s := S128x16x1024) ![0, 0, 0] S128x8x1024.size (by decide), k0_pay4⟩]

/-- The padded sequences read back whole, and one of their last three rows. -/
def rdPad (v : View sig .tc .vmem S128x16x1024 .f32) (L : List (View.Piece (Elt F) S128x16x1024 .f32)) : FVec F S128x16x1024 .f32 :=
  v.readCov L (Rect.unit (s := S128x16x1024) ![0, 0, 0] S128x16x1024.size (by decide)).toLoadRect
theorem inbR (k : Fin 3) : ∀ a, (![0, 13 + k.val, 0] : Fin 3 → ℕ) a + S128x1x1024.size a ≤ S128x16x1024.size a := by
  revert k; decide
def rdRow (v : View sig .tc .vmem S128x16x1024 .f32) (L : List (View.Piece (Elt F) S128x16x1024 .f32)) (k : Fin 3) : FVec F S128x1x1024 .f32 :=
  v.readCov L (Rect.unit (s := S128x16x1024) ![0, 13 + k.val, 0] S128x1x1024.size (inbR k)).toLoadRect

/-- The stores of the outputs. -/
def outY (y : FVec F S1024x1024 .f32) : List (View.Piece (Elt F) S1024x1024 .f32) :=
  [⟨Rect.unit (s := S1024x1024) ![0, 0] S1024x1024.size (by decide), y⟩]
def outN (y : Fin 3 → FVec F S1x128x1024 .f32) : List (View.Piece (Elt F) S3x128x1024 .f32) :=
  [⟨rectT 2, y 2⟩, ⟨rectT 1, y 1⟩, ⟨rectT 0, y 0⟩]

/-- A last row of the sequences as it is stored. -/
def lastRow (r : Fin 3 → FVec F S128x1x1024 .f32) : Fin 3 → FVec F S1x128x1024 .f32
  | 0 => k0_pay1 (r 0)
  | 1 => k0_pay2 (r 1)
  | 2 => k0_pay3 (r 2)

section Step

variable (arg2 : Memref sig .tc .vmem S1024x2048 .bf16) (harg2 : arg2.IsWhole) (arg3 : Memref sig .tc .vmem S1024x2048 .f32) (harg3 : arg3.IsWhole)
  (arg4 : Memref sig .tc .vmem S4x1024 .f32) (harg4 : arg4.IsWhole) (arg5 : Memref sig .tc .vmem S1x1024 .f32) (harg5 : arg5.IsWhole)
  (arg6 : Memref sig .tc .vmem S3x128x1024 .f32) (harg6 : arg6.IsWhole) (arg7 : Memref sig .tc .vmem S1024x1024 .f32) (harg7 : arg7.IsWhole)
  (arg8 : Memref sig .tc .vmem S3x128x1024 .f32) (harg8 : arg8.IsWhole) (arg9 : Memref sig .tc .vmem S128x16x1024 .f32) (harg9 : arg9.IsWhole)
  (x0 : Vec F S1024x2048 .bf16) (x1 : Vec F S1024x2048 .f32) (x2 : Vec F S4x1024 .f32) (x3 : Vec F S1x1024 .f32) (x4 : Vec F S3x128x1024 .f32)
  (c : Dev nD) (i : grid0.Coords)

theorem y_A : (kernelRun0_A c i arg2 harg2 arg3 harg3 arg4 harg4 arg5 harg5 arg6 harg6 arg7 harg7 arg8 harg8 arg9 harg9 x0 x1 x2 x3 x4).1
    = outY (k0_pay10 (ldC arg4 harg4 x2) (rdPad arg9.view (padded (ldH arg2 harg2 x0) (ldW arg3 harg3 x1) (ldSt arg6 harg6 x4))) (ldB arg5 harg5 x3)) := by
  sl_kernel_rfl

theorem n_A : (kernelRun0_A c i arg2 harg2 arg3 harg3 arg4 harg4 arg5 harg5 arg6 harg6 arg7 harg7 arg8 harg8 arg9 harg9 x0 x1 x2 x3 x4).2.1
    = outN (lastRow (rdRow arg9.view (padded (ldH arg2 harg2 x0) (ldW arg3 harg3 x1) (ldSt arg6 harg6 x4)))) := by
  sl_kernel_rfl

end Step

section Loads

theorem ldH_eq (a : Memref sig .tc .vmem S1024x2048 .bf16) (ha : a.IsWhole) (x : Vec Ideal S1024x2048 .bf16) : ldH a ha x = x := by
  funext i
  obtain ⟨r, e, rfl⟩ : ∃ r e, i = ix2 r e := ⟨_, _, eq_ix2 i⟩
  unfold ldH
  rw [View.readAt_eq_ld, ha.read_unread]
  pointwise

theorem ldW_eq (a : Memref sig .tc .vmem S1024x2048 .f32) (ha : a.IsWhole) (x : Vec Ideal S1024x2048 .f32) : ldW a ha x = x := by
  funext i
  obtain ⟨r, e, rfl⟩ : ∃ r e, i = ix2 r e := ⟨_, _, eq_ix2 i⟩
  unfold ldW
  rw [View.readAt_eq_ld, ha.read_unread]
  pointwise

theorem ldC_eq (a : Memref sig .tc .vmem S4x1024 .f32) (ha : a.IsWhole) (x : Vec Ideal S4x1024 .f32) : ldC a ha x = x := by
  funext i
  obtain ⟨r, e, rfl⟩ : ∃ r e, i = ix2 r e := ⟨_, _, eq_ix2 i⟩
  unfold ldC
  rw [View.readAt_eq_ld, ha.read_unread]
  pointwise

theorem ldB_eq (a : Memref sig .tc .vmem S1x1024 .f32) (ha : a.IsWhole) (x : Vec Ideal S1x1024 .f32) : ldB a ha x = x := by
  funext i
  obtain ⟨r, e, rfl⟩ : ∃ r e, i = ix2 r e := ⟨_, _, eq_ix2 i⟩
  obtain rfl : r = 0 := Fin.eq_zero r
  unfold ldB
  rw [View.readAt_eq_ld, ha.read_unread]
  pointwise

/-- A row of three. -/
def rowOf (x : Vec Ideal S3x128x1024 .f32) (k : Fin 3) : FVec Ideal S1x128x1024 .f32 := fun i => x (ix3 k (i 1) (i 2))

theorem ldSt_eq (a : Memref sig .tc .vmem S3x128x1024 .f32) (ha : a.IsWhole) (x : Vec Ideal S3x128x1024 .f32) : ldSt a ha x = rowOf x := by
  funext k i
  obtain ⟨z, r, e, rfl⟩ : ∃ z r e, i = ix3 z r e := ⟨_, _, _, eq_ix3 i⟩
  obtain rfl : z = 0 := Fin.eq_zero z
  unfold ldSt rowOf
  rw [View.readAt_eq_ld, ha.read_unread]
  fin_cases k <;> pointwise

end Loads

section Pad

variable (v : View sig .tc .vmem S128x16x1024 .f32) (h : FVec Ideal S1024x2048 .bf16) (w : FVec Ideal S1024x2048 .f32) (st : Fin 3 → FVec Ideal S1x128x1024 .f32)

/-- A row's projection onto a row of the weights. -/
def pr (r q : Fin 1024) : EReal := ∑ e : Fin 2048, (h (ix2 r e) * w (ix2 q e) : EReal)

/-- A sequence from the state's first row on. -/
def seq (b : Fin 128) (n : ℕ) (q : Fin 1024) : EReal :=
  if h3 : n < 3 then st ⟨n, h3⟩ (ix3 0 b q) else if hn : n - 3 < 8 then pr h w ⟨b.val * 8 + (n - 3), by omega⟩ q else 0

theorem pay8_at (b : Fin 128) (l : Fin 8) (q : Fin 1024) :
    (k0_pay9 (k0_pay8 h w) : FVec Ideal S128x8x1024 .f32) (ix3 b l q) = pr h w ⟨b.val * 8 + l.val, by omega⟩ q := by
  unfold k0_pay9 k0_pay8 pr
  pointwise

theorem pay5_at (s : FVec Ideal S1x128x1024 .f32) (b : Fin 128) (q : Fin 1024) : (k0_pay5 s : FVec Ideal S128x1x1024 .f32) (ix3 b 0 q) = s (ix3 0 b q) := by
  unfold k0_pay5
  pointwise

theorem pay6_at (s : FVec Ideal S1x128x1024 .f32) (b : Fin 128) (q : Fin 1024) : (k0_pay6 s : FVec Ideal S128x1x1024 .f32) (ix3 b 0 q) = s (ix3 0 b q) := by
  unfold k0_pay6
  pointwise

theorem pay7_at (s : FVec Ideal S1x128x1024 .f32) (b : Fin 128) (q : Fin 1024) : (k0_pay7 s : FVec Ideal S128x1x1024 .f32) (ix3 b 0 q) = s (ix3 0 b q) := by
  unfold k0_pay7
  pointwise

theorem lastRow_at (r : Fin 3 → FVec Ideal S128x1x1024 .f32) (k : Fin 3) (b : Fin 128) (q : Fin 1024) : lastRow r k (ix3 0 b q) = r k (ix3 b 0 q) := by
  match k with
  | 0 => show (k0_pay1 (r 0) : FVec Ideal S1x128x1024 .f32) (ix3 0 b q) = _; unfold k0_pay1; pointwise
  | 1 => show (k0_pay2 (r 1) : FVec Ideal S1x128x1024 .f32) (ix3 0 b q) = _; unfold k0_pay2; pointwise
  | 2 => show (k0_pay3 (r 2) : FVec Ideal S1x128x1024 .f32) (ix3 0 b q) = _; unfold k0_pay3; pointwise

/-- An index in a store's place, and outside it. -/
theorem padEmb (o n : ℕ) (sz : Fin 3 → ℕ) (inb) (y : (Rect.unit (s := S128x16x1024) ![0, o, 0] sz inb).shape.Idx) (b : Fin 128) (q : Fin 1024) (hn : n < 16)
    (h0 : (y 0).val = b.val) (h1 : o + (y 1).val = n) (h2 : (y 2).val = q.val) :
    (Rect.unit (s := S128x16x1024) ![0, o, 0] sz inb).emb y = (ix3 b (⟨n, hn⟩ : Fin 16) q : S128x16x1024.Idx) := by
  funext a
  apply Fin.ext
  match a with
  | ⟨0, _⟩ => show 0 + 1 * (y 0).val = b.val; omega
  | ⟨1, _⟩ => show o + 1 * (y 1).val = n; omega
  | ⟨2, _⟩ => show 0 + 1 * (y 2).val = q.val; omega

theorem padOut (o n : ℕ) (sz : Fin 3 → ℕ) (inb) (b : Fin 128) (q : Fin 1024) (hn : n < 16) (h1 : n < o) :
    (ix3 b (⟨n, hn⟩ : Fin 16) q : S128x16x1024.Idx) ∉ (Rect.unit (s := S128x16x1024) ![0, o, 0] sz inb).set := by
  rw [Rect.mem_set_unit]
  intro hh
  have : o ≤ n := (hh 1).1
  omega

theorem canon_skip (o n : ℕ) (sz : Fin 3 → ℕ) (inb) (x) (L : List (View.Piece (Elt Ideal) S128x16x1024 .f32)) (b : Fin 128) (q : Fin 1024) (hn : n < 16) (h1 : n < o) :
    View.canon ((⟨Rect.unit (s := S128x16x1024) ![0, o, 0] sz inb, x⟩ : View.Piece (Elt Ideal) S128x16x1024 .f32) :: L) (ix3 b (⟨n, hn⟩ : Fin 16) q)
      = View.canon L (ix3 b (⟨n, hn⟩ : Fin 16) q) := by
  rw [View.canon_cons_of_not_mem]
  exact padOut o n sz inb b q hn h1

theorem canon_take (o n : ℕ) (sz : Fin 3 → ℕ) (inb) (x) (L : List (View.Piece (Elt Ideal) S128x16x1024 .f32)) (b : Fin 128) (q : Fin 1024) (hn : n < 16)
    (y : (Rect.unit (s := S128x16x1024) ![0, o, 0] sz inb).shape.Idx) (h0 : (y 0).val = b.val) (h1 : o + (y 1).val = n) (h2 : (y 2).val = q.val) :
    View.canon ((⟨Rect.unit (s := S128x16x1024) ![0, o, 0] sz inb, x⟩ : View.Piece (Elt Ideal) S128x16x1024 .f32) :: L) (ix3 b (⟨n, hn⟩ : Fin 16) q) = x y := by
  rw [← padEmb o n sz inb y b q hn h0 h1 h2, View.canon_cons_emb]

theorem padded_at (b : Fin 128) (n : ℕ) (hn : n < 11) (q : Fin 1024) :
    View.canon (padded h w st) (ix3 b (⟨5 + n, by omega⟩ : Fin 16) q) = seq h w st b n q := by
  unfold seq
  by_cases h3 : n < 3
  · rw [dif_pos h3]
    refine (canon_skip 8 (5 + n) _ _ _ _ b q _ (by omega)).trans ?_
    by_cases e2 : n = 2
    · subst e2
      exact (canon_take 7 _ _ _ _ _ b q _ (ix3 b (0 : Fin 1) q) rfl rfl rfl).trans (pay7_at _ _ _)
    refine (canon_skip 7 (5 + n) _ _ _ _ b q _ (by omega)).trans ?_
    by_cases e1 : n = 1
    · subst e1
      exact (canon_take 6 _ _ _ _ _ b q _ (ix3 b (0 : Fin 1) q) rfl rfl rfl).trans (pay6_at _ _ _)
    refine (canon_skip 6 (5 + n) _ _ _ _ b q _ (by omega)).trans ?_
    obtain rfl : n = 0 := by omega
    exact (canon_take 5 _ _ _ _ _ b q _ (ix3 b (0 : Fin 1) q) rfl rfl rfl).trans (pay5_at _ _ _)
  · rw [dif_neg h3, dif_pos (by omega)]
    exact (canon_take 8 (5 + n) _ _ _ _ b q _ (ix3 b (⟨n - 3, by omega⟩ : Fin 8) q) rfl (by show 8 + (n - 3) = 5 + n; omega) rfl).trans
      (pay8_at h w b ⟨n - 3, by omega⟩ q)

theorem rdPad_at (b : Fin 128) (n : ℕ) (hn : n < 11) (q : Fin 1024) :
    rdPad v (padded h w st) (ix3 b (⟨5 + n, by omega⟩ : Fin 16) q) = seq h w st b n q := by
  unfold rdPad
  rw [View.readCov_eq_canon', ← padded_at h w st b n hn q]
  refine congrArg (View.canon (padded h w st)) ?_
  funext a
  fin_cases a
  · exact Fin.ext (show 0 + 1 * b.val = b.val by omega)
  · exact Fin.ext (show 0 + 1 * (5 + n) = 5 + n by omega)
  · exact Fin.ext (show 0 + 1 * q.val = q.val by omega)

theorem rdRow_at (b : Fin 128) (k : Fin 3) (q : Fin 1024) :
    rdRow v (padded h w st) k (ix3 b 0 q) = seq h w st b (8 + k.val) q := by
  unfold rdRow
  rw [View.readCov_eq_canon', ← padded_at h w st b (8 + k.val) (by omega) q]
  refine congrArg (View.canon (padded h w st)) ?_
  funext a
  fin_cases a
  · exact Fin.ext (show 0 + 1 * b.val = b.val by omega)
  · exact Fin.ext (show 13 + k.val + 1 * 0 = 5 + (8 + k.val) by omega)
  · exact Fin.ext (show 0 + 1 * q.val = q.val by omega)

/-- The half of a row's convolution with its bias. -/
def half (f : ℕ → EReal) (w0 w1 w2 w3 b : EReal) : EReal :=
  let g := Ideal.ofBits .f32 0x3F000000#32
  f 3 * (g * w3) + f 2 * (g * w2) + (f 1 * (g * w1) + f 0 * (g * w0)) + g * b

theorem pay10_at (cw : FVec Ideal S4x1024 .f32) (p : FVec Ideal S128x16x1024 .f32) (bias : FVec Ideal S1x1024 .f32) (b : Fin 128) (l : Fin 8) (q : Fin 1024) (f : ℕ → EReal)
    (hf : ∀ n (hn : n < 4), p (ix3 b (⟨5 + (l.val + n), by omega⟩ : Fin 16) q) = f n) :
    (k0_pay10 cw p bias : FVec Ideal S1024x1024 .f32) (ix2 (⟨b.val * 8 + l.val, by omega⟩ : Fin 1024) q)
      = half f (cw (ix2 0 q)) (cw (ix2 1 q)) (cw (ix2 2 q)) (cw (ix2 3 q)) (bias (ix2 0 q))
        + half f (cw (ix2 0 q)) (cw (ix2 1 q)) (cw (ix2 2 q)) (cw (ix2 3 q)) (bias (ix2 0 q))
          * Ideal.tanh (half f (cw (ix2 0 q)) (cw (ix2 1 q)) (cw (ix2 2 q)) (cw (ix2 3 q)) (bias (ix2 0 q))) := by
  unfold half
  rw [← hf 0 (by omega), ← hf 1 (by omega), ← hf 2 (by omega), ← hf 3 (by omega)]
  unfold k0_pay10
  pointwise
  have a0 : 8 + l.val = 5 + (l.val + 3) := by omega
  have a1 : (8 + l.val + 16 - 1) % 16 = 5 + (l.val + 2) := by omega
  have a2 : (8 + l.val + 16 - 2) % 16 = 5 + (l.val + 1) := by omega
  have a4 : (5 + (l.val + 1) + 16 - 1) % 16 = 5 + l.val := by omega
  simp only [a2, a1, a4]
  simp only [a0]

end Pad

end Cert.Conv
end
-- ==== Proof.ConvRef.lean ====
module

public import proofs.«01_k».proof.Proof.Gen.Reference4Ideal.Run
public import proofs.«01_k».proof.Defs
public import Idealize.ShloMosaic.Lib.Pointwise
public import Idealize.ShloMosaic.Lib.Pipeline.ValueKit

/-!
# The reference's convolution call, at one index

A column of the sample's projection is a sum over the 2048 features. A sequence is the three rows of its state and
then the eight projected rows. The convolution reads four rows of it, and its last three are what is handed on.
-/

@[expose] public section

set_option maxRecDepth 16384

open Idealize.ShloMosaic Idealize.ShloMosaic.TcCoe Idealize.ShloMosaic.Tactic Idealize.SL.Sem

namespace Cert.Conv

noncomputable section

open Cert.Reference4Ideal Cert.Reference4Ideal.Gen

/-- Column `r` of the projection of token `t`. -/
def pj (a0 : FVec Ideal S1024x2048 .bf16) (a1 : FVec Ideal S1x2048x13344 .f32) (t : Fin 1024) (r : Fin 13344) : EReal :=
  ∑ e : Fin 2048, (a0 (ix2 t e) * a1 (ix3 0 e r) : EReal)

/-- Row `n` of the sequence that the convolution reads for sample `b`. -/
def sq (a0 : FVec Ideal S1024x2048 .bf16) (a1 : FVec Ideal S1x2048x13344 .f32) (a4 : FVec Ideal S1x128x3x3072 .f32) (b : Fin 128) (n : ℕ) (j : Fin 3072) : EReal :=
  if h3 : n < 3 then a4 (ix4 0 b ⟨n, h3⟩ j) else if h : n - 3 < 8 then pj a0 a1 ⟨b.val * 8 + (n - 3), by omega⟩ ⟨2048 + j.val, by omega⟩ else 0

/-- The projection, as the reference writes it. -/
def projR (a0 : FVec Ideal S1024x2048 .bf16) (a1 : FVec Ideal S1x2048x13344 .f32) : FVec Ideal S128x8x13344 .f32 :=
  Host.dotGeneral dot_S128x8x2048_S2048x13344_S128x8x13344_2_0_01_1_n_n none (shapeCast _ (extf .f32 a0 bitsLt_bf16_f32) shapeCasts_S1024x2048_S128x8x2048) (shapeCast _ a1 shapeCasts_S1x2048x13344_S2048x13344)

/-- The sequences that the convolution reads. -/
def catR (p : FVec Ideal S128x8x13344 .f32) (a4 : FVec Ideal S1x128x3x3072 .f32) : FVec Ideal S128x11x3072 .f32 :=
  concatenate S128x11x3072 1 [⟨S128x3x3072, (shapeCast _ a4 shapeCasts_S1x128x3x3072_S128x3x3072)⟩, ⟨S128x8x3072, (extractStridedSlice S128x8x3072 ![0, 0, 2048] p slices_S128x8x13344_S128x8x3072_0_0_2048)⟩] concatenates_S128x3x3072_S128x8x3072_S128x11x3072_d1

/-- The convolution and its bias. -/
def cvR (u : FVec Ideal S128x11x3072 .f32) (a2 : FVec Ideal S1x4x3072 .f32) (a3 : FVec Ideal S1x3072 .f32) : FVec Ideal S128x8x3072 .f32 :=
  addf (addf (addf (addf (mulf (extractStridedSlice S128x8x3072 ![0, 0, 0] u slices_S128x11x3072_S128x8x3072_0_0_0) (broadcastInDim S128x8x3072 ![0, 1, 2] bcast_S1x1x3072_S128x8x3072_0_1_2 (broadcastInDim S1x1x3072 ![2] bcast_S3072_S1x1x3072_2 (shapeCast _ (extractStridedSlice S1x3072 ![0, 0] (shapeCast _ a2 shapeCasts_S1x4x3072_S4x3072) slices_S4x3072_S1x3072_0_0) shapeCasts_S1x3072_S3072)))) (mulf (extractStridedSlice S128x8x3072 ![0, 1, 0] u slices_S128x11x3072_S128x8x3072_0_1_0) (broadcastInDim S128x8x3072 ![0, 1, 2] bcast_S1x1x3072_S128x8x3072_0_1_2 (broadcastInDim S1x1x3072 ![2] bcast_S3072_S1x1x3072_2 (shapeCast _ (extractStridedSlice S1x3072 ![1, 0] (shapeCast _ a2 shapeCasts_S1x4x3072_S4x3072) slices_S4x3072_S1x3072_1_0) shapeCasts_S1x3072_S3072))))) (mulf (extractStridedSlice S128x8x3072 ![0, 2, 0] u slices_S128x11x3072_S128x8x3072_0_2_0) (broadcastInDim S128x8x3072 ![0, 1, 2] bcast_S1x1x3072_S128x8x3072_0_1_2 (broadcastInDim S1x1x3072 ![2] bcast_S3072_S1x1x3072_2 (shapeCast _ (extractStridedSlice S1x3072 ![2, 0] (shapeCast _ a2 shapeCasts_S1x4x3072_S4x3072) slices_S4x3072_S1x3072_2_0) shapeCasts_S1x3072_S3072))))) (mulf (extractStridedSlice S128x8x3072 ![0, 3, 0] u slices_S128x11x3072_S128x8x3072_0_3_0) (broadcastInDim S128x8x3072 ![0, 1, 2] bcast_S1x1x3072_S128x8x3072_0_1_2 (broadcastInDim S1x1x3072 ![2] bcast_S3072_S1x1x3072_2 (shapeCast _ (extractStridedSlice S1x3072 ![3, 0] (shapeCast _ a2 shapeCasts_S1x4x3072_S4x3072) slices_S4x3072_S1x3072_3_0) shapeCasts_S1x3072_S3072))))) (broadcastInDim S128x8x3072 ![0, 1, 2] bcast_S1x1x3072_S128x8x3072_0_1_2 (broadcastInDim S1x1x3072 ![2] bcast_S3072_S1x1x3072_2 (shapeCast _ a3 shapeCasts_S1x3072_S3072)))

/-- The reference's first result. -/
def yR (z : FVec Ideal S128x8x3072 .f32) : FVec Ideal S1024x3072 .f32 :=
  shapeCast _ (mulf z (Host.divf (broadcastInDim S128x8x3072 ![] bcast_S_S128x8x3072 (constant S_ .f32 0x3F800000#32)) (addf (broadcastInDim S128x8x3072 ![] bcast_S_S128x8x3072 (constant S_ .f32 0x3F800000#32)) (Host.exp (Host.negf z))))) shapeCasts_S128x8x3072_S1024x3072

/-- The reference's second result. -/
def nR (u : FVec Ideal S128x11x3072 .f32) : FVec Ideal S3x128x3072 .f32 :=
  transpose S3x128x3072 [1, 0, 2] (extractStridedSlice S128x3x3072 ![0, 8, 0] u slices_S128x11x3072_S128x3x3072_0_8_0) transposes_S128x3x3072_S3x128x3072_1_0_2

theorem projR_at (a0 : FVec Ideal S1024x2048 .bf16) (a1 : FVec Ideal S1x2048x13344 .f32) (b : Fin 128) (l : Fin 8) (r : Fin 13344) :
    projR a0 a1 (ix3 b l r) = pj a0 a1 ⟨b.val * 8 + l.val, by omega⟩ r := by
  unfold projR
  pointwise
  rfl

theorem catR_at (p : FVec Ideal S128x8x13344 .f32) (a4 : FVec Ideal S1x128x3x3072 .f32) (b : Fin 128) (n : ℕ) (hn : n < 11) (j : Fin 3072) :
    catR p a4 (ix3 b (⟨n, hn⟩ : Fin 11) j) = if h3 : n < 3 then a4 (ix4 0 b ⟨n, h3⟩ j) else if h : n - 3 < 8 then p (ix3 b ⟨n - 3, h⟩ ⟨2048 + j.val, by omega⟩) else 0 := by
  unfold catR
  pointwise
  by_cases h3 : n < 3
  · rw [dif_pos h3, dif_pos h3]
  · rw [dif_neg h3, dif_neg h3, dif_pos (by omega)]

/-- The convolution of four rows and its bias. -/
def cv (f : ℕ → EReal) (w0 w1 w2 w3 b : EReal) : EReal := f 0 * w0 + f 1 * w1 + f 2 * w2 + f 3 * w3 + b

theorem cvR_at (u : FVec Ideal S128x11x3072 .f32) (a2 : FVec Ideal S1x4x3072 .f32) (a3 : FVec Ideal S1x3072 .f32) (b : Fin 128) (l : Fin 8) (j : Fin 3072) (f : ℕ → EReal)
    (hf : ∀ n (hn : n < 4), u (ix3 b (⟨l.val + n, by omega⟩ : Fin 11) j) = f n) :
    cvR u a2 a3 (ix3 b l j) = cv f (a2 (ix3 0 0 j)) (a2 (ix3 0 1 j)) (a2 (ix3 0 2 j)) (a2 (ix3 0 3 j)) (a3 (ix2 0 j)) := by
  unfold cv
  rw [← hf 0 (by omega), ← hf 1 (by omega), ← hf 2 (by omega), ← hf 3 (by omega)]
  unfold cvR
  pointwise
  have e1 : 1 + l.val = l.val + 1 := by omega
  have e2 : 2 + l.val = l.val + 2 := by omega
  have e3 : 3 + l.val = l.val + 3 := by omega
  simp only [e1, e2, e3]

theorem yR_at (z : FVec Ideal S128x8x3072 .f32) (b : Fin 128) (l : Fin 8) (j : Fin 3072) :
    yR z (ix2 (⟨b.val * 8 + l.val, by omega⟩ : Fin 1024) j) = z (ix3 b l j) * Ideal.div 1 (1 + Ideal.exp (-z (ix3 b l j))) := by
  unfold yR
  pointwise

theorem nR_at (u : FVec Ideal S128x11x3072 .f32) (k : Fin 3) (b : Fin 128) (j : Fin 3072) :
    nR u (ix3 k b j) = u (ix3 b ⟨8 + k.val, by omega⟩ j) := by
  unfold nR
  pointwise

end

end Cert.Conv
end
-- ==== Proof.ConvKernel.lean ====
module

public import proofs.«01_k».proof.Proof.ConvStep
public import proofs.«01_k».proof.Proof.ConvRef
public import proofs.«01_k».proof.Proof.Gen.Kernel4Ideal.Value

@[expose] public section

set_option maxRecDepth 16384

noncomputable section

/-! The arrays of the causal convolution's kernel, at an index, and its results. -/

namespace Cert.Conv

open Idealize.ShloMosaic Idealize.ShloMosaic.TcCoe Idealize.ShloMosaic.Tactic
open Cert.Kernel4Ideal Cert.Kernel4Ideal.Gen

section Point

variable (arg2 : Memref sig .tc .vmem S1024x2048 .bf16) (harg2 : arg2.IsWhole) (arg3 : Memref sig .tc .vmem S1024x2048 .f32) (harg3 : arg3.IsWhole)
  (arg4 : Memref sig .tc .vmem S4x1024 .f32) (harg4 : arg4.IsWhole) (arg5 : Memref sig .tc .vmem S1x1024 .f32) (harg5 : arg5.IsWhole)
  (arg6 : Memref sig .tc .vmem S3x128x1024 .f32) (harg6 : arg6.IsWhole) (arg7 : Memref sig .tc .vmem S1024x1024 .f32) (harg7 : arg7.IsWhole)
  (arg8 : Memref sig .tc .vmem S3x128x1024 .f32) (harg8 : arg8.IsWhole) (arg9 : Memref sig .tc .vmem S128x16x1024 .f32) (harg9 : arg9.IsWhole)
  (x0 : Vec Ideal S1024x2048 .bf16) (x1 : Vec Ideal S1024x2048 .f32) (x2 : Vec Ideal S4x1024 .f32) (x3 : Vec Ideal S1x1024 .f32) (x4 : Vec Ideal S3x128x1024 .f32)
  (c : Dev nD) (i : grid0.Coords)

/-- The gated half that the kernel stores. -/
def gated (f : ℕ → EReal) (w0 w1 w2 w3 b : EReal) : EReal := half f w0 w1 w2 w3 b + half f w0 w1 w2 w3 b * Ideal.tanh (half f w0 w1 w2 w3 b)

theorem out5_A (b : Fin 128) (l : Fin 8) (q : Fin 1024) :
    out0_A_5 c i arg2 harg2 arg3 harg3 arg4 harg4 arg5 harg5 arg6 harg6 arg7 harg7 arg8 harg8 arg9 harg9 x0 x1 x2 x3 x4 (ix2 (⟨b.val * 8 + l.val, by omega⟩ : Fin 1024) q)
      = gated (fun n => seq x0 x1 (rowOf x4) b (l.val + n) q) (x2 (ix2 0 q)) (x2 (ix2 1 q)) (x2 (ix2 2 q)) (x2 (ix2 3 q)) (x3 (ix2 0 q)) := by
  unfold out0_A_5
  rw [View.read_writes_eq_canon _ _ _ (cover0_A_5 c i arg2 harg2 arg3 harg3 arg4 harg4 arg5 harg5 arg6 harg6 arg7 harg7 arg8 harg8 arg9 harg9 x0 x1 x2 x3 x4), y_A, outY,
    View.canon_cons_unit_lit (h := by intro a; fin_cases a <;> rfl), ldH_eq, ldW_eq, ldC_eq, ldB_eq, ldSt_eq]
  exact pay10_at _ _ _ b l q _ (fun n hn => rdPad_at _ _ _ _ b (l.val + n) (by omega) q)

/-- The stores of the three last rows hold each row in its place. -/
theorem outN_at (w : Fin 3 → FVec Ideal S1x128x1024 .f32) (k : Fin 3) (b : Fin 128) (q : Fin 1024) :
    View.canon (outN w) (ix3 k b q) = w k (ix3 0 b q) := by
  have hm : ∀ k', (⟨rectT k', w k'⟩ : View.Piece (Elt Ideal) S3x128x1024 .f32) ∈ outN w := by
    intro k'
    fin_cases k' <;> simp [outN]
  refine View.canon_eq_of_allAt _ _ _ ⟨_, hm k, ?_⟩ ?_
  · rw [Rect.mem_set_unit]
    intro a
    fin_cases a
    · show k.val ≤ k.val ∧ k.val < k.val + 1
      omega
    · show 0 ≤ b.val ∧ b.val < 0 + 128
      omega
    · show 0 ≤ q.val ∧ q.val < 0 + 1024
      omega
  · have hp : ∀ p ∈ outN w, ∃ k', p = ⟨rectT k', w k'⟩ := by
      intro p hp
      simp only [outN, List.mem_cons, List.not_mem_nil, or_false] at hp
      rcases hp with h | h | h
      · exact ⟨2, h⟩
      · exact ⟨1, h⟩
      · exact ⟨0, h⟩
    intro p h
    obtain ⟨k', rfl⟩ := hp p h
    intro y hy
    have h0 : k'.val + 1 * (y 0).val = k.val := congrArg (fun i => (i 0).val) hy
    have h1 : 0 + 1 * (y 1).val = b.val := congrArg (fun i => (i 1).val) hy
    have h2 : 0 + 1 * (y 2).val = q.val := congrArg (fun i => (i 2).val) hy
    have y0 : (y 0).val < 1 := (y 0).isLt
    obtain rfl : k' = k := Fin.ext (by omega)
    refine congrArg (w k') ?_
    funext a
    fin_cases a
    · exact Fin.ext (show (y 0).val = 0 by omega)
    · exact Fin.ext (show (y 1).val = b.val by omega)
    · exact Fin.ext (show (y 2).val = q.val by omega)

theorem out6_A (k : Fin 3) (b : Fin 128) (q : Fin 1024) :
    out0_A_6 c i arg2 harg2 arg3 harg3 arg4 harg4 arg5 harg5 arg6 harg6 arg7 harg7 arg8 harg8 arg9 harg9 x0 x1 x2 x3 x4 (ix3 k b q)
      = seq x0 x1 (rowOf x4) b (8 + k.val) q := by
  unfold out0_A_6
  rw [View.read_writes_eq_canon _ _ _ (cover0_A_6 c i arg2 harg2 arg3 harg3 arg4 harg4 arg5 harg5 arg6 harg6 arg7 harg7 arg8 harg8 arg9 harg9 x0 x1 x2 x3 x4), n_A, outN_at, lastRow_at,
    rdRow_at, ldH_eq, ldW_eq, ldSt_eq]

end Point

section Kernel

variable (m : (ℓ : Loc nD τ sig) → Buf (Elt Ideal) ℓ) (c : Dev nD)

abbrev A0 : FVec Ideal S1024x2048 .bf16 := m ((c : Thread nD τ).loc main_arg0)
abbrev A1 : FVec Ideal S1x2048x13344 .f32 := m ((c : Thread nD τ).loc main_arg1)
abbrev A2 : FVec Ideal S1x4x3072 .f32 := m ((c : Thread nD τ).loc main_arg2)
abbrev A3 : FVec Ideal S1x3072 .f32 := m ((c : Thread nD τ).loc main_arg3)
abbrev A4 : FVec Ideal S1x128x3x3072 .f32 := m ((c : Thread nD τ).loc main_arg4)

theorem lt_N (t : Fin cfg0.N) : t.val < 3 := lt_of_lt_of_eq t.isLt (show cfg0.N = 3 from N_0)

theorem index_0 : ∀ t : Fin cfg0.N, win0_0.index t 0 = 0 ∧ win0_0.index t 1 = 0 := by decide +kernel
theorem index_1 : ∀ t : Fin cfg0.N, win0_1.index t 0 = 2 + t.val ∧ win0_1.index t 1 = 0 := by decide +kernel
theorem index_2 : ∀ t : Fin cfg0.N, win0_2.index t 0 = 0 ∧ win0_2.index t 1 = t.val := by decide +kernel
theorem index_3 : ∀ t : Fin cfg0.N, win0_3.index t 0 = 0 ∧ win0_3.index t 1 = t.val := by decide +kernel
theorem index_4 : ∀ t : Fin cfg0.N, win0_4.index t 0 = 0 ∧ win0_4.index t 1 = 0 ∧ win0_4.index t 2 = t.val := by decide +kernel
theorem index_5 : ∀ t : Fin cfg0.N, win0_5.index t 0 = 0 ∧ win0_5.index t 1 = t.val := by decide +kernel
theorem index_6 : ∀ t : Fin cfg0.N, win0_6.index t 0 = 0 ∧ win0_6.index t 1 = 0 ∧ win0_6.index t 2 = t.val := by decide +kernel

/-- The transposed weights, the convolution's rows, the bias and the transposed state that the host makes. -/
theorem weights_eq : (V m c main_v1 : Vec Ideal S13344x2048 .f32) = transpose S13344x2048 [1, 0]
    (shapeCast S2048x13344 (A1 m c) Facts₀.shapeCasts_S1x2048x13344_S2048x13344) Facts₀.transposes_S2048x13344_S13344x2048_1_0 := by
  show StableHlo.after hostOps0 (fun b => m (c, b)) _ = _
  simp only [hostOps0]
  after_results
  all_goals rfl

theorem rows_eq : (V m c main_v2 : Vec Ideal S4x3072 .f32) = shapeCast S4x3072 (A2 m c) Facts₀.shapeCasts_S1x4x3072_S4x3072 := by
  show StableHlo.after hostOps0 (fun b => m (c, b)) _ = _
  simp only [hostOps0]
  after_results
  all_goals rfl

theorem bias_eq : (V m c main_v4 : Vec Ideal S1x3072 .f32)
    = broadcastInDim S1x3072 ![1] Facts₀.bcast_S3072_S1x3072_1 (shapeCast S3072 (A3 m c) Facts₀.shapeCasts_S1x3072_S3072) := by
  show StableHlo.after hostOps0 (fun b => m (c, b)) _ = _
  simp only [hostOps0]
  after_results
  all_goals rfl

theorem state_eq : (V m c main_v6 : Vec Ideal S3x128x3072 .f32)
    = transpose S3x128x3072 [1, 0, 2] (shapeCast S128x3x3072 (A4 m c) Facts₀.shapeCasts_S1x128x3x3072_S128x3x3072) Facts₀.transposes_S128x3x3072_S3x128x3072_1_0_2 := by
  show StableHlo.after hostOps0 (fun b => m (c, b)) _ = _
  simp only [hostOps0]
  after_results
  all_goals rfl

theorem turned_at (a : Vec Ideal S1x2048x13344 .f32) (r : Fin 13344) (e : Fin 2048) :
    @Eq EReal ((transpose S13344x2048 [1, 0] (shapeCast S2048x13344 a Facts₀.shapeCasts_S1x2048x13344_S2048x13344)
      Facts₀.transposes_S2048x13344_S13344x2048_1_0 : Vec Ideal S13344x2048 .f32) (ix2 r e)) (a (ix3 0 e r)) := by
  pointwise

theorem dropped_at (a : Vec Ideal S1x4x3072 .f32) (k : Fin 4) (j : Fin 3072) :
    @Eq EReal ((shapeCast S4x3072 a Facts₀.shapeCasts_S1x4x3072_S4x3072 : Vec Ideal S4x3072 .f32) (ix2 k j)) (a (ix3 0 k j)) := by
  pointwise

theorem bias_at (a : Vec Ideal S1x3072 .f32) (j : Fin 3072) :
    @Eq EReal ((broadcastInDim S1x3072 ![1] Facts₀.bcast_S3072_S1x3072_1 (shapeCast S3072 a Facts₀.shapeCasts_S1x3072_S3072) : Vec Ideal S1x3072 .f32) (ix2 0 j)) (a (ix2 0 j)) := by
  pointwise

theorem state_at (a : Vec Ideal S1x128x3x3072 .f32) (k : Fin 3) (b : Fin 128) (j : Fin 3072) :
    @Eq EReal ((transpose S3x128x3072 [1, 0, 2] (shapeCast S128x3x3072 a Facts₀.shapeCasts_S1x128x3x3072_S128x3x3072)
      Facts₀.transposes_S128x3x3072_S3x128x3072_1_0_2 : Vec Ideal S3x128x3072 .f32) (ix3 k b j)) (a (ix4 0 b k j)) := by
  pointwise

variable (t : Fin cfg0.N) (q : Fin 1024)

/-- A point's column among all. -/
abbrev col : Fin 3072 := ⟨1024 * t.val + q.val, by have := lt_N t; omega⟩

theorem blk_0 (r : Fin 1024) (e : Fin 2048) : @Eq EReal ((iblk m c 0 t : Vec Ideal S1024x2048 .bf16) (ix2 r e)) (A0 m c (ix2 r e)) := by
  show @Eq EReal _ ((m ((c : Thread nD τ).loc main_arg0) : Vec Ideal S1024x2048 .bf16) (ix2 r e))
  rw [← V_main_arg0 m c]
  unfold iblk
  rw [View.read_apply]
  show V m c main_arg0 _ = V m c main_arg0 _
  congr 1
  funext a
  apply Fin.ext
  match a with
  | ⟨0, _⟩ => show win0_0.index t 0 * 1024 + 1 * r.val = r.val; rw [(index_0 t).1]; omega
  | ⟨1, _⟩ => show win0_0.index t 1 * 2048 + 1 * e.val = e.val; rw [(index_0 t).2]; omega

theorem blk_1 (e : Fin 2048) :
    @Eq EReal ((X0_1 m c t : Vec Ideal S1024x2048 .f32) (ix2 q e)) (A1 m c (ix3 0 e ⟨2048 + (col t q).val, by omega⟩)) := by
  have ht := lt_N t
  refine Eq.trans ?_ ((congrFun (weights_eq m c) (ix2 ⟨2048 + (1024 * t.val + q.val), by omega⟩ e)).trans (turned_at _ _ e))
  unfold X0_1 Pipeline.Window.fill
  rw [dif_pos (moved0_1 t (ix2 q e))]
  unfold iblk
  rw [View.read_apply]
  show V m c main_v1 _ = V m c main_v1 _
  congr 1
  funext a
  apply Fin.ext
  match a with
  | ⟨0, _⟩ => show win0_1.index t 0 * 1024 + 1 * q.val = 2048 + (1024 * t.val + q.val); rw [(index_1 t).1]; omega
  | ⟨1, _⟩ => show win0_1.index t 1 * 2048 + 1 * e.val = e.val; rw [(index_1 t).2]; omega

theorem blk_2 (k : Fin 4) : @Eq EReal ((iblk m c 2 t : Vec Ideal S4x1024 .f32) (ix2 k q)) (A2 m c (ix3 0 k (col t q))) := by
  refine Eq.trans ?_ ((congrFun (rows_eq m c) (ix2 k (col t q))).trans (dropped_at _ k _))
  unfold iblk
  rw [View.read_apply]
  show V m c main_v2 _ = V m c main_v2 _
  congr 1
  funext a
  apply Fin.ext
  match a with
  | ⟨0, _⟩ => show win0_2.index t 0 * 4 + 1 * k.val = k.val; rw [(index_2 t).1]; omega
  | ⟨1, _⟩ => show win0_2.index t 1 * 1024 + 1 * q.val = 1024 * t.val + q.val; rw [(index_2 t).2]; omega

theorem blk_3 : @Eq EReal ((iblk m c 3 t : Vec Ideal S1x1024 .f32) (ix2 0 q)) (A3 m c (ix2 0 (col t q))) := by
  refine Eq.trans ?_ ((congrFun (bias_eq m c) (ix2 0 (col t q))).trans (bias_at _ _))
  unfold iblk
  rw [View.read_apply]
  show V m c main_v4 _ = V m c main_v4 _
  congr 1
  funext a
  apply Fin.ext
  match a with
  | ⟨0, _⟩ => show win0_3.index t 0 * 1 + 1 * 0 = 0; rw [(index_3 t).1]
  | ⟨1, _⟩ => show win0_3.index t 1 * 1024 + 1 * q.val = 1024 * t.val + q.val; rw [(index_3 t).2]; omega

theorem blk_4 (k : Fin 3) (b : Fin 128) : @Eq EReal ((iblk m c 4 t : Vec Ideal S3x128x1024 .f32) (ix3 k b q)) (A4 m c (ix4 0 b k (col t q))) := by
  refine Eq.trans ?_ ((congrFun (state_eq m c) (ix3 k b (col t q))).trans (state_at _ k b _))
  unfold iblk
  rw [View.read_apply]
  show V m c main_v6 _ = V m c main_v6 _
  congr 1
  funext a
  apply Fin.ext
  match a with
  | ⟨0, _⟩ => show win0_4.index t 0 * 3 + 1 * k.val = k.val; rw [(index_4 t).1]; omega
  | ⟨1, _⟩ => show win0_4.index t 1 * 128 + 1 * b.val = b.val; rw [(index_4 t).2.1]; omega
  | ⟨2, _⟩ => show win0_4.index t 2 * 1024 + 1 * q.val = 1024 * t.val + q.val; rw [(index_4 t).2.2]; omega

/-- A point's sequences are those of the arguments. -/
theorem seq_at (b : Fin 128) (n : ℕ) :
    seq (iblk m c 0 t) (X0_1 m c t) (rowOf (iblk m c 4 t)) b n q = sq (A0 m c) (A1 m c) (A4 m c) b n (col t q) := by
  unfold seq sq
  by_cases h3 : n < 3
  · rw [dif_pos h3, dif_pos h3]
    exact blk_4 m c t q ⟨n, h3⟩ b
  · rw [dif_neg h3, dif_neg h3]
    by_cases h : n - 3 < 8
    · rw [dif_pos h, dif_pos h]
      unfold pr pj
      refine Finset.sum_congr rfl fun e _ => ?_
      exact congrArg₂ (fun a b : EReal => a * b) (blk_0 m c t _ e) (blk_1 m c t q e)
    · rw [dif_neg h, dif_neg h]

end Kernel

section Results

variable (m : (ℓ : Loc nD τ sig) → Buf (Elt Ideal) ℓ) (c : Dev nD)

/-- The kernel's first result. -/
theorem kernelY (b : Fin 128) (l : Fin 8) (J : Fin 3072) :
    @Eq EReal ((dats m 0 c).arrAt 5 cfg0.N (ix2 (⟨b.val * 8 + l.val, by omega⟩ : Fin 1024) J))
      (gated (fun n => sq (A0 m c) (A1 m c) (A4 m c) b (l.val + n) J) (A2 m c (ix3 0 0 J)) (A2 m c (ix3 0 1 J)) (A2 m c (ix3 0 2 J)) (A2 m c (ix3 0 3 J)) (A3 m c (ix2 0 J))) := by
  have hn : J.val / 1024 < cfg0.N := by rw [show cfg0.N = 3 from N_0]; omega
  have e := congrFun (Cert.Kernel4Ideal.Value.blocks5 m c ⟨J.val / 1024, hn⟩ (flush0_5 _)) (ix2 (⟨b.val * 8 + l.val, by omega⟩ : Fin 1024) (⟨J.val % 1024, by omega⟩ : Fin 1024))
  rw [Cert.Kernel4Ideal.Value.flushed5_A, View.read_apply] at e
  have hi : ((cfg0.win 5).blk ⟨J.val / 1024, hn⟩).view.emb (ix2 (⟨b.val * 8 + l.val, by omega⟩ : Fin 1024) (⟨J.val % 1024, by omega⟩ : Fin 1024))
      = ix2 (⟨b.val * 8 + l.val, by omega⟩ : Fin 1024) J := by
    funext a
    apply Fin.ext
    match a with
    | ⟨0, _⟩ => show win0_5.index ⟨J.val / 1024, hn⟩ 0 * 1024 + 1 * (b.val * 8 + l.val) = b.val * 8 + l.val; rw [(index_5 _).1]; omega
    | ⟨1, _⟩ => show win0_5.index ⟨J.val / 1024, hn⟩ 1 * 1024 + 1 * (J.val % 1024) = J.val; rw [(index_5 _).2]; show J.val / 1024 * 1024 + 1 * (J.val % 1024) = J.val; omega
  rw [hi] at e
  refine e.trans ?_
  have hJ : col ⟨J.val / 1024, hn⟩ ⟨J.val % 1024, by omega⟩ = J := Fin.ext (Nat.div_add_mod _ _)
  refine (out5_A _ _ _ _ _ _ _ _ _ _ _ _ _ _ _ _ _ _ _ _ _ c _ b l _).trans ?_
  rw [show (fun n => seq (iblk m c 0 ⟨J.val / 1024, hn⟩) (X0_1 m c ⟨J.val / 1024, hn⟩) (rowOf (iblk m c 4 ⟨J.val / 1024, hn⟩)) b (l.val + n) ⟨J.val % 1024, by omega⟩)
      = fun n => sq (A0 m c) (A1 m c) (A4 m c) b (l.val + n) J from funext fun n => (seq_at m c _ _ b _).trans (by rw [hJ])]
  rw [show @Eq EReal _ _ from blk_2 m c ⟨J.val / 1024, hn⟩ ⟨J.val % 1024, by omega⟩ 0, show @Eq EReal _ _ from blk_2 m c ⟨J.val / 1024, hn⟩ ⟨J.val % 1024, by omega⟩ 1,
    show @Eq EReal _ _ from blk_2 m c ⟨J.val / 1024, hn⟩ ⟨J.val % 1024, by omega⟩ 2, show @Eq EReal _ _ from blk_2 m c ⟨J.val / 1024, hn⟩ ⟨J.val % 1024, by omega⟩ 3,
    show @Eq EReal _ _ from blk_3 m c ⟨J.val / 1024, hn⟩ ⟨J.val % 1024, by omega⟩, hJ]

/-- The kernel's second result. -/
theorem kernelN (k : Fin 3) (b : Fin 128) (J : Fin 3072) :
    @Eq EReal ((dats m 0 c).arrAt 6 cfg0.N (ix3 k b J)) (sq (A0 m c) (A1 m c) (A4 m c) b (8 + k.val) J) := by
  have hn : J.val / 1024 < cfg0.N := by rw [show cfg0.N = 3 from N_0]; omega
  have e := congrFun (Cert.Kernel4Ideal.Value.blocks6 m c ⟨J.val / 1024, hn⟩ (flush0_6 _)) (ix3 k b (⟨J.val % 1024, by omega⟩ : Fin 1024))
  rw [Cert.Kernel4Ideal.Value.flushed6_A, View.read_apply] at e
  have hi : ((cfg0.win 6).blk ⟨J.val / 1024, hn⟩).view.emb (ix3 k b (⟨J.val % 1024, by omega⟩ : Fin 1024)) = ix3 k b J := by
    funext a
    apply Fin.ext
    match a with
    | ⟨0, _⟩ => show win0_6.index ⟨J.val / 1024, hn⟩ 0 * 3 + 1 * k.val = k.val; rw [(index_6 _).1]; omega
    | ⟨1, _⟩ => show win0_6.index ⟨J.val / 1024, hn⟩ 1 * 128 + 1 * b.val = b.val; rw [(index_6 _).2.1]; omega
    | ⟨2, _⟩ => show win0_6.index ⟨J.val / 1024, hn⟩ 2 * 1024 + 1 * (J.val % 1024) = J.val; rw [(index_6 _).2.2]; show J.val / 1024 * 1024 + 1 * (J.val % 1024) = J.val; omega
  rw [hi] at e
  refine e.trans ?_
  have hJ : col ⟨J.val / 1024, hn⟩ ⟨J.val % 1024, by omega⟩ = J := Fin.ext (Nat.div_add_mod _ _)
  exact (out6_A _ _ _ _ _ _ _ _ _ _ _ _ _ _ _ _ _ _ _ _ _ c _ k b _).trans ((seq_at m c _ _ b _).trans (by rw [hJ]))

end Results

end Cert.Conv
end
-- ==== Proof.ConvFinish.lean ====
module

public import proofs.«01_k».proof.Defs
public import proofs.«01_k».proof.Proof.ConvKernel
public import proofs.«01_k».proof.Proof.ShortOut
public import proofs.«01_k».proof.Proof.ShortFinish
public import proofs.«01_k».proof.Proof.Gen.Pre_conv_finite

/-!
The convolution's call: the halved weights and bias with the tangent meet the logistic gate on real numbers, the
precondition read, and the two programs' results met.
-/

@[expose] public section

set_option maxRecDepth 16384

noncomputable section

namespace Cert.Conv

open Idealize.ShloMosaic Idealize.ShloMosaic.TcCoe Idealize.ShloMosaic.StableHlo Idealize.SL.Sem Idealize.ShloMosaic.Tactic

/-- On real numbers the kernel's gated half is the gate of the whole convolution. -/
theorem gated_cv (f : ℕ → EReal) (w0 w1 w2 w3 b : EReal) (hf : ∀ n, ∃ r : ℝ, f n = r) (h0 : ∃ r : ℝ, w0 = r) (h1 : ∃ r : ℝ, w1 = r) (h2 : ∃ r : ℝ, w2 = r)
    (h3 : ∃ r : ℝ, w3 = r) (hb : ∃ r : ℝ, b = r) :
    gated f w0 w1 w2 w3 b = cv f w0 w1 w2 w3 b * Ideal.div 1 (1 + Ideal.exp (-cv f w0 w1 w2 w3 b)) := by
  choose x hx using hf
  obtain ⟨y0, rfl⟩ := h0
  obtain ⟨y1, rfl⟩ := h1
  obtain ⟨y2, rfl⟩ := h2
  obtain ⟨y3, rfl⟩ := h3
  obtain ⟨c, rfl⟩ := hb
  have e1 : cv f y0 y1 y2 y3 c = ((x 0 * y0 + x 1 * y1 + x 2 * y2 + x 3 * y3 + c : ℝ) : EReal) := by
    unfold cv
    simp only [hx, EReal.coe_mul, EReal.coe_add]
  have e2 : half f y0 y1 y2 y3 c = (((x 0 * y0 + x 1 * y1 + x 2 * y2 + x 3 * y3 + c) / 2 : ℝ) : EReal) := by
    unfold half
    simp only [hx, Cert.Short.half_word, ← EReal.coe_mul, ← EReal.coe_add]
    congr 1
    ring
  unfold gated
  rw [e1, e2]
  generalize (x 0 * y0 + x 1 * y1 + x 2 * y2 + x 3 * y3 + c) = z
  have e3 : Ideal.div 1 (1 + Ideal.exp (-(z : EReal))) = (((1 + Real.exp (-z))⁻¹ : ℝ) : EReal) := Ideal.logistic_coe z
  rw [e3, Ideal.tanh_coe, ← EReal.coe_mul, ← EReal.coe_mul, ← EReal.coe_add, Cert.Short.gate_real]

section Real

open Cert.Reference4Ideal

variable (a0 : FVec Ideal S1024x2048 .bf16) (a1 : FVec Ideal S1x2048x13344 .f32) (a4 : FVec Ideal S1x128x3x3072 .f32)

/-- Of real arrays a sequence is real. -/
theorem sq_real (h0 : ∀ i, ∃ r : ℝ, a0 i = (r : EReal)) (h1 : ∀ i, ∃ r : ℝ, a1 i = (r : EReal)) (h4 : ∀ i, ∃ r : ℝ, a4 i = (r : EReal)) (b : Fin 128) (n : ℕ) (j : Fin 3072) :
    ∃ r : ℝ, sq a0 a1 a4 b n j = (r : EReal) := by
  unfold sq
  by_cases h3 : n < 3
  · rw [dif_pos h3]
    exact h4 _
  · rw [dif_neg h3]
    by_cases h : n - 3 < 8
    · rw [dif_pos h]
      choose x hx using h0
      choose y hy using h1
      refine ⟨∑ e : Fin 2048, x (ix2 ⟨b.val * 8 + (n - 3), by omega⟩ e) * y (ix3 0 e ⟨2048 + j.val, by omega⟩), ?_⟩
      unfold pj
      rw [Cert.Short.coe_sum]
      exact Finset.sum_congr rfl fun e _ => by rw [hx, hy, EReal.coe_mul]
    · rw [dif_neg h]
      exact ⟨0, rfl⟩

end Real

section Pre

open Cert.Pre_conv_finite Cert.Pre_conv_finite.Facts

attribute [local instance] Cert.Pre_conv_finite.Gen.facts

/-- The tests on the five arrays, as the precondition writes them. -/
def ok0 (a : FVec Ideal S1024x2048 .bf16) : IVec S1024x2048 1 :=
  cmpf .olt (Host.absf a) (broadcastInDim S1024x2048 ![] bcast_S_S1024x2048 (constant S_ .bf16 0x7F80#16))
def ok1 (a : FVec Ideal S1x2048x13344 .f32) : IVec S1x2048x13344 1 :=
  cmpf .olt (Host.absf a) (broadcastInDim S1x2048x13344 ![] bcast_S_S1x2048x13344 (constant S_ .f32 0x7F800000#32))
def ok2 (a : FVec Ideal S1x4x3072 .f32) : IVec S1x4x3072 1 :=
  cmpf .olt (Host.absf a) (broadcastInDim S1x4x3072 ![] bcast_S_S1x4x3072 (constant S_ .f32 0x7F800000#32))
def ok3 (a : FVec Ideal S1x3072 .f32) : IVec S1x3072 1 :=
  cmpf .olt (Host.absf a) (broadcastInDim S1x3072 ![] bcast_S_S1x3072 (constant S_ .f32 0x7F800000#32))
def ok4 (a : FVec Ideal S1x128x3x3072 .f32) : IVec S1x128x3x3072 1 :=
  cmpf .olt (Host.absf a) (broadcastInDim S1x128x3x3072 ![] bcast_S_S1x128x3x3072 (constant S_ .f32 0x7F800000#32))

theorem ok0_at (a : FVec Ideal S1024x2048 .bf16) (t : Fin 1024) (e : Fin 2048) :
    ok0 a (ix2 t e) = Ideal.cmp .olt (max (a (ix2 t e)) (-(a (ix2 t e)))) ⊤ := by
  rw [← Cert.Short.inf_word16]
  unfold ok0
  pointwise
  rfl

theorem ok1_at (a : FVec Ideal S1x2048x13344 .f32) (b : Fin 1) (e : Fin 2048) (r : Fin 13344) :
    ok1 a (ix3 b e r) = Ideal.cmp .olt (max (a (ix3 b e r)) (-(a (ix3 b e r)))) ⊤ := by
  rw [← Cert.Finish.inf_word]
  unfold ok1
  pointwise
  rfl

theorem ok2_at (a : FVec Ideal S1x4x3072 .f32) (b : Fin 1) (e : Fin 4) (r : Fin 3072) :
    ok2 a (ix3 b e r) = Ideal.cmp .olt (max (a (ix3 b e r)) (-(a (ix3 b e r)))) ⊤ := by
  rw [← Cert.Finish.inf_word]
  unfold ok2
  pointwise
  rfl

theorem ok3_at (a : FVec Ideal S1x3072 .f32) (b : Fin 1) (r : Fin 3072) :
    ok3 a (ix2 b r) = Ideal.cmp .olt (max (a (ix2 b r)) (-(a (ix2 b r)))) ⊤ := by
  rw [← Cert.Finish.inf_word]
  unfold ok3
  pointwise
  rfl

theorem ok4_at (a : FVec Ideal S1x128x3x3072 .f32) (b : Fin 1) (d : Fin 128) (e : Fin 3) (r : Fin 3072) :
    ok4 a (ix4 b d e r) = Ideal.cmp .olt (max (a (ix4 b d e r)) (-(a (ix4 b d e r)))) ⊤ := by
  rw [← Cert.Finish.inf_word]
  unfold ok4
  pointwise
  rfl

theorem five (a0 a1 a2 a3 a4 : IVec S_ 1) (e : concatenate S5 0 [⟨S1, broadcastInDim S1 ![] bcast_S_S1 a0⟩, ⟨S1, broadcastInDim S1 ![] bcast_S_S1 a1⟩,
      ⟨S1, broadcastInDim S1 ![] bcast_S_S1 a2⟩, ⟨S1, broadcastInDim S1 ![] bcast_S_S1 a3⟩, ⟨S1, broadcastInDim S1 ![] bcast_S_S1 a4⟩] concatenates_S1_S1_S1_S1_S1_S5_d0
    = (fun _ => 1#1)) : a0 ix0 = 1#1 ∧ a1 ix0 = 1#1 ∧ a2 ix0 = 1#1 ∧ a3 ix0 = 1#1 ∧ a4 ix0 = 1#1 := by
  refine ⟨Eq.trans ?_ (congrFun e (ix1 (0 : Fin 5))), Eq.trans ?_ (congrFun e (ix1 (1 : Fin 5))), Eq.trans ?_ (congrFun e (ix1 (2 : Fin 5))),
    Eq.trans ?_ (congrFun e (ix1 (3 : Fin 5))), Eq.trans ?_ (congrFun e (ix1 (4 : Fin 5)))⟩
  · exact congrArg a0 (Subsingleton.elim _ _)
  · exact congrArg a1 (Subsingleton.elim _ _)
  · exact congrArg a2 (Subsingleton.elim _ _)
  · exact congrArg a3 (Subsingleton.elim _ _)
  · exact congrArg a4 (Subsingleton.elim _ _)

/-- Under the precondition the five arrays are reals. -/
theorem reals (a0 : FVec Ideal S1024x2048 .bf16) (a1 : FVec Ideal S1x2048x13344 .f32) (a2 : FVec Ideal S1x4x3072 .f32) (a3 : FVec Ideal S1x3072 .f32)
    (a4 : FVec Ideal S1x128x3x3072 .f32) (e : Cert.Pre_conv_finite.fn (F := Ideal) a0 a1 a2 a3 a4 = fun _ => 1#1) :
    (∀ i, ∃ r : ℝ, a0 i = (r : EReal)) ∧ (∀ i, ∃ r : ℝ, a1 i = (r : EReal)) ∧ (∀ i, ∃ r : ℝ, a2 i = (r : EReal)) ∧ (∀ i, ∃ r : ℝ, a3 i = (r : EReal))
      ∧ ∀ i, ∃ r : ℝ, a4 i = (r : EReal) := by
  obtain ⟨h0, h1, h2, h3, h4⟩ := five _ _ _ _ _ e
  have e0 : ∀ i, ok0 a0 i = 1#1 := fun i => Host.reduce_andi_all _ _ _ _ _ h0 i
  have e1 : ∀ i, ok1 a1 i = 1#1 := fun i => Host.reduce_andi_all _ _ _ _ _ h1 i
  have e2 : ∀ i, ok2 a2 i = 1#1 := fun i => Host.reduce_andi_all _ _ _ _ _ h2 i
  have e3 : ∀ i, ok3 a3 i = 1#1 := fun i => Host.reduce_andi_all _ _ _ _ _ h3 i
  have e4 : ∀ i, ok4 a4 i = 1#1 := fun i => Host.reduce_andi_all _ _ _ _ _ h4 i
  refine ⟨fun i => ?_, fun i => ?_, fun i => ?_, fun i => ?_, fun i => ?_⟩
  · rw [eq_ix2 i]
    exact Cert.Finish.real_of_abs _ ((ok0_at a0 _ _).symm.trans (e0 _))
  · rw [eq_ix3 i]
    exact Cert.Finish.real_of_abs _ ((ok1_at a1 _ _ _).symm.trans (e1 _))
  · rw [eq_ix3 i]
    exact Cert.Finish.real_of_abs _ ((ok2_at a2 _ _ _).symm.trans (e2 _))
  · rw [eq_ix2 i]
    exact Cert.Finish.real_of_abs _ ((ok3_at a3 _ _).symm.trans (e3 _))
  · rw [eq_ix4 i]
    exact Cert.Finish.real_of_abs _ ((ok4_at a4 _ _ _ _).symm.trans (e4 _))

end Pre

section Ref

open Cert.Reference4Ideal Cert.Reference4Ideal.Gen

variable (m : (ℓ : Loc nD τ sig) → Buf (Elt Ideal) ℓ)

/-- The reference runs, leaves its arguments and ends with its counters at zero. -/
theorem frame (ρ : Dev nD → PrngReg) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run _ _ _).mono (fun r h => ⟨fun c => (h c).2.2, sem_eq_zero_of_no_sems (by decide) r.2⟩) (Cert.Reference4Ideal.Value.run m ρ)

variable (a0 : FVec Ideal S1024x2048 .bf16) (a1 : FVec Ideal S1x2048x13344 .f32) (a2 : FVec Ideal S1x4x3072 .f32) (a3 : FVec Ideal S1x3072 .f32)
  (a4 : FVec Ideal S1x128x3x3072 .f32)

theorem seqR_at (b : Fin 128) (n : ℕ) (hn : n < 11) (j : Fin 3072) :
    catR (projR a0 a1) a4 (ix3 b (⟨n, hn⟩ : Fin 11) j) = sq a0 a1 a4 b n j := by
  rw [catR_at]
  unfold sq
  by_cases h3 : n < 3
  · rw [dif_pos h3, dif_pos h3]
  · rw [dif_neg h3, dif_neg h3]
    by_cases h : n - 3 < 8
    · rw [dif_pos h, dif_pos h]
      exact projR_at a0 a1 b ⟨n - 3, h⟩ _
    · rw [dif_neg h, dif_neg h]

theorem refY (b : Fin 128) (l : Fin 8) (j : Fin 3072) :
    yR (cvR (catR (projR a0 a1) a4) a2 a3) (ix2 (⟨b.val * 8 + l.val, by omega⟩ : Fin 1024) j)
      = cv (fun n => sq a0 a1 a4 b (l.val + n) j) (a2 (ix3 0 0 j)) (a2 (ix3 0 1 j)) (a2 (ix3 0 2 j)) (a2 (ix3 0 3 j)) (a3 (ix2 0 j))
        * Ideal.div 1 (1 + Ideal.exp (-cv (fun n => sq a0 a1 a4 b (l.val + n) j) (a2 (ix3 0 0 j)) (a2 (ix3 0 1 j)) (a2 (ix3 0 2 j)) (a2 (ix3 0 3 j)) (a3 (ix2 0 j)))) := by
  rw [yR_at, cvR_at _ a2 a3 b l j _ (fun n hn => seqR_at a0 a1 a4 b (l.val + n) (by omega) j)]

theorem refN (k : Fin 3) (b : Fin 128) (j : Fin 3072) : nR (catR (projR a0 a1) a4) (ix3 k b j) = sq a0 a1 a4 b (8 + k.val) j := by
  rw [nR_at, seqR_at]

end Ref

/-- The kernel and the reference end with the same two results. -/
theorem algebraic : Cert.algebraic_Kernel4Ideal_Reference4Ideal_pre_conv_finite (hKernel4Ideal := Cert.Kernel4Ideal.Gen.facts)
    (hReference4Ideal := Cert.Reference4Ideal.Gen.facts) (hPre_conv_finite := Cert.Pre_conv_finite.Gen.facts) := by
  intro m g m' g' hp hs
  refine ⟨fun c => (Cert.Kernel4Ideal.Gen.dats m 0 c).arrAt 5 Cert.Kernel4Ideal.cfg0.N, fun c => (Cert.Kernel4Ideal.Gen.dats m 0 c).arrAt 6 Cert.Kernel4Ideal.cfg0.N,
    Cert.Kernel4Ideal.Value.run_blocks m g, ?_⟩
  refine (θ_run _ _ _).mono (fun r h c => ⟨(h c).1.trans ?_, (h c).2.1.trans ?_, (h c).2.2⟩) (Cert.Reference4Ideal.Value.run m' g')
  all_goals obtain ⟨h0, h1, h2, h3, h4⟩ := hs c
  · show yR (cvR (catR (projR (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1)))
      (m' ((c.tc : Thread Cert.Reference4Ideal.nD Cert.Reference4Ideal.τ).loc Cert.Reference4Ideal.main_arg4)))
      (m' ((c.tc : Thread Cert.Reference4Ideal.nD Cert.Reference4Ideal.τ).loc Cert.Reference4Ideal.main_arg2)) (m' ((c.tc : Thread Cert.Reference4Ideal.nD Cert.Reference4Ideal.τ).loc Cert.Reference4Ideal.main_arg3))) = _
    rw [h0, h1, h2, h3, h4]
    funext i
    obtain ⟨b, l, J, rfl⟩ : ∃ (b : Fin 128) (l : Fin 8) (J : Fin 3072), i = ix2 (⟨b.val * 8 + l.val, by omega⟩ : Fin 1024) J := by
      have hl : (i 0).val < 1024 := (i 0).isLt
      refine ⟨⟨(i 0).val / 8, by omega⟩, ⟨(i 0).val % 8, by omega⟩, i 1, (eq_ix2 i).trans ?_⟩
      have e : i 0 = (⟨(i 0).val / 8 * 8 + (i 0).val % 8, by omega⟩ : Fin 1024) := Fin.ext (show (i 0).val = (i 0).val / 8 * 8 + (i 0).val % 8 by omega)
      exact congrArg (fun r : Fin 1024 => ix2 r (i 1)) e
    obtain ⟨e0, e1, e2, e3, e4⟩ := reals _ _ _ _ _ (hp c)
    refine (refY _ _ _ _ _ b l J).trans (Eq.trans ?_ (kernelY m c b l J).symm)
    exact (gated_cv _ _ _ _ _ _ (fun n => sq_real _ _ _ e0 e1 e4 b _ J) (e2 _) (e2 _) (e2 _) (e2 _) (e3 _)).symm
  · show nR (catR (projR (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1)))
      (m' ((c.tc : Thread Cert.Reference4Ideal.nD Cert.Reference4Ideal.τ).loc Cert.Reference4Ideal.main_arg4))) = _
    rw [h0, h1, h4]
    funext i
    rw [show i = ix3 (i 0) (i 1) (i 2) from eq_ix3 i]
    exact (refN _ _ _ (i 0) (i 1) (i 2)).trans (kernelN m c (i 0) (i 1) (i 2)).symm

end Cert.Conv

end
-- ==== Proof.MergeSample.lean ====
module

public import proofs.«01_k».proof.Proof.Merge
public import proofs.«01_k».proof.Proof.Gen.Kernel5Ideal.Value
public import proofs.«01_k».proof.Proof.Gen.Reference5Ideal.Run

@[expose] public section

set_option maxRecDepth 16384

noncomputable section

/-! The merge on the sample: the same sums and the same norm, of 1024 rows. -/

namespace Cert.MergeSample

open Idealize.ShloMosaic Idealize.ShloMosaic.TcCoe Idealize.ShloMosaic.Tactic Idealize.SL.Sem

open Cert.Merge (nm)

/-- The residual sum of a row, of the two groups' outputs there. -/
def rs (ys yc : FVec Ideal Cert.Kernel5Ideal.S1024x2048 .bf16) (x : FVec Ideal Cert.Kernel5Ideal.S1024x2048 .f32) (w : FVec Ideal Cert.Kernel5Ideal.S4096x2048 .bf16) (t : Fin 1024) (j : Fin 2048) : EReal :=
  Cert.Merge.rs (fun i => ys (ix2 t (i 1))) (fun i => yc (ix2 t (i 1))) (fun i => x (ix2 t (i 1))) w 0 j

section Kernel

open Cert.Kernel5Ideal Cert.Kernel5Ideal.Gen

/-- What a point writes, at an index, of its blocks. -/
theorem pay_at (x0 x1 : FVec Ideal S512x2048 .bf16) (x2 : FVec Ideal S512x2048 .f32) (x3 x4 : FVec Ideal S2048x2048 .bf16) (x5 : FVec Ideal S1x2048 .f32)
    (ys yc : FVec Ideal S1024x2048 .bf16) (x : FVec Ideal S1024x2048 .f32) (w : FVec Ideal S4096x2048 .bf16) (f : FVec Ideal S2048 .f32)
    (r : Fin 512) (t : Fin 1024) (j : Fin 2048)
    (h0 : ∀ k, x0 (ix2 r k) = ys (ix2 t k)) (h1 : ∀ k, x1 (ix2 r k) = yc (ix2 t k)) (h2 : ∀ k, x2 (ix2 r k) = x (ix2 t k))
    (h3 : ∀ k l : Fin 2048, x3 (ix2 k l) = w (ix2 ⟨k.val, by omega⟩ l)) (h4 : ∀ k l : Fin 2048, x4 (ix2 k l) = w (ix2 ⟨2048 + k.val, by omega⟩ l))
    (h5 : ∀ l, x5 (ix2 0 l) = f (ix1 l)) :
    (out0_6 (F := Ideal) x0 x1 x2 x3 x4 x5) (ix2 r j) = nm (rs ys yc x w t) f j :=
  Cert.Merge.pay_at x0 x1 x2 x3 x4 x5 (fun i => ys (ix2 t (i 1))) (fun i => yc (ix2 t (i 1))) (fun i => x (ix2 t (i 1))) w f r 0 j h0 h1 h2 h3 h4 h5

variable (m : (ℓ : Loc nD τ sig) → Buf (Elt Ideal) ℓ) (c : Dev nD)

theorem index_0 : ∀ t : Fin cfg0.N, win0_0.index t 0 = t.val ∧ win0_0.index t 1 = 0 := by decide +kernel
theorem index_1 : ∀ t : Fin cfg0.N, win0_1.index t 0 = t.val ∧ win0_1.index t 1 = 0 := by decide +kernel
theorem index_2 : ∀ t : Fin cfg0.N, win0_2.index t 0 = t.val ∧ win0_2.index t 1 = 0 := by decide +kernel
theorem index_3 : ∀ t : Fin cfg0.N, win0_3.index t 0 = 0 ∧ win0_3.index t 1 = 0 := by decide +kernel
theorem index_4 : ∀ t : Fin cfg0.N, win0_4.index t 0 = 1 ∧ win0_4.index t 1 = 0 := by decide +kernel
theorem index_5 : ∀ t : Fin cfg0.N, win0_5.index t 0 = 0 ∧ win0_5.index t 1 = 0 := by decide +kernel
theorem index_6 : ∀ t : Fin cfg0.N, win0_6.index t 0 = t.val ∧ win0_6.index t 1 = 0 := by decide +kernel

theorem lt_N (t : Fin cfg0.N) : t.val < 2 := lt_of_lt_of_eq t.isLt (show cfg0.N = 2 from N_0)

theorem blk_0 (t : Fin cfg0.N) (r : Fin 512) (j : Fin 2048) :
    (iblk m c 0 t : Vec Ideal S512x2048 .bf16) (ix2 r j) = (V m c main_arg0 : Vec Ideal S1024x2048 .bf16) (ix2 ⟨512 * t.val + r.val, by have := lt_N t; omega⟩ j) := by
  unfold iblk
  rw [View.read_apply]
  show V m c main_arg0 _ = V m c main_arg0 _
  congr 1
  funext a
  apply Fin.ext
  match a with
  | ⟨0, _⟩ => show win0_0.index t 0 * 512 + 1 * r.val = 512 * t.val + r.val; rw [(index_0 t).1]; omega
  | ⟨1, _⟩ => show win0_0.index t 1 * 2048 + 1 * j.val = j.val; rw [(index_0 t).2]; omega

theorem blk_1 (t : Fin cfg0.N) (r : Fin 512) (j : Fin 2048) :
    (iblk m c 1 t : Vec Ideal S512x2048 .bf16) (ix2 r j) = (V m c main_arg1 : Vec Ideal S1024x2048 .bf16) (ix2 ⟨512 * t.val + r.val, by have := lt_N t; omega⟩ j) := by
  unfold iblk
  rw [View.read_apply]
  show V m c main_arg1 _ = V m c main_arg1 _
  congr 1
  funext a
  apply Fin.ext
  match a with
  | ⟨0, _⟩ => show win0_1.index t 0 * 512 + 1 * r.val = 512 * t.val + r.val; rw [(index_1 t).1]; omega
  | ⟨1, _⟩ => show win0_1.index t 1 * 2048 + 1 * j.val = j.val; rw [(index_1 t).2]; omega

theorem blk_2 (t : Fin cfg0.N) (r : Fin 512) (j : Fin 2048) :
    (iblk m c 2 t : Vec Ideal S512x2048 .f32) (ix2 r j) = (V m c main_arg2 : Vec Ideal S1024x2048 .f32) (ix2 ⟨512 * t.val + r.val, by have := lt_N t; omega⟩ j) := by
  unfold iblk
  rw [View.read_apply]
  show V m c main_arg2 _ = V m c main_arg2 _
  congr 1
  funext a
  apply Fin.ext
  match a with
  | ⟨0, _⟩ => show win0_2.index t 0 * 512 + 1 * r.val = 512 * t.val + r.val; rw [(index_2 t).1]; omega
  | ⟨1, _⟩ => show win0_2.index t 1 * 2048 + 1 * j.val = j.val; rw [(index_2 t).2]; omega

theorem blk_3 (t : Fin cfg0.N) (r : Fin 2048) (j : Fin 2048) :
    (iblk m c 3 t : Vec Ideal S2048x2048 .bf16) (ix2 r j) = (V m c main_arg3 : Vec Ideal S4096x2048 .bf16) (ix2 ⟨r.val, by have := lt_N t; omega⟩ j) := by
  unfold iblk
  rw [View.read_apply]
  show V m c main_arg3 _ = V m c main_arg3 _
  congr 1
  funext a
  apply Fin.ext
  match a with
  | ⟨0, _⟩ => show win0_3.index t 0 * 2048 + 1 * r.val = r.val; rw [(index_3 t).1]; omega
  | ⟨1, _⟩ => show win0_3.index t 1 * 2048 + 1 * j.val = j.val; rw [(index_3 t).2]; omega

theorem blk_4 (t : Fin cfg0.N) (r : Fin 2048) (j : Fin 2048) :
    (iblk m c 4 t : Vec Ideal S2048x2048 .bf16) (ix2 r j) = (V m c main_arg3 : Vec Ideal S4096x2048 .bf16) (ix2 ⟨2048 + r.val, by have := lt_N t; omega⟩ j) := by
  unfold iblk
  rw [View.read_apply]
  show V m c main_arg3 _ = V m c main_arg3 _
  congr 1
  funext a
  apply Fin.ext
  match a with
  | ⟨0, _⟩ => show win0_4.index t 0 * 2048 + 1 * r.val = 2048 + r.val; rw [(index_4 t).1]; omega
  | ⟨1, _⟩ => show win0_4.index t 1 * 2048 + 1 * j.val = j.val; rw [(index_4 t).2]; omega

theorem blk_5 (t : Fin cfg0.N) (r : Fin 1) (j : Fin 2048) :
    (iblk m c 5 t : Vec Ideal S1x2048 .f32) (ix2 r j) = (V m c main_v0 : Vec Ideal S1x2048 .f32) (ix2 ⟨r.val, by have := lt_N t; omega⟩ j) := by
  unfold iblk
  rw [View.read_apply]
  show V m c main_v0 _ = V m c main_v0 _
  congr 1
  funext a
  apply Fin.ext
  match a with
  | ⟨0, _⟩ => show win0_5.index t 0 * 1 + 1 * r.val = r.val; rw [(index_5 t).1]; omega
  | ⟨1, _⟩ => show win0_5.index t 1 * 2048 + 1 * j.val = j.val; rw [(index_5 t).2]; omega

theorem f_eq : (V m c main_v0 : Vec Ideal S1x2048 .f32) = broadcastInDim S1x2048 ![1] Cert.Kernel5Ideal.Facts₀.bcast_S2048_S1x2048_1 (m ((c : Thread nD τ).loc main_arg4)) := by
  show StableHlo.after hostOps0 (fun b => m (c, b)) _ = _
  simp only [hostOps0]
  after_results
  all_goals rfl

theorem f_at (f : FVec Ideal S2048 .f32) (l : Fin 2048) :
    (broadcastInDim S1x2048 ![1] Cert.Kernel5Ideal.Facts₀.bcast_S2048_S1x2048_1 f : Vec Ideal S1x2048 .f32) (ix2 0 l) = f (ix1 l) := by
  pointwise

/-- The kernel's result at an index. -/
theorem kernel_at (t : Fin 1024) (j : Fin 2048) :
    @Eq EReal ((dats m 0 c).arrAt 6 cfg0.N (ix2 t j))
      (nm (rs (m ((c : Thread nD τ).loc main_arg0)) (m ((c : Thread nD τ).loc main_arg1)) (m ((c : Thread nD τ).loc main_arg2)) (m ((c : Thread nD τ).loc main_arg3)) t)
        (m ((c : Thread nD τ).loc main_arg4)) j) := by
  have hn : t.val / 512 < cfg0.N := by rw [show cfg0.N = 2 from N_0]; omega
  have e := congrFun (Cert.Kernel5Ideal.Value.blocks6 m c ⟨t.val / 512, hn⟩ (flush0_6 _)) (ix2 (⟨t.val % 512, by omega⟩ : Fin 512) j)
  rw [Cert.Kernel5Ideal.Value.flushed6, View.read_apply] at e
  have hi : ((cfg0.win 6).blk ⟨t.val / 512, hn⟩).view.emb (ix2 (⟨t.val % 512, by omega⟩ : Fin 512) j) = ix2 t j := by
    funext a
    apply Fin.ext
    match a with
    | ⟨0, _⟩ => show win0_6.index ⟨t.val / 512, hn⟩ 0 * 512 + 1 * (t.val % 512) = t.val; rw [(index_6 _).1]; show t.val / 512 * 512 + 1 * (t.val % 512) = t.val; omega
    | ⟨1, _⟩ => show win0_6.index ⟨t.val / 512, hn⟩ 1 * 2048 + 1 * j.val = j.val; rw [(index_6 _).2]; omega
  rw [hi] at e
  refine e.trans ?_
  have ht : ∀ h, (⟨512 * (t.val / 512) + t.val % 512, h⟩ : Fin 1024) = t := fun h => Fin.ext (Nat.div_add_mod _ _)
  refine pay_at _ _ _ _ _ _ _ _ _ _ _ _ t j (fun k => ?_) (fun k => ?_) (fun k => ?_) (fun k l => ?_) (fun k l => ?_) (fun l => ?_)
  · refine (blk_0 m c _ _ k).trans ?_; rw [V_main_arg0, ht]
  · refine (blk_1 m c _ _ k).trans ?_; rw [V_main_arg1, ht]
  · refine (blk_2 m c _ _ k).trans ?_; rw [V_main_arg2, ht]
  · refine (blk_3 m c _ k l).trans ?_; rw [V_main_arg3]
  · refine (blk_4 m c _ k l).trans ?_; rw [V_main_arg3]
  · refine (blk_5 m c _ 0 l).trans ?_; rw [f_eq]; exact f_at _ l

end Kernel

section Ref

open Cert.Reference5Ideal Cert.Reference5Ideal.Gen

/-- The reference's residual sums and its norm of them, as it writes them. -/
def resR (ys yc : FVec Ideal S1024x2048 .bf16) (x : FVec Ideal S1024x2048 .f32) (w : FVec Ideal S4096x2048 .bf16) : FVec Ideal S128x8x2048 .f32 :=
  addf (shapeCast _ x shapeCasts_S1024x2048_S128x8x2048) (Host.dotGeneral dot_S128x8x4096_S4096x2048_S128x8x2048_2_0_01_1_n_n none (concatenate S128x8x4096 2 [⟨S128x8x2048, (shapeCast _ (extf .f32 ys bitsLt_bf16_f32) shapeCasts_S1024x2048_S128x8x2048)⟩, ⟨S128x8x2048, (shapeCast _ (extf .f32 yc bitsLt_bf16_f32) shapeCasts_S1024x2048_S128x8x2048)⟩] concatenates_S128x8x2048_S128x8x2048_S128x8x4096_d2) (extf .f32 w bitsLt_bf16_f32))
def outR (s : FVec Ideal S128x8x2048 .f32) (f : FVec Ideal S2048 .f32) : FVec Ideal S1024x2048 .f32 :=
  shapeCast _ (mulf (mulf s (broadcastInDim S128x8x2048 ![0, 1, 2] bcast_S128x8x1_S128x8x2048_0_1_2 (Host.rsqrt (addf (Host.divf (broadcastInDim S128x8x1 ![0, 1] bcast_S128x8_S128x8x1_0_1 (Host.reduceAdd (mulf s s) (constant S_ .f32 0x00000000#32) reducesTo_S128x8x2048_S128x8_d2 h_S_)) (broadcastInDim S128x8x1 ![] bcast_S_S128x8x1 (constant S_ .f32 0x45000000#32))) (broadcastInDim S128x8x1 ![] bcast_S_S128x8x1 (constant S_ .f32 0x358637BD#32)))))) (broadcastInDim S128x8x2048 ![0, 1, 2] bcast_S1x1x2048_S128x8x2048_0_1_2 (broadcastInDim S1x1x2048 ![2] bcast_S2048_S1x1x2048_2 f))) shapeCasts_S128x8x2048_S1024x2048

theorem resR_at (ys yc : FVec Ideal S1024x2048 .bf16) (x : FVec Ideal S1024x2048 .f32) (w : FVec Ideal S4096x2048 .bf16) (b : Fin 128) (l : Fin 8) (j : Fin 2048) :
    resR ys yc x w (ix3 b l j) = rs ys yc x w ⟨b.val * 8 + l.val, by omega⟩ j := by
  unfold resR
  pointwise
  rfl

theorem outR_at (s : FVec Ideal S128x8x2048 .f32) (f : FVec Ideal S2048 .f32) (t : Fin 1024) (j : Fin 2048) :
    outR s f (ix2 t j) = nm (fun k => s (ix3 ⟨t.val / 8, by omega⟩ ⟨t.val % 8, by omega⟩ k)) f j := by
  unfold outR
  pointwise
  rfl

/-- The reference's result at an index. -/
theorem ref_at (ys yc : FVec Ideal S1024x2048 .bf16) (x : FVec Ideal S1024x2048 .f32) (w : FVec Ideal S4096x2048 .bf16) (f : FVec Ideal S2048 .f32)
    (t : Fin 1024) (j : Fin 2048) : outR (resR ys yc x w) f (ix2 t j) = nm (rs ys yc x w t) f j := by
  rw [outR_at]
  refine congrArg (fun r => nm r f j) (funext fun k => ?_)
  rw [resR_at]
  exact congrArg (fun s => rs ys yc x w s k) (Fin.ext (Nat.div_add_mod' _ _))

variable (m : (ℓ : Loc nD τ sig) → Buf (Elt Ideal) ℓ)

/-- The reference runs, leaves its arguments and ends with its counters at zero. -/
theorem frame (ρ : Dev nD → PrngReg) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run _ _ _).mono (fun r h => ⟨fun c => (h c).2, sem_eq_zero_of_no_sems (by decide) r.2⟩) (Cert.Reference5Ideal.Value.run m ρ)

end Ref

/-- The kernel and the reference end with the same result. -/
theorem algebraic : Cert.algebraic_Kernel5Ideal_Reference5Ideal (hKernel5Ideal := Cert.Kernel5Ideal.Gen.facts)
    (hReference5Ideal := Cert.Reference5Ideal.Gen.facts) := by
  intro m g m' g' hp hs
  refine ⟨fun c => (Cert.Kernel5Ideal.Gen.dats m 0 c).arrAt 6 Cert.Kernel5Ideal.cfg0.N, Cert.Kernel5Ideal.Value.run_blocks m g, ?_⟩
  refine (θ_run _ _ _).mono (fun r h c => ⟨(h c).1.trans ?_, (h c).2⟩) (Cert.Reference5Ideal.Value.run m' g')
  obtain ⟨h0, h1, h2, h3, h4⟩ := hs c
  show outR (resR (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg2)) (m' ((c.tc : Thread Cert.Reference5Ideal.nD Cert.Reference5Ideal.τ).loc Cert.Reference5Ideal.main_arg3))) (m' ((c.tc : Thread Cert.Reference5Ideal.nD Cert.Reference5Ideal.τ).loc Cert.Reference5Ideal.main_arg4)) = _
  rw [h0, h1, h2, h3, h4]
  funext i
  rw [show i = ix2 (i 0) (i 1) from eq_ix2 i]
  exact (ref_at _ _ _ _ _ (i 0) (i 1)).trans (kernel_at m c (i 0) (i 1)).symm

end Cert.MergeSample

end
-- ==== Proof.SampleStep.lean ====
module

public import proofs.«01_k».proof.Proof.Gen.Kernel6Ideal.Frame
public import Idealize.ShloMosaic.Lib.Pointwise

@[expose] public section

set_option maxRecDepth 16384

noncomputable section

/-! What a point of the short convolution's kernel stores on the sample. -/

namespace Cert.SampleShort

open Idealize.ShloMosaic Idealize.ShloMosaic.TcCoe Idealize.ShloMosaic.Tactic
open Cert.Kernel6Ideal Cert.Kernel6Ideal.Gen

variable {F : FTy → Type} [FloatOps F]

/-- The body's loads of its inputs: the rows of the short convolution's input, a slab's rows from 32 and its last 32 rows,
    the convolution's rows and the state. -/
def ldH (a : Memref sig .tc .vmem S1024x2048 .bf16) (ha : a.IsWhole) (x : Vec F S1024x2048 .bf16) : FVec F S1024x2048 .bf16 :=
  View.readAt (Elt F) a.view (Rect.unit (s := S1024x2048) ![0, 0] S1024x2048.size (by decide)).toLoadRect (ha.unread x)
def ldTop (a : Memref sig .tc .vmem S256x2048 .f32) (ha : a.IsWhole) (x : Vec F S256x2048 .f32) : FVec F S224x2048 .f32 :=
  View.readAt (Elt F) a.view (Rect.unit (s := S256x2048) ![32, 0] S224x2048.size (by decide)).toLoadRect (ha.unread x)
def ldEnd (a : Memref sig .tc .vmem S32x2048 .f32) (ha : a.IsWhole) (x : Vec F S32x2048 .f32) : FVec F S32x2048 .f32 :=
  View.readAt (Elt F) a.view (Rect.unit (s := S32x2048) ![0, 0] S32x2048.size (by decide)).toLoadRect (ha.unread x)
theorem inbC (k : Fin 3) : ∀ a, (![k.val, 0] : Fin 2 → ℕ) a + S1x256.size a ≤ S3x256.size a := by
  revert k; decide
def ldC (a : Memref sig .tc .vmem S3x256 .f32) (ha : a.IsWhole) (x : Vec F S3x256 .f32) (k : Fin 3) : FVec F S1x256 .f32 :=
  View.readAt (Elt F) a.view (Rect.unit (s := S3x256) ![k.val, 0] S1x256.size (inbC k)).toLoadRect (ha.unread x)
def ldSt (a : Memref sig .tc .vmem S128x2x256 .f32) (ha : a.IsWhole) (x : Vec F S128x2x256 .f32) : FVec F S128x2x256 .f32 :=
  View.readAt (Elt F) a.view (Rect.unit (s := S128x2x256) ![0, 0, 0] S128x2x256.size (by decide)).toLoadRect (ha.unread x)

theorem inbS (k : Fin 4) : ∀ a, (![k.val, 0, 0] : Fin 3 → ℕ) a + S1x256x2048.size a ≤ S4x256x2048.size a := by
  revert k; decide

/-- A slab's place among the four. -/
abbrev rectS (k : Fin 4) : Rect S4x256x2048 := Rect.unit (s := S4x256x2048) ![k.val, 0, 0] S1x256x2048.size (inbS k)

/-- A slab, read back of the stores of a point. -/
def rdS (v : View sig .tc .vmem S4x256x2048 .bf16) (L : List (View.Piece (Elt F) S4x256x2048 .bf16)) (k : Fin 4) : FVec F S1x256x2048 .bf16 :=
  v.readCov L (rectS k).toLoadRect

/-- The stores of the slabs, over what they store. -/
def slabs (w : Fin 4 → FVec F S1x256x2048 .bf16) : List (View.Piece (Elt F) S4x256x2048 .bf16) :=
  [⟨rectS 3, w 3⟩, ⟨rectS 2, w 2⟩, ⟨rectS 1, w 1⟩, ⟨rectS 0, w 0⟩]

/-- The stores of the padded product, over the input, the last two slabs and the state. -/
def padded (h : FVec F S1024x2048 .bf16) (s : Fin 4 → FVec F S1x256x2048 .bf16) (st : FVec F S128x2x256 .f32) : List (View.Piece (Elt F) S128x16x256 .f32) :=
  [⟨Rect.unit (s := S128x16x256) ![0, 8, 0] S128x8x256.size (by decide), k0_pay8 h (s 2) (s 3)⟩,
   ⟨Rect.unit (s := S128x16x256) ![0, 6, 0] S128x2x256.size (by decide), k0_pay7 st⟩,
   ⟨Rect.unit (s := S128x16x256) ![0, 0, 0] S128x8x256.size (by decide), k0_pay6⟩]

/-- The padded product and its last two rows, read back. -/
def rdPad (v : View sig .tc .vmem S128x16x256 .f32) (L : List (View.Piece (Elt F) S128x16x256 .f32)) : FVec F S128x16x256 .f32 :=
  v.readCov L (Rect.unit (s := S128x16x256) ![0, 0, 0] S128x16x256.size (by decide)).toLoadRect
def rdLast (v : View sig .tc .vmem S128x16x256 .f32) (L : List (View.Piece (Elt F) S128x16x256 .f32)) : FVec F S128x2x256 .f32 :=
  v.readCov L (Rect.unit (s := S128x16x256) ![0, 14, 0] S128x2x256.size (by decide)).toLoadRect

/-- What a point stores as its output and as its state. -/
def yAll (v : View sig .tc .vmem S128x16x256 .f32) (h : FVec F S1024x2048 .bf16) (s : Fin 4 → FVec F S1x256x2048 .bf16) (st : FVec F S128x2x256 .f32)
    (w : Fin 3 → FVec F S1x256 .f32) : FVec F S1024x256 .bf16 :=
  k0_pay10 h (rdPad v (padded h s st)) (k0_pay9 (rdPad v (padded h s st))) (w 2) (w 1) (w 0) (s 1) (s 0)
def outY (y : FVec F S1024x256 .bf16) : List (View.Piece (Elt F) S1024x256 .bf16) :=
  [⟨Rect.unit (s := S1024x256) ![0, 0] S1024x256.size (by decide), y⟩]
def outN (y : FVec F S128x2x256 .f32) : List (View.Piece (Elt F) S128x2x256 .f32) :=
  [⟨Rect.unit (s := S128x2x256) ![0, 0, 0] S128x2x256.size (by decide), y⟩]

section Step

variable (arg2 : Memref sig .tc .vmem S1024x2048 .bf16) (harg2 : arg2.IsWhole) (arg3 : Memref sig .tc .vmem S256x2048 .f32) (harg3 : arg3.IsWhole) (arg4 : Memref sig .tc .vmem S32x2048 .f32) (harg4 : arg4.IsWhole)
  (arg5 : Memref sig .tc .vmem S256x2048 .f32) (harg5 : arg5.IsWhole) (arg6 : Memref sig .tc .vmem S32x2048 .f32) (harg6 : arg6.IsWhole) (arg7 : Memref sig .tc .vmem S256x2048 .f32) (harg7 : arg7.IsWhole)
  (arg8 : Memref sig .tc .vmem S32x2048 .f32) (harg8 : arg8.IsWhole) (arg9 : Memref sig .tc .vmem S256x2048 .f32) (harg9 : arg9.IsWhole) (arg10 : Memref sig .tc .vmem S32x2048 .f32) (harg10 : arg10.IsWhole)
  (arg11 : Memref sig .tc .vmem S3x256 .f32) (harg11 : arg11.IsWhole) (arg12 : Memref sig .tc .vmem S128x2x256 .f32) (harg12 : arg12.IsWhole) (arg13 : Memref sig .tc .vmem S1024x256 .bf16) (harg13 : arg13.IsWhole)
  (arg14 : Memref sig .tc .vmem S128x2x256 .f32) (harg14 : arg14.IsWhole) (arg15 : Memref sig .tc .vmem S4x256x2048 .bf16) (harg15 : arg15.IsWhole) (arg16 : Memref sig .tc .vmem S128x16x256 .f32) (harg16 : arg16.IsWhole)
  (x0 : Vec F S1024x2048 .bf16) (x1 : Vec F S256x2048 .f32) (x2 : Vec F S32x2048 .f32) (x3 : Vec F S256x2048 .f32) (x4 : Vec F S32x2048 .f32) (x5 : Vec F S256x2048 .f32) (x6 : Vec F S32x2048 .f32) (x7 : Vec F S256x2048 .f32) (x8 : Vec F S32x2048 .f32)
  (x9 : Vec F S3x256 .f32) (x10 : Vec F S128x2x256 .f32)
  (c : Dev nD) (i : grid0.Coords) (hc0 : cond0_0 i)

/-- The slabs that a point stores. -/
def newS : Fin 4 → FVec F S1x256x2048 .bf16
  | 0 => k0_pay1 (ldTop arg3 harg3 x1) (ldEnd arg4 harg4 x2)
  | 1 => k0_pay2 (ldTop arg5 harg5 x3) (ldEnd arg6 harg6 x4)
  | 2 => k0_pay3 (ldTop arg7 harg7 x5) (ldEnd arg8 harg8 x6)
  | 3 => k0_pay5 (k0_pay4 (ldTop arg9 harg9 x7)) (ldEnd arg10 harg10 x8)

theorem y_A : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10).1
    = outY (yAll arg16.view (ldH arg2 harg2 x0) (rdS arg15.view (slabs (newS arg3 harg3 arg4 harg4 arg5 harg5 arg6 harg6 arg7 harg7 arg8 harg8 arg9 harg9 arg10 harg10 x1 x2 x3 x4 x5 x6 x7 x8))) (ldSt arg12 harg12 x10) (ldC arg11 harg11 x9)) := by
  sl_kernel_rfl

theorem n_A : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10).2.1
    = outN (rdLast arg16.view (padded (ldH arg2 harg2 x0) (rdS arg15.view (slabs (newS arg3 harg3 arg4 harg4 arg5 harg5 arg6 harg6 arg7 harg7 arg8 harg8 arg9 harg9 arg10 harg10 x1 x2 x3 x4 x5 x6 x7 x8))) (ldSt arg12 harg12 x10))) := by
  sl_kernel_rfl

end Step

end Cert.SampleShort
-- ==== Proof.SampleVal.lean ====
module

public import proofs.«01_k».proof.Proof.SampleStep
public import proofs.«01_k».proof.Proof.ShortPt
public import Idealize.ShloMosaic.Lib.Pipeline.ValueKit.Tiles

@[expose] public section

set_option maxRecDepth 16384

noncomputable section

/-! The short convolution's stores on the sample, at an index. -/

namespace Cert.SampleShort

open Idealize.ShloMosaic Idealize.ShloMosaic.TcCoe Idealize.ShloMosaic.Tactic
open Cert.Kernel6Ideal Cert.Kernel6Ideal.Gen

theorem ldH_at (a : Memref sig .tc .vmem S1024x2048 .bf16) (ha : a.IsWhole) (x : Vec Ideal S1024x2048 .bf16) (r : Fin 1024) (e : Fin 2048) :
    ldH a ha x (ix2 r e) = x (ix2 r e) := by
  unfold ldH
  rw [View.readAt_eq_ld, ha.read_unread]
  pointwise

theorem ldTop_at (a : Memref sig .tc .vmem S256x2048 .f32) (ha : a.IsWhole) (x : Vec Ideal S256x2048 .f32) (r : Fin 224) (e : Fin 2048) :
    ldTop a ha x (ix2 r e) = x (ix2 ⟨32 + r.val, by omega⟩ e) := by
  unfold ldTop
  rw [View.readAt_eq_ld, ha.read_unread]
  pointwise

theorem ldEnd_at (a : Memref sig .tc .vmem S32x2048 .f32) (ha : a.IsWhole) (x : Vec Ideal S32x2048 .f32) (r : Fin 32) (e : Fin 2048) :
    ldEnd a ha x (ix2 r e) = x (ix2 r e) := by
  unfold ldEnd
  rw [View.readAt_eq_ld, ha.read_unread]
  pointwise

theorem ldC_at (a : Memref sig .tc .vmem S3x256 .f32) (ha : a.IsWhole) (x : Vec Ideal S3x256 .f32) (k : Fin 3) (q : Fin 256) :
    ldC a ha x k (ix2 0 q) = x (ix2 k q) := by
  unfold ldC
  rw [View.readAt_eq_ld, ha.read_unread]
  fin_cases k <;> pointwise

theorem ldSt_at (a : Memref sig .tc .vmem S128x2x256 .f32) (ha : a.IsWhole) (x : Vec Ideal S128x2x256 .f32) (b : Fin 128) (r : Fin 2) (q : Fin 256) :
    ldSt a ha x (ix3 b r q) = x (ix3 b r q) := by
  unfold ldSt
  rw [View.readAt_eq_ld, ha.read_unread]
  pointwise

/-- The stores of the four slabs hold each slab in its place. -/
theorem slabs_at (w : Fin 4 → FVec Ideal S1x256x2048 .bf16) (k : Fin 4) (q : Fin 256) (e : Fin 2048) :
    View.canon (slabs w) (ix3 k q e) = w k (ix3 0 q e) := by
  have hm : ∀ k', (⟨rectS k', w k'⟩ : View.Piece (Elt Ideal) S4x256x2048 .bf16) ∈ slabs w := by
    intro k'
    fin_cases k' <;> simp [slabs]
  refine View.canon_eq_of_allAt _ _ _ ⟨_, hm k, ?_⟩ ?_
  · rw [Rect.mem_set_unit]
    intro a
    fin_cases a
    · show k.val ≤ k.val ∧ k.val < k.val + 1
      omega
    · show 0 ≤ q.val ∧ q.val < 0 + 256
      omega
    · show 0 ≤ e.val ∧ e.val < 0 + 2048
      omega
  · have hp : ∀ p ∈ slabs w, ∃ k', p = ⟨rectS k', w k'⟩ := by
      intro p hp
      simp only [slabs, List.mem_cons, List.not_mem_nil, or_false] at hp
      rcases hp with h | h | h | h
      · exact ⟨3, h⟩
      · exact ⟨2, h⟩
      · exact ⟨1, h⟩
      · exact ⟨0, h⟩
    intro p h
    obtain ⟨k', rfl⟩ := hp p h
    intro y hy
    have h0 : k'.val + 1 * (y 0).val = k.val := congrArg (fun i => (i 0).val) hy
    have h1 : 0 + 1 * (y 1).val = q.val := congrArg (fun i => (i 1).val) hy
    have h2 : 0 + 1 * (y 2).val = e.val := congrArg (fun i => (i 2).val) hy
    have y0 : (y 0).val < 1 := (y 0).isLt
    obtain rfl : k' = k := Fin.ext (by omega)
    refine congrArg (w k') ?_
    funext a
    fin_cases a
    · exact Fin.ext (show (y 0).val = 0 by omega)
    · exact Fin.ext (show (y 1).val = q.val by omega)
    · exact Fin.ext (show (y 2).val = e.val by omega)

theorem rdS_at (v : View sig .tc .vmem S4x256x2048 .bf16) (w : Fin 4 → FVec Ideal S1x256x2048 .bf16) (k : Fin 4) (q : Fin 256) (e : Fin 2048) :
    rdS v (slabs w) k (ix3 0 q e) = w k (ix3 0 q e) := by
  unfold rdS
  rw [View.readCov_eq_canon', ← slabs_at w k q e]
  refine congrArg (View.canon (slabs w)) ?_
  funext a
  fin_cases a
  · exact Fin.ext (show k.val + 1 * 0 = k.val by omega)
  · exact Fin.ext (show 0 + 1 * q.val = q.val by omega)
  · exact Fin.ext (show 0 + 1 * e.val = e.val by omega)

/-- A row's projection onto a slab's row. -/
def pr (h : FVec Ideal S1024x2048 .bf16) (s : FVec Ideal S1x256x2048 .bf16) (r : Fin 1024) (q : Fin 256) : EReal :=
  ∑ e : Fin 2048, (h (ix2 r e) * s (ix3 0 q e) : EReal)

theorem pay8_at (h : FVec Ideal S1024x2048 .bf16) (s t : FVec Ideal S1x256x2048 .bf16) (b : Fin 128) (l : Fin 8) (q : Fin 256) :
    (k0_pay8 h s t : FVec Ideal S128x8x256 .f32) (ix3 b l q) = pr h s ⟨b.val * 8 + l.val, by omega⟩ q * pr h t ⟨b.val * 8 + l.val, by omega⟩ q := by
  unfold k0_pay8 pr
  pointwise

theorem pay7_at (s : FVec Ideal S128x2x256 .f32) (b : Fin 128) (k : Fin 2) (q : Fin 256) : (k0_pay7 s : FVec Ideal S128x2x256 .f32) (ix3 b k q) = s (ix3 b k q) := by
  unfold k0_pay7
  pointwise

/-- The padded product of a sample from the state's first row on. -/
def seq (h : FVec Ideal S1024x2048 .bf16) (s : Fin 4 → FVec Ideal S1x256x2048 .bf16) (st : FVec Ideal S128x2x256 .f32) (b : Fin 128) (n : ℕ) (q : Fin 256) : EReal :=
  if h2 : n < 2 then st (ix3 b ⟨n, h2⟩ q)
  else if hn : n - 2 < 8 then pr h (s 2) ⟨b.val * 8 + (n - 2), by omega⟩ q * pr h (s 3) ⟨b.val * 8 + (n - 2), by omega⟩ q else 0

/-- An index in a store's place. -/
theorem canon_take (o n : ℕ) (sz : Fin 3 → ℕ) (inb) (x) (L : List (View.Piece (Elt Ideal) S128x16x256 .f32)) (b : Fin 128) (q : Fin 256) (hn : n < 16)
    (y : (Rect.unit (s := S128x16x256) ![0, o, 0] sz inb).shape.Idx) (h0 : (y 0).val = b.val) (h1 : o + (y 1).val = n) (h2 : (y 2).val = q.val) :
    View.canon ((⟨Rect.unit (s := S128x16x256) ![0, o, 0] sz inb, x⟩ : View.Piece (Elt Ideal) S128x16x256 .f32) :: L) (ix3 b (⟨n, hn⟩ : Fin 16) q) = x y := by
  have e : (Rect.unit (s := S128x16x256) ![0, o, 0] sz inb).emb y = (ix3 b (⟨n, hn⟩ : Fin 16) q : S128x16x256.Idx) := by
    funext a
    apply Fin.ext
    match a with
    | ⟨0, _⟩ => show 0 + 1 * (y 0).val = b.val; omega
    | ⟨1, _⟩ => show o + 1 * (y 1).val = n; omega
    | ⟨2, _⟩ => show 0 + 1 * (y 2).val = q.val; omega
  rw [← e, View.canon_cons_emb]

theorem canon_skip (o n : ℕ) (sz : Fin 3 → ℕ) (inb) (x) (L : List (View.Piece (Elt Ideal) S128x16x256 .f32)) (b : Fin 128) (q : Fin 256) (hn : n < 16) (h1 : n < o) :
    View.canon ((⟨Rect.unit (s := S128x16x256) ![0, o, 0] sz inb, x⟩ : View.Piece (Elt Ideal) S128x16x256 .f32) :: L) (ix3 b (⟨n, hn⟩ : Fin 16) q)
      = View.canon L (ix3 b (⟨n, hn⟩ : Fin 16) q) := by
  rw [View.canon_cons_of_not_mem]
  rw [Rect.mem_set_unit]
  intro hh
  have : o ≤ n := (hh 1).1
  omega

section Pad

variable (v : View sig .tc .vmem S128x16x256 .f32) (h : FVec Ideal S1024x2048 .bf16) (s : Fin 4 → FVec Ideal S1x256x2048 .bf16) (st : FVec Ideal S128x2x256 .f32)

theorem padded_at (b : Fin 128) (n : ℕ) (hn : n < 10) (q : Fin 256) :
    View.canon (padded h s st) (ix3 b (⟨6 + n, by omega⟩ : Fin 16) q) = seq h s st b n q := by
  unfold seq
  by_cases h2 : n < 2
  · rw [dif_pos h2]
    refine (canon_skip 8 (6 + n) _ _ _ _ b q _ (by omega)).trans ?_
    exact (canon_take 6 (6 + n) _ _ _ _ b q _ (ix3 b (⟨n, h2⟩ : Fin 2) q) rfl rfl rfl).trans (pay7_at _ _ _ _)
  · rw [dif_neg h2, dif_pos (by omega)]
    exact (canon_take 8 (6 + n) _ _ _ _ b q _ (ix3 b (⟨n - 2, by omega⟩ : Fin 8) q) rfl (by show 8 + (n - 2) = 6 + n; omega) rfl).trans
      (pay8_at _ _ _ b ⟨n - 2, by omega⟩ q)

theorem rdPad_at (b : Fin 128) (n : ℕ) (hn : n < 10) (q : Fin 256) :
    rdPad v (padded h s st) (ix3 b (⟨6 + n, by omega⟩ : Fin 16) q) = seq h s st b n q := by
  unfold rdPad
  rw [View.readCov_eq_canon', ← padded_at h s st b n hn q]
  refine congrArg (View.canon (padded h s st)) ?_
  funext a
  fin_cases a
  · exact Fin.ext (show 0 + 1 * b.val = b.val by omega)
  · exact Fin.ext (show 0 + 1 * (6 + n) = 6 + n by omega)
  · exact Fin.ext (show 0 + 1 * q.val = q.val by omega)

theorem rdLast_at (b : Fin 128) (n : Fin 2) (q : Fin 256) :
    rdLast v (padded h s st) (ix3 b n q) = seq h s st b (8 + n.val) q := by
  unfold rdLast
  rw [View.readCov_eq_canon', ← padded_at h s st b (8 + n.val) (by omega) q]
  refine congrArg (View.canon (padded h s st)) ?_
  funext a
  fin_cases a
  · exact Fin.ext (show 0 + 1 * b.val = b.val by omega)
  · exact Fin.ext (show 14 + 1 * n.val = 6 + (8 + n.val) by omega)
  · exact Fin.ext (show 0 + 1 * q.val = q.val by omega)

end Pad

theorem pay10_at (h : FVec Ideal S1024x2048 .bf16) (p : FVec Ideal S128x16x256 .f32) (w2 w1 w0 : FVec Ideal S1x256 .f32)
    (s1 s0 : FVec Ideal S1x256x2048 .bf16) (b : Fin 128) (l : Fin 8) (q : Fin 256) :
    (k0_pay10 h p (k0_pay9 p) w2 w1 w0 s1 s0 : FVec Ideal S1024x256 .bf16) (ix2 (⟨b.val * 8 + l.val, by omega⟩ : Fin 1024) q)
      = pr h s1 ⟨b.val * 8 + l.val, by omega⟩ q * (p (ix3 b (⟨6 + (l.val + 2), by omega⟩ : Fin 16) q) * w2 (ix2 0 q) + p (ix3 b (⟨6 + (l.val + 1), by omega⟩ : Fin 16) q) * w1 (ix2 0 q)
          + p (ix3 b (⟨6 + l.val, by omega⟩ : Fin 16) q) * w0 (ix2 0 q))
        * (pr h s0 ⟨b.val * 8 + l.val, by omega⟩ q + pr h s0 ⟨b.val * 8 + l.val, by omega⟩ q * Ideal.tanh (pr h s0 ⟨b.val * 8 + l.val, by omega⟩ q)) := by
  unfold k0_pay10 k0_pay9 pr
  pointwise
  have a0 : 8 + l.val = 6 + (l.val + 2) := by omega
  have a1 : (8 + l.val + 16 - 1) % 16 = 6 + (l.val + 1) := by omega
  have a2 : (8 + l.val + 16 - 2) % 16 = 6 + l.val := by omega
  simp only [a1, a2]
  simp only [a0]

/-- A point's output at an index, over its input, slabs, state and convolution rows. -/
def yv (h : FVec Ideal S1024x2048 .bf16) (s : Fin 4 → FVec Ideal S1x256x2048 .bf16) (st : FVec Ideal S128x2x256 .f32) (w : Vec Ideal S3x256 .f32)
    (b : Fin 128) (l : Fin 8) (q : Fin 256) : EReal :=
  pr h (s 1) ⟨b.val * 8 + l.val, by omega⟩ q * (seq h s st b (l.val + 2) q * w (ix2 2 q) + seq h s st b (l.val + 1) q * w (ix2 1 q) + seq h s st b l.val q * w (ix2 0 q))
    * (pr h (s 0) ⟨b.val * 8 + l.val, by omega⟩ q + pr h (s 0) ⟨b.val * 8 + l.val, by omega⟩ q * Ideal.tanh (pr h (s 0) ⟨b.val * 8 + l.val, by omega⟩ q))

theorem ldH_eq (a : Memref sig .tc .vmem S1024x2048 .bf16) (ha : a.IsWhole) (x : Vec Ideal S1024x2048 .bf16) : ldH a ha x = x := by
  funext i
  obtain ⟨r, e, rfl⟩ : ∃ r e, i = ix2 r e := ⟨_, _, eq_ix2 i⟩
  exact ldH_at a ha x r e

theorem ldSt_eq (a : Memref sig .tc .vmem S128x2x256 .f32) (ha : a.IsWhole) (x : Vec Ideal S128x2x256 .f32) : ldSt a ha x = x := by
  funext i
  obtain ⟨z, r, e, rfl⟩ : ∃ z r e, i = ix3 z r e := ⟨_, _, _, eq_ix3 i⟩
  exact ldSt_at a ha x z r e

theorem rdS_eq (v : View sig .tc .vmem S4x256x2048 .bf16) (w : Fin 4 → FVec Ideal S1x256x2048 .bf16) : rdS v (slabs w) = w := by
  funext k i
  obtain ⟨z, r, e, rfl⟩ : ∃ z r e, i = ix3 z r e := ⟨_, _, _, eq_ix3 i⟩
  obtain rfl : z = 0 := Fin.eq_zero z
  exact rdS_at v w k r e

theorem yAll_at (v : View sig .tc .vmem S128x16x256 .f32) (h : FVec Ideal S1024x2048 .bf16) (s : Fin 4 → FVec Ideal S1x256x2048 .bf16)
    (st : FVec Ideal S128x2x256 .f32) (a : Memref sig .tc .vmem S3x256 .f32) (ha : a.IsWhole) (x : Vec Ideal S3x256 .f32) (b : Fin 128) (l : Fin 8) (q : Fin 256) :
    yAll v h s st (ldC a ha x) (ix2 (⟨b.val * 8 + l.val, by omega⟩ : Fin 1024) q) = yv h s st x b l q := by
  unfold yAll yv
  rw [pay10_at, rdPad_at v h s st b (l.val + 2) (by omega), rdPad_at v h s st b (l.val + 1) (by omega), rdPad_at v h s st b l.val (by omega),
    ldC_at, ldC_at, ldC_at]

open Cert.Short (slabV)

section Slabs

variable (a : Memref sig .tc .vmem S256x2048 .f32) (ha : a.IsWhole) (b : Memref sig .tc .vmem S32x2048 .f32) (hb : b.IsWhole)
  (t : Vec Ideal S256x2048 .f32) (u : Vec Ideal S32x2048 .f32) (q : Fin 256) (e : Fin 2048)

theorem pay1_at : (k0_pay1 (ldTop a ha t) (ldEnd b hb u) : FVec Ideal S1x256x2048 .bf16) (ix3 0 q e) = Ideal.ofBits .f32 0x3F000000#32 * slabV t u q e := by
  unfold k0_pay1 slabV
  pointwise
  simp only [ldTop_at, ldEnd_at]

theorem pay2_at : (k0_pay2 (ldTop a ha t) (ldEnd b hb u) : FVec Ideal S1x256x2048 .bf16) (ix3 0 q e) = slabV t u q e := by
  unfold k0_pay2 slabV
  pointwise
  simp only [ldTop_at, ldEnd_at]

theorem pay3_at : (k0_pay3 (ldTop a ha t) (ldEnd b hb u) : FVec Ideal S1x256x2048 .bf16) (ix3 0 q e) = slabV t u q e := by
  unfold k0_pay3 slabV
  pointwise
  simp only [ldTop_at, ldEnd_at]

theorem pay5_at : (k0_pay5 (k0_pay4 (ldTop a ha t)) (ldEnd b hb u) : FVec Ideal S1x256x2048 .bf16) (ix3 0 q e) = slabV t u q e := by
  unfold k0_pay5 k0_pay4 slabV
  pointwise
  simp only [ldTop_at, ldEnd_at]

end Slabs

section Point

variable (arg2 : Memref sig .tc .vmem S1024x2048 .bf16) (harg2 : arg2.IsWhole) (arg3 : Memref sig .tc .vmem S256x2048 .f32) (harg3 : arg3.IsWhole) (arg4 : Memref sig .tc .vmem S32x2048 .f32) (harg4 : arg4.IsWhole)
  (arg5 : Memref sig .tc .vmem S256x2048 .f32) (harg5 : arg5.IsWhole) (arg6 : Memref sig .tc .vmem S32x2048 .f32) (harg6 : arg6.IsWhole) (arg7 : Memref sig .tc .vmem S256x2048 .f32) (harg7 : arg7.IsWhole)
  (arg8 : Memref sig .tc .vmem S32x2048 .f32) (harg8 : arg8.IsWhole) (arg9 : Memref sig .tc .vmem S256x2048 .f32) (harg9 : arg9.IsWhole) (arg10 : Memref sig .tc .vmem S32x2048 .f32) (harg10 : arg10.IsWhole)
  (arg11 : Memref sig .tc .vmem S3x256 .f32) (harg11 : arg11.IsWhole) (arg12 : Memref sig .tc .vmem S128x2x256 .f32) (harg12 : arg12.IsWhole) (arg13 : Memref sig .tc .vmem S1024x256 .bf16) (harg13 : arg13.IsWhole)
  (arg14 : Memref sig .tc .vmem S128x2x256 .f32) (harg14 : arg14.IsWhole) (arg15 : Memref sig .tc .vmem S4x256x2048 .bf16) (harg15 : arg15.IsWhole) (arg16 : Memref sig .tc .vmem S128x16x256 .f32) (harg16 : arg16.IsWhole)
  (x0 : Vec Ideal S1024x2048 .bf16) (x1 : Vec Ideal S256x2048 .f32) (x2 : Vec Ideal S32x2048 .f32) (x3 : Vec Ideal S256x2048 .f32) (x4 : Vec Ideal S32x2048 .f32) (x5 : Vec Ideal S256x2048 .f32) (x6 : Vec Ideal S32x2048 .f32) (x7 : Vec Ideal S256x2048 .f32) (x8 : Vec Ideal S32x2048 .f32)
  (x9 : Vec Ideal S3x256 .f32) (x10 : Vec Ideal S128x2x256 .f32)
  (c : Dev nD) (i : grid0.Coords) (hc0 : cond0_0 i)

open Cert.Short (tileS)

theorem newS_eq : newS arg3 harg3 arg4 harg4 arg5 harg5 arg6 harg6 arg7 harg7 arg8 harg8 arg9 harg9 arg10 harg10 x1 x2 x3 x4 x5 x6 x7 x8 = tileS x1 x2 x3 x4 x5 x6 x7 x8 := by
  funext k i
  obtain ⟨z, q, e, rfl⟩ : ∃ z q e, i = ix3 z q e := ⟨_, _, _, eq_ix3 i⟩
  obtain rfl : z = 0 := Fin.eq_zero z
  match k with
  | 0 => exact pay1_at arg3 harg3 arg4 harg4 x1 x2 q e
  | 1 => exact pay2_at arg5 harg5 arg6 harg6 x3 x4 q e
  | 2 => exact pay3_at arg7 harg7 arg8 harg8 x5 x6 q e
  | 3 => exact pay5_at arg9 harg9 arg10 harg10 x7 x8 q e

theorem out11_A (b : Fin 128) (l : Fin 8) (q : Fin 256) :
    out0_A_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 (ix2 (⟨b.val * 8 + l.val, by omega⟩ : Fin 1024) q) = yv x0 (tileS x1 x2 x3 x4 x5 x6 x7 x8) x10 x9 b l q := by
  unfold out0_A_11
  rw [View.read_writes_eq_canon _ _ _ (cover0_A_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10), y_A, outY,
    View.canon_cons_unit_lit (h := by intro a; fin_cases a <;> rfl), yAll_at, ldH_eq, ldSt_eq, rdS_eq, newS_eq]

theorem out12_A (b : Fin 128) (n : Fin 2) (q : Fin 256) :
    out0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 (ix3 b n q) = seq x0 (tileS x1 x2 x3 x4 x5 x6 x7 x8) x10 b (8 + n.val) q := by
  unfold out0_A_12
  rw [View.read_writes_eq_canon _ _ _ (cover0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10), n_A, outN,
    View.canon_cons_unit_lit (h := by intro a; fin_cases a <;> rfl), rdLast_at, ldH_eq, ldSt_eq, rdS_eq, newS_eq]

end Point

end Cert.SampleShort
-- ==== Proof.SampleKernel.lean ====
module

public import proofs.«01_k».proof.Proof.SampleVal
public import proofs.«01_k».proof.Proof.ShortKernel
public import proofs.«01_k».proof.Proof.Gen.Kernel6Ideal.Value

@[expose] public section

set_option maxRecDepth 16384

noncomputable section

/-! The arrays of the short convolution's kernel on the sample, at an index, and its results. -/

namespace Cert.SampleShort

open Idealize.ShloMosaic Idealize.ShloMosaic.TcCoe Idealize.ShloMosaic.Tactic
open Cert.Kernel6Ideal Cert.Kernel6Ideal.Gen
open Cert.Short (slabV tileS)

section Kernel

variable (m : (ℓ : Loc nD τ sig) → Buf (Elt Ideal) ℓ) (c : Dev nD)

theorem lt_N (t : Fin cfg0.N) : t.val < 8 := lt_of_lt_of_eq t.isLt (show cfg0.N = 8 from N_0)

theorem index_0 : ∀ t : Fin cfg0.N, win0_0.index t 0 = 0 ∧ win0_0.index t 1 = 0 := by decide +kernel
theorem index_1 : ∀ t : Fin cfg0.N, win0_1.index t 0 = 20 + t.val ∧ win0_1.index t 1 = 0 := by decide +kernel
theorem index_2 : ∀ t : Fin cfg0.N, win0_2.index t 0 = 168 + 8 * t.val ∧ win0_2.index t 1 = 0 := by decide +kernel
theorem index_3 : ∀ t : Fin cfg0.N, win0_3.index t 0 = 28 + t.val ∧ win0_3.index t 1 = 0 := by decide +kernel
theorem index_4 : ∀ t : Fin cfg0.N, win0_4.index t 0 = 232 + 8 * t.val ∧ win0_4.index t 1 = 0 := by decide +kernel
theorem index_5 : ∀ t : Fin cfg0.N, win0_5.index t 0 = 36 + t.val ∧ win0_5.index t 1 = 0 := by decide +kernel
theorem index_6 : ∀ t : Fin cfg0.N, win0_6.index t 0 = 296 + 8 * t.val ∧ win0_6.index t 1 = 0 := by decide +kernel
theorem index_7 : ∀ t : Fin cfg0.N, win0_7.index t 0 = 44 + t.val ∧ win0_7.index t 1 = 0 := by decide +kernel
theorem index_8 : ∀ t : Fin cfg0.N, win0_8.index t 0 = 360 + 8 * t.val ∧ win0_8.index t 1 = 0 := by decide +kernel
theorem index_9 : ∀ t : Fin cfg0.N, win0_9.index t 0 = 0 ∧ win0_9.index t 1 = t.val := by decide +kernel
theorem index_10 : ∀ t : Fin cfg0.N, win0_10.index t 0 = 0 ∧ win0_10.index t 1 = 0 ∧ win0_10.index t 2 = t.val := by decide +kernel
theorem index_11 : ∀ t : Fin cfg0.N, win0_11.index t 0 = 0 ∧ win0_11.index t 1 = t.val := by decide +kernel
theorem index_12 : ∀ t : Fin cfg0.N, win0_12.index t 0 = 0 ∧ win0_12.index t 1 = 0 ∧ win0_12.index t 2 = t.val := by decide +kernel

/-- The transposed weights, the convolution's rows and the state that the host makes. -/
theorem weights_eq : (V m c main_v1 : Vec Ideal S13344x2048 .f32) = transpose S13344x2048 [1, 0]
    (shapeCast S2048x13344 (m ((c : Thread nD τ).loc main_arg1) : Vec Ideal S1x2048x13344 .f32) Facts₀.shapeCasts_S1x2048x13344_S2048x13344)
      Facts₀.transposes_S2048x13344_S13344x2048_1_0 := by
  show StableHlo.after hostOps0 (fun b => m (c, b)) _ = _
  simp only [hostOps0]
  after_results
  all_goals rfl

theorem rows_eq : (V m c main_v2 : Vec Ideal S3x2048 .f32) = shapeCast S3x2048 (m ((c : Thread nD τ).loc main_arg2) : Vec Ideal S1x3x2048 .f32) Facts₀.shapeCasts_S1x3x2048_S3x2048 := by
  show StableHlo.after hostOps0 (fun b => m (c, b)) _ = _
  simp only [hostOps0]
  after_results
  all_goals rfl

theorem state_eq : (V m c main_v3 : Vec Ideal S128x2x2048 .f32) = shapeCast S128x2x2048 (m ((c : Thread nD τ).loc main_arg3) : Vec Ideal S1x128x2x2048 .f32) Facts₀.shapeCasts_S1x128x2x2048_S128x2x2048 := by
  show StableHlo.after hostOps0 (fun b => m (c, b)) _ = _
  simp only [hostOps0]
  after_results
  all_goals rfl

theorem turned_at (a : Vec Ideal S1x2048x13344 .f32) (r : Fin 13344) (e : Fin 2048) :
    @Eq EReal ((transpose S13344x2048 [1, 0] (shapeCast S2048x13344 a Facts₀.shapeCasts_S1x2048x13344_S2048x13344)
      Facts₀.transposes_S2048x13344_S13344x2048_1_0 : Vec Ideal S13344x2048 .f32) (ix2 r e)) (a (ix3 0 e r)) := by
  pointwise

theorem dropped_at (a : Vec Ideal S1x3x2048 .f32) (k : Fin 3) (j : Fin 2048) :
    @Eq EReal ((shapeCast S3x2048 a Facts₀.shapeCasts_S1x3x2048_S3x2048 : Vec Ideal S3x2048 .f32) (ix2 k j)) (a (ix3 0 k j)) := by
  pointwise

theorem state_at (a : Vec Ideal S1x128x2x2048 .f32) (b : Fin 128) (k : Fin 2) (j : Fin 2048) :
    @Eq EReal ((shapeCast S128x2x2048 a Facts₀.shapeCasts_S1x128x2x2048_S128x2x2048 : Vec Ideal S128x2x2048 .f32) (ix3 b k j)) (a (ix4 0 b k j)) := by
  pointwise

theorem weights_at (r : Fin 13344) (e : Fin 2048) :
    @Eq EReal ((V m c main_v1 : Vec Ideal S13344x2048 .f32) (ix2 r e)) ((m ((c : Thread nD τ).loc main_arg1) : Vec Ideal S1x2048x13344 .f32) (ix3 0 e r)) := by
  exact (congrFun (weights_eq m c) (ix2 r e)).trans (turned_at _ r e)

theorem rows_at (k : Fin 3) (j : Fin 2048) :
    @Eq EReal ((V m c main_v2 : Vec Ideal S3x2048 .f32) (ix2 k j)) ((m ((c : Thread nD τ).loc main_arg2) : Vec Ideal S1x3x2048 .f32) (ix3 0 k j)) := by
  exact (congrFun (rows_eq m c) (ix2 k j)).trans (dropped_at _ k j)

theorem blk_0 (t : Fin cfg0.N) (r : Fin 1024) (e : Fin 2048) :
    (iblk m c 0 t : Vec Ideal S1024x2048 .bf16) (ix2 r e) = (m ((c : Thread nD τ).loc main_arg0) : Vec Ideal S1024x2048 .bf16) (ix2 r e) := by
  rw [← V_main_arg0 m c]
  unfold iblk
  rw [View.read_apply]
  show V m c main_arg0 _ = V m c main_arg0 _
  congr 1
  funext a
  apply Fin.ext
  match a with
  | ⟨0, _⟩ => show win0_0.index t 0 * 1024 + 1 * r.val = r.val; rw [(index_0 t).1]; omega
  | ⟨1, _⟩ => show win0_0.index t 1 * 2048 + 1 * e.val = e.val; rw [(index_0 t).2]; omega

theorem blk_9 (t : Fin cfg0.N) (k : Fin 3) (q : Fin 256) :
    @Eq EReal ((iblk m c 9 t : Vec Ideal S3x256 .f32) (ix2 k q))
      ((m ((c : Thread nD τ).loc main_arg2) : Vec Ideal S1x3x2048 .f32) (ix3 0 k ⟨256 * t.val + q.val, by have := lt_N t; omega⟩)) := by
  refine Eq.trans ?_ (rows_at m c k ⟨256 * t.val + q.val, by have := lt_N t; omega⟩)
  unfold iblk
  rw [View.read_apply]
  show V m c main_v2 _ = V m c main_v2 _
  congr 1
  funext a
  apply Fin.ext
  match a with
  | ⟨0, _⟩ => show win0_9.index t 0 * 3 + 1 * k.val = k.val; rw [(index_9 t).1]; omega
  | ⟨1, _⟩ => show win0_9.index t 1 * 256 + 1 * q.val = 256 * t.val + q.val; rw [(index_9 t).2]; omega

theorem blk_10 (t : Fin cfg0.N) (b : Fin 128) (k : Fin 2) (q : Fin 256) :
    @Eq EReal ((iblk m c 10 t : Vec Ideal S128x2x256 .f32) (ix3 b k q))
      ((m ((c : Thread nD τ).loc main_arg3) : Vec Ideal S1x128x2x2048 .f32) (ix4 0 b k ⟨256 * t.val + q.val, by have := lt_N t; omega⟩)) := by
  refine Eq.trans ?_ ((congrFun (state_eq m c) (ix3 b k ⟨256 * t.val + q.val, by have := lt_N t; omega⟩)).trans (state_at _ b k _))
  unfold iblk
  rw [View.read_apply]
  show V m c main_v3 _ = V m c main_v3 _
  congr 1
  funext a
  apply Fin.ext
  match a with
  | ⟨0, _⟩ => show win0_10.index t 0 * 128 + 1 * b.val = b.val; rw [(index_10 t).1]; omega
  | ⟨1, _⟩ => show win0_10.index t 1 * 2 + 1 * k.val = k.val; rw [(index_10 t).2.1]; omega
  | ⟨2, _⟩ => show win0_10.index t 2 * 256 + 1 * q.val = 256 * t.val + q.val; rw [(index_10 t).2.2]; omega

/-- A row of the weights' part that the short convolution uses. -/
def wt (r : ℕ) (e : Fin 2048) : EReal :=
  if h : r < 13344 then (m ((c : Thread nD τ).loc main_arg1) : Vec Ideal S1x2048x13344 .f32) (ix3 0 e ⟨r, h⟩) else 0

theorem wt_at (r : Fin 13344) (e : Fin 2048) : @Eq EReal ((V m c main_v1 : Vec Ideal S13344x2048 .f32) (ix2 r e)) (wt m c r.val e) := by
  refine (weights_at m c r e).trans ?_
  unfold wt
  rw [dif_pos r.isLt]

theorem blk_1 (t : Fin cfg0.N) (r : Fin 256) (e : Fin 2048) :
    @Eq EReal ((X0_1 m c t : Vec Ideal S256x2048 .f32) (ix2 r e)) (wt m c (5120 + 256 * t.val + r.val) e) := by
  have ht := lt_N t
  refine Eq.trans ?_ (wt_at m c ⟨5120 + 256 * t.val + r.val, by omega⟩ e)
  unfold X0_1 Pipeline.Window.fill
  rw [dif_pos (moved0_1 t (ix2 r e))]
  unfold iblk
  rw [View.read_apply]
  show V m c main_v1 _ = V m c main_v1 _
  congr 1
  funext a
  apply Fin.ext
  match a with
  | ⟨0, _⟩ => show win0_1.index t 0 * 256 + 1 * r.val = 5120 + 256 * t.val + r.val; rw [(index_1 t).1]; omega
  | ⟨1, _⟩ => show win0_1.index t 1 * 2048 + 1 * e.val = e.val; rw [(index_1 t).2]; omega

theorem blk_2 (t : Fin cfg0.N) (r : Fin 32) (e : Fin 2048) :
    @Eq EReal ((iblk m c 2 t : Vec Ideal S32x2048 .f32) (ix2 r e)) (wt m c (5376 + 256 * t.val + r.val) e) := by
  have ht := lt_N t
  refine Eq.trans ?_ (wt_at m c ⟨5376 + 256 * t.val + r.val, by omega⟩ e)
  unfold iblk
  rw [View.read_apply]
  show V m c main_v1 _ = V m c main_v1 _
  congr 1
  funext a
  apply Fin.ext
  match a with
  | ⟨0, _⟩ => show win0_2.index t 0 * 32 + 1 * r.val = 5376 + 256 * t.val + r.val; rw [(index_2 t).1]; omega
  | ⟨1, _⟩ => show win0_2.index t 1 * 2048 + 1 * e.val = e.val; rw [(index_2 t).2]; omega

theorem blk_3 (t : Fin cfg0.N) (r : Fin 256) (e : Fin 2048) :
    @Eq EReal ((X0_3 m c t : Vec Ideal S256x2048 .f32) (ix2 r e)) (wt m c (7168 + 256 * t.val + r.val) e) := by
  have ht := lt_N t
  refine Eq.trans ?_ (wt_at m c ⟨7168 + 256 * t.val + r.val, by omega⟩ e)
  unfold X0_3 Pipeline.Window.fill
  rw [dif_pos (moved0_3 t (ix2 r e))]
  unfold iblk
  rw [View.read_apply]
  show V m c main_v1 _ = V m c main_v1 _
  congr 1
  funext a
  apply Fin.ext
  match a with
  | ⟨0, _⟩ => show win0_3.index t 0 * 256 + 1 * r.val = 7168 + 256 * t.val + r.val; rw [(index_3 t).1]; omega
  | ⟨1, _⟩ => show win0_3.index t 1 * 2048 + 1 * e.val = e.val; rw [(index_3 t).2]; omega

theorem blk_4 (t : Fin cfg0.N) (r : Fin 32) (e : Fin 2048) :
    @Eq EReal ((iblk m c 4 t : Vec Ideal S32x2048 .f32) (ix2 r e)) (wt m c (7424 + 256 * t.val + r.val) e) := by
  have ht := lt_N t
  refine Eq.trans ?_ (wt_at m c ⟨7424 + 256 * t.val + r.val, by omega⟩ e)
  unfold iblk
  rw [View.read_apply]
  show V m c main_v1 _ = V m c main_v1 _
  congr 1
  funext a
  apply Fin.ext
  match a with
  | ⟨0, _⟩ => show win0_4.index t 0 * 32 + 1 * r.val = 7424 + 256 * t.val + r.val; rw [(index_4 t).1]; omega
  | ⟨1, _⟩ => show win0_4.index t 1 * 2048 + 1 * e.val = e.val; rw [(index_4 t).2]; omega

theorem blk_5 (t : Fin cfg0.N) (r : Fin 256) (e : Fin 2048) :
    @Eq EReal ((X0_5 m c t : Vec Ideal S256x2048 .f32) (ix2 r e)) (wt m c (9216 + 256 * t.val + r.val) e) := by
  have ht := lt_N t
  refine Eq.trans ?_ (wt_at m c ⟨9216 + 256 * t.val + r.val, by omega⟩ e)
  unfold X0_5 Pipeline.Window.fill
  rw [dif_pos (moved0_5 t (ix2 r e))]
  unfold iblk
  rw [View.read_apply]
  show V m c main_v1 _ = V m c main_v1 _
  congr 1
  funext a
  apply Fin.ext
  match a with
  | ⟨0, _⟩ => show win0_5.index t 0 * 256 + 1 * r.val = 9216 + 256 * t.val + r.val; rw [(index_5 t).1]; omega
  | ⟨1, _⟩ => show win0_5.index t 1 * 2048 + 1 * e.val = e.val; rw [(index_5 t).2]; omega

theorem blk_6 (t : Fin cfg0.N) (r : Fin 32) (e : Fin 2048) :
    @Eq EReal ((iblk m c 6 t : Vec Ideal S32x2048 .f32) (ix2 r e)) (wt m c (9472 + 256 * t.val + r.val) e) := by
  have ht := lt_N t
  refine Eq.trans ?_ (wt_at m c ⟨9472 + 256 * t.val + r.val, by omega⟩ e)
  unfold iblk
  rw [View.read_apply]
  show V m c main_v1 _ = V m c main_v1 _
  congr 1
  funext a
  apply Fin.ext
  match a with
  | ⟨0, _⟩ => show win0_6.index t 0 * 32 + 1 * r.val = 9472 + 256 * t.val + r.val; rw [(index_6 t).1]; omega
  | ⟨1, _⟩ => show win0_6.index t 1 * 2048 + 1 * e.val = e.val; rw [(index_6 t).2]; omega

theorem blk_7 (t : Fin cfg0.N) (r : Fin 256) (e : Fin 2048) :
    @Eq EReal ((X0_7 m c t : Vec Ideal S256x2048 .f32) (ix2 r e)) (wt m c (11264 + 256 * t.val + r.val) e) := by
  have ht := lt_N t
  refine Eq.trans ?_ (wt_at m c ⟨11264 + 256 * t.val + r.val, by omega⟩ e)
  unfold X0_7 Pipeline.Window.fill
  rw [dif_pos (moved0_7 t (ix2 r e))]
  unfold iblk
  rw [View.read_apply]
  show V m c main_v1 _ = V m c main_v1 _
  congr 1
  funext a
  apply Fin.ext
  match a with
  | ⟨0, _⟩ => show win0_7.index t 0 * 256 + 1 * r.val = 11264 + 256 * t.val + r.val; rw [(index_7 t).1]; omega
  | ⟨1, _⟩ => show win0_7.index t 1 * 2048 + 1 * e.val = e.val; rw [(index_7 t).2]; omega

theorem blk_8 (t : Fin cfg0.N) (r : Fin 32) (e : Fin 2048) :
    @Eq EReal ((iblk m c 8 t : Vec Ideal S32x2048 .f32) (ix2 r e)) (wt m c (11520 + 256 * t.val + r.val) e) := by
  have ht := lt_N t
  refine Eq.trans ?_ (wt_at m c ⟨11520 + 256 * t.val + r.val, by omega⟩ e)
  unfold iblk
  rw [View.read_apply]
  show V m c main_v1 _ = V m c main_v1 _
  congr 1
  funext a
  apply Fin.ext
  match a with
  | ⟨0, _⟩ => show win0_8.index t 0 * 32 + 1 * r.val = 11520 + 256 * t.val + r.val; rw [(index_8 t).1]; omega
  | ⟨1, _⟩ => show win0_8.index t 1 * 2048 + 1 * e.val = e.val; rw [(index_8 t).2]; omega

/-- A slab's row from its two blocks' rows. -/
theorem slabV_of (x : Vec Ideal S256x2048 .f32) (y : Vec Ideal S32x2048 .f32) (n : ℕ) (q : Fin 256) (e : Fin 2048)
    (hx : ∀ r : Fin 256, @Eq EReal (x (ix2 r e)) (wt m c (n + r.val) e)) (hy : ∀ r : Fin 32, @Eq EReal (y (ix2 r e)) (wt m c (n + 256 + r.val) e)) :
    slabV x y q e = wt m c (n + 32 + q.val) e := by
  unfold slabV
  split
  · exact (hx _).trans (congrArg (wt m c · e) (by show n + (32 + q.val) = _; omega))
  · exact (hy _).trans (congrArg (wt m c · e) (by show n + 256 + (q.val - 224) = _; omega))

/-- The slabs of a tile, over the weights. -/
def slabW (j : ℕ) : Fin 4 → FVec Ideal S1x256x2048 .bf16
  | 0 => fun i => Ideal.ofBits .f32 0x3F000000#32 * wt m c (5152 + (256 * j + (i 1).val)) (i 2)
  | 1 => fun i => wt m c (7200 + (256 * j + (i 1).val)) (i 2)
  | 2 => fun i => wt m c (9248 + (256 * j + (i 1).val)) (i 2)
  | 3 => fun i => wt m c (11296 + (256 * j + (i 1).val)) (i 2)

theorem tile_eq (t : Fin cfg0.N) :
    tileS (X0_1 m c t) (iblk m c 2 t) (X0_3 m c t) (iblk m c 4 t) (X0_5 m c t) (iblk m c 6 t) (X0_7 m c t) (iblk m c 8 t) = slabW m c (t.val) := by
  funext k i
  obtain ⟨z, q, e, rfl⟩ : ∃ z q e, i = ix3 z q e := ⟨_, _, _, eq_ix3 i⟩
  match k with
  | 0 => exact congrArg (Ideal.ofBits .f32 0x3F000000#32 * ·) ((slabV_of m c _ _ _ q e (fun r => blk_1 m c t r e) (fun r => (blk_2 m c t r e).trans (congrArg (wt m c · e) (by omega)))).trans
            (congrArg (wt m c · e) (by show _ = 5152 + (256 * t.val + q.val); omega)))
  | 1 => exact (slabV_of m c _ _ _ q e (fun r => blk_3 m c t r e) (fun r => (blk_4 m c t r e).trans (congrArg (wt m c · e) (by omega)))).trans
            (congrArg (wt m c · e) (by show _ = 7200 + (256 * t.val + q.val); omega))
  | 2 => exact (slabV_of m c _ _ _ q e (fun r => blk_5 m c t r e) (fun r => (blk_6 m c t r e).trans (congrArg (wt m c · e) (by omega)))).trans
            (congrArg (wt m c · e) (by show _ = 9248 + (256 * t.val + q.val); omega))
  | 3 => exact (slabV_of m c _ _ _ q e (fun r => blk_7 m c t r e) (fun r => (blk_8 m c t r e).trans (congrArg (wt m c · e) (by omega)))).trans
            (congrArg (wt m c · e) (by show _ = 11296 + (256 * t.val + q.val); omega))

end Kernel

end Cert.SampleShort
-- ==== Proof.SampleRef.lean ====
module

public import proofs.«01_k».proof.Proof.Gen.Reference6Ideal.Run
public import proofs.«01_k».proof.Defs
public import Idealize.ShloMosaic.Lib.Pointwise
public import Idealize.ShloMosaic.Lib.Pipeline.ValueKit

/-!
# The reference's short-convolution call on the sample, at one index

A column of the sample's projection is a sum over the 2048 features. The gated product of two columns, with the
two rows of the state before each sample, is what the convolution reads, and its last two rows are what is handed on.
-/

@[expose] public section

set_option maxRecDepth 16384

open Idealize.ShloMosaic Idealize.ShloMosaic.TcCoe Idealize.ShloMosaic.Tactic Idealize.SL.Sem

namespace Cert.SampleShort

noncomputable section

open Cert.Reference6Ideal Cert.Reference6Ideal.Gen

/-- Column `r` of the projection of token `t`. -/
def pj (a0 : FVec Ideal S1024x2048 .bf16) (a1 : FVec Ideal S1x2048x13344 .f32) (t : Fin 1024) (r : Fin 13344) : EReal :=
  ∑ e : Fin 2048, (a0 (ix2 t e) * a1 (ix3 0 e r) : EReal)

/-- Row `n` of the sequence the convolution reads for sample `b`: two rows of the state, then the products of the columns. -/
def sq (a0 : FVec Ideal S1024x2048 .bf16) (a1 : FVec Ideal S1x2048x13344 .f32) (a3 : FVec Ideal S1x128x2x2048 .f32) (b : Fin 128) (n : ℕ) (j : Fin 2048) : EReal :=
  if h2 : n < 2 then a3 (ix4 0 b ⟨n, h2⟩ j) else if h : n - 2 < 8 then
    pj a0 a1 ⟨b.val * 8 + (n - 2), by omega⟩ ⟨9248 + j.val, by omega⟩ * pj a0 a1 ⟨b.val * 8 + (n - 2), by omega⟩ ⟨11296 + j.val, by omega⟩ else 0

/-- The projection, as the reference writes it. -/
def projR (a0 : FVec Ideal S1024x2048 .bf16) (a1 : FVec Ideal S1x2048x13344 .f32) : FVec Ideal S128x8x13344 .f32 :=
  Host.dotGeneral dot_S128x8x2048_S2048x13344_S128x8x13344_2_0_01_1_n_n none (shapeCast _ (extf .f32 a0 bitsLt_bf16_f32) shapeCasts_S1024x2048_S128x8x2048) (shapeCast _ a1 shapeCasts_S1x2048x13344_S2048x13344)

/-- The sequence the convolution reads. -/
def catR (p : FVec Ideal S128x8x13344 .f32) (a3 : FVec Ideal S1x128x2x2048 .f32) : FVec Ideal S128x10x2048 .f32 :=
  concatenate S128x10x2048 1 [⟨S128x2x2048, (shapeCast _ a3 shapeCasts_S1x128x2x2048_S128x2x2048)⟩, ⟨S128x8x2048, (mulf (extractStridedSlice S128x8x2048 ![0, 0, 4096] (extractStridedSlice S128x8x8192 ![0, 0, 5152] p slices_S128x8x13344_S128x8x8192_0_0_5152) slices_S128x8x8192_S128x8x2048_0_0_4096) (extractStridedSlice S128x8x2048 ![0, 0, 6144] (extractStridedSlice S128x8x8192 ![0, 0, 5152] p slices_S128x8x13344_S128x8x8192_0_0_5152) slices_S128x8x8192_S128x8x2048_0_0_6144))⟩] concatenates_S128x2x2048_S128x8x2048_S128x10x2048_d1

/-- The reference's first result of the projection, the sequence and the weights. -/
def yR (p : FVec Ideal S128x8x13344 .f32) (u : FVec Ideal S128x10x2048 .f32) (a2 : FVec Ideal S1x3x2048 .f32) : FVec Ideal S1024x2048 .bf16 :=
  truncf .bf16 (shapeCast _ (mulf (mulf (extractStridedSlice S128x8x2048 ![0, 0, 2048] (extractStridedSlice S128x8x8192 ![0, 0, 5152] p slices_S128x8x13344_S128x8x8192_0_0_5152) slices_S128x8x8192_S128x8x2048_0_0_2048) (addf (addf (mulf (extractStridedSlice S128x8x2048 ![0, 0, 0] u slices_S128x10x2048_S128x8x2048_0_0_0) (broadcastInDim S128x8x2048 ![0, 1, 2] bcast_S1x1x2048_S128x8x2048_0_1_2 (broadcastInDim S1x1x2048 ![2] bcast_S2048_S1x1x2048_2 (shapeCast _ (extractStridedSlice S1x2048 ![0, 0] (shapeCast _ a2 shapeCasts_S1x3x2048_S3x2048) slices_S3x2048_S1x2048_0_0) shapeCasts_S1x2048_S2048)))) (mulf (extractStridedSlice S128x8x2048 ![0, 1, 0] u slices_S128x10x2048_S128x8x2048_0_1_0) (broadcastInDim S128x8x2048 ![0, 1, 2] bcast_S1x1x2048_S128x8x2048_0_1_2 (broadcastInDim S1x1x2048 ![2] bcast_S2048_S1x1x2048_2 (shapeCast _ (extractStridedSlice S1x2048 ![1, 0] (shapeCast _ a2 shapeCasts_S1x3x2048_S3x2048) slices_S3x2048_S1x2048_1_0) shapeCasts_S1x2048_S2048))))) (mulf (extractStridedSlice S128x8x2048 ![0, 2, 0] u slices_S128x10x2048_S128x8x2048_0_2_0) (broadcastInDim S128x8x2048 ![0, 1, 2] bcast_S1x1x2048_S128x8x2048_0_1_2 (broadcastInDim S1x1x2048 ![2] bcast_S2048_S1x1x2048_2 (shapeCast _ (extractStridedSlice S1x2048 ![2, 0] (shapeCast _ a2 shapeCasts_S1x3x2048_S3x2048) slices_S3x2048_S1x2048_2_0) shapeCasts_S1x2048_S2048)))))) (mulf (extractStridedSlice S128x8x2048 ![0, 0, 0] (extractStridedSlice S128x8x8192 ![0, 0, 5152] p slices_S128x8x13344_S128x8x8192_0_0_5152) slices_S128x8x8192_S128x8x2048_0_0_0) (Host.divf (broadcastInDim S128x8x2048 ![] bcast_S_S128x8x2048 (constant S_ .f32 0x3F800000#32)) (addf (broadcastInDim S128x8x2048 ![] bcast_S_S128x8x2048 (constant S_ .f32 0x3F800000#32)) (Host.exp (Host.negf (extractStridedSlice S128x8x2048 ![0, 0, 0] (extractStridedSlice S128x8x8192 ![0, 0, 5152] p slices_S128x8x13344_S128x8x8192_0_0_5152) slices_S128x8x8192_S128x8x2048_0_0_0))))))) shapeCasts_S128x8x2048_S1024x2048) bitsLt_bf16_f32

/-- The reference's second result. -/
def nR (u : FVec Ideal S128x10x2048 .f32) : FVec Ideal S128x2x2048 .f32 :=
  extractStridedSlice S128x2x2048 ![0, 8, 0] u slices_S128x10x2048_S128x2x2048_0_8_0

theorem projR_at (a0 : FVec Ideal S1024x2048 .bf16) (a1 : FVec Ideal S1x2048x13344 .f32) (b : Fin 128) (l : Fin 8) (r : Fin 13344) :
    projR a0 a1 (ix3 b l r) = pj a0 a1 ⟨b.val * 8 + l.val, by omega⟩ r := by
  unfold projR
  pointwise
  rfl

theorem catR_at (p : FVec Ideal S128x8x13344 .f32) (a3 : FVec Ideal S1x128x2x2048 .f32) (b : Fin 128) (n : Fin 10) (j : Fin 2048) :
    catR p a3 (ix3 b n j) = if h2 : n.val < 2 then a3 (ix4 0 b ⟨n.val, h2⟩ j) else if h : n.val - 2 < 8 then
      (p (ix3 b ⟨n.val - 2, h⟩ ⟨9248 + j.val, by omega⟩) * p (ix3 b ⟨n.val - 2, h⟩ ⟨11296 + j.val, by omega⟩) : EReal) else 0 := by
  have e1 : ∀ h, (⟨5152 + (4096 + j.val), h⟩ : Fin 13344) = ⟨9248 + j.val, by omega⟩ := fun h => Fin.ext (show 5152 + (4096 + j.val) = 9248 + j.val by omega)
  have e2 : ∀ h, (⟨5152 + (6144 + j.val), h⟩ : Fin 13344) = ⟨11296 + j.val, by omega⟩ := fun h => Fin.ext (show 5152 + (6144 + j.val) = 11296 + j.val by omega)
  unfold catR
  pointwise
  split
  · rfl
  · rw [dif_pos (show n.val - 2 < 8 by omega)]
    simp only [e1, e2]

theorem yR_at (p : FVec Ideal S128x8x13344 .f32) (u : FVec Ideal S128x10x2048 .f32) (a2 : FVec Ideal S1x3x2048 .f32) (t : Fin 1024) (j : Fin 2048)
    (b : Fin 128) (l : Fin 8) (hb : b.val = t.val / 8) (hl : l.val = t.val % 8) :
    @Eq EReal (yR p u a2 (ix2 t j))
      (p (ix3 b l ⟨7200 + j.val, by omega⟩) * (u (ix3 b ⟨l.val, by omega⟩ j) * a2 (ix3 0 0 j) + u (ix3 b ⟨1 + l.val, by omega⟩ j) * a2 (ix3 0 1 j)
        + u (ix3 b ⟨2 + l.val, by omega⟩ j) * a2 (ix3 0 2 j))
      * (p (ix3 b l ⟨5152 + j.val, by omega⟩) * Ideal.div 1 (1 + Ideal.exp (-(p (ix3 b l ⟨5152 + j.val, by omega⟩) : EReal))))) := by
  have e1 : ∀ h, (⟨5152 + (2048 + j.val), h⟩ : Fin 13344) = ⟨7200 + j.val, by omega⟩ := fun h => Fin.ext (show 5152 + (2048 + j.val) = 7200 + j.val by omega)
  obtain rfl : b = ⟨t.val / 8, Nat.div_lt_of_lt_mul (show t.val < 8 * 128 from t.isLt)⟩ := Fin.ext hb
  obtain rfl : l = ⟨t.val % 8, Nat.mod_lt _ (by decide)⟩ := Fin.ext hl
  unfold yR
  pointwise
  simp only [e1]

theorem nR_at (u : FVec Ideal S128x10x2048 .f32) (b : Fin 128) (k : Fin 2) (j : Fin 2048) :
    nR u (ix3 b k j) = u (ix3 b ⟨8 + k.val, by omega⟩ j) := by
  unfold nR
  pointwise

theorem sq_at (a0 : FVec Ideal S1024x2048 .bf16) (a1 : FVec Ideal S1x2048x13344 .f32) (a3 : FVec Ideal S1x128x2x2048 .f32) (b : Fin 128) (n : Fin 10) (j : Fin 2048) :
    catR (projR a0 a1) a3 (ix3 b n j) = sq a0 a1 a3 b n.val j := by
  rw [catR_at]
  unfold sq
  split
  · rfl
  · split
    · rw [projR_at, projR_at]
    · rfl

/-- The convolution's three terms in the reference's order, the gate before them and the gate after them. -/
def yb (a0 : FVec Ideal S1024x2048 .bf16) (a1 : FVec Ideal S1x2048x13344 .f32) (a2 : FVec Ideal S1x3x2048 .f32) (a3 : FVec Ideal S1x128x2x2048 .f32)
    (b : Fin 128) (l : Fin 8) (j : Fin 2048) : EReal :=
  pj a0 a1 ⟨b.val * 8 + l.val, by omega⟩ ⟨7200 + j.val, by omega⟩ * (sq a0 a1 a3 b l.val j * a2 (ix3 0 0 j)
    + sq a0 a1 a3 b (1 + l.val) j * a2 (ix3 0 1 j) + sq a0 a1 a3 b (2 + l.val) j * a2 (ix3 0 2 j))
  * (pj a0 a1 ⟨b.val * 8 + l.val, by omega⟩ ⟨5152 + j.val, by omega⟩ * Ideal.div 1 (1 + Ideal.exp (-(pj a0 a1 ⟨b.val * 8 + l.val, by omega⟩ ⟨5152 + j.val, by omega⟩))))

/-- The reference's first result at an index. -/
theorem refY (a0 : FVec Ideal S1024x2048 .bf16) (a1 : FVec Ideal S1x2048x13344 .f32) (a2 : FVec Ideal S1x3x2048 .f32) (a3 : FVec Ideal S1x128x2x2048 .f32)
    (b : Fin 128) (l : Fin 8) (j : Fin 2048) :
    @Eq EReal (yR (projR a0 a1) (catR (projR a0 a1) a3) a2 (ix2 (⟨b.val * 8 + l.val, by omega⟩ : Fin 1024) j)) (yb a0 a1 a2 a3 b l j) := by
  rw [yR_at _ _ a2 ⟨b.val * 8 + l.val, by omega⟩ j b l (by show b.val = (b.val * 8 + l.val) / 8; omega) (by show l.val = (b.val * 8 + l.val) % 8; omega),
    sq_at, sq_at, sq_at, projR_at, projR_at]
  rfl

/-- The reference's second result at an index. -/
theorem refN (a0 : FVec Ideal S1024x2048 .bf16) (a1 : FVec Ideal S1x2048x13344 .f32) (a3 : FVec Ideal S1x128x2x2048 .f32) (b : Fin 128) (k : Fin 2) (j : Fin 2048) :
    @Eq EReal (nR (catR (projR a0 a1) a3) (ix3 b k j)) (sq a0 a1 a3 b (8 + k.val) j) := by
  rw [nR_at, sq_at]

end

end Cert.SampleShort
-- ==== Proof.SampleOut.lean ====
module

public import proofs.«01_k».proof.Proof.SampleKernel
public import proofs.«01_k».proof.Proof.SampleRef
public import proofs.«01_k».proof.Proof.ShortOut

/-! The short convolution's kernel on the sample, at one index of its results: a point is a tile of columns. -/

@[expose] public section

set_option maxRecDepth 16384

noncomputable section

namespace Cert.SampleShort

open Idealize.ShloMosaic Idealize.ShloMosaic.TcCoe Idealize.ShloMosaic.Tactic
open Cert.Kernel6Ideal Cert.Kernel6Ideal.Gen
open Cert.Short (slabV tileS)

variable (m : (ℓ : Loc nD τ sig) → Buf (Elt Ideal) ℓ) (c : Dev nD)

/-- The four arrays the kernel is called with. -/
abbrev A0 : FVec Ideal S1024x2048 .bf16 := m ((c.tc : Thread nD τ).loc main_arg0)
abbrev A1 : FVec Ideal S1x2048x13344 .f32 := m ((c.tc : Thread nD τ).loc main_arg1)
abbrev A2 : FVec Ideal S1x3x2048 .f32 := m ((c.tc : Thread nD τ).loc main_arg2)
abbrev A3 : FVec Ideal S1x128x2x2048 .f32 := m ((c.tc : Thread nD τ).loc main_arg3)

theorem wt_fin (R : Fin 13344) (e : Fin 2048) (n : ℕ) (hn : n = R.val) : wt m c n e = A1 m c (ix3 0 e R) := by
  subst hn
  exact dif_pos R.isLt

section At

variable (t : Fin cfg0.N) (q : Fin 256) (J : Fin 2048) (hJ : J.val = 256 * t.val + q.val)

/-- A whole slab of the transposed weights gives a column of the projection. -/
theorem pr_at (r : Fin 1024) (s : FVec Ideal S1x256x2048 .bf16) (R : Fin 13344) (hs : ∀ e, @Eq EReal (s (ix3 0 q e)) (A1 m c (ix3 0 e R))) :
    pr (iblk m c 0 t) s r q = pj (A0 m c) (A1 m c) r R := by
  refine Finset.sum_congr rfl fun e _ => ?_
  exact congrArg₂ (fun a b : EReal => a * b) (blk_0 m c t r e) (hs e)

include hJ in
theorem pr_b (r : Fin 1024) : pr (iblk m c 0 t) (slabW m c t.val 1) r q = pj (A0 m c) (A1 m c) r ⟨7200 + J.val, by omega⟩ :=
  pr_at m c t q r _ _ fun e => wt_fin m c _ e _ (show 7200 + (256 * t.val + q.val) = 7200 + J.val by omega)
include hJ in
theorem pr_c (r : Fin 1024) : pr (iblk m c 0 t) (slabW m c t.val 2) r q = pj (A0 m c) (A1 m c) r ⟨9248 + J.val, by omega⟩ :=
  pr_at m c t q r _ _ fun e => wt_fin m c _ e _ (show 9248 + (256 * t.val + q.val) = 9248 + J.val by omega)
include hJ in
theorem pr_v (r : Fin 1024) : pr (iblk m c 0 t) (slabW m c t.val 3) r q = pj (A0 m c) (A1 m c) r ⟨11296 + J.val, by omega⟩ :=
  pr_at m c t q r _ _ fun e => wt_fin m c _ e _ (show 11296 + (256 * t.val + q.val) = 11296 + J.val by omega)

include hJ in
theorem pr_z (r : Fin 1024) : pr (iblk m c 0 t) (slabW m c t.val 0) r q
    = ∑ e : Fin 2048, (A0 m c (ix2 r e) * (Ideal.ofBits .f32 0x3F000000#32 * A1 m c (ix3 0 e ⟨5152 + J.val, by omega⟩)) : EReal) := by
  refine Finset.sum_congr rfl fun e _ => ?_
  have hs : @Eq EReal (slabW m c t.val 0 (ix3 0 q e)) (Ideal.ofBits .f32 0x3F000000#32 * A1 m c (ix3 0 e ⟨5152 + J.val, by omega⟩)) :=
    congrArg (Ideal.ofBits .f32 0x3F000000#32 * ·) (wt_fin m c _ e _ (show 5152 + (256 * t.val + q.val) = 5152 + J.val by omega))
  exact congrArg₂ (fun a b : EReal => a * b) (blk_0 m c t r e) hs

include hJ in
/-- The rows the kernel's convolution reads are the rows the reference's does. -/
theorem seq_at (b : Fin 128) (k : ℕ) :
    seq (iblk m c 0 t) (slabW m c t.val) (iblk m c 10 t) b k q = sq (A0 m c) (A1 m c) (A3 m c) b k J := by
  unfold seq sq
  by_cases h2 : k < 2
  · rw [dif_pos h2, dif_pos h2]
    exact (blk_10 m c t b ⟨k, h2⟩ q).trans (congrArg (fun j => A3 m c (ix4 0 b ⟨k, h2⟩ j)) (Fin.ext hJ.symm))
  · rw [dif_neg h2, dif_neg h2]
    by_cases h : k - 2 < 8
    · rw [dif_pos h, dif_pos h, pr_c m c t q J hJ, pr_v m c t q J hJ]
    · rw [dif_neg h, dif_neg h]

end At

variable (h0 : ∀ i, ∃ r : ℝ, A0 m c i = (r : EReal)) (h1 : ∀ i, ∃ r : ℝ, A1 m c i = (r : EReal))

include h0 h1 in
/-- The kernel's first result. -/
theorem kernelY (b : Fin 128) (l : Fin 8) (J : Fin 2048) :
    @Eq EReal ((dats m 0 c).arrAt 11 cfg0.N (ix2 (⟨b.val * 8 + l.val, by omega⟩ : Fin 1024) J)) (yb (A0 m c) (A1 m c) (A2 m c) (A3 m c) b l J) := by
  have hn : J.val / 256 < cfg0.N := by rw [show cfg0.N = 8 from N_0]; omega
  have e := congrFun (Cert.Kernel6Ideal.Value.blocks11 m c ⟨J.val / 256, hn⟩ (flush0_11 _)) (ix2 (⟨b.val * 8 + l.val, by omega⟩ : Fin 1024) (⟨J.val % 256, by omega⟩ : Fin 256))
  rw [Cert.Kernel6Ideal.Value.flushed11_A, View.read_apply] at e
  have hi : ((cfg0.win 11).blk ⟨J.val / 256, hn⟩).view.emb (ix2 (⟨b.val * 8 + l.val, by omega⟩ : Fin 1024) (⟨J.val % 256, by omega⟩ : Fin 256))
      = ix2 (⟨b.val * 8 + l.val, by omega⟩ : Fin 1024) J := by
    funext a
    apply Fin.ext
    match a with
    | ⟨0, _⟩ => show win0_11.index ⟨J.val / 256, hn⟩ 0 * 1024 + 1 * (b.val * 8 + l.val) = b.val * 8 + l.val; rw [(index_11 _).1]; omega
    | ⟨1, _⟩ => show win0_11.index ⟨J.val / 256, hn⟩ 1 * 256 + 1 * (J.val % 256) = J.val; rw [(index_11 _).2]; show J.val / 256 * 256 + 1 * (J.val % 256) = J.val; omega
  rw [hi] at e
  refine e.trans ?_
  have hJ : J.val = 256 * (⟨J.val / 256, hn⟩ : Fin cfg0.N).val + (⟨J.val % 256, by omega⟩ : Fin 256).val := (Nat.div_add_mod _ _).symm
  refine (out11_A _ _ _ _ _ _ _ _ _ _ _ _ _ _ _ _ _ _ _ _ _ _ _ _ _ _ _ _ _ _ _ _ _ _ _ _ _ _ _ _ _ c _ _ b l _).trans ?_
  rw [tile_eq m c ⟨J.val / 256, hn⟩]
  have hw : ∀ k : Fin 3, @Eq EReal ((iblk m c 9 ⟨_, hn⟩ : Vec Ideal S3x256 .f32) (ix2 k (⟨J.val % 256, by omega⟩ : Fin 256))) (A2 m c (ix3 0 k J)) := fun k =>
    (blk_9 m c ⟨_, hn⟩ k _).trans (congrArg (fun i => A2 m c (ix3 0 k i)) (Fin.ext hJ.symm))
  unfold yv yb
  rw [pr_b m c _ _ J hJ, pr_z m c _ _ J hJ, seq_at m c _ _ J hJ, seq_at m c _ _ J hJ, seq_at m c _ _ J hJ]
  rw [show @Eq EReal _ _ from hw 0, show @Eq EReal _ _ from hw 1, show @Eq EReal _ _ from hw 2]
  rw [Cert.Short.gate_eq (fun e => A0 m c (ix2 (⟨b.val * 8 + l.val, by omega⟩ : Fin 1024) e)) (fun e => A1 m c (ix3 0 e ⟨5152 + J.val, by omega⟩)) (fun e => h0 _) (fun e => h1 _)]
  refine congrArg₂ (· * ·) (congrArg (_ * ·) ?_) rfl
  show _ = _
  rw [Nat.add_comm 1 l.val, Nat.add_comm 2 l.val]
  generalize sq _ _ _ _ _ _ * A2 m c (ix3 0 2 J) = x
  generalize sq _ _ _ _ _ _ * A2 m c (ix3 0 1 J) = y
  generalize sq _ _ _ _ _ _ * A2 m c (ix3 0 0 J) = z
  rw [add_comm (x + y) z, add_comm x y, add_assoc]

/-- The kernel's second result. -/
theorem kernelN (b : Fin 128) (k : Fin 2) (J : Fin 2048) :
    @Eq EReal ((dats m 0 c).arrAt 12 cfg0.N (ix3 b k J)) (sq (A0 m c) (A1 m c) (A3 m c) b (8 + k.val) J) := by
  have hn : J.val / 256 < cfg0.N := by rw [show cfg0.N = 8 from N_0]; omega
  have e := congrFun (Cert.Kernel6Ideal.Value.blocks12 m c ⟨J.val / 256, hn⟩ (flush0_12 _)) (ix3 b k (⟨J.val % 256, by omega⟩ : Fin 256))
  rw [Cert.Kernel6Ideal.Value.flushed12_A, View.read_apply] at e
  have hi : ((cfg0.win 12).blk ⟨J.val / 256, hn⟩).view.emb (ix3 b k (⟨J.val % 256, by omega⟩ : Fin 256)) = ix3 b k J := by
    funext a
    apply Fin.ext
    match a with
    | ⟨0, _⟩ => show win0_12.index ⟨J.val / 256, hn⟩ 0 * 128 + 1 * b.val = b.val; rw [(index_12 _).1]; omega
    | ⟨1, _⟩ => show win0_12.index ⟨J.val / 256, hn⟩ 1 * 2 + 1 * k.val = k.val; rw [(index_12 _).2.1]; omega
    | ⟨2, _⟩ => show win0_12.index ⟨J.val / 256, hn⟩ 2 * 256 + 1 * (J.val % 256) = J.val; rw [(index_12 _).2.2]; show J.val / 256 * 256 + 1 * (J.val % 256) = J.val; omega
  rw [hi] at e
  refine e.trans ?_
  refine (out12_A _ _ _ _ _ _ _ _ _ _ _ _ _ _ _ _ _ _ _ _ _ _ _ _ _ _ _ _ _ _ _ _ _ _ _ _ _ _ _ _ _ c _ _ b k _).trans ?_
  rw [tile_eq m c ⟨J.val / 256, hn⟩]
  exact seq_at m c _ _ J (Nat.div_add_mod _ _).symm b _

end Cert.SampleShort

end
-- ==== Proof.SampleFinish.lean ====
module

public import proofs.«01_k».proof.Defs
public import proofs.«01_k».proof.Proof.SampleOut
public import proofs.«01_k».proof.Proof.Finish
public import proofs.«01_k».proof.Proof.ShortFinish
public import proofs.«01_k».proof.Proof.Gen.Pre_sample_finite

/-! The short convolution's call on the sample: the precondition read, and the two programs' results met. -/

@[expose] public section

set_option maxRecDepth 16384

noncomputable section

namespace Cert.SampleShort

open Idealize.ShloMosaic Idealize.ShloMosaic.TcCoe Idealize.ShloMosaic.StableHlo Idealize.SL.Sem Idealize.ShloMosaic.Tactic

section Pre

open Cert.Pre_sample_finite Cert.Pre_sample_finite.Facts

attribute [local instance] Cert.Pre_sample_finite.Gen.facts

/-- The tests on the tokens and on the weights, as the precondition writes them. -/
def rowsOk (a : FVec Ideal S1024x2048 .bf16) : IVec S1024x2048 1 :=
  cmpf .olt (Host.absf a) (broadcastInDim S1024x2048 ![] bcast_S_S1024x2048 (constant S_ .bf16 0x7F80#16))
def weightsOk (a : FVec Ideal S1x2048x13344 .f32) : IVec S1x2048x13344 1 :=
  cmpf .olt (Host.absf a) (broadcastInDim S1x2048x13344 ![] bcast_S_S1x2048x13344 (constant S_ .f32 0x7F800000#32))

theorem rowsOk_at (a : FVec Ideal S1024x2048 .bf16) (t : Fin 1024) (e : Fin 2048) :
    rowsOk a (ix2 t e) = Ideal.cmp .olt (max (a (ix2 t e)) (-(a (ix2 t e)))) ⊤ := by
  rw [← Cert.Short.inf_word16]
  unfold rowsOk
  pointwise
  rfl

theorem weightsOk_at (a : FVec Ideal S1x2048x13344 .f32) (b : Fin 1) (e : Fin 2048) (r : Fin 13344) :
    weightsOk a (ix3 b e r) = Ideal.cmp .olt (max (a (ix3 b e r)) (-(a (ix3 b e r)))) ⊤ := by
  rw [← Cert.Finish.inf_word]
  unfold weightsOk
  pointwise
  rfl

theorem both (a0 a1 : IVec S_ 1) (e : concatenate S2 0 [⟨S1, broadcastInDim S1 ![] bcast_S_S1 a0⟩, ⟨S1, broadcastInDim S1 ![] bcast_S_S1 a1⟩] concatenates_S1_S1_S2_d0
    = (fun _ => 1#1)) : a0 ix0 = 1#1 ∧ a1 ix0 = 1#1 := Cert.Finish.both a0 a1 e

/-- Under the precondition the tokens and the weights are reals. -/
theorem reals (a0 : FVec Ideal S1024x2048 .bf16) (a1 : FVec Ideal S1x2048x13344 .f32) (a2 : FVec Ideal S1x3x2048 .f32)
    (a3 : FVec Ideal S1x128x2x2048 .f32) (e : Cert.Pre_sample_finite.fn (F := Ideal) a0 a1 a2 a3 = fun _ => 1#1) :
    (∀ i, ∃ r : ℝ, a0 i = (r : EReal)) ∧ ∀ i, ∃ r : ℝ, a1 i = (r : EReal) := by
  obtain ⟨h0, h1⟩ := both _ _ e
  have e0 : ∀ i, rowsOk a0 i = 1#1 := fun i => Host.reduce_andi_all _ _ _ _ _ h0 i
  have e1 : ∀ i, weightsOk a1 i = 1#1 := fun i => Host.reduce_andi_all _ _ _ _ _ h1 i
  refine ⟨fun i => ?_, fun i => ?_⟩
  · rw [eq_ix2 i]
    exact Cert.Finish.real_of_abs _ ((rowsOk_at a0 _ _).symm.trans (e0 _))
  · rw [eq_ix3 i]
    exact Cert.Finish.real_of_abs _ ((weightsOk_at a1 _ _ _).symm.trans (e1 _))

end Pre

section Ref

open Cert.Reference6Ideal Cert.Reference6Ideal.Gen

variable (m : (ℓ : Loc nD τ sig) → Buf (Elt Ideal) ℓ)

/-- The reference runs, leaves its arguments and ends with its counters at zero. -/
theorem frame (ρ : Dev nD → PrngReg) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run _ _ _).mono (fun r h => ⟨fun c => (h c).2.2, sem_eq_zero_of_no_sems (by decide) r.2⟩) (Cert.Reference6Ideal.Value.run m ρ)

end Ref

/-- The kernel and the reference end with the same two results. -/
theorem algebraic : Cert.algebraic_Kernel6Ideal_Reference6Ideal_pre_sample_finite (hKernel6Ideal := Cert.Kernel6Ideal.Gen.facts)
    (hReference6Ideal := Cert.Reference6Ideal.Gen.facts) (hPre_sample_finite := Cert.Pre_sample_finite.Gen.facts) := by
  intro m g m' g' hp hs
  refine ⟨fun c => (Cert.Kernel6Ideal.Gen.dats m 0 c).arrAt 11 Cert.Kernel6Ideal.cfg0.N, fun c => (Cert.Kernel6Ideal.Gen.dats m 0 c).arrAt 12 Cert.Kernel6Ideal.cfg0.N,
    Cert.Kernel6Ideal.Value.run_blocks m g, ?_⟩
  refine (θ_run _ _ _).mono (fun r h c => ⟨(h c).1.trans ?_, (h c).2.1.trans ?_, (h c).2.2⟩) (Cert.Reference6Ideal.Value.run m' g')
  all_goals obtain ⟨h0, h1, h2, h3⟩ := hs c
  · show yR (projR (m' ((c.tc : Thread Cert.Reference6Ideal.nD Cert.Reference6Ideal.τ).loc Cert.Reference6Ideal.main_arg0)) (m' ((c.tc : Thread Cert.Reference6Ideal.nD Cert.Reference6Ideal.τ).loc Cert.Reference6Ideal.main_arg1)))
      (catR (projR (m' ((c.tc : Thread Cert.Reference6Ideal.nD Cert.Reference6Ideal.τ).loc Cert.Reference6Ideal.main_arg0)) (m' ((c.tc : Thread Cert.Reference6Ideal.nD Cert.Reference6Ideal.τ).loc Cert.Reference6Ideal.main_arg1))) (m' ((c.tc : Thread Cert.Reference6Ideal.nD Cert.Reference6Ideal.τ).loc Cert.Reference6Ideal.main_arg3)))
      (m' ((c.tc : Thread Cert.Reference6Ideal.nD Cert.Reference6Ideal.τ).loc Cert.Reference6Ideal.main_arg2)) = _
    rw [h0, h1, h2, h3]
    funext i
    obtain ⟨b, l, J, rfl⟩ : ∃ (b : Fin 128) (l : Fin 8) (J : Fin 2048), i = ix2 (⟨b.val * 8 + l.val, by omega⟩ : Fin 1024) J := by
      have hl : (i 0).val < 1024 := (i 0).isLt
      refine ⟨⟨(i 0).val / 8, by omega⟩, ⟨(i 0).val % 8, by omega⟩, i 1, (eq_ix2 i).trans ?_⟩
      have e : i 0 = (⟨(i 0).val / 8 * 8 + (i 0).val % 8, by omega⟩ : Fin 1024) := Fin.ext (show (i 0).val = (i 0).val / 8 * 8 + (i 0).val % 8 by omega)
      exact congrArg (fun r : Fin 1024 => ix2 r (i 1)) e
    obtain ⟨e0, e1⟩ := reals _ _ _ _ (hp c)
    exact (refY _ _ _ _ b l J).trans (kernelY m c e0 e1 b l J).symm
  · show nR (catR (projR (m' ((c.tc : Thread Cert.Reference6Ideal.nD Cert.Reference6Ideal.τ).loc Cert.Reference6Ideal.main_arg0)) (m' ((c.tc : Thread Cert.Reference6Ideal.nD Cert.Reference6Ideal.τ).loc Cert.Reference6Ideal.main_arg1))) (m' ((c.tc : Thread Cert.Reference6Ideal.nD Cert.Reference6Ideal.τ).loc Cert.Reference6Ideal.main_arg3))) = _
    rw [h0, h1, h3]
    funext i
    rw [show i = ix3 (i 0) (i 1) (i 2) from eq_ix3 i]
    exact (refN _ _ _ (i 0) (i 1) (i 2)).trans (kernelN m c (i 0) (i 1) (i 2)).symm

end Cert.SampleShort

end
-- ==== Proof.StateExpr.lean ====
module

public import proofs.«01_k».proof.Proof.Gen.Kernel7Ideal.Value
public import Idealize.ShloMosaic.Lib.Pipeline.ValueKit

@[expose] public section

set_option maxRecDepth 16384

noncomputable section

/-! The expressions by which the sample's scan stores its last states: eight sequences of eight tokens a point, four groups a sequence. -/

namespace Cert.ScanSample

open Idealize.ShloMosaic Idealize.ShloMosaic.TcCoe Idealize.ShloMosaic.Tactic
open Cert.Kernel7Ideal Cert.Kernel7Ideal.Gen

variable {F : FTy → Type} [FloatOps F] [Named F]

/-- The row index modulo 8, as the kernel spells it. -/
def rowMod : IVec S64x128 32 :=
  have v8 : IVec S64x128 32 := iota .tc S64x128 32 [0] iota_S64x128_d0_w32
  have v10 : BitVec 32 := Scalar.select (Scalar.cmpi .eq 8#32 0#32) 1#32 8#32
  have v12 : IVec S64x128 32 := remsi v8 (broadcast S64x128 v10)
  have v14 : IVec S64x128 1 := cmpi .ne v12 (broadcast S64x128 0#32)
  have v16 : IVec S64x128 1 := cmpi .slt v12 (broadcast S64x128 0#32)
  have v18 : IVec S64x128 1 := broadcast S64x128 (Scalar.cmpi .slt v10 0#32)
  have v19 : IVec S64x128 1 := broadcastTo S64x128 v18 broadcasts_S64x128_S64x128
  have v21 : IVec S64x128 1 := andi (xori v16 v19) v14
  select v21 (addi v12 (broadcast S64x128 v10)) v12

/-- The step sizes times the rates. -/
def prod (dt : FVec F S64x128 .f32) (al : FVec F S1x128 .f32) : FVec F S64x128 .f32 :=
  mulf dt (broadcastTo S64x128 (subf (broadcast S1x128 (Scalar.ofBits .f32 0x00000000#32)) (exp (shapeCast S1x128 al shapeCasts_S1x128_S1x128))) broadcasts_S1x128_S64x128)

/-- One step of the running sum: add the row `s` above, of the same sequence. -/
def scanStep (s : BitVec 32) (x : FVec F S64x128 .f32) : FVec F S64x128 .f32 :=
  addf x (select (cmpi .sge rowMod (broadcast S64x128 s)) (dynamicRotate 0 s none x rotates_S64x128_d0)
    (broadcast S64x128 (Scalar.ofBits .f32 0x00000000#32)))

/-- The running sums in each sequence. -/
def acum (dt : FVec F S64x128 .f32) (al : FVec F S1x128 .f32) : FVec F S64x128 .f32 :=
  scanStep 4#32 (scanStep 2#32 (scanStep 1#32 (prod dt al)))

/-- The running sums' last rows. -/
def last (ac : FVec F S64x128 .f32) : FVec F S8x1x128 .f32 :=
  extractStridedSlice S8x1x128 ![0, 7, 0] (shapeCast S8x8x128 ac shapeCasts_S64x128_S8x8x128) slices_S8x8x128_o0_7_0_S8x1x128

/-- What a token's input weighs in the last state. -/
def fac (ac dt : FVec F S64x128 .f32) : FVec F S64x128 .f32 :=
  mulf (exp (subf (shapeCast S64x128 (broadcastTo S8x8x128 (shapeCast S8x1x128 (last ac) shapeCasts_S8x1x128_S8x1x128) broadcasts_S8x1x128_S8x8x128)
    shapeCasts_S8x8x128_S64x128) ac)) dt

/-- The weights over the columns: the rounded part and the rest. -/
def wts (f : FVec F S64x128 .f32) (ex : FVec F S128x2048 .bf16) : FVec F S64x2048 .f32 :=
  have v49 : FVec F S128x2048 .bf16 := shapeCast S128x2048 ex shapeCasts_S128x2048_S128x2048
  have v61 : FVec F S64x128 .bf16 := truncf .bf16 f bitsLt_bf16_f32
  have v62 : FVec F S64x2048 .f32 := matmul dot_S64x128_S128x2048_S64x2048_1_0_0_1_n_n none v61 v49 (constant S64x2048 .f32 0x00000000#32)
  have v65 : FVec F S64x128 .bf16 := truncf .bf16 (subf f (extf .f32 v61 bitsLt_bf16_f32)) bitsLt_bf16_f32
  addf v62 (matmul dot_S64x128_S128x2048_S64x2048_1_0_0_1_n_n none v65 v49 (constant S64x2048 .f32 0x00000000#32))

/-- What each head keeps of its state, by sequence. -/
def keep (ac : FVec F S64x128 .f32) : FVec F S128x8 .f32 :=
  transpose S128x8 [1, 0] (exp (shapeCast S8x128 (last ac) shapeCasts_S8x1x128_S8x128)) transposes_S8x128_p1_0_S128x8

theorem sliceK (g : Fin 4) (q k : Fin 8) : S128x8.Slices ![8 * g.val + k.val, q.val] S1x1 := by
  have := g.isLt; have := q.isLt; have := k.isLt
  refine ⟨rfl, fun a => ?_⟩
  fin_cases a <;> simp <;> omega
theorem sliceW (g : Fin 4) (q : Fin 8) : S64x2048.Slices ![8 * q.val, 512 * g.val] S8x512 := by
  have := g.isLt; have := q.isLt
  refine ⟨rfl, fun a => ?_⟩
  fin_cases a <;> simp <;> omega
theorem inbX (g : Fin 4) (q : Fin 8) (a : Fin 2) : (![8 * q.val, 512 * g.val] : Fin 2 → ℕ) a + S8x512.size a ≤ S64x3072.size a := by
  revert g q a; decide
theorem inbB (g : Fin 4) (q : Fin 8) (a : Fin 2) : (![8 * q.val, 2048 + 128 * g.val] : Fin 2 → ℕ) a + S8x128.size a ≤ S64x3072.size a := by
  revert g q a; decide
theorem inbH (g : Fin 4) (q : Fin 8) (a : Fin 3) : (![q.val, 512 * g.val, 0] : Fin 3 → ℕ) a + S1x512x128.size a ≤ S8x2048x128.size a := by
  revert g q a; decide

/-- A head's factor over its rows of a group. -/
def cdOne (kp : FVec F S128x8 .f32) (g : Fin 4) (q k : Fin 8) : FVec F S64x128 .f32 :=
  broadcastTo S64x128 (shapeCast S1x1 (extractStridedSlice S1x1 ![8 * g.val + k.val, q.val] kp (sliceK g q k)) shapeCasts_S1x1_S1x1) broadcasts_S1x1_S64x128

/-- The factors of a group's eight heads. -/
def cd (kp : FVec F S128x8 .f32) (g : Fin 4) (q : Fin 8) : FVec F S512x128 .f32 :=
  concatenate S512x128 0 [⟨S64x128, cdOne kp g q 0⟩, ⟨S64x128, cdOne kp g q 1⟩, ⟨S64x128, cdOne kp g q 2⟩, ⟨S64x128, cdOne kp g q 3⟩,
    ⟨S64x128, cdOne kp g q 4⟩, ⟨S64x128, cdOne kp g q 5⟩, ⟨S64x128, cdOne kp g q 6⟩, ⟨S64x128, cdOne kp g q 7⟩]
    concatenates_S64x128_S64x128_S64x128_S64x128_S64x128_S64x128_S64x128_S64x128_S512x128_d0

/-- The last state of a sequence's group. -/
def state (w : FVec F S64x2048 .f32) (kp : FVec F S128x8 .f32) (h : FVec F S1x512x128 .f32) (x : FVec F S8x512 .f32) (b : FVec F S8x128 .f32)
    (g : Fin 4) (q : Fin 8) : FVec F S1x512x128 .f32 :=
  shapeCast S1x512x128 (addf (mulf (shapeCast S512x128 h shapeCasts_S1x512x128_S512x128) (cd kp g q))
    (matmul dot_S512x8_S8x128_S512x128_1_0_0_1_n_n none
      (truncf .bf16 (transpose S512x8 [1, 0] (mulf x (extractStridedSlice S8x512 ![8 * q.val, 512 * g.val] w (sliceW g q))) transposes_S8x512_p1_0_S512x8) bitsLt_bf16_f32)
      (truncf .bf16 b bitsLt_bf16_f32) (constant S512x128 .f32 0x00000000#32))) shapeCasts_S512x128_S1x512x128

/-- The order of the stores, the last first. -/
def order : List (Fin 8 × Fin 4) :=
  [(7, 3), (7, 2), (7, 1), (7, 0), (6, 3), (6, 2), (6, 1), (6, 0), (5, 3), (5, 2), (5, 1), (5, 0), (4, 3), (4, 2), (4, 1), (4, 0),
   (3, 3), (3, 2), (3, 1), (3, 0), (2, 3), (2, 2), (2, 1), (2, 0), (1, 3), (1, 2), (1, 1), (1, 0), (0, 3), (0, 2), (0, 1), (0, 0)]

/-- The place of a sequence's group in the block of states. -/
def rectH (q : Fin 8) (g : Fin 4) : Rect S8x2048x128 := Rect.unit (s := S8x2048x128) ![q.val, 512 * g.val, 0] S1x512x128.size (inbH g q)

section Step

variable (c : Dev nD) (i : grid0.Coords) (arg1 : Memref sig .tc .vmem S64x2048 .bf16) (harg1 : arg1.IsWhole) (arg2 : Memref sig .tc .vmem S64x3072 .f32) (harg2 : arg2.IsWhole)
  (arg3 : Memref sig .tc .vmem S64x128 .f32) (harg3 : arg3.IsWhole) (arg4 : Memref sig .tc .vmem S8x2048x128 .f32) (harg4 : arg4.IsWhole)
  (arg5 : Memref sig .tc .vmem S1x128 .f32) (harg5 : arg5.IsWhole) (arg6 : Memref sig .tc .vmem S128x2048 .bf16) (harg6 : arg6.IsWhole)
  (arg7 : Memref sig .tc .vmem S128x256 .bf16) (harg7 : arg7.IsWhole) (arg8 : Memref sig .tc .vmem S1x2048 .f32) (harg8 : arg8.IsWhole)
  (arg9 : Memref sig .tc .vmem S1x2048 .f32) (harg9 : arg9.IsWhole) (arg10 : Memref sig .tc .vmem S64x2048 .bf16) (harg10 : arg10.IsWhole)
  (arg11 : Memref sig .tc .vmem S8x2048x128 .f32) (harg11 : arg11.IsWhole) (arg12 : Memref sig .tc .vmem S64x2048 .f32) (harg12 : arg12.IsWhole)
  (x0 : Vec F S64x2048 .bf16) (x1 : Vec F S64x3072 .f32) (x2 : Vec F S64x128 .f32) (x3 : Vec F S8x2048x128 .f32) (x4 : Vec F S1x128 .f32)
  (x5 : Vec F S128x2048 .bf16) (x6 : Vec F S128x256 .bf16) (x7 : Vec F S1x2048 .f32) (x8 : Vec F S1x2048 .f32)

/-- The body's loads. -/
def ldX (g : Fin 4) (q : Fin 8) : FVec F S8x512 .f32 :=
  View.readAt (Elt F) arg2.view (Rect.unit (s := S64x3072) ![8 * q.val, 512 * g.val] S8x512.size (inbX g q)).toLoadRect (harg2.unread x1)
def ldB (g : Fin 4) (q : Fin 8) : FVec F S8x128 .f32 :=
  View.readAt (Elt F) arg2.view (Rect.unit (s := S64x3072) ![8 * q.val, 2048 + 128 * g.val] S8x128.size (inbB g q)).toLoadRect (harg2.unread x1)
def ldD : FVec F S64x128 .f32 :=
  View.readAt (Elt F) arg3.view (Rect.unit (s := S64x128) ![0, 0] S64x128.size (by decide)).toLoadRect (harg3.unread x2)
def ldH (g : Fin 4) (q : Fin 8) : FVec F S1x512x128 .f32 :=
  View.readAt (Elt F) arg4.view (Rect.unit (s := S8x2048x128) ![q.val, 512 * g.val, 0] S1x512x128.size (inbH g q)).toLoadRect (harg4.unread x3)
def ldA : FVec F S1x128 .f32 :=
  View.readAt (Elt F) arg5.view (Rect.unit (s := S1x128) ![0, 0] S1x128.size (by decide)).toLoadRect (harg5.unread x4)
def ldE : FVec F S128x2048 .bf16 :=
  View.readAt (Elt F) arg6.view (Rect.unit (s := S128x2048) ![0, 0] S128x2048.size (by decide)).toLoadRect (harg6.unread x5)

/-- The stores of the states. -/
def stores (w : FVec F S64x2048 .f32) (kp : FVec F S128x8 .f32) (h : Fin 4 → Fin 8 → FVec F S1x512x128 .f32) (x : Fin 4 → Fin 8 → FVec F S8x512 .f32)
    (b : Fin 4 → Fin 8 → FVec F S8x128 .f32) : List (View.Piece (Elt F) S8x2048x128 .f32) :=
  order.map fun p => ⟨rectH p.1 p.2, state w kp (h p.2 p.1) (x p.2 p.1) (b p.2 p.1) p.2 p.1⟩

theorem states_A : (kernelRun0_A c i arg1 harg1 arg2 harg2 arg3 harg3 arg4 harg4 arg5 harg5 arg6 harg6 arg7 harg7 arg8 harg8 arg9 harg9 arg10 harg10 arg11 harg11 arg12 harg12 x0 x1 x2 x3 x4 x5 x6 x7 x8).2.1
    = stores (wts (fac (acum (ldD arg3 harg3 x2) (ldA arg5 harg5 x4)) (ldD arg3 harg3 x2)) (ldE arg6 harg6 x5)) (keep (acum (ldD arg3 harg3 x2) (ldA arg5 harg5 x4)))
      (ldH arg4 harg4 x3) (ldX arg2 harg2 x1) (ldB arg2 harg2 x1) := by
  sl_kernel_rfl

end Step

end Cert.ScanSample
-- ==== Proof.StateVal.lean ====
module

public import proofs.«01_k».proof.Proof.StateExpr
public import proofs.«01_k».proof.Proof.Vals

@[expose] public section

set_option maxRecDepth 16384

noncomputable section

/-! The sample's last states at an index, over the extended reals. -/

namespace Cert.ScanSample

open Idealize.ShloMosaic Idealize.ShloMosaic.TcCoe Idealize.ShloMosaic.Tactic
open Cert.Kernel7Ideal Cert.Kernel7Ideal.Gen

section Spec

variable (X D : ℕ → ℕ → EReal) (A : ℕ → EReal)

/-- The running sum of the decays' exponents in sequence `S`, of head `h`, up to token `l`. -/
def sumS (S h l : ℕ) : EReal := ∑ s : Fin 8, if s.val ≤ l then D (8 * S + s.val) h * A h else 0

/-- The last state of sequence `S` at column `j` and lane `n`, from the state `H`. -/
def lastS (S : ℕ) (H : ℕ → ℕ → EReal) (j n : ℕ) : EReal :=
  H j n * Ideal.exp (sumS D A S (j / 64) 7)
    + ∑ s : Fin 8, X (8 * S + s.val) j * (Ideal.exp (sumS D A S (j / 64) 7 - sumS D A S (j / 64) s.val) * D (8 * S + s.val) (j / 64))
        * X (8 * S + s.val) (2048 + 128 * (j / 512) + n)

end Spec

/-- Real. -/
def Re2 (D : ℕ → ℕ → EReal) : Prop := ∀ t h, h < 32 → ∃ r : ℝ, D t h = r

theorem sumS_real {D : ℕ → ℕ → EReal} {A : ℕ → EReal} (hD : Re2 D) (hA : Cert.Scan.Re A) (S h l : ℕ) (hh : h < 32) : ∃ r : ℝ, sumS D A S h l = r := by
  unfold sumS
  obtain ⟨a, ha⟩ := hA h hh
  refine Finset.sum_induction _ (fun x : EReal => ∃ r : ℝ, x = r) ?_ ⟨0, rfl⟩ fun s _ => ?_
  · rintro _ _ ⟨r, rfl⟩ ⟨r', rfl⟩
    exact ⟨r + r', (EReal.coe_add r r').symm⟩
  · split
    · obtain ⟨d, hd⟩ := hD (8 * S + s.val) h hh
      exact ⟨d * a, by rw [hd, ha, EReal.coe_mul]⟩
    · exact ⟨0, rfl⟩

/-- The whole window of eight is the running sum. -/
theorem window8 (x : ℕ → EReal) (l : ℕ) (hl : l < 8) :
    (∑ i ∈ Finset.range 8, if i ≤ l then x (l - i) else 0) = ∑ s : Fin 8, if s.val ≤ l then x s.val else 0 := by
  rw [Fin.sum_univ_eq_sum_range (fun s => if s ≤ l then x s else 0) 8, ← Finset.sum_filter, ← Finset.sum_filter]
  refine Finset.sum_nbij' (fun i => l - i) (fun i => l - i) ?_ ?_ ?_ ?_ ?_
  all_goals simp only [Finset.mem_filter, Finset.mem_range]
  all_goals intros
  all_goals first | omega | trivial

/-- A token's row in its block. -/
abbrev row (q l : Fin 8) : Fin 64 := ⟨q.val * 8 + l.val, by omega⟩

theorem rowMod_at (q l : Fin 8) (h : Fin 128) : rowMod (ix2 (row q l) h) = BitVec.ofNat 32 l.val := by
  have key : ∀ q l : Fin 8, (rowMod (ix2 (row q l) (0 : Fin 128)) : BitVec 32) = BitVec.ofNat 32 l.val := by
    decide +kernel
  exact key q l

theorem scanStep_at (s : ℕ) (hs : s < 8) (x : FVec Ideal S64x128 .f32) (f : ℕ → ℕ → ℕ → EReal)
    (hx : ∀ (q l : Fin 8) (h : Fin 128), x (ix2 (row q l) h) = f q l h) (q l : Fin 8) (h : Fin 128) :
    scanStep (BitVec.ofNat 32 s) x (ix2 (row q l) h) = f q l h + if s ≤ l.val then f q (l.val - s) h else 0 := by
  have e : scanStep (BitVec.ofNat 32 s) x (ix2 (row q l) h) = x (ix2 (row q l) h) + Scalar.select (IntOp.cmpi .sge (rowMod (ix2 (row q l) h)) (BitVec.ofNat 32 s))
      (dynamicRotate 0 (BitVec.ofNat 32 s) none x Facts₀.rotates_S64x128_d0 (ix2 (row q l) h)) (Ideal.ofBits .f32 0#32) := rfl
  rw [e, rowMod_at, Cert.Scan.sge_word _ _ (by omega) (by omega), Cert.Scan.select_ite, hx]
  pointwise
  congr 1
  split
  · next hl =>
    rw [← hx q ⟨l.val - s, by omega⟩ h]
    congr 2
    have : (BitVec.ofNat 32 s).toNat = s := by rw [BitVec.toNat_ofNat]; omega
    apply Fin.ext
    show (q.val * 8 + l.val + 64 - (BitVec.ofNat 32 s).toNat % 64) % 64 = q.val * 8 + (l.val - s)
    rw [this]
    omega
  · rfl

theorem prod_at (dt : FVec Ideal S64x128 .f32) (al : FVec Ideal S1x128 .f32) (r : Fin 64) (h : Fin 128) :
    prod dt al (ix2 r h) = dt (ix2 r h) * (0 - Ideal.exp (al (ix2 0 h))) := by
  unfold prod
  pointwise

theorem last_at (ac : FVec Ideal S64x128 .f32) (q : Fin 8) (h : Fin 128) : last ac (ix3 q 0 h) = ac (ix2 (row q 7) h) := by
  unfold last
  pointwise
  rfl

theorem fac_at (ac dt : FVec Ideal S64x128 .f32) (q l : Fin 8) (h : Fin 128) :
    fac ac dt (ix2 (row q l) h) = Ideal.exp (ac (ix2 (row q 7) h) - ac (ix2 (row q l) h)) * dt (ix2 (row q l) h) := by
  rw [← last_at ac q h]
  unfold fac
  pointwise
  rw [show (⟨(q.val * 8 + l.val) / 8, by omega⟩ : Fin 8) = q from Fin.ext (show (q.val * 8 + l.val) / 8 = q.val by omega)]

theorem keep_at (ac : FVec Ideal S64x128 .f32) (q : Fin 8) (h : Fin 128) : keep ac (ix2 h q) = Ideal.exp (ac (ix2 (row q 7) h)) := by
  rw [← last_at ac q h]
  unfold keep
  pointwise

theorem wts_at (f : FVec Ideal S64x128 .f32) (ex : FVec Ideal S128x2048 .bf16) (r : Fin 64) (j : Fin 2048) (k : ℕ) (hk : k < 128)
    (hex : ∀ x : Fin 128, ex (ix2 x j) = if x.val = k then 1 else 0) (hf : ∃ y : ℝ, f (ix2 r ⟨k, hk⟩) = y) :
    wts f ex (ix2 r j) = f (ix2 r ⟨k, hk⟩) := by
  have e : wts f ex (ix2 r j) = (∑ x : Fin 128, f (ix2 r x) * ex (ix2 x j)) + ∑ x : Fin 128, (f (ix2 r x) - f (ix2 r x)) * ex (ix2 x j) := by
    unfold wts
    pointwise
  rw [e]
  simp only [hex]
  rw [Cert.Scan.sum_onehot (fun x => f (ix2 r x)) k hk, Cert.Scan.sum_onehot (fun x => f (ix2 r x) - f (ix2 r x)) k hk]
  obtain ⟨y, hy⟩ := hf
  rw [hy, ← EReal.coe_sub, sub_self, EReal.coe_zero, add_zero]

theorem cdOne_at (kp : FVec Ideal S128x8 .f32) (g : Fin 4) (q k : Fin 8) (p : Fin 64) (n : Fin 128) :
    cdOne kp g q k (ix2 p n) = kp (ix2 ⟨8 * g.val + k.val, by omega⟩ q) := by
  unfold cdOne
  pointwise

theorem cd_at (kp : FVec Ideal S128x8 .f32) (g : Fin 4) (q k : Fin 8) (p : Fin 64) (n : Fin 128) :
    cd kp g q (ix2 ⟨64 * k.val + p.val, by omega⟩ n) = kp (ix2 ⟨8 * g.val + k.val, by omega⟩ q) := by
  rw [← cdOne_at kp g q k p n]
  have hp := p.isLt
  unfold cd
  fin_cases k <;> pointwise
  all_goals try repeat rw [dif_neg (by omega)]
  all_goals try rw [dif_pos (by omega)]
  all_goals exact congrArg (fun y : Fin 64 => cdOne kp g q _ (ix2 y n)) (Fin.ext (by dsimp only; omega))

theorem state_at (w : FVec Ideal S64x2048 .f32) (kp : FVec Ideal S128x8 .f32) (h : FVec Ideal S1x512x128 .f32) (x : FVec Ideal S8x512 .f32) (b : FVec Ideal S8x128 .f32)
    (g : Fin 4) (q : Fin 8) (r : Fin 512) (n : Fin 128) :
    state w kp h x b g q (ix3 0 r n) = h (ix3 0 r n) * kp (ix2 ⟨8 * g.val + r.val / 64, by omega⟩ q)
      + ∑ l : Fin 8, x (ix2 l r) * w (ix2 ⟨8 * q.val + l.val, by omega⟩ ⟨512 * g.val + r.val, by omega⟩) * b (ix2 l n) := by
  have e : cd kp g q (ix2 r n) = kp (ix2 ⟨8 * g.val + r.val / 64, by omega⟩ q) := by
    refine Eq.trans ?_ (cd_at kp g q ⟨r.val / 64, by omega⟩ ⟨r.val % 64, by omega⟩ n)
    exact congrArg (fun y : Fin 512 => cd kp g q (ix2 y n)) (Fin.ext (show r.val = 64 * (r.val / 64) + r.val % 64 by omega))
  rw [← e]
  unfold state
  pointwise

section Loads

variable (arg2 : Memref sig .tc .vmem S64x3072 .f32) (harg2 : arg2.IsWhole)
  (arg3 : Memref sig .tc .vmem S64x128 .f32) (harg3 : arg3.IsWhole) (arg4 : Memref sig .tc .vmem S8x2048x128 .f32) (harg4 : arg4.IsWhole)
  (arg5 : Memref sig .tc .vmem S1x128 .f32) (harg5 : arg5.IsWhole) (arg6 : Memref sig .tc .vmem S128x2048 .bf16) (harg6 : arg6.IsWhole)
  (x1 : Vec Ideal S64x3072 .f32) (x2 : Vec Ideal S64x128 .f32) (x3 : Vec Ideal S8x2048x128 .f32) (x4 : Vec Ideal S1x128 .f32)
  (x5 : Vec Ideal S128x2048 .bf16)

theorem ldX_at (g : Fin 4) (q l : Fin 8) (r : Fin 512) : ldX arg2 harg2 x1 g q (ix2 l r) = x1 (ix2 ⟨8 * q.val + l.val, by omega⟩ ⟨512 * g.val + r.val, by omega⟩) := by
  unfold ldX
  rw [View.readAt_eq_ld, harg2.read_unread]
  pointwise

theorem ldB_at (g : Fin 4) (q l : Fin 8) (n : Fin 128) : ldB arg2 harg2 x1 g q (ix2 l n) = x1 (ix2 ⟨8 * q.val + l.val, by omega⟩ ⟨2048 + 128 * g.val + n.val, by omega⟩) := by
  unfold ldB
  rw [View.readAt_eq_ld, harg2.read_unread]
  pointwise

theorem ldD_at (r : Fin 64) (h : Fin 128) : ldD arg3 harg3 x2 (ix2 r h) = x2 (ix2 r h) := by
  unfold ldD
  rw [View.readAt_eq_ld, harg3.read_unread]
  pointwise

theorem ldH_at (g : Fin 4) (q : Fin 8) (r : Fin 512) (n : Fin 128) : ldH arg4 harg4 x3 g q (ix3 0 r n) = x3 (ix3 q ⟨512 * g.val + r.val, by omega⟩ n) := by
  unfold ldH
  rw [View.readAt_eq_ld, harg4.read_unread]
  pointwise

theorem ldA_at (h : Fin 128) : ldA arg5 harg5 x4 (ix2 0 h) = x4 (ix2 0 h) := by
  unfold ldA
  rw [View.readAt_eq_ld, harg5.read_unread]
  pointwise

theorem ldE_at (k : Fin 128) (j : Fin 2048) : ldE arg6 harg6 x5 (ix2 k j) = x5 (ix2 k j) := by
  unfold ldE
  rw [View.readAt_eq_ld, harg6.read_unread]
  pointwise

end Loads

theorem mem_order (t : Fin 8 × Fin 4) : t ∈ order := by revert t; decide

/-- The stores of the states hold each sequence's group in its place. -/
theorem stores_at (w : FVec Ideal S64x2048 .f32) (kp : FVec Ideal S128x8 .f32) (h : Fin 4 → Fin 8 → FVec Ideal S1x512x128 .f32) (x : Fin 4 → Fin 8 → FVec Ideal S8x512 .f32)
    (b : Fin 4 → Fin 8 → FVec Ideal S8x128 .f32) (q : Fin 8) (g : Fin 4) (r : Fin 512) (n : Fin 128) :
    View.canon (stores w kp h x b) (ix3 q ⟨512 * g.val + r.val, by omega⟩ n) = state w kp (h g q) (x g q) (b g q) g q (ix3 0 r n) := by
  refine View.canon_eq_of_allAt _ _ _ ?_ ?_
  · refine ⟨_, List.mem_map_of_mem (mem_order (q, g)), ?_⟩
    show _ ∈ (Rect.unit (s := S8x2048x128) ![q.val, 512 * g.val, 0] S1x512x128.size (inbH g q)).set
    rw [Rect.mem_set_unit]
    intro a
    fin_cases a
    · show q.val ≤ q.val ∧ q.val < q.val + 1
      omega
    · show 512 * g.val ≤ 512 * g.val + r.val ∧ 512 * g.val + r.val < 512 * g.val + 512
      omega
    · show 0 ≤ n.val ∧ n.val < 0 + 128
      omega
  · intro p hp
    obtain ⟨⟨q', g'⟩, _, rfl⟩ := List.mem_map.mp hp
    intro y hy
    have h0 : q'.val + 1 * (y 0).val = q.val := congrArg (fun i => (i 0).val) hy
    have h1 : 512 * g'.val + 1 * (y 1).val = 512 * g.val + r.val := congrArg (fun i => (i 1).val) hy
    have h2 : 0 + 1 * (y 2).val = n.val := congrArg (fun i => (i 2).val) hy
    have y0 : (y 0).val < 1 := (y 0).isLt
    have y1 : (y 1).val < 512 := (y 1).isLt
    obtain rfl : q' = q := Fin.ext (by omega)
    obtain rfl : g' = g := Fin.ext (by omega)
    refine congrArg (state w kp (h g' q') (x g' q') (b g' q') g' q') ?_
    funext a
    fin_cases a
    · exact Fin.ext (show (y 0).val = 0 by omega)
    · exact Fin.ext (show (y 1).val = r.val by omega)
    · exact Fin.ext (show (y 2).val = n.val by omega)

section Point

variable {X D : ℕ → ℕ → EReal} {A : ℕ → EReal} (hD : Re2 D) (hA : Cert.Scan.Re A) (T : ℕ) (H : ℕ → ℕ → ℕ → EReal)
  (c : Dev nD) (i : grid0.Coords) (arg1 : Memref sig .tc .vmem S64x2048 .bf16) (harg1 : arg1.IsWhole) (arg2 : Memref sig .tc .vmem S64x3072 .f32) (harg2 : arg2.IsWhole)
  (arg3 : Memref sig .tc .vmem S64x128 .f32) (harg3 : arg3.IsWhole) (arg4 : Memref sig .tc .vmem S8x2048x128 .f32) (harg4 : arg4.IsWhole)
  (arg5 : Memref sig .tc .vmem S1x128 .f32) (harg5 : arg5.IsWhole) (arg6 : Memref sig .tc .vmem S128x2048 .bf16) (harg6 : arg6.IsWhole)
  (arg7 : Memref sig .tc .vmem S128x256 .bf16) (harg7 : arg7.IsWhole) (arg8 : Memref sig .tc .vmem S1x2048 .f32) (harg8 : arg8.IsWhole)
  (arg9 : Memref sig .tc .vmem S1x2048 .f32) (harg9 : arg9.IsWhole) (arg10 : Memref sig .tc .vmem S64x2048 .bf16) (harg10 : arg10.IsWhole)
  (arg11 : Memref sig .tc .vmem S8x2048x128 .f32) (harg11 : arg11.IsWhole) (arg12 : Memref sig .tc .vmem S64x2048 .f32) (harg12 : arg12.IsWhole)
  (x0 : Vec Ideal S64x2048 .bf16) (x1 : Vec Ideal S64x3072 .f32) (x2 : Vec Ideal S64x128 .f32) (x3 : Vec Ideal S8x2048x128 .f32) (x4 : Vec Ideal S1x128 .f32)
  (x5 : Vec Ideal S128x2048 .bf16) (x6 : Vec Ideal S128x256 .bf16) (x7 : Vec Ideal S1x2048 .f32) (x8 : Vec Ideal S1x2048 .f32)
  (h1 : ∀ (r : Fin 64) (j : Fin 3072), @Eq EReal (x1 (ix2 r j)) (X (64 * T + r.val) j.val))
  (h2 : ∀ (r : Fin 64) (k : Fin 128), @Eq EReal (x2 (ix2 r k)) (D (64 * T + r.val) k.val))
  (h3 : ∀ (q : Fin 8) (j : Fin 2048) (n : Fin 128), @Eq EReal (x3 (ix3 q j n)) (H (8 * T + q.val) j.val n.val))
  (h4 : ∀ k : Fin 128, 0 - Ideal.exp (x4 (ix2 0 k)) = A k.val)
  (h5 : ∀ (k : Fin 128) (j : Fin 2048), @Eq EReal (x5 (ix2 k j)) (if k.val = j.val / 64 then 1 else 0))

include h2 h4 in
theorem acum_at (q l : Fin 8) (h : Fin 128) :
    acum (ldD arg3 harg3 x2) (ldA arg5 harg5 x4) (ix2 (row q l) h) = sumS D A (8 * T + q.val) h.val l.val := by
  unfold sumS
  refine Eq.trans ?_ (window8 (fun s => D (8 * (8 * T + q.val) + s) h.val * A h.val) l.val l.isLt)
  have W : ∀ (w : ℕ) (_ : w < 8) (y : FVec Ideal S64x128 .f32)
      (_ : ∀ (q l : Fin 8) (h : Fin 128), y (ix2 (row q l) h) = ∑ i ∈ Finset.range w, if i ≤ l.val then D (8 * (8 * T + q.val) + (l.val - i)) h.val * A h.val else 0),
      ∀ (q l : Fin 8) (h : Fin 128), scanStep (BitVec.ofNat 32 w) y (ix2 (row q l) h)
        = ∑ i ∈ Finset.range (w + w), if i ≤ l.val then D (8 * (8 * T + q.val) + (l.val - i)) h.val * A h.val else 0 := by
    intro w hw y hy q l h
    rw [scanStep_at w hw y (fun q l h => ∑ i ∈ Finset.range w, if i ≤ l then D (8 * (8 * T + q) + (l - i)) h * A h else 0) hy q l h]
    exact (Cert.Scan.window_double (fun s => D (8 * (8 * T + q.val) + s) h.val * A h.val) w l).symm
  refine W 4 (by omega) _ (W 2 (by omega) _ (W 1 (by omega) _ fun q l h => ?_)) q l h
  rw [prod_at, ldD_at, ldA_at, h4, h2]
  simp only [Finset.range_one, Finset.sum_singleton, Nat.zero_le, if_true, Nat.sub_zero]
  rw [show 64 * T + (q.val * 8 + l.val) = 8 * (8 * T + q.val) + l.val by omega]

include hD hA h1 h2 h3 h4 h5 in
/-- A point leaves the last states of its eight sequences. -/
theorem out_at (q : Fin 8) (j : Fin 2048) (n : Fin 128) :
    out0_A_10 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 (ix3 q j n)
      = lastS X D A (8 * T + q.val) (H (8 * T + q.val)) j.val n.val := by
  unfold out0_A_10
  rw [View.read_writes_eq_canon _ _ _ (cover0_A_10 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8), states_A]
  obtain ⟨g, r, rfl⟩ : ∃ (g : Fin 4) (r : Fin 512), j = ⟨512 * g.val + r.val, by omega⟩ :=
    ⟨⟨j.val / 512, by omega⟩, ⟨j.val % 512, by omega⟩, Fin.ext (show j.val = 512 * (j.val / 512) + j.val % 512 by omega)⟩
  rw [stores_at, state_at, ldH_at, keep_at, acum_at T arg3 harg3 arg5 harg5 x2 x4 h2 h4, h3]
  have hg := g.isLt; have hr := r.isLt
  unfold lastS
  have ej : 8 * g.val + r.val / 64 = (512 * g.val + r.val) / 64 := by omega
  refine congrArg₂ (· + ·) ?_ (Finset.sum_congr rfl fun l _ => ?_)
  · show _ * Ideal.exp (sumS D A _ (8 * g.val + r.val / 64) 7) = _
    rw [ej]
  · have hl : (⟨8 * q.val + l.val, by omega⟩ : Fin 64) = row q l := Fin.ext (show 8 * q.val + l.val = q.val * 8 + l.val by omega)
    have F : fac (acum (ldD arg3 harg3 x2) (ldA arg5 harg5 x4)) (ldD arg3 harg3 x2) (ix2 (row q l) ⟨(512 * g.val + r.val) / 64, by omega⟩)
        = Ideal.exp (sumS D A (8 * T + q.val) ((512 * g.val + r.val) / 64) 7 - sumS D A (8 * T + q.val) ((512 * g.val + r.val) / 64) l.val)
          * D (8 * (8 * T + q.val) + l.val) ((512 * g.val + r.val) / 64) := by
      rw [fac_at, acum_at T arg3 harg3 arg5 harg5 x2 x4 h2 h4, acum_at T arg3 harg3 arg5 harg5 x2 x4 h2 h4, ldD_at, h2]
      rw [show 64 * T + (q.val * 8 + l.val) = 8 * (8 * T + q.val) + l.val by omega]
      rfl
    rw [ldX_at, ldB_at, h1, h1, hl, wts_at _ _ _ _ ((512 * g.val + r.val) / 64) (by omega) (fun k => (ldE_at arg6 harg6 x5 k _).trans (h5 k _)) ?_, F]
    · show X (64 * T + (q.val * 8 + l.val)) _ * _ * X (64 * T + (q.val * 8 + l.val)) _ = _
      rw [show 64 * T + (q.val * 8 + l.val) = 8 * (8 * T + q.val) + l.val by omega, show (512 * g.val + r.val) / 512 = g.val by omega]
    · rw [F]
      obtain ⟨u, hu⟩ := sumS_real hD hA (8 * T + q.val) ((512 * g.val + r.val) / 64) 7 (by omega)
      obtain ⟨v, hv⟩ := sumS_real hD hA (8 * T + q.val) ((512 * g.val + r.val) / 64) l.val (by omega)
      obtain ⟨d, hd⟩ := hD (8 * (8 * T + q.val) + l.val) ((512 * g.val + r.val) / 64) (by omega)
      rw [hu, hv, hd, ← EReal.coe_sub, Ideal.exp_coe, ← EReal.coe_mul]
      exact ⟨_, rfl⟩

end Point

end Cert.ScanSample
-- ==== Proof.StateRef.lean ====
module

public import proofs.«01_k».proof.Proof.Gen.Reference7Ideal
public import proofs.«01_k».proof.Proof.Gen.Reference7Ideal.Run
public import proofs.«01_k».proof.Proof.StateVal
public import proofs.«01_k».proof.Proof.Args
public import proofs.«01_k».proof.Proof.WindowSum

@[expose] public section

set_option maxRecDepth 16384

noncomputable section

/-! The reference's last states of the sample, at an index. -/

namespace Cert.StateRef

open Idealize.ShloMosaic Idealize.ShloMosaic.TcCoe Idealize.ShloMosaic.Tactic
open Cert.Reference7Ideal Cert.Reference7Ideal.Gen
open Cert.Args (rateF grid grid_at)
open Cert.ScanSample (sumS lastS)

section

variable (x1 : FVec Ideal S1024x3072 .f32) (x2 : FVec Ideal S1024x128 .f32) (x3 : FVec Ideal S1x128x32x64x128 .f32) (x4 : FVec Ideal S1x32 .f32)

/-- The convolved values, the step sizes and the states as functions of numbers. -/
def convN : ℕ → ℕ → EReal := grid fun (t : Fin 1024) (j : Fin 3072) => x1 (ix2 t j)
def stepN : ℕ → ℕ → EReal := grid fun (t : Fin 1024) (j : Fin 128) => x2 (ix2 t j)

def stateN (s j n : ℕ) : EReal := grid (fun (j : Fin 2048) (n : Fin 128) => if h : s < 128 then x3 (ix5 0 ⟨s, h⟩ ⟨j.val / 64, by omega⟩ ⟨j.val % 64, by omega⟩ n) else 0) j n

/-- The convolved values by sequence. -/
def seqs : FVec Ideal S128x8x3072 .f32 := shapeCast S128x8x3072 x1 Facts₀.shapeCasts_S1024x3072_S128x8x3072
/-- The scan's inputs by head. -/
def xh : FVec Ideal S128x8x32x64 .f32 :=
  shapeCast S128x8x32x64 (extractStridedSlice S128x8x2048 ![0, 0, 0] (seqs x1) Facts₀.slices_S128x8x3072_S128x8x2048_0_0_0) Facts₀.shapeCasts_S128x8x2048_S128x8x32x64
/-- The input maps by group. -/
def bh : FVec Ideal S128x1x8x4x128 .f32 :=
  shapeCast S128x1x8x4x128 (shapeCast S128x8x4x128 (extractStridedSlice S128x8x512 ![0, 0, 2048] (seqs x1) Facts₀.slices_S128x8x3072_S128x8x512_0_0_2048)
    Facts₀.shapeCasts_S128x8x512_S128x8x4x128) Facts₀.shapeCasts_S128x8x4x128_S128x1x8x4x128
/-- The step sizes by sequence. -/
def dth : FVec Ideal S128x8x32 .f32 :=
  shapeCast S128x8x32 (extractStridedSlice S1024x32 ![0, 0] x2 Facts₀.slices_S1024x128_S1024x32_0_0) Facts₀.shapeCasts_S1024x32_S128x8x32
/-- The heads' decay rates. -/
def rates : FVec Ideal S32 .f32 := Host.negf (Host.exp (shapeCast S32 x4 Facts₀.shapeCasts_S1x32_S32))
/-- The inputs times the step sizes. -/
def xdt : FVec Ideal S128x1x8x4x8x64 .f32 :=
  shapeCast S128x1x8x4x8x64 (mulf (xh x1) (broadcastInDim S128x8x32x64 ![0, 1, 2, 3] Facts₀.bcast_S128x8x32x1_S128x8x32x64_0_1_2_3
    (broadcastInDim S128x8x32x1 ![0, 1, 2] Facts₀.bcast_S128x8x32_S128x8x32x1_0_1_2 (dth x2)))) Facts₀.shapeCasts_S128x8x32x64_S128x1x8x4x8x64
/-- The step sizes times the rates. -/
def da : FVec Ideal S128x1x8x4x8 .f32 :=
  shapeCast S128x1x8x4x8 (mulf (dth x2) (broadcastInDim S128x8x32 ![0, 1, 2] Facts₀.bcast_S1x1x32_S128x8x32_0_1_2
    (broadcastInDim S1x1x32 ![2] Facts₀.bcast_S32_S1x1x32_2 (rates x4)))) Facts₀.shapeCasts_S128x8x32_S128x1x8x4x8
/-- The running sums of the decays' exponents. -/
def cum : FVec Ideal S128x1x8x4x8 .f32 :=
  Host.reduceWindowAdd ![1, 1, 8, 1, 1] ![1, 1, 1, 1, 1] ![0, 0, 7, 0, 0] ![0, 0, 0, 0, 0] (da x2 x4)
    (broadcastInDim S_ ![] Facts₀.bcast_S_S_ (constant S_ .f32 0x00000000#32)) Facts₀.reduceWindows_S128x1x8x4x8_S128x1x8x4x8_w1s1p0_0_w1s1p0_0_w8s1p7_0_w1s1p0_0_w1s1p0_0 Facts₀.h_S_
/-- What the tokens add to the state. -/
def adds : FVec Ideal S128x1x4x8x64x128 .f32 :=
  Host.dotGeneral dot_S128x1x8x4x8x64_S128x1x8x4x128_S128x1x4x8x64x128_2_2_45_4_013_013 none
    (mulf (broadcastInDim S128x1x8x4x8x64 ![0, 1, 2, 3, 4, 5] Facts₀.bcast_S128x1x8x4x8x1_S128x1x8x4x8x64_0_1_2_3_4_5
      (broadcastInDim S128x1x8x4x8x1 ![0, 1, 2, 3, 4] Facts₀.bcast_S128x1x8x4x8_S128x1x8x4x8x1_0_1_2_3_4
        (Host.exp (subf (broadcastInDim S128x1x8x4x8 ![0, 1, 2, 3, 4] Facts₀.bcast_S128x1x1x4x8_S128x1x8x4x8_0_1_2_3_4
          (extractStridedSlice S128x1x1x4x8 ![0, 0, 7, 0, 0] (cum x2 x4) Facts₀.slices_S128x1x8x4x8_S128x1x1x4x8_0_0_7_0_0)) (cum x2 x4))))) (xdt x1 x2)) (bh x1)
/-- What each head keeps of the state. -/
def keep : FVec Ideal S128x1x4x8 .f32 :=
  Host.exp (shapeCast S128x1x4x8 (extractStridedSlice S128x1x1x4x8 ![0, 0, 7, 0, 0] (cum x2 x4) Facts₀.slices_S128x1x8x4x8_S128x1x1x4x8_0_0_7_0_0)
    Facts₀.shapeCasts_S128x1x1x4x8_S128x1x4x8)
/-- The last states. -/
def out : FVec Ideal S128x2048x128 .f32 :=
  shapeCast S128x2048x128 (addf (mulf (shapeCast S128x4x8x64x128 (shapeCast S128x32x64x128 x3 Facts₀.shapeCasts_S1x128x32x64x128_S128x32x64x128) Facts₀.shapeCasts_S128x32x64x128_S128x4x8x64x128)
    (broadcastInDim S128x4x8x64x128 ![0, 1, 2, 3, 4] Facts₀.bcast_S128x4x8x1x1_S128x4x8x64x128_0_1_2_3_4
      (broadcastInDim S128x4x8x1x1 ![0, 1, 2] Facts₀.bcast_S128x4x8_S128x4x8x1x1_0_1_2 (shapeCast S128x4x8 (keep x2 x4) Facts₀.shapeCasts_S128x1x4x8_S128x4x8))))
    (shapeCast S128x4x8x64x128 (adds x1 x2 x4) Facts₀.shapeCasts_S128x1x4x8x64x128_S128x4x8x64x128)) Facts₀.shapeCasts_S128x4x8x64x128_S128x2048x128

theorem conv_eq (r : Fin 1024) (j : Fin 3072) (t i : ℕ) (ht : r.val = t) (hi : j.val = i) : x1 (ix2 r j) = convN x1 t i := by
  subst ht hi
  rw [convN, grid_at _ _ _ r.isLt j.isLt]

theorem step_eq (r : Fin 1024) (j : Fin 128) (t i : ℕ) (ht : r.val = t) (hi : j.val = i) : x2 (ix2 r j) = stepN x2 t i := by
  subst ht hi
  rw [stepN, grid_at _ _ _ r.isLt j.isLt]

theorem xh_at (b : Fin 128) (t : Fin 8) (h : Fin 32) (p : Fin 64) : xh x1 (ix4 b t h p) = convN x1 (8 * b.val + t.val) (64 * h.val + p.val) := by
  unfold xh seqs
  pointwise
  exact conv_eq x1 _ _ _ _ (by dsimp only; omega) (by dsimp only; omega)

theorem bh_at (b : Fin 128) (l : Fin 8) (g : Fin 4) (n : Fin 128) :
    bh x1 (ix5 b 0 l g n) = convN x1 (8 * b.val + l.val) (2048 + 128 * g.val + n.val) := by
  unfold bh seqs
  pointwise
  exact conv_eq x1 _ _ _ _ (by dsimp only; omega) (by dsimp only; omega)

theorem dth_at (b : Fin 128) (t : Fin 8) (h : Fin 32) : dth x2 (ix3 b t h) = stepN x2 (8 * b.val + t.val) h.val := by
  unfold dth
  pointwise
  exact step_eq x2 _ _ _ _ (by dsimp only; omega) (by dsimp only)

theorem rates_at (h : Fin 32) : rates x4 (ix1 h) = rateF x4 h.val := by
  unfold rates
  pointwise
  rw [rateF, grid_at _ _ _ (by decide) h.isLt, zero_sub]
  rfl

theorem xdt_at (b : Fin 128) (l : Fin 8) (g : Fin 4) (e : Fin 8) (p : Fin 64) :
    xdt x1 x2 (ix6 b 0 l g e p) = convN x1 (8 * b.val + l.val) (512 * g.val + 64 * e.val + p.val) * stepN x2 (8 * b.val + l.val) (8 * g.val + e.val) := by
  unfold xdt
  pointwise
  rw [xh_at, dth_at]
  congr 2 <;> (dsimp only; omega)

theorem da_at (b : Fin 128) (l : Fin 8) (g : Fin 4) (e : Fin 8) :
    da x2 x4 (ix5 b 0 l g e) = stepN x2 (8 * b.val + l.val) (8 * g.val + e.val) * rateF x4 (8 * g.val + e.val) := by
  unfold da
  pointwise
  rw [dth_at, rates_at]
  congr 2 <;> (dsimp only; omega)

theorem cum_at (b : Fin 128) (l : Fin 8) (g : Fin 4) (e : Fin 8) :
    cum x2 x4 (ix5 b 0 l g e) = sumS (stepN x2) (rateF x4) b.val (8 * g.val + e.val) l.val := by
  unfold cum sumS
  refine (Cert.RefVals.windowAdd_at (N := 8) (da x2 x4) _ (fun i => ?_) _ _ b 0 l g e).trans (Finset.sum_congr rfl fun s _ => ?_)
  · exact Ideal.ofBits_zero .f32
  · rw [da_at]

theorem adds_at (b : Fin 128) (g : Fin 4) (e : Fin 8) (p : Fin 64) (n : Fin 128) :
    adds x1 x2 x4 (ix6 b 0 g e p n) = ∑ s : Fin 8, convN x1 (8 * b.val + s.val) (512 * g.val + 64 * e.val + p.val)
        * (Ideal.exp (sumS (stepN x2) (rateF x4) b.val (8 * g.val + e.val) 7 - sumS (stepN x2) (rateF x4) b.val (8 * g.val + e.val) s.val)
          * stepN x2 (8 * b.val + s.val) (8 * g.val + e.val)) * convN x1 (8 * b.val + s.val) (2048 + 128 * g.val + n.val) := by
  unfold adds
  pointwise
  refine Finset.sum_congr rfl fun s _ => ?_
  rw [xdt_at, bh_at, cum_at, cum_at]
  ac_rfl

theorem keep_at (b : Fin 128) (g : Fin 4) (e : Fin 8) :
    keep x2 x4 (ix4 b 0 g e) = Ideal.exp (sumS (stepN x2) (rateF x4) b.val (8 * g.val + e.val) 7) := by
  unfold keep
  pointwise
  rw [cum_at]
  rfl

theorem out_head (b : Fin 128) (g : Fin 4) (e : Fin 8) (p : Fin 64) (n : Fin 128) :
    out x1 x2 x3 x4 (ix3 b ⟨512 * g.val + 64 * e.val + p.val, by omega⟩ n)
      = x3 (ix5 0 b ⟨8 * g.val + e.val, by omega⟩ p n) * keep x2 x4 (ix4 b 0 g e) + adds x1 x2 x4 (ix6 b 0 g e p n) := by
  unfold out
  pointwise
  rw [show (⟨g.val * 8 + e.val, by omega⟩ : Fin 32) = ⟨8 * g.val + e.val, by omega⟩ from Fin.ext (show g.val * 8 + e.val = 8 * g.val + e.val by omega)]

theorem out_at (b : Fin 128) (j : Fin 2048) (n : Fin 128) :
    out x1 x2 x3 x4 (ix3 b j n) = lastS (convN x1) (stepN x2) (rateF x4) b.val (stateN x3 b.val) j.val n.val := by
  obtain ⟨g, e, p, rfl⟩ : ∃ (g : Fin 4) (e : Fin 8) (p : Fin 64), j = ⟨512 * g.val + 64 * e.val + p.val, by omega⟩ :=
    ⟨⟨j.val / 512, by omega⟩, ⟨j.val / 64 % 8, by omega⟩, ⟨j.val % 64, by omega⟩, Fin.ext (by dsimp only; omega)⟩
  have hg := g.isLt; have he := e.isLt; have hp := p.isLt
  rw [out_head, keep_at, adds_at]
  unfold lastS
  dsimp only
  have a1 : (512 * g.val + 64 * e.val + p.val) / 64 = 8 * g.val + e.val := by omega
  have a2 : (512 * g.val + 64 * e.val + p.val) / 512 = g.val := by omega
  have a3 : (512 * g.val + 64 * e.val + p.val) % 64 = p.val := by omega
  rw [a1, a2]
  refine congrArg₂ (· + ·) (congrArg (· * _) ?_) rfl
  rw [stateN, grid_at _ _ _ (by omega) n.isLt, dif_pos b.isLt]
  refine congrArg x3 ?_
  funext a
  fin_cases a
  · rfl
  · rfl
  · exact Fin.ext a1.symm
  · exact Fin.ext a3.symm
  · rfl

end
end Cert.StateRef
-- ==== Proof.StateKernel.lean ====
module

public import proofs.«01_k».proof.Proof.StateRef

@[expose] public section

set_option maxRecDepth 16384

noncomputable section

/-! The arrays of the sample's scan at an index, and its last states. -/

namespace Cert.ScanSample

open Idealize.ShloMosaic Idealize.ShloMosaic.TcCoe Idealize.ShloMosaic.Tactic
open Cert.Kernel7Ideal Cert.Kernel7Ideal.Gen
open Cert.Args (rateF grid grid_at)
open Cert.StateRef (convN stepN stateN)

section Kernel

variable (m : (ℓ : Loc nD τ sig) → Buf (Elt Ideal) ℓ) (c : Dev nD)

theorem lt_N (t : Fin cfg0.N) : t.val < 16 := lt_of_lt_of_eq t.isLt (show cfg0.N = 16 from N_0)

theorem index_1 : ∀ t : Fin cfg0.N, win0_1.index t 0 = t.val ∧ win0_1.index t 1 = 0 := by decide +kernel
theorem index_2 : ∀ t : Fin cfg0.N, win0_2.index t 0 = t.val ∧ win0_2.index t 1 = 0 := by decide +kernel
theorem index_3 : ∀ t : Fin cfg0.N, win0_3.index t 0 = t.val ∧ win0_3.index t 1 = 0 ∧ win0_3.index t 2 = 0 := by decide +kernel
theorem index_4 : ∀ t : Fin cfg0.N, win0_4.index t 0 = 0 ∧ win0_4.index t 1 = 0 := by decide +kernel
theorem index_5 : ∀ t : Fin cfg0.N, win0_5.index t 0 = 0 ∧ win0_5.index t 1 = 0 := by decide +kernel
theorem index_10 : ∀ t : Fin cfg0.N, win0_10.index t 0 = t.val ∧ win0_10.index t 1 = 0 ∧ win0_10.index t 2 = 0 := by decide +kernel

set_option maxHeartbeats 1000000 in
theorem alog_eq : (V m c main_v20 : Vec Ideal S1x128 .f32) = broadcastInDim S1x128 ![1] bcast_S128_S1x128_1 (pad S128 ![0] ![96] ![0]
      (shapeCast S32 (m ((c : Thread nD τ).loc main_arg4)) shapeCasts_S1x32_S32 : FVec Ideal S32 .f32) (sitofp (F := Ideal) .f32 (constantI S_ 32 0#32)) pads_S32_S128_0960 h_S_) := by
  unfold_abbrev_sides
  simp only [hostOps0, hostOps0_1, hostOps0_2, hostOps0_3, hostOps0_4, hostOps0_5, hostOps0_6, List.flatten_cons, List.flatten_nil, List.append_nil, List.cons_append, List.nil_append]
  after_reads_simp
  rfl

set_option maxHeartbeats 1000000 in
theorem flat_eq : (V m c main_v28 : Vec Ideal S128x2048x128 .f32) = shapeCast S128x2048x128 (shapeCast S128x32x64x128 (m ((c : Thread nD τ).loc main_arg3) : Vec Ideal S1x128x32x64x128 .f32)
      shapeCasts_S1x128x32x64x128_S128x32x64x128) shapeCasts_S128x32x64x128_S128x2048x128 := by
  unfold_abbrev_sides
  simp only [hostOps0, hostOps0_1, hostOps0_2, hostOps0_3, hostOps0_4, hostOps0_5, hostOps0_6, List.flatten_cons, List.flatten_nil, List.append_nil, List.cons_append, List.nil_append]
  after_reads_simp
  rfl

set_option maxHeartbeats 1000000 in
theorem ex_eq : (V m c main_v8 : Vec Ideal S128x2048 .bf16) = uitofp (F := Ideal) .bf16 (cmpi .eq (broadcastInDim S128x2048 ![0, 1] bcast_S128x1_S128x2048_0_1
      (broadcastInDim S128x1 ![0] bcast_S128_S128x1_0 (iotaInDim S128 32 0))) (broadcastInDim S128x2048 ![0, 1] bcast_S1x2048_S128x2048_0_1 Cert.Args.quots)) := by
  unfold_abbrev_sides
  simp only [hostOps0, hostOps0_1, hostOps0_2, hostOps0_3, hostOps0_4, hostOps0_5, hostOps0_6, List.flatten_cons, List.flatten_nil, List.append_nil, List.cons_append, List.nil_append]
  after_reads_simp
  rfl

theorem alog_at (k : Fin 128) : @Eq EReal ((V m c main_v20 : Vec Ideal S1x128 .f32) (ix2 0 k)) (if h : k.val < 32 then (m ((c : Thread nD τ).loc main_arg4) : Vec Ideal S1x32 .f32) (ix2 0 ⟨k.val, h⟩) else 0) := by
  refine (congrFun (alog_eq m c) (ix2 0 k)).trans ?_
  have z : @Eq EReal (FloatOps.sitofp (F := Ideal) .f32 (0#32 : BitVec 32)) 0 := by
    show ((((0#32 : BitVec 32).toInt : ℝ)) : EReal) = 0
    simp
  pointwise
  rw [z]

theorem flat_of (a : Vec Ideal S1x128x32x64x128 .f32) (b : Fin 128) (j : Fin 2048) (n : Fin 128) :
    @Eq EReal ((shapeCast S128x2048x128 (shapeCast S128x32x64x128 a shapeCasts_S1x128x32x64x128_S128x32x64x128) shapeCasts_S128x32x64x128_S128x2048x128 : Vec Ideal S128x2048x128 .f32) (ix3 b j n))
      (a (ix5 0 b ⟨j.val / 64, by omega⟩ ⟨j.val % 64, by omega⟩ n)) := by
  pointwise

theorem flat_at (b : Fin 128) (j : Fin 2048) (n : Fin 128) :
    @Eq EReal ((V m c main_v28 : Vec Ideal S128x2048x128 .f32) (ix3 b j n)) (stateN (m ((c : Thread nD τ).loc main_arg3)) b.val j.val n.val) := by
  refine (congrFun (flat_eq m c) (ix3 b j n)).trans ((flat_of _ b j n).trans ?_)
  rw [stateN, grid_at _ _ _ j.isLt n.isLt, dif_pos b.isLt]

theorem ex_at (k : Fin 128) (j : Fin 2048) : @Eq EReal ((V m c main_v8 : Vec Ideal S128x2048 .bf16) (ix2 k j)) (if k.val = j.val / 64 then 1 else 0) := by
  refine (congrFun (ex_eq m c) (ix2 k j)).trans ?_
  have o : @Eq EReal (FloatOps.uitofp (F := Ideal) .bf16 (1#1 : BitVec 1)) 1 := by
    show ((((1#1 : BitVec 1).toNat : ℝ)) : EReal) = 1
    simp
  have z : @Eq EReal (FloatOps.uitofp (F := Ideal) .bf16 (0#1 : BitVec 1)) 0 := by
    show ((((0#1 : BitVec 1).toNat : ℝ)) : EReal) = 0
    simp
  pointwise
  rw [Cert.Args.quots_at]
  have hk : k.val < 2 ^ 32 := by omega
  have hj : j.val / 64 < 2 ^ 32 := by omega
  by_cases h : k.val = j.val / 64
  · rw [if_pos h, h]
    simpa [IntOp.cmpi] using o
  · have h' : BitVec.ofNat 32 k.val ≠ BitVec.ofNat 32 (j.val / 64) := fun e => h (by
      have := congrArg BitVec.toNat e
      rwa [BitVec.toNat_ofNat, BitVec.toNat_ofNat, Nat.mod_eq_of_lt hk, Nat.mod_eq_of_lt hj] at this)
    rw [if_neg h]
    have hb : (BitVec.ofNat 32 k.val == BitVec.ofNat 32 (j.val / 64)) = false := beq_eq_false_iff_ne.mpr h'
    simp only [IntOp.cmpi, hb]
    exact z

theorem blk_1 (t : Fin cfg0.N) (r : Fin 64) (j : Fin 3072) :
    @Eq EReal ((iblk m c 1 t : Vec Ideal S64x3072 .f32) (ix2 r j)) (convN (m ((c : Thread nD τ).loc main_arg1)) (64 * t.val + r.val) j.val) := by
  have := lt_N t
  rw [convN, grid_at _ _ _ (by omega) j.isLt, ← V_main_arg1 m c]
  unfold iblk
  rw [View.read_apply]
  show V m c main_arg1 _ = V m c main_arg1 _
  congr 1
  funext a
  apply Fin.ext
  match a with
  | ⟨0, _⟩ => show win0_1.index t 0 * 64 + 1 * r.val = 64 * t.val + r.val; rw [(index_1 t).1]; omega
  | ⟨1, _⟩ => show win0_1.index t 1 * 3072 + 1 * j.val = j.val; rw [(index_1 t).2]; omega

theorem blk_2 (t : Fin cfg0.N) (r : Fin 64) (j : Fin 128) :
    @Eq EReal ((iblk m c 2 t : Vec Ideal S64x128 .f32) (ix2 r j)) (stepN (m ((c : Thread nD τ).loc main_arg2)) (64 * t.val + r.val) j.val) := by
  have := lt_N t
  rw [stepN, grid_at _ _ _ (by omega) j.isLt, ← V_main_arg2 m c]
  unfold iblk
  rw [View.read_apply]
  show V m c main_arg2 _ = V m c main_arg2 _
  congr 1
  funext a
  apply Fin.ext
  match a with
  | ⟨0, _⟩ => show win0_2.index t 0 * 64 + 1 * r.val = 64 * t.val + r.val; rw [(index_2 t).1]; omega
  | ⟨1, _⟩ => show win0_2.index t 1 * 128 + 1 * j.val = j.val; rw [(index_2 t).2]; omega

theorem blk_3 (t : Fin cfg0.N) (q : Fin 8) (j : Fin 2048) (n : Fin 128) :
    @Eq EReal ((iblk m c 3 t : Vec Ideal S8x2048x128 .f32) (ix3 q j n)) (stateN (m ((c : Thread nD τ).loc main_arg3)) (8 * t.val + q.val) j.val n.val) := by
  have := lt_N t
  refine Eq.trans ?_ (flat_at m c ⟨8 * t.val + q.val, by omega⟩ j n)
  unfold iblk
  rw [View.read_apply]
  show V m c main_v28 _ = V m c main_v28 _
  congr 1
  funext a
  apply Fin.ext
  match a with
  | ⟨0, _⟩ => show win0_3.index t 0 * 8 + 1 * q.val = 8 * t.val + q.val; rw [(index_3 t).1]; omega
  | ⟨1, _⟩ => show win0_3.index t 1 * 2048 + 1 * j.val = j.val; rw [(index_3 t).2.1]; omega
  | ⟨2, _⟩ => show win0_3.index t 2 * 128 + 1 * n.val = n.val; rw [(index_3 t).2.2]; omega

theorem blk_4 (t : Fin cfg0.N) (k : Fin 128) :
    0 - Ideal.exp ((iblk m c 4 t : Vec Ideal S1x128 .f32) (ix2 0 k)) = rateF (m ((c : Thread nD τ).loc main_arg4)) k.val := by
  unfold rateF grid
  refine congrArg (fun v => 0 - Ideal.exp v) (Eq.trans ?_ ((alog_at m c k).trans ?_))
  · unfold iblk
    rw [View.read_apply]
    show V m c main_v20 _ = V m c main_v20 _
    congr 1
    funext a
    apply Fin.ext
    match a with
    | ⟨0, _⟩ => show win0_4.index t 0 * 1 + 1 * 0 = 0; rw [(index_4 t).1]
    | ⟨1, _⟩ => show win0_4.index t 1 * 128 + 1 * k.val = k.val; rw [(index_4 t).2]; omega
  · split
    · next h => rw [dif_pos ⟨by decide, h⟩]; rfl
    · next h => rw [dif_neg (fun h' => h h'.2)]

theorem blk_5 (t : Fin cfg0.N) (k : Fin 128) (j : Fin 2048) :
    @Eq EReal ((iblk m c 5 t : Vec Ideal S128x2048 .bf16) (ix2 k j)) (if k.val = j.val / 64 then 1 else 0) := by
  refine Eq.trans ?_ (ex_at m c k j)
  unfold iblk
  rw [View.read_apply]
  show V m c main_v8 _ = V m c main_v8 _
  congr 1
  funext a
  apply Fin.ext
  match a with
  | ⟨0, _⟩ => show win0_5.index t 0 * 128 + 1 * k.val = k.val; rw [(index_5 t).1]; omega
  | ⟨1, _⟩ => show win0_5.index t 1 * 2048 + 1 * j.val = j.val; rw [(index_5 t).2]; omega

/-- The kernel's last states, when the step sizes and the rates are reals. -/
theorem kernelH (hD : Re2 (stepN (m ((c : Thread nD τ).loc main_arg2)))) (hA : Cert.Scan.Re (rateF (m ((c : Thread nD τ).loc main_arg4))))
    (b : Fin 128) (j : Fin 2048) (n : Fin 128) :
    @Eq EReal ((dats m 0 c).arrAt 10 cfg0.N (ix3 b j n)) (lastS (convN (m ((c : Thread nD τ).loc main_arg1))) (stepN (m ((c : Thread nD τ).loc main_arg2)))
      (rateF (m ((c : Thread nD τ).loc main_arg4))) b.val (stateN (m ((c : Thread nD τ).loc main_arg3)) b.val) j.val n.val) := by
  have hn : b.val / 8 < cfg0.N := by rw [show cfg0.N = 16 from N_0]; omega
  have e := congrFun (Cert.Kernel7Ideal.Value.blocks10 m c ⟨b.val / 8, hn⟩ (flush0_10 _)) (ix3 (⟨b.val % 8, by omega⟩ : Fin 8) j n)
  rw [Cert.Kernel7Ideal.Value.flushed10_A, View.read_apply] at e
  have hi : ((cfg0.win 10).blk ⟨b.val / 8, hn⟩).view.emb (ix3 (⟨b.val % 8, by omega⟩ : Fin 8) j n) = ix3 b j n := by
    funext a
    apply Fin.ext
    match a with
    | ⟨0, _⟩ => show win0_10.index ⟨b.val / 8, hn⟩ 0 * 8 + 1 * (b.val % 8) = b.val; rw [(index_10 _).1]; show b.val / 8 * 8 + 1 * (b.val % 8) = b.val; omega
    | ⟨1, _⟩ => show win0_10.index ⟨b.val / 8, hn⟩ 1 * 2048 + 1 * j.val = j.val; rw [(index_10 _).2.1]; omega
    | ⟨2, _⟩ => show win0_10.index ⟨b.val / 8, hn⟩ 2 * 128 + 1 * n.val = n.val; rw [(index_10 _).2.2]; omega
  rw [hi] at e
  refine e.trans ?_
  have o := out_at hD hA (b.val / 8) (fun s j n => stateN (m ((c : Thread nD τ).loc main_arg3)) s j n) c (grid0.coords ⟨b.val / 8, hn⟩)
    (ms0_0 ⟨b.val / 8, hn⟩) (hs0_0 _) (ms0_1 ⟨b.val / 8, hn⟩) (hs0_1 _) (ms0_2 ⟨b.val / 8, hn⟩) (hs0_2 _) (ms0_3 ⟨b.val / 8, hn⟩) (hs0_3 _)
    (ms0_4 ⟨b.val / 8, hn⟩) (hs0_4 _) (ms0_5 ⟨b.val / 8, hn⟩) (hs0_5 _) (ms0_6 ⟨b.val / 8, hn⟩) (hs0_6 _) (ms0_7 ⟨b.val / 8, hn⟩) (hs0_7 _)
    (ms0_8 ⟨b.val / 8, hn⟩) (hs0_8 _) (ms0_9 ⟨b.val / 8, hn⟩) (hs0_9 _) (ms0_10 ⟨b.val / 8, hn⟩) (hs0_10 _) scM0_0 (Memref.isWhole_whole _)
    (iblk m c 0 ⟨b.val / 8, hn⟩) (iblk m c 1 ⟨b.val / 8, hn⟩) (iblk m c 2 ⟨b.val / 8, hn⟩) (iblk m c 3 ⟨b.val / 8, hn⟩) (iblk m c 4 ⟨b.val / 8, hn⟩)
    (iblk m c 5 ⟨b.val / 8, hn⟩) (iblk m c 6 ⟨b.val / 8, hn⟩) (iblk m c 7 ⟨b.val / 8, hn⟩) (iblk m c 8 ⟨b.val / 8, hn⟩)
    (blk_1 m c _) (blk_2 m c _) (blk_3 m c _) (blk_4 m c _) (blk_5 m c _) ⟨b.val % 8, by omega⟩ j n
  refine o.trans ?_
  show lastS _ _ _ (8 * (b.val / 8) + b.val % 8) (stateN _ (8 * (b.val / 8) + b.val % 8)) j.val n.val = _
  rw [Nat.div_add_mod]

end Kernel

end Cert.ScanSample
-- ==== Proof.ScanExpr.lean ====
module

public import proofs.«01_k».proof.Proof.StateExpr

@[expose] public section

set_option maxRecDepth 16384

noncomputable section

/-! The expressions by which the sample's scan stores its outputs: eight sequences of eight tokens a point, four groups a sequence. -/

namespace Cert.ScanSample

open Idealize.ShloMosaic Idealize.ShloMosaic.TcCoe Idealize.ShloMosaic.Tactic
open Cert.Kernel7Ideal Cert.Kernel7Ideal.Gen

variable {F : FTy → Type} [FloatOps F] [Named F]

/-- The running sums over the step sizes, spread over the lanes of the heads' source tokens in three parts. -/
def spread (ac dt : FVec F S64x128 .f32) (ep : FVec F S128x256 .bf16) : FVec F S128x256 .f32 :=
  have v71 : FVec F S128x128 .f32 := concatenate S128x128 0 [⟨S64x128, ac⟩, ⟨S64x128, dt⟩] concatenates_S64x128_S64x128_S128x128_d0
  have v73 : FVec F S128x256 .bf16 := shapeCast S128x256 ep shapeCasts_S128x256_S128x256
  have v74 : FVec F S128x128 .bf16 := truncf .bf16 v71 bitsLt_bf16_f32
  have v75 : FVec F S128x256 .f32 := matmul dot_S128x128_S128x256_S128x256_1_0_0_1_n_n none v74 v73 (constant S128x256 .f32 0x00000000#32)
  have v77 : FVec F S128x128 .f32 := subf v71 (extf .f32 v74 bitsLt_bf16_f32)
  have v78 : FVec F S128x128 .bf16 := truncf .bf16 v77 bitsLt_bf16_f32
  have v79 : FVec F S128x256 .f32 := matmul dot_S128x128_S128x256_S128x256_1_0_0_1_n_n none v78 v73 (constant S128x256 .f32 0x00000000#32)
  have v82 : FVec F S128x128 .f32 := subf v77 (extf .f32 v78 bitsLt_bf16_f32)
  have v83 : FVec F S128x128 .bf16 := truncf .bf16 v82 bitsLt_bf16_f32
  addf (addf v75 v79) (matmul dot_S128x128_S128x256_S128x256_1_0_0_1_n_n none v83 v73 (constant S128x256 .f32 0x00000000#32))

/-- The spread running sums and the spread step sizes. -/
def spreadC (z : FVec F S128x256 .f32) : FVec F S64x256 .f32 := extractStridedSlice S64x256 ![0, 0] z slices_S128x256_o0_0_S64x256
def spreadD (z : FVec F S128x256 .f32) : FVec F S64x256 .f32 := extractStridedSlice S64x256 ![64, 0] z slices_S128x256_o64_0_S64x256

/-- A word modulo 8 in every entry, as the kernel spells it. -/
def mod8 (x : IVec S64x256 32) : IVec S64x256 32 :=
  have v90 : BitVec 32 := Scalar.select (Scalar.cmpi .eq 8#32 0#32) 1#32 8#32
  have v92 : IVec S64x256 32 := remsi x (broadcast S64x256 v90)
  have v94 : IVec S64x256 1 := cmpi .ne v92 (broadcast S64x256 0#32)
  have v96 : IVec S64x256 1 := cmpi .slt v92 (broadcast S64x256 0#32)
  have v99 : IVec S64x256 1 := broadcastTo S64x256 (broadcast S64x256 (Scalar.cmpi .slt v90 0#32)) broadcasts_S64x256_S64x256
  select (andi (xori v96 v99) v94) (addi v92 (broadcast S64x256 v90)) v92

/-- The row's token and the lane's source token. -/
def tokRow : IVec S64x256 32 := mod8 (iota .tc S64x256 32 [0] iota_S64x256_d0_w32)
def tokSrc : IVec S64x256 32 := mod8 (iota .tc S64x256 32 [1] iota_S64x256_d1_w32)

/-- Each lane's value at its source token, in every row of the sequence. -/
def perSource (z : FVec F S64x256 .f32) : FVec F S64x256 .f32 :=
  have v125 : FVec F S64x256 .f32 := select (cmpi .eq tokRow tokSrc) z (broadcast S64x256 (Scalar.ofBits .f32 0x00000000#32))
  have v127 : FVec F S8x256 .f32 := multiReduction .add [1] S8x256 (shapeCast S8x8x256 v125 shapeCasts_S64x256_S8x8x256) 0x00000000#32 reduces_S8x8x256_S8x256 (.inl rfl) rfl
  have v129 : FVec F S8x1x256 .f32 := shapeCast S8x1x256 (shapeCast S8x1x256 v127 shapeCasts_S8x256_S8x1x256) shapeCasts_S8x1x256_S8x1x256
  shapeCast S64x256 (broadcastTo S8x8x256 v129 broadcasts_S8x1x256_S8x8x256) shapeCasts_S8x8x256_S64x256

/-- The decays between the tokens times the source's step size. -/
def decs (z : FVec F S128x256 .f32) : FVec F S64x256 .f32 :=
  mulf (exp (select (cmpi .sge tokRow tokSrc) (subf (spreadC z) (perSource (spreadC z))) (broadcast S64x256 (Scalar.ofBits .f32 0xFF800000#32))))
    (perSource (spreadD z))

/-- A word's quotient in every entry, as the kernel spells it. -/
def quot (x : IVec S64x512 32) (k : BitVec 32) : IVec S64x512 32 :=
  have v147 : IVec S64x512 32 := divsi x (broadcast S64x512 k)
  have v154 : IVec S64x512 32 := subi (extui 32 (cmpi .sgt x (broadcast S64x512 0#32)) natLt_1_32) (extui 32 (cmpi .slt x (broadcast S64x512 0#32)) natLt_1_32)
  have v159 : BitVec 32 := Scalar.subi (Scalar.extui (Scalar.cmpi .sgt k 0#32)) (Scalar.extui (Scalar.cmpi .slt k 0#32))
  have v161 : IVec S64x512 1 := cmpi .ne v154 (broadcast S64x512 v159)
  have v165 : IVec S64x512 1 := cmpi .ne (remsi x (broadcast S64x512 k)) (broadcast S64x512 0#32)
  select (andi v161 v165) (subi v147 (broadcast S64x512 1#32)) v147

/-- The blocks of the diagonal: the row's head is the column's. -/
def diag : IVec S64x512 1 :=
  cmpi .eq (quot (iota .tc S64x512 32 [0] iota_S64x512_d0_w32) 8#32) (quot (iota .tc S64x512 32 [1] iota_S64x512_d1_w32) 64#32)

theorem sliceM (g : Fin 4) (q : Fin 8) : S64x256.Slices ![8 * q.val, 64 * g.val] S8x64 := by
  have := g.isLt; have := q.isLt
  refine ⟨rfl, fun a => ?_⟩
  fin_cases a <;> simp <;> omega
theorem inbC (g : Fin 4) (q : Fin 8) (a : Fin 2) : (![8 * q.val, 2560 + 128 * g.val] : Fin 2 → ℕ) a + S8x128.size a ≤ S64x3072.size a := by
  revert g q a; decide
theorem inbY (g : Fin 4) (q : Fin 8) (a : Fin 2) : (![8 * q.val, 512 * g.val] : Fin 2 → ℕ) a + S8x512.size a ≤ S64x2048.size a := by
  revert g q a; decide
theorem inbO (g : Fin 4) (a : Fin 2) : (![0, 512 * g.val] : Fin 2 → ℕ) a + S64x512.size a ≤ S64x2048.size a := by
  revert g a; decide
theorem inbN (g : Fin 4) (a : Fin 2) : (![0, 512 * g.val] : Fin 2 → ℕ) a + S1x512.size a ≤ S1x2048.size a := by
  revert g a; decide
theorem sliceO (g : Fin 4) : S64x2048.Slices ![0, 512 * g.val] S64x512 := by
  have := g.isLt
  refine ⟨rfl, fun a => ?_⟩
  fin_cases a <;> simp <;> omega

/-- Eight copies below each other. -/
def tileB (b : FVec F S8x128 .f32) : FVec F S64x128 .f32 :=
  concatenate S64x128 0 [⟨S8x128, b⟩, ⟨S8x128, b⟩, ⟨S8x128, b⟩, ⟨S8x128, b⟩, ⟨S8x128, b⟩, ⟨S8x128, b⟩, ⟨S8x128, b⟩, ⟨S8x128, b⟩]
    concatenates_S8x128_S8x128_S8x128_S8x128_S8x128_S8x128_S8x128_S8x128_S64x128_d0
def tileX (x : FVec F S8x512 .f32) : FVec F S64x512 .f32 :=
  concatenate S64x512 0 [⟨S8x512, x⟩, ⟨S8x512, x⟩, ⟨S8x512, x⟩, ⟨S8x512, x⟩, ⟨S8x512, x⟩, ⟨S8x512, x⟩, ⟨S8x512, x⟩, ⟨S8x512, x⟩]
    concatenates_S8x512_S8x512_S8x512_S8x512_S8x512_S8x512_S8x512_S8x512_S64x512_d0

/-- The matrices of a group's heads side by side. -/
def mats (dc : FVec F S64x256 .f32) (b cc : FVec F S8x128 .f32) (g : Fin 4) (q : Fin 8) : FVec F S8x64 .bf16 :=
  truncf .bf16 (mulf (matmul dot_S8x128_S64x128_S8x64_1_1_0_0_n_n none (truncf .bf16 cc bitsLt_bf16_f32) (truncf .bf16 (tileB b) bitsLt_bf16_f32)
    (constant S8x64 .f32 0x00000000#32)) (extractStridedSlice S8x64 ![8 * q.val, 64 * g.val] dc (sliceM g q))) bitsLt_bf16_f32

/-- What the tokens give to the outputs. -/
def own (x : FVec F S8x512 .f32) (mt : FVec F S8x64 .bf16) : FVec F S8x512 .f32 :=
  matmul dot_S8x64_S64x512_S8x512_1_0_0_1_n_n none mt
    (truncf .bf16 (select diag (tileX x) (broadcast S64x512 (Scalar.ofBits .f32 0x00000000#32))) bitsLt_bf16_f32) (constant S8x512 .f32 0x00000000#32)

/-- What the state gives to the outputs. -/
def past (e : FVec F S64x2048 .f32) (h : FVec F S1x512x128 .f32) (cc : FVec F S8x128 .f32) (g : Fin 4) (q : Fin 8) : FVec F S8x512 .f32 :=
  mulf (matmul dot_S8x128_S512x128_S8x512_1_1_0_0_n_n none (truncf .bf16 cc bitsLt_bf16_f32)
    (truncf .bf16 (shapeCast S512x128 h shapeCasts_S1x512x128_S512x128) bitsLt_bf16_f32) (constant S8x512 .f32 0x00000000#32))
    (extractStridedSlice S8x512 ![8 * q.val, 512 * g.val] e (sliceW g q))

/-- The outputs of a sequence's group. -/
def cell (dc : FVec F S64x256 .f32) (e : FVec F S64x2048 .f32) (h : FVec F S1x512x128 .f32) (x : FVec F S8x512 .f32) (b cc : FVec F S8x128 .f32)
    (g : Fin 4) (q : Fin 8) : FVec F S8x512 .f32 :=
  shapeCast S8x512 (addf (own x (mats dc b cc g q)) (past e h cc g q)) shapeCasts_S8x512_S8x512

/-- The place of a sequence's group in the block of outputs. -/
def rectY (q : Fin 8) (g : Fin 4) : Rect S64x2048 := Rect.unit (s := S64x2048) ![8 * q.val, 512 * g.val] S8x512.size (inbY g q)

/-- The stores of the cells. -/
def cells (dc : FVec F S64x256 .f32) (e : FVec F S64x2048 .f32) (h : Fin 4 → Fin 8 → FVec F S1x512x128 .f32) (x : Fin 4 → Fin 8 → FVec F S8x512 .f32)
    (b cc : Fin 4 → Fin 8 → FVec F S8x128 .f32) : List (View.Piece (Elt F) S64x2048 .f32) :=
  order.map fun p => ⟨rectY p.1 p.2, cell dc e (h p.2 p.1) (x p.2 p.1) (b p.2 p.1) (cc p.2 p.1) p.2 p.1⟩

/-- The scan's outputs with the skip, gated. -/
def gated (y x : FVec F S64x2048 .f32) (d : FVec F S1x2048 .f32) (z : FVec F S64x2048 .bf16) : FVec F S64x2048 .f32 :=
  mulf (addf y (mulf x (broadcastTo S64x2048 (shapeCast S1x2048 d shapeCasts_S1x2048_S1x2048) broadcasts_S1x2048_S64x2048)))
    (extf .f32 z bitsLt_bf16_f32)

/-- A group of the gated outputs, normed and weighed. -/
def normed (y : FVec F S64x2048 .f32) (w : FVec F S1x512 .f32) (g : Fin 4) : FVec F S64x512 .bf16 :=
  have t : FVec F S64x512 .f32 := extractStridedSlice S64x512 ![0, 512 * g.val] y (sliceO g)
  have s : FVec F S64x1 .f32 := shapeCast S64x1 (multiReduction .add [1] S64 (mulf t t) 0x00000000#32 reduces_S64x512_S64 (.inl rfl) rfl)
    shapeCasts_S64_S64x1
  have r : FVec F S64x1 .f32 := rsqrt (addf (divf s (broadcast S64x1 (Scalar.ofBits .f32 0x44000000#32)))
    (broadcast S64x1 (Scalar.ofBits .f32 0x358637BD#32)))
  truncf .bf16 (mulf (mulf t (broadcastTo S64x512 r broadcasts_S64x1_S64x512))
    (broadcastTo S64x512 (shapeCast S1x512 w shapeCasts_S1x512_S1x512) broadcasts_S1x512_S64x512)) bitsLt_bf16_f32

/-- The stores of the outputs. -/
def outPieces (y : FVec F S64x2048 .f32) (w : Fin 4 → FVec F S1x512 .f32) : List (View.Piece (Elt F) S64x2048 .bf16) :=
  ([3, 2, 1, 0] : List (Fin 4)).map fun g => ⟨Rect.unit (s := S64x2048) ![0, 512 * g.val] S64x512.size (inbO g), normed y (w g) g⟩

section Step

variable (c : Dev nD) (i : grid0.Coords) (arg1 : Memref sig .tc .vmem S64x2048 .bf16) (harg1 : arg1.IsWhole) (arg2 : Memref sig .tc .vmem S64x3072 .f32) (harg2 : arg2.IsWhole)
  (arg3 : Memref sig .tc .vmem S64x128 .f32) (harg3 : arg3.IsWhole) (arg4 : Memref sig .tc .vmem S8x2048x128 .f32) (harg4 : arg4.IsWhole)
  (arg5 : Memref sig .tc .vmem S1x128 .f32) (harg5 : arg5.IsWhole) (arg6 : Memref sig .tc .vmem S128x2048 .bf16) (harg6 : arg6.IsWhole)
  (arg7 : Memref sig .tc .vmem S128x256 .bf16) (harg7 : arg7.IsWhole) (arg8 : Memref sig .tc .vmem S1x2048 .f32) (harg8 : arg8.IsWhole)
  (arg9 : Memref sig .tc .vmem S1x2048 .f32) (harg9 : arg9.IsWhole) (arg10 : Memref sig .tc .vmem S64x2048 .bf16) (harg10 : arg10.IsWhole)
  (arg11 : Memref sig .tc .vmem S8x2048x128 .f32) (harg11 : arg11.IsWhole) (arg12 : Memref sig .tc .vmem S64x2048 .f32) (harg12 : arg12.IsWhole)
  (x0 : Vec F S64x2048 .bf16) (x1 : Vec F S64x3072 .f32) (x2 : Vec F S64x128 .f32) (x3 : Vec F S8x2048x128 .f32) (x4 : Vec F S1x128 .f32)
  (x5 : Vec F S128x2048 .bf16) (x6 : Vec F S128x256 .bf16) (x7 : Vec F S1x2048 .f32) (x8 : Vec F S1x2048 .f32)

/-- The body's further loads. -/
def ldC (g : Fin 4) (q : Fin 8) : FVec F S8x128 .f32 :=
  View.readAt (Elt F) arg2.view (Rect.unit (s := S64x3072) ![8 * q.val, 2560 + 128 * g.val] S8x128.size (inbC g q)).toLoadRect (harg2.unread x1)
def ldW : FVec F S64x2048 .f32 :=
  View.readAt (Elt F) arg2.view (Rect.unit (s := S64x3072) ![0, 0] S64x2048.size (by decide)).toLoadRect (harg2.unread x1)
def ldP : FVec F S128x256 .bf16 :=
  View.readAt (Elt F) arg7.view (Rect.unit (s := S128x256) ![0, 0] S128x256.size (by decide)).toLoadRect (harg7.unread x6)
def ldS : FVec F S1x2048 .f32 :=
  View.readAt (Elt F) arg8.view (Rect.unit (s := S1x2048) ![0, 0] S1x2048.size (by decide)).toLoadRect (harg8.unread x7)
def ldN (g : Fin 4) : FVec F S1x512 .f32 :=
  View.readAt (Elt F) arg9.view (Rect.unit (s := S1x2048) ![0, 512 * g.val] S1x512.size (inbN g)).toLoadRect (harg9.unread x8)
def ldZ : FVec F S64x2048 .bf16 :=
  View.readAt (Elt F) arg1.view (Rect.unit (s := S64x2048) ![0, 0] S64x2048.size (by decide)).toLoadRect (harg1.unread x0)

/-- The whole of the scan's outputs, read back. -/
def wholeY (v : View sig .tc .vmem S64x2048 .f32) (L : List (View.Piece (Elt F) S64x2048 .f32)) : FVec F S64x2048 .f32 :=
  v.readCov L (Rect.unit (s := S64x2048) ![0, 0] S64x2048.size (by decide)).toLoadRect

/-- A point's running sums. -/
def ac : FVec F S64x128 .f32 := acum (ldD arg3 harg3 x2) (ldA arg5 harg5 x4)

/-- A point's cells. -/
def pointCells : List (View.Piece (Elt F) S64x2048 .f32) :=
  cells (decs (spread (ac arg3 harg3 arg5 harg5 x2 x4) (ldD arg3 harg3 x2) (ldP arg7 harg7 x6)))
    (wts (exp (ac arg3 harg3 arg5 harg5 x2 x4)) (ldE arg6 harg6 x5)) (ldH arg4 harg4 x3) (ldX arg2 harg2 x1) (ldB arg2 harg2 x1) (ldC arg2 harg2 x1)

theorem outs_A : (kernelRun0_A c i arg1 harg1 arg2 harg2 arg3 harg3 arg4 harg4 arg5 harg5 arg6 harg6 arg7 harg7 arg8 harg8 arg9 harg9 arg10 harg10 arg11 harg11 arg12 harg12 x0 x1 x2 x3 x4 x5 x6 x7 x8).1
    = outPieces (gated (wholeY arg12.view (pointCells arg2 harg2 arg3 harg3 arg4 harg4 arg5 harg5 arg6 harg6 arg7 harg7 x1 x2 x3 x4 x5 x6))
        (ldW arg2 harg2 x1) (ldS arg8 harg8 x7) (ldZ arg1 harg1 x0)) (ldN arg9 harg9 x8) := by
  sl_kernel_rfl

end Step

end Cert.ScanSample
-- ==== Proof.ScanSpec.lean ====
module

public import proofs.«01_k».proof.Proof.StateVal

@[expose] public section

noncomputable section

/-! The sample's scan outputs as functions of numbers. -/

namespace Cert.ScanSample

open Idealize.ShloMosaic

section Spec

variable (X D : ℕ → ℕ → EReal) (A : ℕ → EReal) (K : ℕ → EReal) (Z : ℕ → ℕ → EReal) (W : ℕ → EReal) (H : ℕ → ℕ → ℕ → EReal)

/-- The decay from token `s` to token `l` of sequence `S`, in head `h`. -/
def decS (S h l s : ℕ) : EReal := if s ≤ l then Ideal.exp (sumS D A S h l - sumS D A S h s) else 0

/-- The output map at token `l` times the input map at token `s`, in group `g`. -/
def mapS (S g l s : ℕ) : EReal := ∑ n : Fin 128, X (8 * S + l) (2560 + 128 * g + n.val) * X (8 * S + s) (2048 + 128 * g + n.val)

/-- The scan's output of sequence `S` at token `l` and column `j`. -/
def yS (S l j : ℕ) : EReal :=
  (∑ s : Fin 8, mapS X S (j / 512) l s.val * (decS D A S (j / 64) l s.val * D (8 * S + s.val) (j / 64)) * X (8 * S + s.val) j)
    + (∑ n : Fin 128, X (8 * S + l) (2560 + 128 * (j / 512) + n.val) * H S j n.val) * Ideal.exp (sumS D A S (j / 64) l)

/-- The outputs with the skip term, times the gate. -/
def gS (t j : ℕ) : EReal := (yS X D A H (t / 8) (t % 8) j + X t j * K j) * Z t j

/-- The gated outputs normed over a group of 512 columns, times the norm's weight. -/
def oS (t j : ℕ) : EReal :=
  gS X D A K Z H t j * Ideal.rsqrt (Ideal.div (∑ x : Fin 512, gS X D A K Z H t (512 * (j / 512) + x.val) * gS X D A K Z H t (512 * (j / 512) + x.val))
    (Ideal.ofBits .f32 1140850688#32) + Ideal.ofBits .f32 897988541#32) * W j

end Spec

end Cert.ScanSample
-- ==== Proof.ScanVal.lean ====
module

public import proofs.«01_k».proof.Proof.ScanExpr
public import proofs.«01_k».proof.Proof.ScanSpec

@[expose] public section

set_option maxRecDepth 16384

noncomputable section

/-! The sample's scan outputs at an index, over the extended reals. -/

namespace Cert.ScanSample

open Idealize.ShloMosaic Idealize.ShloMosaic.TcCoe Idealize.ShloMosaic.Tactic
open Cert.Kernel7Ideal Cert.Kernel7Ideal.Gen

theorem real_sub_self {v : EReal} (h : ∃ y : ℝ, v = y) : v - v = 0 := by
  obtain ⟨y, rfl⟩ := h
  rw [← EReal.coe_sub, sub_self, EReal.coe_zero]

/-- Three parts of a real sum to it. -/
theorem parts (f ex : Fin 128 → EReal) (k : ℕ) (hk : k < 128) (hex : ∀ x : Fin 128, ex x = if x.val = k then 1 else 0) (hf : ∃ y : ℝ, f ⟨k, hk⟩ = y) :
    (∑ x, f x * ex x) + (∑ x, (f x - f x) * ex x) + (∑ x, (f x - f x - (f x - f x)) * ex x) = f ⟨k, hk⟩ := by
  simp only [hex]
  rw [Cert.Scan.sum_onehot f k hk, Cert.Scan.sum_onehot (fun x => f x - f x) k hk, Cert.Scan.sum_onehot (fun x => f x - f x - (f x - f x)) k hk,
    real_sub_self hf, sub_zero, add_zero, add_zero]

/-- The running sums over the step sizes. -/
def both (a dt : FVec Ideal S64x128 .f32) : FVec Ideal S128x128 .f32 :=
  concatenate S128x128 0 [⟨S64x128, a⟩, ⟨S64x128, dt⟩] concatenates_S64x128_S64x128_S128x128_d0

theorem both_fst (a dt : FVec Ideal S64x128 .f32) (r : Fin 64) (k : Fin 128) : both a dt (ix2 ⟨r.val, by omega⟩ k) = a (ix2 r k) := by
  unfold both
  pointwise

theorem both_snd (a dt : FVec Ideal S64x128 .f32) (r : Fin 64) (k : Fin 128) : both a dt (ix2 ⟨64 + r.val, by omega⟩ k) = dt (ix2 r k) := by
  unfold both
  pointwise

/-- An array spread in three parts. -/
def spreadOf (v71 : FVec Ideal S128x128 .f32) (ep : FVec Ideal S128x256 .bf16) : FVec Ideal S128x256 .f32 :=
  have v73 : FVec Ideal S128x256 .bf16 := shapeCast S128x256 ep shapeCasts_S128x256_S128x256
  have v74 : FVec Ideal S128x128 .bf16 := truncf .bf16 v71 bitsLt_bf16_f32
  have v75 : FVec Ideal S128x256 .f32 := matmul dot_S128x128_S128x256_S128x256_1_0_0_1_n_n none v74 v73 (constant S128x256 .f32 0x00000000#32)
  have v77 : FVec Ideal S128x128 .f32 := subf v71 (extf .f32 v74 bitsLt_bf16_f32)
  have v78 : FVec Ideal S128x128 .bf16 := truncf .bf16 v77 bitsLt_bf16_f32
  have v79 : FVec Ideal S128x256 .f32 := matmul dot_S128x128_S128x256_S128x256_1_0_0_1_n_n none v78 v73 (constant S128x256 .f32 0x00000000#32)
  have v82 : FVec Ideal S128x128 .f32 := subf v77 (extf .f32 v78 bitsLt_bf16_f32)
  have v83 : FVec Ideal S128x128 .bf16 := truncf .bf16 v82 bitsLt_bf16_f32
  addf (addf v75 v79) (matmul dot_S128x128_S128x256_S128x256_1_0_0_1_n_n none v83 v73 (constant S128x256 .f32 0x00000000#32))

theorem spreadOf_at (v : FVec Ideal S128x128 .f32) (ep : FVec Ideal S128x256 .bf16) (r : Fin 128) (c : Fin 256)
    (hex : ∀ x : Fin 128, ep (ix2 x c) = if x.val = c.val / 8 then 1 else 0) (hf : ∃ y : ℝ, v (ix2 r ⟨c.val / 8, by omega⟩) = y) :
    spreadOf v ep (ix2 r c) = v (ix2 r ⟨c.val / 8, by omega⟩) := by
  refine Eq.trans ?_ (parts (fun x => v (ix2 r x)) (fun x => ep (ix2 x c)) (c.val / 8) (by omega) hex hf)
  unfold spreadOf
  pointwise

theorem spreadC_at (a dt : FVec Ideal S64x128 .f32) (ep : FVec Ideal S128x256 .bf16) (r : Fin 64) (c : Fin 256)
    (hex : ∀ x : Fin 128, ep (ix2 x c) = if x.val = c.val / 8 then 1 else 0) (hf : ∃ y : ℝ, a (ix2 r ⟨c.val / 8, by omega⟩) = y) :
    spreadC (spread a dt ep) (ix2 r c) = a (ix2 r ⟨c.val / 8, by omega⟩) := by
  have e : spreadC (spread a dt ep) (ix2 r c) = spreadOf (both a dt) ep (ix2 ⟨r.val, by omega⟩ c) := by
    show spreadC (spreadOf (both a dt) ep) (ix2 r c) = _
    unfold spreadC
    pointwise
  rw [e, spreadOf_at _ _ _ _ hex (by rw [both_fst]; exact hf), both_fst]

theorem spreadD_at (a dt : FVec Ideal S64x128 .f32) (ep : FVec Ideal S128x256 .bf16) (r : Fin 64) (c : Fin 256)
    (hex : ∀ x : Fin 128, ep (ix2 x c) = if x.val = c.val / 8 then 1 else 0) (hf : ∃ y : ℝ, dt (ix2 r ⟨c.val / 8, by omega⟩) = y) :
    spreadD (spread a dt ep) (ix2 r c) = dt (ix2 r ⟨c.val / 8, by omega⟩) := by
  have e : spreadD (spread a dt ep) (ix2 r c) = spreadOf (both a dt) ep (ix2 ⟨64 + r.val, by omega⟩ c) := by
    show spreadD (spreadOf (both a dt) ep) (ix2 r c) = _
    unfold spreadD
    pointwise
  rw [e, spreadOf_at _ _ _ _ hex (by rw [both_snd]; exact hf), both_snd]

theorem tokRow_at (q l : Fin 8) (c : Fin 256) : tokRow (ix2 (row q l) c) = BitVec.ofNat 32 l.val := by
  have key : ∀ q l : Fin 8, (tokRow (ix2 (row q l) (0 : Fin 256)) : BitVec 32) = BitVec.ofNat 32 l.val := by
    decide +kernel
  exact key q l

/-- A head's lane of a source token. -/
abbrev lane (h : Fin 32) (s : Fin 8) : Fin 256 := ⟨8 * h.val + s.val, by omega⟩

theorem tokSrc_at (r : Fin 64) (h : Fin 32) (s : Fin 8) : tokSrc (ix2 r (lane h s)) = BitVec.ofNat 32 s.val := by
  have key : ∀ (h : Fin 32) (s : Fin 8), (tokSrc (ix2 (0 : Fin 64) (lane h s)) : BitVec 32) = BitVec.ofNat 32 s.val := by
    decide +kernel
  exact key h s

theorem eq_word (a b : ℕ) (ha : a < 2 ^ 32) (hb : b < 2 ^ 32) : IntOp.cmpi .eq (BitVec.ofNat 32 a) (BitVec.ofNat 32 b) = if a = b then 1#1 else 0#1 := by
  by_cases h : a = b
  · subst h
    simp [IntOp.cmpi]
  · have h' : BitVec.ofNat 32 a ≠ BitVec.ofNat 32 b := fun e => h (by
      have := congrArg BitVec.toNat e
      rwa [BitVec.toNat_ofNat, BitVec.toNat_ofNat, Nat.mod_eq_of_lt ha, Nat.mod_eq_of_lt hb] at this)
    have hb : (BitVec.ofNat 32 a == BitVec.ofNat 32 b) = false := beq_eq_false_iff_ne.mpr h'
    simp only [IntOp.cmpi, hb, if_neg h]
    rfl

/-- The lane's own entry. -/
def ownEntry (z : FVec Ideal S64x256 .f32) : FVec Ideal S64x256 .f32 :=
  select (cmpi .eq tokRow tokSrc) z (broadcast S64x256 (Scalar.ofBits .f32 0x00000000#32))

theorem ownEntry_at (z : FVec Ideal S64x256 .f32) (q l : Fin 8) (h : Fin 32) (s : Fin 8) :
    ownEntry z (ix2 (row q l) (lane h s)) = if l = s then z (ix2 (row q l) (lane h s)) else 0 := by
  have e : ownEntry z (ix2 (row q l) (lane h s)) = Scalar.select (IntOp.cmpi .eq (tokRow (ix2 (row q l) (lane h s))) (tokSrc (ix2 (row q l) (lane h s))))
      (z (ix2 (row q l) (lane h s))) (Ideal.ofBits .f32 0#32) := rfl
  rw [e, tokRow_at, tokSrc_at, eq_word _ _ (by omega) (by omega), Cert.Scan.select_ite, Ideal.ofBits_zero]
  simp only [Fin.ext_iff]

/-- The sum over a sequence's rows, in each of them. -/
def colSum (v125 : FVec Ideal S64x256 .f32) : FVec Ideal S64x256 .f32 :=
  have v127 : FVec Ideal S8x256 .f32 := multiReduction .add [1] S8x256 (shapeCast S8x8x256 v125 shapeCasts_S64x256_S8x8x256) 0x00000000#32 reduces_S8x8x256_S8x256 (.inl rfl) rfl
  have v129 : FVec Ideal S8x1x256 .f32 := shapeCast S8x1x256 (shapeCast S8x1x256 v127 shapeCasts_S8x256_S8x1x256) shapeCasts_S8x1x256_S8x1x256
  shapeCast S64x256 (broadcastTo S8x8x256 v129 broadcasts_S8x1x256_S8x8x256) shapeCasts_S8x8x256_S64x256

theorem colSum_at (v : FVec Ideal S64x256 .f32) (q l : Fin 8) (c : Fin 256) :
    colSum v (ix2 (row q l) c) = ∑ t : Fin 8, v (ix2 (row q t) c) := by
  have e : colSum v (ix2 (row q l) c) = ∑ t : Fin 8, v (ix2 ⟨(q.val * 8 + l.val) / 8 * 8 + t.val, by omega⟩ c) := by
    unfold colSum
    pointwise
  rw [e]
  refine Finset.sum_congr rfl fun t _ => congrArg (fun y : Fin 64 => v (ix2 y c)) (Fin.ext ?_)
  show (q.val * 8 + l.val) / 8 * 8 + t.val = q.val * 8 + t.val
  omega

theorem perSource_at (z : FVec Ideal S64x256 .f32) (q l : Fin 8) (h : Fin 32) (s : Fin 8) :
    perSource z (ix2 (row q l) (lane h s)) = z (ix2 (row q s) (lane h s)) := by
  show colSum (ownEntry z) (ix2 (row q l) (lane h s)) = _
  rw [colSum_at, Finset.sum_eq_single s]
  · rw [ownEntry_at, if_pos rfl]
  · intro t _ ht
    rw [ownEntry_at, if_neg ht]
  · exact fun hn => absurd (Finset.mem_univ s) hn

theorem decs_at (z : FVec Ideal S128x256 .f32) (q l : Fin 8) (h : Fin 32) (s : Fin 8) :
    decs z (ix2 (row q l) (lane h s)) = Ideal.exp (if s.val ≤ l.val then spreadC z (ix2 (row q l) (lane h s)) - spreadC z (ix2 (row q s) (lane h s)) else ⊥)
      * spreadD z (ix2 (row q s) (lane h s)) := by
  have e : decs z (ix2 (row q l) (lane h s)) = Ideal.exp (Scalar.select (IntOp.cmpi .sge (tokRow (ix2 (row q l) (lane h s))) (tokSrc (ix2 (row q l) (lane h s))))
      (spreadC z (ix2 (row q l) (lane h s)) - perSource (spreadC z) (ix2 (row q l) (lane h s))) (Ideal.ofBits .f32 0xFF800000#32))
      * perSource (spreadD z) (ix2 (row q l) (lane h s)) := rfl
  rw [e, tokRow_at, tokSrc_at, Cert.Scan.sge_word _ _ (by omega) (by omega), Cert.Scan.select_ite, perSource_at, perSource_at,
    show Ideal.ofBits .f32 0xFF800000#32 = ⊥ by simp [Ideal.ofBits, Ideal.ieee]]

theorem diag_at (k : Fin 64) (r : Fin 512) : diag (ix2 k r) = if k.val / 8 = r.val / 64 then 1#1 else 0#1 := by
  have h0 : ∀ k : Fin 64, (quot (iota .tc S64x512 32 [0] iota_S64x512_d0_w32) 8#32 (ix2 k (0 : Fin 512)) : BitVec 32) = BitVec.ofNat 32 (k.val / 8) := by
    decide +kernel
  have h1 : ∀ r : Fin 512, (quot (iota .tc S64x512 32 [1] iota_S64x512_d1_w32) 64#32 (ix2 (0 : Fin 64) r) : BitVec 32) = BitVec.ofNat 32 (r.val / 64) := by
    decide +kernel
  refine Eq.trans ?_ (eq_word (k.val / 8) (r.val / 64) (by omega) (by omega))
  exact congrArg₂ (IntOp.cmpi .eq) (h0 k) (h1 r)

theorem tileB_at (b : FVec Ideal S8x128 .f32) (e s : Fin 8) (n : Fin 128) : tileB b (ix2 ⟨8 * e.val + s.val, by omega⟩ n) = b (ix2 s n) := by
  have hs := s.isLt
  unfold tileB
  fin_cases e <;> pointwise
  all_goals try repeat rw [dif_neg (by omega)]
  all_goals try rw [dif_pos (by omega)]
  all_goals exact congrArg (fun y : Fin 8 => b (ix2 y n)) (Fin.ext (by dsimp only; omega))

theorem tileX_at (x : FVec Ideal S8x512 .f32) (e s : Fin 8) (r : Fin 512) : tileX x (ix2 ⟨8 * e.val + s.val, by omega⟩ r) = x (ix2 s r) := by
  have hs := s.isLt
  unfold tileX
  fin_cases e <;> pointwise
  all_goals try repeat rw [dif_neg (by omega)]
  all_goals try rw [dif_pos (by omega)]
  all_goals exact congrArg (fun y : Fin 8 => x (ix2 y r)) (Fin.ext (by dsimp only; omega))

theorem mats_at (dc : FVec Ideal S64x256 .f32) (b cc : FVec Ideal S8x128 .f32) (g : Fin 4) (q l e s : Fin 8) :
    mats dc b cc g q (ix2 l ⟨8 * e.val + s.val, by omega⟩) = (∑ n : Fin 128, cc (ix2 l n) * b (ix2 s n))
      * dc (ix2 ⟨8 * q.val + l.val, by omega⟩ ⟨64 * g.val + (8 * e.val + s.val), by omega⟩) := by
  simp only [← tileB_at b e s]
  unfold mats
  pointwise

theorem own_at (x : FVec Ideal S8x512 .f32) (mt : FVec Ideal S8x64 .bf16) (l : Fin 8) (r : Fin 512) :
    own x mt (ix2 l r) = ∑ s : Fin 8, mt (ix2 l ⟨8 * (r.val / 64) + s.val, by omega⟩) * x (ix2 s r) := by
  have E : own x mt (ix2 l r) = ∑ k : Fin 64, mt (ix2 l k) * (if k.val / 8 = r.val / 64 then tileX x (ix2 k r) else 0) := by
    refine Eq.trans (b := ∑ k : Fin 64, mt (ix2 l k) * Scalar.select (diag (ix2 k r)) (tileX x (ix2 k r)) (Ideal.ofBits .f32 0#32)) ?_
      (Finset.sum_congr rfl fun k _ => ?_)
    · unfold own
      pointwise
      try rfl
    · rw [diag_at, Cert.Scan.select_ite, Ideal.ofBits_zero]
  rw [E]
  have P : ∀ f : Fin 64 → EReal, (∑ k, f k) = ∑ e : Fin 8, ∑ s : Fin 8, f ⟨8 * e.val + s.val, by omega⟩ := by
    intro f
    rw [← Fintype.sum_prod_type']
    refine (Fintype.sum_equiv (finProdFinEquiv (m := 8) (n := 8)) _ _ fun p => ?_).symm
    exact congrArg f (Fin.ext (by simp [finProdFinEquiv]; omega))
  rw [P, Finset.sum_eq_single ⟨r.val / 64, by omega⟩]
  · refine Finset.sum_congr rfl fun s _ => ?_
    rw [tileX_at x ⟨r.val / 64, by omega⟩ s r, if_pos (by dsimp only; omega)]
  · intro e _ he
    refine Finset.sum_eq_zero fun s _ => ?_
    rw [if_neg, mul_zero]
    intro h
    refine he (Fin.ext ?_)
    dsimp only at h ⊢
    omega
  · exact fun hn => absurd (Finset.mem_univ _) hn

theorem past_at (e : FVec Ideal S64x2048 .f32) (h : FVec Ideal S1x512x128 .f32) (cc : FVec Ideal S8x128 .f32) (g : Fin 4) (q l : Fin 8) (r : Fin 512) :
    past e h cc g q (ix2 l r) = (∑ n : Fin 128, cc (ix2 l n) * h (ix3 0 r n)) * e (ix2 ⟨8 * q.val + l.val, by omega⟩ ⟨512 * g.val + r.val, by omega⟩) := by
  unfold past
  pointwise

theorem cell_at (dc : FVec Ideal S64x256 .f32) (e : FVec Ideal S64x2048 .f32) (h : FVec Ideal S1x512x128 .f32) (x : FVec Ideal S8x512 .f32)
    (b cc : FVec Ideal S8x128 .f32) (g : Fin 4) (q l : Fin 8) (r : Fin 512) :
    cell dc e h x b cc g q (ix2 l r) = own x (mats dc b cc g q) (ix2 l r) + past e h cc g q (ix2 l r) := by
  unfold cell
  pointwise

theorem wholeY_at (v : View sig .tc .vmem S64x2048 .f32) (dc : FVec Ideal S64x256 .f32) (e : FVec Ideal S64x2048 .f32) (h : Fin 4 → Fin 8 → FVec Ideal S1x512x128 .f32)
    (x : Fin 4 → Fin 8 → FVec Ideal S8x512 .f32) (b cc : Fin 4 → Fin 8 → FVec Ideal S8x128 .f32) (q l : Fin 8) (g : Fin 4) (r : Fin 512) :
    wholeY v (cells dc e h x b cc) (ix2 (row q l) ⟨512 * g.val + r.val, by omega⟩) = cell dc e (h g q) (x g q) (b g q) (cc g q) g q (ix2 l r) := by
  unfold wholeY
  rw [View.readCov_eq_canon']
  have E : ∀ (h) (r : Fin 64) (j : Fin 2048), (Rect.unit (s := S64x2048) ![0, 0] S64x2048.size h).toLoadRect.idx (ix2 r j) = ix2 r j := fun h r j =>
    funext fun a => by fin_cases a <;> exact Fin.ext (by simp [LoadRect.idx, ix2])
  show View.canon _ (LoadRect.idx _ _) = _
  rw [E]
  refine View.canon_eq_of_allAt _ _ _ ?_ ?_
  · refine ⟨_, List.mem_map_of_mem (mem_order (q, g)), ?_⟩
    show _ ∈ (Rect.unit (s := S64x2048) ![8 * q.val, 512 * g.val] S8x512.size (inbY g q)).set
    rw [Rect.mem_set_unit]
    intro a
    fin_cases a
    · show 8 * q.val ≤ q.val * 8 + l.val ∧ q.val * 8 + l.val < 8 * q.val + 8
      omega
    · show 512 * g.val ≤ 512 * g.val + r.val ∧ 512 * g.val + r.val < 512 * g.val + 512
      omega
  · intro p hp
    obtain ⟨⟨q', g'⟩, _, rfl⟩ := List.mem_map.mp hp
    intro y hy
    have h0 : 8 * q'.val + 1 * (y 0).val = q.val * 8 + l.val := congrArg (fun i => (i 0).val) hy
    have h1 : 512 * g'.val + 1 * (y 1).val = 512 * g.val + r.val := congrArg (fun i => (i 1).val) hy
    have y0 : (y 0).val < 8 := (y 0).isLt
    have y1 : (y 1).val < 512 := (y 1).isLt
    obtain rfl : q' = q := Fin.ext (by omega)
    obtain rfl : g' = g := Fin.ext (by omega)
    refine congrArg (cell dc e (h g' q') (x g' q') (b g' q') (cc g' q') g' q') ?_
    funext a
    fin_cases a
    · exact Fin.ext (show (y 0).val = l.val by omega)
    · exact Fin.ext (show (y 1).val = r.val by omega)

theorem normed_at (g : Fin 4) (y : FVec Ideal S64x2048 .f32) (w : FVec Ideal S1x512 .f32) (r : Fin 64) (q : Fin 512) :
    normed y w g (ix2 r q) = y (ix2 r ⟨512 * g.val + q.val, by omega⟩)
      * Ideal.rsqrt (Ideal.div (∑ x : Fin 512, y (ix2 r ⟨512 * g.val + x.val, by omega⟩) * y (ix2 r ⟨512 * g.val + x.val, by omega⟩))
        (Ideal.ofBits .f32 1140850688#32) + Ideal.ofBits .f32 897988541#32) * w (ix2 0 q) := by
  unfold normed
  pointwise

theorem gated_at (y x : FVec Ideal S64x2048 .f32) (d : FVec Ideal S1x2048 .f32) (z : FVec Ideal S64x2048 .bf16) (r : Fin 64) (j : Fin 2048) :
    gated y x d z (ix2 r j) = (y (ix2 r j) + x (ix2 r j) * d (ix2 0 j)) * z (ix2 r j) := by
  unfold gated
  pointwise

theorem outPieces_at (y : FVec Ideal S64x2048 .f32) (w : Fin 4 → FVec Ideal S1x512 .f32) (r : Fin 64) (j : Fin 2048) :
    View.canon (outPieces y w) (ix2 r j) = normed y (w ⟨j.val / 512, by omega⟩) ⟨j.val / 512, by omega⟩ (ix2 r ⟨j.val % 512, by omega⟩) := by
  refine View.canon_eq_of_allAt _ _ _ ?_ ?_
  · refine ⟨_, List.mem_map_of_mem (show (⟨j.val / 512, by omega⟩ : Fin 4) ∈ ([3, 2, 1, 0] : List (Fin 4)) by
      generalize (⟨j.val / 512, by omega⟩ : Fin 4) = t; revert t; decide), ?_⟩
    rw [Rect.mem_set_unit]
    intro a
    fin_cases a
    · show 0 ≤ r.val ∧ r.val < 0 + 64
      omega
    · show 512 * (j.val / 512) ≤ j.val ∧ j.val < 512 * (j.val / 512) + 512
      omega
  · have hr : j.val / 512 < 4 := by omega
    intro p hp
    obtain ⟨g, _, rfl⟩ := List.mem_map.mp hp
    intro y hy
    have h0 : 0 + 1 * (y 0).val = r.val := congrArg (fun i => (i 0).val) hy
    have h1 : 512 * g.val + 1 * (y 1).val = j.val := congrArg (fun i => (i 1).val) hy
    have y1 : (y 1).val < 512 := (y 1).isLt
    obtain rfl : (⟨j.val / 512, hr⟩ : Fin 4) = g := Fin.ext (by show j.val / 512 = g.val; omega)
    have ey : y = ix2 r (⟨j.val % 512, by omega⟩ : Fin 512) := by
      funext a
      fin_cases a
      · exact Fin.ext (show (y 0).val = r.val by omega)
      · exact Fin.ext (show (y 1).val = j.val % 512 by simp only at h1; omega)
    rw [ey]

end Cert.ScanSample
-- ==== Proof.ScanPoint.lean ====
module

public import proofs.«01_k».proof.Proof.ScanVal

@[expose] public section

set_option maxRecDepth 16384

noncomputable section

/-! A point of the sample's scan leaves the outputs of its eight sequences. -/

namespace Cert.ScanSample

open Idealize.ShloMosaic Idealize.ShloMosaic.TcCoe Idealize.ShloMosaic.Tactic
open Cert.Kernel7Ideal Cert.Kernel7Ideal.Gen

section Loads

variable (arg1 : Memref sig .tc .vmem S64x2048 .bf16) (harg1 : arg1.IsWhole) (arg2 : Memref sig .tc .vmem S64x3072 .f32) (harg2 : arg2.IsWhole)
  (arg7 : Memref sig .tc .vmem S128x256 .bf16) (harg7 : arg7.IsWhole) (arg8 : Memref sig .tc .vmem S1x2048 .f32) (harg8 : arg8.IsWhole)
  (arg9 : Memref sig .tc .vmem S1x2048 .f32) (harg9 : arg9.IsWhole)
  (x0 : Vec Ideal S64x2048 .bf16) (x1 : Vec Ideal S64x3072 .f32) (x6 : Vec Ideal S128x256 .bf16) (x7 : Vec Ideal S1x2048 .f32) (x8 : Vec Ideal S1x2048 .f32)

theorem ldC_at (g : Fin 4) (q l : Fin 8) (n : Fin 128) : ldC arg2 harg2 x1 g q (ix2 l n) = x1 (ix2 ⟨8 * q.val + l.val, by omega⟩ ⟨2560 + 128 * g.val + n.val, by omega⟩) := by
  unfold ldC
  rw [View.readAt_eq_ld, harg2.read_unread]
  pointwise

theorem ldW_at (r : Fin 64) (j : Fin 2048) : ldW arg2 harg2 x1 (ix2 r j) = x1 (ix2 r ⟨j.val, by omega⟩) := by
  unfold ldW
  rw [View.readAt_eq_ld, harg2.read_unread]
  pointwise

theorem ldP_at (k : Fin 128) (j : Fin 256) : ldP arg7 harg7 x6 (ix2 k j) = x6 (ix2 k j) := by
  unfold ldP
  rw [View.readAt_eq_ld, harg7.read_unread]
  pointwise

theorem ldS_at (j : Fin 2048) : ldS arg8 harg8 x7 (ix2 0 j) = x7 (ix2 0 j) := by
  unfold ldS
  rw [View.readAt_eq_ld, harg8.read_unread]
  pointwise

theorem ldN_at (g : Fin 4) (r : Fin 512) : ldN arg9 harg9 x8 g (ix2 0 r) = x8 (ix2 0 ⟨512 * g.val + r.val, by omega⟩) := by
  unfold ldN
  rw [View.readAt_eq_ld, harg9.read_unread]
  pointwise

theorem ldZ_at (r : Fin 64) (j : Fin 2048) : ldZ arg1 harg1 x0 (ix2 r j) = x0 (ix2 r j) := by
  unfold ldZ
  rw [View.readAt_eq_ld, harg1.read_unread]
  pointwise

end Loads

section Point

variable {X D : ℕ → ℕ → EReal} {A K W : ℕ → EReal} {Z : ℕ → ℕ → EReal} (hD : Re2 D) (hA : Cert.Scan.Re A) (T : ℕ) (H : ℕ → ℕ → ℕ → EReal)
  (c : Dev nD) (i : grid0.Coords) (arg1 : Memref sig .tc .vmem S64x2048 .bf16) (harg1 : arg1.IsWhole) (arg2 : Memref sig .tc .vmem S64x3072 .f32) (harg2 : arg2.IsWhole)
  (arg3 : Memref sig .tc .vmem S64x128 .f32) (harg3 : arg3.IsWhole) (arg4 : Memref sig .tc .vmem S8x2048x128 .f32) (harg4 : arg4.IsWhole)
  (arg5 : Memref sig .tc .vmem S1x128 .f32) (harg5 : arg5.IsWhole) (arg6 : Memref sig .tc .vmem S128x2048 .bf16) (harg6 : arg6.IsWhole)
  (arg7 : Memref sig .tc .vmem S128x256 .bf16) (harg7 : arg7.IsWhole) (arg8 : Memref sig .tc .vmem S1x2048 .f32) (harg8 : arg8.IsWhole)
  (arg9 : Memref sig .tc .vmem S1x2048 .f32) (harg9 : arg9.IsWhole) (arg10 : Memref sig .tc .vmem S64x2048 .bf16) (harg10 : arg10.IsWhole)
  (arg11 : Memref sig .tc .vmem S8x2048x128 .f32) (harg11 : arg11.IsWhole) (arg12 : Memref sig .tc .vmem S64x2048 .f32) (harg12 : arg12.IsWhole)
  (x0 : Vec Ideal S64x2048 .bf16) (x1 : Vec Ideal S64x3072 .f32) (x2 : Vec Ideal S64x128 .f32) (x3 : Vec Ideal S8x2048x128 .f32) (x4 : Vec Ideal S1x128 .f32)
  (x5 : Vec Ideal S128x2048 .bf16) (x6 : Vec Ideal S128x256 .bf16) (x7 : Vec Ideal S1x2048 .f32) (x8 : Vec Ideal S1x2048 .f32)
  (h0 : ∀ (r : Fin 64) (j : Fin 2048), @Eq EReal (x0 (ix2 r j)) (Z (64 * T + r.val) j.val))
  (h1 : ∀ (r : Fin 64) (j : Fin 3072), @Eq EReal (x1 (ix2 r j)) (X (64 * T + r.val) j.val))
  (h2 : ∀ (r : Fin 64) (k : Fin 128), @Eq EReal (x2 (ix2 r k)) (D (64 * T + r.val) k.val))
  (h3 : ∀ (q : Fin 8) (j : Fin 2048) (n : Fin 128), @Eq EReal (x3 (ix3 q j n)) (H (8 * T + q.val) j.val n.val))
  (h4 : ∀ k : Fin 128, 0 - Ideal.exp (x4 (ix2 0 k)) = A k.val)
  (h5 : ∀ (k : Fin 128) (j : Fin 2048), @Eq EReal (x5 (ix2 k j)) (if k.val = j.val / 64 then 1 else 0))
  (h6 : ∀ (k : Fin 128) (j : Fin 256), @Eq EReal (x6 (ix2 k j)) (if k.val = j.val / 8 then 1 else 0))
  (h7 : ∀ j : Fin 2048, @Eq EReal (x7 (ix2 0 j)) (K j.val)) (h8 : ∀ j : Fin 2048, @Eq EReal (x8 (ix2 0 j)) (W j.val))

include hD hA h2 h4 h6 in
theorem pointDecs_at (q l : Fin 8) (h : Fin 32) (s : Fin 8) :
    decs (spread (ac arg3 harg3 arg5 harg5 x2 x4) (ldD arg3 harg3 x2) (ldP arg7 harg7 x6)) (ix2 (row q l) (lane h s))
      = decS D A (8 * T + q.val) h.val l.val s.val * D (8 * (8 * T + q.val) + s.val) h.val := by
  have hh := h.isLt
  have v : (lane h s).val / 8 = h.val := by show (8 * h.val + s.val) / 8 = h.val; omega
  have C : ∀ l : Fin 8, spreadC (spread (ac arg3 harg3 arg5 harg5 x2 x4) (ldD arg3 harg3 x2) (ldP arg7 harg7 x6)) (ix2 (row q l) (lane h s))
      = sumS D A (8 * T + q.val) h.val l.val := by
    intro l
    have e := acum_at T arg3 harg3 arg5 harg5 x2 x4 h2 h4 q l ⟨(lane h s).val / 8, by omega⟩
    obtain ⟨u, hu⟩ := sumS_real hD hA (8 * T + q.val) h.val l.val hh
    have e' : ac arg3 harg3 arg5 harg5 x2 x4 (ix2 (row q l) ⟨(lane h s).val / 8, by omega⟩) = sumS D A (8 * T + q.val) h.val l.val := by
      refine e.trans ?_
      show sumS D A _ ((lane h s).val / 8) _ = _
      rw [v]
    rw [spreadC_at _ _ _ _ _ (fun x => (ldP_at arg7 harg7 x6 x _).trans (h6 x _)) ⟨u, e'.trans hu⟩, e']
  have E : ldD arg3 harg3 x2 (ix2 (row q s) ⟨(lane h s).val / 8, by omega⟩) = D (8 * (8 * T + q.val) + s.val) h.val := by
    rw [ldD_at, h2]
    show D (64 * T + (q.val * 8 + s.val)) ((lane h s).val / 8) = _
    rw [v, show 64 * T + (q.val * 8 + s.val) = 8 * (8 * T + q.val) + s.val by omega]
  obtain ⟨d, hd⟩ := hD (8 * (8 * T + q.val) + s.val) h.val hh
  rw [decs_at, C, C, spreadD_at _ _ _ _ _ (fun x => (ldP_at arg7 harg7 x6 x _).trans (h6 x _)) ⟨d, E.trans hd⟩, E]
  unfold decS
  split
  · rfl
  · rw [Ideal.exp_bot]

include hD hA h1 h2 h3 h4 h5 h6 in
theorem pointY_at (q l : Fin 8) (g : Fin 4) (r : Fin 512) :
    wholeY arg12.view (pointCells arg2 harg2 arg3 harg3 arg4 harg4 arg5 harg5 arg6 harg6 arg7 harg7 x1 x2 x3 x4 x5 x6) (ix2 (row q l) ⟨512 * g.val + r.val, by omega⟩)
      = yS X D A H (8 * T + q.val) l.val (512 * g.val + r.val) := by
  have hg := g.isLt; have hr := r.isLt
  have ej : (512 * g.val + r.val) / 64 = 8 * g.val + r.val / 64 := by omega
  have eg : (512 * g.val + r.val) / 512 = g.val := by omega
  have hl : ∀ l : Fin 8, (⟨8 * q.val + l.val, by omega⟩ : Fin 64) = row q l := fun l => Fin.ext (show 8 * q.val + l.val = q.val * 8 + l.val by omega)
  have et : ∀ l : Fin 8, 64 * T + (q.val * 8 + l.val) = 8 * (8 * T + q.val) + l.val := fun l => by omega
  unfold pointCells yS
  rw [wholeY_at, cell_at, own_at, past_at, ej, eg]
  refine congrArg₂ (· + ·) (Finset.sum_congr rfl fun s _ => ?_) (congrArg₂ (· * ·) (Finset.sum_congr rfl fun n _ => ?_) ?_)
  · have F := pointDecs_at hD hA T arg3 harg3 arg5 harg5 arg7 harg7 x2 x4 x6 h2 h4 h6 q l ⟨8 * g.val + r.val / 64, by omega⟩ s
    have hc : (⟨64 * g.val + (8 * (r.val / 64) + s.val), by omega⟩ : Fin 256) = lane ⟨8 * g.val + r.val / 64, by omega⟩ s :=
      Fin.ext (show 64 * g.val + (8 * (r.val / 64) + s.val) = 8 * (8 * g.val + r.val / 64) + s.val by omega)
    have M := mats_at (decs (spread (ac arg3 harg3 arg5 harg5 x2 x4) (ldD arg3 harg3 x2) (ldP arg7 harg7 x6))) (ldB arg2 harg2 x1 g q) (ldC arg2 harg2 x1 g q) g q l
      ⟨r.val / 64, by omega⟩ s
    rw [hl, hc, F] at M
    refine (congrArg (· * _) M).trans ?_
    rw [ldX_at, h1, hl]
    refine congrArg₂ (· * ·) (congrArg (· * _) (Finset.sum_congr rfl fun n _ => ?_)) ?_
    · rw [ldB_at, ldC_at, h1, h1, hl, hl]
      show X (64 * T + (q.val * 8 + l.val)) _ * X (64 * T + (q.val * 8 + s.val)) _ = _
      rw [et, et]
    · show X (64 * T + (q.val * 8 + s.val)) _ = _
      rw [et]
  · rw [ldC_at, ldH_at, h1, h3, hl]
    show X (64 * T + (q.val * 8 + l.val)) _ * _ = _
    rw [et]
  · have e := acum_at T arg3 harg3 arg5 harg5 x2 x4 h2 h4 q l ⟨(512 * g.val + r.val) / 64, by omega⟩
    have e' : exp (ac arg3 harg3 arg5 harg5 x2 x4) (ix2 (row q l) ⟨(512 * g.val + r.val) / 64, by omega⟩) = Ideal.exp (sumS D A (8 * T + q.val) (8 * g.val + r.val / 64) l.val) := by
      refine (congrArg Ideal.exp e).trans ?_
      show Ideal.exp (sumS D A _ ((512 * g.val + r.val) / 64) _) = _
      rw [ej]
    obtain ⟨u, hu⟩ := sumS_real hD hA (8 * T + q.val) (8 * g.val + r.val / 64) l.val (by omega)
    rw [hl, wts_at _ _ _ _ ((512 * g.val + r.val) / 64) (by omega) (fun k => (ldE_at arg6 harg6 x5 k _).trans (h5 k _))
      ⟨_, e'.trans ((congrArg Ideal.exp hu).trans (Ideal.exp_coe u))⟩, e']

include hD hA h0 h1 h2 h3 h4 h5 h6 h7 in
theorem pointGated_at (r : Fin 64) (j : Fin 2048) :
    gated (wholeY arg12.view (pointCells arg2 harg2 arg3 harg3 arg4 harg4 arg5 harg5 arg6 harg6 arg7 harg7 x1 x2 x3 x4 x5 x6))
      (ldW arg2 harg2 x1) (ldS arg8 harg8 x7) (ldZ arg1 harg1 x0) (ix2 r j) = gS X D A K Z H (64 * T + r.val) j.val := by
  obtain ⟨q, l, rfl⟩ : ∃ q l : Fin 8, r = row q l :=
    ⟨⟨r.val / 8, by omega⟩, ⟨r.val % 8, by omega⟩, Fin.ext (show r.val = r.val / 8 * 8 + r.val % 8 by omega)⟩
  obtain ⟨g, k, rfl⟩ : ∃ (g : Fin 4) (k : Fin 512), j = ⟨512 * g.val + k.val, by omega⟩ :=
    ⟨⟨j.val / 512, by omega⟩, ⟨j.val % 512, by omega⟩, Fin.ext (show j.val = 512 * (j.val / 512) + j.val % 512 by omega)⟩
  rw [gated_at, ldW_at, ldS_at, ldZ_at, h0, h1, h7,
    pointY_at hD hA T H arg2 harg2 arg3 harg3 arg4 harg4 arg5 harg5 arg6 harg6 arg7 harg7 arg12 x1 x2 x3 x4 x5 x6 h1 h2 h3 h4 h5 h6 q l g k]
  unfold gS
  show _ = (yS X D A H ((64 * T + (q.val * 8 + l.val)) / 8) ((64 * T + (q.val * 8 + l.val)) % 8) _ + _) * _
  rw [show (64 * T + (q.val * 8 + l.val)) / 8 = 8 * T + q.val by omega, show (64 * T + (q.val * 8 + l.val)) % 8 = l.val by omega]

include hD hA h0 h1 h2 h3 h4 h5 h6 h7 h8 in
/-- A point leaves the outputs of its eight sequences. -/
theorem outY_at (r : Fin 64) (j : Fin 2048) :
    out0_A_9 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 (ix2 r j)
      = oS X D A K Z W H (64 * T + r.val) j.val := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8), outs_A]
  have hg := pointGated_at hD hA T H arg1 harg1 arg2 harg2 arg3 harg3 arg4 harg4 arg5 harg5 arg6 harg6 arg7 harg7 arg8 harg8 arg12 x0 x1 x2 x3 x4 x5 x6 x7 h0 h1 h2 h3 h4 h5 h6 h7 r
  rw [outPieces_at, normed_at, oS, ldN_at, h8]
  simp only [hg, Nat.div_add_mod]

end Point

end Cert.ScanSample
-- ==== Proof.ScanKernel.lean ====
module

public import proofs.«01_k».proof.Proof.StateKernel
public import proofs.«01_k».proof.Proof.ScanPoint

@[expose] public section

set_option maxRecDepth 16384

noncomputable section

/-! The remaining arrays of the sample's scan at an index, and its outputs. -/

namespace Cert.ScanSample

open Idealize.ShloMosaic Idealize.ShloMosaic.TcCoe Idealize.ShloMosaic.Tactic
open Cert.Kernel7Ideal Cert.Kernel7Ideal.Gen
open Cert.Args (rateF skipF normF grid grid_at)
open Cert.StateRef (convN stepN stateN)

/-- The lanes of a group's pairs, and those divided by 8 as the host does it. -/
def pairLanes : IVec S1x256 32 := broadcastInDim S1x256 ![1] bcast_S256_S1x256_1 (iotaInDim S256 32 0)
def pairWhole (w : BitVec 32) : IVec S1x256 32 := broadcastInDim S1x256 ![] bcast_S_S1x256 (constantI S_ 32 w)
def pairQuots : IVec S1x256 32 :=
  select (andi (cmpi .ne (signi pairLanes) (broadcastInDim S1x256 ![] bcast_S_S1x256 (signi (constantI S_ 32 8#32)))) (cmpi .ne (Host.remsi pairLanes (pairWhole 8#32)) (pairWhole 0#32)))
    (subi (Host.divsi pairLanes (pairWhole 8#32)) (pairWhole 1#32)) (Host.divsi pairLanes (pairWhole 8#32))

theorem pairQuots_at : ∀ j : Fin 256, pairQuots (ix2 0 j) = BitVec.ofNat 32 (j.val / 8) := by
  decide +kernel

/-- The gate as a function of numbers. -/
def gateK (a : Vec Ideal S1024x2048 .bf16) : ℕ → ℕ → EReal := grid fun (t : Fin 1024) (j : Fin 2048) => a (ix2 t j)

section Kernel

variable (m : (ℓ : Loc nD τ sig) → Buf (Elt Ideal) ℓ) (c : Dev nD)

theorem index_0 : ∀ t : Fin cfg0.N, win0_0.index t 0 = t.val ∧ win0_0.index t 1 = 0 := by decide +kernel
theorem index_6 : ∀ t : Fin cfg0.N, win0_6.index t 0 = 0 ∧ win0_6.index t 1 = 0 := by decide +kernel
theorem index_7 : ∀ t : Fin cfg0.N, win0_7.index t 0 = 0 ∧ win0_7.index t 1 = 0 := by decide +kernel
theorem index_8 : ∀ t : Fin cfg0.N, win0_8.index t 0 = 0 ∧ win0_8.index t 1 = 0 := by decide +kernel
theorem index_9 : ∀ t : Fin cfg0.N, win0_9.index t 0 = t.val ∧ win0_9.index t 1 = 0 := by decide +kernel

set_option maxHeartbeats 1000000 in
theorem pair_eq : (V m c main_v17 : Vec Ideal S128x256 .bf16) = uitofp (F := Ideal) .bf16 (cmpi .eq (broadcastInDim S128x256 ![0, 1] bcast_S128x1_S128x256_0_1
      (broadcastInDim S128x1 ![0] bcast_S128_S128x1_0 (iotaInDim S128 32 0))) (broadcastInDim S128x256 ![0, 1] bcast_S1x256_S128x256_0_1 pairQuots)) := by
  unfold_abbrev_sides
  simp only [hostOps0, hostOps0_1, hostOps0_2, hostOps0_3, hostOps0_4, hostOps0_5, hostOps0_6, List.flatten_cons, List.flatten_nil, List.append_nil, List.cons_append, List.nil_append]
  after_reads_simp
  rfl

set_option maxHeartbeats 1000000 in
theorem skip_eq : (V m c main_v24 : Vec Ideal S1x2048 .f32) = broadcastInDim S1x2048 ![1] bcast_S2048_S1x2048_1 (shapeCast S2048
      (broadcastInDim S32x64 ![0] bcast_S32_S32x64_0 (shapeCast S32 (m ((c : Thread nD τ).loc main_arg5)) shapeCasts_S1x32_S32)) shapeCasts_S32x64_S2048) := by
  unfold_abbrev_sides
  simp only [hostOps0, hostOps0_1, hostOps0_2, hostOps0_3, hostOps0_4, hostOps0_5, hostOps0_6, List.flatten_cons, List.flatten_nil, List.append_nil, List.cons_append, List.nil_append]
  after_reads_simp
  rfl

set_option maxHeartbeats 1000000 in
theorem norm_eq : (V m c main_v26 : Vec Ideal S1x2048 .f32) = broadcastInDim S1x2048 ![1] bcast_S2048_S1x2048_1 (shapeCast S2048 (m ((c : Thread nD τ).loc main_arg6)) shapeCasts_S1x2048_S2048) := by
  unfold_abbrev_sides
  simp only [hostOps0, hostOps0_1, hostOps0_2, hostOps0_3, hostOps0_4, hostOps0_5, hostOps0_6, List.flatten_cons, List.flatten_nil, List.append_nil, List.cons_append, List.nil_append]
  after_reads_simp
  rfl

theorem skip_of (a : Vec Ideal S1x32 .f32) (j : Fin 2048) :
    @Eq EReal ((broadcastInDim S1x2048 ![1] bcast_S2048_S1x2048_1 (shapeCast S2048 (broadcastInDim S32x64 ![0] bcast_S32_S32x64_0 (shapeCast S32 a shapeCasts_S1x32_S32))
      shapeCasts_S32x64_S2048) : Vec Ideal S1x2048 .f32) (ix2 0 j)) (a (ix2 0 ⟨j.val / 64, by omega⟩)) := by
  pointwise

theorem norm_of (a : Vec Ideal S1x2048 .f32) (j : Fin 2048) :
    @Eq EReal ((broadcastInDim S1x2048 ![1] bcast_S2048_S1x2048_1 (shapeCast S2048 a shapeCasts_S1x2048_S2048) : Vec Ideal S1x2048 .f32) (ix2 0 j)) (a (ix2 0 j)) := by
  pointwise

theorem skip_at (j : Fin 2048) : @Eq EReal ((V m c main_v24 : Vec Ideal S1x2048 .f32) (ix2 0 j)) ((m ((c : Thread nD τ).loc main_arg5) : Vec Ideal S1x32 .f32) (ix2 0 ⟨j.val / 64, by omega⟩)) :=
  (congrFun (skip_eq m c) (ix2 0 j)).trans (skip_of _ j)

theorem norm_at (j : Fin 2048) : @Eq EReal ((V m c main_v26 : Vec Ideal S1x2048 .f32) (ix2 0 j)) ((m ((c : Thread nD τ).loc main_arg6) : Vec Ideal S1x2048 .f32) (ix2 0 j)) :=
  (congrFun (norm_eq m c) (ix2 0 j)).trans (norm_of _ j)

theorem pair_at (k : Fin 128) (j : Fin 256) : @Eq EReal ((V m c main_v17 : Vec Ideal S128x256 .bf16) (ix2 k j)) (if k.val = j.val / 8 then 1 else 0) := by
  refine (congrFun (pair_eq m c) (ix2 k j)).trans ?_
  have o : @Eq EReal (FloatOps.uitofp (F := Ideal) .bf16 (1#1 : BitVec 1)) 1 := by
    show ((((1#1 : BitVec 1).toNat : ℝ)) : EReal) = 1
    simp
  have z : @Eq EReal (FloatOps.uitofp (F := Ideal) .bf16 (0#1 : BitVec 1)) 0 := by
    show ((((0#1 : BitVec 1).toNat : ℝ)) : EReal) = 0
    simp
  pointwise
  rw [pairQuots_at]
  have hk : k.val < 2 ^ 32 := by omega
  have hj : j.val / 8 < 2 ^ 32 := by omega
  by_cases h : k.val = j.val / 8
  · rw [if_pos h, h]
    simpa [IntOp.cmpi] using o
  · have h' : BitVec.ofNat 32 k.val ≠ BitVec.ofNat 32 (j.val / 8) := fun e => h (by
      have := congrArg BitVec.toNat e
      rwa [BitVec.toNat_ofNat, BitVec.toNat_ofNat, Nat.mod_eq_of_lt hk, Nat.mod_eq_of_lt hj] at this)
    rw [if_neg h]
    have hb : (BitVec.ofNat 32 k.val == BitVec.ofNat 32 (j.val / 8)) = false := beq_eq_false_iff_ne.mpr h'
    simp only [IntOp.cmpi, hb]
    exact z

theorem blk_0 (t : Fin cfg0.N) (r : Fin 64) (j : Fin 2048) :
    @Eq EReal ((iblk m c 0 t : Vec Ideal S64x2048 .bf16) (ix2 r j)) (gateK (m ((c : Thread nD τ).loc main_arg0)) (64 * t.val + r.val) j.val) := by
  have := lt_N t
  rw [gateK, grid_at _ _ _ (by omega) j.isLt, ← V_main_arg0 m c]
  unfold iblk
  rw [View.read_apply]
  show V m c main_arg0 _ = V m c main_arg0 _
  congr 1
  funext a
  apply Fin.ext
  match a with
  | ⟨0, _⟩ => show win0_0.index t 0 * 64 + 1 * r.val = 64 * t.val + r.val; rw [(index_0 t).1]; omega
  | ⟨1, _⟩ => show win0_0.index t 1 * 2048 + 1 * j.val = j.val; rw [(index_0 t).2]; omega

theorem blk_6 (t : Fin cfg0.N) (k : Fin 128) (j : Fin 256) :
    @Eq EReal ((iblk m c 6 t : Vec Ideal S128x256 .bf16) (ix2 k j)) (if k.val = j.val / 8 then 1 else 0) := by
  refine Eq.trans ?_ (pair_at m c k j)
  unfold iblk
  rw [View.read_apply]
  show V m c main_v17 _ = V m c main_v17 _
  congr 1
  funext a
  apply Fin.ext
  match a with
  | ⟨0, _⟩ => show win0_6.index t 0 * 128 + 1 * k.val = k.val; rw [(index_6 t).1]; omega
  | ⟨1, _⟩ => show win0_6.index t 1 * 256 + 1 * j.val = j.val; rw [(index_6 t).2]; omega

theorem blk_7 (t : Fin cfg0.N) (j : Fin 2048) :
    @Eq EReal ((iblk m c 7 t : Vec Ideal S1x2048 .f32) (ix2 0 j)) (skipF (m ((c : Thread nD τ).loc main_arg5)) j.val) := by
  rw [skipF, grid_at _ _ _ (by decide) (by omega)]
  refine Eq.trans ?_ (skip_at m c j)
  unfold iblk
  rw [View.read_apply]
  show V m c main_v24 _ = V m c main_v24 _
  congr 1
  funext a
  apply Fin.ext
  match a with
  | ⟨0, _⟩ => show win0_7.index t 0 * 1 + 1 * 0 = 0; rw [(index_7 t).1]
  | ⟨1, _⟩ => show win0_7.index t 1 * 2048 + 1 * j.val = j.val; rw [(index_7 t).2]; omega

theorem blk_8 (t : Fin cfg0.N) (j : Fin 2048) :
    @Eq EReal ((iblk m c 8 t : Vec Ideal S1x2048 .f32) (ix2 0 j)) (normF (m ((c : Thread nD τ).loc main_arg6)) j.val) := by
  rw [normF, grid_at _ _ _ (by decide) (by omega)]
  refine Eq.trans ?_ (norm_at m c j)
  unfold iblk
  rw [View.read_apply]
  show V m c main_v26 _ = V m c main_v26 _
  congr 1
  funext a
  apply Fin.ext
  match a with
  | ⟨0, _⟩ => show win0_8.index t 0 * 1 + 1 * 0 = 0; rw [(index_8 t).1]
  | ⟨1, _⟩ => show win0_8.index t 1 * 2048 + 1 * j.val = j.val; rw [(index_8 t).2]; omega

/-- The kernel's outputs, when the step sizes and the rates are reals. -/
theorem kernelY (hD : Re2 (stepN (m ((c : Thread nD τ).loc main_arg2)))) (hA : Cert.Scan.Re (rateF (m ((c : Thread nD τ).loc main_arg4))))
    (r : Fin 1024) (j : Fin 2048) :
    @Eq EReal ((dats m 0 c).arrAt 9 cfg0.N (ix2 r j)) (oS (convN (m ((c : Thread nD τ).loc main_arg1))) (stepN (m ((c : Thread nD τ).loc main_arg2)))
      (rateF (m ((c : Thread nD τ).loc main_arg4))) (skipF (m ((c : Thread nD τ).loc main_arg5))) (gateK (m ((c : Thread nD τ).loc main_arg0)))
      (normF (m ((c : Thread nD τ).loc main_arg6))) (stateN (m ((c : Thread nD τ).loc main_arg3))) r.val j.val) := by
  have hn : r.val / 64 < cfg0.N := by rw [show cfg0.N = 16 from N_0]; omega
  have e := congrFun (Cert.Kernel7Ideal.Value.blocks9 m c ⟨r.val / 64, hn⟩ (flush0_9 _)) (ix2 (⟨r.val % 64, by omega⟩ : Fin 64) j)
  rw [Cert.Kernel7Ideal.Value.flushed9_A, View.read_apply] at e
  have hi : ((cfg0.win 9).blk ⟨r.val / 64, hn⟩).view.emb (ix2 (⟨r.val % 64, by omega⟩ : Fin 64) j) = ix2 r j := by
    funext a
    apply Fin.ext
    match a with
    | ⟨0, _⟩ => show win0_9.index ⟨r.val / 64, hn⟩ 0 * 64 + 1 * (r.val % 64) = r.val; rw [(index_9 _).1]; show r.val / 64 * 64 + 1 * (r.val % 64) = r.val; omega
    | ⟨1, _⟩ => show win0_9.index ⟨r.val / 64, hn⟩ 1 * 2048 + 1 * j.val = j.val; rw [(index_9 _).2]; omega
  rw [hi] at e
  refine e.trans ?_
  have o := outY_at hD hA (r.val / 64) (stateN (m ((c : Thread nD τ).loc main_arg3))) c (grid0.coords ⟨r.val / 64, hn⟩)
    (ms0_0 ⟨r.val / 64, hn⟩) (hs0_0 _) (ms0_1 ⟨r.val / 64, hn⟩) (hs0_1 _) (ms0_2 ⟨r.val / 64, hn⟩) (hs0_2 _) (ms0_3 ⟨r.val / 64, hn⟩) (hs0_3 _)
    (ms0_4 ⟨r.val / 64, hn⟩) (hs0_4 _) (ms0_5 ⟨r.val / 64, hn⟩) (hs0_5 _) (ms0_6 ⟨r.val / 64, hn⟩) (hs0_6 _) (ms0_7 ⟨r.val / 64, hn⟩) (hs0_7 _)
    (ms0_8 ⟨r.val / 64, hn⟩) (hs0_8 _) (ms0_9 ⟨r.val / 64, hn⟩) (hs0_9 _) (ms0_10 ⟨r.val / 64, hn⟩) (hs0_10 _) scM0_0 (Memref.isWhole_whole _)
    (iblk m c 0 ⟨r.val / 64, hn⟩) (iblk m c 1 ⟨r.val / 64, hn⟩) (iblk m c 2 ⟨r.val / 64, hn⟩) (iblk m c 3 ⟨r.val / 64, hn⟩) (iblk m c 4 ⟨r.val / 64, hn⟩)
    (iblk m c 5 ⟨r.val / 64, hn⟩) (iblk m c 6 ⟨r.val / 64, hn⟩) (iblk m c 7 ⟨r.val / 64, hn⟩) (iblk m c 8 ⟨r.val / 64, hn⟩)
    (blk_0 m c _) (blk_1 m c _) (blk_2 m c _) (blk_3 m c _) (blk_4 m c _) (blk_5 m c _) (blk_6 m c _) (blk_7 m c _) (blk_8 m c _) ⟨r.val % 64, by omega⟩ j
  refine o.trans ?_
  show oS _ _ _ _ _ _ _ (64 * (r.val / 64) + r.val % 64) j.val = _
  rw [Nat.div_add_mod]

end Kernel

end Cert.ScanSample
-- ==== Proof.ScanRef.lean ====
module

public import proofs.«01_k».proof.Proof.StateRef
public import proofs.«01_k».proof.Proof.ScanSpec

@[expose] public section

set_option maxRecDepth 16384

noncomputable section

/-! The reference's scan outputs of the sample, at an index. -/

namespace Cert.StateRef

open Idealize.ShloMosaic Idealize.ShloMosaic.TcCoe Idealize.ShloMosaic.Tactic
open Cert.Reference7Ideal Cert.Reference7Ideal.Gen
open Cert.Args (rateF skipF normF grid grid_at)
open Cert.ScanSample (sumS lastS decS mapS yS gS oS)

section

variable (x0 : FVec Ideal S1024x2048 .bf16) (x1 : FVec Ideal S1024x3072 .f32) (x2 : FVec Ideal S1024x128 .f32) (x3 : FVec Ideal S1x128x32x64x128 .f32)
  (x4 x5 : FVec Ideal S1x32 .f32) (x6 : FVec Ideal S1x2048 .f32)

/-- The gate as a function of numbers. -/
def gateN : ℕ → ℕ → EReal := grid fun (t : Fin 1024) (j : Fin 2048) => x0 (ix2 t j)

/-- The output maps by group. -/
def ch : FVec Ideal S128x1x8x4x128 .f32 :=
  shapeCast S128x1x8x4x128 (shapeCast S128x8x4x128 (extractStridedSlice S128x8x512 ![0, 0, 2560] (seqs x1) Facts₀.slices_S128x8x3072_S128x8x512_0_0_2560)
    Facts₀.shapeCasts_S128x8x512_S128x8x4x128) Facts₀.shapeCasts_S128x8x4x128_S128x1x8x4x128
/-- The lower triangle. -/
def tri : IVec S8x8 1 :=
  select (cmpi .sge (addi (iotaInDim S8x8 32 0) (broadcastInDim S8x8 ![] Facts₀.bcast_S_S8x8 (constantI S_ 32 0#32))) (iotaInDim S8x8 32 1))
    (broadcastInDim S8x8 ![] Facts₀.bcast_S_S8x8 (constantI S_ 1 1#1)) (broadcastInDim S8x8 ![] Facts₀.bcast_S_S8x8 (constantI S_ 1 0#1))
/-- The decays between the tokens. -/
def decay : FVec Ideal S128x1x8x8x4x8 .f32 :=
  Host.exp (select (broadcastInDim S128x1x8x8x4x8 ![0, 1, 2, 3, 4, 5] Facts₀.bcast_S1x1x8x8x1x1_S128x1x8x8x4x8_0_1_2_3_4_5
      (broadcastInDim S1x1x8x8x1x1 ![2, 3] Facts₀.bcast_S8x8_S1x1x8x8x1x1_2_3 tri))
    (subf (broadcastInDim S128x1x8x8x4x8 ![0, 1, 2, 3, 4, 5] Facts₀.bcast_S128x1x8x1x4x8_S128x1x8x8x4x8_0_1_2_3_4_5
        (broadcastInDim S128x1x8x1x4x8 ![0, 1, 2, 4, 5] Facts₀.bcast_S128x1x8x4x8_S128x1x8x1x4x8_0_1_2_4_5 (cum x2 x4)))
      (broadcastInDim S128x1x8x8x4x8 ![0, 1, 2, 3, 4, 5] Facts₀.bcast_S128x1x1x8x4x8_S128x1x8x8x4x8_0_1_2_3_4_5
        (broadcastInDim S128x1x1x8x4x8 ![0, 1, 3, 4, 5] Facts₀.bcast_S128x1x8x4x8_S128x1x1x8x4x8_0_1_3_4_5 (cum x2 x4))))
    (broadcastInDim S128x1x8x8x4x8 ![] Facts₀.bcast_S_S128x1x8x8x4x8 (id (constant S_ .f32 0xFF800000#32))))
/-- The output maps' products with the input maps. -/
def cbm : FVec Ideal S128x1x8x8x4 .f32 :=
  transpose S128x1x8x8x4 [0, 1, 4, 3, 2] (Host.dotGeneral dot_S128x1x8x4x128_S128x1x8x4x128_S128x1x4x8x8_4_4_2_2_013_013 none (bh x1) (ch x1))
    Facts₀.transposes_S128x1x4x8x8_S128x1x8x8x4_0_1_4_3_2
/-- What the tokens give to the outputs. -/
def intra : FVec Ideal S128x1x8x4x8x64 .f32 :=
  transpose S128x1x8x4x8x64 [0, 1, 5, 2, 3, 4] (Host.dotGeneral dot_S128x1x8x4x8x64_S128x1x8x8x4x8_S128x1x4x8x64x8_2_3_5_2_0134_0145 none (xdt x1 x2)
    (mulf (broadcastInDim S128x1x8x8x4x8 ![0, 1, 2, 3, 4, 5] Facts₀.bcast_S128x1x8x8x4x1_S128x1x8x8x4x8_0_1_2_3_4_5
      (broadcastInDim S128x1x8x8x4x1 ![0, 1, 2, 3, 4] Facts₀.bcast_S128x1x8x8x4_S128x1x8x8x4x1_0_1_2_3_4 (cbm x1))) (decay x2 x4)))
    Facts₀.transposes_S128x1x4x8x64x8_S128x1x8x4x8x64_0_1_5_2_3_4
/-- The states by group. -/
def h0 : FVec Ideal S128x4x8x64x128 .f32 :=
  shapeCast S128x4x8x64x128 (shapeCast S128x32x64x128 x3 Facts₀.shapeCasts_S1x128x32x64x128_S128x32x64x128) Facts₀.shapeCasts_S128x32x64x128_S128x4x8x64x128
/-- What the states give to the outputs. -/
def inter : FVec Ideal S128x1x8x4x8x64 .f32 :=
  mulf (transpose S128x1x8x4x8x64 [0, 1, 5, 2, 3, 4] (Host.dotGeneral dot_S128x1x4x8x64x128_S128x1x8x4x128_S128x1x4x8x64x8_5_4_34_2_012_013 none
      (broadcastInDim S128x1x4x8x64x128 ![0, 2, 3, 4, 5] Facts₀.bcast_S128x4x8x64x128_S128x1x4x8x64x128_0_2_3_4_5 (h0 x3)) (ch x1))
      Facts₀.transposes_S128x1x4x8x64x8_S128x1x8x4x8x64_0_1_5_2_3_4)
    (broadcastInDim S128x1x8x4x8x64 ![0, 1, 2, 3, 4, 5] Facts₀.bcast_S128x1x8x4x8x1_S128x1x8x4x8x64_0_1_2_3_4_5
      (broadcastInDim S128x1x8x4x8x1 ![0, 1, 2, 3, 4] Facts₀.bcast_S128x1x8x4x8_S128x1x8x4x8x1_0_1_2_3_4 (Host.exp (cum x2 x4))))
/-- The scan's outputs with the skip, gated. -/
def gated (v66 : FVec Ideal S128x1x8x4x8x64 .f32) (v68 : FVec Ideal S128x8x32x64 .f32) : FVec Ideal S128x8x2048 .f32 :=
  mulf (shapeCast S128x8x2048 (addf (shapeCast S128x8x32x64 v66 Facts₀.shapeCasts_S128x1x8x4x8x64_S128x8x32x64)
      (mulf v68 (broadcastInDim S128x8x32x64 ![0, 1, 2, 3] Facts₀.bcast_S1x1x32x1_S128x8x32x64_0_1_2_3
        (broadcastInDim S1x1x32x1 ![2, 3] Facts₀.bcast_S32x1_S1x1x32x1_2_3 (broadcastInDim S32x1 ![0] Facts₀.bcast_S32_S32x1_0
          (shapeCast S32 x5 Facts₀.shapeCasts_S1x32_S32))))))
      Facts₀.shapeCasts_S128x8x32x64_S128x8x2048)
    (shapeCast S128x8x2048 (extf .f32 x0 Facts₀.bitsLt_bf16_f32) Facts₀.shapeCasts_S1024x2048_S128x8x2048)
/-- The gated outputs by group. -/
def grouped (v78 : FVec Ideal S128x8x2048 .f32) : FVec Ideal S128x8x4x512 .f32 := shapeCast S128x8x4x512 v78 Facts₀.shapeCasts_S128x8x2048_S128x8x4x512
/-- The gated outputs, normed by group and weighed. -/
def normed (v78 : FVec Ideal S128x8x2048 .f32) : FVec Ideal S1024x2048 .bf16 :=
  truncf .bf16 (shapeCast S1024x2048 (mulf (shapeCast S128x8x2048 (mulf (grouped v78)
      (broadcastInDim S128x8x4x512 ![0, 1, 2, 3] Facts₀.bcast_S128x8x4x1_S128x8x4x512_0_1_2_3 (Host.rsqrt (addf (Host.divf
        (broadcastInDim S128x8x4x1 ![0, 1, 2] Facts₀.bcast_S128x8x4_S128x8x4x1_0_1_2
          (Host.reduceAdd (mulf (grouped v78) (grouped v78)) (constant S_ .f32 0x00000000#32) Facts₀.reducesTo_S128x8x4x512_S128x8x4_d3 Facts₀.h_S_))
        (broadcastInDim S128x8x4x1 ![] Facts₀.bcast_S_S128x8x4x1 (constant S_ .f32 0x44000000#32)))
        (broadcastInDim S128x8x4x1 ![] Facts₀.bcast_S_S128x8x4x1 (constant S_ .f32 0x358637BD#32))))))
      Facts₀.shapeCasts_S128x8x4x512_S128x8x2048)
    (broadcastInDim S128x8x2048 ![0, 1, 2] Facts₀.bcast_S1x1x2048_S128x8x2048_0_1_2
      (broadcastInDim S1x1x2048 ![2] Facts₀.bcast_S2048_S1x1x2048_2 (shapeCast S2048 x6 Facts₀.shapeCasts_S1x2048_S2048))))
    Facts₀.shapeCasts_S128x8x2048_S1024x2048) Facts₀.bitsLt_bf16_f32
/-- The gated outputs of the scan. -/
def scanned : FVec Ideal S128x8x2048 .f32 := gated x0 x5 (addf (intra x1 x2 x4) (inter x1 x2 x3 x4)) (xh x1)
/-- The scan's result. -/
def outY : FVec Ideal S1024x2048 .bf16 := normed x6 (scanned x0 x1 x2 x3 x4 x5)

theorem gate_eq (r : Fin 1024) (j : Fin 2048) (t i : ℕ) (ht : r.val = t) (hi : j.val = i) : x0 (ix2 r j) = gateN x0 t i := by
  subst ht hi
  rw [gateN, grid_at _ _ _ r.isLt j.isLt]

theorem ch_at (b : Fin 128) (l : Fin 8) (g : Fin 4) (n : Fin 128) :
    ch x1 (ix5 b 0 l g n) = convN x1 (8 * b.val + l.val) (2560 + 128 * g.val + n.val) := by
  unfold ch seqs
  pointwise
  exact conv_eq x1 _ _ _ _ (by dsimp only; omega) (by dsimp only; omega)

theorem tri_at (l s : Fin 8) : tri (ix2 l s) = if s.val ≤ l.val then 1#1 else 0#1 := by
  revert l s
  decide +kernel

theorem decay_at (b : Fin 128) (l s : Fin 8) (g : Fin 4) (e : Fin 8) :
    decay x2 x4 (ix6 b 0 l s g e) = decS (stepN x2) (rateF x4) b.val (8 * g.val + e.val) l.val s.val := by
  unfold decay decS
  pointwise
  rw [tri_at, cum_at, cum_at, show @Eq EReal (id (constant (F := Ideal) S_ FTy.f32 4286578688#32) ix0) ⊥ from by
    show Ideal.ofBits .f32 0xFF800000#32 = ⊥
    simp [Ideal.ofBits, Ideal.ieee]]
  by_cases h : s.val ≤ l.val
  · rw [if_pos h, if_pos h]
    rfl
  · rw [if_neg h, if_neg h]
    exact Ideal.exp_bot

theorem cbm_at (b : Fin 128) (l s : Fin 8) (g : Fin 4) : cbm x1 (ix5 b 0 l s g) = mapS (convN x1) b.val g.val l.val s.val := by
  unfold cbm mapS
  pointwise
  refine Finset.sum_congr rfl fun n _ => ?_
  rw [bh_at, ch_at, mul_comm]

theorem intra_at (b : Fin 128) (l : Fin 8) (g : Fin 4) (e : Fin 8) (p : Fin 64) :
    intra x1 x2 x4 (ix6 b 0 l g e p) = ∑ s : Fin 8, mapS (convN x1) b.val g.val l.val s.val
      * (decS (stepN x2) (rateF x4) b.val (8 * g.val + e.val) l.val s.val * stepN x2 (8 * b.val + s.val) (8 * g.val + e.val))
      * convN x1 (8 * b.val + s.val) (512 * g.val + 64 * e.val + p.val) := by
  unfold intra
  pointwise
  refine Finset.sum_congr rfl fun s _ => ?_
  rw [xdt_at, cbm_at, decay_at]
  ac_rfl

theorem h0_at (b : Fin 128) (g : Fin 4) (e : Fin 8) (p : Fin 64) (n : Fin 128) :
    h0 x3 (ix5 b g e p n) = stateN x3 b.val (512 * g.val + 64 * e.val + p.val) n.val := by
  have hg := g.isLt; have he := e.isLt; have hp := p.isLt
  rw [stateN, grid_at _ _ _ (by omega) n.isLt, dif_pos b.isLt]
  have E : h0 x3 (ix5 b g e p n) = x3 (ix5 0 b ⟨g.val * 8 + e.val, by omega⟩ p n) := by
    unfold h0
    pointwise
  rw [E]
  refine congrArg x3 ?_
  funext a
  fin_cases a
  · rfl
  · rfl
  · exact Fin.ext (show g.val * 8 + e.val = (512 * g.val + 64 * e.val + p.val) / 64 by omega)
  · exact Fin.ext (show p.val = (512 * g.val + 64 * e.val + p.val) % 64 by omega)
  · rfl

theorem inter_at (b : Fin 128) (l : Fin 8) (g : Fin 4) (e : Fin 8) (p : Fin 64) :
    inter x1 x2 x3 x4 (ix6 b 0 l g e p) = (∑ n : Fin 128, convN x1 (8 * b.val + l.val) (2560 + 128 * g.val + n.val)
        * stateN x3 b.val (512 * g.val + 64 * e.val + p.val) n.val) * Ideal.exp (sumS (stepN x2) (rateF x4) b.val (8 * g.val + e.val) l.val) := by
  unfold inter
  pointwise
  rw [cum_at]
  refine congrArg (· * _) (Finset.sum_congr rfl fun n _ => ?_)
  rw [h0_at, ch_at, mul_comm]

theorem gated_at (v66 : FVec Ideal S128x1x8x4x8x64 .f32) (v68 : FVec Ideal S128x8x32x64 .f32) (b : Fin 128) (t : Fin 8) (j : Fin 2048) :
    gated x0 x5 v66 v68 (ix3 b t j)
      = (v66 (ix6 b 0 t ⟨j.val / 64 / 8, by omega⟩ ⟨j.val / 64 % 8, by omega⟩ ⟨j.val % 64, by omega⟩)
          + v68 (ix4 b t ⟨j.val / 64, by omega⟩ ⟨j.val % 64, by omega⟩) * x5 (ix2 0 ⟨j.val / 64, by omega⟩)) * x0 (ix2 ⟨b.val * 8 + t.val, by omega⟩ j) := by
  unfold gated
  pointwise

theorem normed_at (v78 : FVec Ideal S128x8x2048 .f32) (r : Fin 1024) (j : Fin 2048) :
    normed x6 v78 (ix2 r j) = v78 (ix3 ⟨r.val / 8, by omega⟩ ⟨r.val % 8, by omega⟩ j)
      * Ideal.rsqrt (Ideal.div (∑ x : Fin 512, v78 (ix3 ⟨r.val / 8, by omega⟩ ⟨r.val % 8, by omega⟩ ⟨j.val / 512 * 512 + x.val, by omega⟩)
          * v78 (ix3 ⟨r.val / 8, by omega⟩ ⟨r.val % 8, by omega⟩ ⟨j.val / 512 * 512 + x.val, by omega⟩)) (Ideal.ofBits .f32 1140850688#32)
          + Ideal.ofBits .f32 897988541#32) * x6 (ix2 0 j) := by
  unfold normed grouped
  pointwise

theorem scanned_at (b : Fin 128) (t : Fin 8) (j : Fin 2048) (T J : ℕ) (hT : 8 * b.val + t.val = T) (hJ : j.val = J) :
    scanned x0 x1 x2 x3 x4 x5 (ix3 b t j) = gS (convN x1) (stepN x2) (rateF x4) (skipF x5) (gateN x0) (stateN x3) T J := by
  subst hT hJ
  have e1 : 8 * (j.val / 64 / 8) + j.val / 64 % 8 = j.val / 64 := by omega
  have e2 : 512 * (j.val / 64 / 8) + 64 * (j.val / 64 % 8) + j.val % 64 = j.val := by omega
  have e3 : j.val / 64 / 8 = j.val / 512 := by omega
  have e4 : 64 * (j.val / 64) + j.val % 64 = j.val := by omega
  have e5 : (8 * b.val + t.val) / 8 = b.val := by omega
  have e6 : (8 * b.val + t.val) % 8 = t.val := by omega
  unfold scanned gS yS
  rw [gated_at, gate_eq x0 _ _ (8 * b.val + t.val) j.val (by dsimp only; omega) rfl]
  show (intra x1 x2 x4 _ + inter x1 x2 x3 x4 _ + _ * _) * _ = _
  rw [intra_at, inter_at, xh_at, e5, e6]
  dsimp only
  rw [e1, e2, e3, e4]
  have k : x5 (ix2 0 ⟨j.val / 64, by omega⟩) = skipF x5 j.val := by
    rw [skipF, grid_at _ _ _ (by decide) (by omega)]
    rfl
  rw [k]

theorem outY_at (r : Fin 1024) (j : Fin 2048) :
    outY x0 x1 x2 x3 x4 x5 x6 (ix2 r j) = oS (convN x1) (stepN x2) (rateF x4) (skipF x5) (gateN x0) (normF x6) (stateN x3) r.val j.val := by
  have hs := fun i J h => scanned_at x0 x1 x2 x3 x4 x5 ⟨r.val / 8, by omega⟩ ⟨r.val % 8, by omega⟩ i r.val J (Nat.div_add_mod r.val 8) h
  unfold outY oS
  rw [normed_at, hs j j.val rfl]
  rw [show normF x6 j.val = x6 (ix2 0 j) by rw [normF, grid_at _ _ _ (by decide) j.isLt]; rfl]
  refine congrArg (fun v => _ * Ideal.rsqrt (Ideal.div v _ + _) * _) (Finset.sum_congr rfl fun x _ => ?_)
  rw [hs _ (512 * (j.val / 512) + x.val) (by dsimp only; omega)]

end
end Cert.StateRef
-- ==== Proof.StateFinish.lean ====
module

public import proofs.«01_k».proof.Defs
public import proofs.«01_k».proof.Proof.ScanKernel
public import proofs.«01_k».proof.Proof.ScanRef
public import proofs.«01_k».proof.Proof.Finish
public import proofs.«01_k».proof.Proof.Gen.Pre_steps_finite

/-! The sample's scan: the precondition read, and the two programs' results met. -/

@[expose] public section

set_option maxRecDepth 16384

noncomputable section

namespace Cert.ScanSample

open Idealize.ShloMosaic Idealize.ShloMosaic.TcCoe Idealize.ShloMosaic.StableHlo Idealize.SL.Sem Idealize.ShloMosaic.Tactic
open Cert.Args (rateF grid grid_at)
open Cert.StateRef (convN stepN stateN)

section Pre

open Cert.Pre_steps_finite Cert.Pre_steps_finite.Facts

attribute [local instance] Cert.Pre_steps_finite.Gen.facts

/-- The tests on the step sizes and on the decays, as the precondition writes them. -/
def stepsOk (a : FVec Ideal S1024x128 .f32) : IVec S1024x32 1 :=
  cmpf .olt (Host.absf (extractStridedSlice S1024x32 ![0, 0] a slices_S1024x128_S1024x32_0_0)) (broadcastInDim S1024x32 ![] bcast_S_S1024x32 (constant S_ .f32 0x7F800000#32))
def ratesOk (a : FVec Ideal S1x32 .f32) : IVec S1x32 1 :=
  cmpf .olt (Host.absf a) (broadcastInDim S1x32 ![] bcast_S_S1x32 (constant S_ .f32 0x7F800000#32))

theorem stepsOk_at (a : FVec Ideal S1024x128 .f32) (t : Fin 1024) (h : Fin 32) :
    stepsOk a (ix2 t h) = Ideal.cmp .olt (max (a (ix2 t ⟨h.val, by omega⟩)) (-(a (ix2 t ⟨h.val, by omega⟩)))) ⊤ := by
  rw [← Cert.Finish.inf_word]
  unfold stepsOk
  pointwise
  rfl

theorem ratesOk_at (a : FVec Ideal S1x32 .f32) (t : Fin 1) (h : Fin 32) :
    ratesOk a (ix2 t h) = Ideal.cmp .olt (max (a (ix2 t h)) (-(a (ix2 t h)))) ⊤ := by
  rw [← Cert.Finish.inf_word]
  unfold ratesOk
  pointwise
  rfl

theorem bothTests (a0 a1 : IVec S_ 1) (e : concatenate S2 0 [⟨S1, broadcastInDim S1 ![] bcast_S_S1 a0⟩, ⟨S1, broadcastInDim S1 ![] bcast_S_S1 a1⟩] concatenates_S1_S1_S2_d0
    = (fun _ => 1#1)) : a0 ix0 = 1#1 ∧ a1 ix0 = 1#1 := Cert.Finish.both a0 a1 e

/-- Under the precondition the step sizes and the rates are reals. -/
theorem reals (a0 : FVec Ideal S1024x2048 .bf16) (a1 : FVec Ideal S1024x3072 .f32) (a2 : FVec Ideal S1024x128 .f32) (a3 : FVec Ideal S1x128x32x64x128 .f32)
    (a4 a5 : FVec Ideal S1x32 .f32) (a6 : FVec Ideal S1x2048 .f32) (e : Cert.Pre_steps_finite.fn (F := Ideal) a0 a1 a2 a3 a4 a5 a6 = fun _ => 1#1) :
    Re2 (stepN a2) ∧ Cert.Scan.Re (rateF a4) := by
  obtain ⟨h0, h1⟩ := bothTests _ _ e
  have e0 : ∀ i, stepsOk a2 i = 1#1 := fun i => Host.reduce_andi_all _ _ _ _ _ h0 i
  have e1 : ∀ i, ratesOk a4 i = 1#1 := fun i => Host.reduce_andi_all _ _ _ _ _ h1 i
  refine ⟨fun t h hh => ?_, fun h hh => ?_⟩
  · by_cases ht : t < 1024
    · rw [stepN, grid_at _ _ _ ht (by omega)]
      exact Cert.Finish.real_of_abs _ ((stepsOk_at a2 ⟨t, ht⟩ ⟨h, hh⟩).symm.trans (e0 _))
    · exact ⟨0, dif_neg fun hx => ht hx.1⟩
  · obtain ⟨r, hr⟩ := Cert.Finish.real_of_abs _ ((ratesOk_at a4 0 ⟨h, hh⟩).symm.trans (e1 _))
    refine ⟨0 - Real.exp r, ?_⟩
    rw [rateF, grid_at _ _ _ (by decide) hh]
    refine (congrArg (fun v => 0 - Ideal.exp v) hr).trans ?_
    rw [Ideal.exp_coe, EReal.coe_sub, EReal.coe_zero]

end Pre

section Ref

open Cert.Reference7Ideal Cert.Reference7Ideal.Gen

variable (m : (ℓ : Loc nD τ sig) → Buf (Elt Ideal) ℓ)

/-- The reference runs, leaves its arguments and ends with its counters at zero. -/
theorem frame (ρ : Dev nD → PrngReg) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run _ _ _).mono (fun r h => ⟨fun c => (h c).2.2, sem_eq_zero_of_no_sems (by decide) r.2⟩) (Cert.Reference7Ideal.Value.run m ρ)

end Ref

/-- The kernel and the reference end with the same outputs and the same last states. -/
theorem algebraic : Cert.algebraic_Kernel7Ideal_Reference7Ideal_pre_steps_finite (hKernel7Ideal := Cert.Kernel7Ideal.Gen.facts)
    (hReference7Ideal := Cert.Reference7Ideal.Gen.facts) (hPre_steps_finite := Cert.Pre_steps_finite.Gen.facts) := by
  intro m g m' g' hp hs
  refine ⟨fun c => (Cert.Kernel7Ideal.Gen.dats m 0 c).arrAt 9 Cert.Kernel7Ideal.cfg0.N, fun c => (Cert.Kernel7Ideal.Gen.dats m 0 c).arrAt 10 Cert.Kernel7Ideal.cfg0.N,
    Cert.Kernel7Ideal.Value.run_blocks m g, ?_⟩
  refine (θ_run _ _ _).mono (fun r h c => ⟨(h c).1.trans ?_, (h c).2.1.trans ?_, (h c).2.2⟩) (Cert.Reference7Ideal.Value.run m' g')
  · obtain ⟨h0, h1, h2, h3, h4, h5, h6⟩ := hs c
    show Cert.StateRef.outY (m' ((c.tc : Thread Cert.Reference7Ideal.nD Cert.Reference7Ideal.τ).loc Cert.Reference7Ideal.main_arg0))
      (m' ((c.tc : Thread Cert.Reference7Ideal.nD Cert.Reference7Ideal.τ).loc Cert.Reference7Ideal.main_arg1))
      (m' ((c.tc : Thread Cert.Reference7Ideal.nD Cert.Reference7Ideal.τ).loc Cert.Reference7Ideal.main_arg2))
      (m' ((c.tc : Thread Cert.Reference7Ideal.nD Cert.Reference7Ideal.τ).loc Cert.Reference7Ideal.main_arg3))
      (m' ((c.tc : Thread Cert.Reference7Ideal.nD Cert.Reference7Ideal.τ).loc Cert.Reference7Ideal.main_arg4))
      (m' ((c.tc : Thread Cert.Reference7Ideal.nD Cert.Reference7Ideal.τ).loc Cert.Reference7Ideal.main_arg5))
      (m' ((c.tc : Thread Cert.Reference7Ideal.nD Cert.Reference7Ideal.τ).loc Cert.Reference7Ideal.main_arg6)) = _
    rw [h0, h1, h2, h3, h4, h5, h6]
    funext i
    rw [show i = ix2 (i 0) (i 1) from eq_ix2 i]
    obtain ⟨e0, e1⟩ := reals _ _ _ _ _ _ _ (hp c)
    exact (Cert.StateRef.outY_at _ _ _ _ _ _ _ (i 0) (i 1)).trans (kernelY m c e0 e1 (i 0) (i 1)).symm
  · obtain ⟨h0, h1, h2, h3, h4, h5, h6⟩ := hs c
    show Cert.StateRef.out (m' ((c.tc : Thread Cert.Reference7Ideal.nD Cert.Reference7Ideal.τ).loc Cert.Reference7Ideal.main_arg1))
      (m' ((c.tc : Thread Cert.Reference7Ideal.nD Cert.Reference7Ideal.τ).loc Cert.Reference7Ideal.main_arg2))
      (m' ((c.tc : Thread Cert.Reference7Ideal.nD Cert.Reference7Ideal.τ).loc Cert.Reference7Ideal.main_arg3))
      (m' ((c.tc : Thread Cert.Reference7Ideal.nD Cert.Reference7Ideal.τ).loc Cert.Reference7Ideal.main_arg4)) = _
    rw [h1, h2, h3, h4]
    funext i
    rw [show i = ix3 (i 0) (i 1) (i 2) from eq_ix3 i]
    obtain ⟨e0, e1⟩ := reals _ _ _ _ _ _ _ (hp c)
    exact (Cert.StateRef.out_at _ _ _ _ (i 0) (i 1) (i 2)).trans (kernelH m c e0 e1 (i 0) (i 1) (i 2)).symm

end Cert.ScanSample

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Pre_steps_proper
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Pre_rows_finite
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Pre_conv_finite
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Pre_sample_finite
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Pre_steps_finite
public import proofs.«01_k».proof.Proof.RefRun
public import proofs.«01_k».proof.Proof.Finish
public import proofs.«01_k».proof.Proof.Merge
public import proofs.«01_k».proof.Proof.ShortFinish
public import proofs.«01_k».proof.Proof.ConvFinish
public import proofs.«01_k».proof.Proof.MergeSample
public import proofs.«01_k».proof.Proof.SampleFinish
public import proofs.«01_k».proof.Proof.StateFinish
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Pre_steps_proper.Gen.facts, Cert.Pre_rows_finite.Gen.facts, Cert.Pre_conv_finite.Gen.facts, Cert.Pre_sample_finite.Gen.facts, Cert.Pre_steps_finite.Gen.facts,
  fun m ρ _ => Cert.Kernel.Gen.frame m ρ,
  fun m ρ _ => Cert.KernelIdeal.Gen.frame m ρ,
  fun m ρ _ => Cert.KernelIdeal.Gen.frame m ρ,
  fun m ρ _ => Cert.RefRun.frame m ρ,
  fun m ρ _ => Cert.RefRun.frame m ρ,
  fun m ρ _ => Cert.Kernel2.Gen.frame m ρ,
  fun m ρ _ => Cert.Kernel2Ideal.Gen.frame m ρ,
  fun m ρ _ => Cert.Kernel2Ideal.Gen.frame m ρ,
  fun m ρ _ => Cert.Short.frame m ρ,
  fun m ρ _ => Cert.Short.frame m ρ,
  fun m ρ _ => Cert.Kernel3.Gen.frame m ρ,
  fun m ρ _ => Cert.Kernel3Ideal.Gen.frame m ρ,
  fun m ρ _ => Cert.Merge.frame m ρ,
  fun m ρ _ => Cert.Kernel4.Gen.frame m ρ,
  fun m ρ _ => Cert.Kernel4Ideal.Gen.frame m ρ,
  fun m ρ _ => Cert.Kernel4Ideal.Gen.frame m ρ,
  fun m ρ _ => Cert.Conv.frame m ρ,
  fun m ρ _ => Cert.Conv.frame m ρ,
  fun m ρ _ => Cert.Kernel5.Gen.frame m ρ,
  fun m ρ _ => Cert.Kernel5Ideal.Gen.frame m ρ,
  fun m ρ _ => Cert.MergeSample.frame m ρ,
  fun m ρ _ => Cert.Kernel6.Gen.frame m ρ,
  fun m ρ _ => Cert.Kernel6Ideal.Gen.frame m ρ,
  fun m ρ _ => Cert.Kernel6Ideal.Gen.frame m ρ,
  fun m ρ _ => Cert.SampleShort.frame m ρ,
  fun m ρ _ => Cert.SampleShort.frame m ρ,
  fun m ρ _ => Cert.Kernel7.Gen.frame m ρ,
  fun m ρ _ => Cert.Kernel7Ideal.Gen.frame m ρ,
  fun m ρ _ => Cert.Kernel7Ideal.Gen.frame m ρ,
  fun m ρ _ => Cert.ScanSample.frame m ρ,
  fun m ρ _ => Cert.ScanSample.frame m ρ,
  IdealRules.named_const.statement Cert.KernelIdeal.κ "log2e" .f32 0x3FB8AA3B#32 _ rfl,
  Cert.Finish.algebraic, trivial, Cert.Short.algebraic, trivial, Cert.Merge.algebraic, trivial, Cert.Conv.algebraic, trivial, Cert.MergeSample.algebraic, trivial, Cert.SampleShort.algebraic, trivial, Cert.ScanSample.algebraic⟩

end Cert.Proof

end
